-- ==== Defs.lean ====
def Pre_Ln1 (m : (ℓ : Loc Cert.Ln1.nD Cert.Ln1.τ Cert.Ln1.sig) → Buf (Elt Bits) ℓ) : Prop :=
  True

def Pre_Ln1Ideal (m : (ℓ : Loc Cert.Ln1Ideal.nD Cert.Ln1Ideal.τ Cert.Ln1Ideal.sig) → Buf (Elt Ideal) ℓ) : Prop :=
  True

def Pre_Ln1Ideal_ln1_finite [hPre_ln1_finite : Cert.Pre_ln1_finite.Facts] (m : (ℓ : Loc Cert.Ln1Ideal.nD Cert.Ln1Ideal.τ Cert.Ln1Ideal.sig) → Buf (Elt Ideal) ℓ) : Prop :=
  ∀ c : Dev Cert.Ln1Ideal.nD,
    (Cert.Pre_ln1_finite.fn (F := Ideal) (m ((c.tc : Thread Cert.Ln1Ideal.nD Cert.Ln1Ideal.τ).loc Cert.Ln1Ideal.main_arg0)) (m ((c.tc : Thread Cert.Ln1Ideal.nD Cert.Ln1Ideal.τ).loc Cert.Ln1Ideal.main_arg1)) (m ((c.tc : Thread Cert.Ln1Ideal.nD Cert.Ln1Ideal.τ).loc Cert.Ln1Ideal.main_arg2)) (m ((c.tc : Thread Cert.Ln1Ideal.nD Cert.Ln1Ideal.τ).loc Cert.Ln1Ideal.main_arg3)) (m ((c.tc : Thread Cert.Ln1Ideal.nD Cert.Ln1Ideal.τ).loc Cert.Ln1Ideal.main_arg4)) (m ((c.tc : Thread Cert.Ln1Ideal.nD Cert.Ln1Ideal.τ).loc Cert.Ln1Ideal.main_arg5))).1 = (fun _ => 1#1)
    ∧ (Cert.Pre_ln1_finite.fn (F := Ideal) (m ((c.tc : Thread Cert.Ln1Ideal.nD Cert.Ln1Ideal.τ).loc Cert.Ln1Ideal.main_arg0)) (m ((c.tc : Thread Cert.Ln1Ideal.nD Cert.Ln1Ideal.τ).loc Cert.Ln1Ideal.main_arg1)) (m ((c.tc : Thread Cert.Ln1Ideal.nD Cert.Ln1Ideal.τ).loc Cert.Ln1Ideal.main_arg2)) (m ((c.tc : Thread Cert.Ln1Ideal.nD Cert.Ln1Ideal.τ).loc Cert.Ln1Ideal.main_arg3)) (m ((c.tc : Thread Cert.Ln1Ideal.nD Cert.Ln1Ideal.τ).loc Cert.Ln1Ideal.main_arg4)) (m ((c.tc : Thread Cert.Ln1Ideal.nD Cert.Ln1Ideal.τ).loc Cert.Ln1Ideal.main_arg5))).2.1 = (fun _ => 1#1)
    ∧ (Cert.Pre_ln1_finite.fn (F := Ideal) (m ((c.tc : Thread Cert.Ln1Ideal.nD Cert.Ln1Ideal.τ).loc Cert.Ln1Ideal.main_arg0)) (m ((c.tc : Thread Cert.Ln1Ideal.nD Cert.Ln1Ideal.τ).loc Cert.Ln1Ideal.main_arg1)) (m ((c.tc : Thread Cert.Ln1Ideal.nD Cert.Ln1Ideal.τ).loc Cert.Ln1Ideal.main_arg2)) (m ((c.tc : Thread Cert.Ln1Ideal.nD Cert.Ln1Ideal.τ).loc Cert.Ln1Ideal.main_arg3)) (m ((c.tc : Thread Cert.Ln1Ideal.nD Cert.Ln1Ideal.τ).loc Cert.Ln1Ideal.main_arg4)) (m ((c.tc : Thread Cert.Ln1Ideal.nD Cert.Ln1Ideal.τ).loc Cert.Ln1Ideal.main_arg5))).2.2.1 = (fun _ => 1#1)
    ∧ (Cert.Pre_ln1_finite.fn (F := Ideal) (m ((c.tc : Thread Cert.Ln1Ideal.nD Cert.Ln1Ideal.τ).loc Cert.Ln1Ideal.main_arg0)) (m ((c.tc : Thread Cert.Ln1Ideal.nD Cert.Ln1Ideal.τ).loc Cert.Ln1Ideal.main_arg1)) (m ((c.tc : Thread Cert.Ln1Ideal.nD Cert.Ln1Ideal.τ).loc Cert.Ln1Ideal.main_arg2)) (m ((c.tc : Thread Cert.Ln1Ideal.nD Cert.Ln1Ideal.τ).loc Cert.Ln1Ideal.main_arg3)) (m ((c.tc : Thread Cert.Ln1Ideal.nD Cert.Ln1Ideal.τ).loc Cert.Ln1Ideal.main_arg4)) (m ((c.tc : Thread Cert.Ln1Ideal.nD Cert.Ln1Ideal.τ).loc Cert.Ln1Ideal.main_arg5))).2.2.2.1 = (fun _ => 1#1)
    ∧ (Cert.Pre_ln1_finite.fn (F := Ideal) (m ((c.tc : Thread Cert.Ln1Ideal.nD Cert.Ln1Ideal.τ).loc Cert.Ln1Ideal.main_arg0)) (m ((c.tc : Thread Cert.Ln1Ideal.nD Cert.Ln1Ideal.τ).loc Cert.Ln1Ideal.main_arg1)) (m ((c.tc : Thread Cert.Ln1Ideal.nD Cert.Ln1Ideal.τ).loc Cert.Ln1Ideal.main_arg2)) (m ((c.tc : Thread Cert.Ln1Ideal.nD Cert.Ln1Ideal.τ).loc Cert.Ln1Ideal.main_arg3)) (m ((c.tc : Thread Cert.Ln1Ideal.nD Cert.Ln1Ideal.τ).loc Cert.Ln1Ideal.main_arg4)) (m ((c.tc : Thread Cert.Ln1Ideal.nD Cert.Ln1Ideal.τ).loc Cert.Ln1Ideal.main_arg5))).2.2.2.2.1 = (fun _ => 1#1)
    ∧ (Cert.Pre_ln1_finite.fn (F := Ideal) (m ((c.tc : Thread Cert.Ln1Ideal.nD Cert.Ln1Ideal.τ).loc Cert.Ln1Ideal.main_arg0)) (m ((c.tc : Thread Cert.Ln1Ideal.nD Cert.Ln1Ideal.τ).loc Cert.Ln1Ideal.main_arg1)) (m ((c.tc : Thread Cert.Ln1Ideal.nD Cert.Ln1Ideal.τ).loc Cert.Ln1Ideal.main_arg2)) (m ((c.tc : Thread Cert.Ln1Ideal.nD Cert.Ln1Ideal.τ).loc Cert.Ln1Ideal.main_arg3)) (m ((c.tc : Thread Cert.Ln1Ideal.nD Cert.Ln1Ideal.τ).loc Cert.Ln1Ideal.main_arg4)) (m ((c.tc : Thread Cert.Ln1Ideal.nD Cert.Ln1Ideal.τ).loc Cert.Ln1Ideal.main_arg5))).2.2.2.2.2 = (fun _ => 1#1)

def Pre_Ln1RefIdeal (m : (ℓ : Loc Cert.Ln1RefIdeal.nD Cert.Ln1RefIdeal.τ Cert.Ln1RefIdeal.sig) → Buf (Elt Ideal) ℓ) : Prop :=
  True

def Pre_Ln1RefIdeal_ln1_finite [hPre_ln1_finite : Cert.Pre_ln1_finite.Facts] (m : (ℓ : Loc Cert.Ln1RefIdeal.nD Cert.Ln1RefIdeal.τ Cert.Ln1RefIdeal.sig) → Buf (Elt Ideal) ℓ) : Prop :=
  ∀ c : Dev Cert.Ln1RefIdeal.nD,
    (Cert.Pre_ln1_finite.fn (F := Ideal) (m ((c.tc : Thread Cert.Ln1RefIdeal.nD Cert.Ln1RefIdeal.τ).loc Cert.Ln1RefIdeal.main_arg0)) (m ((c.tc : Thread Cert.Ln1RefIdeal.nD Cert.Ln1RefIdeal.τ).loc Cert.Ln1RefIdeal.main_arg1)) (m ((c.tc : Thread Cert.Ln1RefIdeal.nD Cert.Ln1RefIdeal.τ).loc Cert.Ln1RefIdeal.main_arg2)) (m ((c.tc : Thread Cert.Ln1RefIdeal.nD Cert.Ln1RefIdeal.τ).loc Cert.Ln1RefIdeal.main_arg3)) (m ((c.tc : Thread Cert.Ln1RefIdeal.nD Cert.Ln1RefIdeal.τ).loc Cert.Ln1RefIdeal.main_arg4)) (m ((c.tc : Thread Cert.Ln1RefIdeal.nD Cert.Ln1RefIdeal.τ).loc Cert.Ln1RefIdeal.main_arg5))).1 = (fun _ => 1#1)
    ∧ (Cert.Pre_ln1_finite.fn (F := Ideal) (m ((c.tc : Thread Cert.Ln1RefIdeal.nD Cert.Ln1RefIdeal.τ).loc Cert.Ln1RefIdeal.main_arg0)) (m ((c.tc : Thread Cert.Ln1RefIdeal.nD Cert.Ln1RefIdeal.τ).loc Cert.Ln1RefIdeal.main_arg1)) (m ((c.tc : Thread Cert.Ln1RefIdeal.nD Cert.Ln1RefIdeal.τ).loc Cert.Ln1RefIdeal.main_arg2)) (m ((c.tc : Thread Cert.Ln1RefIdeal.nD Cert.Ln1RefIdeal.τ).loc Cert.Ln1RefIdeal.main_arg3)) (m ((c.tc : Thread Cert.Ln1RefIdeal.nD Cert.Ln1RefIdeal.τ).loc Cert.Ln1RefIdeal.main_arg4)) (m ((c.tc : Thread Cert.Ln1RefIdeal.nD Cert.Ln1RefIdeal.τ).loc Cert.Ln1RefIdeal.main_arg5))).2.1 = (fun _ => 1#1)
    ∧ (Cert.Pre_ln1_finite.fn (F := Ideal) (m ((c.tc : Thread Cert.Ln1RefIdeal.nD Cert.Ln1RefIdeal.τ).loc Cert.Ln1RefIdeal.main_arg0)) (m ((c.tc : Thread Cert.Ln1RefIdeal.nD Cert.Ln1RefIdeal.τ).loc Cert.Ln1RefIdeal.main_arg1)) (m ((c.tc : Thread Cert.Ln1RefIdeal.nD Cert.Ln1RefIdeal.τ).loc Cert.Ln1RefIdeal.main_arg2)) (m ((c.tc : Thread Cert.Ln1RefIdeal.nD Cert.Ln1RefIdeal.τ).loc Cert.Ln1RefIdeal.main_arg3)) (m ((c.tc : Thread Cert.Ln1RefIdeal.nD Cert.Ln1RefIdeal.τ).loc Cert.Ln1RefIdeal.main_arg4)) (m ((c.tc : Thread Cert.Ln1RefIdeal.nD Cert.Ln1RefIdeal.τ).loc Cert.Ln1RefIdeal.main_arg5))).2.2.1 = (fun _ => 1#1)
    ∧ (Cert.Pre_ln1_finite.fn (F := Ideal) (m ((c.tc : Thread Cert.Ln1RefIdeal.nD Cert.Ln1RefIdeal.τ).loc Cert.Ln1RefIdeal.main_arg0)) (m ((c.tc : Thread Cert.Ln1RefIdeal.nD Cert.Ln1RefIdeal.τ).loc Cert.Ln1RefIdeal.main_arg1)) (m ((c.tc : Thread Cert.Ln1RefIdeal.nD Cert.Ln1RefIdeal.τ).loc Cert.Ln1RefIdeal.main_arg2)) (m ((c.tc : Thread Cert.Ln1RefIdeal.nD Cert.Ln1RefIdeal.τ).loc Cert.Ln1RefIdeal.main_arg3)) (m ((c.tc : Thread Cert.Ln1RefIdeal.nD Cert.Ln1RefIdeal.τ).loc Cert.Ln1RefIdeal.main_arg4)) (m ((c.tc : Thread Cert.Ln1RefIdeal.nD Cert.Ln1RefIdeal.τ).loc Cert.Ln1RefIdeal.main_arg5))).2.2.2.1 = (fun _ => 1#1)
    ∧ (Cert.Pre_ln1_finite.fn (F := Ideal) (m ((c.tc : Thread Cert.Ln1RefIdeal.nD Cert.Ln1RefIdeal.τ).loc Cert.Ln1RefIdeal.main_arg0)) (m ((c.tc : Thread Cert.Ln1RefIdeal.nD Cert.Ln1RefIdeal.τ).loc Cert.Ln1RefIdeal.main_arg1)) (m ((c.tc : Thread Cert.Ln1RefIdeal.nD Cert.Ln1RefIdeal.τ).loc Cert.Ln1RefIdeal.main_arg2)) (m ((c.tc : Thread Cert.Ln1RefIdeal.nD Cert.Ln1RefIdeal.τ).loc Cert.Ln1RefIdeal.main_arg3)) (m ((c.tc : Thread Cert.Ln1RefIdeal.nD Cert.Ln1RefIdeal.τ).loc Cert.Ln1RefIdeal.main_arg4)) (m ((c.tc : Thread Cert.Ln1RefIdeal.nD Cert.Ln1RefIdeal.τ).loc Cert.Ln1RefIdeal.main_arg5))).2.2.2.2.1 = (fun _ => 1#1)
    ∧ (Cert.Pre_ln1_finite.fn (F := Ideal) (m ((c.tc : Thread Cert.Ln1RefIdeal.nD Cert.Ln1RefIdeal.τ).loc Cert.Ln1RefIdeal.main_arg0)) (m ((c.tc : Thread Cert.Ln1RefIdeal.nD Cert.Ln1RefIdeal.τ).loc Cert.Ln1RefIdeal.main_arg1)) (m ((c.tc : Thread Cert.Ln1RefIdeal.nD Cert.Ln1RefIdeal.τ).loc Cert.Ln1RefIdeal.main_arg2)) (m ((c.tc : Thread Cert.Ln1RefIdeal.nD Cert.Ln1RefIdeal.τ).loc Cert.Ln1RefIdeal.main_arg3)) (m ((c.tc : Thread Cert.Ln1RefIdeal.nD Cert.Ln1RefIdeal.τ).loc Cert.Ln1RefIdeal.main_arg4)) (m ((c.tc : Thread Cert.Ln1RefIdeal.nD Cert.Ln1RefIdeal.τ).loc Cert.Ln1RefIdeal.main_arg5))).2.2.2.2.2 = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_finite [hPre_loss_finite : Cert.Pre_loss_finite.Facts] (m : (ℓ : Loc Cert.LossIdeal.nD Cert.LossIdeal.τ Cert.LossIdeal.sig) → Buf (Elt Ideal) ℓ) : Prop :=
  ∀ c : Dev Cert.LossIdeal.nD,
    (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5))).1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5))).2.1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5))).2.2.1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5))).2.2.2.1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5))).2.2.2.2.1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5))).2.2.2.2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))).1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))).2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))).2.2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))).2.2.2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))).2.2.2.2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))).2.2.2.2.2 = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvIdeal_conv_finite [hPre_conv_finite : Cert.Pre_conv_finite.Facts] (m : (ℓ : Loc Cert.ConvIdeal.nD Cert.ConvIdeal.τ Cert.ConvIdeal.sig) → Buf (Elt Ideal) ℓ) : Prop :=
  ∀ c : Dev Cert.ConvIdeal.nD,
    (Cert.Pre_conv_finite.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3))).1 = (fun _ => 1#1)
    ∧ (Cert.Pre_conv_finite.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3))).2.1 = (fun _ => 1#1)
    ∧ (Cert.Pre_conv_finite.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3))).2.2.1 = (fun _ => 1#1)
    ∧ (Cert.Pre_conv_finite.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3))).2.2.2 = (fun _ => 1#1)

def Pre_ConvRefIdeal (m : (ℓ : Loc Cert.ConvRefIdeal.nD Cert.ConvRefIdeal.τ Cert.ConvRefIdeal.sig) → Buf (Elt Ideal) ℓ) : Prop :=
  True

def Pre_ConvRefIdeal_conv_finite [hPre_conv_finite : Cert.Pre_conv_finite.Facts] (m : (ℓ : Loc Cert.ConvRefIdeal.nD Cert.ConvRefIdeal.τ Cert.ConvRefIdeal.sig) → Buf (Elt Ideal) ℓ) : Prop :=
  ∀ c : Dev Cert.ConvRefIdeal.nD,
    (Cert.Pre_conv_finite.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3))).1 = (fun _ => 1#1)
    ∧ (Cert.Pre_conv_finite.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3))).2.1 = (fun _ => 1#1)
    ∧ (Cert.Pre_conv_finite.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3))).2.2.1 = (fun _ => 1#1)
    ∧ (Cert.Pre_conv_finite.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3))).2.2.2 = (fun _ => 1#1)

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_prep_finite [hPre_prep_finite : Cert.Pre_prep_finite.Facts] (m : (ℓ : Loc Cert.PrepIdeal.nD Cert.PrepIdeal.τ Cert.PrepIdeal.sig) → Buf (Elt Ideal) ℓ) : Prop :=
  ∀ c : Dev Cert.PrepIdeal.nD,
    (Cert.Pre_prep_finite.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8))).1 = (fun _ => 1#1)
    ∧ (Cert.Pre_prep_finite.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8))).2.1 = (fun _ => 1#1)
    ∧ (Cert.Pre_prep_finite.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8))).2.2.1 = (fun _ => 1#1)
    ∧ (Cert.Pre_prep_finite.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8))).2.2.2.1 = (fun _ => 1#1)
    ∧ (Cert.Pre_prep_finite.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8))).2.2.2.2.1 = (fun _ => 1#1)
    ∧ (Cert.Pre_prep_finite.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8))).2.2.2.2.2.1 = (fun _ => 1#1)
    ∧ (Cert.Pre_prep_finite.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8))).2.2.2.2.2.2.1 = (fun _ => 1#1)
    ∧ (Cert.Pre_prep_finite.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8))).2.2.2.2.2.2.2.1 = (fun _ => 1#1)
    ∧ (Cert.Pre_prep_finite.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8))).2.2.2.2.2.2.2.2 = (fun _ => 1#1)

def Pre_PrepRefIdeal (m : (ℓ : Loc Cert.PrepRefIdeal.nD Cert.PrepRefIdeal.τ Cert.PrepRefIdeal.sig) → Buf (Elt Ideal) ℓ) : Prop :=
  True

def Pre_PrepRefIdeal_prep_finite [hPre_prep_finite : Cert.Pre_prep_finite.Facts] (m : (ℓ : Loc Cert.PrepRefIdeal.nD Cert.PrepRefIdeal.τ Cert.PrepRefIdeal.sig) → Buf (Elt Ideal) ℓ) : Prop :=
  ∀ c : Dev Cert.PrepRefIdeal.nD,
    (Cert.Pre_prep_finite.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7)) (m ((c.tc : Thread Cert.PrepRefIdeal.nD Cert.PrepRefIdeal.τ).loc Cert.PrepRefIdeal.main_arg8))).1 = (fun _ => 1#1)
    ∧ (Cert.Pre_prep_finite.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7)) (m ((c.tc : Thread Cert.PrepRefIdeal.nD Cert.PrepRefIdeal.τ).loc Cert.PrepRefIdeal.main_arg8))).2.1 = (fun _ => 1#1)
    ∧ (Cert.Pre_prep_finite.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7)) (m ((c.tc : Thread Cert.PrepRefIdeal.nD Cert.PrepRefIdeal.τ).loc Cert.PrepRefIdeal.main_arg8))).2.2.1 = (fun _ => 1#1)
    ∧ (Cert.Pre_prep_finite.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7)) (m ((c.tc : Thread Cert.PrepRefIdeal.nD Cert.PrepRefIdeal.τ).loc Cert.PrepRefIdeal.main_arg8))).2.2.2.1 = (fun _ => 1#1)
    ∧ (Cert.Pre_prep_finite.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7)) (m ((c.tc : Thread Cert.PrepRefIdeal.nD Cert.PrepRefIdeal.τ).loc Cert.PrepRefIdeal.main_arg8))).2.2.2.2.1 = (fun _ => 1#1)
    ∧ (Cert.Pre_prep_finite.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7)) (m ((c.tc : Thread Cert.PrepRefIdeal.nD Cert.PrepRefIdeal.τ).loc Cert.PrepRefIdeal.main_arg8))).2.2.2.2.2.1 = (fun _ => 1#1)
    ∧ (Cert.Pre_prep_finite.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7)) (m ((c.tc : Thread Cert.PrepRefIdeal.nD Cert.PrepRefIdeal.τ).loc Cert.PrepRefIdeal.main_arg8))).2.2.2.2.2.2.1 = (fun _ => 1#1)
    ∧ (Cert.Pre_prep_finite.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7)) (m ((c.tc : Thread Cert.PrepRefIdeal.nD Cert.PrepRefIdeal.τ).loc Cert.PrepRefIdeal.main_arg8))).2.2.2.2.2.2.2.1 = (fun _ => 1#1)
    ∧ (Cert.Pre_prep_finite.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7)) (m ((c.tc : Thread Cert.PrepRefIdeal.nD Cert.PrepRefIdeal.τ).loc Cert.PrepRefIdeal.main_arg8))).2.2.2.2.2.2.2.2 = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.2 = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_AttnF (m : (ℓ : Loc Cert.AttnF.nD Cert.AttnF.τ Cert.AttnF.sig) → Buf (Elt Bits) ℓ) : Prop :=
  True

def Pre_AttnFIdeal (m : (ℓ : Loc Cert.AttnFIdeal.nD Cert.AttnFIdeal.τ Cert.AttnFIdeal.sig) → Buf (Elt Ideal) ℓ) : Prop :=
  True

def Pre_AttnFIdeal_attnf_finite [hPre_attnf_finite : Cert.Pre_attnf_finite.Facts] (m : (ℓ : Loc Cert.AttnFIdeal.nD Cert.AttnFIdeal.τ Cert.AttnFIdeal.sig) → Buf (Elt Ideal) ℓ) : Prop :=
  ∀ c : Dev Cert.AttnFIdeal.nD,
    (Cert.Pre_attnf_finite.fn (F := Ideal) (m ((c.tc : Thread Cert.AttnFIdeal.nD Cert.AttnFIdeal.τ).loc Cert.AttnFIdeal.main_arg0)) (m ((c.tc : Thread Cert.AttnFIdeal.nD Cert.AttnFIdeal.τ).loc Cert.AttnFIdeal.main_arg1)) (m ((c.tc : Thread Cert.AttnFIdeal.nD Cert.AttnFIdeal.τ).loc Cert.AttnFIdeal.main_arg2))).1 = (fun _ => 1#1)
    ∧ (Cert.Pre_attnf_finite.fn (F := Ideal) (m ((c.tc : Thread Cert.AttnFIdeal.nD Cert.AttnFIdeal.τ).loc Cert.AttnFIdeal.main_arg0)) (m ((c.tc : Thread Cert.AttnFIdeal.nD Cert.AttnFIdeal.τ).loc Cert.AttnFIdeal.main_arg1)) (m ((c.tc : Thread Cert.AttnFIdeal.nD Cert.AttnFIdeal.τ).loc Cert.AttnFIdeal.main_arg2))).2.1 = (fun _ => 1#1)
    ∧ (Cert.Pre_attnf_finite.fn (F := Ideal) (m ((c.tc : Thread Cert.AttnFIdeal.nD Cert.AttnFIdeal.τ).loc Cert.AttnFIdeal.main_arg0)) (m ((c.tc : Thread Cert.AttnFIdeal.nD Cert.AttnFIdeal.τ).loc Cert.AttnFIdeal.main_arg1)) (m ((c.tc : Thread Cert.AttnFIdeal.nD Cert.AttnFIdeal.τ).loc Cert.AttnFIdeal.main_arg2))).2.2 = (fun _ => 1#1)

def Pre_AttnFRefIdeal (m : (ℓ : Loc Cert.AttnFRefIdeal.nD Cert.AttnFRefIdeal.τ Cert.AttnFRefIdeal.sig) → Buf (Elt Ideal) ℓ) : Prop :=
  True

def Pre_AttnFRefIdeal_attnf_finite [hPre_attnf_finite : Cert.Pre_attnf_finite.Facts] (m : (ℓ : Loc Cert.AttnFRefIdeal.nD Cert.AttnFRefIdeal.τ Cert.AttnFRefIdeal.sig) → Buf (Elt Ideal) ℓ) : Prop :=
  ∀ c : Dev Cert.AttnFRefIdeal.nD,
    (Cert.Pre_attnf_finite.fn (F := Ideal) (m ((c.tc : Thread Cert.AttnFRefIdeal.nD Cert.AttnFRefIdeal.τ).loc Cert.AttnFRefIdeal.main_arg0)) (m ((c.tc : Thread Cert.AttnFRefIdeal.nD Cert.AttnFRefIdeal.τ).loc Cert.AttnFRefIdeal.main_arg1)) (m ((c.tc : Thread Cert.AttnFRefIdeal.nD Cert.AttnFRefIdeal.τ).loc Cert.AttnFRefIdeal.main_arg2))).1 = (fun _ => 1#1)
    ∧ (Cert.Pre_attnf_finite.fn (F := Ideal) (m ((c.tc : Thread Cert.AttnFRefIdeal.nD Cert.AttnFRefIdeal.τ).loc Cert.AttnFRefIdeal.main_arg0)) (m ((c.tc : Thread Cert.AttnFRefIdeal.nD Cert.AttnFRefIdeal.τ).loc Cert.AttnFRefIdeal.main_arg1)) (m ((c.tc : Thread Cert.AttnFRefIdeal.nD Cert.AttnFRefIdeal.τ).loc Cert.AttnFRefIdeal.main_arg2))).2.1 = (fun _ => 1#1)
    ∧ (Cert.Pre_attnf_finite.fn (F := Ideal) (m ((c.tc : Thread Cert.AttnFRefIdeal.nD Cert.AttnFRefIdeal.τ).loc Cert.AttnFRefIdeal.main_arg0)) (m ((c.tc : Thread Cert.AttnFRefIdeal.nD Cert.AttnFRefIdeal.τ).loc Cert.AttnFRefIdeal.main_arg1)) (m ((c.tc : Thread Cert.AttnFRefIdeal.nD Cert.AttnFRefIdeal.τ).loc Cert.AttnFRefIdeal.main_arg2))).2.2 = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_PrepF (m : (ℓ : Loc Cert.PrepF.nD Cert.PrepF.τ Cert.PrepF.sig) → Buf (Elt Bits) ℓ) : Prop :=
  True

def Pre_PrepFIdeal (m : (ℓ : Loc Cert.PrepFIdeal.nD Cert.PrepFIdeal.τ Cert.PrepFIdeal.sig) → Buf (Elt Ideal) ℓ) : Prop :=
  True

def Pre_PrepFRefIdeal (m : (ℓ : Loc Cert.PrepFRefIdeal.nD Cert.PrepFRefIdeal.τ Cert.PrepFRefIdeal.sig) → Buf (Elt Ideal) ℓ) : Prop :=
  True

def quiescent_Ln1 [hLn1 : Cert.Ln1.Facts] : Prop :=
  ∀ (m : (ℓ : Loc Cert.Ln1.nD Cert.Ln1.τ Cert.Ln1.sig) → Buf (Elt Bits) ℓ) (g : Dev Cert.Ln1.nD → PrngReg), Pre_Ln1 m →
    θ_run (Cert.Ln1.defs (F := Bits)) (onTc (τ := Cert.Ln1.τ) (Cert.Ln1.main (F := Bits))) ⟨m, fun _ => 0, g⟩ (fun r => (∀ c : Dev Cert.Ln1.nD,
      r.2.mem ((c.tc : Thread Cert.Ln1.nD Cert.Ln1.τ).loc Cert.Ln1.main_arg0) = m ((c.tc : Thread Cert.Ln1.nD Cert.Ln1.τ).loc Cert.Ln1.main_arg0)
      ∧ r.2.mem ((c.tc : Thread Cert.Ln1.nD Cert.Ln1.τ).loc Cert.Ln1.main_arg1) = m ((c.tc : Thread Cert.Ln1.nD Cert.Ln1.τ).loc Cert.Ln1.main_arg1)
      ∧ r.2.mem ((c.tc : Thread Cert.Ln1.nD Cert.Ln1.τ).loc Cert.Ln1.main_arg2) = m ((c.tc : Thread Cert.Ln1.nD Cert.Ln1.τ).loc Cert.Ln1.main_arg2)
      ∧ r.2.mem ((c.tc : Thread Cert.Ln1.nD Cert.Ln1.τ).loc Cert.Ln1.main_arg3) = m ((c.tc : Thread Cert.Ln1.nD Cert.Ln1.τ).loc Cert.Ln1.main_arg3)
      ∧ r.2.mem ((c.tc : Thread Cert.Ln1.nD Cert.Ln1.τ).loc Cert.Ln1.main_arg4) = m ((c.tc : Thread Cert.Ln1.nD Cert.Ln1.τ).loc Cert.Ln1.main_arg4)
      ∧ r.2.mem ((c.tc : Thread Cert.Ln1.nD Cert.Ln1.τ).loc Cert.Ln1.main_arg5) = m ((c.tc : Thread Cert.Ln1.nD Cert.Ln1.τ).loc Cert.Ln1.main_arg5))
      ∧ r.2.sem = fun _ => 0)

def quiescent_Ln1Ideal [hLn1Ideal : Cert.Ln1Ideal.Facts] : Prop :=
  ∀ (m : (ℓ : Loc Cert.Ln1Ideal.nD Cert.Ln1Ideal.τ Cert.Ln1Ideal.sig) → Buf (Elt Ideal) ℓ) (g : Dev Cert.Ln1Ideal.nD → PrngReg), Pre_Ln1Ideal m →
    θ_run (Cert.Ln1Ideal.defs (F := Ideal)) (onTc (τ := Cert.Ln1Ideal.τ) (Cert.Ln1Ideal.main (F := Ideal))) ⟨m, fun _ => 0, g⟩ (fun r => (∀ c : Dev Cert.Ln1Ideal.nD,
      r.2.mem ((c.tc : Thread Cert.Ln1Ideal.nD Cert.Ln1Ideal.τ).loc Cert.Ln1Ideal.main_arg0) = m ((c.tc : Thread Cert.Ln1Ideal.nD Cert.Ln1Ideal.τ).loc Cert.Ln1Ideal.main_arg0)
      ∧ r.2.mem ((c.tc : Thread Cert.Ln1Ideal.nD Cert.Ln1Ideal.τ).loc Cert.Ln1Ideal.main_arg1) = m ((c.tc : Thread Cert.Ln1Ideal.nD Cert.Ln1Ideal.τ).loc Cert.Ln1Ideal.main_arg1)
      ∧ r.2.mem ((c.tc : Thread Cert.Ln1Ideal.nD Cert.Ln1Ideal.τ).loc Cert.Ln1Ideal.main_arg2) = m ((c.tc : Thread Cert.Ln1Ideal.nD Cert.Ln1Ideal.τ).loc Cert.Ln1Ideal.main_arg2)
      ∧ r.2.mem ((c.tc : Thread Cert.Ln1Ideal.nD Cert.Ln1Ideal.τ).loc Cert.Ln1Ideal.main_arg3) = m ((c.tc : Thread Cert.Ln1Ideal.nD Cert.Ln1Ideal.τ).loc Cert.Ln1Ideal.main_arg3)
      ∧ r.2.mem ((c.tc : Thread Cert.Ln1Ideal.nD Cert.Ln1Ideal.τ).loc Cert.Ln1Ideal.main_arg4) = m ((c.tc : Thread Cert.Ln1Ideal.nD Cert.Ln1Ideal.τ).loc Cert.Ln1Ideal.main_arg4)
      ∧ r.2.mem ((c.tc : Thread Cert.Ln1Ideal.nD Cert.Ln1Ideal.τ).loc Cert.Ln1Ideal.main_arg5) = m ((c.tc : Thread Cert.Ln1Ideal.nD Cert.Ln1Ideal.τ).loc Cert.Ln1Ideal.main_arg5))
      ∧ r.2.sem = fun _ => 0)

def quiescent_Ln1Ideal_pre_ln1_finite [hLn1Ideal : Cert.Ln1Ideal.Facts] [hPre_ln1_finite : Cert.Pre_ln1_finite.Facts] : Prop :=
  ∀ (m : (ℓ : Loc Cert.Ln1Ideal.nD Cert.Ln1Ideal.τ Cert.Ln1Ideal.sig) → Buf (Elt Ideal) ℓ) (g : Dev Cert.Ln1Ideal.nD → PrngReg), Pre_Ln1Ideal_ln1_finite m →
    θ_run (Cert.Ln1Ideal.defs (F := Ideal)) (onTc (τ := Cert.Ln1Ideal.τ) (Cert.Ln1Ideal.main (F := Ideal))) ⟨m, fun _ => 0, g⟩ (fun r => (∀ c : Dev Cert.Ln1Ideal.nD,
      r.2.mem ((c.tc : Thread Cert.Ln1Ideal.nD Cert.Ln1Ideal.τ).loc Cert.Ln1Ideal.main_arg0) = m ((c.tc : Thread Cert.Ln1Ideal.nD Cert.Ln1Ideal.τ).loc Cert.Ln1Ideal.main_arg0)
      ∧ r.2.mem ((c.tc : Thread Cert.Ln1Ideal.nD Cert.Ln1Ideal.τ).loc Cert.Ln1Ideal.main_arg1) = m ((c.tc : Thread Cert.Ln1Ideal.nD Cert.Ln1Ideal.τ).loc Cert.Ln1Ideal.main_arg1)
      ∧ r.2.mem ((c.tc : Thread Cert.Ln1Ideal.nD Cert.Ln1Ideal.τ).loc Cert.Ln1Ideal.main_arg2) = m ((c.tc : Thread Cert.Ln1Ideal.nD Cert.Ln1Ideal.τ).loc Cert.Ln1Ideal.main_arg2)
      ∧ r.2.mem ((c.tc : Thread Cert.Ln1Ideal.nD Cert.Ln1Ideal.τ).loc Cert.Ln1Ideal.main_arg3) = m ((c.tc : Thread Cert.Ln1Ideal.nD Cert.Ln1Ideal.τ).loc Cert.Ln1Ideal.main_arg3)
      ∧ r.2.mem ((c.tc : Thread Cert.Ln1Ideal.nD Cert.Ln1Ideal.τ).loc Cert.Ln1Ideal.main_arg4) = m ((c.tc : Thread Cert.Ln1Ideal.nD Cert.Ln1Ideal.τ).loc Cert.Ln1Ideal.main_arg4)
      ∧ r.2.mem ((c.tc : Thread Cert.Ln1Ideal.nD Cert.Ln1Ideal.τ).loc Cert.Ln1Ideal.main_arg5) = m ((c.tc : Thread Cert.Ln1Ideal.nD Cert.Ln1Ideal.τ).loc Cert.Ln1Ideal.main_arg5))
      ∧ r.2.sem = fun _ => 0)

def quiescent_Ln1RefIdeal [hLn1RefIdeal : Cert.Ln1RefIdeal.Facts] : Prop :=
  ∀ (m : (ℓ : Loc Cert.Ln1RefIdeal.nD Cert.Ln1RefIdeal.τ Cert.Ln1RefIdeal.sig) → Buf (Elt Ideal) ℓ) (g : Dev Cert.Ln1RefIdeal.nD → PrngReg), Pre_Ln1RefIdeal m →
    θ_run (Cert.Ln1RefIdeal.defs (F := Ideal)) (onTc (τ := Cert.Ln1RefIdeal.τ) (Cert.Ln1RefIdeal.main (F := Ideal))) ⟨m, fun _ => 0, g⟩ (fun r => (∀ c : Dev Cert.Ln1RefIdeal.nD,
      r.2.mem ((c.tc : Thread Cert.Ln1RefIdeal.nD Cert.Ln1RefIdeal.τ).loc Cert.Ln1RefIdeal.main_arg0) = m ((c.tc : Thread Cert.Ln1RefIdeal.nD Cert.Ln1RefIdeal.τ).loc Cert.Ln1RefIdeal.main_arg0)
      ∧ r.2.mem ((c.tc : Thread Cert.Ln1RefIdeal.nD Cert.Ln1RefIdeal.τ).loc Cert.Ln1RefIdeal.main_arg1) = m ((c.tc : Thread Cert.Ln1RefIdeal.nD Cert.Ln1RefIdeal.τ).loc Cert.Ln1RefIdeal.main_arg1)
      ∧ r.2.mem ((c.tc : Thread Cert.Ln1RefIdeal.nD Cert.Ln1RefIdeal.τ).loc Cert.Ln1RefIdeal.main_arg2) = m ((c.tc : Thread Cert.Ln1RefIdeal.nD Cert.Ln1RefIdeal.τ).loc Cert.Ln1RefIdeal.main_arg2)
      ∧ r.2.mem ((c.tc : Thread Cert.Ln1RefIdeal.nD Cert.Ln1RefIdeal.τ).loc Cert.Ln1RefIdeal.main_arg3) = m ((c.tc : Thread Cert.Ln1RefIdeal.nD Cert.Ln1RefIdeal.τ).loc Cert.Ln1RefIdeal.main_arg3)
      ∧ r.2.mem ((c.tc : Thread Cert.Ln1RefIdeal.nD Cert.Ln1RefIdeal.τ).loc Cert.Ln1RefIdeal.main_arg4) = m ((c.tc : Thread Cert.Ln1RefIdeal.nD Cert.Ln1RefIdeal.τ).loc Cert.Ln1RefIdeal.main_arg4)
      ∧ r.2.mem ((c.tc : Thread Cert.Ln1RefIdeal.nD Cert.Ln1RefIdeal.τ).loc Cert.Ln1RefIdeal.main_arg5) = m ((c.tc : Thread Cert.Ln1RefIdeal.nD Cert.Ln1RefIdeal.τ).loc Cert.Ln1RefIdeal.main_arg5))
      ∧ r.2.sem = fun _ => 0)

def quiescent_Ln1RefIdeal_pre_ln1_finite [hLn1RefIdeal : Cert.Ln1RefIdeal.Facts] [hPre_ln1_finite : Cert.Pre_ln1_finite.Facts] : Prop :=
  ∀ (m : (ℓ : Loc Cert.Ln1RefIdeal.nD Cert.Ln1RefIdeal.τ Cert.Ln1RefIdeal.sig) → Buf (Elt Ideal) ℓ) (g : Dev Cert.Ln1RefIdeal.nD → PrngReg), Pre_Ln1RefIdeal_ln1_finite m →
    θ_run (Cert.Ln1RefIdeal.defs (F := Ideal)) (onTc (τ := Cert.Ln1RefIdeal.τ) (Cert.Ln1RefIdeal.main (F := Ideal))) ⟨m, fun _ => 0, g⟩ (fun r => (∀ c : Dev Cert.Ln1RefIdeal.nD,
      r.2.mem ((c.tc : Thread Cert.Ln1RefIdeal.nD Cert.Ln1RefIdeal.τ).loc Cert.Ln1RefIdeal.main_arg0) = m ((c.tc : Thread Cert.Ln1RefIdeal.nD Cert.Ln1RefIdeal.τ).loc Cert.Ln1RefIdeal.main_arg0)
      ∧ r.2.mem ((c.tc : Thread Cert.Ln1RefIdeal.nD Cert.Ln1RefIdeal.τ).loc Cert.Ln1RefIdeal.main_arg1) = m ((c.tc : Thread Cert.Ln1RefIdeal.nD Cert.Ln1RefIdeal.τ).loc Cert.Ln1RefIdeal.main_arg1)
      ∧ r.2.mem ((c.tc : Thread Cert.Ln1RefIdeal.nD Cert.Ln1RefIdeal.τ).loc Cert.Ln1RefIdeal.main_arg2) = m ((c.tc : Thread Cert.Ln1RefIdeal.nD Cert.Ln1RefIdeal.τ).loc Cert.Ln1RefIdeal.main_arg2)
      ∧ r.2.mem ((c.tc : Thread Cert.Ln1RefIdeal.nD Cert.Ln1RefIdeal.τ).loc Cert.Ln1RefIdeal.main_arg3) = m ((c.tc : Thread Cert.Ln1RefIdeal.nD Cert.Ln1RefIdeal.τ).loc Cert.Ln1RefIdeal.main_arg3)
      ∧ r.2.mem ((c.tc : Thread Cert.Ln1RefIdeal.nD Cert.Ln1RefIdeal.τ).loc Cert.Ln1RefIdeal.main_arg4) = m ((c.tc : Thread Cert.Ln1RefIdeal.nD Cert.Ln1RefIdeal.τ).loc Cert.Ln1RefIdeal.main_arg4)
      ∧ r.2.mem ((c.tc : Thread Cert.Ln1RefIdeal.nD Cert.Ln1RefIdeal.τ).loc Cert.Ln1RefIdeal.main_arg5) = m ((c.tc : Thread Cert.Ln1RefIdeal.nD Cert.Ln1RefIdeal.τ).loc Cert.Ln1RefIdeal.main_arg5))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4)
      ∧ r.2.mem ((c.tc : Thread Cert.Loss.nD Cert.Loss.τ).loc Cert.Loss.main_arg5) = m ((c.tc : Thread Cert.Loss.nD Cert.Loss.τ).loc Cert.Loss.main_arg5))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5))
      ∧ r.2.sem = fun _ => 0)

def quiescent_LossIdeal_pre_loss_finite [hLossIdeal : Cert.LossIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvIdeal_pre_conv_finite [hConvIdeal : Cert.ConvIdeal.Facts] [hPre_conv_finite : Cert.Pre_conv_finite.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal_conv_finite m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_ConvRefIdeal_pre_conv_finite [hConvRefIdeal : Cert.ConvRefIdeal.Facts] [hPre_conv_finite : Cert.Pre_conv_finite.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal_conv_finite m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6)
      ∧ r.2.mem ((c.tc : Thread Cert.Prep.nD Cert.Prep.τ).loc Cert.Prep.main_arg7) = m ((c.tc : Thread Cert.Prep.nD Cert.Prep.τ).loc Cert.Prep.main_arg7)
      ∧ r.2.mem ((c.tc : Thread Cert.Prep.nD Cert.Prep.τ).loc Cert.Prep.main_arg8) = m ((c.tc : Thread Cert.Prep.nD Cert.Prep.τ).loc Cert.Prep.main_arg8))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8))
      ∧ r.2.sem = fun _ => 0)

def quiescent_PrepIdeal_pre_prep_finite [hPrepIdeal : Cert.PrepIdeal.Facts] [hPre_prep_finite : Cert.Pre_prep_finite.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_prep_finite m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8))
      ∧ r.2.sem = fun _ => 0)

def quiescent_PrepRefIdeal_pre_prep_finite [hPrepRefIdeal : Cert.PrepRefIdeal.Facts] [hPre_prep_finite : Cert.Pre_prep_finite.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal_prep_finite m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3))
      ∧ r.2.sem = fun _ => 0)

def quiescent_AttnF [hAttnF : Cert.AttnF.Facts] : Prop :=
  ∀ (m : (ℓ : Loc Cert.AttnF.nD Cert.AttnF.τ Cert.AttnF.sig) → Buf (Elt Bits) ℓ) (g : Dev Cert.AttnF.nD → PrngReg), Pre_AttnF m →
    θ_run (Cert.AttnF.defs (F := Bits)) (onTc (τ := Cert.AttnF.τ) (Cert.AttnF.main (F := Bits))) ⟨m, fun _ => 0, g⟩ (fun r => (∀ c : Dev Cert.AttnF.nD,
      r.2.mem ((c.tc : Thread Cert.AttnF.nD Cert.AttnF.τ).loc Cert.AttnF.main_arg0) = m ((c.tc : Thread Cert.AttnF.nD Cert.AttnF.τ).loc Cert.AttnF.main_arg0)
      ∧ r.2.mem ((c.tc : Thread Cert.AttnF.nD Cert.AttnF.τ).loc Cert.AttnF.main_arg1) = m ((c.tc : Thread Cert.AttnF.nD Cert.AttnF.τ).loc Cert.AttnF.main_arg1)
      ∧ r.2.mem ((c.tc : Thread Cert.AttnF.nD Cert.AttnF.τ).loc Cert.AttnF.main_arg2) = m ((c.tc : Thread Cert.AttnF.nD Cert.AttnF.τ).loc Cert.AttnF.main_arg2))
      ∧ r.2.sem = fun _ => 0)

def quiescent_AttnFIdeal [hAttnFIdeal : Cert.AttnFIdeal.Facts] : Prop :=
  ∀ (m : (ℓ : Loc Cert.AttnFIdeal.nD Cert.AttnFIdeal.τ Cert.AttnFIdeal.sig) → Buf (Elt Ideal) ℓ) (g : Dev Cert.AttnFIdeal.nD → PrngReg), Pre_AttnFIdeal m →
    θ_run (Cert.AttnFIdeal.defs (F := Ideal)) (onTc (τ := Cert.AttnFIdeal.τ) (Cert.AttnFIdeal.main (F := Ideal))) ⟨m, fun _ => 0, g⟩ (fun r => (∀ c : Dev Cert.AttnFIdeal.nD,
      r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
      ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1)
      ∧ r.2.mem ((c.tc : Thread Cert.AttnFIdeal.nD Cert.AttnFIdeal.τ).loc Cert.AttnFIdeal.main_arg2) = m ((c.tc : Thread Cert.AttnFIdeal.nD Cert.AttnFIdeal.τ).loc Cert.AttnFIdeal.main_arg2))
      ∧ r.2.sem = fun _ => 0)

def quiescent_AttnFIdeal_pre_attnf_finite [hAttnFIdeal : Cert.AttnFIdeal.Facts] [hPre_attnf_finite : Cert.Pre_attnf_finite.Facts] : Prop :=
  ∀ (m : (ℓ : Loc Cert.AttnFIdeal.nD Cert.AttnFIdeal.τ Cert.AttnFIdeal.sig) → Buf (Elt Ideal) ℓ) (g : Dev Cert.AttnFIdeal.nD → PrngReg), Pre_AttnFIdeal_attnf_finite m →
    θ_run (Cert.AttnFIdeal.defs (F := Ideal)) (onTc (τ := Cert.AttnFIdeal.τ) (Cert.AttnFIdeal.main (F := Ideal))) ⟨m, fun _ => 0, g⟩ (fun r => (∀ c : Dev Cert.AttnFIdeal.nD,
      r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
      ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1)
      ∧ r.2.mem ((c.tc : Thread Cert.AttnFIdeal.nD Cert.AttnFIdeal.τ).loc Cert.AttnFIdeal.main_arg2) = m ((c.tc : Thread Cert.AttnFIdeal.nD Cert.AttnFIdeal.τ).loc Cert.AttnFIdeal.main_arg2))
      ∧ r.2.sem = fun _ => 0)

def quiescent_AttnFRefIdeal [hAttnFRefIdeal : Cert.AttnFRefIdeal.Facts] : Prop :=
  ∀ (m : (ℓ : Loc Cert.AttnFRefIdeal.nD Cert.AttnFRefIdeal.τ Cert.AttnFRefIdeal.sig) → Buf (Elt Ideal) ℓ) (g : Dev Cert.AttnFRefIdeal.nD → PrngReg), Pre_AttnFRefIdeal m →
    θ_run (Cert.AttnFRefIdeal.defs (F := Ideal)) (onTc (τ := Cert.AttnFRefIdeal.τ) (Cert.AttnFRefIdeal.main (F := Ideal))) ⟨m, fun _ => 0, g⟩ (fun r => (∀ c : Dev Cert.AttnFRefIdeal.nD,
      r.2.mem ((c.tc : Thread Cert.AttnFRefIdeal.nD Cert.AttnFRefIdeal.τ).loc Cert.AttnFRefIdeal.main_arg0) = m ((c.tc : Thread Cert.AttnFRefIdeal.nD Cert.AttnFRefIdeal.τ).loc Cert.AttnFRefIdeal.main_arg0)
      ∧ r.2.mem ((c.tc : Thread Cert.AttnFRefIdeal.nD Cert.AttnFRefIdeal.τ).loc Cert.AttnFRefIdeal.main_arg1) = m ((c.tc : Thread Cert.AttnFRefIdeal.nD Cert.AttnFRefIdeal.τ).loc Cert.AttnFRefIdeal.main_arg1)
      ∧ r.2.mem ((c.tc : Thread Cert.AttnFRefIdeal.nD Cert.AttnFRefIdeal.τ).loc Cert.AttnFRefIdeal.main_arg2) = m ((c.tc : Thread Cert.AttnFRefIdeal.nD Cert.AttnFRefIdeal.τ).loc Cert.AttnFRefIdeal.main_arg2))
      ∧ r.2.sem = fun _ => 0)

def quiescent_AttnFRefIdeal_pre_attnf_finite [hAttnFRefIdeal : Cert.AttnFRefIdeal.Facts] [hPre_attnf_finite : Cert.Pre_attnf_finite.Facts] : Prop :=
  ∀ (m : (ℓ : Loc Cert.AttnFRefIdeal.nD Cert.AttnFRefIdeal.τ Cert.AttnFRefIdeal.sig) → Buf (Elt Ideal) ℓ) (g : Dev Cert.AttnFRefIdeal.nD → PrngReg), Pre_AttnFRefIdeal_attnf_finite m →
    θ_run (Cert.AttnFRefIdeal.defs (F := Ideal)) (onTc (τ := Cert.AttnFRefIdeal.τ) (Cert.AttnFRefIdeal.main (F := Ideal))) ⟨m, fun _ => 0, g⟩ (fun r => (∀ c : Dev Cert.AttnFRefIdeal.nD,
      r.2.mem ((c.tc : Thread Cert.AttnFRefIdeal.nD Cert.AttnFRefIdeal.τ).loc Cert.AttnFRefIdeal.main_arg0) = m ((c.tc : Thread Cert.AttnFRefIdeal.nD Cert.AttnFRefIdeal.τ).loc Cert.AttnFRefIdeal.main_arg0)
      ∧ r.2.mem ((c.tc : Thread Cert.AttnFRefIdeal.nD Cert.AttnFRefIdeal.τ).loc Cert.AttnFRefIdeal.main_arg1) = m ((c.tc : Thread Cert.AttnFRefIdeal.nD Cert.AttnFRefIdeal.τ).loc Cert.AttnFRefIdeal.main_arg1)
      ∧ r.2.mem ((c.tc : Thread Cert.AttnFRefIdeal.nD Cert.AttnFRefIdeal.τ).loc Cert.AttnFRefIdeal.main_arg2) = m ((c.tc : Thread Cert.AttnFRefIdeal.nD Cert.AttnFRefIdeal.τ).loc Cert.AttnFRefIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5))
      ∧ r.2.sem = fun _ => 0)

def quiescent_PrepF [hPrepF : Cert.PrepF.Facts] : Prop :=
  ∀ (m : (ℓ : Loc Cert.PrepF.nD Cert.PrepF.τ Cert.PrepF.sig) → Buf (Elt Bits) ℓ) (g : Dev Cert.PrepF.nD → PrngReg), Pre_PrepF m →
    θ_run (Cert.PrepF.defs (F := Bits)) (onTc (τ := Cert.PrepF.τ) (Cert.PrepF.main (F := Bits))) ⟨m, fun _ => 0, g⟩ (fun r => (∀ c : Dev Cert.PrepF.nD,
      r.2.mem ((c.tc : Thread Cert.PrepF.nD Cert.PrepF.τ).loc Cert.PrepF.main_arg0) = m ((c.tc : Thread Cert.PrepF.nD Cert.PrepF.τ).loc Cert.PrepF.main_arg0)
      ∧ r.2.mem ((c.tc : Thread Cert.PrepF.nD Cert.PrepF.τ).loc Cert.PrepF.main_arg1) = m ((c.tc : Thread Cert.PrepF.nD Cert.PrepF.τ).loc Cert.PrepF.main_arg1)
      ∧ r.2.mem ((c.tc : Thread Cert.PrepF.nD Cert.PrepF.τ).loc Cert.PrepF.main_arg2) = m ((c.tc : Thread Cert.PrepF.nD Cert.PrepF.τ).loc Cert.PrepF.main_arg2)
      ∧ r.2.mem ((c.tc : Thread Cert.PrepF.nD Cert.PrepF.τ).loc Cert.PrepF.main_arg3) = m ((c.tc : Thread Cert.PrepF.nD Cert.PrepF.τ).loc Cert.PrepF.main_arg3)
      ∧ r.2.mem ((c.tc : Thread Cert.PrepF.nD Cert.PrepF.τ).loc Cert.PrepF.main_arg4) = m ((c.tc : Thread Cert.PrepF.nD Cert.PrepF.τ).loc Cert.PrepF.main_arg4)
      ∧ r.2.mem ((c.tc : Thread Cert.PrepF.nD Cert.PrepF.τ).loc Cert.PrepF.main_arg5) = m ((c.tc : Thread Cert.PrepF.nD Cert.PrepF.τ).loc Cert.PrepF.main_arg5))
      ∧ r.2.sem = fun _ => 0)

def quiescent_PrepFIdeal [hPrepFIdeal : Cert.PrepFIdeal.Facts] : Prop :=
  ∀ (m : (ℓ : Loc Cert.PrepFIdeal.nD Cert.PrepFIdeal.τ Cert.PrepFIdeal.sig) → Buf (Elt Ideal) ℓ) (g : Dev Cert.PrepFIdeal.nD → PrngReg), Pre_PrepFIdeal m →
    θ_run (Cert.PrepFIdeal.defs (F := Ideal)) (onTc (τ := Cert.PrepFIdeal.τ) (Cert.PrepFIdeal.main (F := Ideal))) ⟨m, fun _ => 0, g⟩ (fun r => (∀ c : Dev Cert.PrepFIdeal.nD,
      r.2.mem ((c.tc : Thread Cert.PrepFIdeal.nD Cert.PrepFIdeal.τ).loc Cert.PrepFIdeal.main_arg0) = m ((c.tc : Thread Cert.PrepFIdeal.nD Cert.PrepFIdeal.τ).loc Cert.PrepFIdeal.main_arg0)
      ∧ r.2.mem ((c.tc : Thread Cert.PrepFIdeal.nD Cert.PrepFIdeal.τ).loc Cert.PrepFIdeal.main_arg1) = m ((c.tc : Thread Cert.PrepFIdeal.nD Cert.PrepFIdeal.τ).loc Cert.PrepFIdeal.main_arg1)
      ∧ r.2.mem ((c.tc : Thread Cert.PrepFIdeal.nD Cert.PrepFIdeal.τ).loc Cert.PrepFIdeal.main_arg2) = m ((c.tc : Thread Cert.PrepFIdeal.nD Cert.PrepFIdeal.τ).loc Cert.PrepFIdeal.main_arg2)
      ∧ r.2.mem ((c.tc : Thread Cert.PrepFIdeal.nD Cert.PrepFIdeal.τ).loc Cert.PrepFIdeal.main_arg3) = m ((c.tc : Thread Cert.PrepFIdeal.nD Cert.PrepFIdeal.τ).loc Cert.PrepFIdeal.main_arg3)
      ∧ r.2.mem ((c.tc : Thread Cert.PrepFIdeal.nD Cert.PrepFIdeal.τ).loc Cert.PrepFIdeal.main_arg4) = m ((c.tc : Thread Cert.PrepFIdeal.nD Cert.PrepFIdeal.τ).loc Cert.PrepFIdeal.main_arg4)
      ∧ r.2.mem ((c.tc : Thread Cert.PrepFIdeal.nD Cert.PrepFIdeal.τ).loc Cert.PrepFIdeal.main_arg5) = m ((c.tc : Thread Cert.PrepFIdeal.nD Cert.PrepFIdeal.τ).loc Cert.PrepFIdeal.main_arg5))
      ∧ r.2.sem = fun _ => 0)

def quiescent_PrepFRefIdeal [hPrepFRefIdeal : Cert.PrepFRefIdeal.Facts] : Prop :=
  ∀ (m : (ℓ : Loc Cert.PrepFRefIdeal.nD Cert.PrepFRefIdeal.τ Cert.PrepFRefIdeal.sig) → Buf (Elt Ideal) ℓ) (g : Dev Cert.PrepFRefIdeal.nD → PrngReg), Pre_PrepFRefIdeal m →
    θ_run (Cert.PrepFRefIdeal.defs (F := Ideal)) (onTc (τ := Cert.PrepFRefIdeal.τ) (Cert.PrepFRefIdeal.main (F := Ideal))) ⟨m, fun _ => 0, g⟩ (fun r => (∀ c : Dev Cert.PrepFRefIdeal.nD,
      r.2.mem ((c.tc : Thread Cert.PrepFRefIdeal.nD Cert.PrepFRefIdeal.τ).loc Cert.PrepFRefIdeal.main_arg0) = m ((c.tc : Thread Cert.PrepFRefIdeal.nD Cert.PrepFRefIdeal.τ).loc Cert.PrepFRefIdeal.main_arg0)
      ∧ r.2.mem ((c.tc : Thread Cert.PrepFRefIdeal.nD Cert.PrepFRefIdeal.τ).loc Cert.PrepFRefIdeal.main_arg1) = m ((c.tc : Thread Cert.PrepFRefIdeal.nD Cert.PrepFRefIdeal.τ).loc Cert.PrepFRefIdeal.main_arg1)
      ∧ r.2.mem ((c.tc : Thread Cert.PrepFRefIdeal.nD Cert.PrepFRefIdeal.τ).loc Cert.PrepFRefIdeal.main_arg2) = m ((c.tc : Thread Cert.PrepFRefIdeal.nD Cert.PrepFRefIdeal.τ).loc Cert.PrepFRefIdeal.main_arg2)
      ∧ r.2.mem ((c.tc : Thread Cert.PrepFRefIdeal.nD Cert.PrepFRefIdeal.τ).loc Cert.PrepFRefIdeal.main_arg3) = m ((c.tc : Thread Cert.PrepFRefIdeal.nD Cert.PrepFRefIdeal.τ).loc Cert.PrepFRefIdeal.main_arg3)
      ∧ r.2.mem ((c.tc : Thread Cert.PrepFRefIdeal.nD Cert.PrepFRefIdeal.τ).loc Cert.PrepFRefIdeal.main_arg4) = m ((c.tc : Thread Cert.PrepFRefIdeal.nD Cert.PrepFRefIdeal.τ).loc Cert.PrepFRefIdeal.main_arg4)
      ∧ r.2.mem ((c.tc : Thread Cert.PrepFRefIdeal.nD Cert.PrepFRefIdeal.τ).loc Cert.PrepFRefIdeal.main_arg5) = m ((c.tc : Thread Cert.PrepFRefIdeal.nD Cert.PrepFRefIdeal.τ).loc Cert.PrepFRefIdeal.main_arg5))
      ∧ r.2.sem = fun _ => 0)

def preserves_Ln1_Ln1Ideal : Prop :=
  True

def algebraic_Ln1Ideal_Ln1RefIdeal_pre_ln1_finite [hLn1Ideal : Cert.Ln1Ideal.Facts] [hLn1RefIdeal : Cert.Ln1RefIdeal.Facts] [hPre_ln1_finite : Cert.Pre_ln1_finite.Facts] : Prop :=
  ∀ (m : (ℓ : Loc Cert.Ln1Ideal.nD Cert.Ln1Ideal.τ Cert.Ln1Ideal.sig) → Buf (Elt Ideal) ℓ) (g : Dev Cert.Ln1Ideal.nD → PrngReg)
    (m' : (ℓ : Loc Cert.Ln1RefIdeal.nD Cert.Ln1RefIdeal.τ Cert.Ln1RefIdeal.sig) → Buf (Elt Ideal) ℓ) (g' : Dev Cert.Ln1RefIdeal.nD → PrngReg), Pre_Ln1Ideal_ln1_finite m →
    (∀ c : Dev Cert.Ln1Ideal.nD,
      m' ((c.tc : Thread Cert.Ln1RefIdeal.nD Cert.Ln1RefIdeal.τ).loc Cert.Ln1RefIdeal.main_arg0) = m ((c.tc : Thread Cert.Ln1Ideal.nD Cert.Ln1Ideal.τ).loc Cert.Ln1Ideal.main_arg0)
      ∧ m' ((c.tc : Thread Cert.Ln1RefIdeal.nD Cert.Ln1RefIdeal.τ).loc Cert.Ln1RefIdeal.main_arg1) = m ((c.tc : Thread Cert.Ln1Ideal.nD Cert.Ln1Ideal.τ).loc Cert.Ln1Ideal.main_arg1)
      ∧ m' ((c.tc : Thread Cert.Ln1RefIdeal.nD Cert.Ln1RefIdeal.τ).loc Cert.Ln1RefIdeal.main_arg2) = m ((c.tc : Thread Cert.Ln1Ideal.nD Cert.Ln1Ideal.τ).loc Cert.Ln1Ideal.main_arg2)
      ∧ m' ((c.tc : Thread Cert.Ln1RefIdeal.nD Cert.Ln1RefIdeal.τ).loc Cert.Ln1RefIdeal.main_arg3) = m ((c.tc : Thread Cert.Ln1Ideal.nD Cert.Ln1Ideal.τ).loc Cert.Ln1Ideal.main_arg3)
      ∧ m' ((c.tc : Thread Cert.Ln1RefIdeal.nD Cert.Ln1RefIdeal.τ).loc Cert.Ln1RefIdeal.main_arg4) = m ((c.tc : Thread Cert.Ln1Ideal.nD Cert.Ln1Ideal.τ).loc Cert.Ln1Ideal.main_arg4)
      ∧ m' ((c.tc : Thread Cert.Ln1RefIdeal.nD Cert.Ln1RefIdeal.τ).loc Cert.Ln1RefIdeal.main_arg5) = m ((c.tc : Thread Cert.Ln1Ideal.nD Cert.Ln1Ideal.τ).loc Cert.Ln1Ideal.main_arg5)) →
    ∃ (v0 : (c : Dev Cert.Ln1Ideal.nD) → Buf (Elt Ideal) ((c.tc : Thread Cert.Ln1Ideal.nD Cert.Ln1Ideal.τ).loc Cert.Ln1Ideal.main_v12_0)) (v1 : (c : Dev Cert.Ln1Ideal.nD) → Buf (Elt Ideal) ((c.tc : Thread Cert.Ln1Ideal.nD Cert.Ln1Ideal.τ).loc Cert.Ln1Ideal.main_v12_1)) (v2 : (c : Dev Cert.Ln1Ideal.nD) → Buf (Elt Ideal) ((c.tc : Thread Cert.Ln1Ideal.nD Cert.Ln1Ideal.τ).loc Cert.Ln1Ideal.main_v12_2)) (v3 : (c : Dev Cert.Ln1Ideal.nD) → Buf (Elt Ideal) ((c.tc : Thread Cert.Ln1Ideal.nD Cert.Ln1Ideal.τ).loc Cert.Ln1Ideal.main_v12_3)),
      θ_run (Cert.Ln1Ideal.defs (F := Ideal)) (onTc (τ := Cert.Ln1Ideal.τ) (Cert.Ln1Ideal.main (F := Ideal))) ⟨m, fun _ => 0, g⟩ (fun r => ∀ c : Dev Cert.Ln1Ideal.nD,
          r.2.mem ((c.tc : Thread Cert.Ln1Ideal.nD Cert.Ln1Ideal.τ).loc Cert.Ln1Ideal.main_v12_0) = v0 c
          ∧ r.2.mem ((c.tc : Thread Cert.Ln1Ideal.nD Cert.Ln1Ideal.τ).loc Cert.Ln1Ideal.main_v12_1) = v1 c
          ∧ r.2.mem ((c.tc : Thread Cert.Ln1Ideal.nD Cert.Ln1Ideal.τ).loc Cert.Ln1Ideal.main_v12_2) = v2 c
          ∧ r.2.mem ((c.tc : Thread Cert.Ln1Ideal.nD Cert.Ln1Ideal.τ).loc Cert.Ln1Ideal.main_v12_3) = v3 c
          ∧ r.2.mem ((c.tc : Thread Cert.Ln1Ideal.nD Cert.Ln1Ideal.τ).loc Cert.Ln1Ideal.main_arg0) = m ((c.tc : Thread Cert.Ln1Ideal.nD Cert.Ln1Ideal.τ).loc Cert.Ln1Ideal.main_arg0)
          ∧ r.2.mem ((c.tc : Thread Cert.Ln1Ideal.nD Cert.Ln1Ideal.τ).loc Cert.Ln1Ideal.main_arg1) = m ((c.tc : Thread Cert.Ln1Ideal.nD Cert.Ln1Ideal.τ).loc Cert.Ln1Ideal.main_arg1)
          ∧ r.2.mem ((c.tc : Thread Cert.Ln1Ideal.nD Cert.Ln1Ideal.τ).loc Cert.Ln1Ideal.main_arg2) = m ((c.tc : Thread Cert.Ln1Ideal.nD Cert.Ln1Ideal.τ).loc Cert.Ln1Ideal.main_arg2)
          ∧ r.2.mem ((c.tc : Thread Cert.Ln1Ideal.nD Cert.Ln1Ideal.τ).loc Cert.Ln1Ideal.main_arg3) = m ((c.tc : Thread Cert.Ln1Ideal.nD Cert.Ln1Ideal.τ).loc Cert.Ln1Ideal.main_arg3)
          ∧ r.2.mem ((c.tc : Thread Cert.Ln1Ideal.nD Cert.Ln1Ideal.τ).loc Cert.Ln1Ideal.main_arg4) = m ((c.tc : Thread Cert.Ln1Ideal.nD Cert.Ln1Ideal.τ).loc Cert.Ln1Ideal.main_arg4)
          ∧ r.2.mem ((c.tc : Thread Cert.Ln1Ideal.nD Cert.Ln1Ideal.τ).loc Cert.Ln1Ideal.main_arg5) = m ((c.tc : Thread Cert.Ln1Ideal.nD Cert.Ln1Ideal.τ).loc Cert.Ln1Ideal.main_arg5))
      ∧ θ_run (Cert.Ln1RefIdeal.defs (F := Ideal)) (onTc (τ := Cert.Ln1RefIdeal.τ) (Cert.Ln1RefIdeal.main (F := Ideal))) ⟨m', fun _ => 0, g'⟩ (fun r => ∀ c : Dev Cert.Ln1RefIdeal.nD,
          r.2.mem ((c.tc : Thread Cert.Ln1RefIdeal.nD Cert.Ln1RefIdeal.τ).loc Cert.Ln1RefIdeal.main_v73) = v0 c
          ∧ r.2.mem ((c.tc : Thread Cert.Ln1RefIdeal.nD Cert.Ln1RefIdeal.τ).loc Cert.Ln1RefIdeal.main_v74) = v1 c
          ∧ r.2.mem ((c.tc : Thread Cert.Ln1RefIdeal.nD Cert.Ln1RefIdeal.τ).loc Cert.Ln1RefIdeal.main_v75) = v2 c
          ∧ r.2.mem ((c.tc : Thread Cert.Ln1RefIdeal.nD Cert.Ln1RefIdeal.τ).loc Cert.Ln1RefIdeal.main_v76) = v3 c
          ∧ r.2.mem ((c.tc : Thread Cert.Ln1RefIdeal.nD Cert.Ln1RefIdeal.τ).loc Cert.Ln1RefIdeal.main_arg0) = m' ((c.tc : Thread Cert.Ln1RefIdeal.nD Cert.Ln1RefIdeal.τ).loc Cert.Ln1RefIdeal.main_arg0)
          ∧ r.2.mem ((c.tc : Thread Cert.Ln1RefIdeal.nD Cert.Ln1RefIdeal.τ).loc Cert.Ln1RefIdeal.main_arg1) = m' ((c.tc : Thread Cert.Ln1RefIdeal.nD Cert.Ln1RefIdeal.τ).loc Cert.Ln1RefIdeal.main_arg1)
          ∧ r.2.mem ((c.tc : Thread Cert.Ln1RefIdeal.nD Cert.Ln1RefIdeal.τ).loc Cert.Ln1RefIdeal.main_arg2) = m' ((c.tc : Thread Cert.Ln1RefIdeal.nD Cert.Ln1RefIdeal.τ).loc Cert.Ln1RefIdeal.main_arg2)
          ∧ r.2.mem ((c.tc : Thread Cert.Ln1RefIdeal.nD Cert.Ln1RefIdeal.τ).loc Cert.Ln1RefIdeal.main_arg3) = m' ((c.tc : Thread Cert.Ln1RefIdeal.nD Cert.Ln1RefIdeal.τ).loc Cert.Ln1RefIdeal.main_arg3)
          ∧ r.2.mem ((c.tc : Thread Cert.Ln1RefIdeal.nD Cert.Ln1RefIdeal.τ).loc Cert.Ln1RefIdeal.main_arg4) = m' ((c.tc : Thread Cert.Ln1RefIdeal.nD Cert.Ln1RefIdeal.τ).loc Cert.Ln1RefIdeal.main_arg4)
          ∧ r.2.mem ((c.tc : Thread Cert.Ln1RefIdeal.nD Cert.Ln1RefIdeal.τ).loc Cert.Ln1RefIdeal.main_arg5) = m' ((c.tc : Thread Cert.Ln1RefIdeal.nD Cert.Ln1RefIdeal.τ).loc Cert.Ln1RefIdeal.main_arg5))

def preserves_Loss_LossIdeal : Prop :=
  True

def algebraic_LossIdeal_LossRefIdeal_pre_loss_finite [hLossIdeal : Cert.LossIdeal.Facts] [hLossRefIdeal : Cert.LossRefIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_loss_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)
      ∧ m' ((c.tc : Thread Cert.LossRefIdeal.nD Cert.LossRefIdeal.τ).loc Cert.LossRefIdeal.main_arg5) = m ((c.tc : Thread Cert.LossIdeal.nD Cert.LossIdeal.τ).loc Cert.LossIdeal.main_arg5)) →
    ∃ (v0 : (c : Dev Cert.LossIdeal.nD) → Buf (Elt Ideal) ((c.tc : Thread Cert.LossIdeal.nD Cert.LossIdeal.τ).loc Cert.LossIdeal.main_v3_0)) (v1 : (c : Dev Cert.LossIdeal.nD) → Buf (Elt Ideal) ((c.tc : Thread Cert.LossIdeal.nD Cert.LossIdeal.τ).loc Cert.LossIdeal.main_v3_1)) (v2 : (c : Dev Cert.LossIdeal.nD) → Buf (Elt Ideal) ((c.tc : Thread Cert.LossIdeal.nD Cert.LossIdeal.τ).loc Cert.LossIdeal.main_v3_2)) (v3 : (c : Dev Cert.LossIdeal.nD) → Buf (Elt Ideal) ((c.tc : Thread Cert.LossIdeal.nD Cert.LossIdeal.τ).loc Cert.LossIdeal.main_v3_3)) (v4 : (c : Dev Cert.LossIdeal.nD) → Buf (Elt Ideal) ((c.tc : Thread Cert.LossIdeal.nD Cert.LossIdeal.τ).loc Cert.LossIdeal.main_v3_4)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v3_0) = v0 c
          ∧ r.2.mem ((c.tc : Thread Cert.LossIdeal.nD Cert.LossIdeal.τ).loc Cert.LossIdeal.main_v3_1) = v1 c
          ∧ r.2.mem ((c.tc : Thread Cert.LossIdeal.nD Cert.LossIdeal.τ).loc Cert.LossIdeal.main_v3_2) = v2 c
          ∧ r.2.mem ((c.tc : Thread Cert.LossIdeal.nD Cert.LossIdeal.τ).loc Cert.LossIdeal.main_v3_3) = v3 c
          ∧ r.2.mem ((c.tc : Thread Cert.LossIdeal.nD Cert.LossIdeal.τ).loc Cert.LossIdeal.main_v3_4) = v4 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
          ∧ r.2.mem ((c.tc : Thread Cert.LossIdeal.nD Cert.LossIdeal.τ).loc Cert.LossIdeal.main_arg5) = m ((c.tc : Thread Cert.LossIdeal.nD Cert.LossIdeal.τ).loc Cert.LossIdeal.main_arg5))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v81) = v0 c
          ∧ r.2.mem ((c.tc : Thread Cert.LossRefIdeal.nD Cert.LossRefIdeal.τ).loc Cert.LossRefIdeal.main_v82) = v1 c
          ∧ r.2.mem ((c.tc : Thread Cert.LossRefIdeal.nD Cert.LossRefIdeal.τ).loc Cert.LossRefIdeal.main_v83) = v2 c
          ∧ r.2.mem ((c.tc : Thread Cert.LossRefIdeal.nD Cert.LossRefIdeal.τ).loc Cert.LossRefIdeal.main_v84) = v3 c
          ∧ r.2.mem ((c.tc : Thread Cert.LossRefIdeal.nD Cert.LossRefIdeal.τ).loc Cert.LossRefIdeal.main_v85) = v4 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)
          ∧ r.2.mem ((c.tc : Thread Cert.LossRefIdeal.nD Cert.LossRefIdeal.τ).loc Cert.LossRefIdeal.main_arg5) = m' ((c.tc : Thread Cert.LossRefIdeal.nD Cert.LossRefIdeal.τ).loc Cert.LossRefIdeal.main_arg5))

def preserves_Conv_ConvIdeal : Prop :=
  IdealRules.named_const.Statement Cert.ConvIdeal.κ "gelu_ca" .f32 0x3D122279#32 ((80338380498831 / 2251799813685248 : ℝ) : EReal)
  ∧ IdealRules.named_const.Statement Cert.ConvIdeal.κ "gelu_6ca" .f32 0x3E5B33B6#32 ((241015141496493 / 1125899906842624 : ℝ) : EReal)

def algebraic_ConvIdeal_ConvRefIdeal_pre_conv_finite [hConvIdeal : Cert.ConvIdeal.Facts] [hConvRefIdeal : Cert.ConvRefIdeal.Facts] [hPre_conv_finite : Cert.Pre_conv_finite.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal_conv_finite m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)) →
    ∃ (v0 : (c : Dev Cert.ConvIdeal.nD) → Buf (Elt Ideal) ((c.tc : Thread Cert.ConvIdeal.nD Cert.ConvIdeal.τ).loc Cert.ConvIdeal.main_v36_0)) (v1 : (c : Dev Cert.ConvIdeal.nD) → Buf (Elt Ideal) ((c.tc : Thread Cert.ConvIdeal.nD Cert.ConvIdeal.τ).loc Cert.ConvIdeal.main_v36_1)) (v2 : (c : Dev Cert.ConvIdeal.nD) → Buf (Elt Ideal) ((c.tc : Thread Cert.ConvIdeal.nD Cert.ConvIdeal.τ).loc Cert.ConvIdeal.main_v36_2)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v36_0) = v0 c
          ∧ r.2.mem ((c.tc : Thread Cert.ConvIdeal.nD Cert.ConvIdeal.τ).loc Cert.ConvIdeal.main_v36_1) = v1 c
          ∧ r.2.mem ((c.tc : Thread Cert.ConvIdeal.nD Cert.ConvIdeal.τ).loc Cert.ConvIdeal.main_v36_2) = v2 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v107) = v0 c
          ∧ r.2.mem ((c.tc : Thread Cert.ConvRefIdeal.nD Cert.ConvRefIdeal.τ).loc Cert.ConvRefIdeal.main_v110) = v1 c
          ∧ r.2.mem ((c.tc : Thread Cert.ConvRefIdeal.nD Cert.ConvRefIdeal.τ).loc Cert.ConvRefIdeal.main_v114) = v2 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3))

def preserves_Prep_PrepIdeal : Prop :=
  True

def algebraic_PrepIdeal_PrepRefIdeal_pre_prep_finite [hPrepIdeal : Cert.PrepIdeal.Facts] [hPrepRefIdeal : Cert.PrepRefIdeal.Facts] [hPre_prep_finite : Cert.Pre_prep_finite.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal_prep_finite m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)
      ∧ m' ((c.tc : Thread Cert.PrepRefIdeal.nD Cert.PrepRefIdeal.τ).loc Cert.PrepRefIdeal.main_arg6) = m ((c.tc : Thread Cert.PrepIdeal.nD Cert.PrepIdeal.τ).loc Cert.PrepIdeal.main_arg6)
      ∧ m' ((c.tc : Thread Cert.PrepRefIdeal.nD Cert.PrepRefIdeal.τ).loc Cert.PrepRefIdeal.main_arg7) = m ((c.tc : Thread Cert.PrepIdeal.nD Cert.PrepIdeal.τ).loc Cert.PrepIdeal.main_arg7)
      ∧ m' ((c.tc : Thread Cert.PrepRefIdeal.nD Cert.PrepRefIdeal.τ).loc Cert.PrepRefIdeal.main_arg8) = m ((c.tc : Thread Cert.PrepIdeal.nD Cert.PrepIdeal.τ).loc Cert.PrepIdeal.main_arg8)) →
    ∃ (v0 : (c : Dev Cert.PrepIdeal.nD) → Buf (Elt Ideal) ((c.tc : Thread Cert.PrepIdeal.nD Cert.PrepIdeal.τ).loc Cert.PrepIdeal.main_v48_0)) (v1 : (c : Dev Cert.PrepIdeal.nD) → Buf (Elt Ideal) ((c.tc : Thread Cert.PrepIdeal.nD Cert.PrepIdeal.τ).loc Cert.PrepIdeal.main_v49)) (v2 : (c : Dev Cert.PrepIdeal.nD) → Buf (Elt Ideal) ((c.tc : Thread Cert.PrepIdeal.nD Cert.PrepIdeal.τ).loc Cert.PrepIdeal.main_v50)) (v3 : (c : Dev Cert.PrepIdeal.nD) → Buf (Elt Ideal) ((c.tc : Thread Cert.PrepIdeal.nD Cert.PrepIdeal.τ).loc Cert.PrepIdeal.main_v51)) (v4 : (c : Dev Cert.PrepIdeal.nD) → Buf (Elt Ideal) ((c.tc : Thread Cert.PrepIdeal.nD Cert.PrepIdeal.τ).loc Cert.PrepIdeal.main_v48_4)) (v5 : (c : Dev Cert.PrepIdeal.nD) → Buf (Elt Ideal) ((c.tc : Thread Cert.PrepIdeal.nD Cert.PrepIdeal.τ).loc Cert.PrepIdeal.main_v48_5)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v48_0) = v0 c
          ∧ r.2.mem ((c.tc : Thread Cert.PrepIdeal.nD Cert.PrepIdeal.τ).loc Cert.PrepIdeal.main_v49) = v1 c
          ∧ r.2.mem ((c.tc : Thread Cert.PrepIdeal.nD Cert.PrepIdeal.τ).loc Cert.PrepIdeal.main_v50) = v2 c
          ∧ r.2.mem ((c.tc : Thread Cert.PrepIdeal.nD Cert.PrepIdeal.τ).loc Cert.PrepIdeal.main_v51) = v3 c
          ∧ r.2.mem ((c.tc : Thread Cert.PrepIdeal.nD Cert.PrepIdeal.τ).loc Cert.PrepIdeal.main_v48_4) = v4 c
          ∧ r.2.mem ((c.tc : Thread Cert.PrepIdeal.nD Cert.PrepIdeal.τ).loc Cert.PrepIdeal.main_v48_5) = v5 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
          ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
          ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v197) = v0 c
          ∧ r.2.mem ((c.tc : Thread Cert.PrepRefIdeal.nD Cert.PrepRefIdeal.τ).loc Cert.PrepRefIdeal.main_v198) = v1 c
          ∧ r.2.mem ((c.tc : Thread Cert.PrepRefIdeal.nD Cert.PrepRefIdeal.τ).loc Cert.PrepRefIdeal.main_v199) = v2 c
          ∧ r.2.mem ((c.tc : Thread Cert.PrepRefIdeal.nD Cert.PrepRefIdeal.τ).loc Cert.PrepRefIdeal.main_v200) = v3 c
          ∧ r.2.mem ((c.tc : Thread Cert.PrepRefIdeal.nD Cert.PrepRefIdeal.τ).loc Cert.PrepRefIdeal.main_v201) = v4 c
          ∧ r.2.mem ((c.tc : Thread Cert.PrepRefIdeal.nD Cert.PrepRefIdeal.τ).loc Cert.PrepRefIdeal.main_v202) = v5 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6)
          ∧ r.2.mem ((c.tc : Thread Cert.PrepRefIdeal.nD Cert.PrepRefIdeal.τ).loc Cert.PrepRefIdeal.main_arg7) = m' ((c.tc : Thread Cert.PrepRefIdeal.nD Cert.PrepRefIdeal.τ).loc Cert.PrepRefIdeal.main_arg7)
          ∧ r.2.mem ((c.tc : Thread Cert.PrepRefIdeal.nD Cert.PrepRefIdeal.τ).loc Cert.PrepRefIdeal.main_arg8) = m' ((c.tc : Thread Cert.PrepRefIdeal.nD Cert.PrepRefIdeal.τ).loc Cert.PrepRefIdeal.main_arg8))

def preserves_Attn_AttnIdeal : Prop :=
  IdealRules.named_const.Statement Cert.AttnIdeal.κ "scale_log2" .f32 0x3E16C740#32 (((3424635 / 33554432) * (Real.log 2)⁻¹ : ℝ) : EReal)
  ∧ IdealRules.named_const.Statement Cert.AttnIdeal.κ "mask" .f32 0xF149F2CA#32 ⊥

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v48_0)) (v1 : (c : Dev Cert.AttnIdeal.nD) → Buf (Elt Ideal) ((c.tc : Thread Cert.AttnIdeal.nD Cert.AttnIdeal.τ).loc Cert.AttnIdeal.main_v48_1)) (v2 : (c : Dev Cert.AttnIdeal.nD) → Buf (Elt Ideal) ((c.tc : Thread Cert.AttnIdeal.nD Cert.AttnIdeal.τ).loc Cert.AttnIdeal.main_v48_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v48_0) = v0 c
          ∧ r.2.mem ((c.tc : Thread Cert.AttnIdeal.nD Cert.AttnIdeal.τ).loc Cert.AttnIdeal.main_v48_1) = v1 c
          ∧ r.2.mem ((c.tc : Thread Cert.AttnIdeal.nD Cert.AttnIdeal.τ).loc Cert.AttnIdeal.main_v48_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v67) = v0 c
          ∧ r.2.mem ((c.tc : Thread Cert.AttnRefIdeal.nD Cert.AttnRefIdeal.τ).loc Cert.AttnRefIdeal.main_v69) = v1 c
          ∧ r.2.mem ((c.tc : Thread Cert.AttnRefIdeal.nD Cert.AttnRefIdeal.τ).loc Cert.AttnRefIdeal.main_v71) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Up_UpIdeal : Prop :=
  IdealRules.named_const.Statement Cert.UpIdeal.κ "gelu_ca" .f32 0x3D122279#32 ((80338380498831 / 2251799813685248 : ℝ) : EReal)

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)) →
    ∃ (v0 : (c : Dev Cert.UpIdeal.nD) → Buf (Elt Ideal) ((c.tc : Thread Cert.UpIdeal.nD Cert.UpIdeal.τ).loc Cert.UpIdeal.main_v13_0)) (v1 : (c : Dev Cert.UpIdeal.nD) → Buf (Elt Ideal) ((c.tc : Thread Cert.UpIdeal.nD Cert.UpIdeal.τ).loc Cert.UpIdeal.main_v13_1)) (v2 : (c : Dev Cert.UpIdeal.nD) → Buf (Elt Ideal) ((c.tc : Thread Cert.UpIdeal.nD Cert.UpIdeal.τ).loc Cert.UpIdeal.main_v13_2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v13_0) = v0 c
          ∧ r.2.mem ((c.tc : Thread Cert.UpIdeal.nD Cert.UpIdeal.τ).loc Cert.UpIdeal.main_v13_1) = v1 c
          ∧ r.2.mem ((c.tc : Thread Cert.UpIdeal.nD Cert.UpIdeal.τ).loc Cert.UpIdeal.main_v13_2) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v29) = v0 c
          ∧ r.2.mem ((c.tc : Thread Cert.UpRefIdeal.nD Cert.UpRefIdeal.τ).loc Cert.UpRefIdeal.main_v32) = v1 c
          ∧ r.2.mem ((c.tc : Thread Cert.UpRefIdeal.nD Cert.UpRefIdeal.τ).loc Cert.UpRefIdeal.main_v47) = v2 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3))

def preserves_AttnF_AttnFIdeal : Prop :=
  IdealRules.named_const.Statement Cert.AttnFIdeal.κ "mask" .f32 0xF149F2CA#32 ⊥
  ∧ IdealRules.named_const.Statement Cert.AttnFIdeal.κ "scale_log2" .f32 0x3E16C740#32 (((3424635 / 33554432) * (Real.log 2)⁻¹ : ℝ) : EReal)
  ∧ IdealRules.named_const.Statement Cert.AttnFIdeal.κ "log2_e" .f32 0x3FB8AA3B#32 (((Real.log 2)⁻¹ : ℝ) : EReal)

def algebraic_AttnFIdeal_AttnFRefIdeal_pre_attnf_finite [hAttnFIdeal : Cert.AttnFIdeal.Facts] [hAttnFRefIdeal : Cert.AttnFRefIdeal.Facts] [hPre_attnf_finite : Cert.Pre_attnf_finite.Facts] : Prop :=
  ∀ (m : (ℓ : Loc Cert.AttnFIdeal.nD Cert.AttnFIdeal.τ Cert.AttnFIdeal.sig) → Buf (Elt Ideal) ℓ) (g : Dev Cert.AttnFIdeal.nD → PrngReg)
    (m' : (ℓ : Loc Cert.AttnFRefIdeal.nD Cert.AttnFRefIdeal.τ Cert.AttnFRefIdeal.sig) → Buf (Elt Ideal) ℓ) (g' : Dev Cert.AttnFRefIdeal.nD → PrngReg), Pre_AttnFIdeal_attnf_finite m →
    (∀ c : Dev Cert.AttnFIdeal.nD,
      m' ((c.tc : Thread Cert.AttnFRefIdeal.nD Cert.AttnFRefIdeal.τ).loc Cert.AttnFRefIdeal.main_arg0) = m ((c.tc : Thread Cert.AttnFIdeal.nD Cert.AttnFIdeal.τ).loc Cert.AttnFIdeal.main_arg0)
      ∧ m' ((c.tc : Thread Cert.AttnFRefIdeal.nD Cert.AttnFRefIdeal.τ).loc Cert.AttnFRefIdeal.main_arg1) = m ((c.tc : Thread Cert.AttnFIdeal.nD Cert.AttnFIdeal.τ).loc Cert.AttnFIdeal.main_arg1)
      ∧ m' ((c.tc : Thread Cert.AttnFRefIdeal.nD Cert.AttnFRefIdeal.τ).loc Cert.AttnFRefIdeal.main_arg2) = m ((c.tc : Thread Cert.AttnFIdeal.nD Cert.AttnFIdeal.τ).loc Cert.AttnFIdeal.main_arg2)) →
    ∃ (v0 : (c : Dev Cert.AttnFIdeal.nD) → Buf (Elt Ideal) ((c.tc : Thread Cert.AttnFIdeal.nD Cert.AttnFIdeal.τ).loc Cert.AttnFIdeal.main_v15_0)) (v1 : (c : Dev Cert.AttnFIdeal.nD) → Buf (Elt Ideal) ((c.tc : Thread Cert.AttnFIdeal.nD Cert.AttnFIdeal.τ).loc Cert.AttnFIdeal.main_v15_1)) (v2 : (c : Dev Cert.AttnFIdeal.nD) → Buf (Elt Ideal) ((c.tc : Thread Cert.AttnFIdeal.nD Cert.AttnFIdeal.τ).loc Cert.AttnFIdeal.main_v15_2)),
      θ_run (Cert.AttnFIdeal.defs (F := Ideal)) (onTc (τ := Cert.AttnFIdeal.τ) (Cert.AttnFIdeal.main (F := Ideal))) ⟨m, fun _ => 0, g⟩ (fun r => ∀ c : Dev Cert.AttnFIdeal.nD,
          r.2.mem ((c.tc : Thread Cert.AttnFIdeal.nD Cert.AttnFIdeal.τ).loc Cert.AttnFIdeal.main_v15_0) = v0 c
          ∧ r.2.mem ((c.tc : Thread Cert.AttnFIdeal.nD Cert.AttnFIdeal.τ).loc Cert.AttnFIdeal.main_v15_1) = v1 c
          ∧ r.2.mem ((c.tc : Thread Cert.AttnFIdeal.nD Cert.AttnFIdeal.τ).loc Cert.AttnFIdeal.main_v15_2) = v2 c
          ∧ r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
          ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1)
          ∧ r.2.mem ((c.tc : Thread Cert.AttnFIdeal.nD Cert.AttnFIdeal.τ).loc Cert.AttnFIdeal.main_arg2) = m ((c.tc : Thread Cert.AttnFIdeal.nD Cert.AttnFIdeal.τ).loc Cert.AttnFIdeal.main_arg2))
      ∧ θ_run (Cert.AttnFRefIdeal.defs (F := Ideal)) (onTc (τ := Cert.AttnFRefIdeal.τ) (Cert.AttnFRefIdeal.main (F := Ideal))) ⟨m', fun _ => 0, g'⟩ (fun r => ∀ c : Dev Cert.AttnFRefIdeal.nD,
          r.2.mem ((c.tc : Thread Cert.AttnFRefIdeal.nD Cert.AttnFRefIdeal.τ).loc Cert.AttnFRefIdeal.main_v23) = v0 c
          ∧ r.2.mem ((c.tc : Thread Cert.AttnFRefIdeal.nD Cert.AttnFRefIdeal.τ).loc Cert.AttnFRefIdeal.main_v37) = v1 c
          ∧ r.2.mem ((c.tc : Thread Cert.AttnFRefIdeal.nD Cert.AttnFRefIdeal.τ).loc Cert.AttnFRefIdeal.main_v38) = v2 c
          ∧ r.2.mem ((c.tc : Thread Cert.AttnFRefIdeal.nD Cert.AttnFRefIdeal.τ).loc Cert.AttnFRefIdeal.main_arg0) = m' ((c.tc : Thread Cert.AttnFRefIdeal.nD Cert.AttnFRefIdeal.τ).loc Cert.AttnFRefIdeal.main_arg0)
          ∧ r.2.mem ((c.tc : Thread Cert.AttnFRefIdeal.nD Cert.AttnFRefIdeal.τ).loc Cert.AttnFRefIdeal.main_arg1) = m' ((c.tc : Thread Cert.AttnFRefIdeal.nD Cert.AttnFRefIdeal.τ).loc Cert.AttnFRefIdeal.main_arg1)
          ∧ r.2.mem ((c.tc : Thread Cert.AttnFRefIdeal.nD Cert.AttnFRefIdeal.τ).loc Cert.AttnFRefIdeal.main_arg2) = m' ((c.tc : Thread Cert.AttnFRefIdeal.nD Cert.AttnFRefIdeal.τ).loc Cert.AttnFRefIdeal.main_arg2))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)) →
    ∃ (v0 : (c : Dev Cert.MixIdeal.nD) → Buf (Elt Ideal) ((c.tc : Thread Cert.MixIdeal.nD Cert.MixIdeal.τ).loc Cert.MixIdeal.main_v14_0)) (v1 : (c : Dev Cert.MixIdeal.nD) → Buf (Elt Ideal) ((c.tc : Thread Cert.MixIdeal.nD Cert.MixIdeal.τ).loc Cert.MixIdeal.main_v14_1)) (v2 : (c : Dev Cert.MixIdeal.nD) → Buf (Elt Ideal) ((c.tc : Thread Cert.MixIdeal.nD Cert.MixIdeal.τ).loc Cert.MixIdeal.main_v14_2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v14_0) = v0 c
          ∧ r.2.mem ((c.tc : Thread Cert.MixIdeal.nD Cert.MixIdeal.τ).loc Cert.MixIdeal.main_v14_1) = v1 c
          ∧ r.2.mem ((c.tc : Thread Cert.MixIdeal.nD Cert.MixIdeal.τ).loc Cert.MixIdeal.main_v14_2) = v2 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v4) = v0 c
          ∧ r.2.mem ((c.tc : Thread Cert.MixRefIdeal.nD Cert.MixRefIdeal.τ).loc Cert.MixRefIdeal.main_v28) = v1 c
          ∧ r.2.mem ((c.tc : Thread Cert.MixRefIdeal.nD Cert.MixRefIdeal.τ).loc Cert.MixRefIdeal.main_v29) = v2 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5))

def preserves_PrepF_PrepFIdeal : Prop :=
  True

def algebraic_PrepFIdeal_PrepFRefIdeal [hPrepFIdeal : Cert.PrepFIdeal.Facts] [hPrepFRefIdeal : Cert.PrepFRefIdeal.Facts] : Prop :=
  ∀ (m : (ℓ : Loc Cert.PrepFIdeal.nD Cert.PrepFIdeal.τ Cert.PrepFIdeal.sig) → Buf (Elt Ideal) ℓ) (g : Dev Cert.PrepFIdeal.nD → PrngReg)
    (m' : (ℓ : Loc Cert.PrepFRefIdeal.nD Cert.PrepFRefIdeal.τ Cert.PrepFRefIdeal.sig) → Buf (Elt Ideal) ℓ) (g' : Dev Cert.PrepFRefIdeal.nD → PrngReg), Pre_PrepFIdeal m →
    (∀ c : Dev Cert.PrepFIdeal.nD,
      m' ((c.tc : Thread Cert.PrepFRefIdeal.nD Cert.PrepFRefIdeal.τ).loc Cert.PrepFRefIdeal.main_arg0) = m ((c.tc : Thread Cert.PrepFIdeal.nD Cert.PrepFIdeal.τ).loc Cert.PrepFIdeal.main_arg0)
      ∧ m' ((c.tc : Thread Cert.PrepFRefIdeal.nD Cert.PrepFRefIdeal.τ).loc Cert.PrepFRefIdeal.main_arg1) = m ((c.tc : Thread Cert.PrepFIdeal.nD Cert.PrepFIdeal.τ).loc Cert.PrepFIdeal.main_arg1)
      ∧ m' ((c.tc : Thread Cert.PrepFRefIdeal.nD Cert.PrepFRefIdeal.τ).loc Cert.PrepFRefIdeal.main_arg2) = m ((c.tc : Thread Cert.PrepFIdeal.nD Cert.PrepFIdeal.τ).loc Cert.PrepFIdeal.main_arg2)
      ∧ m' ((c.tc : Thread Cert.PrepFRefIdeal.nD Cert.PrepFRefIdeal.τ).loc Cert.PrepFRefIdeal.main_arg3) = m ((c.tc : Thread Cert.PrepFIdeal.nD Cert.PrepFIdeal.τ).loc Cert.PrepFIdeal.main_arg3)
      ∧ m' ((c.tc : Thread Cert.PrepFRefIdeal.nD Cert.PrepFRefIdeal.τ).loc Cert.PrepFRefIdeal.main_arg4) = m ((c.tc : Thread Cert.PrepFIdeal.nD Cert.PrepFIdeal.τ).loc Cert.PrepFIdeal.main_arg4)
      ∧ m' ((c.tc : Thread Cert.PrepFRefIdeal.nD Cert.PrepFRefIdeal.τ).loc Cert.PrepFRefIdeal.main_arg5) = m ((c.tc : Thread Cert.PrepFIdeal.nD Cert.PrepFIdeal.τ).loc Cert.PrepFIdeal.main_arg5)) →
    ∃ (v0 : (c : Dev Cert.PrepFIdeal.nD) → Buf (Elt Ideal) ((c.tc : Thread Cert.PrepFIdeal.nD Cert.PrepFIdeal.τ).loc Cert.PrepFIdeal.main_v42_0)) (v1 : (c : Dev Cert.PrepFIdeal.nD) → Buf (Elt Ideal) ((c.tc : Thread Cert.PrepFIdeal.nD Cert.PrepFIdeal.τ).loc Cert.PrepFIdeal.main_v42_1)) (v2 : (c : Dev Cert.PrepFIdeal.nD) → Buf (Elt Ideal) ((c.tc : Thread Cert.PrepFIdeal.nD Cert.PrepFIdeal.τ).loc Cert.PrepFIdeal.main_v42_2)),
      θ_run (Cert.PrepFIdeal.defs (F := Ideal)) (onTc (τ := Cert.PrepFIdeal.τ) (Cert.PrepFIdeal.main (F := Ideal))) ⟨m, fun _ => 0, g⟩ (fun r => ∀ c : Dev Cert.PrepFIdeal.nD,
          r.2.mem ((c.tc : Thread Cert.PrepFIdeal.nD Cert.PrepFIdeal.τ).loc Cert.PrepFIdeal.main_v42_0) = v0 c
          ∧ r.2.mem ((c.tc : Thread Cert.PrepFIdeal.nD Cert.PrepFIdeal.τ).loc Cert.PrepFIdeal.main_v42_1) = v1 c
          ∧ r.2.mem ((c.tc : Thread Cert.PrepFIdeal.nD Cert.PrepFIdeal.τ).loc Cert.PrepFIdeal.main_v42_2) = v2 c
          ∧ r.2.mem ((c.tc : Thread Cert.PrepFIdeal.nD Cert.PrepFIdeal.τ).loc Cert.PrepFIdeal.main_arg0) = m ((c.tc : Thread Cert.PrepFIdeal.nD Cert.PrepFIdeal.τ).loc Cert.PrepFIdeal.main_arg0)
          ∧ r.2.mem ((c.tc : Thread Cert.PrepFIdeal.nD Cert.PrepFIdeal.τ).loc Cert.PrepFIdeal.main_arg1) = m ((c.tc : Thread Cert.PrepFIdeal.nD Cert.PrepFIdeal.τ).loc Cert.PrepFIdeal.main_arg1)
          ∧ r.2.mem ((c.tc : Thread Cert.PrepFIdeal.nD Cert.PrepFIdeal.τ).loc Cert.PrepFIdeal.main_arg2) = m ((c.tc : Thread Cert.PrepFIdeal.nD Cert.PrepFIdeal.τ).loc Cert.PrepFIdeal.main_arg2)
          ∧ r.2.mem ((c.tc : Thread Cert.PrepFIdeal.nD Cert.PrepFIdeal.τ).loc Cert.PrepFIdeal.main_arg3) = m ((c.tc : Thread Cert.PrepFIdeal.nD Cert.PrepFIdeal.τ).loc Cert.PrepFIdeal.main_arg3)
          ∧ r.2.mem ((c.tc : Thread Cert.PrepFIdeal.nD Cert.PrepFIdeal.τ).loc Cert.PrepFIdeal.main_arg4) = m ((c.tc : Thread Cert.PrepFIdeal.nD Cert.PrepFIdeal.τ).loc Cert.PrepFIdeal.main_arg4)
          ∧ r.2.mem ((c.tc : Thread Cert.PrepFIdeal.nD Cert.PrepFIdeal.τ).loc Cert.PrepFIdeal.main_arg5) = m ((c.tc : Thread Cert.PrepFIdeal.nD Cert.PrepFIdeal.τ).loc Cert.PrepFIdeal.main_arg5))
      ∧ θ_run (Cert.PrepFRefIdeal.defs (F := Ideal)) (onTc (τ := Cert.PrepFRefIdeal.τ) (Cert.PrepFRefIdeal.main (F := Ideal))) ⟨m', fun _ => 0, g'⟩ (fun r => ∀ c : Dev Cert.PrepFRefIdeal.nD,
          r.2.mem ((c.tc : Thread Cert.PrepFRefIdeal.nD Cert.PrepFRefIdeal.τ).loc Cert.PrepFRefIdeal.main_v101) = v0 c
          ∧ r.2.mem ((c.tc : Thread Cert.PrepFRefIdeal.nD Cert.PrepFRefIdeal.τ).loc Cert.PrepFRefIdeal.main_v103) = v1 c
          ∧ r.2.mem ((c.tc : Thread Cert.PrepFRefIdeal.nD Cert.PrepFRefIdeal.τ).loc Cert.PrepFRefIdeal.main_v105) = v2 c
          ∧ r.2.mem ((c.tc : Thread Cert.PrepFRefIdeal.nD Cert.PrepFRefIdeal.τ).loc Cert.PrepFRefIdeal.main_arg0) = m' ((c.tc : Thread Cert.PrepFRefIdeal.nD Cert.PrepFRefIdeal.τ).loc Cert.PrepFRefIdeal.main_arg0)
          ∧ r.2.mem ((c.tc : Thread Cert.PrepFRefIdeal.nD Cert.PrepFRefIdeal.τ).loc Cert.PrepFRefIdeal.main_arg1) = m' ((c.tc : Thread Cert.PrepFRefIdeal.nD Cert.PrepFRefIdeal.τ).loc Cert.PrepFRefIdeal.main_arg1)
          ∧ r.2.mem ((c.tc : Thread Cert.PrepFRefIdeal.nD Cert.PrepFRefIdeal.τ).loc Cert.PrepFRefIdeal.main_arg2) = m' ((c.tc : Thread Cert.PrepFRefIdeal.nD Cert.PrepFRefIdeal.τ).loc Cert.PrepFRefIdeal.main_arg2)
          ∧ r.2.mem ((c.tc : Thread Cert.PrepFRefIdeal.nD Cert.PrepFRefIdeal.τ).loc Cert.PrepFRefIdeal.main_arg3) = m' ((c.tc : Thread Cert.PrepFRefIdeal.nD Cert.PrepFRefIdeal.τ).loc Cert.PrepFRefIdeal.main_arg3)
          ∧ r.2.mem ((c.tc : Thread Cert.PrepFRefIdeal.nD Cert.PrepFRefIdeal.τ).loc Cert.PrepFRefIdeal.main_arg4) = m' ((c.tc : Thread Cert.PrepFRefIdeal.nD Cert.PrepFRefIdeal.τ).loc Cert.PrepFRefIdeal.main_arg4)
          ∧ r.2.mem ((c.tc : Thread Cert.PrepFRefIdeal.nD Cert.PrepFRefIdeal.τ).loc Cert.PrepFRefIdeal.main_arg5) = m' ((c.tc : Thread Cert.PrepFRefIdeal.nD Cert.PrepFRefIdeal.τ).loc Cert.PrepFRefIdeal.main_arg5))

def Claim : Prop :=
  ∃ (hLn1 : Cert.Ln1.Facts) (hLn1Ideal : Cert.Ln1Ideal.Facts) (hLn1RefIdeal : Cert.Ln1RefIdeal.Facts) (hLoss : Cert.Loss.Facts) (hLossIdeal : Cert.LossIdeal.Facts) (hLossRefIdeal : Cert.LossRefIdeal.Facts) (hConv : Cert.Conv.Facts) (hConvIdeal : Cert.ConvIdeal.Facts) (hConvRefIdeal : Cert.ConvRefIdeal.Facts) (hPrep : Cert.Prep.Facts) (hPrepIdeal : Cert.PrepIdeal.Facts) (hPrepRefIdeal : Cert.PrepRefIdeal.Facts) (hAttn : Cert.Attn.Facts) (hAttnIdeal : Cert.AttnIdeal.Facts) (hAttnRefIdeal : Cert.AttnRefIdeal.Facts) (hUp : Cert.Up.Facts) (hUpIdeal : Cert.UpIdeal.Facts) (hUpRefIdeal : Cert.UpRefIdeal.Facts) (hAttnF : Cert.AttnF.Facts) (hAttnFIdeal : Cert.AttnFIdeal.Facts) (hAttnFRefIdeal : Cert.AttnFRefIdeal.Facts) (hMix : Cert.Mix.Facts) (hMixIdeal : Cert.MixIdeal.Facts) (hMixRefIdeal : Cert.MixRefIdeal.Facts) (hPrepF : Cert.PrepF.Facts) (hPrepFIdeal : Cert.PrepFIdeal.Facts) (hPrepFRefIdeal : Cert.PrepFRefIdeal.Facts) (hPre_ln1_finite : Cert.Pre_ln1_finite.Facts) (hPre_loss_finite : Cert.Pre_loss_finite.Facts) (hPre_conv_finite : Cert.Pre_conv_finite.Facts) (hPre_prep_finite : Cert.Pre_prep_finite.Facts) (hPre_attn_finite : Cert.Pre_attn_finite.Facts) (hPre_attnf_finite : Cert.Pre_attnf_finite.Facts),
    quiescent_Ln1 (hLn1 := hLn1)
    ∧ quiescent_Ln1Ideal (hLn1Ideal := hLn1Ideal)
    ∧ quiescent_Ln1Ideal_pre_ln1_finite (hLn1Ideal := hLn1Ideal) (hPre_ln1_finite := hPre_ln1_finite)
    ∧ quiescent_Ln1RefIdeal (hLn1RefIdeal := hLn1RefIdeal)
    ∧ quiescent_Ln1RefIdeal_pre_ln1_finite (hLn1RefIdeal := hLn1RefIdeal) (hPre_ln1_finite := hPre_ln1_finite)
    ∧ quiescent_Loss (hLoss := hLoss)
    ∧ quiescent_LossIdeal (hLossIdeal := hLossIdeal)
    ∧ quiescent_LossIdeal_pre_loss_finite (hLossIdeal := hLossIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_Conv (hConv := hConv)
    ∧ quiescent_ConvIdeal (hConvIdeal := hConvIdeal)
    ∧ quiescent_ConvIdeal_pre_conv_finite (hConvIdeal := hConvIdeal) (hPre_conv_finite := hPre_conv_finite)
    ∧ quiescent_ConvRefIdeal (hConvRefIdeal := hConvRefIdeal)
    ∧ quiescent_ConvRefIdeal_pre_conv_finite (hConvRefIdeal := hConvRefIdeal) (hPre_conv_finite := hPre_conv_finite)
    ∧ quiescent_Prep (hPrep := hPrep)
    ∧ quiescent_PrepIdeal (hPrepIdeal := hPrepIdeal)
    ∧ quiescent_PrepIdeal_pre_prep_finite (hPrepIdeal := hPrepIdeal) (hPre_prep_finite := hPre_prep_finite)
    ∧ quiescent_PrepRefIdeal (hPrepRefIdeal := hPrepRefIdeal)
    ∧ quiescent_PrepRefIdeal_pre_prep_finite (hPrepRefIdeal := hPrepRefIdeal) (hPre_prep_finite := hPre_prep_finite)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Up (hUp := hUp)
    ∧ quiescent_UpIdeal (hUpIdeal := hUpIdeal)
    ∧ quiescent_UpRefIdeal (hUpRefIdeal := hUpRefIdeal)
    ∧ quiescent_AttnF (hAttnF := hAttnF)
    ∧ quiescent_AttnFIdeal (hAttnFIdeal := hAttnFIdeal)
    ∧ quiescent_AttnFIdeal_pre_attnf_finite (hAttnFIdeal := hAttnFIdeal) (hPre_attnf_finite := hPre_attnf_finite)
    ∧ quiescent_AttnFRefIdeal (hAttnFRefIdeal := hAttnFRefIdeal)
    ∧ quiescent_AttnFRefIdeal_pre_attnf_finite (hAttnFRefIdeal := hAttnFRefIdeal) (hPre_attnf_finite := hPre_attnf_finite)
    ∧ quiescent_Mix (hMix := hMix)
    ∧ quiescent_MixIdeal (hMixIdeal := hMixIdeal)
    ∧ quiescent_MixRefIdeal (hMixRefIdeal := hMixRefIdeal)
    ∧ quiescent_PrepF (hPrepF := hPrepF)
    ∧ quiescent_PrepFIdeal (hPrepFIdeal := hPrepFIdeal)
    ∧ quiescent_PrepFRefIdeal (hPrepFRefIdeal := hPrepFRefIdeal)
    ∧ preserves_Ln1_Ln1Ideal
    ∧ algebraic_Ln1Ideal_Ln1RefIdeal_pre_ln1_finite (hLn1Ideal := hLn1Ideal) (hLn1RefIdeal := hLn1RefIdeal) (hPre_ln1_finite := hPre_ln1_finite)
    ∧ preserves_Loss_LossIdeal
    ∧ algebraic_LossIdeal_LossRefIdeal_pre_loss_finite (hLossIdeal := hLossIdeal) (hLossRefIdeal := hLossRefIdeal) (hPre_loss_finite := hPre_loss_finite)
    ∧ preserves_Conv_ConvIdeal
    ∧ algebraic_ConvIdeal_ConvRefIdeal_pre_conv_finite (hConvIdeal := hConvIdeal) (hConvRefIdeal := hConvRefIdeal) (hPre_conv_finite := hPre_conv_finite)
    ∧ preserves_Prep_PrepIdeal
    ∧ algebraic_PrepIdeal_PrepRefIdeal_pre_prep_finite (hPrepIdeal := hPrepIdeal) (hPrepRefIdeal := hPrepRefIdeal) (hPre_prep_finite := hPre_prep_finite)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Up_UpIdeal
    ∧ algebraic_UpIdeal_UpRefIdeal (hUpIdeal := hUpIdeal) (hUpRefIdeal := hUpRefIdeal)
    ∧ preserves_AttnF_AttnFIdeal
    ∧ algebraic_AttnFIdeal_AttnFRefIdeal_pre_attnf_finite (hAttnFIdeal := hAttnFIdeal) (hAttnFRefIdeal := hAttnFRefIdeal) (hPre_attnf_finite := hPre_attnf_finite)
    ∧ preserves_Mix_MixIdeal
    ∧ algebraic_MixIdeal_MixRefIdeal (hMixIdeal := hMixIdeal) (hMixRefIdeal := hMixRefIdeal)
    ∧ preserves_PrepF_PrepFIdeal
    ∧ algebraic_PrepFIdeal_PrepFRefIdeal (hPrepFIdeal := hPrepFIdeal) (hPrepFRefIdeal := hPrepFRefIdeal)
-- ==== Pre_attn_finite.lean ====
abbrev S4096x8x96 : Shape := ⟨3, ![4096, 8, 96]⟩
abbrev S4096x8x64 : Shape := ⟨3, ![4096, 8, 64]⟩
abbrev S4096x512 : Shape := ⟨2, ![4096, 512]⟩
abbrev S_ : Shape := ⟨0, ![]⟩

class Facts : Prop where
  bcast_S_S4096x8x96 : S_.BroadcastsInDim S4096x8x96 (![] : Fin 0 → Fin S4096x8x96.rank)
  bcast_S_S4096x8x64 : S_.BroadcastsInDim S4096x8x64 (![] : Fin 0 → Fin S4096x8x64.rank)
  bcast_S_S4096x512 : S_.BroadcastsInDim S4096x512 (![] : Fin 0 → Fin S4096x512.rank)

variable [Facts]

def fn {F : FTy → Type} [FloatOps F] (main_arg0 : FVec F S4096x8x96 .f32) (main_arg1 : FVec F S4096x8x96 .f32) (main_arg2 : FVec F S4096x8x64 .f32) (main_arg3 : FVec F S4096x512 .f32) : IVec S4096x8x96 1 × IVec S4096x8x96 1 × IVec S4096x8x64 1 × IVec S4096x512 1 :=
  let main_v0 : FVec F S4096x8x96 .f32 := Host.absf main_arg0
  let main_cst : FVec F S_ .f32 := constant S_ .f32 0x7F800000#32
  let main_v1 : FVec F S4096x8x96 .f32 := broadcastInDim S4096x8x96 ![] bcast_S_S4096x8x96 main_cst
  let main_v2 : IVec S4096x8x96 1 := cmpf .olt main_v0 main_v1
  let main_v3 : FVec F S4096x8x96 .f32 := Host.absf main_arg1
  let main_cst_0 : FVec F S_ .f32 := constant S_ .f32 0x7F800000#32
  let main_v4 : FVec F S4096x8x96 .f32 := broadcastInDim S4096x8x96 ![] bcast_S_S4096x8x96 main_cst_0
  let main_v5 : IVec S4096x8x96 1 := cmpf .olt main_v3 main_v4
  let main_v6 : FVec F S4096x8x64 .f32 := Host.absf main_arg2
  let main_cst_1 : FVec F S_ .f32 := constant S_ .f32 0x7F800000#32
  let main_v7 : FVec F S4096x8x64 .f32 := broadcastInDim S4096x8x64 ![] bcast_S_S4096x8x64 main_cst_1
  let main_v8 : IVec S4096x8x64 1 := cmpf .olt main_v6 main_v7
  let main_v9 : FVec F S4096x512 .f32 := Host.absf main_arg3
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  (main_v2, main_v5, main_v8, main_v11)
-- ==== Pre_attnf_finite.lean ====
abbrev S4096x8x96 : Shape := ⟨3, ![4096, 8, 96]⟩
abbrev S4096x8x64 : Shape := ⟨3, ![4096, 8, 64]⟩
abbrev S_ : Shape := ⟨0, ![]⟩

class Facts : Prop where
  bcast_S_S4096x8x96 : S_.BroadcastsInDim S4096x8x96 (![] : Fin 0 → Fin S4096x8x96.rank)
  bcast_S_S4096x8x64 : S_.BroadcastsInDim S4096x8x64 (![] : Fin 0 → Fin S4096x8x64.rank)

variable [Facts]

def fn {F : FTy → Type} [FloatOps F] (main_arg0 : FVec F S4096x8x96 .f32) (main_arg1 : FVec F S4096x8x96 .f32) (main_arg2 : FVec F S4096x8x64 .f32) : IVec S4096x8x96 1 × IVec S4096x8x96 1 × IVec S4096x8x64 1 :=
  let main_v0 : FVec F S4096x8x96 .f32 := Host.absf main_arg0
  let main_cst : FVec F S_ .f32 := constant S_ .f32 0x7F800000#32
  let main_v1 : FVec F S4096x8x96 .f32 := broadcastInDim S4096x8x96 ![] bcast_S_S4096x8x96 main_cst
  let main_v2 : IVec S4096x8x96 1 := cmpf .olt main_v0 main_v1
  let main_v3 : FVec F S4096x8x96 .f32 := Host.absf main_arg1
  let main_cst_0 : FVec F S_ .f32 := constant S_ .f32 0x7F800000#32
  let main_v4 : FVec F S4096x8x96 .f32 := broadcastInDim S4096x8x96 ![] bcast_S_S4096x8x96 main_cst_0
  let main_v5 : IVec S4096x8x96 1 := cmpf .olt main_v3 main_v4
  let main_v6 : FVec F S4096x8x64 .f32 := Host.absf main_arg2
  let main_cst_1 : FVec F S_ .f32 := constant S_ .f32 0x7F800000#32
  let main_v7 : FVec F S4096x8x64 .f32 := broadcastInDim S4096x8x64 ![] bcast_S_S4096x8x64 main_cst_1
  let main_v8 : IVec S4096x8x64 1 := cmpf .olt main_v6 main_v7
  (main_v2, main_v5, main_v8)
-- ==== Pre_conv_finite.lean ====
abbrev S4096x5632 : Shape := ⟨2, ![4096, 5632]⟩
abbrev S3x5632 : Shape := ⟨2, ![3, 5632]⟩
abbrev S5632 : Shape := ⟨1, ![5632]⟩
abbrev S4096x2816 : Shape := ⟨2, ![4096, 2816]⟩
abbrev S_ : Shape := ⟨0, ![]⟩

class Facts : Prop where
  bcast_S_S4096x5632 : S_.BroadcastsInDim S4096x5632 (![] : Fin 0 → Fin S4096x5632.rank)
  bcast_S_S3x5632 : S_.BroadcastsInDim S3x5632 (![] : Fin 0 → Fin S3x5632.rank)
  bcast_S_S5632 : S_.BroadcastsInDim S5632 (![] : Fin 0 → Fin S5632.rank)
  bitsLt_bf16_f32 : FTy.bits .bf16 < FTy.bits .f32
  bcast_S_S4096x2816 : S_.BroadcastsInDim S4096x2816 (![] : Fin 0 → Fin S4096x2816.rank)

variable [Facts]

def fn {F : FTy → Type} [FloatOps F] (main_arg0 : FVec F S4096x5632 .f32) (main_arg1 : FVec F S3x5632 .f32) (main_arg2 : FVec F S5632 .f32) (main_arg3 : FVec F S4096x2816 .bf16) : IVec S4096x5632 1 × IVec S3x5632 1 × IVec S5632 1 × IVec S4096x2816 1 :=
  let main_v0 : FVec F S4096x5632 .f32 := Host.absf main_arg0
  let main_cst : FVec F S_ .f32 := constant S_ .f32 0x7F800000#32
  let main_v1 : FVec F S4096x5632 .f32 := broadcastInDim S4096x5632 ![] bcast_S_S4096x5632 main_cst
  let main_v2 : IVec S4096x5632 1 := cmpf .olt main_v0 main_v1
  let main_v3 : FVec F S3x5632 .f32 := Host.absf main_arg1
  let main_cst_0 : FVec F S_ .f32 := constant S_ .f32 0x7F800000#32
  let main_v4 : FVec F S3x5632 .f32 := broadcastInDim S3x5632 ![] bcast_S_S3x5632 main_cst_0
  let main_v5 : IVec S3x5632 1 := cmpf .olt main_v3 main_v4
  let main_v6 : FVec F S5632 .f32 := Host.absf main_arg2
  let main_cst_1 : FVec F S_ .f32 := constant S_ .f32 0x7F800000#32
  let main_v7 : FVec F S5632 .f32 := broadcastInDim S5632 ![] bcast_S_S5632 main_cst_1
  let main_v8 : IVec S5632 1 := cmpf .olt main_v6 main_v7
  let main_v9 : FVec F S4096x2816 .f32 := (extf .f32 · bitsLt_bf16_f32) main_arg3
  let main_v10 : FVec F S4096x2816 .f32 := Host.absf main_v9
  let main_cst_2 : FVec F S_ .f32 := constant S_ .f32 0x7F800000#32
  let main_v11 : FVec F S4096x2816 .f32 := broadcastInDim S4096x2816 ![] bcast_S_S4096x2816 main_cst_2
  let main_v12 : IVec S4096x2816 1 := cmpf .olt main_v10 main_v11
  (main_v2, main_v5, main_v8, main_v12)
-- ==== Pre_ln1_finite.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x5632 : S_.BroadcastsInDim S1024x5632 (![] : Fin 0 → Fin S1024x5632.rank)
  bitsLt_bf16_f32 : FTy.bits .bf16 < FTy.bits .f32
  bcast_S_S4096x5632 : S_.BroadcastsInDim S4096x5632 (![] : Fin 0 → Fin S4096x5632.rank)

variable [Facts]

def fn_part1 {F : FTy → Type} [FloatOps F] (main_v2 : IVec S4096x1024 1) (main_v5 : IVec S4096x1024 1) (main_v8 : IVec S1024 1) (main_v11 : IVec S1024x5632 1) (main_v15 : IVec S4096x5632 1) (main_v16 : FVec F S4096x1024 .f32) (main_v17 : FVec F S4096x1024 .f32) : IVec S4096x1024 1 × IVec S4096x1024 1 × IVec S1024 1 × IVec S1024x5632 1 × IVec S4096x5632 1 × IVec S4096x1024 1 :=
  let main_v18 : IVec S4096x1024 1 := cmpf .olt main_v16 main_v17
  (main_v2, main_v5, main_v8, main_v11, main_v15, main_v18)

def fn {F : FTy → Type} [FloatOps F] (main_arg0 : FVec F S4096x1024 .f32) (main_arg1 : FVec F S4096x1024 .f32) (main_arg2 : FVec F S1024 .f32) (main_arg3 : FVec F S1024x5632 .f32) (main_arg4 : FVec F S4096x5632 .bf16) (main_arg5 : FVec F S4096x1024 .f32) : IVec S4096x1024 1 × IVec S4096x1024 1 × IVec S1024 1 × IVec S1024x5632 1 × IVec S4096x5632 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x5632 .f32 := Host.absf main_arg3
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_v12 : FVec F S4096x5632 .f32 := (extf .f32 · bitsLt_bf16_f32) main_arg4
  let main_v13 : FVec F S4096x5632 .f32 := Host.absf main_v12
  let main_cst_3 : FVec F S_ .f32 := constant S_ .f32 0x7F800000#32
  let main_v14 : FVec F S4096x5632 .f32 := broadcastInDim S4096x5632 ![] bcast_S_S4096x5632 main_cst_3
  let main_v15 : IVec S4096x5632 1 := cmpf .olt main_v13 main_v14
  let main_v16 : FVec F S4096x1024 .f32 := Host.absf main_arg5
  let main_cst_4 : FVec F S_ .f32 := constant S_ .f32 0x7F800000#32
  let main_v17 : FVec F S4096x1024 .f32 := broadcastInDim S4096x1024 ![] bcast_S_S4096x1024 main_cst_4
  fn_part1 (F := F) main_v2 main_v5 main_v8 main_v11 main_v15 main_v16 main_v17
-- ==== Pre_loss_finite.lean ====
abbrev S4096x1024 : Shape := ⟨2, ![4096, 1024]⟩
abbrev S4096x2816 : Shape := ⟨2, ![4096, 2816]⟩
abbrev S2816x1024 : Shape := ⟨2, ![2816, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bitsLt_bf16_f32 : FTy.bits .bf16 < FTy.bits .f32
  bcast_S_S4096x2816 : S_.BroadcastsInDim S4096x2816 (![] : Fin 0 → Fin S4096x2816.rank)
  bcast_S_S2816x1024 : S_.BroadcastsInDim S2816x1024 (![] : Fin 0 → Fin S2816x1024.rank)
  bcast_S_S1024 : S_.BroadcastsInDim S1024 (![] : Fin 0 → Fin S1024.rank)

variable [Facts]

def fn_part1 {F : FTy → Type} [FloatOps F] (main_v2 : IVec S4096x1024 1) (main_v6 : IVec S4096x2816 1) (main_v9 : IVec S2816x1024 1) (main_v12 : IVec S1024 1) (main_v15 : IVec S1024 1) (main_v16 : FVec F S4096x1024 .f32) (main_v17 : FVec F S4096x1024 .f32) : IVec S4096x1024 1 × IVec S4096x2816 1 × IVec S2816x1024 1 × IVec S1024 1 × IVec S1024 1 × IVec S4096x1024 1 :=
  let main_v18 : IVec S4096x1024 1 := cmpf .olt main_v16 main_v17
  (main_v2, main_v6, main_v9, main_v12, main_v15, main_v18)

def fn {F : FTy → Type} [FloatOps F] (main_arg0 : FVec F S4096x1024 .f32) (main_arg1 : FVec F S4096x2816 .bf16) (main_arg2 : FVec F S2816x1024 .f32) (main_arg3 : FVec F S1024 .f32) (main_arg4 : FVec F S1024 .f32) (main_arg5 : FVec F S4096x1024 .f32) : IVec S4096x1024 1 × IVec S4096x2816 1 × IVec S2816x1024 1 × IVec S1024 1 × IVec S1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x2816 .f32 := (extf .f32 · bitsLt_bf16_f32) main_arg1
  let main_v4 : FVec F S4096x2816 .f32 := Host.absf main_v3
  let main_cst_0 : FVec F S_ .f32 := constant S_ .f32 0x7F800000#32
  let main_v5 : FVec F S4096x2816 .f32 := broadcastInDim S4096x2816 ![] bcast_S_S4096x2816 main_cst_0
  let main_v6 : IVec S4096x2816 1 := cmpf .olt main_v4 main_v5
  let main_v7 : FVec F S2816x1024 .f32 := Host.absf main_arg2
  let main_cst_1 : FVec F S_ .f32 := constant S_ .f32 0x7F800000#32
  let main_v8 : FVec F S2816x1024 .f32 := broadcastInDim S2816x1024 ![] bcast_S_S2816x1024 main_cst_1
  let main_v9 : IVec S2816x1024 1 := cmpf .olt main_v7 main_v8
  let main_v10 : FVec F S1024 .f32 := Host.absf main_arg3
  let main_cst_2 : FVec F S_ .f32 := constant S_ .f32 0x7F800000#32
  let main_v11 : FVec F S1024 .f32 := broadcastInDim S1024 ![] bcast_S_S1024 main_cst_2
  let main_v12 : IVec S1024 1 := cmpf .olt main_v10 main_v11
  let main_v13 : FVec F S1024 .f32 := Host.absf main_arg4
  let main_cst_3 : FVec F S_ .f32 := constant S_ .f32 0x7F800000#32
  let main_v14 : FVec F S1024 .f32 := broadcastInDim S1024 ![] bcast_S_S1024 main_cst_3
  let main_v15 : IVec S1024 1 := cmpf .olt main_v13 main_v14
  let main_v16 : FVec F S4096x1024 .f32 := Host.absf main_arg5
  let main_cst_4 : FVec F S_ .f32 := constant S_ .f32 0x7F800000#32
  let main_v17 : FVec F S4096x1024 .f32 := broadcastInDim S4096x1024 ![] bcast_S_S4096x1024 main_cst_4
  fn_part1 (F := F) main_v2 main_v6 main_v9 main_v12 main_v15 main_v16 main_v17
-- ==== Pre_prep_finite.lean ====
abbrev S4096x1952 : Shape := ⟨2, ![4096, 1952]⟩
abbrev S256 : Shape := ⟨1, ![256]⟩
abbrev S128 : Shape := ⟨1, ![128]⟩
abbrev S256x8x96 : Shape := ⟨3, ![256, 8, 96]⟩
abbrev S128x8x64 : Shape := ⟨3, ![128, 8, 64]⟩
abbrev S4096x8x96 : Shape := ⟨3, ![4096, 8, 96]⟩
abbrev S4096x8x64 : Shape := ⟨3, ![4096, 8, 64]⟩
abbrev S_ : Shape := ⟨0, ![]⟩

class Facts : Prop where
  bcast_S_S4096x1952 : S_.BroadcastsInDim S4096x1952 (![] : Fin 0 → Fin S4096x1952.rank)
  bcast_S_S256 : S_.BroadcastsInDim S256 (![] : Fin 0 → Fin S256.rank)
  bcast_S_S128 : S_.BroadcastsInDim S128 (![] : Fin 0 → Fin S128.rank)
  bcast_S_S256x8x96 : S_.BroadcastsInDim S256x8x96 (![] : Fin 0 → Fin S256x8x96.rank)
  bcast_S_S128x8x64 : S_.BroadcastsInDim S128x8x64 (![] : Fin 0 → Fin S128x8x64.rank)
  bcast_S_S4096x8x96 : S_.BroadcastsInDim S4096x8x96 (![] : Fin 0 → Fin S4096x8x96.rank)
  bcast_S_S4096x8x64 : S_.BroadcastsInDim S4096x8x64 (![] : Fin 0 → Fin S4096x8x64.rank)

variable [Facts]

def fn_part1 {F : FTy → Type} [FloatOps F] (main_arg6 : FVec F S4096x8x96 .f32) (main_arg7 : FVec F S4096x8x96 .f32) (main_arg8 : FVec F S4096x8x64 .f32) (main_v2 : IVec S4096x1952 1) (main_v5 : IVec S256 1) (main_v8 : IVec S128 1) (main_v11 : IVec S256x8x96 1) (main_v14 : IVec S128x8x64 1) (main_v17 : IVec S128x8x64 1) : IVec S4096x1952 1 × IVec S256 1 × IVec S128 1 × IVec S256x8x96 1 × IVec S128x8x64 1 × IVec S128x8x64 1 × IVec S4096x8x96 1 × IVec S4096x8x96 1 × IVec S4096x8x64 1 :=
  let main_v18 : FVec F S4096x8x96 .f32 := Host.absf main_arg6
  let main_cst_5 : FVec F S_ .f32 := constant S_ .f32 0x7F800000#32
  let main_v19 : FVec F S4096x8x96 .f32 := broadcastInDim S4096x8x96 ![] bcast_S_S4096x8x96 main_cst_5
  let main_v20 : IVec S4096x8x96 1 := cmpf .olt main_v18 main_v19
  let main_v21 : FVec F S4096x8x96 .f32 := Host.absf main_arg7
  let main_cst_6 : FVec F S_ .f32 := constant S_ .f32 0x7F800000#32
  let main_v22 : FVec F S4096x8x96 .f32 := broadcastInDim S4096x8x96 ![] bcast_S_S4096x8x96 main_cst_6
  let main_v23 : IVec S4096x8x96 1 := cmpf .olt main_v21 main_v22
  let main_v24 : FVec F S4096x8x64 .f32 := Host.absf main_arg8
  let main_cst_7 : FVec F S_ .f32 := constant S_ .f32 0x7F800000#32
  let main_v25 : FVec F S4096x8x64 .f32 := broadcastInDim S4096x8x64 ![] bcast_S_S4096x8x64 main_cst_7
  let main_v26 : IVec S4096x8x64 1 := cmpf .olt main_v24 main_v25
  (main_v2, main_v5, main_v8, main_v11, main_v14, main_v17, main_v20, main_v23, main_v26)

def fn {F : FTy → Type} [FloatOps F] (main_arg0 : FVec F S4096x1952 .f32) (main_arg1 : FVec F S256 .f32) (main_arg2 : FVec F S128 .f32) (main_arg3 : FVec F S256x8x96 .f32) (main_arg4 : FVec F S128x8x64 .f32) (main_arg5 : FVec F S128x8x64 .f32) (main_arg6 : FVec F S4096x8x96 .f32) (main_arg7 : FVec F S4096x8x96 .f32) (main_arg8 : FVec F S4096x8x64 .f32) : IVec S4096x1952 1 × IVec S256 1 × IVec S128 1 × IVec S256x8x96 1 × IVec S128x8x64 1 × IVec S128x8x64 1 × IVec S4096x8x96 1 × IVec S4096x8x96 1 × IVec S4096x8x64 1 :=
  let main_v0 : FVec F S4096x1952 .f32 := Host.absf main_arg0
  let main_cst : FVec F S_ .f32 := constant S_ .f32 0x7F800000#32
  let main_v1 : FVec F S4096x1952 .f32 := broadcastInDim S4096x1952 ![] bcast_S_S4096x1952 main_cst
  let main_v2 : IVec S4096x1952 1 := cmpf .olt main_v0 main_v1
  let main_v3 : FVec F S256 .f32 := Host.absf main_arg1
  let main_cst_0 : FVec F S_ .f32 := constant S_ .f32 0x7F800000#32
  let main_v4 : FVec F S256 .f32 := broadcastInDim S256 ![] bcast_S_S256 main_cst_0
  let main_v5 : IVec S256 1 := cmpf .olt main_v3 main_v4
  let main_v6 : FVec F S128 .f32 := Host.absf main_arg2
  let main_cst_1 : FVec F S_ .f32 := constant S_ .f32 0x7F800000#32
  let main_v7 : FVec F S128 .f32 := broadcastInDim S128 ![] bcast_S_S128 main_cst_1
  let main_v8 : IVec S128 1 := cmpf .olt main_v6 main_v7
  let main_v9 : FVec F S256x8x96 .f32 := Host.absf main_arg3
  let main_cst_2 : FVec F S_ .f32 := constant S_ .f32 0x7F800000#32
  let main_v10 : FVec F S256x8x96 .f32 := broadcastInDim S256x8x96 ![] bcast_S_S256x8x96 main_cst_2
  let main_v11 : IVec S256x8x96 1 := cmpf .olt main_v9 main_v10
  let main_v12 : FVec F S128x8x64 .f32 := Host.absf main_arg4
  let main_cst_3 : FVec F S_ .f32 := constant S_ .f32 0x7F800000#32
  let main_v13 : FVec F S128x8x64 .f32 := broadcastInDim S128x8x64 ![] bcast_S_S128x8x64 main_cst_3
  let main_v14 : IVec S128x8x64 1 := cmpf .olt main_v12 main_v13
  let main_v15 : FVec F S128x8x64 .f32 := Host.absf main_arg5
  let main_cst_4 : FVec F S_ .f32 := constant S_ .f32 0x7F800000#32
  let main_v16 : FVec F S128x8x64 .f32 := broadcastInDim S128x8x64 ![] bcast_S_S128x8x64 main_cst_4
  let main_v17 : IVec S128x8x64 1 := cmpf .olt main_v15 main_v16
  fn_part1 (F := F) main_arg6 main_arg7 main_arg8 main_v2 main_v5 main_v8 main_v11 main_v14 main_v17
-- ==== Ln1.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S_ : Shape := ⟨0, ![]⟩
abbrev S5632x1024 : Shape := ⟨2, ![5632, 1024]⟩
abbrev S2x11x256x1024 : Shape := ⟨4, ![2, 11, 256, 1024]⟩
abbrev S11x2x256x1024 : Shape := ⟨4, ![11, 2, 256, 1024]⟩
abbrev S4096x2x11x256 : Shape := ⟨4, ![4096, 2, 11, 256]⟩
abbrev S4096x11x2x256 : Shape := ⟨4, ![4096, 11, 2, 256]⟩
abbrev S1x1024 : Shape := ⟨2, ![1, 1024]⟩
abbrev S256x5632 : Shape := ⟨2, ![256, 5632]⟩
abbrev S256x1024 : Shape := ⟨2, ![256, 1024]⟩
abbrev S256 : Shape := ⟨1, ![256]⟩
abbrev S256x1 : Shape := ⟨2, ![256, 1]⟩

abbrev nBuf : Space → Nat
  | .hbm => 23
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x5632, .f32⟩
  | .hbm, ⟨4, _⟩ => ⟨S4096x5632, .bf16⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S5632x1024, .f32⟩
  | .hbm, ⟨11, _⟩ => ⟨S2x11x256x1024, .f32⟩
  | .hbm, ⟨12, _⟩ => ⟨S11x2x256x1024, .f32⟩
  | .hbm, ⟨13, _⟩ => ⟨S5632x1024, .f32⟩
  | .hbm, ⟨14, _⟩ => ⟨S5632x1024, .bf16⟩
  | .hbm, ⟨15, _⟩ => ⟨S4096x2x11x256, .bf16⟩
  | .hbm, ⟨16, _⟩ => ⟨S4096x11x2x256, .bf16⟩
  | .hbm, ⟨17, _⟩ => ⟨S4096x5632, .bf16⟩
  | .hbm, ⟨18, _⟩ => ⟨S1x1024, .f32⟩
  | .hbm, ⟨19, _⟩ => ⟨S4096x1024, .f32⟩
  | .hbm, ⟨20, _⟩ => ⟨S4096x1024, .bf16⟩
  | .hbm, ⟨21, _⟩ => ⟨S1x1024, .f32⟩
  | .hbm, ⟨22, _⟩ => ⟨S1x1024, .f32⟩
  | .local _ .vmem, ⟨0, _⟩ => ⟨S256x5632, .bf16⟩
  | .local _ .vmem, ⟨1, _⟩ => ⟨S256x5632, .bf16⟩
  | .local _ .vmem, ⟨2, _⟩ => ⟨S5632x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v12_2 : Ref sig .tc := ⟨.hbm, 21, rfl⟩
abbrev main_v12_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Ln1RefIdeal.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 105
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x5632, .f32⟩
  | .hbm, ⟨4, _⟩ => ⟨S4096x5632, .bf16⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S4096x5632, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S4096x5632, .f32⟩
  | .hbm, ⟨53, _⟩ => ⟨S_, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S_, .f32⟩
  | .hbm, ⟨62, _⟩ => ⟨S1024, .f32⟩
  | .hbm, ⟨63, _⟩ => ⟨S4096x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S1024, .f32⟩
  | .hbm, ⟨71, _⟩ => ⟨S4096x1024, .f32⟩
  | .hbm, ⟨72, _⟩ => ⟨S_, .f32⟩
  | .hbm, ⟨73, _⟩ => ⟨S4096, .f32⟩
  | .hbm, ⟨74, _⟩ => ⟨S4096x1, .f32⟩
  | .hbm, ⟨75, _⟩ => ⟨S4096x1024, .f32⟩
  | .hbm, ⟨76, _⟩ => ⟨S4096x1024, .f32⟩
  | .hbm, ⟨77, _⟩ => ⟨S4096x1, .f32⟩
  | .hbm, ⟨78, _⟩ => ⟨S4096x1024, .f32⟩
  | .hbm, ⟨79, _⟩ => ⟨S_, .f32⟩
  | .hbm, ⟨80, _⟩ => ⟨S4096, .f32⟩
  | .hbm, ⟨81, _⟩ => ⟨S4096x1, .f32⟩
  | .hbm, ⟨82, _⟩ => ⟨S_, .f32⟩
  | .hbm, ⟨83, _⟩ => ⟨S4096x1, .f32⟩
  | .hbm, ⟨84, _⟩ => ⟨S4096x1, .f32⟩
  | .hbm, ⟨85, _⟩ => ⟨S_, .f32⟩
  | .hbm, ⟨86, _⟩ => ⟨S4096, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S_, .f32⟩
  | .hbm, ⟨91, _⟩ => ⟨S4096, .f32⟩
  | .hbm, ⟨92, _⟩ => ⟨S4096x1, .f32⟩
  | .hbm, ⟨93, _⟩ => ⟨S4096x1024, .f32⟩
  | .hbm, ⟨94, _⟩ => ⟨S4096x1, .f32⟩
  | .hbm, ⟨95, _⟩ => ⟨S_, .f32⟩
  | .hbm, ⟨96, _⟩ => ⟨S4096x1, .f32⟩
  | .hbm, ⟨97, _⟩ => ⟨S4096x1, .f32⟩
  | .hbm, ⟨98, _⟩ => ⟨S_, .f32⟩
  | .hbm, ⟨99, _⟩ => ⟨S4096, .f32⟩
  | .hbm, ⟨100, _⟩ => ⟨S4096x1024, .f32⟩
  | .hbm, ⟨101, _⟩ => ⟨S4096x1024, .f32⟩
  | .hbm, ⟨102, _⟩ => ⟨S4096x1024, .bf16⟩
  | .hbm, ⟨103, _⟩ => ⟨S1x1024, .f32⟩
  | .hbm, ⟨104, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_v14 : Ref sig .tc := ⟨.hbm, 26, rfl⟩
abbrev main_cst_5 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_7 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_10 : Ref sig .tc := ⟨.hbm, 58, rfl⟩
abbrev main_v41 : Ref sig .tc := ⟨.hbm, 59, rfl⟩
abbrev main_v42 : Ref sig .tc := ⟨.hbm, 60, rfl⟩
abbrev main_cst_11 : Ref sig .tc := ⟨.hbm, 61, rfl⟩
abbrev main_v43 : Ref sig .tc := ⟨.hbm, 62, rfl⟩
abbrev main_v44 : Ref sig .tc := ⟨.hbm, 63, rfl⟩
abbrev main_cst_12 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_13 : Ref sig .tc := ⟨.hbm, 69, rfl⟩
abbrev main_v49 : Ref sig .tc := ⟨.hbm, 70, rfl⟩
abbrev main_v50 : Ref sig .tc := ⟨.hbm, 71, rfl⟩
abbrev main_cst_14 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_15 : Ref sig .tc := ⟨.hbm, 79, rfl⟩
abbrev main_v57 : Ref sig .tc := ⟨.hbm, 80, rfl⟩
abbrev main_v58 : Ref sig .tc := ⟨.hbm, 81, rfl⟩
abbrev main_cst_16 : Ref sig .tc := ⟨.hbm, 82, rfl⟩
abbrev main_v59 : Ref sig .tc := ⟨.hbm, 83, rfl⟩
abbrev main_v60 : Ref sig .tc := ⟨.hbm, 84, rfl⟩
abbrev main_cst_17 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_18 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_19 : Ref sig .tc := ⟨.hbm, 95, rfl⟩
abbrev main_v69 : Ref sig .tc := ⟨.hbm, 96, rfl⟩
abbrev main_v70 : Ref sig .tc := ⟨.hbm, 97, rfl⟩
abbrev main_cst_20 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩

abbrev nD : Nat := 1
abbrev τ : Topo := Topo.v7x

variable {F : FTy → Type} [FloatOps F]
-- ==== Loss.lean ====
abbrev S4096x1024 : Shape := ⟨2, ![4096, 1024]⟩
abbrev S4096x2816 : Shape := ⟨2, ![4096, 2816]⟩
abbrev S2816x1024 : Shape := ⟨2, ![2816, 1024]⟩
abbrev S1024 : Shape := ⟨1, ![1024]⟩
abbrev S1x1024 : Shape := ⟨2, ![1, 1024]⟩
abbrev S1x128 : Shape := ⟨2, ![1, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 14
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x2816, .bf16⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S4096x1024, .f32⟩
  | .hbm, ⟨6, _⟩ => ⟨S2816x1024, .bf16⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S4096x1024, .bf16⟩
  | .hbm, ⟨11, _⟩ => ⟨S1x128, .f32⟩
  | .hbm, ⟨12, _⟩ => ⟨S1x1024, .f32⟩
  | .hbm, ⟨13, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x128, .f32⟩
  | .local _ .vmem, ⟨14, _⟩ => ⟨S1x1024, .f32⟩
  | .local _ .vmem, ⟨15, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== LossRefIdeal.lean ====
abbrev S4096x1024 : Shape := ⟨2, ![4096, 1024]⟩
abbrev S4096x2816 : Shape := ⟨2, ![4096, 2816]⟩
abbrev S2816x1024 : Shape := ⟨2, ![2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x128 : Shape := ⟨2, ![1, 128]⟩

abbrev nBuf : Space → Nat
  | .hbm => 119
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .bf16⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x2816, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096, .f32⟩
  | .hbm, ⟨55, _⟩ => ⟨S_, .f32⟩
  | .hbm, ⟨56, _⟩ => ⟨S4096, .f32⟩
  | .hbm, ⟨57, _⟩ => ⟨S4096, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S4096, .f32⟩
  | .hbm, ⟨66, _⟩ => ⟨S_, .f32⟩
  | .hbm, ⟨67, _⟩ => ⟨S4096, .f32⟩
  | .hbm, ⟨68, _⟩ => ⟨S4096, .f32⟩
  | .hbm, ⟨69, _⟩ => ⟨S4096x1024, .f32⟩
  | .hbm, ⟨70, _⟩ => ⟨S4096x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S_, .f32⟩
  | .hbm, ⟨75, _⟩ => ⟨S1024, .f32⟩
  | .hbm, ⟨76, _⟩ => ⟨S4096x1024, .f32⟩
  | .hbm, ⟨77, _⟩ => ⟨S_, .f32⟩
  | .hbm, ⟨78, _⟩ => ⟨S1024, .f32⟩
  | .hbm, ⟨79, _⟩ => ⟨S1x1024, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S1024, .f32⟩
  | .hbm, ⟨84, _⟩ => ⟨S4096x1024, .f32⟩
  | .hbm, ⟨85, _⟩ => ⟨S_, .f32⟩
  | .hbm, ⟨86, _⟩ => ⟨S4096, .f32⟩
  | .hbm, ⟨87, _⟩ => ⟨S4096x1, .f32⟩
  | .hbm, ⟨88, _⟩ => ⟨S4096x1024, .f32⟩
  | .hbm, ⟨89, _⟩ => ⟨S4096x1024, .f32⟩
  | .hbm, ⟨90, _⟩ => ⟨S4096x1, .f32⟩
  | .hbm, ⟨91, _⟩ => ⟨S4096x1024, .f32⟩
  | .hbm, ⟨92, _⟩ => ⟨S_, .f32⟩
  | .hbm, ⟨93, _⟩ => ⟨S4096, .f32⟩
  | .hbm, ⟨94, _⟩ => ⟨S4096x1, .f32⟩
  | .hbm, ⟨95, _⟩ => ⟨S_, .f32⟩
  | .hbm, ⟨96, _⟩ => ⟨S4096x1, .f32⟩
  | .hbm, ⟨97, _⟩ => ⟨S4096x1, .f32⟩
  | .hbm, ⟨98, _⟩ => ⟨S_, .f32⟩
  | .hbm, ⟨99, _⟩ => ⟨S4096, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S_, .f32⟩
  | .hbm, ⟨104, _⟩ => ⟨S4096, .f32⟩
  | .hbm, ⟨105, _⟩ => ⟨S4096x1, .f32⟩
  | .hbm, ⟨106, _⟩ => ⟨S4096x1024, .f32⟩
  | .hbm, ⟨107, _⟩ => ⟨S4096x1, .f32⟩
  | .hbm, ⟨108, _⟩ => ⟨S_, .f32⟩
  | .hbm, ⟨109, _⟩ => ⟨S4096x1, .f32⟩
  | .hbm, ⟨110, _⟩ => ⟨S4096x1, .f32⟩
  | .hbm, ⟨111, _⟩ => ⟨S_, .f32⟩
  | .hbm, ⟨112, _⟩ => ⟨S4096, .f32⟩
  | .hbm, ⟨113, _⟩ => ⟨S4096x1024, .f32⟩
  | .hbm, ⟨114, _⟩ => ⟨S4096x1024, .f32⟩
  | .hbm, ⟨115, _⟩ => ⟨S4096x1024, .bf16⟩
  | .hbm, ⟨116, _⟩ => ⟨S1x128, .f32⟩
  | .hbm, ⟨117, _⟩ => ⟨S1x1024, .f32⟩
  | .hbm, ⟨118, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_cst_10 : Ref sig .tc := ⟨.hbm, 58, rfl⟩
abbrev main_v41 : Ref sig .tc := ⟨.hbm, 59, rfl⟩
abbrev main_cst_11 : Ref sig .tc := ⟨.hbm, 60, rfl⟩
abbrev main_v42 : Ref sig .tc := ⟨.hbm, 61, rfl⟩
abbrev main_cst_12 : Ref sig .tc := ⟨.hbm, 62, rfl⟩
abbrev main_cst_13 : Ref sig .tc := ⟨.hbm, 63, rfl⟩
abbrev main_v43 : Ref sig .tc := ⟨.hbm, 64, rfl⟩
abbrev main_v44 : Ref sig .tc := ⟨.hbm, 65, rfl⟩
abbrev main_cst_14 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_15 : Ref sig .tc := ⟨.hbm, 71, rfl⟩
abbrev main_v49 : Ref sig .tc := ⟨.hbm, 72, rfl⟩
abbrev main_v50 : Ref sig .tc := ⟨.hbm, 73, rfl⟩
abbrev main_cst_16 : Ref sig .tc := ⟨.hbm, 74, rfl⟩
abbrev main_v51 : Ref sig .tc := ⟨.hbm, 75, rfl⟩
abbrev main_v52 : Ref sig .tc := ⟨.hbm, 76, rfl⟩
abbrev main_cst_17 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_18 : Ref sig .tc := ⟨.hbm, 82, rfl⟩
abbrev main_v57 : Ref sig .tc := ⟨.hbm, 83, rfl⟩
abbrev main_v58 : Ref sig .tc := ⟨.hbm, 84, rfl⟩
abbrev main_cst_19 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_20 : Ref sig .tc := ⟨.hbm, 92, rfl⟩
abbrev main_v65 : Ref sig .tc := ⟨.hbm, 93, rfl⟩
abbrev main_v66 : Ref sig .tc := ⟨.hbm, 94, rfl⟩
abbrev main_cst_21 : Ref sig .tc := ⟨.hbm, 95, rfl⟩
abbrev main_v67 : Ref sig .tc := ⟨.hbm, 96, rfl⟩
abbrev main_v68 : Ref sig .tc := ⟨.hbm, 97, rfl⟩
abbrev main_cst_22 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_23 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_24 : Ref sig .tc := ⟨.hbm, 108, rfl⟩
abbrev main_v77 : Ref sig .tc := ⟨.hbm, 109, rfl⟩
abbrev main_v78 : Ref sig .tc := ⟨.hbm, 110, rfl⟩
abbrev main_cst_25 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩

abbrev nD : Nat := 1
abbrev τ : Topo := Topo.v7x

variable {F : FTy → Type} [FloatOps F]
-- ==== Conv.lean ====
abbrev S4096x5632 : Shape := ⟨2, ![4096, 5632]⟩
abbrev S3x5632 : Shape := ⟨2, ![3, 5632]⟩
abbrev S5632 : Shape := ⟨1, ![5632]⟩
abbrev S4096x2816 : Shape := ⟨2, ![4096, 2816]⟩
abbrev S1x5632 : Shape := ⟨2, ![1, 5632]⟩
abbrev S_ : Shape := ⟨0, ![]⟩
abbrev S4098x5632 : Shape := ⟨2, ![4098, 5632]⟩
abbrev S4097x5632 : Shape := ⟨2, ![4097, 5632]⟩
abbrev S4096x2x11x256 : Shape := ⟨4, ![4096, 2, 11, 256]⟩
abbrev S4096x11x2x256 : Shape := ⟨4, ![4096, 11, 2, 256]⟩
abbrev S3x2x11x256 : Shape := ⟨4, ![3, 2, 11, 256]⟩
abbrev S3x11x2x256 : Shape := ⟨4, ![3, 11, 2, 256]⟩
abbrev S1024x512 : Shape := ⟨2, ![1024, 512]⟩
abbrev S16x512 : Shape := ⟨2, ![16, 512]⟩
abbrev S1024x256 : Shape := ⟨2, ![1024, 256]⟩
abbrev S16x256 : Shape := ⟨2, ![16, 256]⟩
abbrev S3x512 : Shape := ⟨2, ![3, 512]⟩
abbrev S1x512 : Shape := ⟨2, ![1, 512]⟩
abbrev S1040x512 : Shape := ⟨2, ![1040, 512]⟩
abbrev S1040x256 : Shape := ⟨2, ![1040, 256]⟩
abbrev S512 : Shape := ⟨1, ![512]⟩

abbrev nBuf : Space → Nat
  | .hbm => 50
  | .vmem => 18
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S5632, .f32⟩
  | .hbm, ⟨3, _⟩ => ⟨S4096x2816, .bf16⟩
  | .hbm, ⟨4, _⟩ => ⟨S1x5632, .f32⟩
  | .hbm, ⟨5, _⟩ => ⟨S5632, .f32⟩
  | .hbm, ⟨6, _⟩ => ⟨S_, .i32⟩
  | .hbm, ⟨7, _⟩ => ⟨S_, .f32⟩
  | .hbm, ⟨8, _⟩ => ⟨S4098x5632, .f32⟩
  | .hbm, ⟨9, _⟩ => ⟨S4096x5632, .f32⟩
  | .hbm, ⟨10, _⟩ => ⟨S1x5632, .f32⟩
  | .hbm, ⟨11, _⟩ => ⟨S4096x5632, .f32⟩
  | .hbm, ⟨12, _⟩ => ⟨S4096x5632, .f32⟩
  | .hbm, ⟨13, _⟩ => ⟨S_, .f32⟩
  | .hbm, ⟨14, _⟩ => ⟨S4096x5632, .f32⟩
  | .hbm, ⟨15, _⟩ => ⟨S4096x5632, .f32⟩
  | .hbm, ⟨16, _⟩ => ⟨S1x5632, .f32⟩
  | .hbm, ⟨17, _⟩ => ⟨S5632, .f32⟩
  | .hbm, ⟨18, _⟩ => ⟨S_, .i32⟩
  | .hbm, ⟨19, _⟩ => ⟨S_, .f32⟩
  | .hbm, ⟨20, _⟩ => ⟨S4097x5632, .f32⟩
  | .hbm, ⟨21, _⟩ => ⟨S4096x5632, .f32⟩
  | .hbm, ⟨22, _⟩ => ⟨S1x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S1x5632, .f32⟩
  | .hbm, ⟨27, _⟩ => ⟨S5632, .f32⟩
  | .hbm, ⟨28, _⟩ => ⟨S_, .i32⟩
  | .hbm, ⟨29, _⟩ => ⟨S_, .f32⟩
  | .hbm, ⟨30, _⟩ => ⟨S4096x5632, .f32⟩
  | .hbm, ⟨31, _⟩ => ⟨S1x5632, .f32⟩
  | .hbm, ⟨32, _⟩ => ⟨S4096x5632, .f32⟩
  | .hbm, ⟨33, _⟩ => ⟨S4096x5632, .f32⟩
  | .hbm, ⟨34, _⟩ => ⟨S4096x5632, .f32⟩
  | .hbm, ⟨35, _⟩ => ⟨S1x5632, .f32⟩
  | .hbm, ⟨36, _⟩ => ⟨S4096x5632, .f32⟩
  | .hbm, ⟨37, _⟩ => ⟨S4096x5632, .f32⟩
  | .hbm, ⟨38, _⟩ => ⟨S4096x2x11x256, .f32⟩
  | .hbm, ⟨39, _⟩ => ⟨S4096x11x2x256, .f32⟩
  | .hbm, ⟨40, _⟩ => ⟨S4096x5632, .f32⟩
  | .hbm, ⟨41, _⟩ => ⟨S4096x2x11x256, .f32⟩
  | .hbm, ⟨42, _⟩ => ⟨S4096x11x2x256, .f32⟩
  | .hbm, ⟨43, _⟩ => ⟨S4096x5632, .f32⟩
  | .hbm, ⟨44, _⟩ => ⟨S3x2x11x256, .f32⟩
  | .hbm, ⟨45, _⟩ => ⟨S3x11x2x256, .f32⟩
  | .hbm, ⟨46, _⟩ => ⟨S3x5632, .f32⟩
  | .hbm, ⟨47, _⟩ => ⟨S4096x5632, .bf16⟩
  | .hbm, ⟨48, _⟩ => ⟨S3x5632, .f32⟩
  | .hbm, ⟨49, _⟩ => ⟨S1x5632, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S16x512, .f32⟩
  | .local _ .vmem, ⟨5, _⟩ => ⟨S16x512, .f32⟩
  | .local _ .vmem, ⟨6, _⟩ => ⟨S1024x256, .bf16⟩
  | .local _ .vmem, ⟨7, _⟩ => ⟨S1024x256, .bf16⟩
  | .local _ .vmem, ⟨8, _⟩ => ⟨S16x256, .bf16⟩
  | .local _ .vmem, ⟨9, _⟩ => ⟨S16x256, .bf16⟩
  | .local _ .vmem, ⟨10, _⟩ => ⟨S3x512, .f32⟩
  | .local _ .vmem, ⟨11, _⟩ => ⟨S3x512, .f32⟩
  | .local _ .vmem, ⟨12, _⟩ => ⟨S1024x512, .bf16⟩
  | .local _ .vmem, ⟨13, _⟩ => ⟨S1024x512, .bf16⟩
  | .local _ .vmem, ⟨14, _⟩ => ⟨S3x512, .f32⟩
  | .local _ .vmem, ⟨15, _⟩ => ⟨S3x512, .f32⟩
  | .local _ .vmem, ⟨16, _⟩ => ⟨S1x512, .f32⟩
  | .local _ .vmem, ⟨17, _⟩ => ⟨S1x512, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_call1_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_1 : Ref sig .tc := ⟨.hbm, 28, rfl⟩
abbrev main_call2_v0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36_0 : Ref sig .tc := ⟨.hbm, 47, rfl⟩
abbrev main_v36_1 : Ref sig .tc := ⟨.hbm, 48, rfl⟩
abbrev main_v36_2 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  ![v2.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S3x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ConvIdeal.lean ====
variable {F : FTy → Type} [FloatOps F] [Named F]
def κ : String → Option EReal := fun
  | "gelu_6ca" => some ((241015141496493 / 1125899906842624 : ℝ) : EReal)
  | "gelu_ca" => some ((80338380498831 / 2251799813685248 : ℝ) : EReal)
  | _ => none
-- ==== ConvRefIdeal.lean ====
abbrev S4096x5632 : Shape := ⟨2, ![4096, 5632]⟩
abbrev S3x5632 : Shape := ⟨2, ![3, 5632]⟩
abbrev S5632 : Shape := ⟨1, ![5632]⟩
abbrev S4096x2816 : Shape := ⟨2, ![4096, 2816]⟩
abbrev S_ : Shape := ⟨0, ![]⟩
abbrev S2x5632 : Shape := ⟨2, ![2, 5632]⟩
abbrev S4098x5632 : Shape := ⟨2, ![4098, 5632]⟩
abbrev S1x5632 : Shape := ⟨2, ![1, 5632]⟩
abbrev S4096x2x11x256 : Shape := ⟨4, ![4096, 2, 11, 256]⟩
abbrev S4096x11x2x256 : Shape := ⟨4, ![4096, 11, 2, 256]⟩
abbrev S3x2x11x256 : Shape := ⟨4, ![3, 2, 11, 256]⟩
abbrev S3x11x2x256 : Shape := ⟨4, ![3, 11, 2, 256]⟩
abbrev S1x2x11x256 : Shape := ⟨4, ![1, 2, 11, 256]⟩
abbrev S1x11x2x256 : Shape := ⟨4, ![1, 11, 2, 256]⟩

abbrev nBuf : Space → Nat
  | .hbm => 147
  | .vmem => 0
  | .smem => 0
  | _ => 0

abbrev hbmTy0_0 (i : Nat) : BufTy := match i % 128 with
  | 0 => ⟨S4096x5632, .f32⟩
  | 1 => ⟨S3x5632, .f32⟩
  | 2 => ⟨S5632, .f32⟩
  | 3 => ⟨S4096x2816, .bf16⟩
  | 4 => ⟨S_, .f32⟩
  | 5 => ⟨S2x5632, .f32⟩
  | 6 => ⟨S4098x5632, .f32⟩
  | 7 => ⟨S_, .f32⟩
  | 8 => ⟨S2x5632, .f32⟩
  | 9 => ⟨S4096x5632, .f32⟩
  | 10 => ⟨S1x5632, .f32⟩
  | 11 => ⟨S5632, .f32⟩
  | 12 => ⟨S1x5632, .f32⟩
  | 13 => ⟨S4096x5632, .f32⟩
  | 14 => ⟨S4096x5632, .f32⟩
  | 15 => ⟨S1x5632, .f32⟩
  | 16 => ⟨S4096x5632, .f32⟩
  | 17 => ⟨S4096x5632, .f32⟩
  | 18 => ⟨S4096x5632, .f32⟩
  | 19 => ⟨S1x5632, .f32⟩
  | 20 => ⟨S5632, .f32⟩
  | 21 => ⟨S1x5632, .f32⟩
  | 22 => ⟨S4096x5632, .f32⟩
  | 23 => ⟨S4096x5632, .f32⟩
  | 24 => ⟨S4096x5632, .f32⟩
  | 25 => ⟨S4096x5632, .f32⟩
  | 26 => ⟨S1x5632, .f32⟩
  | 27 => ⟨S5632, .f32⟩
  | 28 => ⟨S1x5632, .f32⟩
  | 29 => ⟨S4096x5632, .f32⟩
  | 30 => ⟨S4096x5632, .f32⟩
  | 31 => ⟨S4096x5632, .f32⟩
  | 32 => ⟨S4096x2816, .f32⟩
  | 33 => ⟨S4096x2816, .f32⟩
  | 34 => ⟨S4096x2816, .f32⟩
  | 35 => ⟨S4096x2816, .f32⟩
  | 36 => ⟨S4096x2816, .f32⟩
  | 37 => ⟨S_, .f32⟩
  | 38 => ⟨S4096x2816, .f32⟩
  | 39 => ⟨S4096x2816, .f32⟩
  | 40 => ⟨S_, .f32⟩
  | 41 => ⟨S4096x2816, .f32⟩
  | 42 => ⟨S4096x2816, .f32⟩
  | 43 => ⟨S4096x2816, .f32⟩
  | 44 => ⟨S_, .f32⟩
  | 45 => ⟨S4096x2816, .f32⟩
  | 46 => ⟨S4096x2816, .f32⟩
  | 47 => ⟨S4096x2816, .f32⟩
  | 48 => ⟨S_, .f32⟩
  | 49 => ⟨S4096x2816, .f32⟩
  | 50 => ⟨S4096x2816, .f32⟩
  | 51 => ⟨S_, .f32⟩
  | 52 => ⟨S4096x2816, .f32⟩
  | 53 => ⟨S4096x2816, .f32⟩
  | 54 => ⟨S4096x2816, .f32⟩
  | 55 => ⟨S_, .f32⟩
  | 56 => ⟨S4096x2816, .f32⟩
  | 57 => ⟨S4096x2816, .f32⟩
  | 58 => ⟨S_, .f32⟩
  | 59 => ⟨S4096x2816, .f32⟩
  | 60 => ⟨S4096x2816, .f32⟩
  | 61 => ⟨S4096x2816, .f32⟩
  | 62 => ⟨S4096x2816, .f32⟩
  | 63 => ⟨S4096x2816, .f32⟩
  | 64 => ⟨S4096x2816, .f32⟩
  | 65 => ⟨S4096x2816, .f32⟩
  | 66 => ⟨S4096x2816, .f32⟩
  | 67 => ⟨S4096x2816, .f32⟩
  | 68 => ⟨S_, .f32⟩
  | 69 => ⟨S4096x2816, .f32⟩
  | 70 => ⟨S4096x2816, .f32⟩
  | 71 => ⟨S4096x2816, .f32⟩
  | 72 => ⟨S_, .f32⟩
  | 73 => ⟨S4096x2816, .f32⟩
  | 74 => ⟨S4096x2816, .f32⟩
  | 75 => ⟨S4096x2816, .f32⟩
  | 76 => ⟨S_, .f32⟩
  | 77 => ⟨S4096x2816, .f32⟩
  | 78 => ⟨S4096x2816, .f32⟩
  | 79 => ⟨S4096x2816, .f32⟩
  | 80 => ⟨S4096x2816, .f32⟩
  | 81 => ⟨S_, .f32⟩
  | 82 => ⟨S4096x5632, .f32⟩
  | 83 => ⟨S_, .f32⟩
  | 84 => ⟨S4096x5632, .f32⟩
  | 85 => ⟨S4096x5632, .f32⟩
  | 86 => ⟨S4096x5632, .f32⟩
  | 87 => ⟨S_, .f32⟩
  | 88 => ⟨S5632, .f32⟩
  | 89 => ⟨S1x5632, .f32⟩
  | 90 => ⟨S4096x5632, .f32⟩
  | 91 => ⟨S4096x5632, .f32⟩
  | 92 => ⟨S_, .f32⟩
  | 93 => ⟨S5632, .f32⟩
  | 94 => ⟨S1x5632, .f32⟩
  | 95 => ⟨S_, .f32⟩
  | 96 => ⟨S3x5632, .f32⟩
  | 97 => ⟨S_, .f32⟩
  | 98 => ⟨S4098x5632, .f32⟩
  | 99 => ⟨S4096x5632, .f32⟩
  | 100 => ⟨S_, .f32⟩
  | 101 => ⟨S5632, .f32⟩
  | 102 => ⟨S1x5632, .f32⟩
  | 103 => ⟨S4096x5632, .f32⟩
  | 104 => ⟨S4096x5632, .f32⟩
  | 105 => ⟨S_, .f32⟩
  | 106 => ⟨S5632, .f32⟩
  | 107 => ⟨S1x5632, .f32⟩
  | 108 => ⟨S_, .f32⟩
  | 109 => ⟨S3x5632, .f32⟩
  | 110 => ⟨S3x5632, .f32⟩
  | 111 => ⟨S_, .f32⟩
  | 112 => ⟨S4098x5632, .f32⟩
  | 113 => ⟨S4098x5632, .f32⟩
  | 114 => ⟨S_, .f32⟩
  | 115 => ⟨S5632, .f32⟩
  | 116 => ⟨S1x5632, .f32⟩
  | 117 => ⟨S_, .f32⟩
  | 118 => ⟨S5632, .f32⟩
  | 119 => ⟨S4096x5632, .f32⟩
  | 120 => ⟨S_, .f32⟩
  | 121 => ⟨S5632, .f32⟩
  | 122 => ⟨S1x5632, .f32⟩
  | 123 => ⟨S4096x5632, .f32⟩
  | 124 => ⟨S4096x5632, .f32⟩
  | 125 => ⟨S_, .f32⟩
  | 126 => ⟨S5632, .f32⟩
  | 127 => ⟨S1x5632, .f32⟩
  | _ => ⟨S4096x5632, .f32⟩

abbrev hbmTy0_1 (i : Nat) : BufTy := match i % 128 with
  | 0 => ⟨S_, .f32⟩
  | 1 => ⟨S3x5632, .f32⟩
  | 2 => ⟨S3x5632, .f32⟩
  | 3 => ⟨S_, .f32⟩
  | 4 => ⟨S4098x5632, .f32⟩
  | 5 => ⟨S4098x5632, .f32⟩
  | 6 => ⟨S2x5632, .f32⟩
  | 7 => ⟨S4096x5632, .f32⟩
  | 8 => ⟨S4096x2x11x256, .f32⟩
  | 9 => ⟨S4096x11x2x256, .f32⟩
  | 10 => ⟨S4096x5632, .f32⟩
  | 11 => ⟨S4096x5632, .bf16⟩
  | 12 => ⟨S3x2x11x256, .f32⟩
  | 13 => ⟨S3x11x2x256, .f32⟩
  | 14 => ⟨S3x5632, .f32⟩
  | 15 => ⟨S1x5632, .f32⟩
  | 16 => ⟨S1x2x11x256, .f32⟩
  | 17 => ⟨S1x11x2x256, .f32⟩
  | 18 => ⟨S1x5632, .f32⟩
  | _ => ⟨S4096x5632, .f32⟩

abbrev hbmTy (i : Nat) : BufTy := match i / 128 with
  | 0 => hbmTy0_0 i
  | 1 => hbmTy0_1 i
  | _ => ⟨S4096x5632, .f32⟩

abbrev bufTy : (tb : Table) → Fin (tcTables nBuf tb) → BufTy
  | .hbm, ⟨i, _⟩ => hbmTy i
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_1 : Ref sig .tc := ⟨.hbm, 37, rfl⟩
abbrev main_v31 : Ref sig .tc := ⟨.hbm, 38, rfl⟩
abbrev main_v32 : Ref sig .tc := ⟨.hbm, 39, rfl⟩
abbrev main_cst_2 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_3 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_4 : Ref sig .tc := ⟨.hbm, 48, rfl⟩
abbrev main_v39 : Ref sig .tc := ⟨.hbm, 49, rfl⟩
abbrev main_v40 : Ref sig .tc := ⟨.hbm, 50, rfl⟩
abbrev main_cst_5 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_6 : Ref sig .tc := ⟨.hbm, 55, rfl⟩
abbrev main_v44 : Ref sig .tc := ⟨.hbm, 56, rfl⟩
abbrev main_v45 : Ref sig .tc := ⟨.hbm, 57, rfl⟩
abbrev main_cst_7 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_8 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_9 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_10 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_11 : Ref sig .tc := ⟨.hbm, 81, rfl⟩
abbrev main_v65 : Ref sig .tc := ⟨.hbm, 82, rfl⟩
abbrev main_cst_12 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_13 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_14 : Ref sig .tc := ⟨.hbm, 92, rfl⟩
abbrev main_v73 : Ref sig .tc := ⟨.hbm, 93, rfl⟩
abbrev main_v74 : Ref sig .tc := ⟨.hbm, 94, rfl⟩
abbrev main_cst_15 : Ref sig .tc := ⟨.hbm, 95, rfl⟩
abbrev main_v75 : Ref sig .tc := ⟨.hbm, 96, rfl⟩
abbrev main_cst_16 : Ref sig .tc := ⟨.hbm, 97, rfl⟩
abbrev main_v76 : Ref sig .tc := ⟨.hbm, 98, rfl⟩
abbrev main_v77 : Ref sig .tc := ⟨.hbm, 99, rfl⟩
abbrev main_cst_17 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_cst_18 : Ref sig .tc := ⟨.hbm, 105, rfl⟩
abbrev main_v82 : Ref sig .tc := ⟨.hbm, 106, rfl⟩
abbrev main_v83 : Ref sig .tc := ⟨.hbm, 107, rfl⟩
abbrev main_cst_19 : Ref sig .tc := ⟨.hbm, 108, rfl⟩
abbrev main_v84 : Ref sig .tc := ⟨.hbm, 109, rfl⟩
abbrev main_v85 : Ref sig .tc := ⟨.hbm, 110, rfl⟩
abbrev main_cst_20 : Ref sig .tc := ⟨.hbm, 111, rfl⟩
abbrev main_v86 : Ref sig .tc := ⟨.hbm, 112, rfl⟩
abbrev main_v87 : Ref sig .tc := ⟨.hbm, 113, rfl⟩
abbrev main_cst_21 : Ref sig .tc := ⟨.hbm, 114, rfl⟩
abbrev main_v88 : Ref sig .tc := ⟨.hbm, 115, rfl⟩
abbrev main_v89 : Ref sig .tc := ⟨.hbm, 116, rfl⟩
abbrev main_cst_22 : Ref sig .tc := ⟨.hbm, 117, rfl⟩
abbrev main_v90 : Ref sig .tc := ⟨.hbm, 118, rfl⟩
abbrev main_v91 : Ref sig .tc := ⟨.hbm, 119, rfl⟩
abbrev main_cst_23 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_cst_24 : Ref sig .tc := ⟨.hbm, 125, rfl⟩
abbrev main_v96 : Ref sig .tc := ⟨.hbm, 126, rfl⟩
abbrev main_v97 : Ref sig .tc := ⟨.hbm, 127, rfl⟩
abbrev main_cst_25 : Ref sig .tc := ⟨.hbm, 128, rfl⟩
abbrev main_v98 : Ref sig .tc := ⟨.hbm, 129, rfl⟩
abbrev main_v99 : Ref sig .tc := ⟨.hbm, 130, rfl⟩
abbrev main_cst_26 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩

abbrev nD : Nat := 1
abbrev τ : Topo := Topo.v7x

variable {F : FTy → Type} [FloatOps F]
-- ==== Prep.lean ====
abbrev S4096x1952 : Shape := ⟨2, ![4096, 1952]⟩
abbrev S256 : Shape := ⟨1, ![256]⟩
abbrev S128 : Shape := ⟨1, ![128]⟩
abbrev S256x8x96 : Shape := ⟨3, ![256, 8, 96]⟩
abbrev S128x8x64 : Shape := ⟨3, ![128, 8, 64]⟩
abbrev S4096x8x96 : Shape := ⟨3, ![4096, 8, 96]⟩
abbrev S4096x8x64 : Shape := ⟨3, ![4096, 8, 64]⟩
abbrev S16 : Shape := ⟨1, ![16]⟩
abbrev S_ : Shape := ⟨0, ![]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S4096x32 : Shape := ⟨2, ![4096, 32]⟩
abbrev S4096x128 : Shape := ⟨2, ![4096, 128]⟩
abbrev S8x256x96 : Shape := ⟨3, ![8, 256, 96]⟩
abbrev S8x256x128 : Shape := ⟨3, ![8, 256, 128]⟩
abbrev S8x128x64 : Shape := ⟨3, ![8, 128, 64]⟩
abbrev S8x128x128 : Shape := ⟨3, ![8, 128, 128]⟩
abbrev S1952x4096 : Shape := ⟨2, ![1952, 4096]⟩
abbrev S384x4096 : Shape := ⟨2, ![384, 4096]⟩
abbrev S64x4096 : Shape := ⟨2, ![64, 4096]⟩
abbrev S32x4096 : Shape := ⟨2, ![32, 4096]⟩
abbrev S1536x4096 : Shape := ⟨2, ![1536, 4096]⟩
abbrev S2048x4096 : Shape := ⟨2, ![2048, 4096]⟩
abbrev S4096x2048 : Shape := ⟨2, ![4096, 2048]⟩
abbrev S1x256 : Shape := ⟨2, ![1, 256]⟩
abbrev S1x128 : Shape := ⟨2, ![1, 128]⟩
abbrev S8x4096x96 : Shape := ⟨3, ![8, 4096, 96]⟩
abbrev S8x4096x128 : Shape := ⟨3, ![8, 4096, 128]⟩
abbrev S8x4096x64 : Shape := ⟨3, ![8, 4096, 64]⟩
abbrev S4096x512 : Shape := ⟨2, ![4096, 512]⟩
abbrev S512x512 : Shape := ⟨2, ![512, 512]⟩
abbrev S512x128 : Shape := ⟨2, ![512, 128]⟩
abbrev S8x512x128 : Shape := ⟨3, ![8, 512, 128]⟩
abbrev S512x256 : Shape := ⟨2, ![512, 256]⟩
abbrev S512 : Shape := ⟨1, ![512]⟩
abbrev S512x1 : Shape := ⟨2, ![512, 1]⟩
abbrev S1x512x128 : Shape := ⟨3, ![1, 512, 128]⟩
abbrev S1x256x128 : Shape := ⟨3, ![1, 256, 128]⟩
abbrev S256x128 : Shape := ⟨2, ![256, 128]⟩
abbrev S1x128x128 : Shape := ⟨3, ![1, 128, 128]⟩
abbrev S128x128 : Shape := ⟨2, ![128, 128]⟩

abbrev nBuf : Space → Nat
  | .hbm => 86
  | .vmem => 24
  | .smem => 0
  | _ => 0

abbrev bufTy : (tb : Table) → Fin (tcTables nBuf tb) → BufTy
  | .hbm, ⟨0, _⟩ => ⟨S4096x1952, .f32⟩
  | .hbm, ⟨1, _⟩ => ⟨S256, .f32⟩
  | .hbm, ⟨2, _⟩ => ⟨S128, .f32⟩
  | .hbm, ⟨3, _⟩ => ⟨S256x8x96, .f32⟩
  | .hbm, ⟨4, _⟩ => ⟨S128x8x64, .f32⟩
  | .hbm, ⟨5, _⟩ => ⟨S128x8x64, .f32⟩
  | .hbm, ⟨6, _⟩ => ⟨S4096x8x96, .f32⟩
  | .hbm, ⟨7, _⟩ => ⟨S4096x8x96, .f32⟩
  | .hbm, ⟨8, _⟩ => ⟨S4096x8x64, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S4096, .f32⟩
  | .hbm, ⟨18, _⟩ => ⟨S4096x1, .f32⟩
  | .hbm, ⟨19, _⟩ => ⟨S1x16, .f32⟩
  | .hbm, ⟨20, _⟩ => ⟨S4096x16, .f32⟩
  | .hbm, ⟨21, _⟩ => ⟨S4096x16, .f32⟩
  | .hbm, ⟨22, _⟩ => ⟨S4096x16, .f32⟩
  | .hbm, ⟨23, _⟩ => ⟨S4096x16, .f32⟩
  | .hbm, ⟨24, _⟩ => ⟨S4096x16, .f32⟩
  | .hbm, ⟨25, _⟩ => ⟨S_, .f32⟩
  | .hbm, ⟨26, _⟩ => ⟨S4096x64, .f32⟩
  | .hbm, ⟨27, _⟩ => ⟨S_, .f32⟩
  | .hbm, ⟨28, _⟩ => ⟨S4096x32, .f32⟩
  | .hbm, ⟨29, _⟩ => ⟨S4096x128, .f32⟩
  | .hbm, ⟨30, _⟩ => ⟨S_, .f32⟩
  | .hbm, ⟨31, _⟩ => ⟨S4096x64, .f32⟩
  | .hbm, ⟨32, _⟩ => ⟨S4096x64, .f32⟩
  | .hbm, ⟨33, _⟩ => ⟨S4096x16, .f32⟩
  | .hbm, ⟨34, _⟩ => ⟨S_, .f32⟩
  | .hbm, ⟨35, _⟩ => ⟨S4096x32, .f32⟩
  | .hbm, ⟨36, _⟩ => ⟨S4096x32, .f32⟩
  | .hbm, ⟨37, _⟩ => ⟨S4096x128, .f32⟩
  | .hbm, ⟨38, _⟩ => ⟨S8x256x96, .f32⟩
  | .hbm, ⟨39, _⟩ => ⟨S_, .i32⟩
  | .hbm, ⟨40, _⟩ => ⟨S_, .f32⟩
  | .hbm, ⟨41, _⟩ => ⟨S8x256x128, .f32⟩
  | .hbm, ⟨42, _⟩ => ⟨S8x256x128, .bf16⟩
  | .hbm, ⟨43, _⟩ => ⟨S8x128x64, .f32⟩
  | .hbm, ⟨44, _⟩ => ⟨S_, .i32⟩
  | .hbm, ⟨45, _⟩ => ⟨S_, .f32⟩
  | .hbm, ⟨46, _⟩ => ⟨S8x128x128, .f32⟩
  | .hbm, ⟨47, _⟩ => ⟨S8x128x128, .bf16⟩
  | .hbm, ⟨48, _⟩ => ⟨S8x128x64, .f32⟩
  | .hbm, ⟨49, _⟩ => ⟨S_, .i32⟩
  | .hbm, ⟨50, _⟩ => ⟨S_, .f32⟩
  | .hbm, ⟨51, _⟩ => ⟨S8x128x128, .f32⟩
  | .hbm, ⟨52, _⟩ => ⟨S8x128x128, .bf16⟩
  | .hbm, ⟨53, _⟩ => ⟨S1952x4096, .f32⟩
  | .hbm, ⟨54, _⟩ => ⟨S384x4096, .f32⟩
  | .hbm, ⟨55, _⟩ => ⟨S_, .f32⟩
  | .hbm, ⟨56, _⟩ => ⟨S64x4096, .f32⟩
  | .hbm, ⟨57, _⟩ => ⟨S32x4096, .f32⟩
  | .hbm, ⟨58, _⟩ => ⟨S_, .f32⟩
  | .hbm, ⟨59, _⟩ => ⟨S32x4096, .f32⟩
  | .hbm, ⟨60, _⟩ => ⟨S1536x4096, .f32⟩
  | .hbm, ⟨61, _⟩ => ⟨S2048x4096, .f32⟩
  | .hbm, ⟨62, _⟩ => ⟨S4096x2048, .f32⟩
  | .hbm, ⟨63, _⟩ => ⟨S1x256, .f32⟩
  | .hbm, ⟨64, _⟩ => ⟨S1x128, .f32⟩
  | .hbm, ⟨65, _⟩ => ⟨S8x4096x96, .f32⟩
  | .hbm, ⟨66, _⟩ => ⟨S_, .i32⟩
  | .hbm, ⟨67, _⟩ => ⟨S_, .f32⟩
  | .hbm, ⟨68, _⟩ => ⟨S8x4096x128, .f32⟩
  | .hbm, ⟨69, _⟩ => ⟨S8x4096x96, .f32⟩
  | .hbm, ⟨70, _⟩ => ⟨S_, .i32⟩
  | .hbm, ⟨71, _⟩ => ⟨S_, .f32⟩
  | .hbm, ⟨72, _⟩ => ⟨S8x4096x128, .f32⟩
  | .hbm, ⟨73, _⟩ => ⟨S8x4096x64, .f32⟩
  | .hbm, ⟨74, _⟩ => ⟨S_, .i32⟩
  | .hbm, ⟨75, _⟩ => ⟨S_, .f32⟩
  | .hbm, ⟨76, _⟩ => ⟨S8x4096x128, .f32⟩
  | .hbm, ⟨77, _⟩ => ⟨S4096x512, .bf16⟩
  | .hbm, ⟨78, _⟩ => ⟨S8x256x128, .f32⟩
  | .hbm, ⟨79, _⟩ => ⟨S8x128x128, .f32⟩
  | .hbm, ⟨80, _⟩ => ⟨S8x128x128, .f32⟩
  | .hbm, ⟨81, _⟩ => ⟨S1x256, .f32⟩
  | .hbm, ⟨82, _⟩ => ⟨S1x128, .f32⟩
  | .hbm, ⟨83, _⟩ => ⟨S8x256x96, .f32⟩
  | .hbm, ⟨84, _⟩ => ⟨S8x128x64, .f32⟩
  | .hbm, ⟨85, _⟩ => ⟨S8x128x64, .f32⟩
  | .local _ .vmem, ⟨0, _⟩ => ⟨S512x512, .f32⟩
  | .local _ .vmem, ⟨1, _⟩ => ⟨S512x512, .f32⟩
  | .local _ .vmem, ⟨2, _⟩ => ⟨S1x256, .f32⟩
  | .local _ .vmem, ⟨3, _⟩ => ⟨S1x128, .f32⟩
  | .local _ .vmem, ⟨4, _⟩ => ⟨S8x256x128, .bf16⟩
  | .local _ .vmem, ⟨5, _⟩ => ⟨S8x128x128, .bf16⟩
  | .local _ .vmem, ⟨6, _⟩ => ⟨S8x128x128, .bf16⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S8x512x128, .f32⟩
  | .local _ .vmem, ⟨12, _⟩ => ⟨S8x512x128, .f32⟩
  | .local _ .vmem, ⟨13, _⟩ => ⟨S8x512x128, .f32⟩
  | .local _ .vmem, ⟨14, _⟩ => ⟨S8x512x128, .f32⟩
  | .local _ .vmem, ⟨15, _⟩ => ⟨S8x512x128, .f32⟩
  | .local _ .vmem, ⟨16, _⟩ => ⟨S8x512x128, .f32⟩
  | .local _ .vmem, ⟨17, _⟩ => ⟨S512x512, .bf16⟩
  | .local _ .vmem, ⟨18, _⟩ => ⟨S512x512, .bf16⟩
  | .local _ .vmem, ⟨19, _⟩ => ⟨S8x256x128, .f32⟩
  | .local _ .vmem, ⟨20, _⟩ => ⟨S8x128x128, .f32⟩
  | .local _ .vmem, ⟨21, _⟩ => ⟨S8x128x128, .f32⟩
  | .local _ .vmem, ⟨22, _⟩ => ⟨S1x256, .f32⟩
  | .local _ .vmem, ⟨23, _⟩ => ⟨S1x128, .f32⟩
  | _, _ => ⟨S4096x1952, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c : Ref sig .tc := ⟨.hbm, 39, rfl⟩
abbrev main_call0_v0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_call1_v0 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_call2_v0 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩
abbrev main_v35 : Ref sig .tc := ⟨.hbm, 57, rfl⟩
abbrev main_cst_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_c_9 : Ref sig .tc := ⟨.hbm, 66, rfl⟩
abbrev main_call3_v0 : Ref sig .tc := ⟨.hbm, 67, rfl⟩
abbrev main_v43 : Ref sig .tc := ⟨.hbm, 68, rfl⟩
abbrev main_v44 : Ref sig .tc := ⟨.hbm, 69, rfl⟩
abbrev main_c_10 : Ref sig .tc := ⟨.hbm, 70, rfl⟩
abbrev main_call4_v0 : Ref sig .tc := ⟨.hbm, 71, rfl⟩
abbrev main_v45 : Ref sig .tc := ⟨.hbm, 72, rfl⟩
abbrev main_v46 : Ref sig .tc := ⟨.hbm, 73, rfl⟩
abbrev main_c_11 : Ref sig .tc := ⟨.hbm, 74, rfl⟩
abbrev main_call5_v0 : Ref sig .tc := ⟨.hbm, 75, rfl⟩
abbrev main_v47 : Ref sig .tc := ⟨.hbm, 76, rfl⟩
abbrev main_v48_0 : Ref sig .tc := ⟨.hbm, 77, rfl⟩
abbrev main_v48_1 : Ref sig .tc := ⟨.hbm, 78, rfl⟩
abbrev main_v48_2 : Ref sig .tc := ⟨.hbm, 79, rfl⟩
abbrev main_v48_3 : Ref sig .tc := ⟨.hbm, 80, rfl⟩
abbrev main_v48_4 : Ref sig .tc := ⟨.hbm, 81, rfl⟩
abbrev main_v48_5 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x256x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== PrepRefIdeal.lean ====
abbrev S4096x1952 : Shape := ⟨2, ![4096, 1952]⟩
abbrev S256 : Shape := ⟨1, ![256]⟩
abbrev S128 : Shape := ⟨1, ![128]⟩
abbrev S256x8x96 : Shape := ⟨3, ![256, 8, 96]⟩
abbrev S128x8x64 : Shape := ⟨3, ![128, 8, 64]⟩
abbrev S4096x8x96 : Shape := ⟨3, ![4096, 8, 96]⟩
abbrev S4096x8x64 : Shape := ⟨3, ![4096, 8, 64]⟩
abbrev S4096x256 : Shape := ⟨2, ![4096, 256]⟩
abbrev S4096x128 : Shape := ⟨2, ![4096, 128]⟩
abbrev S4096x32 : Shape := ⟨2, ![4096, 32]⟩
abbrev S4096 : Shape := ⟨1, ![4096]⟩
abbrev S_ : Shape := ⟨0, ![]⟩
abbrev S4096x1 : Shape := ⟨2, ![4096, 1]⟩
abbrev S1x256 : Shape := ⟨2, ![1, 256]⟩
abbrev S1x128 : Shape := ⟨2, ![1, 128]⟩
abbrev S4096x8x32 : Shape := ⟨3, ![4096, 8, 32]⟩
abbrev S16 : Shape := ⟨1, ![16]⟩
abbrev S1x16 : Shape := ⟨2, ![1, 16]⟩
abbrev S4096x16 : Shape := ⟨2, ![4096, 16]⟩
abbrev S4096x1x16 : Shape := ⟨3, ![4096, 1, 16]⟩
abbrev S4096x8x16 : Shape := ⟨3, ![4096, 8, 16]⟩
abbrev S4096x1x32 : Shape := ⟨3, ![4096, 1, 32]⟩
abbrev S8x64x128 : Shape := ⟨3, ![8, 64, 128]⟩
abbrev S8x96x256 : Shape := ⟨3, ![8, 96, 256]⟩
abbrev S4096x384 : Shape := ⟨2, ![4096, 384]⟩
abbrev S4096x64 : Shape := ⟨2, ![4096, 64]⟩
abbrev S4096x512 : Shape := ⟨2, ![4096, 512]⟩
abbrev S8x256x96 : Shape := ⟨3, ![8, 256, 96]⟩
abbrev S8x128x64 : Shape := ⟨3, ![8, 128, 64]⟩

abbrev nBuf : Space → Nat
  | .hbm => 249
  | .vmem => 0
  | .smem => 0
  | _ => 0

abbrev hbmTy0_0 (i : Nat) : BufTy := match i % 128 with
  | 0 => ⟨S4096x1952, .f32⟩
  | 1 => ⟨S256, .f32⟩
  | 2 => ⟨S128, .f32⟩
  | 3 => ⟨S256x8x96, .f32⟩
  | 4 => ⟨S128x8x64, .f32⟩
  | 5 => ⟨S128x8x64, .f32⟩
  | 6 => ⟨S4096x8x96, .f32⟩
  | 7 => ⟨S4096x8x96, .f32⟩
  | 8 => ⟨S4096x8x64, .f32⟩
  | 9 => ⟨S4096x256, .f32⟩
  | 10 => ⟨S4096x128, .f32⟩
  | 11 => ⟨S4096x32, .f32⟩
  | 12 => ⟨S4096, .i32⟩
  | 13 => ⟨S4096x256, .f32⟩
  | 14 => ⟨S_, .f32⟩
  | 15 => ⟨S4096x256, .f32⟩
  | 16 => ⟨S4096x256, .f32⟩
  | 17 => ⟨S_, .f32⟩
  | 18 => ⟨S4096, .f32⟩
  | 19 => ⟨S4096x1, .f32⟩
  | 20 => ⟨S_, .f32⟩
  | 21 => ⟨S4096x1, .f32⟩
  | 22 => ⟨S4096x1, .f32⟩
  | 23 => ⟨S_, .f32⟩
  | 24 => ⟨S4096x1, .f32⟩
  | 25 => ⟨S4096x1, .f32⟩
  | 26 => ⟨S4096x1, .f32⟩
  | 27 => ⟨S4096x1, .f32⟩
  | 28 => ⟨S_, .f32⟩
  | 29 => ⟨S4096x1, .f32⟩
  | 30 => ⟨S4096x1, .f32⟩
  | 31 => ⟨S4096x256, .f32⟩
  | 32 => ⟨S4096x256, .f32⟩
  | 33 => ⟨S1x256, .f32⟩
  | 34 => ⟨S4096x256, .f32⟩
  | 35 => ⟨S4096x256, .f32⟩
  | 36 => ⟨S4096x128, .f32⟩
  | 37 => ⟨S_, .f32⟩
  | 38 => ⟨S4096x128, .f32⟩
  | 39 => ⟨S4096x128, .f32⟩
  | 40 => ⟨S_, .f32⟩
  | 41 => ⟨S4096, .f32⟩
  | 42 => ⟨S4096x1, .f32⟩
  | 43 => ⟨S_, .f32⟩
  | 44 => ⟨S4096x1, .f32⟩
  | 45 => ⟨S4096x1, .f32⟩
  | 46 => ⟨S_, .f32⟩
  | 47 => ⟨S4096x1, .f32⟩
  | 48 => ⟨S4096x1, .f32⟩
  | 49 => ⟨S4096x1, .f32⟩
  | 50 => ⟨S4096x1, .f32⟩
  | 51 => ⟨S_, .f32⟩
  | 52 => ⟨S4096x1, .f32⟩
  | 53 => ⟨S4096x1, .f32⟩
  | 54 => ⟨S4096x128, .f32⟩
  | 55 => ⟨S4096x128, .f32⟩
  | 56 => ⟨S1x128, .f32⟩
  | 57 => ⟨S4096x128, .f32⟩
  | 58 => ⟨S4096x128, .f32⟩
  | 59 => ⟨S4096x8x96, .f32⟩
  | 60 => ⟨S4096x8x64, .f32⟩
  | 61 => ⟨S4096x8x32, .f32⟩
  | 62 => ⟨S4096x8x64, .f32⟩
  | 63 => ⟨S4096x8x64, .f32⟩
  | 64 => ⟨S16, .f32⟩
  | 65 => ⟨S16, .f32⟩
  | 66 => ⟨S_, .f32⟩
  | 67 => ⟨S16, .f32⟩
  | 68 => ⟨S16, .f32⟩
  | 69 => ⟨S_, .f32⟩
  | 70 => ⟨S16, .f32⟩
  | 71 => ⟨S16, .f32⟩
  | 72 => ⟨S4096, .f32⟩
  | 73 => ⟨S4096x1, .f32⟩
  | 74 => ⟨S1x16, .f32⟩
  | 75 => ⟨S4096x16, .f32⟩
  | 76 => ⟨S4096x16, .f32⟩
  | 77 => ⟨S4096x16, .f32⟩
  | 78 => ⟨S4096x16, .f32⟩
  | 79 => ⟨S4096x1x16, .f32⟩
  | 80 => ⟨S4096x16, .f32⟩
  | 81 => ⟨S4096x1x16, .f32⟩
  | 82 => ⟨S4096x8x16, .f32⟩
  | 83 => ⟨S4096x8x16, .f32⟩
  | 84 => ⟨S4096x8x16, .f32⟩
  | 85 => ⟨S4096x8x16, .f32⟩
  | 86 => ⟨S4096x8x16, .f32⟩
  | 87 => ⟨S4096x8x16, .f32⟩
  | 88 => ⟨S4096x8x16, .f32⟩
  | 89 => ⟨S4096x8x16, .f32⟩
  | 90 => ⟨S4096x8x16, .f32⟩
  | 91 => ⟨S4096x8x16, .f32⟩
  | 92 => ⟨S4096x8x16, .f32⟩
  | 93 => ⟨S4096x8x16, .f32⟩
  | 94 => ⟨S4096x8x32, .f32⟩
  | 95 => ⟨S4096x1x32, .f32⟩
  | 96 => ⟨S16, .f32⟩
  | 97 => ⟨S16, .f32⟩
  | 98 => ⟨S_, .f32⟩
  | 99 => ⟨S16, .f32⟩
  | 100 => ⟨S16, .f32⟩
  | 101 => ⟨S_, .f32⟩
  | 102 => ⟨S16, .f32⟩
  | 103 => ⟨S16, .f32⟩
  | 104 => ⟨S4096, .f32⟩
  | 105 => ⟨S4096x1, .f32⟩
  | 106 => ⟨S1x16, .f32⟩
  | 107 => ⟨S4096x16, .f32⟩
  | 108 => ⟨S4096x16, .f32⟩
  | 109 => ⟨S4096x16, .f32⟩
  | 110 => ⟨S4096x16, .f32⟩
  | 111 => ⟨S4096x1x16, .f32⟩
  | 112 => ⟨S4096x16, .f32⟩
  | 113 => ⟨S4096x1x16, .f32⟩
  | 114 => ⟨S4096x1x16, .f32⟩
  | 115 => ⟨S4096x1x16, .f32⟩
  | 116 => ⟨S4096x1x16, .f32⟩
  | 117 => ⟨S4096x1x16, .f32⟩
  | 118 => ⟨S4096x1x16, .f32⟩
  | 119 => ⟨S4096x1x16, .f32⟩
  | 120 => ⟨S4096x1x16, .f32⟩
  | 121 => ⟨S4096x1x16, .f32⟩
  | 122 => ⟨S4096x1x32, .f32⟩
  | 123 => ⟨S4096x8x96, .f32⟩
  | 124 => ⟨S4096x8x32, .f32⟩
  | 125 => ⟨S4096x8x96, .f32⟩
  | 126 => ⟨S4096x8x64, .f32⟩
  | 127 => ⟨S4096x8x32, .f32⟩
  | _ => ⟨S4096x1952, .f32⟩

abbrev hbmTy0_1 (i : Nat) : BufTy := match i % 128 with
  | 0 => ⟨S_, .f32⟩
  | 1 => ⟨S4096x32, .f32⟩
  | 2 => ⟨S4096x1x32, .f32⟩
  | 3 => ⟨S4096x8x64, .f32⟩
  | 4 => ⟨S4096x8x32, .f32⟩
  | 5 => ⟨S4096x1x16, .f32⟩
  | 6 => ⟨S4096x1x16, .f32⟩
  | 7 => ⟨S4096x1x16, .f32⟩
  | 8 => ⟨S4096x1x16, .f32⟩
  | 9 => ⟨S4096x1x16, .f32⟩
  | 10 => ⟨S4096x1x16, .f32⟩
  | 11 => ⟨S4096x1x16, .f32⟩
  | 12 => ⟨S4096x1x16, .f32⟩
  | 13 => ⟨S4096x1x16, .f32⟩
  | 14 => ⟨S_, .f32⟩
  | 15 => ⟨S4096x1x32, .f32⟩
  | 16 => ⟨S_, .f32⟩
  | 17 => ⟨S4096x1x32, .f32⟩
  | 18 => ⟨S4096x1x32, .f32⟩
  | 19 => ⟨S_, .f32⟩
  | 20 => ⟨S4096x32, .f32⟩
  | 21 => ⟨S4096x8x16, .f32⟩
  | 22 => ⟨S4096x8x16, .f32⟩
  | 23 => ⟨S4096x8x16, .f32⟩
  | 24 => ⟨S4096x8x16, .f32⟩
  | 25 => ⟨S4096x8x16, .f32⟩
  | 26 => ⟨S4096x8x16, .f32⟩
  | 27 => ⟨S4096x8x16, .f32⟩
  | 28 => ⟨S4096x8x16, .f32⟩
  | 29 => ⟨S4096x8x16, .f32⟩
  | 30 => ⟨S4096x8x16, .f32⟩
  | 31 => ⟨S4096x8x16, .f32⟩
  | 32 => ⟨S4096x8x16, .f32⟩
  | 33 => ⟨S4096x8x16, .f32⟩
  | 34 => ⟨S_, .f32⟩
  | 35 => ⟨S4096x8x32, .f32⟩
  | 36 => ⟨S_, .f32⟩
  | 37 => ⟨S4096x8x32, .f32⟩
  | 38 => ⟨S4096x8x32, .f32⟩
  | 39 => ⟨S8x64x128, .f32⟩
  | 40 => ⟨S128x8x64, .f32⟩
  | 41 => ⟨S4096x128, .f32⟩
  | 42 => ⟨S8x64x128, .f32⟩
  | 43 => ⟨S128x8x64, .f32⟩
  | 44 => ⟨S4096x128, .f32⟩
  | 45 => ⟨S4096x128, .f32⟩
  | 46 => ⟨S_, .f32⟩
  | 47 => ⟨S4096x8x96, .f32⟩
  | 48 => ⟨S_, .f32⟩
  | 49 => ⟨S4096x8x96, .f32⟩
  | 50 => ⟨S4096x8x96, .f32⟩
  | 51 => ⟨S8x96x256, .f32⟩
  | 52 => ⟨S256x8x96, .f32⟩
  | 53 => ⟨S4096x256, .f32⟩
  | 54 => ⟨S4096x128, .f32⟩
  | 55 => ⟨S_, .f32⟩
  | 56 => ⟨S128, .f32⟩
  | 57 => ⟨S1x128, .f32⟩
  | 58 => ⟨S4096x128, .f32⟩
  | 59 => ⟨S4096x128, .f32⟩
  | 60 => ⟨S_, .f32⟩
  | 61 => ⟨S128, .f32⟩
  | 62 => ⟨S4096x128, .f32⟩
  | 63 => ⟨S_, .f32⟩
  | 64 => ⟨S4096, .f32⟩
  | 65 => ⟨S4096x1, .f32⟩
  | 66 => ⟨S4096x128, .f32⟩
  | 67 => ⟨S4096x128, .f32⟩
  | 68 => ⟨S4096x1, .f32⟩
  | 69 => ⟨S_, .f32⟩
  | 70 => ⟨S4096x1, .f32⟩
  | 71 => ⟨S4096x1, .f32⟩
  | 72 => ⟨S_, .f32⟩
  | 73 => ⟨S4096, .f32⟩
  | 74 => ⟨S4096x128, .f32⟩
  | 75 => ⟨S4096x128, .f32⟩
  | 76 => ⟨S4096x128, .f32⟩
  | 77 => ⟨S4096x256, .f32⟩
  | 78 => ⟨S_, .f32⟩
  | 79 => ⟨S256, .f32⟩
  | 80 => ⟨S1x256, .f32⟩
  | 81 => ⟨S4096x256, .f32⟩
  | 82 => ⟨S4096x256, .f32⟩
  | 83 => ⟨S_, .f32⟩
  | 84 => ⟨S256, .f32⟩
  | 85 => ⟨S4096x256, .f32⟩
  | 86 => ⟨S_, .f32⟩
  | 87 => ⟨S4096, .f32⟩
  | 88 => ⟨S4096x1, .f32⟩
  | 89 => ⟨S4096x256, .f32⟩
  | 90 => ⟨S4096x256, .f32⟩
  | 91 => ⟨S4096x1, .f32⟩
  | 92 => ⟨S_, .f32⟩
  | 93 => ⟨S4096x1, .f32⟩
  | 94 => ⟨S4096x1, .f32⟩
  | 95 => ⟨S_, .f32⟩
  | 96 => ⟨S4096, .f32⟩
  | 97 => ⟨S4096x256, .f32⟩
  | 98 => ⟨S4096x256, .f32⟩
  | 99 => ⟨S4096x256, .f32⟩
  | 100 => ⟨S_, .f32⟩
  | 101 => ⟨S4096x1952, .f32⟩
  | 102 => ⟨S_, .f32⟩
  | 103 => ⟨S4096x1952, .f32⟩
  | 104 => ⟨S4096x1952, .f32⟩
  | 105 => ⟨S_, .f32⟩
  | 106 => ⟨S4096x1952, .f32⟩
  | 107 => ⟨S4096x1952, .f32⟩
  | 108 => ⟨S4096x384, .f32⟩
  | 109 => ⟨S_, .f32⟩
  | 110 => ⟨S4096x64, .f32⟩
  | 111 => ⟨S4096x32, .f32⟩
  | 112 => ⟨S_, .f32⟩
  | 113 => ⟨S4096x32, .f32⟩
  | 114 => ⟨S4096x512, .f32⟩
  | 115 => ⟨S4096x512, .bf16⟩
  | 116 => ⟨S8x256x96, .f32⟩
  | 117 => ⟨S8x128x64, .f32⟩
  | 118 => ⟨S8x128x64, .f32⟩
  | 119 => ⟨S1x256, .f32⟩
  | 120 => ⟨S1x128, .f32⟩
  | _ => ⟨S4096x1952, .f32⟩

abbrev hbmTy (i : Nat) : BufTy := match i / 128 with
  | 0 => hbmTy0_0 i
  | 1 => hbmTy0_1 i
  | _ => ⟨S4096x1952, .f32⟩

abbrev bufTy : (tb : Table) → Fin (tcTables nBuf tb) → BufTy
  | .hbm, ⟨i, _⟩ => hbmTy i
  | _, _ => ⟨S4096x1952, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_cst_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_11 : Ref sig .tc := ⟨.hbm, 98, rfl⟩
abbrev main_v77 : Ref sig .tc := ⟨.hbm, 99, rfl⟩
abbrev main_v78 : Ref sig .tc := ⟨.hbm, 100, rfl⟩
abbrev main_cst_12 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_cst_13 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_cst_14 : Ref sig .tc := ⟨.hbm, 142, rfl⟩
abbrev main_v118 : Ref sig .tc := ⟨.hbm, 143, rfl⟩
abbrev main_cst_15 : Ref sig .tc := ⟨.hbm, 144, rfl⟩
abbrev main_v119 : Ref sig .tc := ⟨.hbm, 145, rfl⟩
abbrev main_v120 : Ref sig .tc := ⟨.hbm, 146, rfl⟩
abbrev main_cst_16 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_cst_17 : Ref sig .tc := ⟨.hbm, 162, rfl⟩
abbrev main_v135 : Ref sig .tc := ⟨.hbm, 163, rfl⟩
abbrev main_cst_18 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_cst_19 : Ref sig .tc := ⟨.hbm, 174, rfl⟩
abbrev main_v145 : Ref sig .tc := ⟨.hbm, 175, rfl⟩
abbrev main_cst_20 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_cst_21 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_cst_22 : Ref sig .tc := ⟨.hbm, 188, rfl⟩
abbrev main_v156 : Ref sig .tc := ⟨.hbm, 189, rfl⟩
abbrev main_v157 : Ref sig .tc := ⟨.hbm, 190, rfl⟩
abbrev main_cst_23 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_cst_24 : Ref sig .tc := ⟨.hbm, 197, rfl⟩
abbrev main_v163 : Ref sig .tc := ⟨.hbm, 198, rfl⟩
abbrev main_v164 : Ref sig .tc := ⟨.hbm, 199, rfl⟩
abbrev main_cst_25 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_cst_26 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_cst_27 : Ref sig .tc := ⟨.hbm, 211, rfl⟩
abbrev main_v174 : Ref sig .tc := ⟨.hbm, 212, rfl⟩
abbrev main_v175 : Ref sig .tc := ⟨.hbm, 213, rfl⟩
abbrev main_cst_28 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_cst_29 : Ref sig .tc := ⟨.hbm, 220, rfl⟩
abbrev main_v181 : Ref sig .tc := ⟨.hbm, 221, rfl⟩
abbrev main_v182 : Ref sig .tc := ⟨.hbm, 222, rfl⟩
abbrev main_cst_30 : Ref sig .tc := ⟨.hbm, 223, rfl⟩
abbrev main_v183 : Ref sig .tc := ⟨.hbm, 224, rfl⟩
abbrev main_v184 : Ref sig .tc := ⟨.hbm, 225, rfl⟩
abbrev main_v185 : Ref sig .tc := ⟨.hbm, 226, rfl⟩
abbrev main_v186 : Ref sig .tc := ⟨.hbm, 227, rfl⟩
abbrev main_cst_31 : Ref sig .tc := ⟨.hbm, 228, rfl⟩
abbrev main_v187 : Ref sig .tc := ⟨.hbm, 229, rfl⟩
abbrev main_cst_32 : Ref sig .tc := ⟨.hbm, 230, rfl⟩
abbrev main_v188 : Ref sig .tc := ⟨.hbm, 231, rfl⟩
abbrev main_v189 : Ref sig .tc := ⟨.hbm, 232, rfl⟩
abbrev main_cst_33 : Ref sig .tc := ⟨.hbm, 233, rfl⟩
abbrev main_v190 : Ref sig .tc := ⟨.hbm, 234, rfl⟩
abbrev main_v191 : Ref sig .tc := ⟨.hbm, 235, rfl⟩
abbrev main_v192 : Ref sig .tc := ⟨.hbm, 236, rfl⟩
abbrev main_cst_34 : Ref sig .tc := ⟨.hbm, 237, rfl⟩
abbrev main_v193 : Ref sig .tc := ⟨.hbm, 238, rfl⟩
abbrev main_v194 : Ref sig .tc := ⟨.hbm, 239, rfl⟩
abbrev main_cst_35 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_v200 : Ref sig .tc := ⟨.hbm, 246, rfl⟩
abbrev main_v201 : Ref sig .tc := ⟨.hbm, 247, rfl⟩
abbrev main_v202 : Ref sig .tc := ⟨.hbm, 248, rfl⟩

abbrev nD : Nat := 1
abbrev τ : Topo := Topo.v7x

variable {F : FTy → Type} [FloatOps F]
-- ==== Attn.lean ====
abbrev S4096x8x96 : Shape := ⟨3, ![4096, 8, 96]⟩
abbrev S4096x8x64 : Shape := ⟨3, ![4096, 8, 64]⟩
abbrev S4096x512 : Shape := ⟨2, ![4096, 512]⟩
abbrev S8x4096x4096 : Shape := ⟨3, ![8, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S8x4096 : Shape := ⟨2, ![8, 4096]⟩
abbrev S8x4096x1 : Shape := ⟨3, ![8, 4096, 1]⟩
abbrev S8x4096x64 : Shape := ⟨3, ![8, 4096, 64]⟩
abbrev S8x4096x128 : Shape := ⟨3, ![8, 4096, 128]⟩
abbrev S1x1x128 : Shape := ⟨3, ![1, 1, 128]⟩
abbrev S8x4096x96 : Shape := ⟨3, ![8, 4096, 96]⟩
abbrev S1x4096x128 : Shape := ⟨3, ![1, 4096, 128]⟩
abbrev S1024x128 : Shape := ⟨2, ![1024, 128]⟩
abbrev S4096x128 : Shape := ⟨2, ![4096, 128]⟩
abbrev S1x1024x128 : Shape := ⟨3, ![1, 1024, 128]⟩
abbrev S1024 : Shape := ⟨1, ![1024]⟩
abbrev S1024x1 : Shape := ⟨2, ![1024, 1]⟩
abbrev S1x256x128 : Shape := ⟨3, ![1, 256, 128]⟩
abbrev S256x128 : Shape := ⟨2, ![256, 128]⟩
abbrev S256x256 : Shape := ⟨2, ![256, 256]⟩
abbrev S512x128 : Shape := ⟨2, ![512, 128]⟩
abbrev S256x512 : Shape := ⟨2, ![256, 512]⟩
abbrev S768x128 : Shape := ⟨2, ![768, 128]⟩
abbrev S256x768 : Shape := ⟨2, ![256, 768]⟩
abbrev S256x1024 : Shape := ⟨2, ![256, 1024]⟩
abbrev S1x256x1 : Shape := ⟨3, ![1, 256, 1]⟩
abbrev S256x1 : Shape := ⟨2, ![256, 1]⟩
abbrev S1x512x128 : Shape := ⟨3, ![1, 512, 128]⟩
abbrev S512x1024 : Shape := ⟨2, ![512, 1024]⟩
abbrev S1x512x1 : Shape := ⟨3, ![1, 512, 1]⟩
abbrev S512x1 : Shape := ⟨2, ![512, 1]⟩

abbrev nBuf : Space → Nat
  | .hbm => 74
  | .vmem => 21
  | .smem => 0
  | _ => 0

abbrev bufTy : (tb : Table) → Fin (tcTables nBuf tb) → BufTy
  | .hbm, ⟨0, _⟩ => ⟨S4096x8x96, .f32⟩
  | .hbm, ⟨1, _⟩ => ⟨S4096x8x96, .f32⟩
  | .hbm, ⟨2, _⟩ => ⟨S4096x8x64, .f32⟩
  | .hbm, ⟨3, _⟩ => ⟨S4096x512, .f32⟩
  | .hbm, ⟨4, _⟩ => ⟨S8x4096x4096, .f32⟩
  | .hbm, ⟨5, _⟩ => ⟨S_, .f32⟩
  | .hbm, ⟨6, _⟩ => ⟨S8x4096x4096, .f32⟩
  | .hbm, ⟨7, _⟩ => ⟨S8x4096x4096, .f32⟩
  | .hbm, ⟨8, _⟩ => ⟨S4096, .i32⟩
  | .hbm, ⟨9, _⟩ => ⟨S4096x1, .i32⟩
  | .hbm, ⟨10, _⟩ => ⟨S4096, .i32⟩
  | .hbm, ⟨11, _⟩ => ⟨S1x4096, .i32⟩
  | .hbm, ⟨12, _⟩ => ⟨S4096x4096, .i32⟩
  | .hbm, ⟨13, _⟩ => ⟨S4096x4096, .i32⟩
  | .hbm, ⟨14, _⟩ => ⟨S4096x4096, .i1⟩
  | .hbm, ⟨15, _⟩ => ⟨S1x4096x4096, .i1⟩
  | .hbm, ⟨16, _⟩ => ⟨S_, .f32⟩
  | .hbm, ⟨17, _⟩ => ⟨S_, .f32⟩
  | .hbm, ⟨18, _⟩ => ⟨S8x4096x4096, .i1⟩
  | .hbm, ⟨19, _⟩ => ⟨S8x4096x4096, .f32⟩
  | .hbm, ⟨20, _⟩ => ⟨S8x4096x4096, .f32⟩
  | .hbm, ⟨21, _⟩ => ⟨S_, .f32⟩
  | .hbm, ⟨22, _⟩ => ⟨S8x4096, .f32⟩
  | .hbm, ⟨23, _⟩ => ⟨S8x4096x1, .f32⟩
  | .hbm, ⟨24, _⟩ => ⟨S8x4096x4096, .f32⟩
  | .hbm, ⟨25, _⟩ => ⟨S8x4096x4096, .f32⟩
  | .hbm, ⟨26, _⟩ => ⟨S8x4096x4096, .f32⟩
  | .hbm, ⟨27, _⟩ => ⟨S_, .f32⟩
  | .hbm, ⟨28, _⟩ => ⟨S8x4096, .f32⟩
  | .hbm, ⟨29, _⟩ => ⟨S8x4096x1, .f32⟩
  | .hbm, ⟨30, _⟩ => ⟨S8x4096x4096, .f32⟩
  | .hbm, ⟨31, _⟩ => ⟨S8x4096x4096, .f32⟩
  | .hbm, ⟨32, _⟩ => ⟨S8x4096x64, .f32⟩
  | .hbm, ⟨33, _⟩ => ⟨S_, .i32⟩
  | .hbm, ⟨34, _⟩ => ⟨S_, .f32⟩
  | .hbm, ⟨35, _⟩ => ⟨S8x4096x128, .f32⟩
  | .hbm, ⟨36, _⟩ => ⟨S8x4096x1, .f32⟩
  | .hbm, ⟨37, _⟩ => ⟨S8x4096x1, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8x4096x1, .f32⟩
  | .hbm, ⟨42, _⟩ => ⟨S8x4096x1, .f32⟩
  | .hbm, ⟨43, _⟩ => ⟨S8x4096x128, .f32⟩
  | .hbm, ⟨44, _⟩ => ⟨S1x1x128, .i32⟩
  | .hbm, ⟨45, _⟩ => ⟨S_, .i32⟩
  | .hbm, ⟨46, _⟩ => ⟨S1x1x128, .i32⟩
  | .hbm, ⟨47, _⟩ => ⟨S1x1x128, .i1⟩
  | .hbm, ⟨48, _⟩ => ⟨S1x1x128, .f32⟩
  | .hbm, ⟨49, _⟩ => ⟨S8x4096x96, .f32⟩
  | .hbm, ⟨50, _⟩ => ⟨S_, .i32⟩
  | .hbm, ⟨51, _⟩ => ⟨S_, .f32⟩
  | .hbm, ⟨52, _⟩ => ⟨S8x4096x128, .f32⟩
  | .hbm, ⟨53, _⟩ => ⟨S8x4096x128, .bf16⟩
  | .hbm, ⟨54, _⟩ => ⟨S8x4096x96, .f32⟩
  | .hbm, ⟨55, _⟩ => ⟨S_, .i32⟩
  | .hbm, ⟨56, _⟩ => ⟨S_, .f32⟩
  | .hbm, ⟨57, _⟩ => ⟨S8x4096x128, .f32⟩
  | .hbm, ⟨58, _⟩ => ⟨S8x4096x128, .bf16⟩
  | .hbm, ⟨59, _⟩ => ⟨S8x4096x64, .f32⟩
  | .hbm, ⟨60, _⟩ => ⟨S_, .i32⟩
  | .hbm, ⟨61, _⟩ => ⟨S_, .f32⟩
  | .hbm, ⟨62, _⟩ => ⟨S8x4096x128, .f32⟩
  | .hbm, ⟨63, _⟩ => ⟨S8x4096x128, .f32⟩
  | .hbm, ⟨64, _⟩ => ⟨S8x4096x128, .f32⟩
  | .hbm, ⟨65, _⟩ => ⟨S8x4096x128, .bf16⟩
  | .hbm, ⟨66, _⟩ => ⟨S4096x8x64, .f32⟩
  | .hbm, ⟨67, _⟩ => ⟨S8x4096x64, .f32⟩
  | .hbm, ⟨68, _⟩ => ⟨S_, .i32⟩
  | .hbm, ⟨69, _⟩ => ⟨S_, .f32⟩
  | .hbm, ⟨70, _⟩ => ⟨S8x4096x128, .f32⟩
  | .hbm, ⟨71, _⟩ => ⟨S8x4096x128, .f32⟩
  | .hbm, ⟨72, _⟩ => ⟨S8x4096x128, .f32⟩
  | .hbm, ⟨73, _⟩ => ⟨S8x4096x128, .f32⟩
  | .local _ .vmem, ⟨0, _⟩ => ⟨S1x4096x128, .bf16⟩
  | .local _ .vmem, ⟨1, _⟩ => ⟨S1x4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x4096x128, .f32⟩
  | .local _ .vmem, ⟨7, _⟩ => ⟨S1x4096x128, .f32⟩
  | .local _ .vmem, ⟨8, _⟩ => ⟨S1x4096x128, .f32⟩
  | .local _ .vmem, ⟨9, _⟩ => ⟨S1x4096x128, .f32⟩
  | .local _ .vmem, ⟨10, _⟩ => ⟨S1x4096x128, .f32⟩
  | .local _ .vmem, ⟨11, _⟩ => ⟨S1x4096x128, .f32⟩
  | .local _ .vmem, ⟨12, _⟩ => ⟨S1x4096x128, .f32⟩
  | .local _ .vmem, ⟨13, _⟩ => ⟨S1x4096x128, .f32⟩
  | .local _ .vmem, ⟨14, _⟩ => ⟨S1x4096x128, .f32⟩
  | .local _ .vmem, ⟨15, _⟩ => ⟨S1x4096x128, .f32⟩
  | .local _ .vmem, ⟨16, _⟩ => ⟨S1x4096x128, .f32⟩
  | .local _ .vmem, ⟨17, _⟩ => ⟨S1x4096x128, .f32⟩
  | .local _ .vmem, ⟨18, _⟩ => ⟨S4096x1, .f32⟩
  | .local _ .vmem, ⟨19, _⟩ => ⟨S1024x128, .f32⟩
  | .local _ .vmem, ⟨20, _⟩ => ⟨S1024x128, .f32⟩
  | _, _ => ⟨S4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c : Ref sig .tc := ⟨.hbm, 33, rfl⟩
abbrev main_call1_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_5 : Ref sig .tc := ⟨.hbm, 50, rfl⟩
abbrev main_call2_v0 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_6 : Ref sig .tc := ⟨.hbm, 55, rfl⟩
abbrev main_call3_v0 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_7 : Ref sig .tc := ⟨.hbm, 60, rfl⟩
abbrev main_call4_v0 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_8 : Ref sig .tc := ⟨.hbm, 68, rfl⟩
abbrev main_call5_v0 : Ref sig .tc := ⟨.hbm, 69, rfl⟩
abbrev main_v47 : Ref sig .tc := ⟨.hbm, 70, rfl⟩
abbrev main_v48_0 : Ref sig .tc := ⟨.hbm, 71, rfl⟩
abbrev main_v48_1 : Ref sig .tc := ⟨.hbm, 72, rfl⟩
abbrev main_v48_2 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c4_i32 : BitVec 32 := 4#32
  let v4 : BitVec 32 := Scalar.addi c0_i32 c4_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c1024_i32 : BitVec 32 := 1024#32
  let v6 : BitVec 32 := Scalar.muli arg13 c1024_i32
  v6
def k0_off1 (k0_t1 : Fin k0_t1_loop.trips) : Fin 3 → Nat :=
  let c0_7 : Index := 0#32
  let c0_i32 : BitVec 32 := 0#32
  let c1_i32 : BitVec 32 := 1#32
  let arg13 : BitVec 32 := Scf.iv c0_i32 c1_i32 k0_t1
  let c1024_i32 : BitVec 32 := 1024#32
  let v6 : BitVec 32 := Scalar.muli arg13 c1024_i32
  let v7 : BitVec 32 := v6
  let v8 : Index := Scalar.indexCast v7
  let c0_8 : Index := 0#32
  ![0, v8.toNat, 0]
def k0_off2 (k0_t1 : Fin k0_t1_loop.trips) : Fin 2 → Nat :=
  let c0_i32 : BitVec 32 := 0#32
  let c1_i32 : BitVec 32 := 1#32
  let arg13 : BitVec 32 := Scf.iv c0_i32 c1_i32 k0_t1
  let c1024_i32 : BitVec 32 := 1024#32
  let v6 : BitVec 32 := Scalar.muli arg13 c1024_i32
  let v7 : BitVec 32 := v6
  let v17 : Index := Scalar.indexCast v7
  let c0_12 : Index := 0#32
  ![v17.toNat, 0]
@[reducible] def k0_t2_loop : Scf.Loop 32 :=
  let c0_i32_3 : BitVec 32 := 0#32
  let c4_i32_4 : BitVec 32 := 4#32
  let v5 : BitVec 32 := Scalar.addi c0_i32_3 c4_i32_4
  let c1_i32_5 : BitVec 32 := 1#32
  ⟨c0_i32_3, v5, c1_i32_5⟩
def k0_mult2 (k0_t2 : Fin k0_t2_loop.trips) : BitVec 32 :=
  let c0_i32_3 : BitVec 32 := 0#32
  let c1_i32_5 : BitVec 32 := 1#32
  let arg13 : BitVec 32 := Scf.iv c0_i32_3 c1_i32_5 k0_t2
  let c1024_i32 : BitVec 32 := 1024#32
  let v6 : BitVec 32 := Scalar.muli arg13 c1024_i32
  v6
def k0_off3 (k0_t2 : Fin k0_t2_loop.trips) : Fin 3 → Nat :=
  let c0_7 : Index := 0#32
  let c0_i32_3 : BitVec 32 := 0#32
  let c1_i32_5 : BitVec 32 := 1#32
  let arg13 : BitVec 32 := Scf.iv c0_i32_3 c1_i32_5 k0_t2
  let c1024_i32 : BitVec 32 := 1024#32
  let v6 : BitVec 32 := Scalar.muli arg13 c1024_i32
  let v7 : BitVec 32 := v6
  let v8 : Index := Scalar.indexCast v7
  let c0_8 : Index := 0#32
  ![0, v8.toNat, 0]
def k0_mult3 (k0_t2 : Fin k0_t2_loop.trips) : BitVec 32 :=
  let c0_i32_3 : BitVec 32 := 0#32
  let c1_i32_5 : BitVec 32 := 1#32
  let arg13 : BitVec 32 := Scf.iv c0_i32_3 c1_i32_5 k0_t2
  let c1024_i32_17 : BitVec 32 := 1024#32
  let v22 : BitVec 32 := Scalar.muli arg13 c1024_i32_17
  let c0_i32_18 : BitVec 32 := 0#32
  let v23 : BitVec 32 := Scalar.addi v22 c0_i32_18
  v23
def k0_mult4 (k0_t2 : Fin k0_t2_loop.trips) : BitVec 32 :=
  let c0_i32_3 : BitVec 32 := 0#32
  let c1_i32_5 : BitVec 32 := 1#32
  let arg13 : BitVec 32 := Scf.iv c0_i32_3 c1_i32_5 k0_t2
  let c1024_i32_19 : BitVec 32 := 1024#32
  let v25 : BitVec 32 := Scalar.muli arg13 c1024_i32_19
  let c256_i32 : BitVec 32 := 256#32
  let v26 : BitVec 32 := Scalar.addi v25 c256_i32
  v26
def k0_mult5 (k0_t2 : Fin k0_t2_loop.trips) : BitVec 32 :=
  let c0_i32_3 : BitVec 32 := 0#32
  let c1_i32_5 : BitVec 32 := 1#32
  let arg13 : BitVec 32 := Scf.iv c0_i32_3 c1_i32_5 k0_t2
  let c1024_i32_20 : BitVec 32 := 1024#32
  let v28 : BitVec 32 := Scalar.muli arg13 c1024_i32_20
  let c512_i32 : BitVec 32 := 512#32
  let v29 : BitVec 32 := Scalar.addi v28 c512_i32
  v29
def k0_mult6 (k0_t2 : Fin k0_t2_loop.trips) : BitVec 32 :=
  let c0_i32_3 : BitVec 32 := 0#32
  let c1_i32_5 : BitVec 32 := 1#32
  let arg13 : BitVec 32 := Scf.iv c0_i32_3 c1_i32_5 k0_t2
  let c1024_i32_21 : BitVec 32 := 1024#32
  let v31 : BitVec 32 := Scalar.muli arg13 c1024_i32_21
  let c768_i32 : BitVec 32 := 768#32
  let v32 : BitVec 32 := Scalar.addi v31 c768_i32
  v32
def k0_off4 (k0_t2 : Fin k0_t2_loop.trips) (c0_i32_18 : BitVec 32) : Fin 3 → Nat :=
  let c0_22 : Index := 0#32
  let c0_i32_3 : BitVec 32 := 0#32
  let c1_i32_5 : BitVec 32 := 1#32
  let arg13 : BitVec 32 := Scf.iv c0_i32_3 c1_i32_5 k0_t2
  let c1024_i32_17 : BitVec 32 := 1024#32
  let v22 : BitVec 32 := Scalar.muli arg13 c1024_i32_17
  let v23 : BitVec 32 := Scalar.addi v22 c0_i32_18
  let v24 : BitVec 32 := v23
  let v34 : Index := Scalar.indexCast v24
  let c0_23 : Index := 0#32
  ![0, v34.toNat, 0]
def k0_off5 (k0_t2 : Fin k0_t2_loop.trips) (c0_i32_18 : BitVec 32) : Fin 3 → Nat :=
  let c0_52 : Index := 0#32
  let c0_i32_3 : BitVec 32 := 0#32
  let c1_i32_5 : BitVec 32 := 1#32
  let arg13 : BitVec 32 := Scf.iv c0_i32_3 c1_i32_5 k0_t2
  let c1024_i32_17 : BitVec 32 := 1024#32
  let v22 : BitVec 32 := Scalar.muli arg13 c1024_i32_17
  let v23 : BitVec 32 := Scalar.addi v22 c0_i32_18
  let v24 : BitVec 32 := v23
  let v91 : Index := Scalar.indexCast v24
  let c0_53 : Index := 0#32
  ![0, v91.toNat, 0]
def k0_off6 (k0_t2 : Fin k0_t2_loop.trips) (c0_i32_18 : BitVec 32) : Fin 2 → Nat :=
  let c0_i32_3 : BitVec 32 := 0#32
  let c1_i32_5 : BitVec 32 := 1#32
  let arg13 : BitVec 32 := Scf.iv c0_i32_3 c1_i32_5 k0_t2
  let c1024_i32_17 : BitVec 32 := 1024#32
  let v22 : BitVec 32 := Scalar.muli arg13 c1024_i32_17
  let v23 : BitVec 32 := Scalar.addi v22 c0_i32_18
  let v24 : BitVec 32 := v23
  let v104 : Index := Scalar.indexCast v24
  let c0_59 : Index := 0#32
  ![v104.toNat, 0]
@[reducible] def k0_t3_loop (k0_t2 : Fin k0_t2_loop.trips) : Scf.Loop 32 :=
  let c0_i32_3 : BitVec 32 := 0#32
  let c1_i32_5 : BitVec 32 := 1#32
  let arg13 : BitVec 32 := Scf.iv c0_i32_3 c1_i32_5 k0_t2
  let c1_i32_134 : BitVec 32 := 1#32
  let v259 : BitVec 32 := Scalar.addi arg13 c1_i32_134
  let c4_i32_136 : BitVec 32 := 4#32
  let v260 : BitVec 32 := Scalar.subi c4_i32_136 v259
  let c1_i32_137 : BitVec 32 := 1#32
  let v262 : BitVec 32 := Scalar.divsi v260 c1_i32_137
  let v263 : BitVec 32 := Scalar.muli v262 c1_i32_137
  let v264 : BitVec 32 := Scalar.addi v259 v263
  let c1_i32_138 : BitVec 32 := 1#32
  ⟨v259, v264, c1_i32_138⟩
def k0_mult7 (k0_t2 : Fin k0_t2_loop.trips) (k0_t3 : Fin (k0_t3_loop k0_t2).trips) : BitVec 32 :=
  let c0_i32_3 : BitVec 32 := 0#32
  let c1_i32_5 : BitVec 32 := 1#32
  let arg13 : BitVec 32 := Scf.iv c0_i32_3 c1_i32_5 k0_t2
  let c1_i32_134 : BitVec 32 := 1#32
  let v259 : BitVec 32 := Scalar.addi arg13 c1_i32_134
  let c1_i32_138 : BitVec 32 := 1#32
  let arg14 : BitVec 32 := Scf.iv v259 c1_i32_138 k0_t3
  let c1024_i32_148 : BitVec 32 := 1024#32
  let v275 : BitVec 32 := Scalar.muli arg14 c1024_i32_148
  let c0_i32_149 : BitVec 32 := 0#32
  let v276 : BitVec 32 := Scalar.addi v275 c0_i32_149
  v276
def k0_mult8 (k0_t2 : Fin k0_t2_loop.trips) (k0_t3 : Fin (k0_t3_loop k0_t2).trips) : BitVec 32 :=
  let c0_i32_3 : BitVec 32 := 0#32
  let c1_i32_5 : BitVec 32 := 1#32
  let arg13 : BitVec 32 := Scf.iv c0_i32_3 c1_i32_5 k0_t2
  let c1_i32_134 : BitVec 32 := 1#32
  let v259 : BitVec 32 := Scalar.addi arg13 c1_i32_134
  let c1_i32_138 : BitVec 32 := 1#32
  let arg14 : BitVec 32 := Scf.iv v259 c1_i32_138 k0_t3
  let c1024_i32_150 : BitVec 32 := 1024#32
  let v278 : BitVec 32 := Scalar.muli arg14 c1024_i32_150
  let c512_i32_151 : BitVec 32 := 512#32
  let v279 : BitVec 32 := Scalar.addi v278 c512_i32_151
  v279
def k0_off7 (k0_t2 : Fin k0_t2_loop.trips) (k0_t3 : Fin (k0_t3_loop k0_t2).trips) (c0_i32_149 : BitVec 32) : Fin 3 → Nat :=
  let c0_152 : Index := 0#32
  let c0_i32_3 : BitVec 32 := 0#32
  let c1_i32_5 : BitVec 32 := 1#32
  let arg13 : BitVec 32 := Scf.iv c0_i32_3 c1_i32_5 k0_t2
  let c1_i32_134 : BitVec 32 := 1#32
  let v259 : BitVec 32 := Scalar.addi arg13 c1_i32_134
  let c1_i32_138 : BitVec 32 := 1#32
  let arg14 : BitVec 32 := Scf.iv v259 c1_i32_138 k0_t3
  let c1024_i32_148 : BitVec 32 := 1024#32
  let v275 : BitVec 32 := Scalar.muli arg14 c1024_i32_148
  let v276 : BitVec 32 := Scalar.addi v275 c0_i32_149
  let v277 : BitVec 32 := v276
  let v281 : Index := Scalar.indexCast v277
  let c0_153 : Index := 0#32
  ![0, v281.toNat, 0]
def k0_off8 (k0_t2 : Fin k0_t2_loop.trips) (k0_t3 : Fin (k0_t3_loop k0_t2).trips) (c0_i32_149 : BitVec 32) : Fin 3 → Nat :=
  let c0_166 : Index := 0#32
  let c0_i32_3 : BitVec 32 := 0#32
  let c1_i32_5 : BitVec 32 := 1#32
  let arg13 : BitVec 32 := Scf.iv c0_i32_3 c1_i32_5 k0_t2
  let c1_i32_134 : BitVec 32 := 1#32
  let v259 : BitVec 32 := Scalar.addi arg13 c1_i32_134
  let c1_i32_138 : BitVec 32 := 1#32
  let arg14 : BitVec 32 := Scf.iv v259 c1_i32_138 k0_t3
  let c1024_i32_148 : BitVec 32 := 1024#32
  let v275 : BitVec 32 := Scalar.muli arg14 c1024_i32_148
  let v276 : BitVec 32 := Scalar.addi v275 c0_i32_149
  let v277 : BitVec 32 := v276
  let v303 : Index := Scalar.indexCast v277
  let c0_167 : Index := 0#32
  ![0, v303.toNat, 0]
def k0_off9 (k0_t2 : Fin k0_t2_loop.trips) (k0_t3 : Fin (k0_t3_loop k0_t2).trips) (c0_i32_149 : BitVec 32) : Fin 2 → Nat :=
  let c0_i32_3 : BitVec 32 := 0#32
  let c1_i32_5 : BitVec 32 := 1#32
  let arg13 : BitVec 32 := Scf.iv c0_i32_3 c1_i32_5 k0_t2
  let c1_i32_134 : BitVec 32 := 1#32
  let v259 : BitVec 32 := Scalar.addi arg13 c1_i32_134
  let c1_i32_138 : BitVec 32 := 1#32
  let arg14 : BitVec 32 := Scf.iv v259 c1_i32_138 k0_t3
  let c1024_i32_148 : BitVec 32 := 1024#32
  let v275 : BitVec 32 := Scalar.muli arg14 c1024_i32_148
  let v276 : BitVec 32 := Scalar.addi v275 c0_i32_149
  let v277 : BitVec 32 := v276
  let v316 : Index := Scalar.indexCast v277
  let c0_173 : Index := 0#32
  ![v316.toNat, 0]
@[reducible] def k0_t4_loop (k0_t2 : Fin k0_t2_loop.trips) : Scf.Loop 32 :=
  let c0_i32_3 : BitVec 32 := 0#32
  let c1_i32_5 : BitVec 32 := 1#32
  let arg13 : BitVec 32 := Scf.iv c0_i32_3 c1_i32_5 k0_t2
  let c1_i32_134 : BitVec 32 := 1#32
  let v259 : BitVec 32 := Scalar.addi arg13 c1_i32_134
  let c4_i32_136 : BitVec 32 := 4#32
  let v260 : BitVec 32 := Scalar.subi c4_i32_136 v259
  let c1_i32_137 : BitVec 32 := 1#32
  let v262 : BitVec 32 := Scalar.divsi v260 c1_i32_137
  let v263 : BitVec 32 := Scalar.muli v262 c1_i32_137
  let v264 : BitVec 32 := Scalar.addi v259 v263
  let v261 : BitVec 32 := Scalar.addi v259 v260
  let c1_i32_139 : BitVec 32 := 1#32
  ⟨v264, v261, c1_i32_139⟩
def k0_mult9 (k0_t2 : Fin k0_t2_loop.trips) (k0_t4 : Fin (k0_t4_loop k0_t2).trips) : BitVec 32 :=
  let c0_i32_3 : BitVec 32 := 0#32
  let c1_i32_5 : BitVec 32 := 1#32
  let arg13 : BitVec 32 := Scf.iv c0_i32_3 c1_i32_5 k0_t2
  let c1_i32_134 : BitVec 32 := 1#32
  let v259 : BitVec 32 := Scalar.addi arg13 c1_i32_134
  let c4_i32_136 : BitVec 32 := 4#32
  let v260 : BitVec 32 := Scalar.subi c4_i32_136 v259
  let c1_i32_137 : BitVec 32 := 1#32
  let v262 : BitVec 32 := Scalar.divsi v260 c1_i32_137
  let v263 : BitVec 32 := Scalar.muli v262 c1_i32_137
  let v264 : BitVec 32 := Scalar.addi v259 v263
  let c1_i32_139 : BitVec 32 := 1#32
  let arg14 : BitVec 32 := Scf.iv v264 c1_i32_139 k0_t4
  let c1024_i32_148 : BitVec 32 := 1024#32
  let v275 : BitVec 32 := Scalar.muli arg14 c1024_i32_148
  let c0_i32_149 : BitVec 32 := 0#32
  let v276 : BitVec 32 := Scalar.addi v275 c0_i32_149
  v276
def k0_mult10 (k0_t2 : Fin k0_t2_loop.trips) (k0_t4 : Fin (k0_t4_loop k0_t2).trips) : BitVec 32 :=
  let c0_i32_3 : BitVec 32 := 0#32
  let c1_i32_5 : BitVec 32 := 1#32
  let arg13 : BitVec 32 := Scf.iv c0_i32_3 c1_i32_5 k0_t2
  let c1_i32_134 : BitVec 32 := 1#32
  let v259 : BitVec 32 := Scalar.addi arg13 c1_i32_134
  let c4_i32_136 : BitVec 32 := 4#32
  let v260 : BitVec 32 := Scalar.subi c4_i32_136 v259
  let c1_i32_137 : BitVec 32 := 1#32
  let v262 : BitVec 32 := Scalar.divsi v260 c1_i32_137
  let v263 : BitVec 32 := Scalar.muli v262 c1_i32_137
  let v264 : BitVec 32 := Scalar.addi v259 v263
  let c1_i32_139 : BitVec 32 := 1#32
  let arg14 : BitVec 32 := Scf.iv v264 c1_i32_139 k0_t4
  let c1024_i32_150 : BitVec 32 := 1024#32
  let v278 : BitVec 32 := Scalar.muli arg14 c1024_i32_150
  let c512_i32_151 : BitVec 32 := 512#32
  let v279 : BitVec 32 := Scalar.addi v278 c512_i32_151
  v279
def k0_off10 (k0_t2 : Fin k0_t2_loop.trips) (k0_t4 : Fin (k0_t4_loop k0_t2).trips) (c0_i32_149 : BitVec 32) : Fin 3 → Nat :=
  let c0_152 : Index := 0#32
  let c0_i32_3 : BitVec 32 := 0#32
  let c1_i32_5 : BitVec 32 := 1#32
  let arg13 : BitVec 32 := Scf.iv c0_i32_3 c1_i32_5 k0_t2
  let c1_i32_134 : BitVec 32 := 1#32
  let v259 : BitVec 32 := Scalar.addi arg13 c1_i32_134
  let c4_i32_136 : BitVec 32 := 4#32
  let v260 : BitVec 32 := Scalar.subi c4_i32_136 v259
  let c1_i32_137 : BitVec 32 := 1#32
  let v262 : BitVec 32 := Scalar.divsi v260 c1_i32_137
  let v263 : BitVec 32 := Scalar.muli v262 c1_i32_137
  let v264 : BitVec 32 := Scalar.addi v259 v263
  let c1_i32_139 : BitVec 32 := 1#32
  let arg14 : BitVec 32 := Scf.iv v264 c1_i32_139 k0_t4
  let c1024_i32_148 : BitVec 32 := 1024#32
  let v275 : BitVec 32 := Scalar.muli arg14 c1024_i32_148
  let v276 : BitVec 32 := Scalar.addi v275 c0_i32_149
  let v277 : BitVec 32 := v276
  let v281 : Index := Scalar.indexCast v277
  let c0_153 : Index := 0#32
  ![0, v281.toNat, 0]
def k0_off11 (k0_t2 : Fin k0_t2_loop.trips) (k0_t4 : Fin (k0_t4_loop k0_t2).trips) (c0_i32_149 : BitVec 32) : Fin 3 → Nat :=
  let c0_166 : Index := 0#32
  let c0_i32_3 : BitVec 32 := 0#32
  let c1_i32_5 : BitVec 32 := 1#32
  let arg13 : BitVec 32 := Scf.iv c0_i32_3 c1_i32_5 k0_t2
  let c1_i32_134 : BitVec 32 := 1#32
  let v259 : BitVec 32 := Scalar.addi arg13 c1_i32_134
  let c4_i32_136 : BitVec 32 := 4#32
  let v260 : BitVec 32 := Scalar.subi c4_i32_136 v259
  let c1_i32_137 : BitVec 32 := 1#32
  let v262 : BitVec 32 := Scalar.divsi v260 c1_i32_137
  let v263 : BitVec 32 := Scalar.muli v262 c1_i32_137
  let v264 : BitVec 32 := Scalar.addi v259 v263
  let c1_i32_139 : BitVec 32 := 1#32
  let arg14 : BitVec 32 := Scf.iv v264 c1_i32_139 k0_t4
  let c1024_i32_148 : BitVec 32 := 1024#32
  let v275 : BitVec 32 := Scalar.muli arg14 c1024_i32_148
  let v276 : BitVec 32 := Scalar.addi v275 c0_i32_149
  let v277 : BitVec 32 := v276
  let v303 : Index := Scalar.indexCast v277
  let c0_167 : Index := 0#32
  ![0, v303.toNat, 0]
def k0_off12 (k0_t2 : Fin k0_t2_loop.trips) (k0_t4 : Fin (k0_t4_loop k0_t2).trips) (c0_i32_149 : BitVec 32) : Fin 2 → Nat :=
  let c0_i32_3 : BitVec 32 := 0#32
  let c1_i32_5 : BitVec 32 := 1#32
  let arg13 : BitVec 32 := Scf.iv c0_i32_3 c1_i32_5 k0_t2
  let c1_i32_134 : BitVec 32 := 1#32
  let v259 : BitVec 32 := Scalar.addi arg13 c1_i32_134
  let c4_i32_136 : BitVec 32 := 4#32
  let v260 : BitVec 32 := Scalar.subi c4_i32_136 v259
  let c1_i32_137 : BitVec 32 := 1#32
  let v262 : BitVec 32 := Scalar.divsi v260 c1_i32_137
  let v263 : BitVec 32 := Scalar.muli v262 c1_i32_137
  let v264 : BitVec 32 := Scalar.addi v259 v263
  let c1_i32_139 : BitVec 32 := 1#32
  let arg14 : BitVec 32 := Scf.iv v264 c1_i32_139 k0_t4
  let c1024_i32_148 : BitVec 32 := 1024#32
  let v275 : BitVec 32 := Scalar.muli arg14 c1024_i32_148
  let v276 : BitVec 32 := Scalar.addi v275 c0_i32_149
  let v277 : BitVec 32 := v276
  let v316 : Index := Scalar.indexCast v277
  let c0_173 : Index := 0#32
  ![v316.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AttnIdeal.lean ====
variable {F : FTy → Type} [FloatOps F] [Named F]
def κ : String → Option EReal := fun
  | "mask" => some ⊥
  | "scale_log2" => some (((3424635 / 33554432) * (Real.log 2)⁻¹ : ℝ) : EReal)
  | _ => none
-- ==== AttnRefIdeal.lean ====
abbrev S4096x8x96 : Shape := ⟨3, ![4096, 8, 96]⟩
abbrev S4096x8x64 : Shape := ⟨3, ![4096, 8, 64]⟩
abbrev S4096x512 : Shape := ⟨2, ![4096, 512]⟩
abbrev S8x4096x4096 : Shape := ⟨3, ![8, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S8x4096 : Shape := ⟨2, ![8, 4096]⟩
abbrev S8x4096x1 : Shape := ⟨3, ![8, 4096, 1]⟩
abbrev S8x64x4096 : Shape := ⟨3, ![8, 64, 4096]⟩
abbrev S8x4096x96 : Shape := ⟨3, ![8, 4096, 96]⟩
abbrev S8x4096x128 : Shape := ⟨3, ![8, 4096, 128]⟩
abbrev S8x4096x64 : Shape := ⟨3, ![8, 4096, 64]⟩

abbrev nBuf : Space → Nat
  | .hbm => 104
  | .vmem => 0
  | .smem => 0
  | _ => 0

abbrev bufTy : (tb : Table) → Fin (tcTables nBuf tb) → BufTy
  | .hbm, ⟨0, _⟩ => ⟨S4096x8x96, .f32⟩
  | .hbm, ⟨1, _⟩ => ⟨S4096x8x96, .f32⟩
  | .hbm, ⟨2, _⟩ => ⟨S4096x8x64, .f32⟩
  | .hbm, ⟨3, _⟩ => ⟨S4096x512, .f32⟩
  | .hbm, ⟨4, _⟩ => ⟨S8x4096x4096, .f32⟩
  | .hbm, ⟨5, _⟩ => ⟨S_, .f32⟩
  | .hbm, ⟨6, _⟩ => ⟨S8x4096x4096, .f32⟩
  | .hbm, ⟨7, _⟩ => ⟨S8x4096x4096, .f32⟩
  | .hbm, ⟨8, _⟩ => ⟨S4096, .i32⟩
  | .hbm, ⟨9, _⟩ => ⟨S4096x1, .i32⟩
  | .hbm, ⟨10, _⟩ => ⟨S1x4096, .i32⟩
  | .hbm, ⟨11, _⟩ => ⟨S4096x4096, .i32⟩
  | .hbm, ⟨12, _⟩ => ⟨S4096x4096, .i32⟩
  | .hbm, ⟨13, _⟩ => ⟨S4096x4096, .i1⟩
  | .hbm, ⟨14, _⟩ => ⟨S1x4096x4096, .i1⟩
  | .hbm, ⟨15, _⟩ => ⟨S_, .f32⟩
  | .hbm, ⟨16, _⟩ => ⟨S_, .f32⟩
  | .hbm, ⟨17, _⟩ => ⟨S8x4096x4096, .i1⟩
  | .hbm, ⟨18, _⟩ => ⟨S8x4096x4096, .f32⟩
  | .hbm, ⟨19, _⟩ => ⟨S8x4096x4096, .f32⟩
  | .hbm, ⟨20, _⟩ => ⟨S_, .f32⟩
  | .hbm, ⟨21, _⟩ => ⟨S8x4096x4096, .f32⟩
  | .hbm, ⟨22, _⟩ => ⟨S_, .f32⟩
  | .hbm, ⟨23, _⟩ => ⟨S8x4096, .f32⟩
  | .hbm, ⟨24, _⟩ => ⟨S8x4096x1, .f32⟩
  | .hbm, ⟨25, _⟩ => ⟨S8x4096x4096, .f32⟩
  | .hbm, ⟨26, _⟩ => ⟨S8x4096x4096, .i1⟩
  | .hbm, ⟨27, _⟩ => ⟨S8x4096x4096, .f32⟩
  | .hbm, ⟨28, _⟩ => ⟨S_, .f32⟩
  | .hbm, ⟨29, _⟩ => ⟨S8x4096, .f32⟩
  | .hbm, ⟨30, _⟩ => ⟨S_, .f32⟩
  | .hbm, ⟨31, _⟩ => ⟨S8x4096, .f32⟩
  | .hbm, ⟨32, _⟩ => ⟨S8x4096, .f32⟩
  | .hbm, ⟨33, _⟩ => ⟨S_, .f32⟩
  | .hbm, ⟨34, _⟩ => ⟨S8x4096, .f32⟩
  | .hbm, ⟨35, _⟩ => ⟨S8x4096, .i1⟩
  | .hbm, ⟨36, _⟩ => ⟨S_, .f32⟩
  | .hbm, ⟨37, _⟩ => ⟨S8x4096, .f32⟩
  | .hbm, ⟨38, _⟩ => ⟨S8x4096, .i1⟩
  | .hbm, ⟨39, _⟩ => ⟨S_, .f32⟩
  | .hbm, ⟨40, _⟩ => ⟨S8x4096, .f32⟩
  | .hbm, ⟨41, _⟩ => ⟨S_, .f32⟩
  | .hbm, ⟨42, _⟩ => ⟨S8x4096, .f32⟩
  | .hbm, ⟨43, _⟩ => ⟨S_, .f32⟩
  | .hbm, ⟨44, _⟩ => ⟨S8x4096, .f32⟩
  | .hbm, ⟨45, _⟩ => ⟨S8x4096, .f32⟩
  | .hbm, ⟨46, _⟩ => ⟨S8x4096, .f32⟩
  | .hbm, ⟨47, _⟩ => ⟨S8x4096x1, .f32⟩
  | .hbm, ⟨48, _⟩ => ⟨S8x4096x4096, .f32⟩
  | .hbm, ⟨49, _⟩ => ⟨S8x4096x4096, .f32⟩
  | .hbm, ⟨50, _⟩ => ⟨S8x4096x4096, .f32⟩
  | .hbm, ⟨51, _⟩ => ⟨S_, .f32⟩
  | .hbm, ⟨52, _⟩ => ⟨S8x4096, .f32⟩
  | .hbm, ⟨53, _⟩ => ⟨S8x4096x1, .f32⟩
  | .hbm, ⟨54, _⟩ => ⟨S8x4096x4096, .f32⟩
  | .hbm, ⟨55, _⟩ => ⟨S8x4096x4096, .f32⟩
  | .hbm, ⟨56, _⟩ => ⟨S8x4096x1, .f32⟩
  | .hbm, ⟨57, _⟩ => ⟨S_, .f32⟩
  | .hbm, ⟨58, _⟩ => ⟨S8x4096x1, .f32⟩
  | .hbm, ⟨59, _⟩ => ⟨S8x4096x1, .f32⟩
  | .hbm, ⟨60, _⟩ => ⟨S8x64x4096, .f32⟩
  | .hbm, ⟨61, _⟩ => ⟨S4096x8x64, .f32⟩
  | .hbm, ⟨62, _⟩ => ⟨S4096x512, .f32⟩
  | .hbm, ⟨63, _⟩ => ⟨S4096x8x64, .f32⟩
  | .hbm, ⟨64, _⟩ => ⟨S8x64x4096, .f32⟩
  | .hbm, ⟨65, _⟩ => ⟨S8x4096x4096, .f32⟩
  | .hbm, ⟨66, _⟩ => ⟨S8x64x4096, .f32⟩
  | .hbm, ⟨67, _⟩ => ⟨S4096x8x64, .f32⟩
  | .hbm, ⟨68, _⟩ => ⟨S8x4096x4096, .f32⟩
  | .hbm, ⟨69, _⟩ => ⟨S8x4096x4096, .f32⟩
  | .hbm, ⟨70, _⟩ => ⟨S8x4096x4096, .f32⟩
  | .hbm, ⟨71, _⟩ => ⟨S_, .f32⟩
  | .hbm, ⟨72, _⟩ => ⟨S8x4096, .f32⟩
  | .hbm, ⟨73, _⟩ => ⟨S8x4096x1, .f32⟩
  | .hbm, ⟨74, _⟩ => ⟨S8x4096x1, .f32⟩
  | .hbm, ⟨75, _⟩ => ⟨S8x4096x4096, .f32⟩
  | .hbm, ⟨76, _⟩ => ⟨S8x4096x4096, .f32⟩
  | .hbm, ⟨77, _⟩ => ⟨S_, .f32⟩
  | .hbm, ⟨78, _⟩ => ⟨S8x4096, .f32⟩
  | .hbm, ⟨79, _⟩ => ⟨S8x4096x4096, .f32⟩
  | .hbm, ⟨80, _⟩ => ⟨S8x4096x4096, .f32⟩
  | .hbm, ⟨81, _⟩ => ⟨S8x4096x4096, .f32⟩
  | .hbm, ⟨82, _⟩ => ⟨S_, .f32⟩
  | .hbm, ⟨83, _⟩ => ⟨S8x4096x4096, .f32⟩
  | .hbm, ⟨84, _⟩ => ⟨S8x4096x4096, .f32⟩
  | .hbm, ⟨85, _⟩ => ⟨S_, .f32⟩
  | .hbm, ⟨86, _⟩ => ⟨S8x4096x4096, .f32⟩
  | .hbm, ⟨87, _⟩ => ⟨S8x4096x4096, .f32⟩
  | .hbm, ⟨88, _⟩ => ⟨S8x4096x96, .f32⟩
  | .hbm, ⟨89, _⟩ => ⟨S4096x8x96, .f32⟩
  | .hbm, ⟨90, _⟩ => ⟨S8x4096x96, .f32⟩
  | .hbm, ⟨91, _⟩ => ⟨S4096x8x96, .f32⟩
  | .hbm, ⟨92, _⟩ => ⟨S8x4096x96, .f32⟩
  | .hbm, ⟨93, _⟩ => ⟨S_, .i32⟩
  | .hbm, ⟨94, _⟩ => ⟨S_, .f32⟩
  | .hbm, ⟨95, _⟩ => ⟨S8x4096x128, .f32⟩
  | .hbm, ⟨96, _⟩ => ⟨S8x4096x96, .f32⟩
  | .hbm, ⟨97, _⟩ => ⟨S_, .i32⟩
  | .hbm, ⟨98, _⟩ => ⟨S_, .f32⟩
  | .hbm, ⟨99, _⟩ => ⟨S8x4096x128, .f32⟩
  | .hbm, ⟨100, _⟩ => ⟨S8x4096x64, .f32⟩
  | .hbm, ⟨101, _⟩ => ⟨S_, .i32⟩
  | .hbm, ⟨102, _⟩ => ⟨S_, .f32⟩
  | .hbm, ⟨103, _⟩ => ⟨S8x4096x128, .f32⟩
  | _, _ => ⟨S4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_v10_1 : Ref sig .tc := ⟨.hbm, 17, rfl⟩
abbrev main_call0_v2 : Ref sig .tc := ⟨.hbm, 18, rfl⟩
abbrev main_v10_0 : Ref sig .tc := ⟨.hbm, 19, rfl⟩
abbrev main_call0_cst : Ref sig .tc := ⟨.hbm, 20, rfl⟩
abbrev main_v10_2 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_cst_8 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_call1_cst : Ref sig .tc := ⟨.hbm, 82, rfl⟩
abbrev main_call1_v0 : Ref sig .tc := ⟨.hbm, 83, rfl⟩
abbrev main_v59 : Ref sig .tc := ⟨.hbm, 84, rfl⟩
abbrev main_cst_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_c : Ref sig .tc := ⟨.hbm, 93, rfl⟩
abbrev main_call2_v0 : Ref sig .tc := ⟨.hbm, 94, rfl⟩
abbrev main_v67 : Ref sig .tc := ⟨.hbm, 95, rfl⟩
abbrev main_v68 : Ref sig .tc := ⟨.hbm, 96, rfl⟩
abbrev main_c_14 : Ref sig .tc := ⟨.hbm, 97, rfl⟩
abbrev main_call3_v0 : Ref sig .tc := ⟨.hbm, 98, rfl⟩
abbrev main_v69 : Ref sig .tc := ⟨.hbm, 99, rfl⟩
abbrev main_v70 : Ref sig .tc := ⟨.hbm, 100, rfl⟩
abbrev main_c_15 : Ref sig .tc := ⟨.hbm, 101, rfl⟩
abbrev main_call4_v0 : Ref sig .tc := ⟨.hbm, 102, rfl⟩
abbrev main_v71 : Ref sig .tc := ⟨.hbm, 103, rfl⟩

abbrev nD : Nat := 1
abbrev τ : Topo := Topo.v7x

variable {F : FTy → Type} [FloatOps F]
-- ==== Up.lean ====
abbrev S4096x1024 : Shape := ⟨2, ![4096, 1024]⟩
abbrev S1024x5632 : Shape := ⟨2, ![1024, 5632]⟩
abbrev S3x5632 : Shape := ⟨2, ![3, 5632]⟩
abbrev S5632 : Shape := ⟨1, ![5632]⟩
abbrev S5632x1024 : Shape := ⟨2, ![5632, 1024]⟩
abbrev S2x11x256x1024 : Shape := ⟨4, ![2, 11, 256, 1024]⟩
abbrev S11x2x256x1024 : Shape := ⟨4, ![11, 2, 256, 1024]⟩
abbrev S3x2x11x256 : Shape := ⟨4, ![3, 2, 11, 256]⟩
abbrev S3x11x2x256 : Shape := ⟨4, ![3, 11, 2, 256]⟩
abbrev S1x5632 : Shape := ⟨2, ![1, 5632]⟩
abbrev S1x2x11x256 : Shape := ⟨4, ![1, 2, 11, 256]⟩
abbrev S1x11x2x256 : Shape := ⟨4, ![1, 11, 2, 256]⟩
abbrev S4096x5632 : Shape := ⟨2, ![4096, 5632]⟩
abbrev S4096x2816 : Shape := ⟨2, ![4096, 2816]⟩
abbrev S1024x1024 : Shape := ⟨2, ![1024, 1024]⟩
abbrev S16x1024 : Shape := ⟨2, ![16, 1024]⟩
abbrev S512x1024 : Shape := ⟨2, ![512, 1024]⟩
abbrev S3x512 : Shape := ⟨2, ![3, 512]⟩
abbrev S1x512 : Shape := ⟨2, ![1, 512]⟩
abbrev S1024x512 : Shape := ⟨2, ![1024, 512]⟩
abbrev S1024x256 : Shape := ⟨2, ![1024, 256]⟩
abbrev S1040x1024 : Shape := ⟨2, ![1040, 1024]⟩
abbrev S1040x512 : Shape := ⟨2, ![1040, 512]⟩

abbrev nBuf : Space → Nat
  | .hbm => 20
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S4096x1024, .bf16⟩
  | .hbm, ⟨5, _⟩ => ⟨S5632x1024, .f32⟩
  | .hbm, ⟨6, _⟩ => ⟨S2x11x256x1024, .f32⟩
  | .hbm, ⟨7, _⟩ => ⟨S11x2x256x1024, .f32⟩
  | .hbm, ⟨8, _⟩ => ⟨S5632x1024, .f32⟩
  | .hbm, ⟨9, _⟩ => ⟨S5632x1024, .bf16⟩
  | .hbm, ⟨10, _⟩ => ⟨S3x2x11x256, .f32⟩
  | .hbm, ⟨11, _⟩ => ⟨S3x11x2x256, .f32⟩
  | .hbm, ⟨12, _⟩ => ⟨S3x5632, .f32⟩
  | .hbm, ⟨13, _⟩ => ⟨S1x5632, .f32⟩
  | .hbm, ⟨14, _⟩ => ⟨S1x2x11x256, .f32⟩
  | .hbm, ⟨15, _⟩ => ⟨S1x11x2x256, .f32⟩
  | .hbm, ⟨16, _⟩ => ⟨S1x5632, .f32⟩
  | .hbm, ⟨17, _⟩ => ⟨S4096x5632, .f32⟩
  | .hbm, ⟨18, _⟩ => ⟨S4096x5632, .f32⟩
  | .hbm, ⟨19, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S16x1024, .bf16⟩
  | .local _ .vmem, ⟨3, _⟩ => ⟨S16x1024, .bf16⟩
  | .local _ .vmem, ⟨4, _⟩ => ⟨S512x1024, .bf16⟩
  | .local _ .vmem, ⟨5, _⟩ => ⟨S512x1024, .bf16⟩
  | .local _ .vmem, ⟨6, _⟩ => ⟨S3x512, .f32⟩
  | .local _ .vmem, ⟨7, _⟩ => ⟨S3x512, .f32⟩
  | .local _ .vmem, ⟨8, _⟩ => ⟨S1x512, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x256, .bf16⟩
  | .local _ .vmem, ⟨15, _⟩ => ⟨S1024x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13_0 : Ref sig .tc := ⟨.hbm, 17, rfl⟩
abbrev main_v13_1 : Ref sig .tc := ⟨.hbm, 18, rfl⟩
abbrev main_v13_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== UpIdeal.lean ====
variable {F : FTy → Type} [FloatOps F] [Named F]
def κ : String → Option EReal := fun
  | "gelu_ca" => some ((80338380498831 / 2251799813685248 : ℝ) : EReal)
  | _ => none
-- ==== UpRefIdeal.lean ====
abbrev S4096x1024 : Shape := ⟨2, ![4096, 1024]⟩
abbrev S1024x5632 : Shape := ⟨2, ![1024, 5632]⟩
abbrev S3x5632 : Shape := ⟨2, ![3, 5632]⟩
abbrev S5632 : Shape := ⟨1, ![5632]⟩
abbrev S4096x5632 : Shape := ⟨2, ![4096, 5632]⟩
abbrev S_ : Shape := ⟨0, ![]⟩
abbrev S4098x5632 : Shape := ⟨2, ![4098, 5632]⟩
abbrev S1x5632 : Shape := ⟨2, ![1, 5632]⟩
abbrev S4097x5632 : Shape := ⟨2, ![4097, 5632]⟩
abbrev S4096x2816 : Shape := ⟨2, ![4096, 2816]⟩
abbrev S4096x2x11x256 : Shape := ⟨4, ![4096, 2, 11, 256]⟩
abbrev S4096x11x2x256 : Shape := ⟨4, ![4096, 11, 2, 256]⟩

abbrev nBuf : Space → Nat
  | .hbm => 60
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S4096x5632, .f32⟩
  | .hbm, ⟨5, _⟩ => ⟨S_, .i32⟩
  | .hbm, ⟨6, _⟩ => ⟨S_, .f32⟩
  | .hbm, ⟨7, _⟩ => ⟨S4098x5632, .f32⟩
  | .hbm, ⟨8, _⟩ => ⟨S4096x5632, .f32⟩
  | .hbm, ⟨9, _⟩ => ⟨S1x5632, .f32⟩
  | .hbm, ⟨10, _⟩ => ⟨S5632, .f32⟩
  | .hbm, ⟨11, _⟩ => ⟨S1x5632, .f32⟩
  | .hbm, ⟨12, _⟩ => ⟨S4096x5632, .f32⟩
  | .hbm, ⟨13, _⟩ => ⟨S4096x5632, .f32⟩
  | .hbm, ⟨14, _⟩ => ⟨S1x5632, .f32⟩
  | .hbm, ⟨15, _⟩ => ⟨S4096x5632, .f32⟩
  | .hbm, ⟨16, _⟩ => ⟨S4096x5632, .f32⟩
  | .hbm, ⟨17, _⟩ => ⟨S_, .i32⟩
  | .hbm, ⟨18, _⟩ => ⟨S_, .f32⟩
  | .hbm, ⟨19, _⟩ => ⟨S4097x5632, .f32⟩
  | .hbm, ⟨20, _⟩ => ⟨S4096x5632, .f32⟩
  | .hbm, ⟨21, _⟩ => ⟨S1x5632, .f32⟩
  | .hbm, ⟨22, _⟩ => ⟨S5632, .f32⟩
  | .hbm, ⟨23, _⟩ => ⟨S1x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S1x5632, .f32⟩
  | .hbm, ⟨28, _⟩ => ⟨S5632, .f32⟩
  | .hbm, ⟨29, _⟩ => ⟨S1x5632, .f32⟩
  | .hbm, ⟨30, _⟩ => ⟨S4096x5632, .f32⟩
  | .hbm, ⟨31, _⟩ => ⟨S4096x5632, .f32⟩
  | .hbm, ⟨32, _⟩ => ⟨S4096x5632, .f32⟩
  | .hbm, ⟨33, _⟩ => ⟨S4096x2816, .f32⟩
  | .hbm, ⟨34, _⟩ => ⟨S4096x2816, .f32⟩
  | .hbm, ⟨35, _⟩ => ⟨S4096x2x11x256, .f32⟩
  | .hbm, ⟨36, _⟩ => ⟨S4096x11x2x256, .f32⟩
  | .hbm, ⟨37, _⟩ => ⟨S4096x5632, .f32⟩
  | .hbm, ⟨38, _⟩ => ⟨S4096x2x11x256, .f32⟩
  | .hbm, ⟨39, _⟩ => ⟨S4096x11x2x256, .f32⟩
  | .hbm, ⟨40, _⟩ => ⟨S4096x5632, .f32⟩
  | .hbm, ⟨41, _⟩ => ⟨S4096x2816, .f32⟩
  | .hbm, ⟨42, _⟩ => ⟨S4096x2816, .f32⟩
  | .hbm, ⟨43, _⟩ => ⟨S_, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S_, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S_, .f32⟩
  | .hbm, ⟨52, _⟩ => ⟨S4096x2816, .f32⟩
  | .hbm, ⟨53, _⟩ => ⟨S4096x2816, .f32⟩
  | .hbm, ⟨54, _⟩ => ⟨S_, .f32⟩
  | .hbm, ⟨55, _⟩ => ⟨S4096x2816, .f32⟩
  | .hbm, ⟨56, _⟩ => ⟨S4096x2816, .f32⟩
  | .hbm, ⟨57, _⟩ => ⟨S4096x2816, .f32⟩
  | .hbm, ⟨58, _⟩ => ⟨S4096x2816, .f32⟩
  | .hbm, ⟨59, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_call1_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_1 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_2 : Ref sig .tc := ⟨.hbm, 51, rfl⟩
abbrev main_v41 : Ref sig .tc := ⟨.hbm, 52, rfl⟩
abbrev main_v42 : Ref sig .tc := ⟨.hbm, 53, rfl⟩
abbrev main_cst_3 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩

abbrev nD : Nat := 1
abbrev τ : Topo := Topo.v7x

variable {F : FTy → Type} [FloatOps F]
-- ==== AttnF.lean ====
abbrev S4096x8x96 : Shape := ⟨3, ![4096, 8, 96]⟩
abbrev S4096x8x64 : Shape := ⟨3, ![4096, 8, 64]⟩
abbrev S1x1x128 : Shape := ⟨3, ![1, 1, 128]⟩
abbrev S_ : Shape := ⟨0, ![]⟩
abbrev S8x4096x96 : Shape := ⟨3, ![8, 4096, 96]⟩
abbrev S8x4096x128 : Shape := ⟨3, ![8, 4096, 128]⟩
abbrev S8x4096x64 : Shape := ⟨3, ![8, 4096, 64]⟩
abbrev S1x1024x128 : Shape := ⟨3, ![1, 1024, 128]⟩
abbrev S1x4096x128 : Shape := ⟨3, ![1, 4096, 128]⟩
abbrev S1024x1 : Shape := ⟨2, ![1024, 1]⟩
abbrev S1024x128 : Shape := ⟨2, ![1024, 128]⟩
abbrev S1024x1024 : Shape := ⟨2, ![1024, 1024]⟩
abbrev S1024 : Shape := ⟨1, ![1024]⟩
abbrev S512x512 : Shape := ⟨2, ![512, 512]⟩
abbrev S1x512x128 : Shape := ⟨3, ![1, 512, 128]⟩
abbrev S512x128 : Shape := ⟨2, ![512, 128]⟩
abbrev S512x1 : Shape := ⟨2, ![512, 1]⟩
abbrev S512 : Shape := ⟨1, ![512]⟩
abbrev S512x1024 : Shape := ⟨2, ![512, 1024]⟩

abbrev nBuf : Space → Nat
  | .hbm => 28
  | .vmem => 15
  | .smem => 0
  | _ => 0

abbrev bufTy : (tb : Table) → Fin (tcTables nBuf tb) → BufTy
  | .hbm, ⟨0, _⟩ => ⟨S4096x8x96, .f32⟩
  | .hbm, ⟨1, _⟩ => ⟨S4096x8x96, .f32⟩
  | .hbm, ⟨2, _⟩ => ⟨S4096x8x64, .f32⟩
  | .hbm, ⟨3, _⟩ => ⟨S1x1x128, .i32⟩
  | .hbm, ⟨4, _⟩ => ⟨S_, .i32⟩
  | .hbm, ⟨5, _⟩ => ⟨S1x1x128, .i32⟩
  | .hbm, ⟨6, _⟩ => ⟨S1x1x128, .i1⟩
  | .hbm, ⟨7, _⟩ => ⟨S1x1x128, .f32⟩
  | .hbm, ⟨8, _⟩ => ⟨S8x4096x96, .f32⟩
  | .hbm, ⟨9, _⟩ => ⟨S_, .i32⟩
  | .hbm, ⟨10, _⟩ => ⟨S_, .f32⟩
  | .hbm, ⟨11, _⟩ => ⟨S8x4096x128, .f32⟩
  | .hbm, ⟨12, _⟩ => ⟨S8x4096x128, .bf16⟩
  | .hbm, ⟨13, _⟩ => ⟨S8x4096x96, .f32⟩
  | .hbm, ⟨14, _⟩ => ⟨S_, .i32⟩
  | .hbm, ⟨15, _⟩ => ⟨S_, .f32⟩
  | .hbm, ⟨16, _⟩ => ⟨S8x4096x128, .f32⟩
  | .hbm, ⟨17, _⟩ => ⟨S8x4096x128, .bf16⟩
  | .hbm, ⟨18, _⟩ => ⟨S8x4096x64, .f32⟩
  | .hbm, ⟨19, _⟩ => ⟨S_, .i32⟩
  | .hbm, ⟨20, _⟩ => ⟨S_, .f32⟩
  | .hbm, ⟨21, _⟩ => ⟨S8x4096x128, .f32⟩
  | .hbm, ⟨22, _⟩ => ⟨S8x4096x128, .f32⟩
  | .hbm, ⟨23, _⟩ => ⟨S8x4096x128, .f32⟩
  | .hbm, ⟨24, _⟩ => ⟨S8x4096x128, .bf16⟩
  | .hbm, ⟨25, _⟩ => ⟨S8x4096x128, .f32⟩
  | .hbm, ⟨26, _⟩ => ⟨S8x4096x128, .bf16⟩
  | .hbm, ⟨27, _⟩ => ⟨S8x4096x128, .f32⟩
  | .local _ .vmem, ⟨0, _⟩ => ⟨S1x1024x128, .bf16⟩
  | .local _ .vmem, ⟨1, _⟩ => ⟨S1x1024x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x1024x128, .f32⟩
  | .local _ .vmem, ⟨7, _⟩ => ⟨S1x1024x128, .f32⟩
  | .local _ .vmem, ⟨8, _⟩ => ⟨S1x1024x128, .bf16⟩
  | .local _ .vmem, ⟨9, _⟩ => ⟨S1x1024x128, .bf16⟩
  | .local _ .vmem, ⟨10, _⟩ => ⟨S1x1024x128, .f32⟩
  | .local _ .vmem, ⟨11, _⟩ => ⟨S1x1024x128, .f32⟩
  | .local _ .vmem, ⟨12, _⟩ => ⟨S1024x1, .f32⟩
  | .local _ .vmem, ⟨13, _⟩ => ⟨S1024x128, .f32⟩
  | .local _ .vmem, ⟨14, _⟩ => ⟨S1024x1024, .f32⟩
  | _, _ => ⟨S4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_call1_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_call2_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev main_v15_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def k0_mult1 : BitVec 32 :=
  let c0_i32 : BitVec 32 := 0#32
  c0_i32
@[reducible] def k0_t1_loop (i : grid0.Coords) : Scf.Loop 32 :=
  let c0_i32_14 : BitVec 32 := 0#32
  let arg1 : BitVec 32 := BitVec.ofNat 32 (i 1).val
  let v20 : BitVec 32 := Scalar.subi arg1 c0_i32_14
  let c1_i32 : BitVec 32 := 1#32
  let v22 : BitVec 32 := Scalar.divsi v20 c1_i32
  let v23 : BitVec 32 := Scalar.muli v22 c1_i32
  let v24 : BitVec 32 := Scalar.addi c0_i32_14 v23
  let c1_i32_15 : BitVec 32 := 1#32
  ⟨c0_i32_14, v24, c1_i32_15⟩
def k0_mult2 (i : grid0.Coords) (k0_t1 : Fin (k0_t1_loop i).trips) : BitVec 32 :=
  let c0_i32_14 : BitVec 32 := 0#32
  let c1_i32_15 : BitVec 32 := 1#32
  let arg11 : BitVec 32 := Scf.iv c0_i32_14 c1_i32_15 k0_t1
  let c1_i32_64 : BitVec 32 := 1#32
  let v121 : BitVec 32 := Scalar.addi arg11 c1_i32_64
  let c1024_i32_65 : BitVec 32 := 1024#32
  let v122 : BitVec 32 := Scalar.muli v121 c1024_i32_65
  v122
def k0_off1 (i : grid0.Coords) (k0_t1 : Fin (k0_t1_loop i).trips) : Fin 3 → Nat :=
  let c0_66 : Index := 0#32
  let c0_i32_14 : BitVec 32 := 0#32
  let c1_i32_15 : BitVec 32 := 1#32
  let arg11 : BitVec 32 := Scf.iv c0_i32_14 c1_i32_15 k0_t1
  let c1_i32_64 : BitVec 32 := 1#32
  let v121 : BitVec 32 := Scalar.addi arg11 c1_i32_64
  let c1024_i32_65 : BitVec 32 := 1024#32
  let v122 : BitVec 32 := Scalar.muli v121 c1024_i32_65
  let v123 : BitVec 32 := v122
  let v124 : Index := Scalar.indexCast v123
  let c0_67 : Index := 0#32
  ![0, v124.toNat, 0]
def k0_mult3 (i : grid0.Coords) (k0_t1 : Fin (k0_t1_loop i).trips) : BitVec 32 :=
  let c0_i32_14 : BitVec 32 := 0#32
  let c1_i32_15 : BitVec 32 := 1#32
  let arg11 : BitVec 32 := Scf.iv c0_i32_14 c1_i32_15 k0_t1
  let c1024_i32_72 : BitVec 32 := 1024#32
  let v131 : BitVec 32 := Scalar.muli arg11 c1024_i32_72
  v131
def k0_off2 (i : grid0.Coords) (k0_t1 : Fin (k0_t1_loop i).trips) : Fin 3 → Nat :=
  let c0_73 : Index := 0#32
  let c0_i32_14 : BitVec 32 := 0#32
  let c1_i32_15 : BitVec 32 := 1#32
  let arg11 : BitVec 32 := Scf.iv c0_i32_14 c1_i32_15 k0_t1
  let c1024_i32_72 : BitVec 32 := 1024#32
  let v131 : BitVec 32 := Scalar.muli arg11 c1024_i32_72
  let v132 : BitVec 32 := v131
  let v133 : Index := Scalar.indexCast v132
  let c0_74 : Index := 0#32
  ![0, v133.toNat, 0]
@[reducible] def k0_t2_loop (i : grid0.Coords) : Scf.Loop 32 :=
  let c0_i32_14 : BitVec 32 := 0#32
  let arg1 : BitVec 32 := BitVec.ofNat 32 (i 1).val
  let v20 : BitVec 32 := Scalar.subi arg1 c0_i32_14
  let c1_i32 : BitVec 32 := 1#32
  let v22 : BitVec 32 := Scalar.divsi v20 c1_i32
  let v23 : BitVec 32 := Scalar.muli v22 c1_i32
  let v24 : BitVec 32 := Scalar.addi c0_i32_14 v23
  let v21 : BitVec 32 := Scalar.addi c0_i32_14 v20
  let c1_i32_16 : BitVec 32 := 1#32
  ⟨v24, v21, c1_i32_16⟩
def k0_mult4 (i : grid0.Coords) (k0_t2 : Fin (k0_t2_loop i).trips) : BitVec 32 :=
  let c0_i32_14 : BitVec 32 := 0#32
  let arg1 : BitVec 32 := BitVec.ofNat 32 (i 1).val
  let v20 : BitVec 32 := Scalar.subi arg1 c0_i32_14
  let c1_i32 : BitVec 32 := 1#32
  let v22 : BitVec 32 := Scalar.divsi v20 c1_i32
  let v23 : BitVec 32 := Scalar.muli v22 c1_i32
  let v24 : BitVec 32 := Scalar.addi c0_i32_14 v23
  let c1_i32_16 : BitVec 32 := 1#32
  let arg11 : BitVec 32 := Scf.iv v24 c1_i32_16 k0_t2
  let c1_i32_64 : BitVec 32 := 1#32
  let v121 : BitVec 32 := Scalar.addi arg11 c1_i32_64
  let c1024_i32_65 : BitVec 32 := 1024#32
  let v122 : BitVec 32 := Scalar.muli v121 c1024_i32_65
  v122
def k0_off3 (i : grid0.Coords) (k0_t2 : Fin (k0_t2_loop i).trips) : Fin 3 → Nat :=
  let c0_66 : Index := 0#32
  let c0_i32_14 : BitVec 32 := 0#32
  let arg1 : BitVec 32 := BitVec.ofNat 32 (i 1).val
  let v20 : BitVec 32 := Scalar.subi arg1 c0_i32_14
  let c1_i32 : BitVec 32 := 1#32
  let v22 : BitVec 32 := Scalar.divsi v20 c1_i32
  let v23 : BitVec 32 := Scalar.muli v22 c1_i32
  let v24 : BitVec 32 := Scalar.addi c0_i32_14 v23
  let c1_i32_16 : BitVec 32 := 1#32
  let arg11 : BitVec 32 := Scf.iv v24 c1_i32_16 k0_t2
  let c1_i32_64 : BitVec 32 := 1#32
  let v121 : BitVec 32 := Scalar.addi arg11 c1_i32_64
  let c1024_i32_65 : BitVec 32 := 1024#32
  let v122 : BitVec 32 := Scalar.muli v121 c1024_i32_65
  let v123 : BitVec 32 := v122
  let v124 : Index := Scalar.indexCast v123
  let c0_67 : Index := 0#32
  ![0, v124.toNat, 0]
def k0_mult5 (i : grid0.Coords) (k0_t2 : Fin (k0_t2_loop i).trips) : BitVec 32 :=
  let c0_i32_14 : BitVec 32 := 0#32
  let arg1 : BitVec 32 := BitVec.ofNat 32 (i 1).val
  let v20 : BitVec 32 := Scalar.subi arg1 c0_i32_14
  let c1_i32 : BitVec 32 := 1#32
  let v22 : BitVec 32 := Scalar.divsi v20 c1_i32
  let v23 : BitVec 32 := Scalar.muli v22 c1_i32
  let v24 : BitVec 32 := Scalar.addi c0_i32_14 v23
  let c1_i32_16 : BitVec 32 := 1#32
  let arg11 : BitVec 32 := Scf.iv v24 c1_i32_16 k0_t2
  let c1024_i32_72 : BitVec 32 := 1024#32
  let v131 : BitVec 32 := Scalar.muli arg11 c1024_i32_72
  v131
def k0_off4 (i : grid0.Coords) (k0_t2 : Fin (k0_t2_loop i).trips) : Fin 3 → Nat :=
  let c0_73 : Index := 0#32
  let c0_i32_14 : BitVec 32 := 0#32
  let arg1 : BitVec 32 := BitVec.ofNat 32 (i 1).val
  let v20 : BitVec 32 := Scalar.subi arg1 c0_i32_14
  let c1_i32 : BitVec 32 := 1#32
  let v22 : BitVec 32 := Scalar.divsi v20 c1_i32
  let v23 : BitVec 32 := Scalar.muli v22 c1_i32
  let v24 : BitVec 32 := Scalar.addi c0_i32_14 v23
  let c1_i32_16 : BitVec 32 := 1#32
  let arg11 : BitVec 32 := Scf.iv v24 c1_i32_16 k0_t2
  let c1024_i32_72 : BitVec 32 := 1024#32
  let v131 : BitVec 32 := Scalar.muli arg11 c1024_i32_72
  let v132 : BitVec 32 := v131
  let v133 : Index := Scalar.indexCast v132
  let c0_74 : Index := 0#32
  ![0, v133.toNat, 0]
def k0_mult6 (i : grid0.Coords) : BitVec 32 :=
  let arg1 : BitVec 32 := BitVec.ofNat 32 (i 1).val
  let c1024_i32 : BitVec 32 := 1024#32
  let v31 : BitVec 32 := Scalar.muli arg1 c1024_i32
  v31
def k0_off5 (i : grid0.Coords) : Fin 3 → Nat :=
  let c0_20 : Index := 0#32
  let arg1 : BitVec 32 := BitVec.ofNat 32 (i 1).val
  let c1024_i32 : BitVec 32 := 1024#32
  let v31 : BitVec 32 := Scalar.muli arg1 c1024_i32
  let v32 : BitVec 32 := v31
  let v33 : Index := Scalar.indexCast v32
  let c0_21 : Index := 0#32
  ![0, v33.toNat, 0]
def k0_mult7 (i : grid0.Coords) : BitVec 32 :=
  let arg1 : BitVec 32 := BitVec.ofNat 32 (i 1).val
  let c1024_i32_34 : BitVec 32 := 1024#32
  let v65 : BitVec 32 := Scalar.muli arg1 c1024_i32_34
  v65
def k0_off6 (i : grid0.Coords) : Fin 3 → Nat :=
  let c0_35 : Index := 0#32
  let arg1 : BitVec 32 := BitVec.ofNat 32 (i 1).val
  let c1024_i32_34 : BitVec 32 := 1024#32
  let v65 : BitVec 32 := Scalar.muli arg1 c1024_i32_34
  let v66 : BitVec 32 := v65
  let v67 : Index := Scalar.indexCast v66
  let c0_36 : Index := 0#32
  ![0, v67.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttnFIdeal.lean ====
variable {F : FTy → Type} [FloatOps F] [Named F]
def κ : String → Option EReal := fun
  | "log2_e" => some (((Real.log 2)⁻¹ : ℝ) : EReal)
  | "mask" => some ⊥
  | "scale_log2" => some (((3424635 / 33554432) * (Real.log 2)⁻¹ : ℝ) : EReal)
  | _ => none
-- ==== AttnFRefIdeal.lean ====
abbrev S4096x8x96 : Shape := ⟨3, ![4096, 8, 96]⟩
abbrev S4096x8x64 : Shape := ⟨3, ![4096, 8, 64]⟩
abbrev S8x4096x4096 : Shape := ⟨3, ![8, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S8x4096 : Shape := ⟨2, ![8, 4096]⟩
abbrev S8x4096x1 : Shape := ⟨3, ![8, 4096, 1]⟩
abbrev S8x4096x64 : Shape := ⟨3, ![8, 4096, 64]⟩
abbrev S8x4096x128 : Shape := ⟨3, ![8, 4096, 128]⟩

abbrev nBuf : Space → Nat
  | .hbm => 55
  | .vmem => 0
  | .smem => 0
  | _ => 0

abbrev bufTy : (tb : Table) → Fin (tcTables nBuf tb) → BufTy
  | .hbm, ⟨0, _⟩ => ⟨S4096x8x96, .f32⟩
  | .hbm, ⟨1, _⟩ => ⟨S4096x8x96, .f32⟩
  | .hbm, ⟨2, _⟩ => ⟨S4096x8x64, .f32⟩
  | .hbm, ⟨3, _⟩ => ⟨S8x4096x4096, .f32⟩
  | .hbm, ⟨4, _⟩ => ⟨S_, .f32⟩
  | .hbm, ⟨5, _⟩ => ⟨S8x4096x4096, .f32⟩
  | .hbm, ⟨6, _⟩ => ⟨S8x4096x4096, .f32⟩
  | .hbm, ⟨7, _⟩ => ⟨S4096, .i32⟩
  | .hbm, ⟨8, _⟩ => ⟨S4096x1, .i32⟩
  | .hbm, ⟨9, _⟩ => ⟨S1x4096, .i32⟩
  | .hbm, ⟨10, _⟩ => ⟨S4096x4096, .i32⟩
  | .hbm, ⟨11, _⟩ => ⟨S4096x4096, .i32⟩
  | .hbm, ⟨12, _⟩ => ⟨S4096x4096, .i1⟩
  | .hbm, ⟨13, _⟩ => ⟨S1x4096x4096, .i1⟩
  | .hbm, ⟨14, _⟩ => ⟨S_, .f32⟩
  | .hbm, ⟨15, _⟩ => ⟨S_, .f32⟩
  | .hbm, ⟨16, _⟩ => ⟨S8x4096x4096, .i1⟩
  | .hbm, ⟨17, _⟩ => ⟨S8x4096x4096, .f32⟩
  | .hbm, ⟨18, _⟩ => ⟨S8x4096x4096, .f32⟩
  | .hbm, ⟨19, _⟩ => ⟨S_, .f32⟩
  | .hbm, ⟨20, _⟩ => ⟨S8x4096, .f32⟩
  | .hbm, ⟨21, _⟩ => ⟨S_, .f32⟩
  | .hbm, ⟨22, _⟩ => ⟨S8x4096, .f32⟩
  | .hbm, ⟨23, _⟩ => ⟨S8x4096, .f32⟩
  | .hbm, ⟨24, _⟩ => ⟨S8x4096x1, .f32⟩
  | .hbm, ⟨25, _⟩ => ⟨S8x4096x4096, .f32⟩
  | .hbm, ⟨26, _⟩ => ⟨S8x4096x4096, .f32⟩
  | .hbm, ⟨27, _⟩ => ⟨S8x4096x4096, .f32⟩
  | .hbm, ⟨28, _⟩ => ⟨S_, .f32⟩
  | .hbm, ⟨29, _⟩ => ⟨S8x4096, .f32⟩
  | .hbm, ⟨30, _⟩ => ⟨S8x4096x1, .f32⟩
  | .hbm, ⟨31, _⟩ => ⟨S8x4096x4096, .f32⟩
  | .hbm, ⟨32, _⟩ => ⟨S8x4096x4096, .f32⟩
  | .hbm, ⟨33, _⟩ => ⟨S8x4096x64, .f32⟩
  | .hbm, ⟨34, _⟩ => ⟨S_, .i32⟩
  | .hbm, ⟨35, _⟩ => ⟨S_, .f32⟩
  | .hbm, ⟨36, _⟩ => ⟨S8x4096x128, .f32⟩
  | .hbm, ⟨37, _⟩ => ⟨S_, .f32⟩
  | .hbm, ⟨38, _⟩ => ⟨S8x4096, .f32⟩
  | .hbm, ⟨39, _⟩ => ⟨S8x4096x1, .f32⟩
  | .hbm, ⟨40, _⟩ => ⟨S8x4096x4096, .f32⟩
  | .hbm, ⟨41, _⟩ => ⟨S8x4096x4096, .f32⟩
  | .hbm, ⟨42, _⟩ => ⟨S8x4096x4096, .f32⟩
  | .hbm, ⟨43, _⟩ => ⟨S_, .f32⟩
  | .hbm, ⟨44, _⟩ => ⟨S8x4096, .f32⟩
  | .hbm, ⟨45, _⟩ => ⟨S8x4096x1, .f32⟩
  | .hbm, ⟨46, _⟩ => ⟨S8x4096x1, .f32⟩
  | .hbm, ⟨47, _⟩ => ⟨S8x4096x1, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S8x4096x1, .f32⟩
  | .hbm, ⟨52, _⟩ => ⟨S8x4096x1, .f32⟩
  | .hbm, ⟨53, _⟩ => ⟨S8x4096x128, .bf16⟩
  | .hbm, ⟨54, _⟩ => ⟨S8x4096x128, .f32⟩
  | _, _ => ⟨S4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c : Ref sig .tc := ⟨.hbm, 34, rfl⟩
abbrev main_call1_v0 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩

abbrev nD : Nat := 1
abbrev τ : Topo := Topo.v7x

variable {F : FTy → Type} [FloatOps F]
-- ==== Mix.lean ====
abbrev S4096x512 : Shape := ⟨2, ![4096, 512]⟩
abbrev S1024x1024 : Shape := ⟨2, ![1024, 1024]⟩
abbrev S4096x1024 : Shape := ⟨2, ![4096, 1024]⟩
abbrev S1024 : Shape := ⟨1, ![1024]⟩
abbrev S4096x8x64 : Shape := ⟨3, ![4096, 8, 64]⟩
abbrev S8x4096x64 : Shape := ⟨3, ![8, 4096, 64]⟩
abbrev S_ : Shape := ⟨0, ![]⟩
abbrev S8x4096x128 : Shape := ⟨3, ![8, 4096, 128]⟩
abbrev S512x1024 : Shape := ⟨2, ![512, 1024]⟩
abbrev S8x64x1024 : Shape := ⟨3, ![8, 64, 1024]⟩
abbrev S8x128x1024 : Shape := ⟨3, ![8, 128, 1024]⟩
abbrev S1x1024 : Shape := ⟨2, ![1, 1024]⟩
abbrev S8x512x128 : Shape := ⟨3, ![8, 512, 128]⟩
abbrev S512x512 : Shape := ⟨2, ![512, 512]⟩
abbrev S1x512x128 : Shape := ⟨3, ![1, 512, 128]⟩
abbrev S512x128 : Shape := ⟨2, ![512, 128]⟩
abbrev S128x1024 : Shape := ⟨2, ![128, 1024]⟩
abbrev S512 : Shape := ⟨1, ![512]⟩
abbrev S512x1 : Shape := ⟨2, ![512, 1]⟩

abbrev nBuf : Space → Nat
  | .hbm => 27
  | .vmem => 16
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1024x1024, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S4096x8x64, .f32⟩
  | .hbm, ⟨7, _⟩ => ⟨S8x4096x64, .f32⟩
  | .hbm, ⟨8, _⟩ => ⟨S_, .i32⟩
  | .hbm, ⟨9, _⟩ => ⟨S_, .f32⟩
  | .hbm, ⟨10, _⟩ => ⟨S8x4096x128, .f32⟩
  | .hbm, ⟨11, _⟩ => ⟨S8x4096x128, .bf16⟩
  | .hbm, ⟨12, _⟩ => ⟨S4096x512, .bf16⟩
  | .hbm, ⟨13, _⟩ => ⟨S512x1024, .f32⟩
  | .hbm, ⟨14, _⟩ => ⟨S8x64x1024, .f32⟩
  | .hbm, ⟨15, _⟩ => ⟨S_, .i32⟩
  | .hbm, ⟨16, _⟩ => ⟨S_, .f32⟩
  | .hbm, ⟨17, _⟩ => ⟨S8x128x1024, .f32⟩
  | .hbm, ⟨18, _⟩ => ⟨S1024x1024, .f32⟩
  | .hbm, ⟨19, _⟩ => ⟨S1024x1024, .bf16⟩
  | .hbm, ⟨20, _⟩ => ⟨S512x1024, .f32⟩
  | .hbm, ⟨21, _⟩ => ⟨S512x1024, .bf16⟩
  | .hbm, ⟨22, _⟩ => ⟨S1x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | .local _ .vmem, ⟨0, _⟩ => ⟨S8x512x128, .bf16⟩
  | .local _ .vmem, ⟨1, _⟩ => ⟨S8x512x128, .bf16⟩
  | .local _ .vmem, ⟨2, _⟩ => ⟨S512x512, .bf16⟩
  | .local _ .vmem, ⟨3, _⟩ => ⟨S512x512, .bf16⟩
  | .local _ .vmem, ⟨4, _⟩ => ⟨S1024x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_call1_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev main_v14_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MixRefIdeal.lean ====
abbrev S4096x512 : Shape := ⟨2, ![4096, 512]⟩
abbrev S1024x1024 : Shape := ⟨2, ![1024, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1024x1024, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== PrepF.lean ====
abbrev S4096x1952 : Shape := ⟨2, ![4096, 1952]⟩
abbrev S256 : Shape := ⟨1, ![256]⟩
abbrev S128 : Shape := ⟨1, ![128]⟩
abbrev S256x8x96 : Shape := ⟨3, ![256, 8, 96]⟩
abbrev S128x8x64 : Shape := ⟨3, ![128, 8, 64]⟩
abbrev S16 : Shape := ⟨1, ![16]⟩
abbrev S_ : Shape := ⟨0, ![]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S4096x32 : Shape := ⟨2, ![4096, 32]⟩
abbrev S4096x128 : Shape := ⟨2, ![4096, 128]⟩
abbrev S8x256x96 : Shape := ⟨3, ![8, 256, 96]⟩
abbrev S8x256x128 : Shape := ⟨3, ![8, 256, 128]⟩
abbrev S8x128x64 : Shape := ⟨3, ![8, 128, 64]⟩
abbrev S8x128x128 : Shape := ⟨3, ![8, 128, 128]⟩
abbrev S1952x4096 : Shape := ⟨2, ![1952, 4096]⟩
abbrev S384x4096 : Shape := ⟨2, ![384, 4096]⟩
abbrev S64x4096 : Shape := ⟨2, ![64, 4096]⟩
abbrev S32x4096 : Shape := ⟨2, ![32, 4096]⟩
abbrev S1536x4096 : Shape := ⟨2, ![1536, 4096]⟩
abbrev S2048x4096 : Shape := ⟨2, ![2048, 4096]⟩
abbrev S4096x2048 : Shape := ⟨2, ![4096, 2048]⟩
abbrev S1x256 : Shape := ⟨2, ![1, 256]⟩
abbrev S1x128 : Shape := ⟨2, ![1, 128]⟩
abbrev S8x4096x128 : Shape := ⟨3, ![8, 4096, 128]⟩
abbrev S512x512 : Shape := ⟨2, ![512, 512]⟩
abbrev S512x128 : Shape := ⟨2, ![512, 128]⟩
abbrev S8x512x128 : Shape := ⟨3, ![8, 512, 128]⟩
abbrev S512x256 : Shape := ⟨2, ![512, 256]⟩
abbrev S512 : Shape := ⟨1, ![512]⟩
abbrev S512x1 : Shape := ⟨2, ![512, 1]⟩
abbrev S1x256x128 : Shape := ⟨3, ![1, 256, 128]⟩
abbrev S256x128 : Shape := ⟨2, ![256, 128]⟩
abbrev S1x512x128 : Shape := ⟨3, ![1, 512, 128]⟩
abbrev S1x128x128 : Shape := ⟨3, ![1, 128, 128]⟩
abbrev S128x128 : Shape := ⟨2, ![128, 128]⟩

abbrev nBuf : Space → Nat
  | .hbm => 65
  | .vmem => 17
  | .smem => 0
  | _ => 0

abbrev bufTy : (tb : Table) → Fin (tcTables nBuf tb) → BufTy
  | .hbm, ⟨0, _⟩ => ⟨S4096x1952, .f32⟩
  | .hbm, ⟨1, _⟩ => ⟨S256, .f32⟩
  | .hbm, ⟨2, _⟩ => ⟨S128, .f32⟩
  | .hbm, ⟨3, _⟩ => ⟨S256x8x96, .f32⟩
  | .hbm, ⟨4, _⟩ => ⟨S128x8x64, .f32⟩
  | .hbm, ⟨5, _⟩ => ⟨S128x8x64, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S4096, .f32⟩
  | .hbm, ⟨15, _⟩ => ⟨S4096x1, .f32⟩
  | .hbm, ⟨16, _⟩ => ⟨S1x16, .f32⟩
  | .hbm, ⟨17, _⟩ => ⟨S4096x16, .f32⟩
  | .hbm, ⟨18, _⟩ => ⟨S4096x16, .f32⟩
  | .hbm, ⟨19, _⟩ => ⟨S4096x16, .f32⟩
  | .hbm, ⟨20, _⟩ => ⟨S4096x16, .f32⟩
  | .hbm, ⟨21, _⟩ => ⟨S4096x16, .f32⟩
  | .hbm, ⟨22, _⟩ => ⟨S_, .f32⟩
  | .hbm, ⟨23, _⟩ => ⟨S4096x64, .f32⟩
  | .hbm, ⟨24, _⟩ => ⟨S_, .f32⟩
  | .hbm, ⟨25, _⟩ => ⟨S4096x32, .f32⟩
  | .hbm, ⟨26, _⟩ => ⟨S4096x128, .f32⟩
  | .hbm, ⟨27, _⟩ => ⟨S_, .f32⟩
  | .hbm, ⟨28, _⟩ => ⟨S4096x64, .f32⟩
  | .hbm, ⟨29, _⟩ => ⟨S4096x64, .f32⟩
  | .hbm, ⟨30, _⟩ => ⟨S4096x16, .f32⟩
  | .hbm, ⟨31, _⟩ => ⟨S_, .f32⟩
  | .hbm, ⟨32, _⟩ => ⟨S4096x32, .f32⟩
  | .hbm, ⟨33, _⟩ => ⟨S4096x32, .f32⟩
  | .hbm, ⟨34, _⟩ => ⟨S4096x128, .f32⟩
  | .hbm, ⟨35, _⟩ => ⟨S8x256x96, .f32⟩
  | .hbm, ⟨36, _⟩ => ⟨S_, .i32⟩
  | .hbm, ⟨37, _⟩ => ⟨S_, .f32⟩
  | .hbm, ⟨38, _⟩ => ⟨S8x256x128, .f32⟩
  | .hbm, ⟨39, _⟩ => ⟨S8x256x128, .bf16⟩
  | .hbm, ⟨40, _⟩ => ⟨S8x128x64, .f32⟩
  | .hbm, ⟨41, _⟩ => ⟨S_, .i32⟩
  | .hbm, ⟨42, _⟩ => ⟨S_, .f32⟩
  | .hbm, ⟨43, _⟩ => ⟨S8x128x128, .f32⟩
  | .hbm, ⟨44, _⟩ => ⟨S8x128x128, .bf16⟩
  | .hbm, ⟨45, _⟩ => ⟨S8x128x64, .f32⟩
  | .hbm, ⟨46, _⟩ => ⟨S_, .i32⟩
  | .hbm, ⟨47, _⟩ => ⟨S_, .f32⟩
  | .hbm, ⟨48, _⟩ => ⟨S8x128x128, .f32⟩
  | .hbm, ⟨49, _⟩ => ⟨S8x128x128, .bf16⟩
  | .hbm, ⟨50, _⟩ => ⟨S1952x4096, .f32⟩
  | .hbm, ⟨51, _⟩ => ⟨S384x4096, .f32⟩
  | .hbm, ⟨52, _⟩ => ⟨S_, .f32⟩
  | .hbm, ⟨53, _⟩ => ⟨S64x4096, .f32⟩
  | .hbm, ⟨54, _⟩ => ⟨S32x4096, .f32⟩
  | .hbm, ⟨55, _⟩ => ⟨S_, .f32⟩
  | .hbm, ⟨56, _⟩ => ⟨S32x4096, .f32⟩
  | .hbm, ⟨57, _⟩ => ⟨S1536x4096, .f32⟩
  | .hbm, ⟨58, _⟩ => ⟨S2048x4096, .f32⟩
  | .hbm, ⟨59, _⟩ => ⟨S4096x2048, .f32⟩
  | .hbm, ⟨60, _⟩ => ⟨S1x256, .f32⟩
  | .hbm, ⟨61, _⟩ => ⟨S1x128, .f32⟩
  | .hbm, ⟨62, _⟩ => ⟨S8x4096x128, .bf16⟩
  | .hbm, ⟨63, _⟩ => ⟨S8x4096x128, .bf16⟩
  | .hbm, ⟨64, _⟩ => ⟨S8x4096x128, .bf16⟩
  | .local _ .vmem, ⟨0, _⟩ => ⟨S512x512, .f32⟩
  | .local _ .vmem, ⟨1, _⟩ => ⟨S512x512, .f32⟩
  | .local _ .vmem, ⟨2, _⟩ => ⟨S1x256, .f32⟩
  | .local _ .vmem, ⟨3, _⟩ => ⟨S1x128, .f32⟩
  | .local _ .vmem, ⟨4, _⟩ => ⟨S8x256x128, .bf16⟩
  | .local _ .vmem, ⟨5, _⟩ => ⟨S8x128x128, .bf16⟩
  | .local _ .vmem, ⟨6, _⟩ => ⟨S8x128x128, .bf16⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S8x512x128, .bf16⟩
  | .local _ .vmem, ⟨12, _⟩ => ⟨S8x512x128, .bf16⟩
  | .local _ .vmem, ⟨13, _⟩ => ⟨S8x512x128, .bf16⟩
  | .local _ .vmem, ⟨14, _⟩ => ⟨S8x512x128, .bf16⟩
  | .local _ .vmem, ⟨15, _⟩ => ⟨S8x512x128, .bf16⟩
  | .local _ .vmem, ⟨16, _⟩ => ⟨S8x512x128, .bf16⟩
  | _, _ => ⟨S4096x1952, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c : Ref sig .tc := ⟨.hbm, 36, rfl⟩
abbrev main_call0_v0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_call1_v0 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_call2_v0 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42_0 : Ref sig .tc := ⟨.hbm, 62, rfl⟩
abbrev main_v42_1 : Ref sig .tc := ⟨.hbm, 63, rfl⟩
abbrev main_v42_2 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== PrepFRefIdeal.lean ====
abbrev S4096x1952 : Shape := ⟨2, ![4096, 1952]⟩
abbrev S256 : Shape := ⟨1, ![256]⟩
abbrev S128 : Shape := ⟨1, ![128]⟩
abbrev S256x8x96 : Shape := ⟨3, ![256, 8, 96]⟩
abbrev S128x8x64 : Shape := ⟨3, ![128, 8, 64]⟩
abbrev S4096x256 : Shape := ⟨2, ![4096, 256]⟩
abbrev S4096x128 : Shape := ⟨2, ![4096, 128]⟩
abbrev S4096x32 : Shape := ⟨2, ![4096, 32]⟩
abbrev S4096 : Shape := ⟨1, ![4096]⟩
abbrev S_ : Shape := ⟨0, ![]⟩
abbrev S4096x1 : Shape := ⟨2, ![4096, 1]⟩
abbrev S1x256 : Shape := ⟨2, ![1, 256]⟩
abbrev S1x128 : Shape := ⟨2, ![1, 128]⟩
abbrev S4096x8x96 : Shape := ⟨3, ![4096, 8, 96]⟩
abbrev S4096x8x64 : Shape := ⟨3, ![4096, 8, 64]⟩
abbrev S4096x8x32 : Shape := ⟨3, ![4096, 8, 32]⟩
abbrev S16 : Shape := ⟨1, ![16]⟩
abbrev S1x16 : Shape := ⟨2, ![1, 16]⟩
abbrev S4096x16 : Shape := ⟨2, ![4096, 16]⟩
abbrev S4096x1x16 : Shape := ⟨3, ![4096, 1, 16]⟩
abbrev S4096x8x16 : Shape := ⟨3, ![4096, 8, 16]⟩
abbrev S4096x1x32 : Shape := ⟨3, ![4096, 1, 32]⟩
abbrev S4096x8x1 : Shape := ⟨3, ![4096, 8, 1]⟩
abbrev S4096x8x63 : Shape := ⟨3, ![4096, 8, 63]⟩
abbrev S4096x8x128 : Shape := ⟨3, ![4096, 8, 128]⟩
abbrev S8x4096x128 : Shape := ⟨3, ![8, 4096, 128]⟩

abbrev nBuf : Space → Nat
  | .hbm => 126
  | .vmem => 0
  | .smem => 0
  | _ => 0

abbrev bufTy : (tb : Table) → Fin (tcTables nBuf tb) → BufTy
  | .hbm, ⟨0, _⟩ => ⟨S4096x1952, .f32⟩
  | .hbm, ⟨1, _⟩ => ⟨S256, .f32⟩
  | .hbm, ⟨2, _⟩ => ⟨S128, .f32⟩
  | .hbm, ⟨3, _⟩ => ⟨S256x8x96, .f32⟩
  | .hbm, ⟨4, _⟩ => ⟨S128x8x64, .f32⟩
  | .hbm, ⟨5, _⟩ => ⟨S128x8x64, .f32⟩
  | .hbm, ⟨6, _⟩ => ⟨S4096x256, .f32⟩
  | .hbm, ⟨7, _⟩ => ⟨S4096x128, .f32⟩
  | .hbm, ⟨8, _⟩ => ⟨S4096x32, .f32⟩
  | .hbm, ⟨9, _⟩ => ⟨S4096, .i32⟩
  | .hbm, ⟨10, _⟩ => ⟨S4096x256, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x256, .f32⟩
  | .hbm, ⟨22, _⟩ => ⟨S4096x256, .f32⟩
  | .hbm, ⟨23, _⟩ => ⟨S1x256, .f32⟩
  | .hbm, ⟨24, _⟩ => ⟨S4096x256, .f32⟩
  | .hbm, ⟨25, _⟩ => ⟨S4096x256, .f32⟩
  | .hbm, ⟨26, _⟩ => ⟨S4096x128, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x128, .f32⟩
  | .hbm, ⟨38, _⟩ => ⟨S4096x128, .f32⟩
  | .hbm, ⟨39, _⟩ => ⟨S1x128, .f32⟩
  | .hbm, ⟨40, _⟩ => ⟨S4096x128, .f32⟩
  | .hbm, ⟨41, _⟩ => ⟨S4096x128, .f32⟩
  | .hbm, ⟨42, _⟩ => ⟨S4096x8x96, .f32⟩
  | .hbm, ⟨43, _⟩ => ⟨S4096x8x64, .f32⟩
  | .hbm, ⟨44, _⟩ => ⟨S4096x8x32, .f32⟩
  | .hbm, ⟨45, _⟩ => ⟨S4096x8x64, .f32⟩
  | .hbm, ⟨46, _⟩ => ⟨S4096x8x64, .f32⟩
  | .hbm, ⟨47, _⟩ => ⟨S16, .f32⟩
  | .hbm, ⟨48, _⟩ => ⟨S16, .f32⟩
  | .hbm, ⟨49, _⟩ => ⟨S_, .f32⟩
  | .hbm, ⟨50, _⟩ => ⟨S16, .f32⟩
  | .hbm, ⟨51, _⟩ => ⟨S16, .f32⟩
  | .hbm, ⟨52, _⟩ => ⟨S_, .f32⟩
  | .hbm, ⟨53, _⟩ => ⟨S16, .f32⟩
  | .hbm, ⟨54, _⟩ => ⟨S16, .f32⟩
  | .hbm, ⟨55, _⟩ => ⟨S4096, .f32⟩
  | .hbm, ⟨56, _⟩ => ⟨S4096x1, .f32⟩
  | .hbm, ⟨57, _⟩ => ⟨S1x16, .f32⟩
  | .hbm, ⟨58, _⟩ => ⟨S4096x16, .f32⟩
  | .hbm, ⟨59, _⟩ => ⟨S4096x16, .f32⟩
  | .hbm, ⟨60, _⟩ => ⟨S4096x16, .f32⟩
  | .hbm, ⟨61, _⟩ => ⟨S4096x16, .f32⟩
  | .hbm, ⟨62, _⟩ => ⟨S4096x1x16, .f32⟩
  | .hbm, ⟨63, _⟩ => ⟨S4096x16, .f32⟩
  | .hbm, ⟨64, _⟩ => ⟨S4096x1x16, .f32⟩
  | .hbm, ⟨65, _⟩ => ⟨S4096x8x16, .f32⟩
  | .hbm, ⟨66, _⟩ => ⟨S4096x8x16, .f32⟩
  | .hbm, ⟨67, _⟩ => ⟨S4096x8x16, .f32⟩
  | .hbm, ⟨68, _⟩ => ⟨S4096x8x16, .f32⟩
  | .hbm, ⟨69, _⟩ => ⟨S4096x8x16, .f32⟩
  | .hbm, ⟨70, _⟩ => ⟨S4096x8x16, .f32⟩
  | .hbm, ⟨71, _⟩ => ⟨S4096x8x16, .f32⟩
  | .hbm, ⟨72, _⟩ => ⟨S4096x8x16, .f32⟩
  | .hbm, ⟨73, _⟩ => ⟨S4096x8x16, .f32⟩
  | .hbm, ⟨74, _⟩ => ⟨S4096x8x16, .f32⟩
  | .hbm, ⟨75, _⟩ => ⟨S4096x8x16, .f32⟩
  | .hbm, ⟨76, _⟩ => ⟨S4096x8x16, .f32⟩
  | .hbm, ⟨77, _⟩ => ⟨S4096x8x32, .f32⟩
  | .hbm, ⟨78, _⟩ => ⟨S4096x1x32, .f32⟩
  | .hbm, ⟨79, _⟩ => ⟨S16, .f32⟩
  | .hbm, ⟨80, _⟩ => ⟨S16, .f32⟩
  | .hbm, ⟨81, _⟩ => ⟨S_, .f32⟩
  | .hbm, ⟨82, _⟩ => ⟨S16, .f32⟩
  | .hbm, ⟨83, _⟩ => ⟨S16, .f32⟩
  | .hbm, ⟨84, _⟩ => ⟨S_, .f32⟩
  | .hbm, ⟨85, _⟩ => ⟨S16, .f32⟩
  | .hbm, ⟨86, _⟩ => ⟨S16, .f32⟩
  | .hbm, ⟨87, _⟩ => ⟨S4096, .f32⟩
  | .hbm, ⟨88, _⟩ => ⟨S4096x1, .f32⟩
  | .hbm, ⟨89, _⟩ => ⟨S1x16, .f32⟩
  | .hbm, ⟨90, _⟩ => ⟨S4096x16, .f32⟩
  | .hbm, ⟨91, _⟩ => ⟨S4096x16, .f32⟩
  | .hbm, ⟨92, _⟩ => ⟨S4096x16, .f32⟩
  | .hbm, ⟨93, _⟩ => ⟨S4096x16, .f32⟩
  | .hbm, ⟨94, _⟩ => ⟨S4096x1x16, .f32⟩
  | .hbm, ⟨95, _⟩ => ⟨S4096x16, .f32⟩
  | .hbm, ⟨96, _⟩ => ⟨S4096x1x16, .f32⟩
  | .hbm, ⟨97, _⟩ => ⟨S4096x1x16, .f32⟩
  | .hbm, ⟨98, _⟩ => ⟨S4096x1x16, .f32⟩
  | .hbm, ⟨99, _⟩ => ⟨S4096x1x16, .f32⟩
  | .hbm, ⟨100, _⟩ => ⟨S4096x1x16, .f32⟩
  | .hbm, ⟨101, _⟩ => ⟨S4096x1x16, .f32⟩
  | .hbm, ⟨102, _⟩ => ⟨S4096x1x16, .f32⟩
  | .hbm, ⟨103, _⟩ => ⟨S4096x1x16, .f32⟩
  | .hbm, ⟨104, _⟩ => ⟨S4096x1x16, .f32⟩
  | .hbm, ⟨105, _⟩ => ⟨S4096x1x32, .f32⟩
  | .hbm, ⟨106, _⟩ => ⟨S4096x8x96, .f32⟩
  | .hbm, ⟨107, _⟩ => ⟨S4096x8x32, .f32⟩
  | .hbm, ⟨108, _⟩ => ⟨S4096x8x96, .f32⟩
  | .hbm, ⟨109, _⟩ => ⟨S_, .f32⟩
  | .hbm, ⟨110, _⟩ => ⟨S4096x8x1, .f32⟩
  | .hbm, ⟨111, _⟩ => ⟨S_, .f32⟩
  | .hbm, ⟨112, _⟩ => ⟨S4096x8x63, .f32⟩
  | .hbm, ⟨113, _⟩ => ⟨S4096x8x128, .f32⟩
  | .hbm, ⟨114, _⟩ => ⟨S_, .f32⟩
  | .hbm, ⟨115, _⟩ => ⟨S4096x8x32, .f32⟩
  | .hbm, ⟨116, _⟩ => ⟨S4096x8x128, .f32⟩
  | .hbm, ⟨117, _⟩ => ⟨S_, .f32⟩
  | .hbm, ⟨118, _⟩ => ⟨S4096x8x32, .f32⟩
  | .hbm, ⟨119, _⟩ => ⟨S4096x8x128, .f32⟩
  | .hbm, ⟨120, _⟩ => ⟨S8x4096x128, .f32⟩
  | .hbm, ⟨121, _⟩ => ⟨S8x4096x128, .bf16⟩
  | .hbm, ⟨122, _⟩ => ⟨S8x4096x128, .f32⟩
  | .hbm, ⟨123, _⟩ => ⟨S8x4096x128, .bf16⟩
  | .hbm, ⟨124, _⟩ => ⟨S8x4096x128, .f32⟩
  | .hbm, ⟨125, _⟩ => ⟨S8x4096x128, .bf16⟩
  | _, _ => ⟨S4096x1952, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_cst_7 : Ref sig .tc := ⟨.hbm, 81, rfl⟩
abbrev main_v67 : Ref sig .tc := ⟨.hbm, 82, rfl⟩
abbrev main_v68 : Ref sig .tc := ⟨.hbm, 83, rfl⟩
abbrev main_cst_8 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_cst_9 : Ref sig .tc := ⟨.hbm, 109, rfl⟩
abbrev main_v93 : Ref sig .tc := ⟨.hbm, 110, rfl⟩
abbrev main_cst_10 : Ref sig .tc := ⟨.hbm, 111, rfl⟩
abbrev main_v94 : Ref sig .tc := ⟨.hbm, 112, rfl⟩
abbrev main_v95 : Ref sig .tc := ⟨.hbm, 113, rfl⟩
abbrev main_cst_11 : Ref sig .tc := ⟨.hbm, 114, rfl⟩
abbrev main_v96 : Ref sig .tc := ⟨.hbm, 115, rfl⟩
abbrev main_v97 : Ref sig .tc := ⟨.hbm, 116, rfl⟩
abbrev main_cst_12 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩

abbrev nD : Nat := 1
abbrev τ : Topo := Topo.v7x

variable {F : FTy → Type} [FloatOps F]
-- ==== Proof.Finite.lean ====
/- Entries that a precondition calls finite are real numbers; and running sums over the points of a grid. -/
module

public import Idealize.ShloMosaic.Lib.Pointwise

@[expose] public section

noncomputable section

namespace Cert.Finite

open Idealize.ShloMosaic

/-- An entry whose absolute value compares below infinity is the real number that it reads as. -/
theorem coe_toReal {x : EReal} (h : Ideal.cmp .olt (max x (-x)) (Ideal.ofBits .f32 0x7F800000#32) = 1#1) : x = ((x.toReal : ℝ) : EReal) := by
  have htop : Ideal.ofBits .f32 0x7F800000#32 = ⊤ := by simp [Ideal.ofBits, Ideal.ieee]
  rw [htop] at h
  refine (EReal.coe_toReal ?_ ?_).symm <;> (rintro rfl; revert h; simp [Ideal.cmp])

/-- Sums kept in one place over the points of a grid: what the first point leaves, and what each later point adds, give
    the sums over all points. -/
theorem running {N : ℕ} {ι : Type*} (a : (n : ℕ) → n < N → ι → EReal) (T : Fin N → ι → ℝ)
    (h0 : ∀ (h : 0 < N) (j : ι), a 0 h j = (T ⟨0, h⟩ j : EReal))
    (hs : ∀ (n : ℕ) (h : n + 1 < N) (A : ι → ℝ), (∀ j, a n (Nat.lt_of_succ_lt h) j = (A j : EReal)) →
      ∀ j, a (n + 1) h j = ((A j + T ⟨n + 1, h⟩ j : ℝ) : EReal))
    (n : ℕ) (h : n < N) (hn : n + 1 = N) (j : ι) : a n h j = ((∑ t : Fin N, T t j : ℝ) : EReal) := by
  have key : ∀ (n : ℕ) (h : n < N) (j : ι), a n h j = ((∑ t : Fin (n + 1), T ⟨t.val, Nat.lt_of_lt_of_le t.isLt h⟩ j : ℝ) : EReal) := by
    intro n
    induction n with
    | zero => intro h j; rw [h0 h, Fin.sum_univ_one]; rfl
    | succ n ih =>
      intro h j
      rw [hs n h _ (ih (Nat.lt_of_succ_lt h)) j]
      exact congrArg _ (Fin.sum_univ_castSucc (fun t : Fin (n + 1 + 1) => T ⟨t.val, Nat.lt_of_lt_of_le t.isLt h⟩ j)).symm
  rw [key n h]; subst hn; rfl

end Cert.Finite

end
-- ==== Proof.Ln1Steps.lean ====
/- What one grid point of the first layer norm's backward call leaves in its four output blocks, written as the
   body's own payloads of the five blocks that the point reads, and the two running sums over the points. -/
module

public import proofs.«01_k».proof.Proof.Gen.Ln1Ideal.Value
public import Idealize.ShloMosaic.Lib.Tactic

@[expose] public section

set_option maxRecDepth 16384

noncomputable section

namespace Cert.Ln1Ideal.Steps

open Cert.Ln1Ideal Cert.Ln1Ideal.Gen Idealize.ShloMosaic Idealize.ShloMosaic.TcCoe Idealize.SL.Sem

variable {F : FTy → Type} [FloatOps F]
variable (m : (ℓ : Loc nD τ sig) → Buf (Elt F) ℓ)

theorem hz : (![0, 0] : Fin 2 → Nat) = fun _ => 0 := funext fun a => by fin_cases a <;> rfl

/-- The cotangent of the layer norm's output at point `t`. -/
abbrev dy (c : Dev nD) (t : Fin cfg0.N) : FVec F S256x1024 .f32 := k0_pay6 (iblk m c 0 t) (iblk m c 1 t) (iblk m c 2 t)

/-- What point `t` leaves in the block of `dz`. -/
abbrev dz (c : Dev nD) (t : Fin cfg0.N) : FVec F S256x1024 .f32 :=
  k0_pay2 (dy m c t) (k0_pay8 (iblk m c 3 t)) (k0_pay9 (iblk m c 3 t)) (iblk m c 4 t)

/-- What point `t` leaves in the block of `dz` cast to bf16. -/
abbrev dzb (c : Dev nD) (t : Fin cfg0.N) : FVec F S256x1024 .bf16 :=
  k0_pay3 (dy m c t) (k0_pay8 (iblk m c 3 t)) (k0_pay9 (iblk m c 3 t)) (iblk m c 4 t)

/-- The scale's gradient after point `t`, from what was there before. -/
abbrev dgStep (c : Dev nD) (t : Fin cfg0.N) (acc : Vec F S1x1024 .f32) : FVec F S1x1024 .f32 :=
  k0_pay10 (iblk m c 0 t) (iblk m c 1 t) (iblk m c 2 t) (iblk m c 3 t) acc

/-- The shift's gradient after point `t`, from what was there before. -/
abbrev dbStep (c : Dev nD) (t : Fin cfg0.N) (acc : Vec F S1x1024 .f32) : FVec F S1x1024 .f32 :=
  k0_pay1 (dy m c t) acc

/-- The block that the first point leaves. -/
theorem dz_first (c : Dev nD) (t : Fin cfg0.N) (h0 : t.val % 16 = 0) : (outsAt0 m c t.val t.isLt).1 = dz m c t := by
  rw [outsAt0_A m c t h0]
  dsimp only
  unfold out0_A_5
  rw [View.read_writes_eq_canon _ _ _ (fun y => cover0_A_5 c (grid0.coords t) _ _ _ _ _ _ _ _ _ _ _ _ _ _ _ _ _ _ _ _ _ _ _ _ y)]
  unfold kernelRun0_A
  dsimp only
  sl_unfold_words
  rw [View.canon_unit_zero (S := S256x1024) hz]
  simp only [View.readAt_eq_ld, (hs0_0 t).read_unread, (hs0_1 t).read_unread, (hs0_2 t).read_unread, (hs0_3 t).read_unread,
    (hs0_4 t).read_unread, View.ld_unit_zero (S := S256x5632) hz,
    View.ld_unit_zero (S := S5632x1024) hz, View.ld_unit_zero (S := S256x1024) hz, View.ld_unit_zero (S := S1x1024) hz]

/-- The block that the first point leaves. -/
theorem dzb_first (c : Dev nD) (t : Fin cfg0.N) (h0 : t.val % 16 = 0) : (outsAt0 m c t.val t.isLt).2.1 = dzb m c t := by
  rw [outsAt0_A m c t h0]
  dsimp only
  unfold out0_A_6
  rw [View.read_writes_eq_canon _ _ _ (fun y => cover0_A_6 c (grid0.coords t) _ _ _ _ _ _ _ _ _ _ _ _ _ _ _ _ _ _ _ _ _ _ _ _ y)]
  unfold kernelRun0_A
  dsimp only
  sl_unfold_words
  rw [View.canon_unit_zero (S := S256x1024) hz]
  simp only [View.readAt_eq_ld, (hs0_0 t).read_unread, (hs0_1 t).read_unread, (hs0_2 t).read_unread, (hs0_3 t).read_unread,
    (hs0_4 t).read_unread, View.ld_unit_zero (S := S256x5632) hz,
    View.ld_unit_zero (S := S5632x1024) hz, View.ld_unit_zero (S := S256x1024) hz, View.ld_unit_zero (S := S1x1024) hz]

/-- The first point stores zeros and adds its own rows to them. -/
theorem dg_first (c : Dev nD) (t : Fin cfg0.N) (h0 : t.val % 16 = 0) : (outsAt0 m c t.val t.isLt).2.2.1 = dgStep m c t k0_pay4 := by
  rw [outsAt0_A m c t h0]
  dsimp only
  unfold out0_A_7
  rw [View.read_writes_eq_canon _ _ _ (fun y => cover0_A_7 c (grid0.coords t) _ _ _ _ _ _ _ _ _ _ _ _ _ _ _ _ _ _ _ _ _ _ _ _ y)]
  unfold kernelRun0_A
  dsimp only
  sl_unfold_words
  rw [View.canon_cons_unit_zero (S := S1x1024) hz, View.readCov_unit_zero (S := S1x1024) _ hz]
  simp only [View.readAt_eq_ld, (hs0_0 t).read_unread, (hs0_1 t).read_unread, (hs0_2 t).read_unread, (hs0_3 t).read_unread,
    (hs0_4 t).read_unread, View.ld_unit_zero (S := S256x5632) hz,
    View.ld_unit_zero (S := S5632x1024) hz, View.ld_unit_zero (S := S256x1024) hz, View.ld_unit_zero (S := S1x1024) hz]

/-- The first point stores zeros and adds its own rows to them. -/
theorem db_first (c : Dev nD) (t : Fin cfg0.N) (h0 : t.val % 16 = 0) : (outsAt0 m c t.val t.isLt).2.2.2 = dbStep m c t k0_pay5 := by
  rw [outsAt0_A m c t h0]
  dsimp only
  unfold out0_A_8
  rw [View.read_writes_eq_canon _ _ _ (fun y => cover0_A_8 c (grid0.coords t) _ _ _ _ _ _ _ _ _ _ _ _ _ _ _ _ _ _ _ _ _ _ _ _ y)]
  unfold kernelRun0_A
  dsimp only
  sl_unfold_words
  rw [View.canon_cons_unit_zero (S := S1x1024) hz, View.readCov_unit_zero (S := S1x1024) _ hz]
  simp only [View.readAt_eq_ld, (hs0_0 t).read_unread, (hs0_1 t).read_unread, (hs0_2 t).read_unread, (hs0_3 t).read_unread,
    (hs0_4 t).read_unread, View.ld_unit_zero (S := S256x5632) hz,
    View.ld_unit_zero (S := S5632x1024) hz, View.ld_unit_zero (S := S256x1024) hz, View.ld_unit_zero (S := S1x1024) hz]

/-- The block that a later point leaves. -/
theorem dz_later (c : Dev nD) (t : Fin cfg0.N) (h0 : ¬t.val % 16 = 0) :
    (outsAt0 m c t.val t.isLt).1 = dz m c t := by
  rw [outsAt0_B m c t h0]
  dsimp only
  generalize (outsAt0 m c (t.val - 1) (Nat.lt_of_le_of_lt (Nat.sub_le _ _) t.isLt)).2.2.1 = xg
  generalize (outsAt0 m c (t.val - 1) (Nat.lt_of_le_of_lt (Nat.sub_le _ _) t.isLt)).2.2.2 = xb
  unfold out0_B_5
  rw [View.read_writes_eq_canon _ _ _ (fun y => cover0_B_5 c (grid0.coords t) _ _ _ _ _ _ _ _ _ _ _ _ _ _ _ _ _ _ _ _ _ _ _ _ _ _ y)]
  unfold kernelRun0_B
  dsimp only
  sl_unfold_words
  rw [View.canon_unit_zero (S := S256x1024) hz]
  simp only [View.readAt_eq_ld, (hs0_0 t).read_unread, (hs0_1 t).read_unread, (hs0_2 t).read_unread, (hs0_3 t).read_unread,
    (hs0_4 t).read_unread, (hs0_7 t).read_unread, (hs0_8 t).read_unread, View.ld_unit_zero (S := S256x5632) hz,
    View.ld_unit_zero (S := S5632x1024) hz, View.ld_unit_zero (S := S256x1024) hz, View.ld_unit_zero (S := S1x1024) hz]

/-- The block that a later point leaves. -/
theorem dzb_later (c : Dev nD) (t : Fin cfg0.N) (h0 : ¬t.val % 16 = 0) :
    (outsAt0 m c t.val t.isLt).2.1 = dzb m c t := by
  rw [outsAt0_B m c t h0]
  dsimp only
  generalize (outsAt0 m c (t.val - 1) (Nat.lt_of_le_of_lt (Nat.sub_le _ _) t.isLt)).2.2.1 = xg
  generalize (outsAt0 m c (t.val - 1) (Nat.lt_of_le_of_lt (Nat.sub_le _ _) t.isLt)).2.2.2 = xb
  unfold out0_B_6
  rw [View.read_writes_eq_canon _ _ _ (fun y => cover0_B_6 c (grid0.coords t) _ _ _ _ _ _ _ _ _ _ _ _ _ _ _ _ _ _ _ _ _ _ _ _ _ _ y)]
  unfold kernelRun0_B
  dsimp only
  sl_unfold_words
  rw [View.canon_unit_zero (S := S256x1024) hz]
  simp only [View.readAt_eq_ld, (hs0_0 t).read_unread, (hs0_1 t).read_unread, (hs0_2 t).read_unread, (hs0_3 t).read_unread,
    (hs0_4 t).read_unread, (hs0_7 t).read_unread, (hs0_8 t).read_unread, View.ld_unit_zero (S := S256x5632) hz,
    View.ld_unit_zero (S := S5632x1024) hz, View.ld_unit_zero (S := S256x1024) hz, View.ld_unit_zero (S := S1x1024) hz]

/-- A later point adds its own rows to what the point before left. -/
theorem dg_later (c : Dev nD) (t : Fin cfg0.N) (h0 : ¬t.val % 16 = 0) :
    (outsAt0 m c t.val t.isLt).2.2.1 = dgStep m c t (outsAt0 m c (t.val - 1) (Nat.lt_of_le_of_lt (Nat.sub_le _ _) t.isLt)).2.2.1 := by
  rw [outsAt0_B m c t h0]
  dsimp only
  generalize (outsAt0 m c (t.val - 1) (Nat.lt_of_le_of_lt (Nat.sub_le _ _) t.isLt)).2.2.1 = xg
  generalize (outsAt0 m c (t.val - 1) (Nat.lt_of_le_of_lt (Nat.sub_le _ _) t.isLt)).2.2.2 = xb
  unfold out0_B_7
  rw [View.read_writes_eq_canon _ _ _ (fun y => cover0_B_7 c (grid0.coords t) _ _ _ _ _ _ _ _ _ _ _ _ _ _ _ _ _ _ _ _ _ _ _ _ _ _ y)]
  unfold kernelRun0_B
  dsimp only
  sl_unfold_words
  rw [View.canon_unit_zero (S := S1x1024) hz]
  simp only [View.readAt_eq_ld, (hs0_0 t).read_unread, (hs0_1 t).read_unread, (hs0_2 t).read_unread, (hs0_3 t).read_unread,
    (hs0_4 t).read_unread, (hs0_7 t).read_unread, (hs0_8 t).read_unread, View.ld_unit_zero (S := S256x5632) hz,
    View.ld_unit_zero (S := S5632x1024) hz, View.ld_unit_zero (S := S256x1024) hz, View.ld_unit_zero (S := S1x1024) hz]

/-- A later point adds its own rows to what the point before left. -/
theorem db_later (c : Dev nD) (t : Fin cfg0.N) (h0 : ¬t.val % 16 = 0) :
    (outsAt0 m c t.val t.isLt).2.2.2 = dbStep m c t (outsAt0 m c (t.val - 1) (Nat.lt_of_le_of_lt (Nat.sub_le _ _) t.isLt)).2.2.2 := by
  rw [outsAt0_B m c t h0]
  dsimp only
  generalize (outsAt0 m c (t.val - 1) (Nat.lt_of_le_of_lt (Nat.sub_le _ _) t.isLt)).2.2.1 = xg
  generalize (outsAt0 m c (t.val - 1) (Nat.lt_of_le_of_lt (Nat.sub_le _ _) t.isLt)).2.2.2 = xb
  unfold out0_B_8
  rw [View.read_writes_eq_canon _ _ _ (fun y => cover0_B_8 c (grid0.coords t) _ _ _ _ _ _ _ _ _ _ _ _ _ _ _ _ _ _ _ _ _ _ _ _ _ _ y)]
  unfold kernelRun0_B
  dsimp only
  sl_unfold_words
  rw [View.canon_unit_zero (S := S1x1024) hz]
  simp only [View.readAt_eq_ld, (hs0_0 t).read_unread, (hs0_1 t).read_unread, (hs0_2 t).read_unread, (hs0_3 t).read_unread,
    (hs0_4 t).read_unread, (hs0_7 t).read_unread, (hs0_8 t).read_unread, View.ld_unit_zero (S := S256x5632) hz,
    View.ld_unit_zero (S := S5632x1024) hz, View.ld_unit_zero (S := S256x1024) hz, View.ld_unit_zero (S := S1x1024) hz]

end Cert.Ln1Ideal.Steps

end
-- ==== Proof.Ln1Arrays.lean ====
/- The first layer norm's backward call: its result arrays after the run, read at an index. -/
module

public import proofs.«01_k».proof.Proof.Ln1Steps
public import Idealize.ShloMosaic.Lib.Pointwise
public import Idealize.ShloMosaic.Lib.Claim

@[expose] public section

set_option maxRecDepth 16384

noncomputable section

namespace Cert.Ln1Ideal.Arrays

open Cert.Ln1Ideal Cert.Ln1Ideal.Gen Cert.Ln1Ideal.Value Cert.Ln1Ideal.Steps Idealize.ShloMosaic Idealize.ShloMosaic.TcCoe Idealize.SL.Sem

variable {F : FTy → Type} [FloatOps F]
variable (m : (ℓ : Loc nD τ sig) → Buf (Elt F) ℓ)

/-- The windows that move with the grid point stand at the point's turn of rows. -/
theorem turn (t : Fin cfg0.N) : win0_0.index t 0 = t.val ∧ win0_0.index t 1 = 0 ∧ win0_2.index t 0 = t.val ∧ win0_2.index t 1 = 0
    ∧ win0_3.index t 0 = t.val ∧ win0_3.index t 1 = 0 ∧ win0_5.index t 0 = t.val ∧ win0_5.index t 1 = 0
    ∧ win0_6.index t 0 = t.val ∧ win0_6.index t 1 = 0 :=
  (by decide +kernel : ∀ t : Fin grid0.N, win0_0.index t 0 = t.val ∧ win0_0.index t 1 = 0 ∧ win0_2.index t 0 = t.val ∧ win0_2.index t 1 = 0
    ∧ win0_3.index t 0 = t.val ∧ win0_3.index t 1 = 0 ∧ win0_5.index t 0 = t.val ∧ win0_5.index t 1 = 0
    ∧ win0_6.index t 0 = t.val ∧ win0_6.index t 1 = 0) t

/-- The other windows stand still. -/
theorem still (t : Fin cfg0.N) : (∀ a, win0_1.index t a = 0) ∧ (∀ a, win0_4.index t a = 0) ∧ (∀ a, win0_7.index t a = 0) ∧ (∀ a, win0_8.index t a = 0) :=
  (by decide +kernel : ∀ t : Fin grid0.N, (∀ a, win0_1.index t a = 0) ∧ (∀ a, win0_4.index t a = 0) ∧ (∀ a, win0_7.index t a = 0) ∧ (∀ a, win0_8.index t a = 0)) t

theorem dz_any (c : Dev nD) (t : Fin cfg0.N) : (outsAt0 m c t.val t.isLt).1 = dz m c t := by
  by_cases h0 : t.val % 16 = 0
  · exact dz_first m c t h0
  · exact dz_later m c t h0

theorem dzb_any (c : Dev nD) (t : Fin cfg0.N) : (outsAt0 m c t.val t.isLt).2.1 = dzb m c t := by
  by_cases h0 : t.val % 16 = 0
  · exact dzb_first m c t h0
  · exact dzb_later m c t h0

/-- `dz` after the run, at a row of point `t`'s turn. -/
theorem arr_dz (c : Dev nD) (t : Fin cfg0.N) (r : Fin 256) (j : Fin 1024) (i : S4096x1024.Idx)
    (h0 : (i 0).val = t.val * 256 + r.val) (h1 : (i 1).val = j.val) :
    (dats m 0 c).arrAt 5 cfg0.N i = dz m c t (ix2 r j) := by
  have h := congrFun (blocks5 m c t (flush0_5 t)) (ix2 r j)
  rw [flushed5, View.read_apply, dz_any] at h
  refine Eq.trans (congrArg _ (funext fun a => Fin.ext ?_)) h
  have ht := turn t
  match a with
  | ⟨0, _⟩ => show (i 0).val = win0_5.index t 0 * 256 + 1 * r.val; omega
  | ⟨1, _⟩ => show (i 1).val = win0_5.index t 1 * 1024 + 1 * j.val; omega

/-- `dz` in bf16 after the run, at a row of point `t`'s turn. -/
theorem arr_dzb (c : Dev nD) (t : Fin cfg0.N) (r : Fin 256) (j : Fin 1024) (i : S4096x1024.Idx)
    (h0 : (i 0).val = t.val * 256 + r.val) (h1 : (i 1).val = j.val) :
    (dats m 0 c).arrAt 6 cfg0.N i = dzb m c t (ix2 r j) := by
  have h := congrFun (blocks6 m c t (flush0_6 t)) (ix2 r j)
  rw [flushed6, View.read_apply, dzb_any] at h
  refine Eq.trans (congrArg _ (funext fun a => Fin.ext ?_)) h
  have ht := turn t
  match a with
  | ⟨0, _⟩ => show (i 0).val = win0_6.index t 0 * 256 + 1 * r.val; omega
  | ⟨1, _⟩ => show (i 1).val = win0_6.index t 1 * 1024 + 1 * j.val; omega

/-- The last grid point. -/
def last : Fin cfg0.N := ⟨15, by rw [show cfg0.N = 16 from N_0]; decide⟩

theorem disjoint7 : ∀ t t' : Fin cfg0.N, (cfg0.win 7).flush t = true → (cfg0.win 7).flush t' = true → t ≠ t' →
    Disjoint ((cfg0.win 7).blk t).view.set ((cfg0.win 7).blk t').view.set := fun t t' h h' hne => by
  have h1 := (flush0_7 t).mp h
  have h2 := (flush0_7 t').mp h'
  have hN : cfg0.N = 16 := N_0
  have := t.isLt
  have := t'.isLt
  exact absurd (Fin.ext (by omega)) hne

theorem disjoint8 : ∀ t t' : Fin cfg0.N, (cfg0.win 8).flush t = true → (cfg0.win 8).flush t' = true → t ≠ t' →
    Disjoint ((cfg0.win 8).blk t).view.set ((cfg0.win 8).blk t').view.set := fun t t' h h' hne => by
  have h1 := (flush0_8 t).mp h
  have h2 := (flush0_8 t').mp h'
  have hN : cfg0.N = 16 := N_0
  have := t.isLt
  have := t'.isLt
  exact absurd (Fin.ext (by omega)) hne

/-- The scale's gradient after the run is what the last point leaves. -/
theorem arr_dg (c : Dev nD) (i : S1x1024.Idx) :
    (dats m 0 c).arrAt 7 cfg0.N i = (outsAt0 m c last.val last.isLt).2.2.1 i := by
  have h := congrFun ((dats m 0 c).read_blk_arrAt_eq_flushed 7 disjoint7 cfg0.N last last.isLt ((flush0_7 last).mpr rfl)) i
  rw [flushed7, View.read_apply] at h
  refine Eq.trans (congrArg _ (funext fun a => Fin.ext ?_)) h
  have ht := (still last).2.2.1
  match a with
  | ⟨0, _⟩ => show (i 0).val = win0_7.index last 0 * 1 + 1 * (i 0).val; rw [ht]; omega
  | ⟨1, _⟩ => show (i 1).val = win0_7.index last 1 * 1024 + 1 * (i 1).val; rw [ht]; omega

/-- The shift's gradient after the run is what the last point leaves. -/
theorem arr_db (c : Dev nD) (i : S1x1024.Idx) :
    (dats m 0 c).arrAt 8 cfg0.N i = (outsAt0 m c last.val last.isLt).2.2.2 i := by
  have h := congrFun ((dats m 0 c).read_blk_arrAt_eq_flushed 8 disjoint8 cfg0.N last last.isLt ((flush0_8 last).mpr rfl)) i
  rw [flushed8, View.read_apply] at h
  refine Eq.trans (congrArg _ (funext fun a => Fin.ext ?_)) h
  have ht := (still last).2.2.2
  match a with
  | ⟨0, _⟩ => show (i 0).val = win0_8.index last 0 * 1 + 1 * (i 0).val; rw [ht]; omega
  | ⟨1, _⟩ => show (i 1).val = win0_8.index last 1 * 1024 + 1 * (i 1).val; rw [ht]; omega

end Cert.Ln1Ideal.Arrays

end
-- ==== Proof.Ln1Inputs.lean ====
/- The first layer norm's backward call: the five blocks that a grid point reads, as entries of the arguments. The two
   operands of the product have their columns in turns of 256, gate and value by turns; every other block is rows of an
   array as it stands. -/
module

public import proofs.«01_k».proof.Proof.Ln1Arrays

@[expose] public section

set_option maxRecDepth 16384

noncomputable section

namespace Cert.Ln1Ideal.Inputs

open Cert.Ln1Ideal Cert.Ln1Ideal.Gen Cert.Ln1Ideal.Steps Cert.Ln1Ideal.Arrays Idealize.ShloMosaic Idealize.ShloMosaic.TcCoe Idealize.SL.Sem

variable {F : FTy → Type} [FloatOps F]
variable (m : (ℓ : Loc nD τ sig) → Buf (Elt F) ℓ)

/-- The row of the whole array that is row `r` of point `t`'s turn. -/
def row (t : Fin cfg0.N) (r : Fin 256) : Fin 4096 :=
  ⟨t.val * 256 + r.val, by have := t.isLt; have hN : cfg0.N = 16 := N_0; have := r.isLt; omega⟩

/-- The column of the plain array that stands at column `k` of the array in turns of 256: gate, value, gate, value. -/
def mixed (k : Fin 5632) : Fin 5632 := ⟨k.val / 256 % 2 * 2816 + k.val / 512 * 256 + k.val % 256, by have := k.isLt; omega⟩

/-- The two operands' host lines. -/
theorem V_du (c : Dev nD) : V m c main_v10 = shapeCast _ (transpose S4096x11x2x256 [0, 2, 1, 3]
    (shapeCast _ (m ((c : Thread nD τ).loc main_arg4)) shapeCasts_S4096x5632_S4096x2x11x256)
    transposes_S4096x2x11x256_S4096x11x2x256_0_2_1_3) shapeCasts_S4096x11x2x256_S4096x5632 := by
  show StableHlo.after hostOps0 _ (Proc.devRef .tc main_v10) = _
  after_results
  rfl

theorem V_w (c : Dev nD) : V m c main_v7 = truncf .bf16 (shapeCast _ (transpose S11x2x256x1024 [1, 0, 2, 3]
    (shapeCast _ (transpose S5632x1024 [1, 0] (m ((c : Thread nD τ).loc main_arg3)) transposes_S1024x5632_S5632x1024_1_0)
      shapeCasts_S5632x1024_S2x11x256x1024) transposes_S2x11x256x1024_S11x2x256x1024_1_0_2_3)
    shapeCasts_S11x2x256x1024_S5632x1024 : FVec F S5632x1024 .f32) bitsLt_bf16_f32 := by
  show StableHlo.after hostOps0 _ (Proc.devRef .tc main_v7) = _
  after_results
  rfl

/-- The layer norm's input and its scale as the host lines leave them. -/
theorem V_z (c : Dev nD) : V m c main_v2 = addf (mulf (broadcastInDim S4096x1024 ![] bcast_S_S4096x1024 (constant S_ .f32 0x3F9837F0#32))
    (m ((c : Thread nD τ).loc main_arg0))) (m ((c : Thread nD τ).loc main_arg1)) := by
  show StableHlo.after hostOps0 _ (Proc.devRef .tc main_v2) = _
  after_results

theorem V_g (c : Dev nD) : V m c main_v11 = shapeCast _ (m ((c : Thread nD τ).loc main_arg2)) shapeCasts_S1024_S1x1024 := by
  show StableHlo.after hostOps0 _ (Proc.devRef .tc main_v11) = _
  after_results
  rfl

/-- The block of the cotangent of the up projection. -/
theorem in_du (c : Dev nD) (t : Fin cfg0.N) (r : Fin 256) (k : Fin 5632) :
    iblk m c 0 t (ix2 r k) = m ((c : Thread nD τ).loc main_arg4) (ix2 (row t r) (mixed k)) := by
  have ht := turn t
  have hi : ((cfg0.win 0).blk t).view.emb (ix2 r k) = (ix2 (row t r) k : S4096x5632.Idx) := funext fun a => Fin.ext (by
    match a with
    | ⟨0, _⟩ => show win0_0.index t 0 * 256 + 1 * r.val = t.val * 256 + r.val; omega
    | ⟨1, _⟩ => show win0_0.index t 1 * 5632 + 1 * k.val = k.val; omega)
  unfold iblk
  rw [View.read_apply]
  show V m c main_v10 _ = _
  rw [hi, V_du]
  pointwise
  rfl

/-- The block of the other cotangent. -/
theorem in_dz2 (c : Dev nD) (t : Fin cfg0.N) (r : Fin 256) (j : Fin 1024) :
    iblk m c 2 t (ix2 r j) = m ((c : Thread nD τ).loc main_arg5) (ix2 (row t r) j) := by
  have ht := turn t
  have hi : ((cfg0.win 2).blk t).view.emb (ix2 r j) = (ix2 (row t r) j : S4096x1024.Idx) := funext fun a => Fin.ext (by
    match a with
    | ⟨0, _⟩ => show win0_2.index t 0 * 256 + 1 * r.val = t.val * 256 + r.val; omega
    | ⟨1, _⟩ => show win0_2.index t 1 * 1024 + 1 * j.val = j.val; omega)
  unfold iblk
  rw [View.read_apply]
  show V m c main_arg5 _ = _
  rw [hi, V_main_arg5]

end Cert.Ln1Ideal.Inputs

namespace Cert.Ln1Ideal.Inputs

open Cert.Ln1Ideal Cert.Ln1Ideal.Gen Cert.Ln1Ideal.Steps Cert.Ln1Ideal.Arrays Idealize.ShloMosaic Idealize.ShloMosaic.TcCoe Idealize.SL.Sem

variable (m : (ℓ : Loc nD τ sig) → Buf (Elt Ideal) ℓ)

/-- The block of the up projection's weights: all of them, transposed. -/
theorem in_w (c : Dev nD) (t : Fin cfg0.N) (k : Fin 5632) (j : Fin 1024) :
    iblk m c 1 t (ix2 k j) = m ((c : Thread nD τ).loc main_arg3) (ix2 j (mixed k)) := by
  have ht := (still t).1
  have hi : ((cfg0.win 1).blk t).view.emb (ix2 k j) = (ix2 k j : S5632x1024.Idx) := funext fun a => Fin.ext (by
    match a with
    | ⟨0, _⟩ => show win0_1.index t 0 * 5632 + 1 * k.val = k.val; rw [ht]; omega
    | ⟨1, _⟩ => show win0_1.index t 1 * 1024 + 1 * j.val = j.val; rw [ht]; omega)
  unfold iblk
  rw [View.read_apply]
  show V m c main_v7 _ = _
  rw [hi, V_w]
  pointwise
  rfl

/-- The block of the layer norm's input. -/
theorem in_z (c : Dev nD) (t : Fin cfg0.N) (r : Fin 256) (j : Fin 1024) :
    iblk m c 3 t (ix2 r j) = Ideal.ofBits .f32 0x3F9837F0#32 * m ((c : Thread nD τ).loc main_arg0) (ix2 (row t r) j)
      + m ((c : Thread nD τ).loc main_arg1) (ix2 (row t r) j) := by
  have ht := turn t
  have hi : ((cfg0.win 3).blk t).view.emb (ix2 r j) = (ix2 (row t r) j : S4096x1024.Idx) := funext fun a => Fin.ext (by
    match a with
    | ⟨0, _⟩ => show win0_3.index t 0 * 256 + 1 * r.val = t.val * 256 + r.val; omega
    | ⟨1, _⟩ => show win0_3.index t 1 * 1024 + 1 * j.val = j.val; omega)
  unfold iblk
  rw [View.read_apply]
  show V m c main_v2 _ = _
  rw [hi, V_z]
  pointwise

/-- The block of the scale. -/
theorem in_g (c : Dev nD) (t : Fin cfg0.N) (j : Fin 1024) :
    iblk m c 4 t (ix2 0 j) = m ((c : Thread nD τ).loc main_arg2) (ix1 j) := by
  have ht := (still t).2.1
  have hi : ((cfg0.win 4).blk t).view.emb (ix2 0 j) = (ix2 0 j : S1x1024.Idx) := funext fun a => Fin.ext (by
    match a with
    | ⟨0, _⟩ => show win0_4.index t 0 * 1 + 1 * 0 = 0; rw [ht]
    | ⟨1, _⟩ => show win0_4.index t 1 * 1024 + 1 * j.val = j.val; rw [ht]; omega)
  unfold iblk
  rw [View.read_apply]
  show V m c main_v11 _ = _
  rw [hi, V_g]
  pointwise

end Cert.Ln1Ideal.Inputs

end
-- ==== Proof.LnReal.lean ====
/- Layer norm over rows of 1024 real numbers: the row's statistics, the gradient as one closed expression, and the
   gradient as differentiating through the mean and the variance gives it. The two are equal. Beside them the small
   facts that carry sums and roots of real numbers through the extended reals. -/
module

public import Idealize.ShloMosaic.Lib.Pointwise
public import Idealize.ShloMosaic.Lib.IdealHost

@[expose] public section

noncomputable section

namespace Cert.LnReal

open Idealize.ShloMosaic

/-- A finite sum of reals is the same number in the extended reals. -/
theorem coe_sum {ι : Type*} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The divisor `1024`, as a float word. -/
theorem c1024 : Ideal.ofBits .f32 0x44800000#32 = ((1024 : ℝ) : EReal) := by
  simp [Ideal.ofBits, Ideal.ieee, -EReal.coe_mul]; norm_num

/-- Dividing a real by `1024`. -/
theorem div1024 (a : ℝ) : Ideal.div (a : EReal) ((1024 : ℝ) : EReal) = ((a / 1024 : ℝ) : EReal) := by
  rw [Ideal.div_coe (by norm_num : (1024 : ℝ) ≠ 0), ← EReal.coe_mul]; congr 1; ring

/-- The layer norm's `eps`, the rational that its float word is. -/
def eps : ℝ := 10995116 / 2 ^ 40

theorem ceps : Ideal.ofBits .f32 0x3727C5AC#32 = (eps : EReal) := by
  unfold eps; simp [Ideal.ofBits, Ideal.ieee, -EReal.coe_mul]; norm_num

theorem eps_pos : 0 < eps := by unfold eps; norm_num

/-- The square root's reciprocal of a positive real. -/
theorem rsqrt_pos {a : ℝ} (h : 0 < a) : Ideal.rsqrt (a : EReal) = (((√a)⁻¹ : ℝ) : EReal) := by
  rw [Ideal.rsqrt_coe, if_neg (not_lt.mpr h.le), if_neg h.ne']

/-- A row's mean. -/
def mean (f : Fin 1024 → ℝ) : ℝ := (∑ k, f k) / 1024

/-- A row less its mean. -/
def cen (z : Fin 1024 → ℝ) (j : Fin 1024) : ℝ := z j - mean z

/-- A row's variance with `eps` added. -/
def var (z : Fin 1024 → ℝ) : ℝ := (∑ k, cen z k * cen z k) / 1024 + eps

theorem var_pos (z : Fin 1024 → ℝ) : 0 < var z :=
  add_pos_of_nonneg_of_pos (div_nonneg (Finset.sum_nonneg fun k _ => mul_self_nonneg _) (by norm_num)) eps_pos

/-- One over a row's standard deviation. -/
def rstd (z : Fin 1024 → ℝ) : ℝ := (√(var z))⁻¹

/-- The normalised row. -/
def hat (z : Fin 1024 → ℝ) (j : Fin 1024) : ℝ := cen z j * rstd z

/-- The gradient of the row `z`, in closed form, from the cotangent `p` of the normalised row. -/
def grad (z p : Fin 1024 → ℝ) (j : Fin 1024) : ℝ :=
  rstd z * (p j - mean p - hat z j * mean fun k => p k * hat z k)

/-- The variance's cotangent, divided by the length of a row. -/
def dvar (z p : Fin 1024 → ℝ) : ℝ := (∑ k, cen z k * p k) * (-(1 / 2) * (rstd z / var z)) / 1024

/-- The gradient of the row `z` as differentiating through mean and variance gives it. -/
def vjp (z p : Fin 1024 → ℝ) (j : Fin 1024) : ℝ :=
  p j * rstd z + dvar z p * (2 * cen z j) + ((∑ k, -(p k * rstd z)) + ∑ k, -(dvar z p * (2 * cen z k))) / 1024

theorem sum_cen (z : Fin 1024 → ℝ) : ∑ k, cen z k = 0 := by
  unfold cen mean
  rw [Finset.sum_sub_distrib, Finset.sum_const, Finset.card_univ, Fintype.card_fin, nsmul_eq_mul]
  push_cast; ring

theorem rstd_sq (z : Fin 1024 → ℝ) : rstd z * rstd z = 1 / var z := by
  unfold rstd
  rw [← mul_inv, Real.mul_self_sqrt (var_pos z).le, one_div]

/-- Differentiating through mean and variance gives the closed form. -/
theorem vjp_eq_grad (z p : Fin 1024 → ℝ) (j : Fin 1024) : vjp z p j = grad z p j := by
  have hs : ∑ k, -(dvar z p * (2 * cen z k)) = 0 := by
    rw [Finset.sum_neg_distrib, ← Finset.mul_sum, ← Finset.mul_sum, sum_cen]; ring
  have hp : ∑ k, -(p k * rstd z) = -((∑ k, p k) * rstd z) := by rw [Finset.sum_neg_distrib, Finset.sum_mul]
  have hh : ∑ k, p k * hat z k = (∑ k, cen z k * p k) * rstd z := by
    rw [Finset.sum_mul]; exact Finset.sum_congr rfl fun k _ => by unfold hat; ring
  unfold vjp grad
  rw [hs, hp]
  unfold mean hat
  have hh' : (∑ k, p k * (cen z k * rstd z)) = (∑ k, cen z k * p k) * rstd z := hh
  rw [hh']
  have hd : dvar z p = -(1 / 2) * (∑ k, cen z k * p k) * rstd z * (rstd z * rstd z) / 1024 := by
    unfold dvar; rw [rstd_sq]; ring
  rw [hd]; ring

/-- Rows cut in `a` turns of `b`: a sum over the turns and, in each, over its rows is the sum over all rows. -/
theorem sum_turns {a b n : ℕ} (hn : a * b = n) (f : Fin n → ℝ)
    (g : Fin a → Fin b → ℝ) (h : ∀ t r (hl : t.val * b + r.val < n), g t r = f ⟨t.val * b + r.val, hl⟩) :
    ∑ t, ∑ r, g t r = ∑ i, f i := by
  subst hn
  rw [← Fintype.sum_prod_type']
  refine Fintype.sum_equiv finProdFinEquiv _ _ fun p => ?_
  have hl : p.1.val * b + p.2.val < a * b := by
    have := (finProdFinEquiv p).isLt
    rw [show (finProdFinEquiv p : Fin (a * b)).val = p.2.val + b * p.1.val from rfl] at this
    rw [mul_comm]; omega
  rw [h p.1 p.2 hl]
  congr 1
  exact Fin.ext (by show p.1.val * b + p.2.val = p.2.val + b * p.1.val; rw [mul_comm]; omega)

end Cert.LnReal

end
-- ==== Proof.Ln1Block.lean ====
/- The first layer norm's backward call over real numbers: what one block's payloads compute, when the five blocks that
   they read hold real numbers. -/
module

public import proofs.«01_k».proof.Proof.LnReal
public import proofs.«01_k».proof.Proof.Gen.Ln1Ideal.Skeleton

@[expose] public section

set_option maxRecDepth 16384

noncomputable section

namespace Cert.Ln1Ideal.Block

open Cert.Ln1Ideal Cert.Ln1Ideal.Gen Cert.LnReal Idealize.ShloMosaic

/-- The residual's weight, the rational that its float word is. -/
def alpha : ℝ := 9975792 / 2 ^ 23

theorem calpha : Ideal.ofBits .f32 0x3F9837F0#32 = (alpha : EReal) := by
  unfold alpha; simp [Ideal.ofBits, Ideal.ieee, -EReal.coe_mul]; norm_num

variable (b0 : Vec Ideal S256x5632 .bf16) (b1 : Vec Ideal S5632x1024 .bf16) (b2 b3 : Vec Ideal S256x1024 .f32) (b4 : Vec Ideal S1x1024 .f32)
variable (D : Fin 256 → Fin 5632 → ℝ) (W : Fin 5632 → Fin 1024 → ℝ) (E Z : Fin 256 → Fin 1024 → ℝ) (G : Fin 1024 → ℝ)
variable (h0 : ∀ r k, b0 (ix2 r k) = (D r k : EReal)) (h1 : ∀ k j, b1 (ix2 k j) = (W k j : EReal))
variable (h2 : ∀ r j, b2 (ix2 r j) = (E r j : EReal)) (h3 : ∀ r j, b3 (ix2 r j) = (Z r j : EReal)) (h4 : ∀ j, b4 (ix2 0 j) = (G j : EReal))

/-- The cotangent of the layer norm's output: the product with the weights and the residual's share. -/
def dyR (r : Fin 256) (j : Fin 1024) : ℝ := (∑ k, D r k * W k j) + alpha * E r j

include h0 h1 h2 in
theorem pay6_real (r : Fin 256) (j : Fin 1024) : k0_pay6 b0 b1 b2 (ix2 r j) = (dyR D W E r j : EReal) := by
  pointwise [k0_pay6]
  simp only [h0, h1, h2, calpha, ← EReal.coe_mul, coe_sum, ← EReal.coe_add, zero_add]
  rfl

include h3 in
theorem pay7_real (r : Fin 256) (j : Fin 1024) : k0_pay7 b3 (ix2 r j) = (cen (Z r) j : EReal) := by
  pointwise [k0_pay7]
  simp only [h3, c1024, coe_sum, div1024, ← EReal.coe_sub]
  rfl

include h3 in
theorem pay8_real (r : Fin 256) : k0_pay8 b3 (ix2 r 0) = (rstd (Z r) : EReal) := by
  pointwise [k0_pay8]
  simp only [pay7_real b3 Z h3, c1024, ceps, ← EReal.coe_mul, coe_sum, div1024, ← EReal.coe_add]
  exact rsqrt_pos (var_pos (Z r))

include h3 in
theorem pay9_real (r : Fin 256) (j : Fin 1024) : k0_pay9 b3 (ix2 r j) = (hat (Z r) j : EReal) := by
  pointwise [k0_pay9]
  simp only [pay7_real b3 Z h3, pay8_real b3 Z h3, ← EReal.coe_mul]
  rfl

variable (v11 : FVec Ideal S256x1024 .f32) (Y : Fin 256 → Fin 1024 → ℝ) (h11 : ∀ r j, v11 (ix2 r j) = (Y r j : EReal))

include h3 h4 h11 in
theorem pay2_real (r : Fin 256) (j : Fin 1024) :
    k0_pay2 v11 (k0_pay8 b3) (k0_pay9 b3) b4 (ix2 r j) = (grad (Z r) (fun k => Y r k * G k) j : EReal) := by
  pointwise [k0_pay2]
  simp only [pay9_real b3 Z h3, pay8_real b3 Z h3, h4, h11, c1024, ← EReal.coe_mul, coe_sum, div1024, ← EReal.coe_sub]
  rfl

include h3 h4 h11 in
theorem pay3_real (r : Fin 256) (j : Fin 1024) :
    k0_pay3 v11 (k0_pay8 b3) (k0_pay9 b3) b4 (ix2 r j) = (grad (Z r) (fun k => Y r k * G k) j : EReal) := by
  pointwise [k0_pay3]
  exact pay2_real b3 b4 Z G h3 h4 v11 Y h11 r j

variable (acc : Vec Ideal S1x1024 .f32) (A : Fin 1024 → ℝ) (hA : ∀ j, acc (ix2 0 j) = (A j : EReal))

include h11 hA in
theorem pay1_real (j : Fin 1024) : k0_pay1 v11 acc (ix2 0 j) = ((A j + ∑ r, Y r j : ℝ) : EReal) := by
  pointwise [k0_pay1]
  simp only [h11, hA, coe_sum, ← EReal.coe_add]

include h0 h1 h2 h3 hA in
theorem pay10_real (j : Fin 1024) :
    k0_pay10 b0 b1 b2 b3 acc (ix2 0 j) = ((A j + ∑ r, dyR D W E r j * hat (Z r) j : ℝ) : EReal) := by
  pointwise [k0_pay10]
  simp only [pay6_real b0 b1 b2 D W E h0 h1 h2, pay9_real b3 Z h3, hA, ← EReal.coe_mul, coe_sum, ← EReal.coe_add]

end Cert.Ln1Ideal.Block

end
-- ==== Proof.Ln1Ref.lean ====
/- The first layer norm's reference over real numbers: the stages of the derivative that jax takes, each at an index,
   when the arguments hold real numbers. -/
module

public import proofs.«01_k».proof.Proof.Ln1Block
public import proofs.«01_k».proof.Proof.Gen.Ln1RefIdeal.Read

@[expose] public section

set_option maxRecDepth 16384

noncomputable section

namespace Cert.Ln1RefIdeal.Ref

open Cert.Ln1RefIdeal Cert.Ln1RefIdeal.Gen Cert.Ln1RefIdeal.Read Cert.LnReal Idealize.ShloMosaic
open Cert.Ln1Ideal.Block (alpha calpha)

variable (x0 x1 x5 : FVec Ideal S4096x1024 .f32) (x2 : FVec Ideal S1024 .f32) (x3 : FVec Ideal S1024x5632 .f32) (x4 : FVec Ideal S4096x5632 .bf16)
variable (X M E : Fin 4096 → Fin 1024 → ℝ) (G : Fin 1024 → ℝ) (W : Fin 1024 → Fin 5632 → ℝ) (D : Fin 4096 → Fin 5632 → ℝ)
variable (h0 : ∀ i j, x0 (ix2 i j) = (X i j : EReal)) (h1 : ∀ i j, x1 (ix2 i j) = (M i j : EReal)) (h5 : ∀ i j, x5 (ix2 i j) = (E i j : EReal))
variable (h2 : ∀ j, x2 (ix1 j) = (G j : EReal)) (h3 : ∀ j k, x3 (ix2 j k) = (W j k : EReal)) (h4 : ∀ i k, x4 (ix2 i k) = (D i k : EReal))

/-- The layer norm's input. -/
def zR (i : Fin 4096) (j : Fin 1024) : ℝ := alpha * X i j + M i j

/-- The cotangent of its output. -/
def dyR (i : Fin 4096) (j : Fin 1024) : ℝ := alpha * E i j + ∑ k, D i k * W j k

theorem chalf : Ideal.ofBits .f32 0xBF000000#32 = ((-(1 / 2) : ℝ) : EReal) := by
  simp [Ideal.ofBits, Ideal.ieee, -EReal.coe_mul]; norm_num

theorem ctwo : Ideal.ofBits .f32 0x40000000#32 = ((2 : ℝ) : EReal) := by
  simp [Ideal.ofBits, Ideal.ieee, -EReal.coe_mul]; norm_num

include h0 h1 in
theorem z_real (i : Fin 4096) (j : Fin 1024) : val_main_v2 (F := Ideal) x0 x1 (ix2 i j) = (zR X M i j : EReal) := by
  pointwise [val_main_v2, val_main_v1, val_main_v0, val_main_cst]
  simp only [h0, h1, calpha, ← EReal.coe_mul, ← EReal.coe_add]
  rfl

include h0 h1 in
theorem mean_real (i : Fin 4096) : val_main_v7 (F := Ideal) x0 x1 (ix2 i 0) = (mean (zR X M i) : EReal) := by
  pointwise [val_main_v7, val_main_v6, val_main_v5, val_main_v4, val_main_cst_1, val_main_cst_2]
  simp only [z_real x0 x1 X M h0 h1, c1024, coe_sum, div1024, zero_add]
  rfl

include h0 h1 in
theorem cen_real (i : Fin 4096) (j : Fin 1024) : val_main_v9 (F := Ideal) x0 x1 (ix2 i j) = (cen (zR X M i) j : EReal) := by
  pointwise [val_main_v9, val_main_v8]
  simp only [z_real x0 x1 X M h0 h1, mean_real x0 x1 X M h0 h1, ← EReal.coe_sub]
  rfl

include h0 h1 in
theorem cen'_real (i : Fin 4096) (j : Fin 1024) : val_main_v18 (F := Ideal) x0 x1 (ix2 i j) = (cen (zR X M i) j : EReal) := by
  pointwise [val_main_v18, val_main_v17]
  simp only [z_real x0 x1 X M h0 h1, mean_real x0 x1 X M h0 h1, ← EReal.coe_sub]
  rfl

include h0 h1 in
theorem var_real (i : Fin 4096) : val_main_v20 (F := Ideal) x0 x1 (ix2 i 0) = (var (zR X M i) : EReal) := by
  pointwise [val_main_v20, val_main_v19, val_main_v16, val_main_v15, val_main_v14, val_main_v13, val_main_v10, val_main_cst_4, val_main_cst_5,
    val_main_cst_6]
  simp only [cen_real x0 x1 X M h0 h1, c1024, ceps, ← EReal.coe_mul, coe_sum, div1024, ← EReal.coe_add, zero_add]
  rfl

include h0 h1 in
theorem rstd_real (i : Fin 4096) : val_main_v21 (F := Ideal) x0 x1 (ix2 i 0) = (rstd (zR X M i) : EReal) := by
  pointwise [val_main_v21]
  rw [var_real x0 x1 X M h0 h1]
  exact rsqrt_pos (var_pos _)

include h0 h1 in
theorem slope_real (i : Fin 4096) :
    val_main_v24 (F := Ideal) x0 x1 (ix2 i 0) = ((-(1 / 2) * (rstd (zR X M i) / var (zR X M i)) : ℝ) : EReal) := by
  pointwise [val_main_v24, val_main_v23, val_main_v22, val_main_cst_7]
  rw [var_real x0 x1 X M h0 h1, rstd_real x0 x1 X M h0 h1, chalf, Ideal.div_coe (var_pos _).ne', ← EReal.coe_mul, ← EReal.coe_mul]
  congr 2; ring

include h0 h1 in
theorem hat_real (i : Fin 4096) (j : Fin 1024) : val_main_v26 (F := Ideal) x0 x1 (ix2 i j) = (hat (zR X M i) j : EReal) := by
  pointwise [val_main_v26, val_main_v25]
  simp only [cen'_real x0 x1 X M h0 h1, rstd_real x0 x1 X M h0 h1, ← EReal.coe_mul]
  rfl

include h3 h4 h5 in
theorem dy_real (i : Fin 4096) (j : Fin 1024) : val_main_v40 (F := Ideal) x3 x4 x5 (ix2 i j) = (dyR E W D i j : EReal) := by
  pointwise [val_main_v40, val_main_v39, val_main_v38, val_main_v37, val_main_v36, val_main_cst_9]
  simp only [h3, h4, h5, calpha, ← EReal.coe_mul, coe_sum, ← EReal.coe_add, zero_add]
  rfl

include h3 h4 h5 in
/-- The shift's gradient. -/
theorem db_real (j : Fin 1024) : val_main_v76 (F := Ideal) x3 x4 x5 (ix2 0 j) = ((∑ i, dyR E W D i j : ℝ) : EReal) := by
  pointwise [val_main_v76, val_main_v43, val_main_v42, val_main_v41, val_main_cst_10, val_main_cst_11]
  simp only [dy_real x5 x3 x4 E W D h5 h3 h4, coe_sum, zero_add, Fin.sum_univ_one]

include h0 h1 h3 h4 h5 in
/-- The scale's gradient. -/
theorem dg_real (j : Fin 1024) :
    val_main_v75 (F := Ideal) x0 x1 x3 x4 x5 (ix2 0 j) = ((∑ i, hat (zR X M i) j * dyR E W D i j : ℝ) : EReal) := by
  pointwise [val_main_v75, val_main_v49, val_main_v46, val_main_v45, val_main_v44, val_main_cst_12, val_main_cst_13]
  simp only [hat_real x0 x1 X M h0 h1, dy_real x5 x3 x4 E W D h5 h3 h4, ← EReal.coe_mul, coe_sum, zero_add, Fin.sum_univ_one]

include h2 h3 h4 h5 in
theorem p_real (i : Fin 4096) (j : Fin 1024) : val_main_v48 (F := Ideal) x2 x3 x4 x5 (ix2 i j) = ((dyR E W D i j * G j : ℝ) : EReal) := by
  pointwise [val_main_v48, val_main_v47, val_main_v27]
  simp only [dy_real x5 x3 x4 E W D h5 h3 h4, h2, ← EReal.coe_mul]

include h0 h1 h2 h3 h4 h5 in
theorem pr_real (i : Fin 4096) (j : Fin 1024) :
    val_main_v54 (F := Ideal) x0 x1 x2 x3 x4 x5 (ix2 i j) = ((dyR E W D i j * G j * rstd (zR X M i) : ℝ) : EReal) := by
  pointwise [val_main_v54, val_main_v53]
  simp only [p_real x5 x2 x3 x4 E G W D h5 h2 h3 h4, rstd_real x0 x1 X M h0 h1, ← EReal.coe_mul]

include h0 h1 h2 h3 h4 h5 in
theorem dvar_real (i : Fin 4096) (j : Fin 1024) :
    val_main_v63 (F := Ideal) x0 x1 x2 x3 x4 x5 (ix2 i j) = ((dvar (zR X M i) (fun k => dyR E W D i k * G k) * (2 * cen (zR X M i) j) : ℝ) : EReal) := by
  pointwise [val_main_v63, val_main_v62, val_main_v61, val_main_v60, val_main_v59, val_main_v55, val_main_v52, val_main_v51, val_main_v50,
    val_main_v12, val_main_v11, val_main_cst_3, val_main_cst_14, val_main_cst_16, val_main_cst_17]
  simp only [p_real x5 x2 x3 x4 E G W D h5 h2 h3 h4, cen_real x0 x1 X M h0 h1, cen'_real x0 x1 X M h0 h1, slope_real x0 x1 X M h0 h1, ctwo,
    c1024, ← EReal.coe_mul, coe_sum, div1024, zero_add, Fin.sum_univ_one]
  rfl

include h0 h1 h2 h3 h4 h5 in
/-- The gradient of the layer norm's input. -/
theorem dz_real (i : Fin 4096) (j : Fin 1024) :
    val_main_v73 (F := Ideal) x0 x1 x2 x3 x4 x5 (ix2 i j) = (vjp (zR X M i) (fun k => dyR E W D i k * G k) j : EReal) := by
  pointwise [val_main_v73, val_main_v72, val_main_v71, val_main_v70, val_main_v69, val_main_v68, val_main_v67, val_main_v66, val_main_v65,
    val_main_v64, val_main_v58, val_main_v57, val_main_v56, val_main_cst_15, val_main_cst_18, val_main_cst_19, val_main_cst_20]
  simp only [pr_real x0 x1 x5 x2 x3 x4 X M E G W D h0 h1 h5 h2 h3 h4, dvar_real x0 x1 x5 x2 x3 x4 X M E G W D h0 h1 h5 h2 h3 h4, c1024,
    ← EReal.coe_neg, coe_sum, ← EReal.coe_add, div1024, zero_add, Fin.sum_univ_one]
  rfl

include h0 h1 h2 h3 h4 h5 in
theorem dzb_real (i : Fin 4096) (j : Fin 1024) :
    val_main_v74 (F := Ideal) x0 x1 x2 x3 x4 x5 (ix2 i j) = (vjp (zR X M i) (fun k => dyR E W D i k * G k) j : EReal) := by
  pointwise [val_main_v74]
  exact dz_real x0 x1 x5 x2 x3 x4 X M E G W D h0 h1 h5 h2 h3 h4 i j

end Cert.Ln1RefIdeal.Ref

end
-- ==== Proof.Ln1Value.lean ====
/- The first layer norm's backward call and its reference, both as the same real numbers. -/
module

public import proofs.«01_k».proof.Proof.Finite
public import proofs.«01_k».proof.Proof.Ln1Inputs
public import proofs.«01_k».proof.Proof.Ln1Ref

@[expose] public section

set_option maxRecDepth 16384

noncomputable section

namespace Cert.Ln1Ideal.Result

open Cert.Ln1Ideal Cert.Ln1Ideal.Gen Cert.Ln1Ideal.Steps Cert.Ln1Ideal.Arrays Cert.Ln1Ideal.Inputs Cert.LnReal Idealize.ShloMosaic Idealize.ShloMosaic.TcCoe Idealize.SL.Sem
open Cert.Ln1Ideal.Block (alpha calpha)
open Cert.Ln1RefIdeal.Ref (zR dyR)

variable (m : (ℓ : Loc nD τ sig) → Buf (Elt Ideal) ℓ) (c : Dev nD)

/-- The six arguments' entries are the real numbers `X`, `M`, `G`, `W`, `D`, `E`. -/
structure Args (X M : Fin 4096 → Fin 1024 → ℝ) (G : Fin 1024 → ℝ) (W : Fin 1024 → Fin 5632 → ℝ) (D : Fin 4096 → Fin 5632 → ℝ)
    (E : Fin 4096 → Fin 1024 → ℝ) : Prop where
  h0 : ∀ i j, m ((c : Thread nD τ).loc main_arg0) (ix2 i j) = (X i j : EReal)
  h1 : ∀ i j, m ((c : Thread nD τ).loc main_arg1) (ix2 i j) = (M i j : EReal)
  h2 : ∀ j, m ((c : Thread nD τ).loc main_arg2) (ix1 j) = (G j : EReal)
  h3 : ∀ j k, m ((c : Thread nD τ).loc main_arg3) (ix2 j k) = (W j k : EReal)
  h4 : ∀ i k, m ((c : Thread nD τ).loc main_arg4) (ix2 i k) = (D i k : EReal)
  h5 : ∀ i j, m ((c : Thread nD τ).loc main_arg5) (ix2 i j) = (E i j : EReal)

variable {m c} {X M E : Fin 4096 → Fin 1024 → ℝ} {G : Fin 1024 → ℝ} {W : Fin 1024 → Fin 5632 → ℝ} {D : Fin 4096 → Fin 5632 → ℝ}
variable (A : Args m c X M G W D E)

/-- The order of columns in turns of 256 is a permutation. -/
theorem mixed_bijective : Function.Bijective mixed := by
  refine (Finite.injective_iff_bijective).mp fun a b h => Fin.ext ?_
  have h' : a.val / 256 % 2 * 2816 + a.val / 512 * 256 + a.val % 256 = b.val / 256 % 2 * 2816 + b.val / 512 * 256 + b.val % 256 :=
    congrArg Fin.val h
  have := a.isLt; have := b.isLt
  rcases Nat.mod_two_eq_zero_or_one (a.val / 256) with ha | ha <;> rcases Nat.mod_two_eq_zero_or_one (b.val / 256) with hb | hb <;>
    rw [ha, hb] at h' <;> omega

/-- A sum over the columns in either order. -/
theorem sum_mixed (f : Fin 5632 → ℝ) : ∑ k, f (mixed k) = ∑ k, f k := mixed_bijective.sum_comp f

/-- The cotangent that a point works with is the reference's, at the point's rows. -/
theorem dy_rows (t : Fin cfg0.N) (r : Fin 256) (j : Fin 1024) :
    Block.dyR (fun r k => D (row t r) (mixed k)) (fun k j => W j (mixed k)) (fun r j => E (row t r) j) r j = dyR E W D (row t r) j := by
  unfold Block.dyR dyR
  rw [sum_mixed fun k => D (row t r) k * W j k, add_comm]

include A

theorem z_block (t : Fin cfg0.N) (r : Fin 256) (j : Fin 1024) : iblk m c 3 t (ix2 r j) = (zR X M (row t r) j : EReal) := by
  rw [in_z, A.h0, A.h1, calpha, ← EReal.coe_mul, ← EReal.coe_add]; rfl

theorem g_block (t : Fin cfg0.N) (j : Fin 1024) : iblk m c 4 t (ix2 0 j) = (G j : EReal) := by rw [in_g, A.h2]

theorem dy_block (t : Fin cfg0.N) (r : Fin 256) (j : Fin 1024) : dy m c t (ix2 r j) = (dyR E W D (row t r) j : EReal) := by
  rw [← dy_rows]
  exact Block.pay6_real _ _ _ _ _ _ (fun r k => by rw [in_du, A.h4]) (fun k j => by rw [in_w, A.h3]) (fun r j => by rw [in_dz2, A.h5]) r j

theorem dz_block (t : Fin cfg0.N) (r : Fin 256) (j : Fin 1024) :
    dz m c t (ix2 r j) = (vjp (zR X M (row t r)) (fun k => dyR E W D (row t r) k * G k) j : EReal) := by
  rw [vjp_eq_grad]
  exact Block.pay2_real _ _ (fun r => zR X M (row t r)) G (z_block A t) (g_block A t) _ (fun r j => dyR E W D (row t r) j) (dy_block A t) r j

theorem dzb_block (t : Fin cfg0.N) (r : Fin 256) (j : Fin 1024) :
    dzb m c t (ix2 r j) = (vjp (zR X M (row t r)) (fun k => dyR E W D (row t r) k * G k) j : EReal) := by
  rw [vjp_eq_grad]
  exact Block.pay3_real _ _ (fun r => zR X M (row t r)) G (z_block A t) (g_block A t) _ (fun r j => dyR E W D (row t r) j) (dy_block A t) r j

theorem dg_block (t : Fin cfg0.N) (acc : Vec Ideal S1x1024 .f32) (j : Fin 1024) (a : Fin 1024 → ℝ) (ha : ∀ j, acc (ix2 0 j) = (a j : EReal)) :
    dgStep m c t acc (ix2 0 j) = ((a j + ∑ r, hat (zR X M (row t r)) j * dyR E W D (row t r) j : ℝ) : EReal) := by
  refine (Block.pay10_real _ _ _ _ _ _ _ (fun r => zR X M (row t r)) (fun r k => by rw [in_du, A.h4]) (fun k j => by rw [in_w, A.h3])
    (fun r j => by rw [in_dz2, A.h5]) (z_block A t) acc a ha j).trans ?_
  simp only [dy_rows, mul_comm]

theorem db_block (t : Fin cfg0.N) (acc : Vec Ideal S1x1024 .f32) (j : Fin 1024) (a : Fin 1024 → ℝ) (ha : ∀ j, acc (ix2 0 j) = (a j : EReal)) :
    dbStep m c t acc (ix2 0 j) = ((a j + ∑ r, dyR E W D (row t r) j : ℝ) : EReal) :=
  Block.pay1_real _ (fun r j => dyR E W D (row t r) j) (dy_block A t) acc a ha j

/-- The scale's gradient after the last point. -/
theorem dg_total (j : Fin 1024) :
    (outsAt0 m c last.val last.isLt).2.2.1 (ix2 0 j) = ((∑ i, hat (zR X M i) j * dyR E W D i j : ℝ) : EReal) := by
  have hN : cfg0.N = 16 := N_0
  have key := Cert.Finite.running (fun n h j => (outsAt0 m c n h).2.2.1 (ix2 0 j))
    (fun t j => ∑ r, hat (zR X M (row t r)) j * dyR E W D (row t r) j)
    (fun h j => by
      refine (congrFun (dg_first m c ⟨0, h⟩ rfl) (ix2 0 j)).trans ((dg_block A ⟨0, h⟩ _ j (fun _ => 0) fun j => ?_).trans ?_)
      · pointwise [k0_pay4]
        rfl
      · rw [zero_add])
    (fun n h a ha j => by
      have h16 : ¬(⟨n + 1, h⟩ : Fin cfg0.N).val % 16 = 0 := by show ¬(n + 1) % 16 = 0; omega
      exact (congrFun (dg_later m c ⟨n + 1, h⟩ h16) (ix2 0 j)).trans (dg_block A ⟨n + 1, h⟩ _ j a ha))
    last.val last.isLt (by show 15 + 1 = cfg0.N; omega) j
  rw [key, sum_turns (by rw [hN]) (fun i => hat (zR X M i) j * dyR E W D i j) _ fun t r hl => rfl]

/-- The shift's gradient after the last point. -/
theorem db_total (j : Fin 1024) :
    (outsAt0 m c last.val last.isLt).2.2.2 (ix2 0 j) = ((∑ i, dyR E W D i j : ℝ) : EReal) := by
  have hN : cfg0.N = 16 := N_0
  have key := Cert.Finite.running (fun n h j => (outsAt0 m c n h).2.2.2 (ix2 0 j)) (fun t j => ∑ r, dyR E W D (row t r) j)
    (fun h j => by
      refine (congrFun (db_first m c ⟨0, h⟩ rfl) (ix2 0 j)).trans ((db_block A ⟨0, h⟩ _ j (fun _ => 0) fun j => ?_).trans ?_)
      · pointwise [k0_pay5]
        rfl
      · rw [zero_add])
    (fun n h a ha j => by
      have h16 : ¬(⟨n + 1, h⟩ : Fin cfg0.N).val % 16 = 0 := by show ¬(n + 1) % 16 = 0; omega
      exact (congrFun (db_later m c ⟨n + 1, h⟩ h16) (ix2 0 j)).trans (db_block A ⟨n + 1, h⟩ _ j a ha))
    last.val last.isLt (by show 15 + 1 = cfg0.N; omega) j
  rw [key, sum_turns (by rw [hN]) (fun i => dyR E W D i j) _ fun t r hl => rfl]

/-- The turn and the row in it of a row of the whole array. -/
theorem row_of (i : Fin 4096) : ∃ (t : Fin cfg0.N) (r : Fin 256), row t r = i := by
  have hN : cfg0.N = 16 := N_0
  have := i.isLt
  exact ⟨⟨i.val / 256, by omega⟩, ⟨i.val % 256, by omega⟩, Fin.ext (by show i.val / 256 * 256 + i.val % 256 = i.val; omega)⟩

open Cert.Ln1RefIdeal.Read

/-- The four arrays that the call returns are the reference's. -/
theorem dz_eq : (dats m 0 c).arrAt 5 cfg0.N = val_main_v73 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  refine funext fun (i : S4096x1024.Idx) => ?_
  obtain ⟨a, j, rfl⟩ : ∃ (a : Fin 4096) (j : Fin 1024), i = ix2 a j := ⟨i 0, i 1, by ext k; fin_cases k <;> rfl⟩
  obtain ⟨t, r, rfl⟩ := row_of A a
  rw [arr_dz m c t r j _ rfl rfl, dz_block A]
  exact (Cert.Ln1RefIdeal.Ref.dz_real _ _ _ _ _ _ _ _ _ _ _ _ A.h0 A.h1 A.h5 A.h2 A.h3 A.h4 _ _).symm

theorem dzb_eq : (dats m 0 c).arrAt 6 cfg0.N = val_main_v74 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  refine funext fun (i : S4096x1024.Idx) => ?_
  obtain ⟨a, j, rfl⟩ : ∃ (a : Fin 4096) (j : Fin 1024), i = ix2 a j := ⟨i 0, i 1, by ext k; fin_cases k <;> rfl⟩
  obtain ⟨t, r, rfl⟩ := row_of A a
  rw [arr_dzb m c t r j _ rfl rfl, dzb_block A]
  exact (Cert.Ln1RefIdeal.Ref.dzb_real _ _ _ _ _ _ _ _ _ _ _ _ A.h0 A.h1 A.h5 A.h2 A.h3 A.h4 _ _).symm

theorem dg_eq : (dats m 0 c).arrAt 7 cfg0.N = val_main_v75 (F := Ideal) (m ((c : Thread nD τ).loc main_arg0)) (m ((c : Thread nD τ).loc main_arg1))
    (m ((c : Thread nD τ).loc main_arg3)) (m ((c : Thread nD τ).loc main_arg4)) (m ((c : Thread nD τ).loc main_arg5)) := by
  refine funext fun (i : S1x1024.Idx) => ?_
  obtain ⟨a, j, rfl⟩ : ∃ (a : Fin 1) (j : Fin 1024), i = ix2 a j := ⟨i 0, i 1, by ext k; fin_cases k <;> rfl⟩
  obtain rfl : a = 0 := Subsingleton.elim _ _
  rw [arr_dg, dg_total A]
  exact (Cert.Ln1RefIdeal.Ref.dg_real _ _ _ _ _ _ _ _ _ _ A.h0 A.h1 A.h5 A.h3 A.h4 _).symm

theorem db_eq : (dats m 0 c).arrAt 8 cfg0.N = val_main_v76 (F := Ideal) (m ((c : Thread nD τ).loc main_arg3))
    (m ((c : Thread nD τ).loc main_arg4)) (m ((c : Thread nD τ).loc main_arg5)) := by
  refine funext fun (i : S1x1024.Idx) => ?_
  obtain ⟨a, j, rfl⟩ : ∃ (a : Fin 1) (j : Fin 1024), i = ix2 a j := ⟨i 0, i 1, by ext k; fin_cases k <;> rfl⟩
  obtain rfl : a = 0 := Subsingleton.elim _ _
  rw [arr_db, db_total A]
  exact (Cert.Ln1RefIdeal.Ref.db_real _ _ _ _ _ _ A.h5 A.h3 A.h4 _).symm

end Cert.Ln1Ideal.Result

end
-- ==== Proof.Ln1Claim.lean ====
/- The claims about the first layer norm's backward call: the reference's frame, and that the call's four results are the
   reference's. -/
module

public import proofs.«01_k».proof.Defs
public import proofs.«01_k».proof.Proof.Ln1Value
public import proofs.«01_k».proof.Proof.Gen.Pre_ln1_finite
public import proofs.«01_k».proof.Proof.Gen.Ln1RefIdeal.Run
public import Idealize.ShloMosaic.Lib.Quiescent

@[expose] public section

set_option maxRecDepth 16384

noncomputable section

namespace Cert.Proof.Ln1

open Idealize.ShloMosaic Idealize.SL.Sem

/-- The reference's frame is what its run says of the arguments and the counters. -/
theorem frame_reference : Cert.quiescent_Ln1RefIdeal := fun m ρ _ =>
  (θ_run Cert.Ln1RefIdeal.defs _ _).mono (fun r h => ⟨fun c => (h c).2.2.2.2, sem_eq_zero_of_no_sems (by decide) r.2⟩)
    (Cert.Ln1RefIdeal.Value.run m ρ)

/-- The precondition says that every argument's entries are real numbers. -/
theorem args (m : (ℓ : Loc Cert.Ln1Ideal.nD Cert.Ln1Ideal.τ Cert.Ln1Ideal.sig) → Buf (Elt Ideal) ℓ) (h : Cert.Pre_Ln1Ideal_ln1_finite m)
    (c : Dev Cert.Ln1Ideal.nD) : Cert.Ln1Ideal.Result.Args m c
      (fun i j => EReal.toReal (m ((c.tc : Thread Cert.Ln1Ideal.nD Cert.Ln1Ideal.τ).loc Cert.Ln1Ideal.main_arg0) (ix2 i j)))
      (fun i j => EReal.toReal (m ((c.tc : Thread Cert.Ln1Ideal.nD Cert.Ln1Ideal.τ).loc Cert.Ln1Ideal.main_arg1) (ix2 i j)))
      (fun j => EReal.toReal (m ((c.tc : Thread Cert.Ln1Ideal.nD Cert.Ln1Ideal.τ).loc Cert.Ln1Ideal.main_arg2) (ix1 j)))
      (fun j k => EReal.toReal (m ((c.tc : Thread Cert.Ln1Ideal.nD Cert.Ln1Ideal.τ).loc Cert.Ln1Ideal.main_arg3) (ix2 j k)))
      (fun i k => EReal.toReal (m ((c.tc : Thread Cert.Ln1Ideal.nD Cert.Ln1Ideal.τ).loc Cert.Ln1Ideal.main_arg4) (ix2 i k)))
      (fun i j => EReal.toReal (m ((c.tc : Thread Cert.Ln1Ideal.nD Cert.Ln1Ideal.τ).loc Cert.Ln1Ideal.main_arg5) (ix2 i j))) :=
  ⟨fun i j => Cert.Finite.coe_toReal (congrFun (h c).1 (ix2 i j)),
    fun i j => Cert.Finite.coe_toReal (congrFun (h c).2.1 (ix2 i j)),
    fun j => Cert.Finite.coe_toReal (congrFun (h c).2.2.1 (ix1 j)),
    fun j k => Cert.Finite.coe_toReal (congrFun (h c).2.2.2.1 (ix2 j k)),
    fun i k => Cert.Finite.coe_toReal (congrFun (h c).2.2.2.2.1 (ix2 i k)),
    fun i j => Cert.Finite.coe_toReal (congrFun (h c).2.2.2.2.2 (ix2 i j))⟩

theorem algebraic : Cert.algebraic_Ln1Ideal_Ln1RefIdeal_pre_ln1_finite := fun m ρ m' ρ' hpre hargs =>
  ⟨fun c => (Cert.Ln1Ideal.Gen.dats m 0 c).arrAt 5 Cert.Ln1Ideal.cfg0.N, fun c => (Cert.Ln1Ideal.Gen.dats m 0 c).arrAt 6 Cert.Ln1Ideal.cfg0.N,
    fun c => (Cert.Ln1Ideal.Gen.dats m 0 c).arrAt 7 Cert.Ln1Ideal.cfg0.N, fun c => (Cert.Ln1Ideal.Gen.dats m 0 c).arrAt 8 Cert.Ln1Ideal.cfg0.N,
    Cert.Ln1Ideal.Value.run_blocks m ρ,
    (θ_run Cert.Ln1RefIdeal.defs _ _).mono (fun r h c => by
      obtain ⟨a0, a1, a2, a3, a4, a5⟩ := hargs c
      have A := args m hpre c
      obtain ⟨r0, r1, r2, r3, k⟩ := h c
      refine ⟨r0.trans ?_, r1.trans ?_, r2.trans ?_, r3.trans ?_, k⟩
      · rw [Cert.Ln1RefIdeal.Read.val_main_v73_eq, a0, a1, a2, a3, a4, a5]; exact (Cert.Ln1Ideal.Result.dz_eq A).symm
      · rw [Cert.Ln1RefIdeal.Read.val_main_v74_eq, a0, a1, a2, a3, a4, a5]; exact (Cert.Ln1Ideal.Result.dzb_eq A).symm
      · rw [Cert.Ln1RefIdeal.Read.val_main_v75_eq, a0, a1, a3, a4, a5]; exact (Cert.Ln1Ideal.Result.dg_eq A).symm
      · rw [Cert.Ln1RefIdeal.Read.val_main_v76_eq, a3, a4, a5]; exact (Cert.Ln1Ideal.Result.db_eq A).symm)
    (Cert.Ln1RefIdeal.Value.run m' ρ')⟩

end Cert.Proof.Ln1

end
-- ==== Proof.LossSteps.lean ====
/- What one grid point of the last layer norm's call leaves in its five output blocks, written as the body's own payloads
   of the six blocks that the point reads, and the three running sums over the points. -/
module

public import proofs.«01_k».proof.Proof.Gen.LossIdeal.Value
public import Idealize.ShloMosaic.Lib.Tactic

@[expose] public section

set_option maxRecDepth 16384

noncomputable section

namespace Cert.LossIdeal.Steps

open Cert.LossIdeal Cert.LossIdeal.Gen Idealize.ShloMosaic Idealize.ShloMosaic.TcCoe Idealize.SL.Sem

variable {F : FTy → Type} [FloatOps F]
variable (m : (ℓ : Loc nD τ sig) → Buf (Elt F) ℓ)

theorem hz : (![0, 0] : Fin 2 → Nat) = fun _ => 0 := funext fun a => by fin_cases a <;> rfl

/-- The normalised output less its target at point `t`. -/
abbrev err (c : Dev nD) (t : Fin cfg0.N) : FVec F S512x1024 .f32 :=
  k0_pay10 (iblk m c 4 t) (iblk m c 2 t) (iblk m c 0 t) (iblk m c 1 t) (iblk m c 5 t) (iblk m c 3 t)

/-- The normalised rows, and one over their deviations. -/
abbrev hatB (c : Dev nD) (t : Fin cfg0.N) : FVec F S512x1024 .f32 := k0_pay9 (iblk m c 2 t) (iblk m c 0 t) (iblk m c 1 t)
abbrev rstdB (c : Dev nD) (t : Fin cfg0.N) : FVec F S512x1 .f32 := k0_pay8 (iblk m c 2 t) (iblk m c 0 t) (iblk m c 1 t)

/-- What point `t` leaves in the block of `dz`, and in its copy cast to bf16. -/
abbrev dz (c : Dev nD) (t : Fin cfg0.N) : FVec F S512x1024 .f32 :=
  k0_pay1 (rstdB m c t) (hatB m c t) (k0_pay15 (k0_pay6 (iblk m c 4 t)) (err m c t)) (k0_pay16 (k0_pay6 (iblk m c 4 t)) (err m c t))
abbrev dzb (c : Dev nD) (t : Fin cfg0.N) : FVec F S512x1024 .bf16 :=
  k0_pay2 (rstdB m c t) (hatB m c t) (k0_pay15 (k0_pay6 (iblk m c 4 t)) (err m c t)) (k0_pay16 (k0_pay6 (iblk m c 4 t)) (err m c t))

/-- The loss and the scale's and shift's gradients after point `t`, from what was there before. -/
abbrev lossStep (c : Dev nD) (t : Fin cfg0.N) (acc : Vec F S1x128 .f32) : FVec F S1x128 .f32 := k0_pay11 (err m c t) acc
abbrev dgStep (c : Dev nD) (t : Fin cfg0.N) (acc : Vec F S1x1024 .f32) : FVec F S1x1024 .f32 := k0_pay13 (hatB m c t) (err m c t) acc
abbrev dbStep (c : Dev nD) (t : Fin cfg0.N) (acc : Vec F S1x1024 .f32) : FVec F S1x1024 .f32 := k0_pay14 (err m c t) acc

/-- The block that the first point leaves. -/
theorem dz_first (c : Dev nD) (t : Fin cfg0.N) (h0 : t.val % 8 = 0) : (outsAt0 m c t.val t.isLt).1 = dz m c t := by
  rw [outsAt0_A m c t h0]
  dsimp only
  unfold out0_A_6
  rw [View.read_writes_eq_canon _ _ _ (fun y => cover0_A_6 c (grid0.coords t) _ _ _ _ _ _ _ _ _ _ _ _ _ _ _ _ _ _ _ _ _ _ _ _ _ _ _ _ _ y)]
  unfold kernelRun0_A
  dsimp only
  sl_unfold_words
  rw [View.canon_unit_zero (S := S512x1024) hz]
  simp only [View.readAt_eq_ld, (hs0_0 t).read_unread, (hs0_1 t).read_unread, (hs0_2 t).read_unread, (hs0_3 t).read_unread, (hs0_4 t).read_unread, (hs0_5 t).read_unread,
    View.ld_unit_zero (S := S512x2816) hz, View.ld_unit_zero (S := S2816x1024) hz, View.ld_unit_zero (S := S512x1024) hz, View.ld_unit_zero (S := S1x1024) hz, View.ld_unit_zero (S := S1x128) hz]

/-- The block that the first point leaves. -/
theorem dzb_first (c : Dev nD) (t : Fin cfg0.N) (h0 : t.val % 8 = 0) : (outsAt0 m c t.val t.isLt).2.1 = dzb m c t := by
  rw [outsAt0_A m c t h0]
  dsimp only
  unfold out0_A_7
  rw [View.read_writes_eq_canon _ _ _ (fun y => cover0_A_7 c (grid0.coords t) _ _ _ _ _ _ _ _ _ _ _ _ _ _ _ _ _ _ _ _ _ _ _ _ _ _ _ _ _ y)]
  unfold kernelRun0_A
  dsimp only
  sl_unfold_words
  rw [View.canon_unit_zero (S := S512x1024) hz]
  simp only [View.readAt_eq_ld, (hs0_0 t).read_unread, (hs0_1 t).read_unread, (hs0_2 t).read_unread, (hs0_3 t).read_unread, (hs0_4 t).read_unread, (hs0_5 t).read_unread,
    View.ld_unit_zero (S := S512x2816) hz, View.ld_unit_zero (S := S2816x1024) hz, View.ld_unit_zero (S := S512x1024) hz, View.ld_unit_zero (S := S1x1024) hz, View.ld_unit_zero (S := S1x128) hz]

/-- The first point stores zeros and adds its own rows to them. -/
theorem loss_first (c : Dev nD) (t : Fin cfg0.N) (h0 : t.val % 8 = 0) : (outsAt0 m c t.val t.isLt).2.2.1 = lossStep m c t k0_pay3 := by
  rw [outsAt0_A m c t h0]
  dsimp only
  unfold out0_A_8
  rw [View.read_writes_eq_canon _ _ _ (fun y => cover0_A_8 c (grid0.coords t) _ _ _ _ _ _ _ _ _ _ _ _ _ _ _ _ _ _ _ _ _ _ _ _ _ _ _ _ _ y)]
  unfold kernelRun0_A
  dsimp only
  sl_unfold_words
  rw [View.canon_cons_unit_zero (S := S1x128) hz, View.readCov_unit_zero (S := S1x128) _ hz]
  simp only [View.readAt_eq_ld, (hs0_0 t).read_unread, (hs0_1 t).read_unread, (hs0_2 t).read_unread, (hs0_3 t).read_unread, (hs0_4 t).read_unread, (hs0_5 t).read_unread,
    View.ld_unit_zero (S := S512x2816) hz, View.ld_unit_zero (S := S2816x1024) hz, View.ld_unit_zero (S := S512x1024) hz, View.ld_unit_zero (S := S1x1024) hz, View.ld_unit_zero (S := S1x128) hz]

/-- The first point stores zeros and adds its own rows to them. -/
theorem dg_first (c : Dev nD) (t : Fin cfg0.N) (h0 : t.val % 8 = 0) : (outsAt0 m c t.val t.isLt).2.2.2.1 = dgStep m c t k0_pay4 := by
  rw [outsAt0_A m c t h0]
  dsimp only
  unfold out0_A_9
  rw [View.read_writes_eq_canon _ _ _ (fun y => cover0_A_9 c (grid0.coords t) _ _ _ _ _ _ _ _ _ _ _ _ _ _ _ _ _ _ _ _ _ _ _ _ _ _ _ _ _ y)]
  unfold kernelRun0_A
  dsimp only
  sl_unfold_words
  rw [View.canon_cons_unit_zero (S := S1x1024) hz, View.readCov_unit_zero (S := S1x1024) _ hz]
  simp only [View.readAt_eq_ld, (hs0_0 t).read_unread, (hs0_1 t).read_unread, (hs0_2 t).read_unread, (hs0_3 t).read_unread, (hs0_4 t).read_unread, (hs0_5 t).read_unread,
    View.ld_unit_zero (S := S512x2816) hz, View.ld_unit_zero (S := S2816x1024) hz, View.ld_unit_zero (S := S512x1024) hz, View.ld_unit_zero (S := S1x1024) hz, View.ld_unit_zero (S := S1x128) hz]

/-- The first point stores zeros and adds its own rows to them. -/
theorem db_first (c : Dev nD) (t : Fin cfg0.N) (h0 : t.val % 8 = 0) : (outsAt0 m c t.val t.isLt).2.2.2.2 = dbStep m c t k0_pay5 := by
  rw [outsAt0_A m c t h0]
  dsimp only
  unfold out0_A_10
  rw [View.read_writes_eq_canon _ _ _ (fun y => cover0_A_10 c (grid0.coords t) _ _ _ _ _ _ _ _ _ _ _ _ _ _ _ _ _ _ _ _ _ _ _ _ _ _ _ _ _ y)]
  unfold kernelRun0_A
  dsimp only
  sl_unfold_words
  rw [View.canon_cons_unit_zero (S := S1x1024) hz, View.readCov_unit_zero (S := S1x1024) _ hz]
  simp only [View.readAt_eq_ld, (hs0_0 t).read_unread, (hs0_1 t).read_unread, (hs0_2 t).read_unread, (hs0_3 t).read_unread, (hs0_4 t).read_unread, (hs0_5 t).read_unread,
    View.ld_unit_zero (S := S512x2816) hz, View.ld_unit_zero (S := S2816x1024) hz, View.ld_unit_zero (S := S512x1024) hz, View.ld_unit_zero (S := S1x1024) hz, View.ld_unit_zero (S := S1x128) hz]

/-- The block that a later point leaves. -/
theorem dz_later (c : Dev nD) (t : Fin cfg0.N) (h0 : ¬t.val % 8 = 0) :
    (outsAt0 m c t.val t.isLt).1 = dz m c t := by
  rw [outsAt0_B m c t h0]
  dsimp only
  generalize (outsAt0 m c (t.val - 1) (Nat.lt_of_le_of_lt (Nat.sub_le _ _) t.isLt)).2.2.1 = xl
  generalize (outsAt0 m c (t.val - 1) (Nat.lt_of_le_of_lt (Nat.sub_le _ _) t.isLt)).2.2.2.1 = xg
  generalize (outsAt0 m c (t.val - 1) (Nat.lt_of_le_of_lt (Nat.sub_le _ _) t.isLt)).2.2.2.2 = xb
  unfold out0_B_6
  rw [View.read_writes_eq_canon _ _ _ (fun y => cover0_B_6 c (grid0.coords t) _ _ _ _ _ _ _ _ _ _ _ _ _ _ _ _ _ _ _ _ _ _ _ _ _ _ _ _ _ _ _ _ y)]
  unfold kernelRun0_B
  dsimp only
  sl_unfold_words
  rw [View.canon_unit_zero (S := S512x1024) hz]
  simp only [View.readAt_eq_ld, (hs0_0 t).read_unread, (hs0_1 t).read_unread, (hs0_2 t).read_unread, (hs0_3 t).read_unread, (hs0_4 t).read_unread, (hs0_5 t).read_unread,
    (hs0_8 t).read_unread, (hs0_9 t).read_unread, (hs0_10 t).read_unread,
    View.ld_unit_zero (S := S512x2816) hz, View.ld_unit_zero (S := S2816x1024) hz, View.ld_unit_zero (S := S512x1024) hz, View.ld_unit_zero (S := S1x1024) hz, View.ld_unit_zero (S := S1x128) hz]

/-- The block that a later point leaves. -/
theorem dzb_later (c : Dev nD) (t : Fin cfg0.N) (h0 : ¬t.val % 8 = 0) :
    (outsAt0 m c t.val t.isLt).2.1 = dzb m c t := by
  rw [outsAt0_B m c t h0]
  dsimp only
  generalize (outsAt0 m c (t.val - 1) (Nat.lt_of_le_of_lt (Nat.sub_le _ _) t.isLt)).2.2.1 = xl
  generalize (outsAt0 m c (t.val - 1) (Nat.lt_of_le_of_lt (Nat.sub_le _ _) t.isLt)).2.2.2.1 = xg
  generalize (outsAt0 m c (t.val - 1) (Nat.lt_of_le_of_lt (Nat.sub_le _ _) t.isLt)).2.2.2.2 = xb
  unfold out0_B_7
  rw [View.read_writes_eq_canon _ _ _ (fun y => cover0_B_7 c (grid0.coords t) _ _ _ _ _ _ _ _ _ _ _ _ _ _ _ _ _ _ _ _ _ _ _ _ _ _ _ _ _ _ _ _ y)]
  unfold kernelRun0_B
  dsimp only
  sl_unfold_words
  rw [View.canon_unit_zero (S := S512x1024) hz]
  simp only [View.readAt_eq_ld, (hs0_0 t).read_unread, (hs0_1 t).read_unread, (hs0_2 t).read_unread, (hs0_3 t).read_unread, (hs0_4 t).read_unread, (hs0_5 t).read_unread,
    (hs0_8 t).read_unread, (hs0_9 t).read_unread, (hs0_10 t).read_unread,
    View.ld_unit_zero (S := S512x2816) hz, View.ld_unit_zero (S := S2816x1024) hz, View.ld_unit_zero (S := S512x1024) hz, View.ld_unit_zero (S := S1x1024) hz, View.ld_unit_zero (S := S1x128) hz]

/-- A later point adds its own rows to what the point before left. -/
theorem loss_later (c : Dev nD) (t : Fin cfg0.N) (h0 : ¬t.val % 8 = 0) :
    (outsAt0 m c t.val t.isLt).2.2.1 = lossStep m c t (outsAt0 m c (t.val - 1) (Nat.lt_of_le_of_lt (Nat.sub_le _ _) t.isLt)).2.2.1 := by
  rw [outsAt0_B m c t h0]
  dsimp only
  generalize (outsAt0 m c (t.val - 1) (Nat.lt_of_le_of_lt (Nat.sub_le _ _) t.isLt)).2.2.1 = xl
  generalize (outsAt0 m c (t.val - 1) (Nat.lt_of_le_of_lt (Nat.sub_le _ _) t.isLt)).2.2.2.1 = xg
  generalize (outsAt0 m c (t.val - 1) (Nat.lt_of_le_of_lt (Nat.sub_le _ _) t.isLt)).2.2.2.2 = xb
  unfold out0_B_8
  rw [View.read_writes_eq_canon _ _ _ (fun y => cover0_B_8 c (grid0.coords t) _ _ _ _ _ _ _ _ _ _ _ _ _ _ _ _ _ _ _ _ _ _ _ _ _ _ _ _ _ _ _ _ y)]
  unfold kernelRun0_B
  dsimp only
  sl_unfold_words
  rw [View.canon_unit_zero (S := S1x128) hz]
  simp only [View.readAt_eq_ld, (hs0_0 t).read_unread, (hs0_1 t).read_unread, (hs0_2 t).read_unread, (hs0_3 t).read_unread, (hs0_4 t).read_unread, (hs0_5 t).read_unread,
    (hs0_8 t).read_unread, (hs0_9 t).read_unread, (hs0_10 t).read_unread,
    View.ld_unit_zero (S := S512x2816) hz, View.ld_unit_zero (S := S2816x1024) hz, View.ld_unit_zero (S := S512x1024) hz, View.ld_unit_zero (S := S1x1024) hz, View.ld_unit_zero (S := S1x128) hz]

/-- A later point adds its own rows to what the point before left. -/
theorem dg_later (c : Dev nD) (t : Fin cfg0.N) (h0 : ¬t.val % 8 = 0) :
    (outsAt0 m c t.val t.isLt).2.2.2.1 = dgStep m c t (outsAt0 m c (t.val - 1) (Nat.lt_of_le_of_lt (Nat.sub_le _ _) t.isLt)).2.2.2.1 := by
  rw [outsAt0_B m c t h0]
  dsimp only
  generalize (outsAt0 m c (t.val - 1) (Nat.lt_of_le_of_lt (Nat.sub_le _ _) t.isLt)).2.2.1 = xl
  generalize (outsAt0 m c (t.val - 1) (Nat.lt_of_le_of_lt (Nat.sub_le _ _) t.isLt)).2.2.2.1 = xg
  generalize (outsAt0 m c (t.val - 1) (Nat.lt_of_le_of_lt (Nat.sub_le _ _) t.isLt)).2.2.2.2 = xb
  unfold out0_B_9
  rw [View.read_writes_eq_canon _ _ _ (fun y => cover0_B_9 c (grid0.coords t) _ _ _ _ _ _ _ _ _ _ _ _ _ _ _ _ _ _ _ _ _ _ _ _ _ _ _ _ _ _ _ _ y)]
  unfold kernelRun0_B
  dsimp only
  sl_unfold_words
  rw [View.canon_unit_zero (S := S1x1024) hz]
  simp only [View.readAt_eq_ld, (hs0_0 t).read_unread, (hs0_1 t).read_unread, (hs0_2 t).read_unread, (hs0_3 t).read_unread, (hs0_4 t).read_unread, (hs0_5 t).read_unread,
    (hs0_8 t).read_unread, (hs0_9 t).read_unread, (hs0_10 t).read_unread,
    View.ld_unit_zero (S := S512x2816) hz, View.ld_unit_zero (S := S2816x1024) hz, View.ld_unit_zero (S := S512x1024) hz, View.ld_unit_zero (S := S1x1024) hz, View.ld_unit_zero (S := S1x128) hz]

/-- A later point adds its own rows to what the point before left. -/
theorem db_later (c : Dev nD) (t : Fin cfg0.N) (h0 : ¬t.val % 8 = 0) :
    (outsAt0 m c t.val t.isLt).2.2.2.2 = dbStep m c t (outsAt0 m c (t.val - 1) (Nat.lt_of_le_of_lt (Nat.sub_le _ _) t.isLt)).2.2.2.2 := by
  rw [outsAt0_B m c t h0]
  dsimp only
  generalize (outsAt0 m c (t.val - 1) (Nat.lt_of_le_of_lt (Nat.sub_le _ _) t.isLt)).2.2.1 = xl
  generalize (outsAt0 m c (t.val - 1) (Nat.lt_of_le_of_lt (Nat.sub_le _ _) t.isLt)).2.2.2.1 = xg
  generalize (outsAt0 m c (t.val - 1) (Nat.lt_of_le_of_lt (Nat.sub_le _ _) t.isLt)).2.2.2.2 = xb
  unfold out0_B_10
  rw [View.read_writes_eq_canon _ _ _ (fun y => cover0_B_10 c (grid0.coords t) _ _ _ _ _ _ _ _ _ _ _ _ _ _ _ _ _ _ _ _ _ _ _ _ _ _ _ _ _ _ _ _ y)]
  unfold kernelRun0_B
  dsimp only
  sl_unfold_words
  rw [View.canon_unit_zero (S := S1x1024) hz]
  simp only [View.readAt_eq_ld, (hs0_0 t).read_unread, (hs0_1 t).read_unread, (hs0_2 t).read_unread, (hs0_3 t).read_unread, (hs0_4 t).read_unread, (hs0_5 t).read_unread,
    (hs0_8 t).read_unread, (hs0_9 t).read_unread, (hs0_10 t).read_unread,
    View.ld_unit_zero (S := S512x2816) hz, View.ld_unit_zero (S := S2816x1024) hz, View.ld_unit_zero (S := S512x1024) hz, View.ld_unit_zero (S := S1x1024) hz, View.ld_unit_zero (S := S1x128) hz]

end Cert.LossIdeal.Steps

end
-- ==== Proof.LossArrays.lean ====
/- The last layer norm's call: its result arrays after the run, read at an index. -/
module

public import proofs.«01_k».proof.Proof.LossSteps
public import Idealize.ShloMosaic.Lib.Pointwise
public import Idealize.ShloMosaic.Lib.Claim

@[expose] public section

set_option maxRecDepth 16384

noncomputable section

namespace Cert.LossIdeal.Arrays

open Cert.LossIdeal Cert.LossIdeal.Gen Cert.LossIdeal.Value Cert.LossIdeal.Steps Idealize.ShloMosaic Idealize.ShloMosaic.TcCoe Idealize.SL.Sem

variable {F : FTy → Type} [FloatOps F]
variable (m : (ℓ : Loc nD τ sig) → Buf (Elt F) ℓ)

/-- The windows that move with the grid point stand at the point's turn of rows. -/
theorem turn (t : Fin cfg0.N) : win0_0.index t 0 = t.val ∧ win0_0.index t 1 = 0 ∧ win0_2.index t 0 = t.val ∧ win0_2.index t 1 = 0 ∧ win0_3.index t 0 = t.val ∧ win0_3.index t 1 = 0 ∧ win0_6.index t 0 = t.val ∧ win0_6.index t 1 = 0 ∧ win0_7.index t 0 = t.val ∧ win0_7.index t 1 = 0 :=
  (by decide +kernel : ∀ t : Fin grid0.N, win0_0.index t 0 = t.val ∧ win0_0.index t 1 = 0 ∧ win0_2.index t 0 = t.val ∧ win0_2.index t 1 = 0 ∧ win0_3.index t 0 = t.val ∧ win0_3.index t 1 = 0 ∧ win0_6.index t 0 = t.val ∧ win0_6.index t 1 = 0 ∧ win0_7.index t 0 = t.val ∧ win0_7.index t 1 = 0) t

/-- The other windows stand still. -/
theorem still (t : Fin cfg0.N) : (∀ a, win0_1.index t a = 0) ∧ (∀ a, win0_4.index t a = 0) ∧ (∀ a, win0_5.index t a = 0) ∧ (∀ a, win0_8.index t a = 0) ∧ (∀ a, win0_9.index t a = 0) ∧ (∀ a, win0_10.index t a = 0) :=
  (by decide +kernel : ∀ t : Fin grid0.N, (∀ a, win0_1.index t a = 0) ∧ (∀ a, win0_4.index t a = 0) ∧ (∀ a, win0_5.index t a = 0) ∧ (∀ a, win0_8.index t a = 0) ∧ (∀ a, win0_9.index t a = 0) ∧ (∀ a, win0_10.index t a = 0)) t

theorem dz_any (c : Dev nD) (t : Fin cfg0.N) : (outsAt0 m c t.val t.isLt).1 = dz m c t := by
  by_cases h0 : t.val % 8 = 0
  · exact dz_first m c t h0
  · exact dz_later m c t h0

theorem dzb_any (c : Dev nD) (t : Fin cfg0.N) : (outsAt0 m c t.val t.isLt).2.1 = dzb m c t := by
  by_cases h0 : t.val % 8 = 0
  · exact dzb_first m c t h0
  · exact dzb_later m c t h0

/-- `dz` after the run, at a row of point `t`'s turn. -/
theorem arr_dz (c : Dev nD) (t : Fin cfg0.N) (r : Fin 512) (j : Fin 1024) (i : S4096x1024.Idx)
    (h0 : (i 0).val = t.val * 512 + r.val) (h1 : (i 1).val = j.val) :
    (dats m 0 c).arrAt 6 cfg0.N i = dz m c t (ix2 r j) := by
  have h := congrFun (blocks6 m c t (flush0_6 t)) (ix2 r j)
  rw [flushed6, View.read_apply, dz_any] at h
  refine Eq.trans (congrArg _ (funext fun a => Fin.ext ?_)) h
  have ht := turn t
  match a with
  | ⟨0, _⟩ => show (i 0).val = win0_6.index t 0 * 512 + 1 * r.val; omega
  | ⟨1, _⟩ => show (i 1).val = win0_6.index t 1 * 1024 + 1 * j.val; omega

/-- `dz` in bf16 after the run, at a row of point `t`'s turn. -/
theorem arr_dzb (c : Dev nD) (t : Fin cfg0.N) (r : Fin 512) (j : Fin 1024) (i : S4096x1024.Idx)
    (h0 : (i 0).val = t.val * 512 + r.val) (h1 : (i 1).val = j.val) :
    (dats m 0 c).arrAt 7 cfg0.N i = dzb m c t (ix2 r j) := by
  have h := congrFun (blocks7 m c t (flush0_7 t)) (ix2 r j)
  rw [flushed7, View.read_apply, dzb_any] at h
  refine Eq.trans (congrArg _ (funext fun a => Fin.ext ?_)) h
  have ht := turn t
  match a with
  | ⟨0, _⟩ => show (i 0).val = win0_7.index t 0 * 512 + 1 * r.val; omega
  | ⟨1, _⟩ => show (i 1).val = win0_7.index t 1 * 1024 + 1 * j.val; omega

/-- The last grid point. -/
def last : Fin cfg0.N := ⟨7, by rw [show cfg0.N = 8 from N_0]; decide⟩

theorem disjoint8 : ∀ t t' : Fin cfg0.N, (cfg0.win 8).flush t = true → (cfg0.win 8).flush t' = true → t ≠ t' →
    Disjoint ((cfg0.win 8).blk t).view.set ((cfg0.win 8).blk t').view.set := fun t t' h h' hne => by
  have h1 := (flush0_8 t).mp h
  have h2 := (flush0_8 t').mp h'
  have hN : cfg0.N = 8 := N_0
  have := t.isLt
  have := t'.isLt
  exact absurd (Fin.ext (by omega)) hne

theorem disjoint9 : ∀ t t' : Fin cfg0.N, (cfg0.win 9).flush t = true → (cfg0.win 9).flush t' = true → t ≠ t' →
    Disjoint ((cfg0.win 9).blk t).view.set ((cfg0.win 9).blk t').view.set := fun t t' h h' hne => by
  have h1 := (flush0_9 t).mp h
  have h2 := (flush0_9 t').mp h'
  have hN : cfg0.N = 8 := N_0
  have := t.isLt
  have := t'.isLt
  exact absurd (Fin.ext (by omega)) hne

theorem disjoint10 : ∀ t t' : Fin cfg0.N, (cfg0.win 10).flush t = true → (cfg0.win 10).flush t' = true → t ≠ t' →
    Disjoint ((cfg0.win 10).blk t).view.set ((cfg0.win 10).blk t').view.set := fun t t' h h' hne => by
  have h1 := (flush0_10 t).mp h
  have h2 := (flush0_10 t').mp h'
  have hN : cfg0.N = 8 := N_0
  have := t.isLt
  have := t'.isLt
  exact absurd (Fin.ext (by omega)) hne

/-- The loss after the run is what the last point leaves. -/
theorem arr_loss (c : Dev nD) (i : S1x128.Idx) :
    (dats m 0 c).arrAt 8 cfg0.N i = (outsAt0 m c last.val last.isLt).2.2.1 i := by
  have h := congrFun ((dats m 0 c).read_blk_arrAt_eq_flushed 8 Arrays.disjoint8 cfg0.N last last.isLt ((flush0_8 last).mpr rfl)) i
  rw [flushed8, View.read_apply] at h
  refine Eq.trans (congrArg _ (funext fun a => Fin.ext ?_)) h
  have ht := (still last).2.2.2.1
  match a with
  | ⟨0, _⟩ => show (i 0).val = win0_8.index last 0 * 1 + 1 * (i 0).val; rw [ht]; omega
  | ⟨1, _⟩ => show (i 1).val = win0_8.index last 1 * 128 + 1 * (i 1).val; rw [ht]; omega

/-- The scale's gradient after the run is what the last point leaves. -/
theorem arr_dg (c : Dev nD) (i : S1x1024.Idx) :
    (dats m 0 c).arrAt 9 cfg0.N i = (outsAt0 m c last.val last.isLt).2.2.2.1 i := by
  have h := congrFun ((dats m 0 c).read_blk_arrAt_eq_flushed 9 Arrays.disjoint9 cfg0.N last last.isLt ((flush0_9 last).mpr rfl)) i
  rw [flushed9, View.read_apply] at h
  refine Eq.trans (congrArg _ (funext fun a => Fin.ext ?_)) h
  have ht := (still last).2.2.2.2.1
  match a with
  | ⟨0, _⟩ => show (i 0).val = win0_9.index last 0 * 1 + 1 * (i 0).val; rw [ht]; omega
  | ⟨1, _⟩ => show (i 1).val = win0_9.index last 1 * 1024 + 1 * (i 1).val; rw [ht]; omega

/-- The shift's gradient after the run is what the last point leaves. -/
theorem arr_db (c : Dev nD) (i : S1x1024.Idx) :
    (dats m 0 c).arrAt 10 cfg0.N i = (outsAt0 m c last.val last.isLt).2.2.2.2 i := by
  have h := congrFun ((dats m 0 c).read_blk_arrAt_eq_flushed 10 Arrays.disjoint10 cfg0.N last last.isLt ((flush0_10 last).mpr rfl)) i
  rw [flushed10, View.read_apply] at h
  refine Eq.trans (congrArg _ (funext fun a => Fin.ext ?_)) h
  have ht := (still last).2.2.2.2.2
  match a with
  | ⟨0, _⟩ => show (i 0).val = win0_10.index last 0 * 1 + 1 * (i 0).val; rw [ht]; omega
  | ⟨1, _⟩ => show (i 1).val = win0_10.index last 1 * 1024 + 1 * (i 1).val; rw [ht]; omega

end Cert.LossIdeal.Arrays

end
-- ==== Proof.LossInputs.lean ====
/- The last layer norm's call: the six blocks that a grid point reads, as entries of the arguments. -/
module

public import proofs.«01_k».proof.Proof.LossArrays

@[expose] public section

set_option maxRecDepth 16384

noncomputable section

namespace Cert.LossIdeal.Inputs

open Cert.LossIdeal Cert.LossIdeal.Gen Cert.LossIdeal.Steps Cert.LossIdeal.Arrays Idealize.ShloMosaic Idealize.ShloMosaic.TcCoe Idealize.SL.Sem

variable (m : (ℓ : Loc nD τ sig) → Buf (Elt Ideal) ℓ)

/-- The row of the whole array that is row `r` of point `t`'s turn. -/
def row (t : Fin cfg0.N) (r : Fin 512) : Fin 4096 :=
  ⟨t.val * 512 + r.val, by have := t.isLt; have hN : cfg0.N = 8 := N_0; have := r.isLt; omega⟩

/-- The host lines: the weights cast, the norm's scale and shift as one row each. -/
theorem V_w (c : Dev nD) : V m c main_v0 = (truncf .bf16 (m ((c : Thread nD τ).loc main_arg2) : FVec Ideal S2816x1024 .f32) bitsLt_bf16_f32 : FVec Ideal S2816x1024 .bf16) := by
  show StableHlo.after hostOps0 _ (Proc.devRef .tc main_v0) = _
  after_results

theorem V_g (c : Dev nD) : V m c main_v1 = shapeCast _ (m ((c : Thread nD τ).loc main_arg3)) shapeCasts_S1024_S1x1024 := by
  show StableHlo.after hostOps0 _ (Proc.devRef .tc main_v1) = _
  after_results
  rfl

theorem V_b (c : Dev nD) : V m c main_v2 = shapeCast _ (m ((c : Thread nD τ).loc main_arg4)) shapeCasts_S1024_S1x1024 := by
  show StableHlo.after hostOps0 _ (Proc.devRef .tc main_v2) = _
  after_results
  rfl

/-- The block of the gated activation. -/
theorem in_act (c : Dev nD) (t : Fin cfg0.N) (r : Fin 512) (j : Fin 2816) :
    iblk m c 0 t (ix2 r j) = m ((c : Thread nD τ).loc main_arg1) (ix2 (row t r) j) := by
  have ht := turn t
  have hi : ((cfg0.win 0).blk t).view.emb (ix2 r j) = (ix2 (row t r) j : S4096x2816.Idx) := funext fun a => Fin.ext (by
    match a with
    | ⟨0, _⟩ => show win0_0.index t 0 * 512 + 1 * r.val = t.val * 512 + r.val; omega
    | ⟨1, _⟩ => show win0_0.index t 1 * 2816 + 1 * j.val = j.val; omega)
  unfold iblk
  rw [View.read_apply]
  show V m c main_arg1 _ = _
  rw [hi, V_main_arg1]

/-- The block of the first layer norm's output. -/
theorem in_x1 (c : Dev nD) (t : Fin cfg0.N) (r : Fin 512) (j : Fin 1024) :
    iblk m c 2 t (ix2 r j) = m ((c : Thread nD τ).loc main_arg0) (ix2 (row t r) j) := by
  have ht := turn t
  have hi : ((cfg0.win 2).blk t).view.emb (ix2 r j) = (ix2 (row t r) j : S4096x1024.Idx) := funext fun a => Fin.ext (by
    match a with
    | ⟨0, _⟩ => show win0_2.index t 0 * 512 + 1 * r.val = t.val * 512 + r.val; omega
    | ⟨1, _⟩ => show win0_2.index t 1 * 1024 + 1 * j.val = j.val; omega)
  unfold iblk
  rw [View.read_apply]
  show V m c main_arg0 _ = _
  rw [hi, V_main_arg0]

/-- The block of the target. -/
theorem in_target (c : Dev nD) (t : Fin cfg0.N) (r : Fin 512) (j : Fin 1024) :
    iblk m c 3 t (ix2 r j) = m ((c : Thread nD τ).loc main_arg5) (ix2 (row t r) j) := by
  have ht := turn t
  have hi : ((cfg0.win 3).blk t).view.emb (ix2 r j) = (ix2 (row t r) j : S4096x1024.Idx) := funext fun a => Fin.ext (by
    match a with
    | ⟨0, _⟩ => show win0_3.index t 0 * 512 + 1 * r.val = t.val * 512 + r.val; omega
    | ⟨1, _⟩ => show win0_3.index t 1 * 1024 + 1 * j.val = j.val; omega)
  unfold iblk
  rw [View.read_apply]
  show V m c main_arg5 _ = _
  rw [hi, V_main_arg5]

/-- The block of the down projection's weights: all of them. -/
theorem in_w (c : Dev nD) (t : Fin cfg0.N) (k : Fin 2816) (j : Fin 1024) :
    iblk m c 1 t (ix2 k j) = m ((c : Thread nD τ).loc main_arg2) (ix2 k j) := by
  have ht := (still t).1
  have hi : ((cfg0.win 1).blk t).view.emb (ix2 k j) = (ix2 k j : S2816x1024.Idx) := funext fun a => Fin.ext (by
    match a with
    | ⟨0, _⟩ => show win0_1.index t 0 * 2816 + 1 * k.val = k.val; rw [ht]; omega
    | ⟨1, _⟩ => show win0_1.index t 1 * 1024 + 1 * j.val = j.val; rw [ht]; omega)
  unfold iblk
  rw [View.read_apply]
  show V m c main_v0 _ = _
  rw [hi, V_w]
  pointwise

/-- The block of the scale. -/
theorem in_g (c : Dev nD) (t : Fin cfg0.N) (j : Fin 1024) :
    iblk m c 4 t (ix2 0 j) = m ((c : Thread nD τ).loc main_arg3) (ix1 j) := by
  have ht := (still t).2.1
  have hi : ((cfg0.win 4).blk t).view.emb (ix2 0 j) = (ix2 0 j : S1x1024.Idx) := funext fun a => Fin.ext (by
    match a with
    | ⟨0, _⟩ => show win0_4.index t 0 * 1 + 1 * 0 = 0; rw [ht]
    | ⟨1, _⟩ => show win0_4.index t 1 * 1024 + 1 * j.val = j.val; rw [ht]; omega)
  unfold iblk
  rw [View.read_apply]
  show V m c main_v1 _ = _
  rw [hi, V_g]
  pointwise

/-- The block of the shift. -/
theorem in_b (c : Dev nD) (t : Fin cfg0.N) (j : Fin 1024) :
    iblk m c 5 t (ix2 0 j) = m ((c : Thread nD τ).loc main_arg4) (ix1 j) := by
  have ht := (still t).2.2.1
  have hi : ((cfg0.win 5).blk t).view.emb (ix2 0 j) = (ix2 0 j : S1x1024.Idx) := funext fun a => Fin.ext (by
    match a with
    | ⟨0, _⟩ => show win0_5.index t 0 * 1 + 1 * 0 = 0; rw [ht]
    | ⟨1, _⟩ => show win0_5.index t 1 * 1024 + 1 * j.val = j.val; rw [ht]; omega)
  unfold iblk
  rw [View.read_apply]
  show V m c main_v2 _ = _
  rw [hi, V_b]
  pointwise

end Cert.LossIdeal.Inputs

end
-- ==== Proof.LossBlock.lean ====
/- The last layer norm's call over real numbers: what one block's payloads compute, when the six blocks that they read
   hold real numbers. -/
module

public import proofs.«01_k».proof.Proof.LnReal
public import proofs.«01_k».proof.Proof.Gen.LossIdeal.Skeleton

@[expose] public section

set_option maxRecDepth 16384

noncomputable section

namespace Cert.LossIdeal.Block

open Cert.LossIdeal Cert.LossIdeal.Gen Cert.LnReal Idealize.ShloMosaic

/-- The residual's weight, the rational that its float word is. -/
def alpha : ℝ := 9975792 / 2 ^ 23

theorem calpha : Ideal.ofBits .f32 0x3F9837F0#32 = (alpha : EReal) := by
  unfold alpha; simp [Ideal.ofBits, Ideal.ieee, -EReal.coe_mul]; norm_num

theorem chalf : Ideal.ofBits .f32 0x3F000000#32 = ((1 / 2 : ℝ) : EReal) := by
  simp [Ideal.ofBits, Ideal.ieee, -EReal.coe_mul]; norm_num

theorem cover1024 : Ideal.ofBits .f32 0x3A800000#32 = ((1 / 1024 : ℝ) : EReal) := by
  simp [Ideal.ofBits, Ideal.ieee, -EReal.coe_mul]; norm_num

variable (x : Vec Ideal S512x1024 .f32) (a : Vec Ideal S512x2816 .bf16) (w : Vec Ideal S2816x1024 .bf16) (g b : Vec Ideal S1x1024 .f32)
variable (tg : Vec Ideal S512x1024 .f32)
variable (X T : Fin 512 → Fin 1024 → ℝ) (A : Fin 512 → Fin 2816 → ℝ) (W : Fin 2816 → Fin 1024 → ℝ) (G B : Fin 1024 → ℝ)
variable (hx : ∀ r j, x (ix2 r j) = (X r j : EReal)) (ha : ∀ r k, a (ix2 r k) = (A r k : EReal)) (hw : ∀ k j, w (ix2 k j) = (W k j : EReal))
variable (hg : ∀ j, g (ix2 0 j) = (G j : EReal)) (hb : ∀ j, b (ix2 0 j) = (B j : EReal)) (ht : ∀ r j, tg (ix2 r j) = (T r j : EReal))

/-- The layer norm's input: the residual's share and the product with the weights. -/
def zR (r : Fin 512) (j : Fin 1024) : ℝ := alpha * X r j + ∑ k, A r k * W k j

include hx ha hw in
theorem pay7_real (r : Fin 512) (j : Fin 1024) : k0_pay7 x a w (ix2 r j) = (cen (zR X A W r) j : EReal) := by
  pointwise [k0_pay7]
  simp only [hx, ha, hw, calpha, c1024, ← EReal.coe_mul, coe_sum, ← EReal.coe_add, div1024, ← EReal.coe_sub, zero_add]
  rfl

include hx ha hw in
theorem pay8_real (r : Fin 512) : k0_pay8 x a w (ix2 r 0) = (rstd (zR X A W r) : EReal) := by
  pointwise [k0_pay8]
  simp only [pay7_real x a w X A W hx ha hw, c1024, ceps, ← EReal.coe_mul, coe_sum, div1024, ← EReal.coe_add]
  exact rsqrt_pos (var_pos _)

include hx ha hw in
theorem pay9_real (r : Fin 512) (j : Fin 1024) : k0_pay9 x a w (ix2 r j) = (hat (zR X A W r) j : EReal) := by
  pointwise [k0_pay9]
  simp only [pay7_real x a w X A W hx ha hw, pay8_real x a w X A W hx ha hw, ← EReal.coe_mul]
  rfl

include hx ha hw hg hb ht in
theorem pay10_real (r : Fin 512) (j : Fin 1024) :
    k0_pay10 g x a w b tg (ix2 r j) = ((hat (zR X A W r) j * G j + B j - T r j : ℝ) : EReal) := by
  pointwise [k0_pay10, k0_pay6]
  simp only [pay9_real x a w X A W hx ha hw, hg, hb, ht, ← EReal.coe_mul, ← EReal.coe_add, ← EReal.coe_sub]

variable (e : FVec Ideal S512x1024 .f32) (E : Fin 512 → Fin 1024 → ℝ) (he : ∀ r j, e (ix2 r j) = (E r j : EReal))

include he in
theorem pay11_real (acc : Vec Ideal S1x128 .f32) (R : Fin 128 → ℝ) (hR : ∀ j, acc (ix2 0 j) = (R j : EReal)) (j : Fin 128) :
    k0_pay11 e acc (ix2 0 j) = ((R j + 1 / 2 * ∑ r, (∑ k, E r k * E r k) / 1024 : ℝ) : EReal) := by
  pointwise [k0_pay11]
  simp only [he, hR, chalf, c1024, ← EReal.coe_mul, coe_sum, div1024, ← EReal.coe_add, Fin.sum_univ_one]

include he in
theorem pay12_real (r : Fin 512) (j : Fin 1024) : k0_pay12 e (ix2 r j) = ((E r j * (1 / 1024) : ℝ) : EReal) := by
  pointwise [k0_pay12]
  simp only [he, cover1024, ← EReal.coe_mul]

variable (h : FVec Ideal S512x1024 .f32) (s : FVec Ideal S512x1 .f32) (Z : Fin 512 → Fin 1024 → ℝ)
variable (hh : ∀ r j, h (ix2 r j) = (hat (Z r) j : EReal)) (hs : ∀ r, s (ix2 r 0) = (rstd (Z r) : EReal))

include he hh in
theorem pay13_real (acc : Vec Ideal S1x1024 .f32) (R : Fin 1024 → ℝ) (hR : ∀ j, acc (ix2 0 j) = (R j : EReal)) (j : Fin 1024) :
    k0_pay13 h e acc (ix2 0 j) = ((R j + ∑ r, E r j * (1 / 1024) * hat (Z r) j : ℝ) : EReal) := by
  pointwise [k0_pay13]
  simp only [pay12_real e E he, hh, hR, ← EReal.coe_mul, coe_sum, ← EReal.coe_add]

include he in
theorem pay14_real (acc : Vec Ideal S1x1024 .f32) (R : Fin 1024 → ℝ) (hR : ∀ j, acc (ix2 0 j) = (R j : EReal)) (j : Fin 1024) :
    k0_pay14 e acc (ix2 0 j) = ((R j + ∑ r, E r j * (1 / 1024) : ℝ) : EReal) := by
  pointwise [k0_pay14]
  simp only [pay12_real e E he, hR, ← EReal.coe_mul, coe_sum, ← EReal.coe_add]

include he hg in
theorem pay15_real (r : Fin 512) (j : Fin 1024) : k0_pay15 (k0_pay6 g) e (ix2 r j) = ((E r j * (1 / 1024) * G j : ℝ) : EReal) := by
  pointwise [k0_pay15, k0_pay6]
  simp only [pay12_real e E he, hg, ← EReal.coe_mul]

include he hg hh hs in
/-- The gradient of the layer norm's input. -/
theorem pay1_real (r : Fin 512) (j : Fin 1024) :
    k0_pay1 s h (k0_pay15 (k0_pay6 g) e) (k0_pay16 (k0_pay6 g) e) (ix2 r j) = (grad (Z r) (fun k => E r k * (1 / 1024) * G k) j : EReal) := by
  pointwise [k0_pay1, k0_pay16]
  simp only [pay15_real g G hg e E he, hh, hs, c1024, ← EReal.coe_mul, coe_sum, div1024, ← EReal.coe_sub]
  rfl

include he hg hh hs in
theorem pay2_real (r : Fin 512) (j : Fin 1024) :
    k0_pay2 s h (k0_pay15 (k0_pay6 g) e) (k0_pay16 (k0_pay6 g) e) (ix2 r j) = (grad (Z r) (fun k => E r k * (1 / 1024) * G k) j : EReal) := by
  pointwise [k0_pay2]
  exact pay1_real g G hg e E he h s Z hh hs r j

end Cert.LossIdeal.Block

end
-- ==== Proof.LossRef.lean ====
/- The last layer norm's reference over real numbers: the loss and the stages of the derivative that jax takes, each at an
   index, when the arguments hold real numbers. -/
module

public import proofs.«01_k».proof.Proof.LossBlock
public import proofs.«01_k».proof.Proof.Gen.LossRefIdeal.Read

@[expose] public section

set_option maxRecDepth 16384

noncomputable section

namespace Cert.LossRefIdeal.Ref

open Cert.LossRefIdeal Cert.LossRefIdeal.Gen Cert.LossRefIdeal.Read Cert.LnReal Idealize.ShloMosaic
open Cert.LossIdeal.Block (alpha calpha chalf)

/-- The six arguments' entries are the real numbers `X`, `A`, `W`, `G`, `B`, `T`. -/
structure Args (x0 : FVec Ideal S4096x1024 .f32) (x1 : FVec Ideal S4096x2816 .bf16) (x2 : FVec Ideal S2816x1024 .f32)
    (x3 x4 : FVec Ideal S1024 .f32) (x5 : FVec Ideal S4096x1024 .f32) (X T : Fin 4096 → Fin 1024 → ℝ) (A : Fin 4096 → Fin 2816 → ℝ)
    (W : Fin 2816 → Fin 1024 → ℝ) (G B : Fin 1024 → ℝ) : Prop where
  h0 : ∀ i j, x0 (ix2 i j) = (X i j : EReal)
  h1 : ∀ i k, x1 (ix2 i k) = (A i k : EReal)
  h2 : ∀ k j, x2 (ix2 k j) = (W k j : EReal)
  h3 : ∀ j, x3 (ix1 j) = (G j : EReal)
  h4 : ∀ j, x4 (ix1 j) = (B j : EReal)
  h5 : ∀ i j, x5 (ix2 i j) = (T i j : EReal)

variable {x0 : FVec Ideal S4096x1024 .f32} {x1 : FVec Ideal S4096x2816 .bf16} {x2 : FVec Ideal S2816x1024 .f32}
variable {x3 x4 : FVec Ideal S1024 .f32} {x5 : FVec Ideal S4096x1024 .f32} {X T : Fin 4096 → Fin 1024 → ℝ} {A : Fin 4096 → Fin 2816 → ℝ}
variable {W : Fin 2816 → Fin 1024 → ℝ} {G B : Fin 1024 → ℝ} (a : Args x0 x1 x2 x3 x4 x5 X T A W G B)

/-- The layer norm's input. -/
def zR (X : Fin 4096 → Fin 1024 → ℝ) (A : Fin 4096 → Fin 2816 → ℝ) (W : Fin 2816 → Fin 1024 → ℝ) (i : Fin 4096) (j : Fin 1024) : ℝ :=
  alpha * X i j + ∑ k, A i k * W k j

/-- Its output less the target. -/
def errR (X T : Fin 4096 → Fin 1024 → ℝ) (A : Fin 4096 → Fin 2816 → ℝ) (W : Fin 2816 → Fin 1024 → ℝ) (G B : Fin 1024 → ℝ) (i : Fin 4096)
    (j : Fin 1024) : ℝ := hat (zR X A W i) j * G j + B j - T i j

/-- The loss's cotangent at the layer norm's output. -/
def dyR (X T : Fin 4096 → Fin 1024 → ℝ) (A : Fin 4096 → Fin 2816 → ℝ) (W : Fin 2816 → Fin 1024 → ℝ) (G B : Fin 1024 → ℝ) (i : Fin 4096)
    (j : Fin 1024) : ℝ := errR X T A W G B i j * (1 / 1024)

theorem cmhalf : Ideal.ofBits .f32 0xBF000000#32 = ((-(1 / 2) : ℝ) : EReal) := by
  simp [Ideal.ofBits, Ideal.ieee, -EReal.coe_mul]; norm_num

theorem ctwo : Ideal.ofBits .f32 0x40000000#32 = ((2 : ℝ) : EReal) := by
  simp [Ideal.ofBits, Ideal.ieee, -EReal.coe_mul]; norm_num

theorem cone : Ideal.ofBits .f32 0x3F800000#32 = ((1 : ℝ) : EReal) := by
  simp [Ideal.ofBits, Ideal.ieee, -EReal.coe_mul]; norm_num

include a

theorem z_real (i : Fin 4096) (j : Fin 1024) : val_main_v4 (F := Ideal) x0 x1 x2 (ix2 i j) = (zR X A W i j : EReal) := by
  pointwise [val_main_v4, val_main_v3, val_main_v2, val_main_v1, val_main_v0, val_main_cst]
  simp only [a.h0, a.h1, a.h2, calpha, ← EReal.coe_mul, coe_sum, ← EReal.coe_add, zero_add]
  rfl

theorem mean_real (i : Fin 4096) : val_main_v8 (F := Ideal) x0 x1 x2 (ix2 i 0) = (mean (zR X A W i) : EReal) := by
  pointwise [val_main_v8, val_main_v7, val_main_v6, val_main_v5, val_main_cst_0, val_main_cst_1]
  simp only [z_real a, c1024, coe_sum, div1024, zero_add]
  rfl

theorem cen_real (i : Fin 4096) (j : Fin 1024) : val_main_v10 (F := Ideal) x0 x1 x2 (ix2 i j) = (cen (zR X A W i) j : EReal) := by
  pointwise [val_main_v10, val_main_v9]
  simp only [z_real a, mean_real a, ← EReal.coe_sub]
  rfl

theorem cen'_real (i : Fin 4096) (j : Fin 1024) : val_main_v19 (F := Ideal) x0 x1 x2 (ix2 i j) = (cen (zR X A W i) j : EReal) := by
  pointwise [val_main_v19, val_main_v18]
  simp only [z_real a, mean_real a, ← EReal.coe_sub]
  rfl

theorem var_real (i : Fin 4096) : val_main_v21 (F := Ideal) x0 x1 x2 (ix2 i 0) = (var (zR X A W i) : EReal) := by
  pointwise [val_main_v21, val_main_v20, val_main_v17, val_main_v16, val_main_v15, val_main_v14, val_main_v11, val_main_cst_3, val_main_cst_4,
    val_main_cst_5]
  simp only [cen_real a, c1024, ceps, ← EReal.coe_mul, coe_sum, div1024, ← EReal.coe_add, zero_add]
  rfl

theorem rstd_real (i : Fin 4096) : val_main_v22 (F := Ideal) x0 x1 x2 (ix2 i 0) = (rstd (zR X A W i) : EReal) := by
  pointwise [val_main_v22]
  rw [var_real a]
  exact rsqrt_pos (var_pos _)

theorem slope_real (i : Fin 4096) :
    val_main_v25 (F := Ideal) x0 x1 x2 (ix2 i 0) = ((-(1 / 2) * (rstd (zR X A W i) / var (zR X A W i)) : ℝ) : EReal) := by
  pointwise [val_main_v25, val_main_v24, val_main_v23, val_main_cst_6]
  rw [var_real a, rstd_real a, cmhalf, Ideal.div_coe (var_pos _).ne', ← EReal.coe_mul, ← EReal.coe_mul]
  congr 2; ring

theorem hat_real (i : Fin 4096) (j : Fin 1024) : val_main_v27 (F := Ideal) x0 x1 x2 (ix2 i j) = (hat (zR X A W i) j : EReal) := by
  pointwise [val_main_v27, val_main_v26]
  simp only [cen'_real a, rstd_real a, ← EReal.coe_mul]
  rfl

theorem err_real (i : Fin 4096) (j : Fin 1024) : val_main_v34 (F := Ideal) x0 x1 x2 x3 x4 x5 (ix2 i j) = (errR X T A W G B i j : EReal) := by
  pointwise [val_main_v34, val_main_v33, val_main_v32, val_main_v31, val_main_v30, val_main_v29, val_main_v28]
  simp only [hat_real a, a.h3, a.h4, a.h5, ← EReal.coe_mul, ← EReal.coe_add, ← EReal.coe_sub]
  rfl

/-- The loss, in each of its 128 copies. -/
theorem loss_real (j : Fin 128) : val_main_v83 (F := Ideal) x0 x1 x2 x3 x4 x5 (ix2 0 j)
    = ((1 / 2 * ∑ i, (∑ k, errR X T A W G B i k * errR X T A W G B i k) / 1024 : ℝ) : EReal) := by
  pointwise [val_main_v83, val_main_v42, val_main_v41, val_main_v40, val_main_v39, val_main_v38, val_main_v35, val_main_cst_8, val_main_cst_9,
    val_main_cst_10, val_main_cst_11]
  simp only [err_real a, chalf, c1024, ← EReal.coe_mul, coe_sum, div1024, zero_add]

theorem dy_real (i : Fin 4096) (j : Fin 1024) : val_main_v48 (F := Ideal) x0 x1 x2 x3 x4 x5 (ix2 i j) = (dyR X T A W G B i j : EReal) := by
  pointwise [val_main_v48, val_main_v47, val_main_v46, val_main_v45, val_main_v44, val_main_v43, val_main_v37, val_main_v36, val_main_cst_7,
    val_main_cst_12, val_main_cst_13, val_main_cst_14]
  simp only [err_real a, chalf, cone, ctwo, c1024, ← EReal.coe_mul, div1024]
  unfold dyR
  congr 1; ring

/-- The shift's gradient. -/
theorem db_real (j : Fin 1024) : val_main_v85 (F := Ideal) x0 x1 x2 x3 x4 x5 (ix2 0 j) = ((∑ i, dyR X T A W G B i j : ℝ) : EReal) := by
  pointwise [val_main_v85, val_main_v51, val_main_v50, val_main_v49, val_main_cst_15, val_main_cst_16]
  simp only [dy_real a, coe_sum, zero_add, Fin.sum_univ_one]

/-- The scale's gradient. -/
theorem dg_real (j : Fin 1024) : val_main_v84 (F := Ideal) x0 x1 x2 x3 x4 x5 (ix2 0 j)
    = ((∑ i, hat (zR X A W i) j * dyR X T A W G B i j : ℝ) : EReal) := by
  pointwise [val_main_v84, val_main_v57, val_main_v54, val_main_v53, val_main_v52, val_main_cst_17, val_main_cst_18]
  simp only [hat_real a, dy_real a, ← EReal.coe_mul, coe_sum, zero_add, Fin.sum_univ_one]

theorem p_real (i : Fin 4096) (j : Fin 1024) :
    val_main_v56 (F := Ideal) x0 x1 x2 x3 x4 x5 (ix2 i j) = ((dyR X T A W G B i j * G j : ℝ) : EReal) := by
  pointwise [val_main_v56, val_main_v55, val_main_v28]
  simp only [dy_real a, a.h3, ← EReal.coe_mul]

theorem pr_real (i : Fin 4096) (j : Fin 1024) :
    val_main_v62 (F := Ideal) x0 x1 x2 x3 x4 x5 (ix2 i j) = ((dyR X T A W G B i j * G j * rstd (zR X A W i) : ℝ) : EReal) := by
  pointwise [val_main_v62, val_main_v61]
  simp only [p_real a, rstd_real a, ← EReal.coe_mul]

theorem dvar_real (i : Fin 4096) (j : Fin 1024) : val_main_v71 (F := Ideal) x0 x1 x2 x3 x4 x5 (ix2 i j)
    = ((dvar (zR X A W i) (fun k => dyR X T A W G B i k * G k) * (2 * cen (zR X A W i) j) : ℝ) : EReal) := by
  pointwise [val_main_v71, val_main_v70, val_main_v69, val_main_v68, val_main_v67, val_main_v63, val_main_v60, val_main_v59, val_main_v58,
    val_main_v13, val_main_v12, val_main_cst_2, val_main_cst_19, val_main_cst_21, val_main_cst_22]
  simp only [p_real a, cen_real a, cen'_real a, slope_real a, ctwo, c1024, ← EReal.coe_mul, coe_sum, div1024, zero_add, Fin.sum_univ_one]
  rfl

/-- The gradient of the layer norm's input. -/
theorem dz_real (i : Fin 4096) (j : Fin 1024) : val_main_v81 (F := Ideal) x0 x1 x2 x3 x4 x5 (ix2 i j)
    = (vjp (zR X A W i) (fun k => dyR X T A W G B i k * G k) j : EReal) := by
  pointwise [val_main_v81, val_main_v80, val_main_v79, val_main_v78, val_main_v77, val_main_v76, val_main_v75, val_main_v74, val_main_v73,
    val_main_v72, val_main_v66, val_main_v65, val_main_v64, val_main_cst_20, val_main_cst_23, val_main_cst_24, val_main_cst_25]
  simp only [pr_real a, dvar_real a, c1024, ← EReal.coe_neg, coe_sum, ← EReal.coe_add, div1024, zero_add, Fin.sum_univ_one]
  rfl

theorem dzb_real (i : Fin 4096) (j : Fin 1024) : val_main_v82 (F := Ideal) x0 x1 x2 x3 x4 x5 (ix2 i j)
    = (vjp (zR X A W i) (fun k => dyR X T A W G B i k * G k) j : EReal) := by
  pointwise [val_main_v82]
  exact dz_real a i j

end Cert.LossRefIdeal.Ref

end
-- ==== Proof.LossValue.lean ====
/- The last layer norm's call and its reference, both as the same real numbers. -/
module

public import proofs.«01_k».proof.Proof.Finite
public import proofs.«01_k».proof.Proof.LossInputs
public import proofs.«01_k».proof.Proof.LossRef

@[expose] public section

set_option maxRecDepth 16384

noncomputable section

namespace Cert.LossIdeal.Result

open Cert.LossIdeal Cert.LossIdeal.Gen Cert.LossIdeal.Steps Cert.LossIdeal.Arrays Cert.LossIdeal.Inputs Cert.LnReal Idealize.ShloMosaic Idealize.ShloMosaic.TcCoe Idealize.SL.Sem
open Cert.LossRefIdeal.Ref (Args zR errR dyR)

variable (m : (ℓ : Loc nD τ sig) → Buf (Elt Ideal) ℓ) (c : Dev nD)

/-- The arguments hold the real numbers `X`, `A`, `W`, `G`, `B`, `T`. -/
abbrev Holds (X T : Fin 4096 → Fin 1024 → ℝ) (A : Fin 4096 → Fin 2816 → ℝ) (W : Fin 2816 → Fin 1024 → ℝ) (G B : Fin 1024 → ℝ) : Prop :=
  Args (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) X T A W G B

variable {m c} {X T : Fin 4096 → Fin 1024 → ℝ} {A : Fin 4096 → Fin 2816 → ℝ} {W : Fin 2816 → Fin 1024 → ℝ} {G B : Fin 1024 → ℝ}
variable (a : Holds m c X T A W G B)

include a

theorem hat_block (t : Fin cfg0.N) (r : Fin 512) (j : Fin 1024) : hatB m c t (ix2 r j) = (hat (zR X A W (row t r)) j : EReal) :=
  Block.pay9_real _ _ _ (fun r j => X (row t r) j) (fun r k => A (row t r) k) W (fun r j => by rw [in_x1, a.h0]) (fun r k => by rw [in_act, a.h1])
    (fun k j => by rw [in_w, a.h2]) r j

theorem rstd_block (t : Fin cfg0.N) (r : Fin 512) : rstdB m c t (ix2 r 0) = (rstd (zR X A W (row t r)) : EReal) :=
  Block.pay8_real _ _ _ (fun r j => X (row t r) j) (fun r k => A (row t r) k) W (fun r j => by rw [in_x1, a.h0]) (fun r k => by rw [in_act, a.h1])
    (fun k j => by rw [in_w, a.h2]) r

theorem g_block (t : Fin cfg0.N) (j : Fin 1024) : iblk m c 4 t (ix2 0 j) = (G j : EReal) := by rw [in_g, a.h3]

theorem err_block (t : Fin cfg0.N) (r : Fin 512) (j : Fin 1024) : err m c t (ix2 r j) = (errR X T A W G B (row t r) j : EReal) :=
  Block.pay10_real _ _ _ _ _ _ (fun r j => X (row t r) j) (fun r j => T (row t r) j) (fun r k => A (row t r) k) W G B
    (fun r j => by rw [in_x1, a.h0]) (fun r k => by rw [in_act, a.h1]) (fun k j => by rw [in_w, a.h2]) (g_block a t) (fun j => by rw [in_b, a.h4])
    (fun r j => by rw [in_target, a.h5]) r j

theorem dz_block (t : Fin cfg0.N) (r : Fin 512) (j : Fin 1024) :
    dz m c t (ix2 r j) = (vjp (zR X A W (row t r)) (fun k => dyR X T A W G B (row t r) k * G k) j : EReal) := by
  rw [vjp_eq_grad]
  exact Block.pay1_real _ G (g_block a t) _ (fun r j => errR X T A W G B (row t r) j) (err_block a t) _ _ (fun r => zR X A W (row t r)) (hat_block a t)
    (rstd_block a t) r j

theorem dzb_block (t : Fin cfg0.N) (r : Fin 512) (j : Fin 1024) :
    dzb m c t (ix2 r j) = (vjp (zR X A W (row t r)) (fun k => dyR X T A W G B (row t r) k * G k) j : EReal) := by
  rw [vjp_eq_grad]
  exact Block.pay2_real _ G (g_block a t) _ (fun r j => errR X T A W G B (row t r) j) (err_block a t) _ _ (fun r => zR X A W (row t r)) (hat_block a t)
    (rstd_block a t) r j

theorem loss_block (t : Fin cfg0.N) (acc : Vec Ideal S1x128 .f32) (j : Fin 128) (s : Fin 128 → ℝ) (hs : ∀ j, acc (ix2 0 j) = (s j : EReal)) :
    lossStep m c t acc (ix2 0 j)
      = ((s j + 1 / 2 * ∑ r, (∑ k, errR X T A W G B (row t r) k * errR X T A W G B (row t r) k) / 1024 : ℝ) : EReal) :=
  Block.pay11_real _ (fun r j => errR X T A W G B (row t r) j) (err_block a t) acc s hs j

theorem dg_block (t : Fin cfg0.N) (acc : Vec Ideal S1x1024 .f32) (j : Fin 1024) (s : Fin 1024 → ℝ) (hs : ∀ j, acc (ix2 0 j) = (s j : EReal)) :
    dgStep m c t acc (ix2 0 j) = ((s j + ∑ r, dyR X T A W G B (row t r) j * hat (zR X A W (row t r)) j : ℝ) : EReal) :=
  Block.pay13_real _ (fun r j => errR X T A W G B (row t r) j) (err_block a t) _ (fun r => zR X A W (row t r)) (hat_block a t) acc s hs j

theorem db_block (t : Fin cfg0.N) (acc : Vec Ideal S1x1024 .f32) (j : Fin 1024) (s : Fin 1024 → ℝ) (hs : ∀ j, acc (ix2 0 j) = (s j : EReal)) :
    dbStep m c t acc (ix2 0 j) = ((s j + ∑ r, dyR X T A W G B (row t r) j : ℝ) : EReal) :=
  Block.pay14_real _ (fun r j => errR X T A W G B (row t r) j) (err_block a t) acc s hs j

/-- The loss after the last point. -/
theorem loss_total (j : Fin 128) : (outsAt0 m c last.val last.isLt).2.2.1 (ix2 0 j)
    = ((1 / 2 * ∑ i, (∑ k, errR X T A W G B i k * errR X T A W G B i k) / 1024 : ℝ) : EReal) := by
  have hN : cfg0.N = 8 := N_0
  have key := Cert.Finite.running (fun n h j => (outsAt0 m c n h).2.2.1 (ix2 0 j))
    (fun t _ => 1 / 2 * ∑ r, (∑ k, errR X T A W G B (row t r) k * errR X T A W G B (row t r) k) / 1024)
    (fun h j => by
      refine (congrFun (loss_first m c ⟨0, h⟩ rfl) (ix2 0 j)).trans ((loss_block a ⟨0, h⟩ _ j (fun _ => 0) fun j => ?_).trans ?_)
      · pointwise [k0_pay3]
        rfl
      · rw [zero_add])
    (fun n h s hs j => by
      have h8 : ¬(⟨n + 1, h⟩ : Fin cfg0.N).val % 8 = 0 := by show ¬(n + 1) % 8 = 0; omega
      exact (congrFun (loss_later m c ⟨n + 1, h⟩ h8) (ix2 0 j)).trans (loss_block a ⟨n + 1, h⟩ _ j s hs))
    last.val last.isLt (by show 7 + 1 = cfg0.N; omega) j
  rw [key, ← Finset.mul_sum, sum_turns (by rw [hN]) (fun i => (∑ k, errR X T A W G B i k * errR X T A W G B i k) / 1024) _ fun t r hl => rfl]

/-- The scale's gradient after the last point. -/
theorem dg_total (j : Fin 1024) : (outsAt0 m c last.val last.isLt).2.2.2.1 (ix2 0 j)
    = ((∑ i, hat (zR X A W i) j * dyR X T A W G B i j : ℝ) : EReal) := by
  have hN : cfg0.N = 8 := N_0
  have key := Cert.Finite.running (fun n h j => (outsAt0 m c n h).2.2.2.1 (ix2 0 j))
    (fun t j => ∑ r, dyR X T A W G B (row t r) j * hat (zR X A W (row t r)) j)
    (fun h j => by
      refine (congrFun (dg_first m c ⟨0, h⟩ rfl) (ix2 0 j)).trans ((dg_block a ⟨0, h⟩ _ j (fun _ => 0) fun j => ?_).trans ?_)
      · pointwise [k0_pay4]
        rfl
      · rw [zero_add])
    (fun n h s hs j => by
      have h8 : ¬(⟨n + 1, h⟩ : Fin cfg0.N).val % 8 = 0 := by show ¬(n + 1) % 8 = 0; omega
      exact (congrFun (dg_later m c ⟨n + 1, h⟩ h8) (ix2 0 j)).trans (dg_block a ⟨n + 1, h⟩ _ j s hs))
    last.val last.isLt (by show 7 + 1 = cfg0.N; omega) j
  rw [key, sum_turns (by rw [hN]) (fun i => dyR X T A W G B i j * hat (zR X A W i) j) _ fun t r hl => rfl]
  simp only [mul_comm]

/-- The shift's gradient after the last point. -/
theorem db_total (j : Fin 1024) : (outsAt0 m c last.val last.isLt).2.2.2.2 (ix2 0 j) = ((∑ i, dyR X T A W G B i j : ℝ) : EReal) := by
  have hN : cfg0.N = 8 := N_0
  have key := Cert.Finite.running (fun n h j => (outsAt0 m c n h).2.2.2.2 (ix2 0 j)) (fun t j => ∑ r, dyR X T A W G B (row t r) j)
    (fun h j => by
      refine (congrFun (db_first m c ⟨0, h⟩ rfl) (ix2 0 j)).trans ((db_block a ⟨0, h⟩ _ j (fun _ => 0) fun j => ?_).trans ?_)
      · pointwise [k0_pay5]
        rfl
      · rw [zero_add])
    (fun n h s hs j => by
      have h8 : ¬(⟨n + 1, h⟩ : Fin cfg0.N).val % 8 = 0 := by show ¬(n + 1) % 8 = 0; omega
      exact (congrFun (db_later m c ⟨n + 1, h⟩ h8) (ix2 0 j)).trans (db_block a ⟨n + 1, h⟩ _ j s hs))
    last.val last.isLt (by show 7 + 1 = cfg0.N; omega) j
  rw [key, sum_turns (by rw [hN]) (fun i => dyR X T A W G B i j) _ fun t r hl => rfl]

omit a in
/-- The turn and the row in it of a row of the whole array. -/
theorem row_of (i : Fin 4096) : ∃ (t : Fin cfg0.N) (r : Fin 512), row t r = i := by
  have hN : cfg0.N = 8 := N_0
  have := i.isLt
  exact ⟨⟨i.val / 512, by omega⟩, ⟨i.val % 512, by omega⟩, Fin.ext (by show i.val / 512 * 512 + i.val % 512 = i.val; omega)⟩

open Cert.LossRefIdeal.Read

/-- The five arrays that the call returns are the reference's. -/
theorem dz_eq : (dats m 0 c).arrAt 6 cfg0.N = val_main_v81 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  refine funext fun (i : S4096x1024.Idx) => ?_
  obtain ⟨k, j, rfl⟩ : ∃ (k : Fin 4096) (j : Fin 1024), i = ix2 k j := ⟨i 0, i 1, by ext k; fin_cases k <;> rfl⟩
  obtain ⟨t, r, rfl⟩ := row_of k
  rw [arr_dz m c t r j _ rfl rfl, dz_block a]
  exact (Cert.LossRefIdeal.Ref.dz_real a _ _).symm

theorem dzb_eq : (dats m 0 c).arrAt 7 cfg0.N = val_main_v82 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  refine funext fun (i : S4096x1024.Idx) => ?_
  obtain ⟨k, j, rfl⟩ : ∃ (k : Fin 4096) (j : Fin 1024), i = ix2 k j := ⟨i 0, i 1, by ext k; fin_cases k <;> rfl⟩
  obtain ⟨t, r, rfl⟩ := row_of k
  rw [arr_dzb m c t r j _ rfl rfl, dzb_block a]
  exact (Cert.LossRefIdeal.Ref.dzb_real a _ _).symm

theorem loss_eq : (dats m 0 c).arrAt 8 cfg0.N = val_main_v83 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  refine funext fun (i : S1x128.Idx) => ?_
  obtain ⟨k, j, rfl⟩ : ∃ (k : Fin 1) (j : Fin 128), i = ix2 k j := ⟨i 0, i 1, by ext k; fin_cases k <;> rfl⟩
  obtain rfl : k = 0 := Subsingleton.elim _ _
  rw [arr_loss, loss_total a]
  exact (Cert.LossRefIdeal.Ref.loss_real a _).symm

theorem dg_eq : (dats m 0 c).arrAt 9 cfg0.N = val_main_v84 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  refine funext fun (i : S1x1024.Idx) => ?_
  obtain ⟨k, j, rfl⟩ : ∃ (k : Fin 1) (j : Fin 1024), i = ix2 k j := ⟨i 0, i 1, by ext k; fin_cases k <;> rfl⟩
  obtain rfl : k = 0 := Subsingleton.elim _ _
  rw [arr_dg, dg_total a]
  exact (Cert.LossRefIdeal.Ref.dg_real a _).symm

theorem db_eq : (dats m 0 c).arrAt 10 cfg0.N = val_main_v85 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  refine funext fun (i : S1x1024.Idx) => ?_
  obtain ⟨k, j, rfl⟩ : ∃ (k : Fin 1) (j : Fin 1024), i = ix2 k j := ⟨i 0, i 1, by ext k; fin_cases k <;> rfl⟩
  obtain rfl : k = 0 := Subsingleton.elim _ _
  rw [arr_db, db_total a]
  exact (Cert.LossRefIdeal.Ref.db_real a _).symm

end Cert.LossIdeal.Result

end
-- ==== Proof.LossClaim.lean ====
/- The claims about the last layer norm's call: the reference's frame, and that the call's five results are the reference's. -/
module

public import proofs.«01_k».proof.Defs
public import proofs.«01_k».proof.Proof.LossValue
public import proofs.«01_k».proof.Proof.Gen.Pre_loss_finite
public import proofs.«01_k».proof.Proof.Gen.LossRefIdeal.Run
public import Idealize.ShloMosaic.Lib.Quiescent

@[expose] public section

set_option maxRecDepth 16384

noncomputable section

namespace Cert.Proof.Loss

open Idealize.ShloMosaic Idealize.SL.Sem

/-- The reference's frame is what its run says of the arguments and the counters. -/
theorem frame_reference : Cert.quiescent_LossRefIdeal := fun m ρ _ =>
  (θ_run Cert.LossRefIdeal.defs _ _).mono (fun r h => ⟨fun c => (h c).2.2.2.2.2, sem_eq_zero_of_no_sems (by decide) r.2⟩)
    (Cert.LossRefIdeal.Value.run m ρ)

/-- The precondition says that every argument's entries are real numbers. -/
theorem args (m : (ℓ : Loc Cert.LossIdeal.nD Cert.LossIdeal.τ Cert.LossIdeal.sig) → Buf (Elt Ideal) ℓ) (h : Cert.Pre_LossIdeal_loss_finite m)
    (c : Dev Cert.LossIdeal.nD) : Cert.LossIdeal.Result.Holds m c
      (fun i j => EReal.toReal (m ((c.tc : Thread Cert.LossIdeal.nD Cert.LossIdeal.τ).loc Cert.LossIdeal.main_arg0) (ix2 i j)))
      (fun i j => EReal.toReal (m ((c.tc : Thread Cert.LossIdeal.nD Cert.LossIdeal.τ).loc Cert.LossIdeal.main_arg5) (ix2 i j)))
      (fun i k => EReal.toReal (m ((c.tc : Thread Cert.LossIdeal.nD Cert.LossIdeal.τ).loc Cert.LossIdeal.main_arg1) (ix2 i k)))
      (fun k j => EReal.toReal (m ((c.tc : Thread Cert.LossIdeal.nD Cert.LossIdeal.τ).loc Cert.LossIdeal.main_arg2) (ix2 k j)))
      (fun j => EReal.toReal (m ((c.tc : Thread Cert.LossIdeal.nD Cert.LossIdeal.τ).loc Cert.LossIdeal.main_arg3) (ix1 j)))
      (fun j => EReal.toReal (m ((c.tc : Thread Cert.LossIdeal.nD Cert.LossIdeal.τ).loc Cert.LossIdeal.main_arg4) (ix1 j))) :=
  ⟨fun i j => Cert.Finite.coe_toReal (congrFun (h c).1 (ix2 i j)),
    fun i k => Cert.Finite.coe_toReal (congrFun (h c).2.1 (ix2 i k)),
    fun k j => Cert.Finite.coe_toReal (congrFun (h c).2.2.1 (ix2 k j)),
    fun j => Cert.Finite.coe_toReal (congrFun (h c).2.2.2.1 (ix1 j)),
    fun j => Cert.Finite.coe_toReal (congrFun (h c).2.2.2.2.1 (ix1 j)),
    fun i j => Cert.Finite.coe_toReal (congrFun (h c).2.2.2.2.2 (ix2 i j))⟩

theorem algebraic : Cert.algebraic_LossIdeal_LossRefIdeal_pre_loss_finite := fun m ρ m' ρ' hpre hargs =>
  ⟨fun c => (Cert.LossIdeal.Gen.dats m 0 c).arrAt 6 Cert.LossIdeal.cfg0.N,
    fun c => (Cert.LossIdeal.Gen.dats m 0 c).arrAt 7 Cert.LossIdeal.cfg0.N,
    fun c => (Cert.LossIdeal.Gen.dats m 0 c).arrAt 8 Cert.LossIdeal.cfg0.N,
    fun c => (Cert.LossIdeal.Gen.dats m 0 c).arrAt 9 Cert.LossIdeal.cfg0.N,
    fun c => (Cert.LossIdeal.Gen.dats m 0 c).arrAt 10 Cert.LossIdeal.cfg0.N,
    Cert.LossIdeal.Value.run_blocks m ρ,
    (θ_run Cert.LossRefIdeal.defs _ _).mono (fun r h c => by
      obtain ⟨a0, a1, a2, a3, a4, a5⟩ := hargs c
      have A := args m hpre c
      obtain ⟨r0, r1, r2, r3, r4, k⟩ := h c
      refine ⟨r0.trans ?_, r1.trans ?_, r2.trans ?_, r3.trans ?_, r4.trans ?_, k⟩
      · rw [Cert.LossRefIdeal.Read.val_main_v81_eq, a0, a1, a2, a3, a4, a5]; exact (Cert.LossIdeal.Result.dz_eq A).symm
      · rw [Cert.LossRefIdeal.Read.val_main_v82_eq, a0, a1, a2, a3, a4, a5]; exact (Cert.LossIdeal.Result.dzb_eq A).symm
      · rw [Cert.LossRefIdeal.Read.val_main_v83_eq, a0, a1, a2, a3, a4, a5]; exact (Cert.LossIdeal.Result.loss_eq A).symm
      · rw [Cert.LossRefIdeal.Read.val_main_v84_eq, a0, a1, a2, a3, a4, a5]; exact (Cert.LossIdeal.Result.dg_eq A).symm
      · rw [Cert.LossRefIdeal.Read.val_main_v85_eq, a0, a1, a2, a3, a4, a5]; exact (Cert.LossIdeal.Result.db_eq A).symm)
    (Cert.LossRefIdeal.Value.run m' ρ')⟩

end Cert.Proof.Loss

end
-- ==== Proof.ConvSteps.lean ====
/- What one grid point of the convolution and gate's call leaves in its three output blocks, written as the body's own
   payloads of the six blocks that the point reads, and the running sums over a column's four points. -/
module

public import proofs.«01_k».proof.Proof.Gen.ConvIdeal.Value
public import Idealize.ShloMosaic.Lib.Tactic
public import Idealize.ShloMosaic.Lib.Pointwise
public import Idealize.ShloMosaic.Lib.Pipeline.ValueKit.Tiles
public import Idealize.ShloMosaic.Lib.Pipeline.ReadBack

@[expose] public section

set_option maxRecDepth 16384

noncomputable section

namespace Cert.ConvIdeal.Steps

open Cert.ConvIdeal Cert.ConvIdeal.Gen Idealize.ShloMosaic Idealize.ShloMosaic.TcCoe Idealize.SL.Sem

variable {F : FTy → Type} [FloatOps F] [Named F]
variable (m : (ℓ : Loc nD τ sig) → Buf (Elt F) ℓ)

theorem hz : (![0, 0] : Fin 2 → Nat) = fun _ => 0 := funext fun a => by fin_cases a <;> rfl

/-- The three rows of the block of the filter's gradient. -/
abbrev row0 : Rect S3x512 := Rect.unit ![0, 0] S1x512.size inb_S3x512_S1x512_0_0
abbrev row1 : Rect S3x512 := Rect.unit ![1, 0] S1x512.size inb_S3x512_S1x512_1_0
abbrev row2 : Rect S3x512 := Rect.unit ![2, 0] S1x512.size inb_S3x512_S1x512_2_0

/-- A row loaded after the fill of the whole block, and after the rows before it were stored, is the fill's. -/
theorem load0 (v : View sig .tc .vmem S3x512 .f32) (Z : Vec F S3x512 .f32) :
    v.readCov [⟨Rect.unit ![0, 0] ![3, 512] inb_S3x512_S3x512_0_0, Z⟩] (Rect.unit ![0, 0] ![1, 512] inb_S3x512_S1x512_0_0).toLoadRect = View.ld Z row0 :=
  View.readCov_fill (Val := Elt F) v inb_S3x512_S3x512_0_0 Z [] row0 fun a => congrFun hz a

theorem load1 (v : View sig .tc .vmem S3x512 .f32) (x0 : Vec F S1x512 .f32) (Z : Vec F S3x512 .f32) :
    v.readCov [⟨Rect.unit ![0, 0] ![1, 512] inb_S3x512_S1x512_0_0, x0⟩, ⟨Rect.unit ![0, 0] ![3, 512] inb_S3x512_S3x512_0_0, Z⟩]
      (Rect.unit ![1, 0] ![1, 512] inb_S3x512_S1x512_1_0).toLoadRect = View.ld Z row1 :=
  (View.readCov_skip (Val := Elt F) v row0 x0 _ row1.toLoadRect rfl).trans
    (View.readCov_fill (Val := Elt F) v inb_S3x512_S3x512_0_0 Z [] row1 fun a => congrFun hz a)

theorem load2 (v : View sig .tc .vmem S3x512 .f32) (x1 x0 : Vec F S1x512 .f32) (Z : Vec F S3x512 .f32) :
    v.readCov [⟨Rect.unit ![1, 0] ![1, 512] inb_S3x512_S1x512_1_0, x1⟩, ⟨Rect.unit ![0, 0] ![1, 512] inb_S3x512_S1x512_0_0, x0⟩,
      ⟨Rect.unit ![0, 0] ![3, 512] inb_S3x512_S3x512_0_0, Z⟩] (Rect.unit ![2, 0] ![1, 512] inb_S3x512_S1x512_2_0).toLoadRect = View.ld Z row2 :=
  ((View.readCov_skip (Val := Elt F) v row1 x1 _ row2.toLoadRect rfl).trans (View.readCov_skip (Val := Elt F) v row0 x0 _ row2.toLoadRect rfl)).trans
    (View.readCov_fill (Val := Elt F) v inb_S3x512_S3x512_0_0 Z [] row2 fun a => congrFun hz a)

/-- The gate's cotangent rows, the activation, and the parts of its derivative at point `t`. -/
abbrev aB (c : Dev nD) (t : Fin cfg0.N) : FVec F S1040x256 .f32 := k0_pay7 (iblk m c 1 t) (iblk m c 2 t)
abbrev dB (c : Dev nD) (t : Fin cfg0.N) : FVec F S1040x256 .f32 := k0_pay9 (grid0.coords t) (iblk m c 3 t) (iblk m c 4 t)
abbrev hB (c : Dev nD) (t : Fin cfg0.N) : FVec F S1040x256 .f32 := k0_pay11 (iblk m c 1 t) (iblk m c 2 t)
abbrev gB (c : Dev nD) (t : Fin cfg0.N) : FVec F S1040x256 .f32 := k0_pay12 (iblk m c 1 t) (iblk m c 2 t)
abbrev sB (c : Dev nD) (t : Fin cfg0.N) : FVec F S1040x256 .f32 := k0_pay13 (iblk m c 1 t) (iblk m c 2 t)

/-- What point `t` leaves in the block of the input's gradient. -/
abbrev du (c : Dev nD) (t : Fin cfg0.N) : FVec F S1024x512 .bf16 :=
  k0_pay18 (aB m c t) (dB m c t) (hB m c t) (gB m c t) (sB m c t) (View.ld (iblk m c 5 t) row2) (View.ld (iblk m c 5 t) row1) (View.ld (iblk m c 5 t) row0)

/-- The three rows of the filter's gradient and the offset's gradient after point `t`, from what was there before. -/
abbrev dw0 (c : Dev nD) (t : Fin cfg0.N) (acc : Vec F S1x512 .f32) : FVec F S1x512 .f32 :=
  k0_pay20 (aB m c t) (dB m c t) (hB m c t) (gB m c t) (sB m c t) (iblk m c 0 t) acc
abbrev dw1 (c : Dev nD) (t : Fin cfg0.N) (acc : Vec F S1x512 .f32) : FVec F S1x512 .f32 :=
  k0_pay1 (k0_pay21 acc) (k0_pay22 (aB m c t) (dB m c t) (hB m c t) (gB m c t) (sB m c t) (iblk m c 0 t))
abbrev dw2 (c : Dev nD) (t : Fin cfg0.N) (acc : Vec F S1x512 .f32) : FVec F S1x512 .f32 :=
  k0_pay2 (k0_pay15 (aB m c t) (dB m c t) (hB m c t) (gB m c t) (sB m c t)) (k0_pay19 (iblk m c 0 t)) acc
abbrev db (c : Dev nD) (t : Fin cfg0.N) (acc : Vec F S1x512 .f32) : FVec F S1x512 .f32 :=
  k0_pay3 (k0_pay15 (aB m c t) (dB m c t) (hB m c t) (gB m c t) (sB m c t)) acc

/-- A column's first point: the input's gradient. -/
theorem du_first (c : Dev nD) (t : Fin cfg0.N) (h0 : t.val % 4 = 0) : (outsAt0 m c t.val t.isLt).1 = du m c t := by
  rw [outsAt0_A m c t h0]
  dsimp only
  unfold out0_A_6
  rw [View.read_writes_eq_canon _ _ _ (fun y => cover0_A_6 c (grid0.coords t) _ _ _ _ _ _ _ _ _ _ _ _ _ _ _ _ _ _ _ _ _ _ _ _ _ y)]
  unfold kernelRun0_A
  dsimp only
  sl_unfold_words
  rw [View.canon_unit_zero (S := S1024x512) hz]
  simp only [View.readAt_eq_ld, (hs0_0 t).read_unread, (hs0_1 t).read_unread, (hs0_2 t).read_unread, (hs0_3 t).read_unread, (hs0_4 t).read_unread, (hs0_5 t).read_unread,
    View.ld_unit_zero (S := S1024x512) hz, View.ld_unit_zero (S := S16x512) hz, View.ld_unit_zero (S := S1024x256) hz, View.ld_unit_zero (S := S16x256) hz, View.ld_unit_zero (S := S1x512) hz]
  rfl

/-- A column's first point: the offset's gradient. -/
theorem db_first (c : Dev nD) (t : Fin cfg0.N) (h0 : t.val % 4 = 0) :
    (outsAt0 m c t.val t.isLt).2.2 = db m c t k0_pay5 := by
  rw [outsAt0_A m c t h0]
  dsimp only
  unfold out0_A_8
  rw [View.read_writes_eq_canon _ _ _ (fun y => cover0_A_8 c (grid0.coords t) _ _ _ _ _ _ _ _ _ _ _ _ _ _ _ _ _ _ _ _ _ _ _ _ _ y)]
  unfold kernelRun0_A
  dsimp only
  sl_unfold_words
  rw [View.canon_cons_unit_zero (S := S1x512) hz, View.readCov_unit_zero (S := S1x512) _ hz]
  simp only [View.readAt_eq_ld, (hs0_0 t).read_unread, (hs0_1 t).read_unread, (hs0_2 t).read_unread, (hs0_3 t).read_unread, (hs0_4 t).read_unread, (hs0_5 t).read_unread,
    View.ld_unit_zero (S := S1024x512) hz, View.ld_unit_zero (S := S16x512) hz, View.ld_unit_zero (S := S1024x256) hz, View.ld_unit_zero (S := S16x256) hz, View.ld_unit_zero (S := S1x512) hz]

/-- A column's first point: the filter's gradient, stored row by row. -/
theorem dw_first (c : Dev nD) (t : Fin cfg0.N) (h0 : t.val % 4 = 0) :
    (outsAt0 m c t.val t.isLt).2.1 = View.canon (⟨row2, dw2 m c t (View.ld k0_pay4 row2)⟩ :: ⟨row1, dw1 m c t (View.ld k0_pay4 row1)⟩ ::
      ⟨row0, dw0 m c t (View.ld k0_pay4 row0)⟩ :: [⟨Rect.unit ![0, 0] S3x512.size inb_S3x512_S3x512_0_0, k0_pay4⟩]) := by
  rw [outsAt0_A m c t h0]
  dsimp only
  unfold out0_A_7
  rw [View.read_writes_eq_canon _ _ _ (fun y => cover0_A_7 c (grid0.coords t) _ _ _ _ _ _ _ _ _ _ _ _ _ _ _ _ _ _ _ _ _ _ _ _ _ y)]
  unfold kernelRun0_A
  dsimp only
  sl_unfold_words
  simp only [load0, load1, load2, View.readAt_eq_ld, (hs0_0 t).read_unread, (hs0_1 t).read_unread, (hs0_2 t).read_unread, (hs0_3 t).read_unread, (hs0_4 t).read_unread, (hs0_5 t).read_unread,
    View.ld_unit_zero (S := S1024x512) hz, View.ld_unit_zero (S := S16x512) hz, View.ld_unit_zero (S := S1024x256) hz, View.ld_unit_zero (S := S16x256) hz, View.ld_unit_zero (S := S1x512) hz]

/-- A later point: the input's gradient. -/
theorem du_later (c : Dev nD) (t : Fin cfg0.N) (h0 : ¬t.val % 4 = 0) : (outsAt0 m c t.val t.isLt).1 = du m c t := by
  rw [outsAt0_B m c t h0]
  dsimp only
  generalize (outsAt0 m c (t.val - 1) (Nat.lt_of_le_of_lt (Nat.sub_le _ _) t.isLt)).2.1 = xw
  generalize (outsAt0 m c (t.val - 1) (Nat.lt_of_le_of_lt (Nat.sub_le _ _) t.isLt)).2.2 = xb
  unfold out0_B_6
  rw [View.read_writes_eq_canon _ _ _ (fun y => cover0_B_6 c (grid0.coords t) _ _ _ _ _ _ _ _ _ _ _ _ _ _ _ _ _ _ _ _ _ _ _ _ _ _ _ y)]
  unfold kernelRun0_B
  dsimp only
  sl_unfold_words
  rw [View.canon_unit_zero (S := S1024x512) hz]
  simp only [View.readAt_eq_ld, (hs0_0 t).read_unread, (hs0_1 t).read_unread, (hs0_2 t).read_unread, (hs0_3 t).read_unread, (hs0_4 t).read_unread, (hs0_5 t).read_unread, (hs0_7 t).read_unread, (hs0_8 t).read_unread,
    View.ld_unit_zero (S := S1024x512) hz, View.ld_unit_zero (S := S16x512) hz, View.ld_unit_zero (S := S1024x256) hz, View.ld_unit_zero (S := S16x256) hz, View.ld_unit_zero (S := S1x512) hz]
  rfl

/-- A later point: the offset's gradient. -/
theorem db_later (c : Dev nD) (t : Fin cfg0.N) (h0 : ¬t.val % 4 = 0) :
    (outsAt0 m c t.val t.isLt).2.2 = db m c t (outsAt0 m c (t.val - 1) (Nat.lt_of_le_of_lt (Nat.sub_le _ _) t.isLt)).2.2 := by
  rw [outsAt0_B m c t h0]
  dsimp only
  generalize (outsAt0 m c (t.val - 1) (Nat.lt_of_le_of_lt (Nat.sub_le _ _) t.isLt)).2.1 = xw
  generalize (outsAt0 m c (t.val - 1) (Nat.lt_of_le_of_lt (Nat.sub_le _ _) t.isLt)).2.2 = xb
  unfold out0_B_8
  rw [View.read_writes_eq_canon _ _ _ (fun y => cover0_B_8 c (grid0.coords t) _ _ _ _ _ _ _ _ _ _ _ _ _ _ _ _ _ _ _ _ _ _ _ _ _ _ _ y)]
  unfold kernelRun0_B
  dsimp only
  sl_unfold_words
  rw [View.canon_unit_zero (S := S1x512) hz]
  simp only [View.readAt_eq_ld, (hs0_0 t).read_unread, (hs0_1 t).read_unread, (hs0_2 t).read_unread, (hs0_3 t).read_unread, (hs0_4 t).read_unread, (hs0_5 t).read_unread, (hs0_7 t).read_unread, (hs0_8 t).read_unread,
    View.ld_unit_zero (S := S1024x512) hz, View.ld_unit_zero (S := S16x512) hz, View.ld_unit_zero (S := S1024x256) hz, View.ld_unit_zero (S := S16x256) hz, View.ld_unit_zero (S := S1x512) hz]

/-- A later point: the filter's gradient, stored row by row. -/
theorem dw_later (c : Dev nD) (t : Fin cfg0.N) (h0 : ¬t.val % 4 = 0) :
    (outsAt0 m c t.val t.isLt).2.1 = View.canon (⟨row2, dw2 m c t (View.ld (outsAt0 m c (t.val - 1) (Nat.lt_of_le_of_lt (Nat.sub_le _ _) t.isLt)).2.1 row2)⟩ :: ⟨row1, dw1 m c t (View.ld (outsAt0 m c (t.val - 1) (Nat.lt_of_le_of_lt (Nat.sub_le _ _) t.isLt)).2.1 row1)⟩ ::
      ⟨row0, dw0 m c t (View.ld (outsAt0 m c (t.val - 1) (Nat.lt_of_le_of_lt (Nat.sub_le _ _) t.isLt)).2.1 row0)⟩ :: []) := by
  rw [outsAt0_B m c t h0]
  dsimp only
  generalize (outsAt0 m c (t.val - 1) (Nat.lt_of_le_of_lt (Nat.sub_le _ _) t.isLt)).2.1 = xw
  generalize (outsAt0 m c (t.val - 1) (Nat.lt_of_le_of_lt (Nat.sub_le _ _) t.isLt)).2.2 = xb
  unfold out0_B_7
  rw [View.read_writes_eq_canon _ _ _ (fun y => cover0_B_7 c (grid0.coords t) _ _ _ _ _ _ _ _ _ _ _ _ _ _ _ _ _ _ _ _ _ _ _ _ _ _ _ y)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_7 t).read_unread, (hs0_8 t).read_unread,
    View.ld_unit_zero (S := S1024x512) hz, View.ld_unit_zero (S := S16x512) hz, View.ld_unit_zero (S := S1024x256) hz, View.ld_unit_zero (S := S16x256) hz, View.ld_unit_zero (S := S1x512) hz]

/-- Rows stored one over the other do not meet: each row holds what was stored in it. -/
theorem ld_row2 (x2 x1 x0 : Vec F S1x512 .f32) (L : List (View.Piece (Elt F) S3x512 .f32)) :
    View.ld (View.canon (⟨row2, x2⟩ :: ⟨row1, x1⟩ :: ⟨row0, x0⟩ :: L)) row2 = x2 :=
  funext fun j => View.canon_cons_emb row2 x2 _ j

theorem ld_row1 (x2 x1 x0 : Vec F S1x512 .f32) (L : List (View.Piece (Elt F) S3x512 .f32)) :
    View.ld (View.canon (⟨row2, x2⟩ :: ⟨row1, x1⟩ :: ⟨row0, x0⟩ :: L)) row1 = x1 :=
  funext fun j => (View.canon_cons_of_not_mem ⟨row2, x2⟩ _ (LoadRect.idx_not_mem_of_disj (B := row1.toLoadRect) rfl j)).trans
    (View.canon_cons_emb row1 x1 _ j)

theorem ld_row0 (x2 x1 x0 : Vec F S1x512 .f32) (L : List (View.Piece (Elt F) S3x512 .f32)) :
    View.ld (View.canon (⟨row2, x2⟩ :: ⟨row1, x1⟩ :: ⟨row0, x0⟩ :: L)) row0 = x0 :=
  funext fun j => (View.canon_cons_of_not_mem ⟨row2, x2⟩ _ (LoadRect.idx_not_mem_of_disj (B := row0.toLoadRect) rfl j)).trans
    ((View.canon_cons_of_not_mem ⟨row1, x1⟩ _ (LoadRect.idx_not_mem_of_disj (B := row0.toLoadRect) rfl j)).trans
      (View.canon_cons_emb row0 x0 _ j))

/-- A row of a block, read at a column. -/
theorem ld_at (X : Vec F S3x512 .f32) (j : Fin 512) : View.ld X row0 (ix2 0 j) = X (ix2 0 j) ∧ View.ld X row1 (ix2 0 j) = X (ix2 1 j) ∧
    View.ld X row2 (ix2 0 j) = X (ix2 2 j) := by
  refine ⟨?_, ?_, ?_⟩ <;> exact View.ld_unit_apply_of X _ _ _ _ _ fun a => by
    match a with
    | ⟨0, _⟩ => rfl
    | ⟨1, _⟩ => exact (Nat.zero_add _).symm

end Cert.ConvIdeal.Steps

end
-- ==== Proof.ConvArrays.lean ====
/- The convolution and gate's call: its three result arrays after the run, read at an index. -/
module

public import proofs.«01_k».proof.Proof.ConvSteps
public import Idealize.ShloMosaic.Lib.Pointwise
public import Idealize.ShloMosaic.Lib.Claim

@[expose] public section

set_option maxRecDepth 16384

noncomputable section

namespace Cert.ConvIdeal.Arrays

open Cert.ConvIdeal Cert.ConvIdeal.Gen Cert.ConvIdeal.Value Cert.ConvIdeal.Steps Idealize.ShloMosaic Idealize.ShloMosaic.TcCoe Idealize.SL.Sem

variable {F : FTy → Type} [FloatOps F] [Named F]
variable (m : (ℓ : Loc nD τ sig) → Buf (Elt F) ℓ)

/-- The windows over tiles of rows and columns. -/
theorem tile (t : Fin cfg0.N) : win0_0.index t 0 = t.val % 4 ∧ win0_0.index t 1 = t.val / 4 ∧ win0_1.index t 0 = t.val % 4 ∧ win0_1.index t 1 = t.val / 4 ∧ win0_3.index t 0 = t.val % 4 ∧ win0_3.index t 1 = t.val / 4 ∧ win0_6.index t 0 = t.val % 4 ∧ win0_6.index t 1 = t.val / 4 :=
  (by decide +kernel : ∀ t : Fin grid0.N, win0_0.index t 0 = t.val % 4 ∧ win0_0.index t 1 = t.val / 4 ∧ win0_1.index t 0 = t.val % 4 ∧ win0_1.index t 1 = t.val / 4 ∧ win0_3.index t 0 = t.val % 4 ∧ win0_3.index t 1 = t.val / 4 ∧ win0_6.index t 0 = t.val % 4 ∧ win0_6.index t 1 = t.val / 4) t

/-- The windows over the rows that follow a tile. -/
theorem halo (t : Fin cfg0.N) : win0_2.index t 0 = min ((t.val % 4 + 1) * 64) 255 ∧ win0_2.index t 1 = t.val / 4 ∧ win0_4.index t 0 = min ((t.val % 4 + 1) * 64) 255 ∧ win0_4.index t 1 = t.val / 4 :=
  (by decide +kernel : ∀ t : Fin grid0.N, win0_2.index t 0 = min ((t.val % 4 + 1) * 64) 255 ∧ win0_2.index t 1 = t.val / 4 ∧ win0_4.index t 0 = min ((t.val % 4 + 1) * 64) 255 ∧ win0_4.index t 1 = t.val / 4) t

/-- The windows over blocks of columns alone. -/
theorem column (t : Fin cfg0.N) : win0_5.index t 0 = 0 ∧ win0_5.index t 1 = t.val / 4 ∧ win0_7.index t 0 = 0 ∧ win0_7.index t 1 = t.val / 4 ∧ win0_8.index t 0 = 0 ∧ win0_8.index t 1 = t.val / 4 :=
  (by decide +kernel : ∀ t : Fin grid0.N, win0_5.index t 0 = 0 ∧ win0_5.index t 1 = t.val / 4 ∧ win0_7.index t 0 = 0 ∧ win0_7.index t 1 = t.val / 4 ∧ win0_8.index t 0 = 0 ∧ win0_8.index t 1 = t.val / 4) t

/-- The second grid coordinate is the tile of rows. -/
theorem coord (t : Fin cfg0.N) : (grid0.coords t 1).val = t.val % 4 :=
  (by decide +kernel : ∀ t : Fin grid0.N, (grid0.coords t 1).val = t.val % 4) t

theorem du_any (c : Dev nD) (t : Fin cfg0.N) : (outsAt0 m c t.val t.isLt).1 = du m c t := by
  by_cases h0 : t.val % 4 = 0
  · exact du_first m c t h0
  · exact du_later m c t h0

/-- The input's gradient after the run, in point `t`'s tile. -/
theorem arr_du (c : Dev nD) (t : Fin cfg0.N) (r : Fin 1024) (q : Fin 512) (i : S4096x5632.Idx)
    (h0 : (i 0).val = t.val % 4 * 1024 + r.val) (h1 : (i 1).val = t.val / 4 * 512 + q.val) :
    (dats m 0 c).arrAt 6 cfg0.N i = du m c t (ix2 r q) := by
  have h := congrFun (blocks6 m c t (flush0_6 t)) (ix2 r q)
  rw [flushed6, View.read_apply, du_any] at h
  refine Eq.trans (congrArg _ (funext fun a => Fin.ext ?_)) h
  have ht := tile t
  match a with
  | ⟨0, _⟩ => show (i 0).val = win0_6.index t 0 * 1024 + 1 * r.val; omega
  | ⟨1, _⟩ => show (i 1).val = win0_6.index t 1 * 512 + 1 * q.val; omega

/-- The last point of a block of columns. -/
def last (j : Fin 11) : Fin cfg0.N := ⟨j.val * 4 + 3, by rw [show cfg0.N = 44 from N_0]; omega⟩

theorem disjoint7 : ∀ t t' : Fin cfg0.N, (cfg0.win 7).flush t = true → (cfg0.win 7).flush t' = true → t ≠ t' →
    Disjoint ((cfg0.win 7).blk t).view.set ((cfg0.win 7).blk t').view.set :=
  fun t t' h h' hne => (cfg0.win 7).disjoint_blk fun e => by
    have h1 := (flush0_7 t).mp h
    have h2 := (flush0_7 t').mp h'
    have c1 := column t
    have c2 := column t'
    have e1 : win0_7.index t 1 = win0_7.index t' 1 := congrFun e 1
    exact hne (Fin.ext (by omega))

theorem disjoint8 : ∀ t t' : Fin cfg0.N, (cfg0.win 8).flush t = true → (cfg0.win 8).flush t' = true → t ≠ t' →
    Disjoint ((cfg0.win 8).blk t).view.set ((cfg0.win 8).blk t').view.set :=
  fun t t' h h' hne => (cfg0.win 8).disjoint_blk fun e => by
    have h1 := (flush0_8 t).mp h
    have h2 := (flush0_8 t').mp h'
    have c1 := column t
    have c2 := column t'
    have e1 : win0_8.index t 1 = win0_8.index t' 1 := congrFun e 1
    exact hne (Fin.ext (by omega))

/-- The filter's gradient after the run, in block `j` of columns, is what the block's last point leaves. -/
theorem arr_dw (c : Dev nD) (j : Fin 11) (k : Fin 3) (q : Fin 512) (i : S3x5632.Idx)
    (h0 : (i 0).val = k.val) (h1 : (i 1).val = j.val * 512 + q.val) :
    (dats m 0 c).arrAt 7 cfg0.N i = (outsAt0 m c (last j).val (last j).isLt).2.1 (ix2 k q) := by
  have hl : (last j).val = j.val * 4 + 3 := rfl
  have h := congrFun ((dats m 0 c).read_blk_arrAt_eq_flushed 7 Arrays.disjoint7 cfg0.N (last j) (last j).isLt
    ((flush0_7 (last j)).mpr (by omega))) (ix2 k q)
  rw [flushed7, View.read_apply] at h
  refine Eq.trans (congrArg _ (funext fun a => Fin.ext ?_)) h
  have ht := column (last j)
  match a with
  | ⟨0, _⟩ => show (i 0).val = win0_7.index (last j) 0 * 3 + 1 * k.val; omega
  | ⟨1, _⟩ => show (i 1).val = win0_7.index (last j) 1 * 512 + 1 * q.val; omega

/-- The offset's gradient after the run, in block `j` of columns, is what the block's last point leaves. -/
theorem arr_db (c : Dev nD) (j : Fin 11) (k : Fin 1) (q : Fin 512) (i : S1x5632.Idx)
    (h0 : (i 0).val = k.val) (h1 : (i 1).val = j.val * 512 + q.val) :
    (dats m 0 c).arrAt 8 cfg0.N i = (outsAt0 m c (last j).val (last j).isLt).2.2 (ix2 k q) := by
  have hl : (last j).val = j.val * 4 + 3 := rfl
  have h := congrFun ((dats m 0 c).read_blk_arrAt_eq_flushed 8 Arrays.disjoint8 cfg0.N (last j) (last j).isLt
    ((flush0_8 (last j)).mpr (by omega))) (ix2 k q)
  rw [flushed8, View.read_apply] at h
  refine Eq.trans (congrArg _ (funext fun a => Fin.ext ?_)) h
  have ht := column (last j)
  match a with
  | ⟨0, _⟩ => show (i 0).val = win0_8.index (last j) 0 * 1 + 1 * k.val; omega
  | ⟨1, _⟩ => show (i 1).val = win0_8.index (last j) 1 * 512 + 1 * q.val; omega

end Cert.ConvIdeal.Arrays

end
-- ==== Proof.ConvReal.lean ====
/- The gate, the gelu and the causal depthwise convolution over real numbers: the gelu's derivative in the two forms in
   which it is written, the cotangent of the convolution's output, and sums over shifted rows. -/
module

public import Idealize.ShloMosaic.Lib.Pointwise
public import Idealize.ShloMosaic.Lib.KernelVsHost

@[expose] public section

noncomputable section

namespace Cert.ConvReal

open Idealize.ShloMosaic

/-- The gelu's two constants, the rationals that their float words are. -/
def cR : ℝ := 13386282 / 2 ^ 24
def aR : ℝ := 12003091 / 2 ^ 28

theorem ccR : Ideal.ofBits .f32 0x3F4C422A#32 = (cR : EReal) := by
  unfold cR; simp [Ideal.ofBits, Ideal.ieee, -EReal.coe_mul]; norm_num

theorem caR : Ideal.ofBits .f32 0x3D372713#32 = (aR : EReal) := by
  unfold aR; simp [Ideal.ofBits, Ideal.ieee, -EReal.coe_mul]; norm_num

theorem c2R : Ideal.ofBits .f32 0x3FCC422A#32 = ((2 * cR : ℝ) : EReal) := by
  unfold cR; simp [Ideal.ofBits, Ideal.ieee, -EReal.coe_mul]; norm_num

theorem chalf : Ideal.ofBits .f32 0x3F000000#32 = ((1 / 2 : ℝ) : EReal) := by
  simp [Ideal.ofBits, Ideal.ieee, -EReal.coe_mul]; norm_num

theorem cthree : Ideal.ofBits .f32 0x40400000#32 = ((3 : ℝ) : EReal) := by
  simp [Ideal.ofBits, Ideal.ieee, -EReal.coe_mul]; norm_num

theorem cone : Ideal.ofBits .f32 0x3F800000#32 = ((1 : ℝ) : EReal) := by
  simp [Ideal.ofBits, Ideal.ieee, -EReal.coe_mul]; norm_num

/-- The share of `g` that the gelu lets through. -/
def half (g : ℝ) : ℝ := 1 / 2 + 1 / 2 * Real.tanh (g * (cR + cR * aR * (g * g)))

/-- The gelu's derivative. -/
def dgelu (g : ℝ) : ℝ := half g + g * half g * (1 - half g) * (2 * cR + 6 * cR * aR * (g * g))

/-- The inner function as `jax.nn.gelu` writes it. -/
def inner (g : ℝ) : ℝ := cR * (g + aR * (g * g * g))

theorem half_eq (g : ℝ) : 1 / 2 * (1 + Real.tanh (inner g)) = half g := by
  unfold half inner
  rw [show cR * (g + aR * (g * g * g)) = g * (cR + cR * aR * (g * g)) by ring]; ring

/-- The derivative of the gelu, gathered term by term from the rules of differentiation, is `dgelu`. -/
theorem gather (g p : ℝ) : p * half g + cR * (1 / 2 * (g * p) * ((1 + Real.tanh (inner g)) * (1 - Real.tanh (inner g)))) +
    aR * (cR * (1 / 2 * (g * p) * ((1 + Real.tanh (inner g)) * (1 - Real.tanh (inner g))))) * (3 * (g * g)) = p * dgelu g := by
  have h : Real.tanh (inner g) = 2 * half g - 1 := by rw [← half_eq]; ring
  rw [h]; unfold dgelu; ring

/-- The cotangent of the convolution's output `Y`, whose first half of columns is gated by the gelu of the second. -/
def dy (Y : Fin 4096 → Fin 5632 → ℝ) (D : Fin 4096 → Fin 2816 → ℝ) (r : Fin 4096) (k : Fin 5632) : ℝ :=
  if h : k.val < 2816 then D r ⟨k.val, h⟩ * (Y r ⟨k.val + 2816, by omega⟩ * half (Y r ⟨k.val + 2816, by omega⟩))
  else D r ⟨k.val - 2816, by omega⟩ * Y r ⟨k.val - 2816, by omega⟩ * dgelu (Y r k)

/-- A column moved by whole rows, zeros outside. -/
def ahead (s : ℕ) (f : Fin 4096 → ℝ) (r : Fin 4096) : ℝ := if h : r.val + s < 4096 then f ⟨r.val + s, h⟩ else 0
def behind (s : ℕ) (f : Fin 4096 → ℝ) (r : Fin 4096) : ℝ := if s ≤ r.val then f ⟨r.val - s, by omega⟩ else 0

/-- The convolution's output: each row from the input's rows up to two back. -/
def conv (U : Fin 4096 → Fin 5632 → ℝ) (W : Fin 3 → Fin 5632 → ℝ) (B : Fin 5632 → ℝ) (r : Fin 4096) (k : Fin 5632) : ℝ :=
  B k + behind 2 (fun r => U r k) r * W 0 k + behind 1 (fun r => U r k) r * W 1 k + U r k * W 2 k

/-- The column of the plain array that stands at column `k` of the array in turns of 256. -/
def mixed (k : Fin 5632) : Fin 5632 := ⟨k.val / 256 % 2 * 2816 + k.val / 512 * 256 + k.val % 256, by have := k.isLt; omega⟩

/-- The gradients by the convolution's input, and by its filter. -/
def duR (U : Fin 4096 → Fin 5632 → ℝ) (W : Fin 3 → Fin 5632 → ℝ) (B : Fin 5632 → ℝ) (D : Fin 4096 → Fin 2816 → ℝ) (r : Fin 4096) (k : Fin 5632) : ℝ :=
  W 2 k * dy (conv U W B) D r k + W 1 k * ahead 1 (fun r => dy (conv U W B) D r k) r + W 0 k * ahead 2 (fun r => dy (conv U W B) D r k) r
def dwR (U : Fin 4096 → Fin 5632 → ℝ) (W : Fin 3 → Fin 5632 → ℝ) (B : Fin 5632 → ℝ) (D : Fin 4096 → Fin 2816 → ℝ) (j : Fin 3) (k : Fin 5632) : ℝ :=
  ∑ r, behind (2 - j.val) (fun r => U r k) r * dy (conv U W B) D r k

theorem behind_zero (f : Fin 4096 → ℝ) (r : Fin 4096) : behind 0 f r = f r := if_pos (Nat.zero_le _)
theorem ahead_zero (f : Fin 4096 → ℝ) (r : Fin 4096) : ahead 0 f r = f r := dif_pos r.isLt

/-- Moving one factor of a sum of products forward is moving the other back. -/
theorem sum_ahead (s : ℕ) (f g : Fin 4096 → ℝ) : ∑ r, ahead s f r * g r = ∑ r, behind s g r * f r := by
  have h1 : ∀ r : Fin 4096, ahead s f r * g r = ∑ r' : Fin 4096, if r'.val = r.val + s then f r' * g r else 0 := fun r => by
    unfold ahead
    by_cases h : r.val + s < 4096
    · rw [dif_pos h, Finset.sum_eq_single (⟨r.val + s, h⟩ : Fin 4096) (fun b _ hb => if_neg fun e => hb (Fin.ext e)) (fun h => absurd (Finset.mem_univ _) h),
        if_pos rfl]
    · rw [dif_neg h, zero_mul]
      exact (Finset.sum_eq_zero fun b _ => if_neg (by have := b.isLt; omega)).symm
  have h2 : ∀ r' : Fin 4096, behind s g r' * f r' = ∑ r : Fin 4096, if r'.val = r.val + s then f r' * g r else 0 := fun r' => by
    unfold behind
    by_cases h : s ≤ r'.val
    · rw [if_pos h, Finset.sum_eq_single (⟨r'.val - s, by omega⟩ : Fin 4096) (fun b _ hb => if_neg fun e => hb (Fin.ext (by show b.val = r'.val - s; omega)))
        (fun h => absurd (Finset.mem_univ _) h), if_pos (by show r'.val = r'.val - s + s; omega), mul_comm]
    · rw [if_neg h, zero_mul]
      exact (Finset.sum_eq_zero fun b _ => if_neg (by omega)).symm
  rw [Finset.sum_congr rfl fun r _ => h1 r, Finset.sum_congr rfl fun r _ => h2 r]
  exact Finset.sum_comm

/-- Rows padded by zeros above and below. -/
theorem pad_rows {n N K l e : ℕ} {u : Shape} (x : (⟨2, ![n, K]⟩ : Shape).Idx → EReal) (v : u.Idx → EReal) (hv : ∀ j, v j = 0)
    (h : Shape.Pads ⟨2, ![n, K]⟩ ![l, 0] ![e, 0] ![0, 0] ⟨2, ![N, K]⟩) (hu : 0 < u.numel) (i : Fin N) (k : Fin K) :
    pad ⟨2, ![N, K]⟩ ![l, 0] ![e, 0] ![0, 0] x v h hu (ix2 i k) = if hi : l ≤ i.val ∧ i.val - l < n then x (ix2 ⟨i.val - l, hi.2⟩ k) else 0 := by
  by_cases hi : l ≤ i.val ∧ i.val - l < n
  · rw [dif_pos hi]
    refine pad_apply_of_inside _ _ _ _ _ _ _ (ix2 i k) (ix2 (⟨i.val - l, hi.2⟩ : Fin n) k) fun b => ?_
    match b with
    | ⟨0, _⟩ => show i.val = l + (i.val - l) * 1; omega
    | ⟨1, _⟩ => show k.val = 0 + k.val * 1; omega
  · rw [dif_neg hi]
    refine (pad_apply_of_not_inside _ _ _ _ _ _ _ (ix2 i k) 0 fun hin => hi ?_).trans (hv _)
    have h1 : l ≤ i.val := hin.1
    have h2 : (i.val - l) / 1 < n := hin.2.2
    exact ⟨h1, by omega⟩

end Cert.ConvReal

end
-- ==== Proof.ConvInputs.lean ====
/- The convolution and gate's call: the six blocks that a grid point reads, as entries of the arguments and of the
   convolution's output, which the host lines compute. The columns stand in turns of 256, gate and value by turns. -/
module

public import proofs.«01_k».proof.Proof.ConvArrays
public import proofs.«01_k».proof.Proof.ConvReal

@[expose] public section

set_option maxRecDepth 16384

noncomputable section

namespace Cert.ConvIdeal.Inputs

open Cert.ConvIdeal Cert.ConvIdeal.Gen Cert.ConvIdeal.Steps Cert.ConvIdeal.Arrays Cert.ConvReal Idealize.ShloMosaic Idealize.ShloMosaic.TcCoe Idealize.SL.Sem

variable {F : FTy → Type} [FloatOps F] [Named F]
variable (m : (ℓ : Loc nD τ sig) → Buf (Elt F) ℓ)

/-- The row and the column of the whole array at which a tile's entry stands, and the columns of the gate's cotangent. -/
def row (t : Fin cfg0.N) (r : Fin 1024) : Fin 4096 := ⟨t.val % 4 * 1024 + r.val, by omega⟩
def col (t : Fin cfg0.N) (q : Fin 512) : Fin 5632 :=
  ⟨t.val / 4 * 512 + q.val, by have := t.isLt; have hN : cfg0.N = 44 := N_0; omega⟩
def dcol (t : Fin cfg0.N) (q : Fin 256) : Fin 2816 :=
  ⟨t.val / 4 * 256 + q.val, by have := t.isLt; have hN : cfg0.N = 44 := N_0; omega⟩

/-- The rows that follow a tile; after the last tile the array's last rows stand in for them. -/
def hrow (t : Fin cfg0.N) (r : Fin 16) : Fin 4096 := ⟨min ((t.val % 4 + 1) * 64) 255 * 16 + r.val, by omega⟩

/-- One term of the convolution as the host lines write it: a row of the filter along the rows of an array. -/
def term (w : FVec F S5632 .f32) (x : FVec F S4096x5632 .f32) : FVec F S4096x5632 .f32 :=
  mulf (broadcastInDim S4096x5632 ![0, 1] bcast_S1x5632_S4096x5632_0_1 (broadcastInDim S1x5632 ![1] bcast_S5632_S1x5632_1 w)) x

/-- The padding value. -/
def zero : FVec F S_ .f32 := sitofp .f32 (constantI S_ 32 0#32)

/-- The convolution's output as the host lines compute it. -/
def yHost (u : FVec F S4096x5632 .f32) (w : FVec F S3x5632 .f32) (b : FVec F S5632 .f32) : FVec F S4096x5632 .f32 :=
  addf (broadcastInDim S4096x5632 ![0, 1] bcast_S1x5632_S4096x5632_0_1 (broadcastInDim S1x5632 ![1] bcast_S5632_S1x5632_1 b))
    (addf (addf (addf (broadcastInDim S4096x5632 ![] bcast_S_S4096x5632 (constant S_ .f32 0x00000000#32))
      (term (shapeCast _ (extractStridedSlice S1x5632 ![0, 0] w slices_S3x5632_S1x5632_0_0) shapeCasts_S1x5632_S5632)
        (extractStridedSlice S4096x5632 ![0, 0] (pad S4098x5632 ![2, 0] ![0, 0] ![0, 0] u zero pads_S4096x5632_S4098x5632_200_000 h_S_)
          slices_S4098x5632_S4096x5632_0_0)))
      (term (shapeCast _ (extractStridedSlice S1x5632 ![1, 0] w slices_S3x5632_S1x5632_1_0) shapeCasts_S1x5632_S5632)
        (extractStridedSlice S4096x5632 ![0, 0] (pad S4097x5632 ![1, 0] ![0, 0] ![0, 0] u zero pads_S4096x5632_S4097x5632_100_000 h_S_)
          slices_S4097x5632_S4096x5632_0_0)))
      (term (shapeCast _ (extractStridedSlice S1x5632 ![2, 0] w slices_S3x5632_S1x5632_2_0) shapeCasts_S1x5632_S5632)
        (pad S4096x5632 ![0, 0] ![0, 0] ![0, 0] u zero pads_S4096x5632_S4096x5632_000_000 h_S_)))

theorem V_u (c : Dev nD) : V m c main_v29 = shapeCast _ (transpose S4096x11x2x256 [0, 2, 1, 3]
    (shapeCast _ (m ((c : Thread nD τ).loc main_arg0)) shapeCasts_S4096x5632_S4096x2x11x256)
    transposes_S4096x2x11x256_S4096x11x2x256_0_2_1_3) shapeCasts_S4096x11x2x256_S4096x5632 := by
  show StableHlo.after (List.flatten [hostOps0, hostOps0_1, hostOps0_2, hostOps0_3, hostOps0_4, hostOps0_5, hostOps0_6]) _ (Proc.devRef .tc main_v29) = _
  after_results
  rfl

theorem V_y (c : Dev nD) : V m c main_v32 = shapeCast _ (transpose S4096x11x2x256 [0, 2, 1, 3]
    (shapeCast _ (yHost (m ((c : Thread nD τ).loc main_arg0)) (m ((c : Thread nD τ).loc main_arg1)) (m ((c : Thread nD τ).loc main_arg2)))
      shapeCasts_S4096x5632_S4096x2x11x256)
    transposes_S4096x2x11x256_S4096x11x2x256_0_2_1_3) shapeCasts_S4096x11x2x256_S4096x5632 := by
  show StableHlo.after (List.flatten [hostOps0, hostOps0_1, hostOps0_2, hostOps0_3, hostOps0_4, hostOps0_5, hostOps0_6]) _ (Proc.devRef .tc main_v32) = _
  after_results
  rfl

theorem V_w (c : Dev nD) : V m c main_v35 = shapeCast _ (transpose S3x11x2x256 [0, 2, 1, 3]
    (shapeCast _ (m ((c : Thread nD τ).loc main_arg1)) shapeCasts_S3x5632_S3x2x11x256)
    transposes_S3x2x11x256_S3x11x2x256_0_2_1_3) shapeCasts_S3x11x2x256_S3x5632 := by
  show StableHlo.after (List.flatten [hostOps0, hostOps0_1, hostOps0_2, hostOps0_3, hostOps0_4, hostOps0_5, hostOps0_6]) _ (Proc.devRef .tc main_v35) = _
  after_results
  rfl

/-- The tile of the convolution's input. -/
theorem in_u (c : Dev nD) (t : Fin cfg0.N) (r : Fin 1024) (q : Fin 512) :
    iblk m c 0 t (ix2 r q) = m ((c : Thread nD τ).loc main_arg0) (ix2 (row t r) (mixed (col t q))) := by
  have ht := tile t
  have hi : ((cfg0.win 0).blk t).view.emb (ix2 r q) = (ix2 (row t r) (col t q) : S4096x5632.Idx) := funext fun a => Fin.ext (by
    match a with
    | ⟨0, _⟩ => show win0_0.index t 0 * 1024 + 1 * r.val = t.val % 4 * 1024 + r.val; rw [ht.1]; omega
    | ⟨1, _⟩ => show win0_0.index t 1 * 512 + 1 * q.val = t.val / 4 * 512 + q.val; omega)
  unfold iblk
  rw [View.read_apply]
  show V m c main_v29 _ = _
  rw [hi, V_u]
  generalize m ((c : Thread nD τ).loc main_arg0) = X
  pointwise
  rfl

/-- The tile of the convolution's output. -/
theorem in_y (c : Dev nD) (t : Fin cfg0.N) (r : Fin 1024) (q : Fin 512) :
    iblk m c 1 t (ix2 r q) = yHost (m ((c : Thread nD τ).loc main_arg0)) (m ((c : Thread nD τ).loc main_arg1)) (m ((c : Thread nD τ).loc main_arg2)) (ix2 (row t r) (mixed (col t q))) := by
  have ht := tile t
  have hi : ((cfg0.win 1).blk t).view.emb (ix2 r q) = (ix2 (row t r) (col t q) : S4096x5632.Idx) := funext fun a => Fin.ext (by
    match a with
    | ⟨0, _⟩ => show win0_1.index t 0 * 1024 + 1 * r.val = t.val % 4 * 1024 + r.val; rw [ht.2.2.1]; omega
    | ⟨1, _⟩ => show win0_1.index t 1 * 512 + 1 * q.val = t.val / 4 * 512 + q.val; omega)
  unfold iblk
  rw [View.read_apply]
  show V m c main_v32 _ = _
  rw [hi, V_y]
  generalize yHost (m ((c : Thread nD τ).loc main_arg0)) (m ((c : Thread nD τ).loc main_arg1)) (m ((c : Thread nD τ).loc main_arg2)) = X
  pointwise
  rfl

/-- The rows of the convolution's output that follow the tile. -/
theorem in_yh (c : Dev nD) (t : Fin cfg0.N) (r : Fin 16) (q : Fin 512) :
    iblk m c 2 t (ix2 r q) = yHost (m ((c : Thread nD τ).loc main_arg0)) (m ((c : Thread nD τ).loc main_arg1)) (m ((c : Thread nD τ).loc main_arg2)) (ix2 (hrow t r) (mixed (col t q))) := by
  have ht := halo t
  have hi : ((cfg0.win 2).blk t).view.emb (ix2 r q) = (ix2 (hrow t r) (col t q) : S4096x5632.Idx) := funext fun a => Fin.ext (by
    match a with
    | ⟨0, _⟩ => show win0_2.index t 0 * 16 + 1 * r.val = min ((t.val % 4 + 1) * 64) 255 * 16 + r.val; rw [ht.1]; omega
    | ⟨1, _⟩ => show win0_2.index t 1 * 512 + 1 * q.val = t.val / 4 * 512 + q.val; omega)
  unfold iblk
  rw [View.read_apply]
  show V m c main_v32 _ = _
  rw [hi, V_y]
  generalize yHost (m ((c : Thread nD τ).loc main_arg0)) (m ((c : Thread nD τ).loc main_arg1)) (m ((c : Thread nD τ).loc main_arg2)) = X
  pointwise
  rfl

/-- The tile of the gate's cotangent. -/
theorem in_d (c : Dev nD) (t : Fin cfg0.N) (r : Fin 1024) (q : Fin 256) :
    iblk m c 3 t (ix2 r q) = m ((c : Thread nD τ).loc main_arg3) (ix2 (row t r) (dcol t q)) := by
  have ht := tile t
  have hi : ((cfg0.win 3).blk t).view.emb (ix2 r q) = (ix2 (row t r) (dcol t q) : S4096x2816.Idx) := funext fun a => Fin.ext (by
    match a with
    | ⟨0, _⟩ => show win0_3.index t 0 * 1024 + 1 * r.val = t.val % 4 * 1024 + r.val; omega
    | ⟨1, _⟩ => show win0_3.index t 1 * 256 + 1 * q.val = t.val / 4 * 256 + q.val; omega)
  unfold iblk
  rw [View.read_apply]
  show V m c main_arg3 _ = _
  rw [hi, V_main_arg3]

/-- The rows of the gate's cotangent that follow the tile. -/
theorem in_dh (c : Dev nD) (t : Fin cfg0.N) (r : Fin 16) (q : Fin 256) :
    iblk m c 4 t (ix2 r q) = m ((c : Thread nD τ).loc main_arg3) (ix2 (hrow t r) (dcol t q)) := by
  have ht := halo t
  have hi : ((cfg0.win 4).blk t).view.emb (ix2 r q) = (ix2 (hrow t r) (dcol t q) : S4096x2816.Idx) := funext fun a => Fin.ext (by
    match a with
    | ⟨0, _⟩ => show win0_4.index t 0 * 16 + 1 * r.val = min ((t.val % 4 + 1) * 64) 255 * 16 + r.val; omega
    | ⟨1, _⟩ => show win0_4.index t 1 * 256 + 1 * q.val = t.val / 4 * 256 + q.val; omega)
  unfold iblk
  rw [View.read_apply]
  show V m c main_arg3 _ = _
  rw [hi, V_main_arg3]

/-- The block of the filter. -/
theorem in_w (c : Dev nD) (t : Fin cfg0.N) (k : Fin 3) (q : Fin 512) :
    iblk m c 5 t (ix2 k q) = m ((c : Thread nD τ).loc main_arg1) (ix2 k (mixed (col t q))) := by
  have ht := column t
  have hi : ((cfg0.win 5).blk t).view.emb (ix2 k q) = (ix2 k (col t q) : S3x5632.Idx) := funext fun a => Fin.ext (by
    match a with
    | ⟨0, _⟩ => show win0_5.index t 0 * 3 + 1 * k.val = k.val; omega
    | ⟨1, _⟩ => show win0_5.index t 1 * 512 + 1 * q.val = t.val / 4 * 512 + q.val; omega)
  unfold iblk
  rw [View.read_apply]
  show V m c main_v35 _ = _
  rw [hi, V_w]
  pointwise
  rfl

end Cert.ConvIdeal.Inputs

end
-- ==== Proof.ConvBlock.lean ====
/- The convolution and gate's call over real numbers: what one block's payloads compute, when the blocks that they read
   hold real numbers. -/
module

public import proofs.«01_k».proof.Proof.LnReal
public import proofs.«01_k».proof.Proof.ConvReal
public import proofs.«01_k».proof.Proof.Gen.ConvIdeal.Skeleton
public import Idealize.ShloMosaic.Lib.KernelVsHost

@[expose] public section

set_option maxRecDepth 16384

noncomputable section

namespace Cert.ConvIdeal.Block

open Cert.ConvIdeal Cert.ConvIdeal.Gen Cert.LnReal Cert.ConvReal Idealize.ShloMosaic

/-- The two constants that stand for products of the gelu's own. -/
theorem nca : Named.named (F := Ideal) (φ := .f32) κ "gelu_ca" 0x3D122279#32 = ((cR * aR : ℝ) : EReal) := by
  rw [IdealRules.named_const.ideal_named_scalar _ _ _ _ rfl]
  exact congrArg _ (by unfold cR aR; norm_num)

theorem n6ca : Named.named (F := Ideal) (φ := .f32) κ "gelu_6ca" 0x3E5B33B6#32 = ((6 * cR * aR : ℝ) : EReal) := by
  rw [IdealRules.named_const.ideal_named_scalar _ _ _ _ rfl]
  exact congrArg _ (by unfold cR aR; norm_num)

variable (y : Vec Ideal S1024x512 .f32) (yh : Vec Ideal S16x512 .f32) (Y : Fin 1040 → Fin 512 → ℝ)
variable (hy : ∀ r q, k0_pay6 y yh (ix2 r q) = (Y r q : EReal))

/-- The two halves of a block's columns. -/
def lo (q : Fin 256) : Fin 512 := ⟨q.val, by omega⟩
def hi (q : Fin 256) : Fin 512 := ⟨q.val + 256, by omega⟩

include hy in
theorem pay7_real (r : Fin 1040) (q : Fin 256) : k0_pay7 y yh (ix2 r q) = (Y r (lo q) : EReal) := by
  show extractStridedSlice S1040x256 ![0, 0] (k0_pay6 y yh) slices_S1040x512_o0_0_S1040x256 (ix2 r q) = _
  refine Eq.trans (extractStridedSlice_apply ![0, 0] _ _ (ix2 r q) (ix2 r (lo q)) fun a => ?_) (hy _ _)
  match a with
  | ⟨0, _⟩ => exact (Nat.zero_add _).symm
  | ⟨1, _⟩ => exact (Nat.zero_add _).symm

include hy in
theorem pay8_real (r : Fin 1040) (q : Fin 256) : k0_pay8 y yh (ix2 r q) = (Y r (hi q) : EReal) := by
  show extractStridedSlice S1040x256 ![0, 256] (k0_pay6 y yh) slices_S1040x512_o0_256_S1040x256 (ix2 r q) = _
  refine Eq.trans (extractStridedSlice_apply ![0, 256] _ _ (ix2 r q) (ix2 r (hi q)) fun a => ?_) (hy _ _)
  match a with
  | ⟨0, _⟩ => exact (Nat.zero_add _).symm
  | ⟨1, _⟩ => exact Nat.add_comm _ _

include hy in
theorem pay11_real (r : Fin 1040) (q : Fin 256) : k0_pay11 y yh (ix2 r q) = (half (Y r (hi q)) : EReal) := by
  pointwise [k0_pay11, k0_pay10]
  simp only [pay8_real y yh Y hy, nca, ccR, chalf, ← EReal.coe_mul, ← EReal.coe_add, Ideal.tanh_coe]
  rfl

include hy in
theorem pay12_real (r : Fin 1040) (q : Fin 256) : k0_pay12 y yh (ix2 r q) = ((Y r (hi q) * half (Y r (hi q)) : ℝ) : EReal) := by
  pointwise [k0_pay12]
  simp only [pay8_real y yh Y hy, pay11_real y yh Y hy, ← EReal.coe_mul]

include hy in
theorem pay13_real (r : Fin 1040) (q : Fin 256) : k0_pay13 y yh (ix2 r q) =
    ((Y r (hi q) * half (Y r (hi q)) * (1 - half (Y r (hi q))) * (2 * cR + 6 * cR * aR * (Y r (hi q) * Y r (hi q))) : ℝ) : EReal) := by
  pointwise [k0_pay13, k0_pay10]
  simp only [pay8_real y yh Y hy, pay11_real y yh Y hy, pay12_real y yh Y hy, n6ca, c2R, ← EReal.coe_one, ← EReal.coe_mul, ← EReal.coe_add, ← EReal.coe_sub]

variable (d : FVec Ideal S1040x256 .f32) (D : Fin 1040 → Fin 256 → ℝ) (hd : ∀ r q, d (ix2 r q) = (D r q : EReal))

/-- The cotangent of the convolution's output in one block. -/
def dyB (Y : Fin 1040 → Fin 512 → ℝ) (D : Fin 1040 → Fin 256 → ℝ) (r : Fin 1040) (q : Fin 512) : ℝ :=
  if h : q.val < 256 then D r ⟨q.val, h⟩ * (Y r (hi ⟨q.val, h⟩) * half (Y r (hi ⟨q.val, h⟩)))
  else D r ⟨q.val - 256, by omega⟩ * Y r (lo ⟨q.val - 256, by omega⟩) * dgelu (Y r q)

include hy hd in
theorem pay14_real (r : Fin 1040) (q : Fin 512) : (k0_pay14 (k0_pay7 y yh) d (k0_pay11 y yh) (k0_pay12 y yh) (k0_pay13 y yh)) (ix2 r q) = (dyB Y D r q : EReal) := by
  unfold dyB
  by_cases h : q.val < 256
  · rw [dif_pos h]
    show concatenate S1040x512 1 [⟨S1040x256, mulf d (k0_pay12 y yh)⟩, ⟨S1040x256, mulf (mulf d (k0_pay7 y yh)) (addf (k0_pay11 y yh) (k0_pay13 y yh))⟩]
      concatenates_S1040x256_S1040x256_S1040x512_d1 (ix2 r q) = _
    refine Eq.trans (concatenate_pair_apply_left (s₁ := S1040x256) (s₂ := S1040x256) 1 _ _ _ (ix2 r q) rfl (ix2 r (⟨q.val, h⟩ : Fin 256)) fun b => ?_) ?_
    · match b with
      | ⟨0, _⟩ => rfl
      | ⟨1, _⟩ => rfl
    · pointwise
      simp only [hd, pay12_real y yh Y hy, ← EReal.coe_mul]
  · rw [dif_neg h]
    show concatenate S1040x512 1 [⟨S1040x256, mulf d (k0_pay12 y yh)⟩, ⟨S1040x256, mulf (mulf d (k0_pay7 y yh)) (addf (k0_pay11 y yh) (k0_pay13 y yh))⟩]
      concatenates_S1040x256_S1040x256_S1040x512_d1 (ix2 r q) = _
    refine Eq.trans (concatenate_pair_apply_right (s₁ := S1040x256) (s₂ := S1040x256) 1 _ _ _ (ix2 r q) rfl rfl (ix2 r (⟨q.val - 256, by omega⟩ : Fin 256)) (fun b hb => ?_) ?_) ?_
    · match b with
      | ⟨0, _⟩ => rfl
      | ⟨1, _⟩ => exact absurd rfl hb
    · show q.val - 256 + 256 = q.val; omega
    · pointwise
      simp only [hd, pay7_real y yh Y hy, pay11_real y yh Y hy, pay13_real y yh Y hy, ← EReal.coe_mul, ← EReal.coe_add]
      have e : hi ⟨q.val - 256, by omega⟩ = q := Fin.ext (by show q.val - 256 + 256 = q.val; omega)
      rw [e]; rfl

include hy hd in
theorem pay15_real (r : Fin 1024) (q : Fin 512) : (k0_pay15 (k0_pay7 y yh) d (k0_pay11 y yh) (k0_pay12 y yh) (k0_pay13 y yh)) (ix2 r q) = (dyB Y D ⟨r.val, by omega⟩ q : EReal) := by
  show extractStridedSlice S1024x512 ![0, 0] (k0_pay14 (k0_pay7 y yh) d (k0_pay11 y yh) (k0_pay12 y yh) (k0_pay13 y yh)) slices_S1040x512_o0_0_S1024x512 (ix2 r q) = _
  refine Eq.trans (extractStridedSlice_apply ![0, 0] _ _ (ix2 r q) (ix2 (⟨r.val, by omega⟩ : Fin 1040) q) fun a => ?_) (pay14_real y yh Y hy d D hd _ _)
  match a with
  | ⟨0, _⟩ => exact (Nat.zero_add _).symm
  | ⟨1, _⟩ => exact (Nat.zero_add _).symm

include hy hd in
theorem pay16_real (r : Fin 1024) (q : Fin 512) : (k0_pay16 (k0_pay7 y yh) d (k0_pay11 y yh) (k0_pay12 y yh) (k0_pay13 y yh)) (ix2 r q) = (dyB Y D ⟨r.val + 1, by omega⟩ q : EReal) := by
  show extractStridedSlice S1024x512 ![0, 0] (dynamicRotate 0 1039#32 none (k0_pay14 (k0_pay7 y yh) d (k0_pay11 y yh) (k0_pay12 y yh) (k0_pay13 y yh)) rotates_S1040x512_d0) slices_S1040x512_o0_0_S1024x512 (ix2 r q) = _
  refine Eq.trans (extractStridedSlice_apply ![0, 0] _ _ (ix2 r q) (ix2 (⟨r.val, by omega⟩ : Fin 1040) q) fun a => ?_)
    ((dynamicRotate_apply 0 1039#32 _ _ _ (ix2 (⟨r.val + 1, by omega⟩ : Fin 1040) q) fun b => ?_).trans (pay14_real y yh Y hy d D hd _ _))
  · match a with
    | ⟨0, _⟩ => exact (Nat.zero_add _).symm
    | ⟨1, _⟩ => exact (Nat.zero_add _).symm
  · match b with
    | ⟨0, _⟩ => show r.val + 1 = (r.val + 1040 - 1039 % 1040) % 1040; omega
    | ⟨1, _⟩ => rfl

include hy hd in
theorem pay17_real (r : Fin 1024) (q : Fin 512) : (k0_pay17 (k0_pay7 y yh) d (k0_pay11 y yh) (k0_pay12 y yh) (k0_pay13 y yh)) (ix2 r q) = (dyB Y D ⟨r.val + 2, by omega⟩ q : EReal) := by
  show extractStridedSlice S1024x512 ![0, 0] (dynamicRotate 0 1038#32 none (k0_pay14 (k0_pay7 y yh) d (k0_pay11 y yh) (k0_pay12 y yh) (k0_pay13 y yh)) rotates_S1040x512_d0) slices_S1040x512_o0_0_S1024x512 (ix2 r q) = _
  refine Eq.trans (extractStridedSlice_apply ![0, 0] _ _ (ix2 r q) (ix2 (⟨r.val, by omega⟩ : Fin 1040) q) fun a => ?_)
    ((dynamicRotate_apply 0 1038#32 _ _ _ (ix2 (⟨r.val + 2, by omega⟩ : Fin 1040) q) fun b => ?_).trans (pay14_real y yh Y hy d D hd _ _))
  · match a with
    | ⟨0, _⟩ => exact (Nat.zero_add _).symm
    | ⟨1, _⟩ => exact (Nat.zero_add _).symm
  · match b with
    | ⟨0, _⟩ => show r.val + 2 = (r.val + 1040 - 1038 % 1040) % 1040; omega
    | ⟨1, _⟩ => rfl

variable (w0 w1 w2 : Vec Ideal S1x512 .f32) (W : Fin 3 → Fin 512 → ℝ)
variable (h0 : ∀ q, w0 (ix2 0 q) = (W 0 q : EReal)) (h1 : ∀ q, w1 (ix2 0 q) = (W 1 q : EReal)) (h2 : ∀ q, w2 (ix2 0 q) = (W 2 q : EReal))

include hy hd h0 h1 h2 in
/-- The gradient by the convolution's input. -/
theorem pay18_real (r : Fin 1024) (q : Fin 512) :
    k0_pay18 (k0_pay7 y yh) d (k0_pay11 y yh) (k0_pay12 y yh) (k0_pay13 y yh) w2 w1 w0 (ix2 r q) =
      ((W 2 q * dyB Y D ⟨r.val, by omega⟩ q + W 1 q * dyB Y D ⟨r.val + 1, by omega⟩ q + W 0 q * dyB Y D ⟨r.val + 2, by omega⟩ q : ℝ) : EReal) := by
  pointwise [k0_pay18]
  simp only [h0, h1, h2, pay15_real y yh Y hy d D hd, pay16_real y yh Y hy d D hd, pay17_real y yh Y hy d D hd, ← EReal.coe_mul, ← EReal.coe_add]

variable (u : Vec Ideal S1024x512 .f32) (U : Fin 1024 → Fin 512 → ℝ) (hu : ∀ r q, u (ix2 r q) = (U r q : EReal))
variable (acc : Vec Ideal S1x512 .f32) (R : Fin 512 → ℝ) (hR : ∀ q, acc (ix2 0 q) = (R q : EReal))

include hy hd hu hR in
theorem pay20_real (q : Fin 512) : k0_pay20 (k0_pay7 y yh) d (k0_pay11 y yh) (k0_pay12 y yh) (k0_pay13 y yh) u acc (ix2 0 q) =
    ((R q + ∑ r : Fin 1024, dyB Y D ⟨r.val + 2, by omega⟩ q * U r q : ℝ) : EReal) := by
  pointwise [k0_pay20, k0_pay19]
  simp only [hR, hu, pay17_real y yh Y hy d D hd, ← EReal.coe_mul, coe_sum, ← EReal.coe_add]

include hy hd hu hR in
theorem pay1_real (q : Fin 512) :
    k0_pay1 (k0_pay21 acc) (k0_pay22 (k0_pay7 y yh) d (k0_pay11 y yh) (k0_pay12 y yh) (k0_pay13 y yh) u) (ix2 0 q) =
    ((R q + ∑ r : Fin 1024, dyB Y D ⟨r.val + 1, by omega⟩ q * U r q : ℝ) : EReal) := by
  pointwise [k0_pay1, k0_pay21, k0_pay22, k0_pay19]
  simp only [hR, hu, pay16_real y yh Y hy d D hd, ← EReal.coe_mul, coe_sum, ← EReal.coe_add]

include hy hd hu hR in
theorem pay2_real (q : Fin 512) :
    k0_pay2 (k0_pay15 (k0_pay7 y yh) d (k0_pay11 y yh) (k0_pay12 y yh) (k0_pay13 y yh)) (k0_pay19 u) acc (ix2 0 q) =
    ((R q + ∑ r : Fin 1024, dyB Y D ⟨r.val, by omega⟩ q * U r q : ℝ) : EReal) := by
  pointwise [k0_pay2, k0_pay19]
  simp only [hR, hu, pay15_real y yh Y hy d D hd, ← EReal.coe_mul, coe_sum, ← EReal.coe_add]

include hy hd hR in
theorem pay3_real (q : Fin 512) :
    k0_pay3 (k0_pay15 (k0_pay7 y yh) d (k0_pay11 y yh) (k0_pay12 y yh) (k0_pay13 y yh)) acc (ix2 0 q) = ((R q + ∑ r : Fin 1024, dyB Y D ⟨r.val, by omega⟩ q : ℝ) : EReal) := by
  pointwise [k0_pay3]
  simp only [hR, pay15_real y yh Y hy d D hd, coe_sum, ← EReal.coe_add]

end Cert.ConvIdeal.Block

end
-- ==== Proof.ConvRef.lean ====
/- The convolution and gate's reference over real numbers: the stages of the derivative that jax takes, each at an index,
   when the arguments hold real numbers. -/
module

public import proofs.«01_k».proof.Proof.LnReal
public import proofs.«01_k».proof.Proof.ConvReal
public import proofs.«01_k».proof.Proof.Gen.ConvRefIdeal.Read
public import Idealize.ShloMosaic.Lib.KernelVsHost

@[expose] public section

set_option maxRecDepth 16384

noncomputable section

namespace Cert.ConvRefIdeal.Ref

open Cert.ConvRefIdeal Cert.ConvRefIdeal.Gen Cert.ConvRefIdeal.Read Cert.LnReal Cert.ConvReal Idealize.ShloMosaic

/-- The four arguments' entries are the real numbers `U`, `W`, `B`, `D`. -/
structure Args (x0 : FVec Ideal S4096x5632 .f32) (x1 : FVec Ideal S3x5632 .f32) (x2 : FVec Ideal S5632 .f32) (x3 : FVec Ideal S4096x2816 .bf16)
    (U : Fin 4096 → Fin 5632 → ℝ) (W : Fin 3 → Fin 5632 → ℝ) (B : Fin 5632 → ℝ) (D : Fin 4096 → Fin 2816 → ℝ) : Prop where
  h0 : ∀ i k, x0 (ix2 i k) = (U i k : EReal)
  h1 : ∀ j k, x1 (ix2 j k) = (W j k : EReal)
  h2 : ∀ k, x2 (ix1 k) = (B k : EReal)
  h3 : ∀ i k, x3 (ix2 i k) = (D i k : EReal)

variable {x0 : FVec Ideal S4096x5632 .f32} {x1 : FVec Ideal S3x5632 .f32} {x2 : FVec Ideal S5632 .f32} {x3 : FVec Ideal S4096x2816 .bf16}
variable {U : Fin 4096 → Fin 5632 → ℝ} {W : Fin 3 → Fin 5632 → ℝ} {B : Fin 5632 → ℝ} {D : Fin 4096 → Fin 2816 → ℝ}
variable (a : Args x0 x1 x2 x3 U W B D)

/-- The gate's value columns and the gelu's columns among all columns. -/
def va (k : Fin 2816) : Fin 5632 := ⟨k.val, by omega⟩
def ga (k : Fin 2816) : Fin 5632 := ⟨k.val + 2816, by omega⟩

include a

/-- The input under two rows of zeros. -/
theorem up_real (n : Fin 4098) (k : Fin 5632) :
    val_main_v1 (F := Ideal) x0 (ix2 n k) = ((if h : 2 ≤ n.val then U ⟨n.val - 2, by omega⟩ k else 0 : ℝ) : EReal) := by
  show concatenate S4098x5632 0 [⟨S2x5632, val_main_v0 (F := Ideal)⟩, ⟨S4096x5632, x0⟩] concatenates_S2x5632_S4096x5632_S4098x5632_d0 (ix2 n k) = _
  by_cases h : 2 ≤ n.val
  · rw [dif_pos h]
    refine Eq.trans (concatenate_pair_apply_right (s₁ := S2x5632) (s₂ := S4096x5632) 0 _ _ _ (ix2 n k) rfl rfl
      (ix2 (⟨n.val - 2, by omega⟩ : Fin 4096) k) (fun b hb => ?_) ?_) (a.h0 _ _)
    · match b with
      | ⟨0, _⟩ => exact absurd rfl hb
      | ⟨1, _⟩ => rfl
    · show n.val - 2 + 2 = n.val; omega
  · rw [dif_neg h]
    refine Eq.trans (concatenate_pair_apply_left (s₁ := S2x5632) (s₂ := S4096x5632) 0 _ _ _ (ix2 n k) rfl
      (ix2 (⟨n.val, by omega⟩ : Fin 2) k) fun b => ?_) ?_
    · match b with
      | ⟨0, _⟩ => rfl
      | ⟨1, _⟩ => rfl
    · pointwise [val_main_v0, val_main_cst]
      rfl

theorem up2_real (r : Fin 4096) (k : Fin 5632) : val_main_v3 (F := Ideal) x0 (ix2 r k) = (behind 2 (fun r => U r k) r : EReal) := by
  pointwise [val_main_v3]
  exact up_real a ⟨r.val, by omega⟩ k

theorem up1_real (r : Fin 4096) (k : Fin 5632) : val_main_v12 (F := Ideal) x0 (ix2 r k) = (behind 1 (fun r => U r k) r : EReal) := by
  have h := up_real a ⟨r.val + 1, by omega⟩ k
  have e : (if h : 2 ≤ r.val + 1 then U ⟨r.val + 1 - 2, by omega⟩ k else 0) = behind 1 (fun r => U r k) r := by
    unfold behind
    by_cases h1 : 1 ≤ r.val
    · rw [dif_pos (by omega), if_pos h1]; exact congrFun (congrArg U (Fin.ext (by show r.val + 1 - 2 = r.val - 1; omega))) k
    · rw [dif_neg (by omega), if_neg h1]
  rw [← e]
  refine Eq.trans (extractStridedSlice_apply (s := S4098x5632) (t := S4096x5632) ![1, 0] _ slices_S4098x5632_S4096x5632_1_0 (ix2 r k) (ix2 (⟨r.val + 1, by omega⟩ : Fin 4098) k) fun b => ?_) h
  match b with
  | ⟨0, _⟩ => exact Nat.add_comm _ _
  | ⟨1, _⟩ => exact (Nat.zero_add _).symm

theorem up0_real (r : Fin 4096) (k : Fin 5632) : val_main_v19 (F := Ideal) x0 (ix2 r k) = (U r k : EReal) := by
  have h := up_real a ⟨r.val + 2, by omega⟩ k
  have e : (if h : 2 ≤ r.val + 2 then U ⟨r.val + 2 - 2, by omega⟩ k else 0) = U r k := dif_pos (by omega)
  rw [← e]
  refine Eq.trans (extractStridedSlice_apply (s := S4098x5632) (t := S4096x5632) ![2, 0] _ slices_S4098x5632_S4096x5632_2_0 (ix2 r k) (ix2 (⟨r.val + 2, by omega⟩ : Fin 4098) k) fun b => ?_) h
  match b with
  | ⟨0, _⟩ => exact Nat.add_comm _ _
  | ⟨1, _⟩ => exact (Nat.zero_add _).symm

/-- The filter's rows, laid along the rows of an array. -/
theorem w0_real (r : Fin 4096) (k : Fin 5632) : val_main_v7 (F := Ideal) x1 (ix2 r k) = (W 0 k : EReal) := by
  pointwise [val_main_v7, val_main_v6, val_main_v5, val_main_v4]
  exact a.h1 0 k

theorem w1_real (r : Fin 4096) (k : Fin 5632) : val_main_v16 (F := Ideal) x1 (ix2 r k) = (W 1 k : EReal) := by
  pointwise [val_main_v16, val_main_v15, val_main_v14, val_main_v13]
  exact a.h1 1 k

theorem w2_real (r : Fin 4096) (k : Fin 5632) : val_main_v23 (F := Ideal) x1 (ix2 r k) = (W 2 k : EReal) := by
  pointwise [val_main_v23, val_main_v22, val_main_v21, val_main_v20]
  exact a.h1 2 k

theorem y_real (r : Fin 4096) (k : Fin 5632) : val_main_v25 (F := Ideal) x0 x1 x2 (ix2 r k) = (conv U W B r k : EReal) := by
  pointwise [val_main_v25, val_main_v24, val_main_v18, val_main_v17, val_main_v11, val_main_v10, val_main_v9, val_main_v8]
  simp only [up2_real a, up1_real a, up0_real a, w0_real a, w1_real a, w2_real a, a.h2, ← EReal.coe_mul, ← EReal.coe_add]
  rfl

/-- The gate's value, and the gelu's argument. -/
theorem a_real (r : Fin 4096) (k : Fin 2816) : val_main_v26 (F := Ideal) x0 x1 x2 (ix2 r k) = (conv U W B r (va k) : EReal) := by
  pointwise [val_main_v26]
  exact y_real a r (va k)

theorem g_real (r : Fin 4096) (k : Fin 2816) : val_main_v27 (F := Ideal) x0 x1 x2 (ix2 r k) = (conv U W B r (ga k) : EReal) := by
  refine Eq.trans (extractStridedSlice_apply (s := S4096x5632) (t := S4096x2816) ![0, 2816] _ slices_S4096x5632_S4096x2816_0_2816 (ix2 r k) (ix2 r (ga k)) fun b => ?_) (y_real a r (ga k))
  match b with
  | ⟨0, _⟩ => exact (Nat.zero_add _).symm
  | ⟨1, _⟩ => exact Nat.add_comm _ _

theorem tanh_real (r : Fin 4096) (k : Fin 2816) :
    val_main_v38 (F := Ideal) x0 x1 x2 (ix2 r k) = (Real.tanh (inner (conv U W B r (ga k))) : EReal) := by
  pointwise [val_main_v38, val_main_v37, val_main_v36, val_main_v35, val_main_v34, val_main_v33, val_main_v29, val_main_v28, val_main_cst_2, val_main_cst_3]
  simp only [g_real a, ccR, caR, ← EReal.coe_mul, ← EReal.coe_add, Ideal.tanh_coe]
  rfl

theorem half_real (r : Fin 4096) (k : Fin 2816) : val_main_v47 (F := Ideal) x0 x1 x2 (ix2 r k) = (half (conv U W B r (ga k)) : EReal) := by
  pointwise [val_main_v47, val_main_v46, val_main_v45, val_main_v44, val_main_cst_6, val_main_cst_7]
  simp only [tanh_real a, chalf, ← EReal.coe_one, ← EReal.coe_mul, ← EReal.coe_add, half_eq]

theorem da_real (r : Fin 4096) (k : Fin 2816) : val_main_v51 (F := Ideal) x0 x1 x2 x3 (ix2 r k)
    = ((D r k * (conv U W B r (ga k) * half (conv U W B r (ga k))) : ℝ) : EReal) := by
  pointwise [val_main_v51, val_main_v50, val_main_v48]
  simp only [g_real a, half_real a, a.h3, ← EReal.coe_mul]
  rw [mul_comm]

theorem p_real (r : Fin 4096) (k : Fin 2816) : val_main_v52 (F := Ideal) x0 x1 x2 x3 (ix2 r k) = ((D r k * conv U W B r (va k) : ℝ) : EReal) := by
  pointwise [val_main_v52, val_main_v50]
  simp only [a_real a, a.h3, ← EReal.coe_mul]

theorem s_real (r : Fin 4096) (k : Fin 2816) : val_main_v59 (F := Ideal) x0 x1 x2 x3 (ix2 r k)
    = ((cR * (1 / 2 * (conv U W B r (ga k) * (D r k * conv U W B r (va k))) *
      ((1 + Real.tanh (inner (conv U W B r (ga k)))) * (1 - Real.tanh (inner (conv U W B r (ga k)))))) : ℝ) : EReal) := by
  pointwise [val_main_v59, val_main_v58, val_main_v57, val_main_v56, val_main_v55, val_main_v53, val_main_v43, val_main_v42, val_main_v41, val_main_v40,
    val_main_v39, val_main_cst_4, val_main_cst_5, val_main_cst_8, val_main_cst_9]
  simp only [g_real a, p_real a, tanh_real a, chalf, ccR, ← EReal.coe_one, ← EReal.coe_mul, ← EReal.coe_add, ← EReal.coe_sub]

theorem dg_real (r : Fin 4096) (k : Fin 2816) : val_main_v64 (F := Ideal) x0 x1 x2 x3 (ix2 r k)
    = ((D r k * conv U W B r (va k) * dgelu (conv U W B r (ga k)) : ℝ) : EReal) := by
  rw [← gather]
  pointwise [val_main_v64, val_main_v63, val_main_v62, val_main_v61, val_main_v60, val_main_v54, val_main_v32, val_main_v31, val_main_v30, val_main_cst_1, val_main_cst_10]
  simp only [g_real a, p_real a, s_real a, half_real a, cthree, caR, ← EReal.coe_mul, ← EReal.coe_add]

/-- The cotangent of the convolution's output: the two halves of its columns, each padded by the other's zeros. -/
theorem dy_real (r : Fin 4096) (k : Fin 5632) : val_main_v67 (F := Ideal) x0 x1 x2 x3 (ix2 r k) = (dy (conv U W B) D r k : EReal) := by
  unfold dy
  have hv : val_main_v67 (F := Ideal) x0 x1 x2 x3 (ix2 r k) = val_main_v65 (F := Ideal) x0 x1 x2 x3 (ix2 r k) + val_main_v66 (F := Ideal) x0 x1 x2 x3 (ix2 r k) := rfl
  rw [hv]
  by_cases h : k.val < 2816
  · rw [dif_pos h]
    have e1 : val_main_v65 (F := Ideal) x0 x1 x2 x3 (ix2 r k) = 0 := by
      refine Eq.trans (pad_apply_of_not_inside (s := S4096x2816) (t := S4096x5632) ![0, 2816] ![0, 0] ![0, 0] _ _ _ _ (ix2 r k) 1 fun hin => ?_) ?_
      · have h1 : 2816 ≤ k.val := hin.1
        omega
      · pointwise [val_main_cst_11]
    have e2 : val_main_v66 (F := Ideal) x0 x1 x2 x3 (ix2 r k) = ((D r ⟨k.val, h⟩ * (conv U W B r (ga ⟨k.val, h⟩) * half (conv U W B r (ga ⟨k.val, h⟩))) : ℝ) : EReal) := by
      refine Eq.trans (pad_apply_of_inside (s := S4096x2816) (t := S4096x5632) ![0, 0] ![0, 2816] ![0, 0] _ _ _ _ (ix2 r k) (ix2 r (⟨k.val, h⟩ : Fin 2816)) fun b => ?_) (da_real a _ _)
      match b with
      | ⟨0, _⟩ => show r.val = 0 + r.val * 1; omega
      | ⟨1, _⟩ => show k.val = 0 + k.val * 1; omega
    rw [e1, e2, zero_add]
    rfl
  · rw [dif_neg h]
    have e1 : val_main_v66 (F := Ideal) x0 x1 x2 x3 (ix2 r k) = 0 := by
      refine Eq.trans (pad_apply_of_not_inside (s := S4096x2816) (t := S4096x5632) ![0, 0] ![0, 2816] ![0, 0] _ _ _ _ (ix2 r k) 1 fun hin => ?_) ?_
      · have h1 : (k.val - 0) / 1 < 2816 := hin.2.2
        omega
      · pointwise [val_main_cst_12]
    have e2 : val_main_v65 (F := Ideal) x0 x1 x2 x3 (ix2 r k) = ((D r ⟨k.val - 2816, by omega⟩ * conv U W B r (va ⟨k.val - 2816, by omega⟩) *
        dgelu (conv U W B r (ga ⟨k.val - 2816, by omega⟩)) : ℝ) : EReal) := by
      refine Eq.trans (pad_apply_of_inside (s := S4096x2816) (t := S4096x5632) ![0, 2816] ![0, 0] ![0, 0] _ _ _ _ (ix2 r k) (ix2 r (⟨k.val - 2816, by omega⟩ : Fin 2816)) fun b => ?_) (dg_real a _ _)
      match b with
      | ⟨0, _⟩ => show r.val = 0 + r.val * 1; omega
      | ⟨1, _⟩ => show k.val = 2816 + (k.val - 2816) * 1; omega
    rw [e1, e2, add_zero]
    have e3 : ga ⟨k.val - 2816, by omega⟩ = k := Fin.ext (by show k.val - 2816 + 2816 = k.val; omega)
    rw [e3]
    rfl

/-- The offset's gradient. -/
theorem db_real (k : Fin 5632) : val_main_v90 (F := Ideal) x0 x1 x2 x3 (ix1 k) = ((∑ r, dy (conv U W B) D r k : ℝ) : EReal) := by
  pointwise [val_main_v90, val_main_v89, val_main_v88, val_main_cst_21, val_main_cst_22]
  simp only [dy_real a, coe_sum, zero_add, Fin.sum_univ_one]

/-- The filter's gradient, row by row. -/
theorem dw2_real (k : Fin 5632) : val_main_v74 (F := Ideal) x0 x1 x2 x3 (ix2 0 k) = ((∑ r, U r k * dy (conv U W B) D r k : ℝ) : EReal) := by
  pointwise [val_main_v74, val_main_v73, val_main_v70, val_main_v69, val_main_v68, val_main_cst_13, val_main_cst_14]
  simp only [dy_real a, up0_real a, ← EReal.coe_mul, coe_sum, zero_add, Fin.sum_univ_one]

theorem dw1_real (k : Fin 5632) : val_main_v83 (F := Ideal) x0 x1 x2 x3 (ix2 0 k)
    = ((∑ r, behind 1 (fun r => U r k) r * dy (conv U W B) D r k : ℝ) : EReal) := by
  pointwise [val_main_v83, val_main_v82, val_main_v79, val_main_v78, val_main_v77, val_main_cst_17, val_main_cst_18]
  simp only [dy_real a, up1_real a, ← EReal.coe_mul, coe_sum, zero_add, Fin.sum_univ_one]

theorem dw0_real (k : Fin 5632) : val_main_v97 (F := Ideal) x0 x1 x2 x3 (ix2 0 k)
    = ((∑ r, behind 2 (fun r => U r k) r * dy (conv U W B) D r k : ℝ) : EReal) := by
  pointwise [val_main_v97, val_main_v96, val_main_v93, val_main_v92, val_main_v91, val_main_cst_23, val_main_cst_24]
  simp only [dy_real a, up2_real a, ← EReal.coe_mul, coe_sum, zero_add, Fin.sum_univ_one]

omit a in
theorem zeros (j : S_.Idx) : constant (F := Ideal) S_ .f32 0x00000000#32 j = 0 := by
  pointwise

theorem dw_real (j : Fin 3) (k : Fin 5632) : val_main_v99 (F := Ideal) x0 x1 x2 x3 (ix2 j k) = (dwR U W B D j k : EReal) := by
  have hv : val_main_v99 (F := Ideal) x0 x1 x2 x3 (ix2 j k) = (val_main_v75 (F := Ideal) x0 x1 x2 x3 (ix2 j k) + val_main_v84 (F := Ideal) x0 x1 x2 x3 (ix2 j k))
    + val_main_v98 (F := Ideal) x0 x1 x2 x3 (ix2 j k) := rfl
  have p2 := pad_rows (val_main_v74 (F := Ideal) x0 x1 x2 x3) (val_main_cst_15 (F := Ideal)) zeros pads_S1x5632_S3x5632_200_000 h_S_ j k
  have p1 := pad_rows (val_main_v83 (F := Ideal) x0 x1 x2 x3) (val_main_cst_19 (F := Ideal)) zeros pads_S1x5632_S3x5632_110_000 h_S_ j k
  have p0 := pad_rows (val_main_v97 (F := Ideal) x0 x1 x2 x3) (val_main_cst_25 (F := Ideal)) zeros pads_S1x5632_S3x5632_020_000 h_S_ j k
  refine hv.trans ((congrArg₂ (· + ·) (congrArg₂ (· + ·) p2 p1) p0).trans ?_)
  unfold dwR
  match j with
  | ⟨0, _⟩ =>
    rw [dif_neg (by show ¬(2 ≤ 0 ∧ _); omega), dif_neg (by show ¬(1 ≤ 0 ∧ _); omega), dif_pos (by show 0 ≤ 0 ∧ 0 - 0 < 1; omega)]
    simp only [zero_add]
    exact dw0_real a k
  | ⟨1, _⟩ =>
    rw [dif_neg (by show ¬(2 ≤ 1 ∧ _); omega), dif_pos (by show 1 ≤ 1 ∧ 1 - 1 < 1; omega), dif_neg (by show ¬(0 ≤ 1 ∧ 1 - 0 < 1); omega)]
    simp only [zero_add, add_zero]
    exact dw1_real a k
  | ⟨2, _⟩ =>
    rw [dif_pos (by show 2 ≤ 2 ∧ 2 - 2 < 1; omega), dif_neg (by show ¬(1 ≤ 2 ∧ 2 - 1 < 1); omega), dif_neg (by show ¬(0 ≤ 2 ∧ 2 - 0 < 1); omega)]
    simp only [add_zero]
    refine (dw2_real a k).trans (congrArg _ (Finset.sum_congr rfl fun r _ => ?_))
    show _ = behind 0 _ r * _
    rw [behind_zero]

/-- The three terms of the input's gradient. -/
theorem du2_real (r : Fin 4096) (k : Fin 5632) : val_main_v72 (F := Ideal) x0 x1 x2 x3 (ix2 r k) = ((W 2 k * dy (conv U W B) D r k : ℝ) : EReal) := by
  pointwise [val_main_v72, val_main_v71, val_main_v22, val_main_v21, val_main_v20]
  rw [dy_real a, a.h1 2 k, ← EReal.coe_mul, mul_comm]

theorem du1_real (r : Fin 4096) (k : Fin 5632) : val_main_v81 (F := Ideal) x0 x1 x2 x3 (ix2 r k) = ((W 1 k * dy (conv U W B) D r k : ℝ) : EReal) := by
  pointwise [val_main_v81, val_main_v80, val_main_v15, val_main_v14, val_main_v13]
  rw [dy_real a, a.h1 1 k, ← EReal.coe_mul, mul_comm]

theorem du0_real (r : Fin 4096) (k : Fin 5632) : val_main_v95 (F := Ideal) x0 x1 x2 x3 (ix2 r k) = ((W 0 k * dy (conv U W B) D r k : ℝ) : EReal) := by
  pointwise [val_main_v95, val_main_v94, val_main_v6, val_main_v5, val_main_v4]
  rw [dy_real a, a.h1 0 k, ← EReal.coe_mul, mul_comm]

theorem du_real (r : Fin 4096) (k : Fin 5632) : val_main_v103 (F := Ideal) x0 x1 x2 x3 (ix2 r k) = (duR U W B D r k : EReal) := by
  have hr := r.isLt
  have p2 := pad_rows (val_main_v72 (F := Ideal) x0 x1 x2 x3) (val_main_cst_16 (F := Ideal)) zeros pads_S4096x5632_S4098x5632_200_000 h_S_ (⟨r.val + 2, by omega⟩ : Fin 4098) k
  have p1 := pad_rows (val_main_v81 (F := Ideal) x0 x1 x2 x3) (val_main_cst_20 (F := Ideal)) zeros pads_S4096x5632_S4098x5632_110_000 h_S_ (⟨r.val + 2, by omega⟩ : Fin 4098) k
  have p0 := pad_rows (val_main_v95 (F := Ideal) x0 x1 x2 x3) (val_main_cst_26 (F := Ideal)) zeros pads_S4096x5632_S4098x5632_020_000 h_S_ (⟨r.val + 2, by omega⟩ : Fin 4098) k
  have e2 : (val_main_v76 (F := Ideal) x0 x1 x2 x3) (ix2 (⟨r.val + 2, by omega⟩ : Fin 4098) k) = ((W 2 k * dy (conv U W B) D r k : ℝ) : EReal) := by
    refine p2.trans ((dif_pos ⟨by show 2 ≤ r.val + 2; omega, by show r.val + 2 - 2 < 4096; omega⟩).trans ?_)
    exact du2_real a r k
  have e1 : (val_main_v86 (F := Ideal) x0 x1 x2 x3) (ix2 (⟨r.val + 2, by omega⟩ : Fin 4098) k) = ((W 1 k * ahead 1 (fun r => dy (conv U W B) D r k) r : ℝ) : EReal) := by
    refine p1.trans ?_
    unfold ahead
    by_cases h : r.val + 1 < 4096
    · rw [dif_pos h]
      refine (dif_pos ⟨by show 1 ≤ r.val + 2; omega, by show r.val + 2 - 1 < 4096; omega⟩).trans ?_
      exact du1_real a ⟨r.val + 1, h⟩ k
    · rw [dif_neg h, mul_zero]
      refine (dif_neg fun hh => ?_).trans rfl
      have h2 : r.val + 2 - 1 < 4096 := hh.2
      omega
  have e0 : (val_main_v100 (F := Ideal) x0 x1 x2 x3) (ix2 (⟨r.val + 2, by omega⟩ : Fin 4098) k) = ((W 0 k * ahead 2 (fun r => dy (conv U W B) D r k) r : ℝ) : EReal) := by
    refine p0.trans ?_
    unfold ahead
    by_cases h : r.val + 2 < 4096
    · rw [dif_pos h]
      refine (dif_pos ⟨by show 0 ≤ r.val + 2; omega, by show r.val + 2 - 0 < 4096; omega⟩).trans ?_
      exact du0_real a ⟨r.val + 2, h⟩ k
    · rw [dif_neg h, mul_zero]
      refine (dif_neg fun hh => ?_).trans rfl
      have h2 : r.val + 2 - 0 < 4096 := hh.2
      omega
  refine Eq.trans (extractStridedSlice_apply (s := S4098x5632) (t := S4096x5632) ![2, 0] _ slices_S4098x5632_S4096x5632_2_0 (ix2 r k) (ix2 (⟨r.val + 2, by omega⟩ : Fin 4098) k) fun b => ?_)
    ((congrArg₂ (· + ·) (congrArg₂ (· + ·) e2 e1) e0).trans ?_)
  · match b with
    | ⟨0, _⟩ => exact Nat.add_comm _ _
    | ⟨1, _⟩ => exact (Nat.zero_add _).symm
  · simp only [← EReal.coe_add]
    rfl

/-- The three results, with their columns in turns of 256. -/
theorem du_result (r : Fin 4096) (k : Fin 5632) : val_main_v107 (F := Ideal) x0 x1 x2 x3 (ix2 r k) = (duR U W B D r (mixed k) : EReal) := by
  refine Eq.trans ?_ (du_real a r (mixed k))
  unfold val_main_v107 val_main_v106 val_main_v105 val_main_v104
  generalize val_main_v103 (F := Ideal) x0 x1 x2 x3 = X
  pointwise
  rfl

theorem dw_result (j : Fin 3) (k : Fin 5632) : val_main_v110 (F := Ideal) x0 x1 x2 x3 (ix2 j k) = (dwR U W B D j (mixed k) : EReal) := by
  refine Eq.trans ?_ (dw_real a j (mixed k))
  unfold val_main_v110 val_main_v109 val_main_v108
  generalize val_main_v99 (F := Ideal) x0 x1 x2 x3 = X
  pointwise
  rfl

theorem db_result (k : Fin 5632) : val_main_v114 (F := Ideal) x0 x1 x2 x3 (ix2 0 k) = ((∑ r, dy (conv U W B) D r (mixed k) : ℝ) : EReal) := by
  refine Eq.trans ?_ (db_real a (mixed k))
  unfold val_main_v114 val_main_v113 val_main_v112 val_main_v111
  generalize val_main_v90 (F := Ideal) x0 x1 x2 x3 = X
  pointwise
  rfl

end Cert.ConvRefIdeal.Ref

end
-- ==== Proof.ConvValue.lean ====
/- The convolution and gate's call and its reference, both as the same real numbers. -/
module

public import proofs.«01_k».proof.Proof.Finite
public import proofs.«01_k».proof.Proof.ConvInputs
public import proofs.«01_k».proof.Proof.ConvBlock
public import proofs.«01_k».proof.Proof.ConvRef

@[expose] public section

set_option maxRecDepth 16384

noncomputable section

namespace Cert.ConvIdeal.Result

open Cert.ConvIdeal Cert.ConvIdeal.Gen Cert.ConvIdeal.Steps Cert.ConvIdeal.Arrays Cert.ConvIdeal.Inputs Cert.ConvIdeal.Block
open Cert.LnReal Cert.ConvReal Idealize.ShloMosaic Idealize.ShloMosaic.TcCoe Idealize.SL.Sem
open Cert.ConvRefIdeal.Ref (Args)

/-- The host's convolution over real numbers. -/
theorem yHost_real {u : FVec Ideal S4096x5632 .f32} {w : FVec Ideal S3x5632 .f32} {b : FVec Ideal S5632 .f32}
    {U : Fin 4096 → Fin 5632 → ℝ} {W : Fin 3 → Fin 5632 → ℝ} {B : Fin 5632 → ℝ} (hu : ∀ i k, u (ix2 i k) = (U i k : EReal))
    (hw : ∀ j k, w (ix2 j k) = (W j k : EReal)) (hb : ∀ k, b (ix1 k) = (B k : EReal)) (r : Fin 4096) (k : Fin 5632) :
    yHost u w b (ix2 r k) = (conv U W B r k : EReal) := by
  have hz : ∀ j, zero (F := Ideal) j = 0 := fun j => by
    show (((0#32 : BitVec 32).toInt : ℝ) : EReal) = 0
    simp
  have p2 := pad_rows u (zero (F := Ideal)) hz pads_S4096x5632_S4098x5632_200_000 h_S_ (⟨r.val, by omega⟩ : Fin 4098) k
  have p1 := pad_rows u (zero (F := Ideal)) hz pads_S4096x5632_S4097x5632_100_000 h_S_ (⟨r.val, by omega⟩ : Fin 4097) k
  have p0 := pad_rows u (zero (F := Ideal)) hz pads_S4096x5632_S4096x5632_000_000 h_S_ r k
  have e2 : (if hi : 2 ≤ r.val ∧ r.val - 2 < 4096 then u (ix2 ⟨r.val - 2, hi.2⟩ k) else 0) = (behind 2 (fun r => U r k) r : EReal) := by
    unfold behind
    by_cases h : 2 ≤ r.val
    · rw [dif_pos ⟨h, by omega⟩, if_pos h, hu]
    · rw [dif_neg fun hh => h hh.1, if_neg h]; rfl
  have e1 : (if hi : 1 ≤ r.val ∧ r.val - 1 < 4096 then u (ix2 ⟨r.val - 1, hi.2⟩ k) else 0) = (behind 1 (fun r => U r k) r : EReal) := by
    unfold behind
    by_cases h : 1 ≤ r.val
    · rw [dif_pos ⟨h, by omega⟩, if_pos h, hu]
    · rw [dif_neg fun hh => h hh.1, if_neg h]; rfl
  have e0 : (if hi : 0 ≤ r.val ∧ r.val - 0 < 4096 then u (ix2 ⟨r.val - 0, hi.2⟩ k) else 0) = (U r k : EReal) := by
    rw [dif_pos ⟨Nat.zero_le _, r.isLt⟩, hu]; rfl
  unfold yHost term
  replace p2 := p2.trans e2
  replace p1 := p1.trans e1
  replace p0 := p0.trans e0
  generalize hq2 : pad S4098x5632 ![2, 0] ![0, 0] ![0, 0] u zero pads_S4096x5632_S4098x5632_200_000 h_S_ = P2
  generalize hq1 : pad S4097x5632 ![1, 0] ![0, 0] ![0, 0] u zero pads_S4096x5632_S4097x5632_100_000 h_S_ = P1
  generalize hq0 : pad S4096x5632 ![0, 0] ![0, 0] ![0, 0] u zero pads_S4096x5632_S4096x5632_000_000 h_S_ = P0
  have P2e : P2 (ix2 (⟨r.val, by omega⟩ : Fin 4098) k) = (behind 2 (fun r => U r k) r : EReal) := by rw [← hq2]; exact p2
  have P1e : P1 (ix2 (⟨r.val, by omega⟩ : Fin 4097) k) = (behind 1 (fun r => U r k) r : EReal) := by rw [← hq1]; exact p1
  have P0e : P0 (ix2 r k) = (U r k : EReal) := by rw [← hq0]; exact p0
  pointwise
  simp only [P0e, hw, hb, zero_add]
  refine (congrArg₂ (· + ·) rfl (congrArg₂ (· + ·) (congrArg₂ (· + ·) (congrArg (_ * ·) P2e) (congrArg (_ * ·) P1e)) rfl)).trans ?_
  simp only [← EReal.coe_mul, ← EReal.coe_add]
  exact congrArg _ (by unfold conv; ring)

variable (m : (ℓ : Loc nD τ sig) → Buf (Elt Ideal) ℓ) (c : Dev nD)

/-- The arguments hold the real numbers `U`, `W`, `B`, `D`. -/
abbrev Holds (U : Fin 4096 → Fin 5632 → ℝ) (W : Fin 3 → Fin 5632 → ℝ) (B : Fin 5632 → ℝ) (D : Fin 4096 → Fin 2816 → ℝ) : Prop :=
  Args (m ((c : Thread nD τ).loc main_arg0)) (m ((c : Thread nD τ).loc main_arg1)) (m ((c : Thread nD τ).loc main_arg2))
    (m ((c : Thread nD τ).loc main_arg3)) U W B D

variable {m c} {U : Fin 4096 → Fin 5632 → ℝ} {W : Fin 3 → Fin 5632 → ℝ} {B : Fin 5632 → ℝ} {D : Fin 4096 → Fin 2816 → ℝ}
variable (a : Holds m c U W B D)

/-- The row of the whole array that stands at row `r` of a tile and the rows that follow it. -/
def rowA (t : Fin cfg0.N) (r : Fin 1040) : Fin 4096 := if h : r.val < 1024 then row t ⟨r.val, h⟩ else hrow t ⟨r.val - 1024, by omega⟩

/-- A tile of the convolution's output and of the gate's cotangent, with the rows that follow; past the last row the cotangent is zero. -/
def Yt (U : Fin 4096 → Fin 5632 → ℝ) (W : Fin 3 → Fin 5632 → ℝ) (B : Fin 5632 → ℝ) (t : Fin cfg0.N) (r : Fin 1040) (q : Fin 512) : ℝ :=
  conv U W B (rowA t r) (mixed (col t q))
def Dt (D : Fin 4096 → Fin 2816 → ℝ) (t : Fin cfg0.N) (r : Fin 1040) (q : Fin 256) : ℝ :=
  if r.val < 1024 ∨ t.val % 4 ≠ 3 then D (rowA t r) (dcol t q) else 0

include a

theorem y_block (t : Fin cfg0.N) (r : Fin 1040) (q : Fin 512) : k0_pay6 (iblk m c 1 t) (iblk m c 2 t) (ix2 r q) = (Yt U W B t r q : EReal) := by
  show concatenate S1040x512 0 [⟨S1024x512, shapeCast S1024x512 (iblk m c 1 t : FVec Ideal S1024x512 .f32) shapeCasts_S1024x512_S1024x512⟩,
    ⟨S16x512, shapeCast S16x512 (iblk m c 2 t : FVec Ideal S16x512 .f32) shapeCasts_S16x512_S16x512⟩] concatenates_S1024x512_S16x512_S1040x512_d0 (ix2 r q) = _
  unfold Yt rowA
  by_cases h : r.val < 1024
  · rw [dif_pos h]
    refine Eq.trans (concatenate_pair_apply_left (s₁ := S1024x512) (s₂ := S16x512) 0 _ _ _ (ix2 r q) rfl (ix2 (⟨r.val, h⟩ : Fin 1024) q) fun b => ?_) ?_
    · match b with
      | ⟨0, _⟩ => rfl
      | ⟨1, _⟩ => rfl
    · refine (congrFun (shapeCast_self (s := S1024x512) (α := EReal) (iblk m c 1 t) _) _).trans ((in_y m c t ⟨r.val, h⟩ q).trans ?_)
      exact yHost_real a.h0 a.h1 a.h2 _ _
  · rw [dif_neg h]
    refine Eq.trans (concatenate_pair_apply_right (s₁ := S1024x512) (s₂ := S16x512) 0 _ _ _ (ix2 r q) rfl rfl (ix2 (⟨r.val - 1024, by omega⟩ : Fin 16) q) (fun b hb => ?_) ?_) ?_
    · match b with
      | ⟨0, _⟩ => exact absurd rfl hb
      | ⟨1, _⟩ => rfl
    · show r.val - 1024 + 1024 = r.val; omega
    · refine (congrFun (shapeCast_self (s := S16x512) (α := EReal) (iblk m c 2 t) _) _).trans ((in_yh m c t ⟨r.val - 1024, by omega⟩ q).trans ?_)
      exact yHost_real a.h0 a.h1 a.h2 _ _

theorem d_block (t : Fin cfg0.N) (r : Fin 1040) (q : Fin 256) : dB m c t (ix2 r q) = (Dt D t r q : EReal) := by
  show concatenate S1040x256 0 [⟨S1024x256, extf .f32 (iblk m c 3 t : FVec Ideal S1024x256 .bf16) bitsLt_bf16_f32⟩,
    ⟨S16x256, Scalar.select (Scalar.cmpi .eq (BitVec.ofNat 32 (grid0.coords t 1).val) 3#32) (broadcast S16x256 (Scalar.ofBits (F := Ideal) .f32 0x00000000#32))
      (extf .f32 (iblk m c 4 t : FVec Ideal S16x256 .bf16) bitsLt_bf16_f32)⟩] concatenates_S1024x256_S16x256_S1040x256_d0 (ix2 r q) = _
  rw [coord t]
  unfold Dt rowA
  by_cases h : r.val < 1024
  · rw [dif_pos h, if_pos (Or.inl h)]
    refine Eq.trans (concatenate_pair_apply_left (s₁ := S1024x256) (s₂ := S16x256) 0 _ _ _ (ix2 r q) rfl (ix2 (⟨r.val, h⟩ : Fin 1024) q) fun b => ?_) ?_
    · match b with
      | ⟨0, _⟩ => rfl
      | ⟨1, _⟩ => rfl
    · exact (in_d m c t ⟨r.val, h⟩ q).trans (a.h3 _ _)
  · rw [dif_neg h]
    refine Eq.trans (concatenate_pair_apply_right (s₁ := S1024x256) (s₂ := S16x256) 0 _ _ _ (ix2 r q) rfl rfl (ix2 (⟨r.val - 1024, by omega⟩ : Fin 16) q) (fun b hb => ?_) ?_) ?_
    · match b with
      | ⟨0, _⟩ => exact absurd rfl hb
      | ⟨1, _⟩ => rfl
    · show r.val - 1024 + 1024 = r.val; omega
    · by_cases h3 : t.val % 4 = 3
      · rw [if_neg fun hh => hh.elim h fun e => e h3, h3]
        show Ideal.ofBits .f32 0x00000000#32 = _
        rw [Ideal.ofBits_zero_f32]
        rfl
      · rw [if_pos (Or.inr h3)]
        have hs : Scalar.cmpi .eq (BitVec.ofNat 32 (t.val % 4)) 3#32 = 0#1 := by
          have h4 : t.val % 4 < 4 := Nat.mod_lt _ (by omega)
          generalize t.val % 4 = n at h3 h4
          interval_cases n <;> first | rfl | exact absurd rfl h3
        rw [hs]
        exact (in_dh m c t ⟨r.val - 1024, by omega⟩ q).trans (a.h3 _ _)

omit a in
/-- The block's cotangent of the convolution's output is the whole array's, and zero past its last row. -/
theorem dyB_eq (t : Fin cfg0.N) (r : Fin 1024) (s : ℕ) (hs : s ≤ 2) (q : Fin 512) : dyB (Yt U W B t) (Dt D t) ⟨r.val + s, by omega⟩ q
    = ahead s (fun i => dy (conv U W B) D i (mixed (col t q))) (row t r) := by
  have hN : cfg0.N = 44 := N_0
  have ht := t.isLt
  unfold ahead
  have hrow : (row t r).val = t.val % 4 * 1024 + r.val := rfl
  by_cases h : (row t r).val + s < 4096
  · rw [dif_pos h]
    have hA : rowA t ⟨r.val + s, by omega⟩ = ⟨(row t r).val + s, h⟩ := by
      unfold rowA
      by_cases h1 : r.val + s < 1024
      · rw [dif_pos h1]; exact Fin.ext (by show t.val % 4 * 1024 + (r.val + s) = t.val % 4 * 1024 + r.val + s; omega)
      · rw [dif_neg h1]
        exact Fin.ext (by show min ((t.val % 4 + 1) * 64) 255 * 16 + (r.val + s - 1024) = t.val % 4 * 1024 + r.val + s; omega)
    have hD : ∀ p, Dt D t ⟨r.val + s, by omega⟩ p = D ⟨(row t r).val + s, h⟩ (dcol t p) := fun p => by
      unfold Dt
      rw [if_pos (by show r.val + s < 1024 ∨ _; omega), hA]
    have hY : ∀ p, Yt U W B t ⟨r.val + s, by omega⟩ p = conv U W B ⟨(row t r).val + s, h⟩ (mixed (col t p)) := fun p => by
      unfold Yt
      rw [hA]
    unfold dyB dy
    simp only [hD, hY]
    have hc : (col t q).val = t.val / 4 * 512 + q.val := rfl
    have hm : (mixed (col t q)).val = (col t q).val / 256 % 2 * 2816 + (col t q).val / 512 * 256 + (col t q).val % 256 := rfl
    by_cases hq : q.val < 256
    · have hq' : (mixed (col t q)).val < 2816 := by omega
      rw [dif_pos hq, dif_pos hq']
      have e1 : dcol t ⟨q.val, hq⟩ = ⟨(mixed (col t q)).val, hq'⟩ := Fin.ext (by show t.val / 4 * 256 + q.val = (mixed (col t q)).val; omega)
      have e2 : mixed (col t (hi ⟨q.val, hq⟩)) = ⟨(mixed (col t q)).val + 2816, by omega⟩ := Fin.ext (by
        show (t.val / 4 * 512 + (q.val + 256)) / 256 % 2 * 2816 + (t.val / 4 * 512 + (q.val + 256)) / 512 * 256 + (t.val / 4 * 512 + (q.val + 256)) % 256 = (mixed (col t q)).val + 2816
        omega)
      rw [e1, e2]
    · have hq' : ¬(mixed (col t q)).val < 2816 := by omega
      rw [dif_neg hq, dif_neg hq']
      have e1 : dcol t ⟨q.val - 256, by omega⟩ = ⟨(mixed (col t q)).val - 2816, by omega⟩ := Fin.ext (by show t.val / 4 * 256 + (q.val - 256) = (mixed (col t q)).val - 2816; omega)
      have e2 : mixed (col t (lo ⟨q.val - 256, by omega⟩)) = ⟨(mixed (col t q)).val - 2816, by omega⟩ := Fin.ext (by
        show (t.val / 4 * 512 + (q.val - 256)) / 256 % 2 * 2816 + (t.val / 4 * 512 + (q.val - 256)) / 512 * 256 + (t.val / 4 * 512 + (q.val - 256)) % 256 = (mixed (col t q)).val - 2816
        omega)
      rw [e1, e2]
  · rw [dif_neg h]
    have hD : ∀ p, Dt D t ⟨r.val + s, by omega⟩ p = 0 := fun p => by
      unfold Dt
      rw [if_neg (by show ¬(r.val + s < 1024 ∨ t.val % 4 ≠ 3); omega)]
    unfold dyB
    simp only [hD, zero_mul]
    split <;> rfl

theorem w_block (t : Fin cfg0.N) (q : Fin 512) : View.ld (iblk m c 5 t) row0 (ix2 0 q) = (W 0 (mixed (col t q)) : EReal) ∧
    View.ld (iblk m c 5 t) row1 (ix2 0 q) = (W 1 (mixed (col t q)) : EReal) ∧ View.ld (iblk m c 5 t) row2 (ix2 0 q) = (W 2 (mixed (col t q)) : EReal) := by
  have h := ld_at (iblk m c 5 t : Vec Ideal S3x512 .f32) q
  exact ⟨h.1.trans ((in_w m c t 0 q).trans (a.h1 _ _)), h.2.1.trans ((in_w m c t 1 q).trans (a.h1 _ _)), h.2.2.trans ((in_w m c t 2 q).trans (a.h1 _ _))⟩

theorem u_block (t : Fin cfg0.N) (r : Fin 1024) (q : Fin 512) : iblk m c 0 t (ix2 r q) = (U (row t r) (mixed (col t q)) : EReal) :=
  (in_u m c t r q).trans (a.h0 _ _)

theorem du_block (t : Fin cfg0.N) (r : Fin 1024) (q : Fin 512) : du m c t (ix2 r q) = (duR U W B D (row t r) (mixed (col t q)) : EReal) := by
  refine (pay18_real (iblk m c 1 t) (iblk m c 2 t) _ (y_block a t) (dB m c t) _ (d_block a t) _ _ _ (fun k q => W k (mixed (col t q)))
    (fun q => (w_block a t q).1) (fun q => (w_block a t q).2.1) (fun q => (w_block a t q).2.2) r q).trans (congrArg _ ?_)
  unfold duR
  rw [dyB_eq t r 1 (by omega) q, dyB_eq t r 2 (by omega) q, ← ahead_zero (fun i => dy (conv U W B) D i (mixed (col t q))) (row t r), ← dyB_eq t r 0 (by omega) q]
  rfl

/-- What one point adds to a row of the filter's gradient. -/
def dwT (U : Fin 4096 → Fin 5632 → ℝ) (W : Fin 3 → Fin 5632 → ℝ) (B : Fin 5632 → ℝ) (D : Fin 4096 → Fin 2816 → ℝ) (t : Fin cfg0.N) (k : Fin 3) (q : Fin 512) : ℝ :=
  ∑ r : Fin 1024, ahead (2 - k.val) (fun i => dy (conv U W B) D i (mixed (col t q))) (row t r) * U (row t r) (mixed (col t q))

theorem dw_block (t : Fin cfg0.N) (Z : Vec Ideal S3x512 .f32) (R : Fin 3 → Fin 512 → ℝ) (hZ : ∀ k q, Z (ix2 k q) = (R k q : EReal))
    (L : List (View.Piece (Elt Ideal) S3x512 .f32)) (k : Fin 3) (q : Fin 512) :
    View.canon (⟨row2, dw2 m c t (View.ld Z row2)⟩ :: ⟨row1, dw1 m c t (View.ld Z row1)⟩ :: ⟨row0, dw0 m c t (View.ld Z row0)⟩ :: L) (ix2 k q)
      = ((R k q + dwT U W B D t k q : ℝ) : EReal) := by
  have hld := fun q => ld_at Z q
  generalize hX : View.canon (⟨row2, dw2 m c t (View.ld Z row2)⟩ :: ⟨row1, dw1 m c t (View.ld Z row1)⟩ :: ⟨row0, dw0 m c t (View.ld Z row0)⟩ :: L) = X
  have hx := ld_at X q
  match k with
  | ⟨0, _⟩ =>
    refine hx.1.symm.trans ?_
    rw [← hX]
    refine (congrFun (ld_row0 (dw2 m c t (View.ld Z row2)) (dw1 m c t (View.ld Z row1)) (dw0 m c t (View.ld Z row0)) L) (ix2 0 q)).trans ?_
    refine (pay20_real (iblk m c 1 t) (iblk m c 2 t) _ (y_block a t) (dB m c t) _ (d_block a t) (iblk m c 0 t) _ (u_block a t) _ (R 0)
      (fun q => (hld q).1.trans (hZ _ _)) q).trans (congrArg _ (congrArg _ (Finset.sum_congr rfl fun r _ => ?_)))
    rw [dyB_eq t r 2 (by omega) q]
    rfl
  | ⟨1, _⟩ =>
    refine hx.2.1.symm.trans ?_
    rw [← hX]
    refine (congrFun (ld_row1 (dw2 m c t (View.ld Z row2)) (dw1 m c t (View.ld Z row1)) (dw0 m c t (View.ld Z row0)) L) (ix2 0 q)).trans ?_
    refine (pay1_real (iblk m c 1 t) (iblk m c 2 t) _ (y_block a t) (dB m c t) _ (d_block a t) (iblk m c 0 t) _ (u_block a t) _ (R 1)
      (fun q => (hld q).2.1.trans (hZ _ _)) q).trans (congrArg _ (congrArg _ (Finset.sum_congr rfl fun r _ => ?_)))
    rw [dyB_eq t r 1 (by omega) q]
    rfl
  | ⟨2, _⟩ =>
    refine hx.2.2.symm.trans ?_
    rw [← hX]
    refine (congrFun (ld_row2 (dw2 m c t (View.ld Z row2)) (dw1 m c t (View.ld Z row1)) (dw0 m c t (View.ld Z row0)) L) (ix2 0 q)).trans ?_
    refine (pay2_real (iblk m c 1 t) (iblk m c 2 t) _ (y_block a t) (dB m c t) _ (d_block a t) (iblk m c 0 t) _ (u_block a t) _ (R 2)
      (fun q => (hld q).2.2.trans (hZ _ _)) q).trans (congrArg _ (congrArg _ (Finset.sum_congr rfl fun r _ => ?_)))
    exact congrArg (· * _) (dyB_eq t r 0 (by omega) q)

theorem db_block (t : Fin cfg0.N) (acc : Vec Ideal S1x512 .f32) (R : Fin 512 → ℝ) (hR : ∀ q, acc (ix2 0 q) = (R q : EReal)) (q : Fin 512) :
    db m c t acc (ix2 0 q) = ((R q + ∑ r : Fin 1024, dy (conv U W B) D (row t r) (mixed (col t q)) : ℝ) : EReal) := by
  refine (pay3_real (iblk m c 1 t) (iblk m c 2 t) _ (y_block a t) (dB m c t) _ (d_block a t) _ R hR q).trans
    (congrArg _ (congrArg _ (Finset.sum_congr rfl fun r _ => ?_)))
  exact (dyB_eq t r 0 (by omega) q).trans (ahead_zero _ _)

omit a in
/-- The point over block `j` of columns and tile `n` of rows. -/
theorem point_lt (j : Fin 11) {n : ℕ} (h : n < 4) : j.val * 4 + n < cfg0.N := by rw [show cfg0.N = 44 from N_0]; omega

omit a in
theorem row_point (j : Fin 11) (n : Fin 4) (r : Fin 1024) (h : j.val * 4 + n.val < cfg0.N) (hl : n.val * 1024 + r.val < 4096) :
    row ⟨j.val * 4 + n.val, h⟩ r = ⟨n.val * 1024 + r.val, hl⟩ :=
  Fin.ext (by show (j.val * 4 + n.val) % 4 * 1024 + r.val = n.val * 1024 + r.val; omega)

omit a in
theorem col_point (j : Fin 11) (n : Fin 4) (q : Fin 512) (h : j.val * 4 + n.val < cfg0.N) : col ⟨j.val * 4 + n.val, h⟩ q = col (last j) q :=
  Fin.ext (by show (j.val * 4 + n.val) / 4 * 512 + q.val = (j.val * 4 + 3) / 4 * 512 + q.val; omega)

/-- The filter's gradient after a block's last point. -/
theorem dw_total (j : Fin 11) (k : Fin 3) (q : Fin 512) : (outsAt0 m c (last j).val (last j).isLt).2.1 (ix2 k q)
    = (dwR U W B D k (mixed (col (last j) q)) : EReal) := by
  have key := Cert.Finite.running (N := 4) (fun n h (p : Fin 3 × Fin 512) => (outsAt0 m c (j.val * 4 + n) (point_lt j h)).2.1 (ix2 p.1 p.2))
    (fun n p => dwT U W B D ⟨j.val * 4 + n.val, point_lt j n.isLt⟩ p.1 p.2)
    (fun h p => by
      have h0 : (⟨j.val * 4 + 0, point_lt j h⟩ : Fin cfg0.N).val % 4 = 0 := by show (j.val * 4 + 0) % 4 = 0; omega
      refine (congrFun (dw_first m c ⟨j.val * 4 + 0, point_lt j h⟩ h0) (ix2 p.1 p.2)).trans
        ((dw_block a ⟨j.val * 4 + 0, point_lt j h⟩ _ (fun _ _ => 0) (fun k q => ?_) _ p.1 p.2).trans ?_)
      · pointwise [k0_pay4]
        rfl
      · rw [zero_add])
    (fun n h s hs p => by
      have h0 : ¬(⟨j.val * 4 + (n + 1), point_lt j h⟩ : Fin cfg0.N).val % 4 = 0 := by show ¬(j.val * 4 + (n + 1)) % 4 = 0; omega
      exact (congrFun (dw_later m c ⟨j.val * 4 + (n + 1), point_lt j h⟩ h0) (ix2 p.1 p.2)).trans
        (dw_block a ⟨j.val * 4 + (n + 1), point_lt j h⟩ _ (fun k q => s (k, q)) (fun k q => hs (k, q)) _ p.1 p.2))
    3 (by omega) rfl (k, q)
  refine key.trans (congrArg _ ?_)
  unfold dwR
  rw [← sum_ahead]
  exact sum_turns rfl (fun i => ahead (2 - k.val) (fun i => dy (conv U W B) D i (mixed (col (last j) q))) i * U i (mixed (col (last j) q))) (fun (n : Fin 4) (r : Fin 1024) =>
      ahead (2 - k.val) (fun i => dy (conv U W B) D i (mixed (col ⟨j.val * 4 + n.val, point_lt j n.isLt⟩ q))) (row ⟨j.val * 4 + n.val, point_lt j n.isLt⟩ r)
        * U (row ⟨j.val * 4 + n.val, point_lt j n.isLt⟩ r) (mixed (col ⟨j.val * 4 + n.val, point_lt j n.isLt⟩ q)))
    fun n r hl => by rw [row_point j n r _ hl, col_point j n q]

/-- The offset's gradient after a block's last point. -/
theorem db_total (j : Fin 11) (q : Fin 512) : (outsAt0 m c (last j).val (last j).isLt).2.2 (ix2 0 q)
    = ((∑ i, dy (conv U W B) D i (mixed (col (last j) q)) : ℝ) : EReal) := by
  have key := Cert.Finite.running (N := 4) (fun n h q => (outsAt0 m c (j.val * 4 + n) (point_lt j h)).2.2 (ix2 0 q))
    (fun n q => ∑ r : Fin 1024, dy (conv U W B) D (row ⟨j.val * 4 + n.val, point_lt j n.isLt⟩ r) (mixed (col ⟨j.val * 4 + n.val, point_lt j n.isLt⟩ q)))
    (fun h q => by
      have h0 : (⟨j.val * 4 + 0, point_lt j h⟩ : Fin cfg0.N).val % 4 = 0 := by show (j.val * 4 + 0) % 4 = 0; omega
      refine (congrFun (db_first m c ⟨j.val * 4 + 0, point_lt j h⟩ h0) (ix2 0 q)).trans
        ((db_block a ⟨j.val * 4 + 0, point_lt j h⟩ _ (fun _ => 0) (fun q => ?_) q).trans ?_)
      · pointwise [k0_pay5]
        rfl
      · rw [zero_add])
    (fun n h s hs q => by
      have h0 : ¬(⟨j.val * 4 + (n + 1), point_lt j h⟩ : Fin cfg0.N).val % 4 = 0 := by show ¬(j.val * 4 + (n + 1)) % 4 = 0; omega
      exact (congrFun (db_later m c ⟨j.val * 4 + (n + 1), point_lt j h⟩ h0) (ix2 0 q)).trans
        (db_block a ⟨j.val * 4 + (n + 1), point_lt j h⟩ _ s hs q))
    3 (by omega) rfl q
  refine key.trans (congrArg _ ?_)
  exact sum_turns rfl (fun i => dy (conv U W B) D i (mixed (col (last j) q))) (fun (n : Fin 4) (r : Fin 1024) =>
      dy (conv U W B) D (row ⟨j.val * 4 + n.val, point_lt j n.isLt⟩ r) (mixed (col ⟨j.val * 4 + n.val, point_lt j n.isLt⟩ q))) fun n r hl => by rw [row_point j n r _ hl, col_point j n q]

omit a in
/-- Every row and column of the whole array stands in a tile, every column in a block of columns. -/
theorem tile_of (i : Fin 4096) (k : Fin 5632) : ∃ (t : Fin cfg0.N) (r : Fin 1024) (q : Fin 512), row t r = i ∧ col t q = k := by
  have hN : cfg0.N = 44 := N_0
  have h1 := i.isLt
  have h2 := k.isLt
  exact ⟨⟨k.val / 512 * 4 + i.val / 1024, by omega⟩, ⟨i.val % 1024, by omega⟩, ⟨k.val % 512, by omega⟩,
    Fin.ext (by show (k.val / 512 * 4 + i.val / 1024) % 4 * 1024 + i.val % 1024 = i.val; omega),
    Fin.ext (by show (k.val / 512 * 4 + i.val / 1024) / 4 * 512 + k.val % 512 = k.val; omega)⟩

omit a in
theorem column_of (k : Fin 5632) : ∃ (j : Fin 11) (q : Fin 512), col (last j) q = k := by
  have h2 := k.isLt
  exact ⟨⟨k.val / 512, by omega⟩, ⟨k.val % 512, by omega⟩, Fin.ext (by show (k.val / 512 * 4 + 3) / 4 * 512 + k.val % 512 = k.val; omega)⟩

open Cert.ConvRefIdeal.Read

/-- The three arrays that the call returns are the reference's. -/
theorem du_eq : (dats m 0 c).arrAt 6 cfg0.N = val_main_v107 (F := Ideal) (m ((c : Thread nD τ).loc main_arg0)) (m ((c : Thread nD τ).loc main_arg1))
    (m ((c : Thread nD τ).loc main_arg2)) (m ((c : Thread nD τ).loc main_arg3)) := by
  refine funext fun (i : S4096x5632.Idx) => ?_
  obtain ⟨k, j, rfl⟩ : ∃ (k : Fin 4096) (j : Fin 5632), i = ix2 k j := ⟨i 0, i 1, by ext k; fin_cases k <;> rfl⟩
  obtain ⟨t, r, q, rfl, rfl⟩ := tile_of k j
  rw [arr_du m c t r q _ rfl rfl]
  exact (du_block a t r q).trans (Cert.ConvRefIdeal.Ref.du_result a _ _).symm

theorem dw_eq : (dats m 0 c).arrAt 7 cfg0.N = val_main_v110 (F := Ideal) (m ((c : Thread nD τ).loc main_arg0)) (m ((c : Thread nD τ).loc main_arg1))
    (m ((c : Thread nD τ).loc main_arg2)) (m ((c : Thread nD τ).loc main_arg3)) := by
  refine funext fun (i : S3x5632.Idx) => ?_
  obtain ⟨k, j, rfl⟩ : ∃ (k : Fin 3) (j : Fin 5632), i = ix2 k j := ⟨i 0, i 1, by ext k; fin_cases k <;> rfl⟩
  obtain ⟨b, q, rfl⟩ := column_of j
  rw [arr_dw m c b k q _ rfl (by show (b.val * 4 + 3) / 4 * 512 + q.val = _; omega)]
  exact (dw_total a b k q).trans (Cert.ConvRefIdeal.Ref.dw_result a _ _).symm

theorem db_eq : (dats m 0 c).arrAt 8 cfg0.N = val_main_v114 (F := Ideal) (m ((c : Thread nD τ).loc main_arg0)) (m ((c : Thread nD τ).loc main_arg1))
    (m ((c : Thread nD τ).loc main_arg2)) (m ((c : Thread nD τ).loc main_arg3)) := by
  refine funext fun (i : S1x5632.Idx) => ?_
  obtain ⟨k, j, rfl⟩ : ∃ (k : Fin 1) (j : Fin 5632), i = ix2 k j := ⟨i 0, i 1, by ext k; fin_cases k <;> rfl⟩
  obtain rfl : k = 0 := Subsingleton.elim _ _
  obtain ⟨b, q, rfl⟩ := column_of j
  rw [arr_db m c b 0 q _ rfl (by show (b.val * 4 + 3) / 4 * 512 + q.val = _; omega)]
  exact (db_total a b q).trans (Cert.ConvRefIdeal.Ref.db_result a _).symm

end Cert.ConvIdeal.Result

end
-- ==== Proof.ConvClaim.lean ====
/- The claims about the convolution and gate's call: the reference's frame, the named constants, and that the call's three
   results are the reference's. -/
module

public import proofs.«01_k».proof.Defs
public import proofs.«01_k».proof.Proof.ConvValue
public import proofs.«01_k».proof.Proof.Gen.Pre_conv_finite
public import proofs.«01_k».proof.Proof.Gen.ConvRefIdeal.Run
public import Idealize.ShloMosaic.Lib.Quiescent

@[expose] public section

set_option maxRecDepth 16384

noncomputable section

namespace Cert.Proof.Conv

open Idealize.ShloMosaic Idealize.SL.Sem

/-- The reference's frame is what its run says of the arguments and the counters. -/
theorem frame_reference : Cert.quiescent_ConvRefIdeal := fun m ρ _ =>
  (θ_run Cert.ConvRefIdeal.defs _ _).mono (fun r h => ⟨fun c => (h c).2.2.2, sem_eq_zero_of_no_sems (by decide) r.2⟩)
    (Cert.ConvRefIdeal.Value.run m ρ)

/-- Each named constant is rewritten where it stands. -/
theorem preserves : Cert.preserves_Conv_ConvIdeal :=
  ⟨IdealRules.named_const.statement Cert.ConvIdeal.κ "gelu_ca" .f32 0x3D122279#32 _ rfl,
    IdealRules.named_const.statement Cert.ConvIdeal.κ "gelu_6ca" .f32 0x3E5B33B6#32 _ rfl⟩

/-- The precondition says that every argument's entries are real numbers. -/
theorem args (m : (ℓ : Loc Cert.ConvIdeal.nD Cert.ConvIdeal.τ Cert.ConvIdeal.sig) → Buf (Elt Ideal) ℓ) (h : Cert.Pre_ConvIdeal_conv_finite m)
    (c : Dev Cert.ConvIdeal.nD) : Cert.ConvIdeal.Result.Holds m c
      (fun i k => EReal.toReal (m ((c.tc : Thread Cert.ConvIdeal.nD Cert.ConvIdeal.τ).loc Cert.ConvIdeal.main_arg0) (ix2 i k)))
      (fun j k => EReal.toReal (m ((c.tc : Thread Cert.ConvIdeal.nD Cert.ConvIdeal.τ).loc Cert.ConvIdeal.main_arg1) (ix2 j k)))
      (fun k => EReal.toReal (m ((c.tc : Thread Cert.ConvIdeal.nD Cert.ConvIdeal.τ).loc Cert.ConvIdeal.main_arg2) (ix1 k)))
      (fun i k => EReal.toReal (m ((c.tc : Thread Cert.ConvIdeal.nD Cert.ConvIdeal.τ).loc Cert.ConvIdeal.main_arg3) (ix2 i k))) :=
  ⟨fun i k => Cert.Finite.coe_toReal (congrFun (h c).1 (ix2 i k)),
    fun j k => Cert.Finite.coe_toReal (congrFun (h c).2.1 (ix2 j k)),
    fun k => Cert.Finite.coe_toReal (congrFun (h c).2.2.1 (ix1 k)),
    fun i k => Cert.Finite.coe_toReal (congrFun (h c).2.2.2 (ix2 i k))⟩

theorem algebraic : Cert.algebraic_ConvIdeal_ConvRefIdeal_pre_conv_finite := fun m ρ m' ρ' hpre hargs =>
  ⟨fun c => (Cert.ConvIdeal.Gen.dats m 0 c).arrAt 6 Cert.ConvIdeal.cfg0.N,
    fun c => (Cert.ConvIdeal.Gen.dats m 0 c).arrAt 7 Cert.ConvIdeal.cfg0.N,
    fun c => (Cert.ConvIdeal.Gen.dats m 0 c).arrAt 8 Cert.ConvIdeal.cfg0.N,
    Cert.ConvIdeal.Value.run_blocks m ρ,
    (θ_run Cert.ConvRefIdeal.defs _ _).mono (fun r h c => by
      obtain ⟨a0, a1, a2, a3⟩ := hargs c
      have e0 : StableHlo.launchContents m' c (Proc.devRef .tc Cert.ConvRefIdeal.main_arg0) = m ((c.tc : Thread Cert.ConvIdeal.nD Cert.ConvIdeal.τ).loc Cert.ConvIdeal.main_arg0) := a0
      have e1 : StableHlo.launchContents m' c (Proc.devRef .tc Cert.ConvRefIdeal.main_arg1) = m ((c.tc : Thread Cert.ConvIdeal.nD Cert.ConvIdeal.τ).loc Cert.ConvIdeal.main_arg1) := a1
      have e2 : StableHlo.launchContents m' c (Proc.devRef .tc Cert.ConvRefIdeal.main_arg2) = m ((c.tc : Thread Cert.ConvIdeal.nD Cert.ConvIdeal.τ).loc Cert.ConvIdeal.main_arg2) := a2
      have e3 : StableHlo.launchContents m' c (Proc.devRef .tc Cert.ConvRefIdeal.main_arg3) = m ((c.tc : Thread Cert.ConvIdeal.nD Cert.ConvIdeal.τ).loc Cert.ConvIdeal.main_arg3) := a3
      have A := args m hpre c
      obtain ⟨r0, r1, r2, k⟩ := h c
      refine ⟨r0.trans ?_, r1.trans ?_, r2.trans ?_, k⟩
      · rw [Cert.ConvRefIdeal.Read.val_main_v107_eq, e0, e1, e2, e3]; exact (Cert.ConvIdeal.Result.du_eq A).symm
      · rw [Cert.ConvRefIdeal.Read.val_main_v110_eq, e0, e1, e2, e3]; exact (Cert.ConvIdeal.Result.dw_eq A).symm
      · rw [Cert.ConvRefIdeal.Read.val_main_v114_eq, e0, e1, e2, e3]; exact (Cert.ConvIdeal.Result.db_eq A).symm)
    (Cert.ConvRefIdeal.Value.run m' ρ')⟩

end Cert.Proof.Conv

end
-- ==== Proof.PrepSteps.lean ====
/- What one grid point of the latent projections' call leaves in its six output blocks, written head by head with the
   body's own payloads of the eleven blocks that the point reads. -/
module

public import proofs.«01_k».proof.Proof.Gen.PrepIdeal.Frame
public import Idealize.ShloMosaic.Lib.Tactic
public import Idealize.ShloMosaic.Lib.Pointwise
public import Idealize.ShloMosaic.Lib.Pipeline.ValueKit.Tiles
public import Idealize.ShloMosaic.Lib.Pipeline.ReadBack

@[expose] public section

set_option maxRecDepth 16384

noncomputable section

namespace Cert.PrepIdeal.Steps

open Cert.PrepIdeal Cert.PrepIdeal.Gen Idealize.ShloMosaic Idealize.ShloMosaic.TcCoe Idealize.SL.Sem

variable {F : FTy → Type} [FloatOps F]
variable (m : (ℓ : Loc nD τ sig) → Buf (Elt F) ℓ)

theorem hz : (![0, 0] : Fin 2 → Nat) = fun _ => 0 := funext fun a => by fin_cases a <;> rfl
theorem hz3 : (![0, 0, 0] : Fin 3 → Nat) = fun _ => 0 := funext fun a => by fin_cases a <;> rfl

/-- One head's slab of a block: of the cotangents, of the queries' weights, of the keys' and values' weights. -/
abbrev slabD (k : Fin 8) : Rect S8x512x128 := Rect.unit ![k.val, 0, 0] S1x512x128.size fun a => by
  match a with
  | ⟨0, _⟩ => show k.val + 1 ≤ 8; omega
  | ⟨1, _⟩ => show 0 + 512 ≤ 512; omega
  | ⟨2, _⟩ => show 0 + 128 ≤ 128; omega
abbrev slabQ (k : Fin 8) : Rect S8x256x128 := Rect.unit ![k.val, 0, 0] S1x256x128.size fun a => by
  match a with
  | ⟨0, _⟩ => show k.val + 1 ≤ 8; omega
  | ⟨1, _⟩ => show 0 + 256 ≤ 256; omega
  | ⟨2, _⟩ => show 0 + 128 ≤ 128; omega
abbrev slabK (k : Fin 8) : Rect S8x128x128 := Rect.unit ![k.val, 0, 0] S1x128x128.size fun a => by
  match a with
  | ⟨0, _⟩ => show k.val + 1 ≤ 8; omega
  | ⟨1, _⟩ => show 0 + 128 ≤ 128; omega
  | ⟨2, _⟩ => show 0 + 128 ≤ 128; omega

/-- Slabs of two heads do not meet. -/
theorem disjQ : ∀ a b : Fin 8, a ≠ b → LoadRect.disj (slabQ a) (slabQ b).toLoadRect = true := by decide
theorem disjK : ∀ a b : Fin 8, a ≠ b → LoadRect.disj (slabK a) (slabK b).toLoadRect = true := by decide

/-- A slab loaded after the fill of the whole block and after other heads' slabs were stored is the fill's. -/
theorem fillQ (v : View sig .tc .vmem S8x256x128 .f32) (Z : Vec F S8x256x128 .f32) (b : ℕ) (hb : ∀ a, ![b, 0, 0] a + ![1, 256, 128] a ≤ S8x256x128.size a) :
    v.readCov [⟨Rect.unit ![0, 0, 0] ![8, 256, 128] inb_S8x256x128_S8x256x128_0_0_0, Z⟩] (Rect.unit ![b, 0, 0] ![1, 256, 128] hb).toLoadRect =
      View.ld Z (Rect.unit ![b, 0, 0] ![1, 256, 128] hb) :=
  View.readCov_fill (Val := Elt F) v inb_S8x256x128_S8x256x128_0_0_0 Z [] (Rect.unit ![b, 0, 0] ![1, 256, 128] hb) fun a => congrFun hz3 a
theorem skipQ (v : View sig .tc .vmem S8x256x128 .f32) (a b : ℕ) (ha : ∀ i, ![a, 0, 0] i + ![1, 256, 128] i ≤ S8x256x128.size i)
    (hb : ∀ i, ![b, 0, 0] i + ![1, 256, 128] i ≤ S8x256x128.size i) (x : Vec F S1x256x128 .f32) (L : List (View.Piece (Elt F) S8x256x128 .f32)) (h : a ≠ b) :
    v.readCov (⟨Rect.unit ![a, 0, 0] ![1, 256, 128] ha, x⟩ :: L) (Rect.unit ![b, 0, 0] ![1, 256, 128] hb).toLoadRect =
      v.readCov L (Rect.unit ![b, 0, 0] ![1, 256, 128] hb).toLoadRect :=
  View.readCov_skip (Val := Elt F) v (Rect.unit ![a, 0, 0] ![1, 256, 128] ha) x L (Rect.unit ![b, 0, 0] ![1, 256, 128] hb).toLoadRect
    (disjQ ⟨a, ha 0⟩ ⟨b, hb 0⟩ fun e => h (congrArg Fin.val e))

/-- A slab loaded after the fill of the whole block and after other heads' slabs were stored is the fill's. -/
theorem fillK (v : View sig .tc .vmem S8x128x128 .f32) (Z : Vec F S8x128x128 .f32) (b : ℕ) (hb : ∀ a, ![b, 0, 0] a + ![1, 128, 128] a ≤ S8x128x128.size a) :
    v.readCov [⟨Rect.unit ![0, 0, 0] ![8, 128, 128] inb_S8x128x128_S8x128x128_0_0_0, Z⟩] (Rect.unit ![b, 0, 0] ![1, 128, 128] hb).toLoadRect =
      View.ld Z (Rect.unit ![b, 0, 0] ![1, 128, 128] hb) :=
  View.readCov_fill (Val := Elt F) v inb_S8x128x128_S8x128x128_0_0_0 Z [] (Rect.unit ![b, 0, 0] ![1, 128, 128] hb) fun a => congrFun hz3 a
theorem skipK (v : View sig .tc .vmem S8x128x128 .f32) (a b : ℕ) (ha : ∀ i, ![a, 0, 0] i + ![1, 128, 128] i ≤ S8x128x128.size i)
    (hb : ∀ i, ![b, 0, 0] i + ![1, 128, 128] i ≤ S8x128x128.size i) (x : Vec F S1x128x128 .f32) (L : List (View.Piece (Elt F) S8x128x128 .f32)) (h : a ≠ b) :
    v.readCov (⟨Rect.unit ![a, 0, 0] ![1, 128, 128] ha, x⟩ :: L) (Rect.unit ![b, 0, 0] ![1, 128, 128] hb).toLoadRect =
      v.readCov L (Rect.unit ![b, 0, 0] ![1, 128, 128] hb).toLoadRect :=
  View.readCov_skip (Val := Elt F) v (Rect.unit ![a, 0, 0] ![1, 128, 128] ha) x L (Rect.unit ![b, 0, 0] ![1, 128, 128] hb).toLoadRect
    (disjK ⟨a, ha 0⟩ ⟨b, hb 0⟩ fun e => h (congrArg Fin.val e))

/-- The heads in the order of the body. -/
def heads : List (Fin 8) := [0, 1, 2, 3, 4, 5, 6, 7]

/-- The parts of a point that every head uses: the two tables, the two gains, and the two normalised inputs. -/
abbrev ctB (c : Dev nD) (t : Fin cfg0.N) : FVec F S512x128 .f32 := k0_pay8 (iblk m c 6 t)
abbrev stB (c : Dev nD) (t : Fin cfg0.N) : FVec F S512x128 .f32 := k0_pay9 (iblk m c 7 t)
abbrev cqnB (c : Dev nD) (t : Fin cfg0.N) : FVec F S512x256 .bf16 := k0_pay19 (iblk m c 0 t) (iblk m c 1 t)
abbrev cknB (c : Dev nD) (t : Fin cfg0.N) : FVec F S512x128 .bf16 := k0_pay20 (k0_pay18 (iblk m c 0 t) (iblk m c 2 t))

/-- One head's share of the queries' latent cotangent, of the keys' and values', and of the rotated keys'. -/
def cqStep (c : Dev nD) (t : Fin cfg0.N) (acc : FVec F S512x256 .f32) (k : Fin 8) : FVec F S512x256 .f32 :=
  addf acc (matmul dot_S512x128_S256x128_S512x256_1_1_0_0_n_n none (k0_pay22 (ctB m c t) (stB m c t) (View.ld (iblk m c 8 t) (slabD k)))
    (shapeCast S256x128 (View.ld (iblk m c 3 t) (slabQ k)) shapeCasts_S1x256x128_S256x128) (constant S512x256 .f32 0x00000000#32))
def ckStep (c : Dev nD) (t : Fin cfg0.N) (acc : FVec F S512x128 .f32) (k : Fin 8) : FVec F S512x128 .f32 :=
  k0_pay31 acc (k0_pay27 (View.ld (iblk m c 9 t) (slabD k))) (k0_pay28 (View.ld (iblk m c 4 t) (slabK k))) (View.ld (iblk m c 10 t) (slabD k))
    (View.ld (iblk m c 5 t) (slabK k))
def krStep (c : Dev nD) (t : Fin cfg0.N) (acc : FVec F S512x128 .f32) (k : Fin 8) : FVec F S512x128 .f32 :=
  addf acc (k0_pay25 (View.ld (iblk m c 9 t) (slabD k)))

def cqB (c : Dev nD) (t : Fin cfg0.N) : FVec F S512x256 .f32 := heads.foldl (cqStep m c t) (broadcast S512x256 (Scalar.ofBits .f32 0x00000000#32))
def ckB (c : Dev nD) (t : Fin cfg0.N) : FVec F S512x128 .f32 := heads.foldl (ckStep m c t) (broadcast S512x128 (Scalar.ofBits .f32 0x00000000#32))
def krB (c : Dev nD) (t : Fin cfg0.N) : FVec F S512x128 .f32 := heads.foldl (krStep m c t) (broadcast S512x128 (Scalar.ofBits .f32 0x00000000#32))

/-- What point `t` leaves in the block of the input's gradient. -/
abbrev dh (c : Dev nD) (t : Fin cfg0.N) : FVec F S512x512 .bf16 :=
  k0_pay1 (k0_pay16 (iblk m c 0 t)) (k0_pay126 (ctB m c t) (stB m c t) (krB m c t))
    (k0_pay130 (k0_pay10 (iblk m c 1 t)) (k0_pay13 (iblk m c 0 t)) (k0_pay14 (iblk m c 0 t)) (cqB m c t))
    (k0_pay132 (k0_pay11 (iblk m c 2 t)) (k0_pay17 (iblk m c 0 t)) (ckB m c t))

/-- One head's slab of the three weights' gradients after point `t`, and the two gains' gradients, from what was there before. -/
def dwq (c : Dev nD) (t : Fin cfg0.N) (k : Fin 8) (acc : Vec F S1x256x128 .f32) : FVec F S1x256x128 .f32 :=
  k0_pay24 (ctB m c t) (stB m c t) (cqnB m c t) (View.ld (iblk m c 8 t) (slabD k)) acc
def dwk (c : Dev nD) (t : Fin cfg0.N) (k : Fin 8) (acc : Vec F S1x128x128 .f32) : FVec F S1x128x128 .f32 :=
  k0_pay29 (cknB m c t) (k0_pay27 (View.ld (iblk m c 9 t) (slabD k))) acc
def dwv (c : Dev nD) (t : Fin cfg0.N) (k : Fin 8) (acc : Vec F S1x128x128 .f32) : FVec F S1x128x128 .f32 :=
  k0_pay32 (cknB m c t) (View.ld (iblk m c 10 t) (slabD k)) acc
abbrev dgq (c : Dev nD) (t : Fin cfg0.N) (acc : Vec F S1x256 .f32) : FVec F S1x256 .f32 :=
  k0_pay129 (k0_pay127 acc) (k0_pay128 (k0_pay14 (iblk m c 0 t)) (cqB m c t))
abbrev dgk (c : Dev nD) (t : Fin cfg0.N) (acc : Vec F S1x128 .f32) : FVec F S1x128 .f32 :=
  k0_pay131 (k0_pay17 (iblk m c 0 t)) (ckB m c t) acc

/-- Eight slabs, the last head's on top. -/
abbrev piecesQ (x : Fin 8 → Vec F S1x256x128 .f32) : List (View.Piece (Elt F) S8x256x128 .f32) := heads.reverse.map fun k => ⟨slabQ k, x k⟩
abbrev piecesK (x : Fin 8 → Vec F S1x128x128 .f32) : List (View.Piece (Elt F) S8x128x128 .f32) := heads.reverse.map fun k => ⟨slabK k, x k⟩

/-- The first point: the input's gradient. -/
theorem dh_first (c : Dev nD) (t : Fin cfg0.N) (h0 : t.val % 8 = 0) :
    (outsAt0 m c t.val t.isLt).1 = dh m c t := by
  rw [outsAt0_A m c t h0]
  dsimp only
  unfold out0_A_11
  rw [View.read_writes_eq_canon _ _ _ (fun y => cover0_A_11 c (grid0.coords t) _ _ _ _ _ _ _ _ _ _ _ _ _ _ _ _ _ _ _ _ _ _ _ _ _ _ _ _ _ _ _ _ _ _ _ _ _ _ _ _ _ _ _ _ _ _ y)]
  unfold kernelRun0_A
  dsimp only
  sl_unfold_words
  rw [View.canon_unit_zero (S := S512x512) hz]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread,
    View.ld_unit_zero (S := S512x512) hz, View.ld_unit_zero (S := S1x256) hz, View.ld_unit_zero (S := S1x128) hz, View.ld_unit_zero (S := S512x128) hz]
  rfl

/-- The first point: the gradient by the queries' weights. -/
theorem dwq_first (c : Dev nD) (t : Fin cfg0.N) (h0 : t.val % 8 = 0) :
    (outsAt0 m c t.val t.isLt).2.1 = View.canon (piecesQ (fun k => dwq m c t k (View.ld k0_pay2 (slabQ k))) ++ [⟨Rect.unit ![0, 0, 0] S8x256x128.size inb_S8x256x128_S8x256x128_0_0_0, k0_pay2⟩]) := by
  rw [outsAt0_A m c t h0]
  dsimp only
  unfold out0_A_12
  rw [View.read_writes_eq_canon _ _ _ (fun y => cover0_A_12 c (grid0.coords t) _ _ _ _ _ _ _ _ _ _ _ _ _ _ _ _ _ _ _ _ _ _ _ _ _ _ _ _ _ _ _ _ _ _ _ _ _ _ _ _ _ _ _ _ _ _ y)]
  unfold kernelRun0_A
  dsimp only
  sl_unfold_words
  simp (disch := decide) only [skipQ, fillQ, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread,
    View.ld_unit_zero (S := S512x512) hz, View.ld_unit_zero (S := S1x256) hz, View.ld_unit_zero (S := S1x128) hz, View.ld_unit_zero (S := S512x128) hz]
  rfl

/-- The first point: the gradient by the keys' weights. -/
theorem dwk_first (c : Dev nD) (t : Fin cfg0.N) (h0 : t.val % 8 = 0) :
    (outsAt0 m c t.val t.isLt).2.2.1 = View.canon (piecesK (fun k => dwk m c t k (View.ld k0_pay3 (slabK k))) ++ [⟨Rect.unit ![0, 0, 0] S8x128x128.size inb_S8x128x128_S8x128x128_0_0_0, k0_pay3⟩]) := by
  rw [outsAt0_A m c t h0]
  dsimp only
  unfold out0_A_13
  rw [View.read_writes_eq_canon _ _ _ (fun y => cover0_A_13 c (grid0.coords t) _ _ _ _ _ _ _ _ _ _ _ _ _ _ _ _ _ _ _ _ _ _ _ _ _ _ _ _ _ _ _ _ _ _ _ _ _ _ _ _ _ _ _ _ _ _ y)]
  unfold kernelRun0_A
  dsimp only
  sl_unfold_words
  simp (disch := decide) only [skipK, fillK, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread,
    View.ld_unit_zero (S := S512x512) hz, View.ld_unit_zero (S := S1x256) hz, View.ld_unit_zero (S := S1x128) hz, View.ld_unit_zero (S := S512x128) hz]
  rfl

/-- The first point: the gradient by the values' weights. -/
theorem dwv_first (c : Dev nD) (t : Fin cfg0.N) (h0 : t.val % 8 = 0) :
    (outsAt0 m c t.val t.isLt).2.2.2.1 = View.canon (piecesK (fun k => dwv m c t k (View.ld k0_pay4 (slabK k))) ++ [⟨Rect.unit ![0, 0, 0] S8x128x128.size inb_S8x128x128_S8x128x128_0_0_0, k0_pay4⟩]) := by
  rw [outsAt0_A m c t h0]
  dsimp only
  unfold out0_A_14
  rw [View.read_writes_eq_canon _ _ _ (fun y => cover0_A_14 c (grid0.coords t) _ _ _ _ _ _ _ _ _ _ _ _ _ _ _ _ _ _ _ _ _ _ _ _ _ _ _ _ _ _ _ _ _ _ _ _ _ _ _ _ _ _ _ _ _ _ y)]
  unfold kernelRun0_A
  dsimp only
  sl_unfold_words
  simp (disch := decide) only [skipK, fillK, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread,
    View.ld_unit_zero (S := S512x512) hz, View.ld_unit_zero (S := S1x256) hz, View.ld_unit_zero (S := S1x128) hz, View.ld_unit_zero (S := S512x128) hz]
  rfl

/-- The first point: the gradient by the queries' gain. -/
theorem dgq_first (c : Dev nD) (t : Fin cfg0.N) (h0 : t.val % 8 = 0) :
    (outsAt0 m c t.val t.isLt).2.2.2.2.1 = dgq m c t k0_pay5 := by
  rw [outsAt0_A m c t h0]
  dsimp only
  unfold out0_A_15
  rw [View.read_writes_eq_canon _ _ _ (fun y => cover0_A_15 c (grid0.coords t) _ _ _ _ _ _ _ _ _ _ _ _ _ _ _ _ _ _ _ _ _ _ _ _ _ _ _ _ _ _ _ _ _ _ _ _ _ _ _ _ _ _ _ _ _ _ y)]
  unfold kernelRun0_A
  dsimp only
  sl_unfold_words
  rw [View.canon_cons_unit_zero (S := S1x256) hz, View.readCov_unit_zero (S := S1x256) _ hz]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread,
    View.ld_unit_zero (S := S512x512) hz, View.ld_unit_zero (S := S1x256) hz, View.ld_unit_zero (S := S1x128) hz, View.ld_unit_zero (S := S512x128) hz]
  rfl

/-- The first point: the gradient by the keys' and values' gain. -/
theorem dgk_first (c : Dev nD) (t : Fin cfg0.N) (h0 : t.val % 8 = 0) :
    (outsAt0 m c t.val t.isLt).2.2.2.2.2 = dgk m c t k0_pay6 := by
  rw [outsAt0_A m c t h0]
  dsimp only
  unfold out0_A_16
  rw [View.read_writes_eq_canon _ _ _ (fun y => cover0_A_16 c (grid0.coords t) _ _ _ _ _ _ _ _ _ _ _ _ _ _ _ _ _ _ _ _ _ _ _ _ _ _ _ _ _ _ _ _ _ _ _ _ _ _ _ _ _ _ _ _ _ _ y)]
  unfold kernelRun0_A
  dsimp only
  sl_unfold_words
  rw [View.canon_cons_unit_zero (S := S1x128) hz, View.readCov_unit_zero (S := S1x128) _ hz]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread,
    View.ld_unit_zero (S := S512x512) hz, View.ld_unit_zero (S := S1x256) hz, View.ld_unit_zero (S := S1x128) hz, View.ld_unit_zero (S := S512x128) hz]
  rfl

/-- A later point: the input's gradient. -/
theorem dh_later (c : Dev nD) (t : Fin cfg0.N) (h0 : ¬t.val % 8 = 0) :
    (outsAt0 m c t.val t.isLt).1 = dh m c t := by
  rw [outsAt0_B m c t h0]
  dsimp only
  generalize (outsAt0 m c (t.val - 1) (Nat.lt_of_le_of_lt (Nat.sub_le _ _) t.isLt)).2.1 = x12
  generalize (outsAt0 m c (t.val - 1) (Nat.lt_of_le_of_lt (Nat.sub_le _ _) t.isLt)).2.2.1 = x13
  generalize (outsAt0 m c (t.val - 1) (Nat.lt_of_le_of_lt (Nat.sub_le _ _) t.isLt)).2.2.2.1 = x14
  generalize (outsAt0 m c (t.val - 1) (Nat.lt_of_le_of_lt (Nat.sub_le _ _) t.isLt)).2.2.2.2.1 = x15
  generalize (outsAt0 m c (t.val - 1) (Nat.lt_of_le_of_lt (Nat.sub_le _ _) t.isLt)).2.2.2.2.2 = x16
  unfold out0_B_11
  rw [View.read_writes_eq_canon _ _ _ (fun y => cover0_B_11 c (grid0.coords t) _ _ _ _ _ _ _ _ _ _ _ _ _ _ _ _ _ _ _ _ _ _ _ _ _ _ _ _ _ _ _ _ _ _ _ _ _ _ _ _ _ _ _ _ _ _ _ _ _ _ _ y)]
  unfold kernelRun0_B
  dsimp only
  sl_unfold_words
  rw [View.canon_unit_zero (S := S512x512) hz]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_12 t).read_unread, (hs0_13 t).read_unread, (hs0_14 t).read_unread, (hs0_15 t).read_unread, (hs0_16 t).read_unread,
    View.ld_unit_zero (S := S512x512) hz, View.ld_unit_zero (S := S1x256) hz, View.ld_unit_zero (S := S1x128) hz, View.ld_unit_zero (S := S512x128) hz]
  rfl

/-- A later point: the gradient by the queries' weights. -/
theorem dwq_later (c : Dev nD) (t : Fin cfg0.N) (h0 : ¬t.val % 8 = 0) :
    (outsAt0 m c t.val t.isLt).2.1 = View.canon (piecesQ (fun k => dwq m c t k (View.ld (outsAt0 m c (t.val - 1) (Nat.lt_of_le_of_lt (Nat.sub_le _ _) t.isLt)).2.1 (slabQ k))) ++ []) := by
  rw [outsAt0_B m c t h0]
  dsimp only
  generalize (outsAt0 m c (t.val - 1) (Nat.lt_of_le_of_lt (Nat.sub_le _ _) t.isLt)).2.1 = x12
  generalize (outsAt0 m c (t.val - 1) (Nat.lt_of_le_of_lt (Nat.sub_le _ _) t.isLt)).2.2.1 = x13
  generalize (outsAt0 m c (t.val - 1) (Nat.lt_of_le_of_lt (Nat.sub_le _ _) t.isLt)).2.2.2.1 = x14
  generalize (outsAt0 m c (t.val - 1) (Nat.lt_of_le_of_lt (Nat.sub_le _ _) t.isLt)).2.2.2.2.1 = x15
  generalize (outsAt0 m c (t.val - 1) (Nat.lt_of_le_of_lt (Nat.sub_le _ _) t.isLt)).2.2.2.2.2 = x16
  unfold out0_B_12
  rw [View.read_writes_eq_canon _ _ _ (fun y => cover0_B_12 c (grid0.coords t) _ _ _ _ _ _ _ _ _ _ _ _ _ _ _ _ _ _ _ _ _ _ _ _ _ _ _ _ _ _ _ _ _ _ _ _ _ _ _ _ _ _ _ _ _ _ _ _ _ _ _ y)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_12 t).read_unread, (hs0_13 t).read_unread, (hs0_14 t).read_unread, (hs0_15 t).read_unread, (hs0_16 t).read_unread,
    View.ld_unit_zero (S := S512x512) hz, View.ld_unit_zero (S := S1x256) hz, View.ld_unit_zero (S := S1x128) hz, View.ld_unit_zero (S := S512x128) hz]
  rfl

/-- A later point: the gradient by the keys' weights. -/
theorem dwk_later (c : Dev nD) (t : Fin cfg0.N) (h0 : ¬t.val % 8 = 0) :
    (outsAt0 m c t.val t.isLt).2.2.1 = View.canon (piecesK (fun k => dwk m c t k (View.ld (outsAt0 m c (t.val - 1) (Nat.lt_of_le_of_lt (Nat.sub_le _ _) t.isLt)).2.2.1 (slabK k))) ++ []) := by
  rw [outsAt0_B m c t h0]
  dsimp only
  generalize (outsAt0 m c (t.val - 1) (Nat.lt_of_le_of_lt (Nat.sub_le _ _) t.isLt)).2.1 = x12
  generalize (outsAt0 m c (t.val - 1) (Nat.lt_of_le_of_lt (Nat.sub_le _ _) t.isLt)).2.2.1 = x13
  generalize (outsAt0 m c (t.val - 1) (Nat.lt_of_le_of_lt (Nat.sub_le _ _) t.isLt)).2.2.2.1 = x14
  generalize (outsAt0 m c (t.val - 1) (Nat.lt_of_le_of_lt (Nat.sub_le _ _) t.isLt)).2.2.2.2.1 = x15
  generalize (outsAt0 m c (t.val - 1) (Nat.lt_of_le_of_lt (Nat.sub_le _ _) t.isLt)).2.2.2.2.2 = x16
  unfold out0_B_13
  rw [View.read_writes_eq_canon _ _ _ (fun y => cover0_B_13 c (grid0.coords t) _ _ _ _ _ _ _ _ _ _ _ _ _ _ _ _ _ _ _ _ _ _ _ _ _ _ _ _ _ _ _ _ _ _ _ _ _ _ _ _ _ _ _ _ _ _ _ _ _ _ _ y)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_12 t).read_unread, (hs0_13 t).read_unread, (hs0_14 t).read_unread, (hs0_15 t).read_unread, (hs0_16 t).read_unread,
    View.ld_unit_zero (S := S512x512) hz, View.ld_unit_zero (S := S1x256) hz, View.ld_unit_zero (S := S1x128) hz, View.ld_unit_zero (S := S512x128) hz]
  rfl

/-- A later point: the gradient by the values' weights. -/
theorem dwv_later (c : Dev nD) (t : Fin cfg0.N) (h0 : ¬t.val % 8 = 0) :
    (outsAt0 m c t.val t.isLt).2.2.2.1 = View.canon (piecesK (fun k => dwv m c t k (View.ld (outsAt0 m c (t.val - 1) (Nat.lt_of_le_of_lt (Nat.sub_le _ _) t.isLt)).2.2.2.1 (slabK k))) ++ []) := by
  rw [outsAt0_B m c t h0]
  dsimp only
  generalize (outsAt0 m c (t.val - 1) (Nat.lt_of_le_of_lt (Nat.sub_le _ _) t.isLt)).2.1 = x12
  generalize (outsAt0 m c (t.val - 1) (Nat.lt_of_le_of_lt (Nat.sub_le _ _) t.isLt)).2.2.1 = x13
  generalize (outsAt0 m c (t.val - 1) (Nat.lt_of_le_of_lt (Nat.sub_le _ _) t.isLt)).2.2.2.1 = x14
  generalize (outsAt0 m c (t.val - 1) (Nat.lt_of_le_of_lt (Nat.sub_le _ _) t.isLt)).2.2.2.2.1 = x15
  generalize (outsAt0 m c (t.val - 1) (Nat.lt_of_le_of_lt (Nat.sub_le _ _) t.isLt)).2.2.2.2.2 = x16
  unfold out0_B_14
  rw [View.read_writes_eq_canon _ _ _ (fun y => cover0_B_14 c (grid0.coords t) _ _ _ _ _ _ _ _ _ _ _ _ _ _ _ _ _ _ _ _ _ _ _ _ _ _ _ _ _ _ _ _ _ _ _ _ _ _ _ _ _ _ _ _ _ _ _ _ _ _ _ y)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_12 t).read_unread, (hs0_13 t).read_unread, (hs0_14 t).read_unread, (hs0_15 t).read_unread, (hs0_16 t).read_unread,
    View.ld_unit_zero (S := S512x512) hz, View.ld_unit_zero (S := S1x256) hz, View.ld_unit_zero (S := S1x128) hz, View.ld_unit_zero (S := S512x128) hz]
  rfl

/-- A later point: the gradient by the queries' gain. -/
theorem dgq_later (c : Dev nD) (t : Fin cfg0.N) (h0 : ¬t.val % 8 = 0) :
    (outsAt0 m c t.val t.isLt).2.2.2.2.1 = dgq m c t (outsAt0 m c (t.val - 1) (Nat.lt_of_le_of_lt (Nat.sub_le _ _) t.isLt)).2.2.2.2.1 := by
  rw [outsAt0_B m c t h0]
  dsimp only
  generalize (outsAt0 m c (t.val - 1) (Nat.lt_of_le_of_lt (Nat.sub_le _ _) t.isLt)).2.1 = x12
  generalize (outsAt0 m c (t.val - 1) (Nat.lt_of_le_of_lt (Nat.sub_le _ _) t.isLt)).2.2.1 = x13
  generalize (outsAt0 m c (t.val - 1) (Nat.lt_of_le_of_lt (Nat.sub_le _ _) t.isLt)).2.2.2.1 = x14
  generalize (outsAt0 m c (t.val - 1) (Nat.lt_of_le_of_lt (Nat.sub_le _ _) t.isLt)).2.2.2.2.1 = x15
  generalize (outsAt0 m c (t.val - 1) (Nat.lt_of_le_of_lt (Nat.sub_le _ _) t.isLt)).2.2.2.2.2 = x16
  unfold out0_B_15
  rw [View.read_writes_eq_canon _ _ _ (fun y => cover0_B_15 c (grid0.coords t) _ _ _ _ _ _ _ _ _ _ _ _ _ _ _ _ _ _ _ _ _ _ _ _ _ _ _ _ _ _ _ _ _ _ _ _ _ _ _ _ _ _ _ _ _ _ _ _ _ _ _ y)]
  unfold kernelRun0_B
  dsimp only
  sl_unfold_words
  rw [View.canon_unit_zero (S := S1x256) hz]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_12 t).read_unread, (hs0_13 t).read_unread, (hs0_14 t).read_unread, (hs0_15 t).read_unread, (hs0_16 t).read_unread,
    View.ld_unit_zero (S := S512x512) hz, View.ld_unit_zero (S := S1x256) hz, View.ld_unit_zero (S := S1x128) hz, View.ld_unit_zero (S := S512x128) hz]
  rfl

/-- A later point: the gradient by the keys' and values' gain. -/
theorem dgk_later (c : Dev nD) (t : Fin cfg0.N) (h0 : ¬t.val % 8 = 0) :
    (outsAt0 m c t.val t.isLt).2.2.2.2.2 = dgk m c t (outsAt0 m c (t.val - 1) (Nat.lt_of_le_of_lt (Nat.sub_le _ _) t.isLt)).2.2.2.2.2 := by
  rw [outsAt0_B m c t h0]
  dsimp only
  generalize (outsAt0 m c (t.val - 1) (Nat.lt_of_le_of_lt (Nat.sub_le _ _) t.isLt)).2.1 = x12
  generalize (outsAt0 m c (t.val - 1) (Nat.lt_of_le_of_lt (Nat.sub_le _ _) t.isLt)).2.2.1 = x13
  generalize (outsAt0 m c (t.val - 1) (Nat.lt_of_le_of_lt (Nat.sub_le _ _) t.isLt)).2.2.2.1 = x14
  generalize (outsAt0 m c (t.val - 1) (Nat.lt_of_le_of_lt (Nat.sub_le _ _) t.isLt)).2.2.2.2.1 = x15
  generalize (outsAt0 m c (t.val - 1) (Nat.lt_of_le_of_lt (Nat.sub_le _ _) t.isLt)).2.2.2.2.2 = x16
  unfold out0_B_16
  rw [View.read_writes_eq_canon _ _ _ (fun y => cover0_B_16 c (grid0.coords t) _ _ _ _ _ _ _ _ _ _ _ _ _ _ _ _ _ _ _ _ _ _ _ _ _ _ _ _ _ _ _ _ _ _ _ _ _ _ _ _ _ _ _ _ _ _ _ _ _ _ _ y)]
  unfold kernelRun0_B
  dsimp only
  sl_unfold_words
  rw [View.canon_unit_zero (S := S1x128) hz]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_12 t).read_unread, (hs0_13 t).read_unread, (hs0_14 t).read_unread, (hs0_15 t).read_unread, (hs0_16 t).read_unread,
    View.ld_unit_zero (S := S512x512) hz, View.ld_unit_zero (S := S1x256) hz, View.ld_unit_zero (S := S1x128) hz, View.ld_unit_zero (S := S512x128) hz]
  rfl

/-- Slabs stored one over the other: each holds what was stored in it. -/
theorem ld_piecesQ (x : Fin 8 → Vec F S1x256x128 .f32) (T : List (View.Piece (Elt F) S8x256x128 .f32)) (k : Fin 8) (r : Fin 256) (l : Fin 128) :
    View.canon (piecesQ x ++ T) (ix3 k r l) = x k (ix3 0 r l) := by
  have key : ∀ L : List (Fin 8), k ∈ L → ∀ j, View.canon ((L.map fun k => (⟨slabQ k, x k⟩ : View.Piece (Elt F) S8x256x128 .f32)) ++ T) ((slabQ k).emb j) = x k j := by
    intro L
    induction L with
    | nil => intro h; cases h
    | cons a L ih =>
      intro h j
      by_cases e : k = a
      · subst e; exact View.canon_cons_emb (slabQ k) (x k) _ j
      · exact (View.canon_cons_of_not_mem ⟨slabQ a, x a⟩ _ (LoadRect.idx_not_mem_of_disj (B := (slabQ k).toLoadRect) (disjQ a k (Ne.symm e)) j)).trans
          (ih (List.mem_of_ne_of_mem e h) j)
  refine Eq.trans (congrArg _ (funext fun a => Fin.ext ?_)) (key heads.reverse (by clear key; revert k; decide) (ix3 0 r l))
  match a with
  | ⟨0, _⟩ => show k.val = k.val + 1 * 0; omega
  | ⟨1, _⟩ => show r.val = 0 + 1 * r.val; omega
  | ⟨2, _⟩ => show l.val = 0 + 1 * l.val; omega

/-- A slab read at an entry. -/
theorem ld_slabQ {e : EltTy} (X : Vec F S8x256x128 e) (k : Fin 8) (r : Fin 256) (l : Fin 128) : View.ld X (slabQ k) (ix3 0 r l) = X (ix3 k r l) :=
  View.ld_unit_apply_of X _ _ _ _ _ fun a => by
    match a with
    | ⟨0, _⟩ => show k.val = k.val + 0; omega
    | ⟨1, _⟩ => exact (Nat.zero_add _).symm
    | ⟨2, _⟩ => exact (Nat.zero_add _).symm

/-- Slabs stored one over the other: each holds what was stored in it. -/
theorem ld_piecesK (x : Fin 8 → Vec F S1x128x128 .f32) (T : List (View.Piece (Elt F) S8x128x128 .f32)) (k : Fin 8) (r : Fin 128) (l : Fin 128) :
    View.canon (piecesK x ++ T) (ix3 k r l) = x k (ix3 0 r l) := by
  have key : ∀ L : List (Fin 8), k ∈ L → ∀ j, View.canon ((L.map fun k => (⟨slabK k, x k⟩ : View.Piece (Elt F) S8x128x128 .f32)) ++ T) ((slabK k).emb j) = x k j := by
    intro L
    induction L with
    | nil => intro h; cases h
    | cons a L ih =>
      intro h j
      by_cases e : k = a
      · subst e; exact View.canon_cons_emb (slabK k) (x k) _ j
      · exact (View.canon_cons_of_not_mem ⟨slabK a, x a⟩ _ (LoadRect.idx_not_mem_of_disj (B := (slabK k).toLoadRect) (disjK a k (Ne.symm e)) j)).trans
          (ih (List.mem_of_ne_of_mem e h) j)
  refine Eq.trans (congrArg _ (funext fun a => Fin.ext ?_)) (key heads.reverse (by clear key; revert k; decide) (ix3 0 r l))
  match a with
  | ⟨0, _⟩ => show k.val = k.val + 1 * 0; omega
  | ⟨1, _⟩ => show r.val = 0 + 1 * r.val; omega
  | ⟨2, _⟩ => show l.val = 0 + 1 * l.val; omega

/-- A slab read at an entry. -/
theorem ld_slabK {e : EltTy} (X : Vec F S8x128x128 e) (k : Fin 8) (r : Fin 128) (l : Fin 128) : View.ld X (slabK k) (ix3 0 r l) = X (ix3 k r l) :=
  View.ld_unit_apply_of X _ _ _ _ _ fun a => by
    match a with
    | ⟨0, _⟩ => show k.val = k.val + 0; omega
    | ⟨1, _⟩ => exact (Nat.zero_add _).symm
    | ⟨2, _⟩ => exact (Nat.zero_add _).symm

theorem ld_slabD {e : EltTy} (X : Vec F S8x512x128 e) (k : Fin 8) (r : Fin 512) (l : Fin 128) : View.ld X (slabD k) (ix3 0 r l) = X (ix3 k r l) :=
  View.ld_unit_apply_of X _ _ _ _ _ fun a => by
    match a with
    | ⟨0, _⟩ => show k.val = k.val + 0; omega
    | ⟨1, _⟩ => exact (Nat.zero_add _).symm
    | ⟨2, _⟩ => exact (Nat.zero_add _).symm

end Cert.PrepIdeal.Steps

end
-- ==== Proof.PrepArrays.lean ====
/- The latent projections' call: its six result arrays after the run, read at an index. -/
module

public import proofs.«01_k».proof.Proof.PrepSteps
public import Idealize.ShloMosaic.Lib.Pointwise
public import Idealize.ShloMosaic.Lib.Pipeline.Value
public import Idealize.ShloMosaic.Lib.Claim

@[expose] public section

set_option maxRecDepth 16384

noncomputable section

namespace Cert.PrepIdeal.Arrays

open Cert.PrepIdeal Cert.PrepIdeal.Gen Cert.PrepIdeal.Steps Idealize.ShloMosaic Idealize.ShloMosaic.TcCoe Idealize.SL.Sem

variable {F : FTy → Type} [FloatOps F]
variable (m : (ℓ : Loc nD τ sig) → Buf (Elt F) ℓ)

/-- The windows over tiles of rows. -/
theorem tile (t : Fin cfg0.N) : (win0_0.index t 0 = t.val ∧ win0_0.index t 1 = 0) ∧ (win0_6.index t 0 = t.val ∧ win0_6.index t 1 = 0) ∧
    (win0_7.index t 0 = t.val ∧ win0_7.index t 1 = 0) ∧ (win0_11.index t 0 = t.val ∧ win0_11.index t 1 = 0) :=
  (by decide +kernel : ∀ t : Fin grid0.N, (win0_0.index t 0 = t.val ∧ win0_0.index t 1 = 0) ∧ (win0_6.index t 0 = t.val ∧ win0_6.index t 1 = 0) ∧
    (win0_7.index t 0 = t.val ∧ win0_7.index t 1 = 0) ∧ (win0_11.index t 0 = t.val ∧ win0_11.index t 1 = 0)) t

/-- The windows over tiles of rows of every head. -/
theorem slab (t : Fin cfg0.N) : (win0_8.index t 0 = 0 ∧ win0_8.index t 1 = t.val ∧ win0_8.index t 2 = 0) ∧
    (win0_9.index t 0 = 0 ∧ win0_9.index t 1 = t.val ∧ win0_9.index t 2 = 0) ∧ (win0_10.index t 0 = 0 ∧ win0_10.index t 1 = t.val ∧ win0_10.index t 2 = 0) :=
  (by decide +kernel : ∀ t : Fin grid0.N, (win0_8.index t 0 = 0 ∧ win0_8.index t 1 = t.val ∧ win0_8.index t 2 = 0) ∧
    (win0_9.index t 0 = 0 ∧ win0_9.index t 1 = t.val ∧ win0_9.index t 2 = 0) ∧ (win0_10.index t 0 = 0 ∧ win0_10.index t 1 = t.val ∧ win0_10.index t 2 = 0)) t

theorem dh_any (c : Dev nD) (t : Fin cfg0.N) : (outsAt0 m c t.val t.isLt).1 = dh m c t := by
  by_cases h0 : t.val % 8 = 0
  · exact dh_first m c t h0
  · exact dh_later m c t h0

theorem apart : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h =>
    hne (Fin.ext ((tile t).2.2.2.1.symm.trans ((congrFun (h : win0_11.index t = win0_11.index t') 0).trans (tile t').2.2.2.1)))

/-- The input's gradient after the run, in point `t`'s tile. -/
theorem arr_dh (c : Dev nD) (t : Fin cfg0.N) (r : Fin 512) (q : Fin 512) (i : S4096x512.Idx)
    (h0 : (i 0).val = t.val * 512 + r.val) (h1 : (i 1).val = q.val) :
    (dats m 0 c).arrAt 11 cfg0.N i = dh m c t (ix2 r q) := by
  have h := congrFun ((dats m 0 c).read_blk_arrAt_eq_flushed 11 apart cfg0.N t t.isLt (flush0_11 t)) (ix2 r q)
  rw [show (dats m 0 c).flushed 11 t = _ from congrArg ((cfg0.win 11).cut (grid0.coords t)) (after0_11 m c t), View.read_apply, dh_any] at h
  refine Eq.trans (congrArg _ (funext fun a => Fin.ext ?_)) h
  have ht := (tile t).2.2.2
  match a with
  | ⟨0, _⟩ => show (i 0).val = win0_11.index t 0 * 512 + 1 * r.val; omega
  | ⟨1, _⟩ => show (i 1).val = win0_11.index t 1 * 512 + 1 * q.val; omega

/-- The last point. -/
def last : Fin cfg0.N := ⟨7, by rw [show cfg0.N = 8 from N_0]; omega⟩

theorem only_last {w : Fin cfg0.W} (h : ∀ t : Fin cfg0.N, (cfg0.win w).flush t = true ↔ t.val % 8 = 7) :
    ∀ t t' : Fin cfg0.N, (cfg0.win w).flush t = true → (cfg0.win w).flush t' = true → t ≠ t' →
    Disjoint ((cfg0.win w).blk t).view.set ((cfg0.win w).blk t').view.set :=
  fun t t' e e' hne => absurd (Fin.ext (by
    have h1 := (h t).mp e
    have h2 := (h t').mp e'
    have hN : cfg0.N = 8 := N_0
    have := t.isLt; have := t'.isLt
    omega)) hne

/-- The gradient by the queries' weights after the run is what the last point leaves. -/
theorem arr_dwq (c : Dev nD) (i : S8x256x128.Idx) : (dats m 0 c).arrAt 12 cfg0.N i = (outsAt0 m c last.val last.isLt).2.1 i := by
  have h := congrFun ((dats m 0 c).read_blk_arrAt_eq_flushed 12 (only_last flush0_12) cfg0.N last last.isLt ((flush0_12 last).mpr rfl)) i
  rw [show (dats m 0 c).flushed 12 last = _ from congrArg ((cfg0.win 12).cut (grid0.coords last)) (after0_12 m c last), View.read_apply] at h
  refine Eq.trans (congrArg _ (funext fun a => Fin.ext ?_)) h
  match a with
  | ⟨0, _⟩ => show (i 0).val = 0 * 8 + 1 * (i 0).val; omega
  | ⟨1, _⟩ => show (i 1).val = 0 * 256 + 1 * (i 1).val; omega
  | ⟨2, _⟩ => show (i 2).val = 0 * 128 + 1 * (i 2).val; omega

/-- The gradient by the keys' weights after the run is what the last point leaves. -/
theorem arr_dwk (c : Dev nD) (i : S8x128x128.Idx) : (dats m 0 c).arrAt 13 cfg0.N i = (outsAt0 m c last.val last.isLt).2.2.1 i := by
  have h := congrFun ((dats m 0 c).read_blk_arrAt_eq_flushed 13 (only_last flush0_13) cfg0.N last last.isLt ((flush0_13 last).mpr rfl)) i
  rw [show (dats m 0 c).flushed 13 last = _ from congrArg ((cfg0.win 13).cut (grid0.coords last)) (after0_13 m c last), View.read_apply] at h
  refine Eq.trans (congrArg _ (funext fun a => Fin.ext ?_)) h
  match a with
  | ⟨0, _⟩ => show (i 0).val = 0 * 8 + 1 * (i 0).val; omega
  | ⟨1, _⟩ => show (i 1).val = 0 * 128 + 1 * (i 1).val; omega
  | ⟨2, _⟩ => show (i 2).val = 0 * 128 + 1 * (i 2).val; omega

/-- The gradient by the values' weights after the run is what the last point leaves. -/
theorem arr_dwv (c : Dev nD) (i : S8x128x128.Idx) : (dats m 0 c).arrAt 14 cfg0.N i = (outsAt0 m c last.val last.isLt).2.2.2.1 i := by
  have h := congrFun ((dats m 0 c).read_blk_arrAt_eq_flushed 14 (only_last flush0_14) cfg0.N last last.isLt ((flush0_14 last).mpr rfl)) i
  rw [show (dats m 0 c).flushed 14 last = _ from congrArg ((cfg0.win 14).cut (grid0.coords last)) (after0_14 m c last), View.read_apply] at h
  refine Eq.trans (congrArg _ (funext fun a => Fin.ext ?_)) h
  match a with
  | ⟨0, _⟩ => show (i 0).val = 0 * 8 + 1 * (i 0).val; omega
  | ⟨1, _⟩ => show (i 1).val = 0 * 128 + 1 * (i 1).val; omega
  | ⟨2, _⟩ => show (i 2).val = 0 * 128 + 1 * (i 2).val; omega

/-- The gradient by the queries' gain after the run is what the last point leaves. -/
theorem arr_dgq (c : Dev nD) (i : S1x256.Idx) : (dats m 0 c).arrAt 15 cfg0.N i = (outsAt0 m c last.val last.isLt).2.2.2.2.1 i := by
  have h := congrFun ((dats m 0 c).read_blk_arrAt_eq_flushed 15 (only_last flush0_15) cfg0.N last last.isLt ((flush0_15 last).mpr rfl)) i
  rw [show (dats m 0 c).flushed 15 last = _ from congrArg ((cfg0.win 15).cut (grid0.coords last)) (after0_15 m c last), View.read_apply] at h
  refine Eq.trans (congrArg _ (funext fun a => Fin.ext ?_)) h
  match a with
  | ⟨0, _⟩ => show (i 0).val = 0 * 1 + 1 * (i 0).val; omega
  | ⟨1, _⟩ => show (i 1).val = 0 * 256 + 1 * (i 1).val; omega

/-- The gradient by the keys' and values' gain after the run is what the last point leaves. -/
theorem arr_dgk (c : Dev nD) (i : S1x128.Idx) : (dats m 0 c).arrAt 16 cfg0.N i = (outsAt0 m c last.val last.isLt).2.2.2.2.2 i := by
  have h := congrFun ((dats m 0 c).read_blk_arrAt_eq_flushed 16 (only_last flush0_16) cfg0.N last last.isLt ((flush0_16 last).mpr rfl)) i
  rw [show (dats m 0 c).flushed 16 last = _ from congrArg ((cfg0.win 16).cut (grid0.coords last)) (after0_16 m c last), View.read_apply] at h
  refine Eq.trans (congrArg _ (funext fun a => Fin.ext ?_)) h
  match a with
  | ⟨0, _⟩ => show (i 0).val = 0 * 1 + 1 * (i 0).val; omega
  | ⟨1, _⟩ => show (i 1).val = 0 * 128 + 1 * (i 1).val; omega

end Cert.PrepIdeal.Arrays

end
-- ==== Proof.PrepReal.lean ====
/- The latent projections' call over real numbers: the root mean square norm of a row, its gradient as one closed
   expression and as differentiating through the mean gives it, and the rotary embedding's inverse on a row of lanes. -/
module

public import proofs.«01_k».proof.Proof.LnReal

@[expose] public section

noncomputable section

namespace Cert.PrepReal

open Idealize.ShloMosaic Cert.LnReal

/-- The norm's `eps`, the rational that its float word is. -/
def eps : ℝ := 8796093 / 2 ^ 43

theorem ceps : Ideal.ofBits .f32 0x358637BD#32 = (eps : EReal) := by
  unfold eps; simp [Ideal.ofBits, Ideal.ieee, -EReal.coe_mul]; norm_num

theorem eps_pos : 0 < eps := by unfold eps; norm_num

theorem c256 : Ideal.ofBits .f32 0x43800000#32 = ((256 : ℝ) : EReal) := by
  simp [Ideal.ofBits, Ideal.ieee, -EReal.coe_mul]; norm_num
theorem c128 : Ideal.ofBits .f32 0x43000000#32 = ((128 : ℝ) : EReal) := by
  simp [Ideal.ofBits, Ideal.ieee, -EReal.coe_mul]; norm_num
theorem c2 : Ideal.ofBits .f32 0x40000000#32 = ((2 : ℝ) : EReal) := by
  simp [Ideal.ofBits, Ideal.ieee, -EReal.coe_mul]; norm_num
theorem cmhalf : Ideal.ofBits .f32 0xBF000000#32 = ((-(1 / 2) : ℝ) : EReal) := by
  simp [Ideal.ofBits, Ideal.ieee, -EReal.coe_mul]; norm_num
theorem c16 : Ideal.ofBits .f32 0x41800000#32 = ((16 : ℝ) : EReal) := by
  simp [Ideal.ofBits, Ideal.ieee, -EReal.coe_mul]; norm_num
theorem c10000 : Ideal.ofBits .f32 0x461C4000#32 = ((10000 : ℝ) : EReal) := by
  simp [Ideal.ofBits, Ideal.ieee, -EReal.coe_mul]; norm_num

theorem div256 (a : ℝ) : Ideal.div (a : EReal) ((256 : ℝ) : EReal) = ((a / 256 : ℝ) : EReal) := by
  rw [Ideal.div_coe (by norm_num : (256 : ℝ) ≠ 0), ← EReal.coe_mul]; congr 1; ring
theorem div128 (a : ℝ) : Ideal.div (a : EReal) ((128 : ℝ) : EReal) = ((a / 128 : ℝ) : EReal) := by
  rw [Ideal.div_coe (by norm_num : (128 : ℝ) ≠ 0), ← EReal.coe_mul]; congr 1; ring
theorem div16 (a : ℝ) : Ideal.div (a : EReal) ((16 : ℝ) : EReal) = ((a / 16 : ℝ) : EReal) := by
  rw [Ideal.div_coe (by norm_num : (16 : ℝ) ≠ 0), ← EReal.coe_mul]; congr 1; ring

theorem div_real {a b : ℝ} (hb : b ≠ 0) : Ideal.div (a : EReal) (b : EReal) = ((a / b : ℝ) : EReal) := by
  rw [Ideal.div_coe hb, ← EReal.coe_mul]; congr 1; ring

variable {n : ℕ} (N : ℝ)

/-- A row's mean square with `eps` added. -/
def ms (z : Fin n → ℝ) : ℝ := (∑ k, z k * z k) / N + eps

variable {N} (hN : 0 < N)

include hN in
theorem ms_pos (z : Fin n → ℝ) : 0 < ms N z :=
  add_pos_of_nonneg_of_pos (div_nonneg (Finset.sum_nonneg fun k _ => mul_self_nonneg _) hN.le) eps_pos

variable (N)

/-- One over a row's root mean square. -/
def rr (z : Fin n → ℝ) : ℝ := (√(ms N z))⁻¹

/-- The normalised row. -/
def hat (z : Fin n → ℝ) (j : Fin n) : ℝ := z j * rr N z

/-- The gradient of the row `z`, in closed form, from the cotangent `p` of the normalised row. -/
def grad (z p : Fin n → ℝ) (j : Fin n) : ℝ := rr N z * (p j - hat N z j * ((∑ k, p k * hat N z k) / N))

/-- The gradient of the row `z` as differentiating through the mean gives it. -/
def vjp (z p : Fin n → ℝ) (j : Fin n) : ℝ := p j * rr N z + (∑ k, z k * p k) * (-(1 / 2) * (rr N z / ms N z)) / N * (2 * z j)

variable {N}

include hN in
theorem rr_sq (z : Fin n → ℝ) : rr N z * rr N z = 1 / ms N z := by
  unfold rr
  rw [← mul_inv, Real.mul_self_sqrt (ms_pos hN z).le, one_div]

include hN in
/-- Differentiating through the mean gives the closed form. -/
theorem vjp_eq_grad (z p : Fin n → ℝ) (j : Fin n) : vjp N z p j = grad N z p j := by
  have hh : ∑ k, p k * hat N z k = (∑ k, z k * p k) * rr N z := by
    rw [Finset.sum_mul]; exact Finset.sum_congr rfl fun k _ => by unfold hat; ring
  have hd : rr N z / ms N z = rr N z * (rr N z * rr N z) := by rw [rr_sq hN]; ring
  unfold vjp grad
  rw [hh, hd]
  unfold hat
  ring

/-- The rotary embedding's inverse on a row of 128 lanes, by a row of cosines and one of signed sines: lanes below 80
    take their partner 16 lanes up, the others 16 lanes down. -/
def ropeInv (v C S : Fin 128 → ℝ) (l : Fin 128) : ℝ :=
  v l * C l - (if l.val < 80 then v ⟨(l.val + 16) % 128, Nat.mod_lt _ (by norm_num)⟩ else v ⟨(l.val + 112) % 128, Nat.mod_lt _ (by norm_num)⟩) * S l

/-- Adding up over a list of heads from a start. -/
theorem foldl_real {α : Type} (step : α → Fin 8 → α) (get : α → EReal) (T : Fin 8 → ℝ)
    (hs : ∀ (acc : α) (k : Fin 8) (R : ℝ), get acc = (R : EReal) → get (step acc k) = ((R + T k : ℝ) : EReal)) :
    ∀ (L : List (Fin 8)) (acc : α) (R : ℝ), get acc = (R : EReal) → get (L.foldl step acc) = ((R + (L.map T).sum : ℝ) : EReal) := by
  intro L
  induction L with
  | nil => intro acc R h; simpa using h
  | cons a L ih =>
    intro acc R h
    refine (ih _ _ (hs acc a R h)).trans (congrArg _ ?_)
    rw [List.map_cons, List.sum_cons]; ring

theorem sum_heads (T : Fin 8 → ℝ) : 0 + (([0, 1, 2, 3, 4, 5, 6, 7] : List (Fin 8)).map T).sum = ∑ k, T k := by
  rw [Fin.sum_univ_eight]; simp only [List.map_cons, List.map_nil, List.sum_cons, List.sum_nil]; ring

/-- The angle at a position and a frequency. -/
def ang (i : Fin 4096) (j : Fin 16) : ℝ := (i.val : ℝ) * (10000 : ℝ) ^ (-(j.val : ℝ) / 16)

/-- The two tables: ones and zeros outside the rotated lanes, which stand in two halves. -/
def ctab (i : Fin 4096) (l : Fin 128) : ℝ :=
  if l.val < 64 then 1 else if h : l.val - 64 < 16 then Real.cos (ang i ⟨l.val - 64, h⟩)
    else if h : l.val - 64 - 16 < 16 then Real.cos (ang i ⟨l.val - 64 - 16, h⟩) else 1
def stab (i : Fin 4096) (l : Fin 128) : ℝ :=
  if l.val < 64 then 0 else if h : l.val - 64 < 16 then -Real.sin (ang i ⟨l.val - 64, h⟩)
    else if h : l.val - 64 - 16 < 16 then Real.sin (ang i ⟨l.val - 64 - 16, h⟩) else 0

/-- A row of lanes followed by zeros. -/
def lanes (n : ℕ) (v : Fin n → ℝ) (l : Fin 128) : ℝ := if h : l.val < n then v ⟨l.val, h⟩ else 0

/-- A row of the input with its columns padded. -/
def hpad (H : Fin 4096 → Fin 1952 → ℝ) (i : Fin 4096) (q : Fin 512) : ℝ :=
  if q.val < 384 then H i ⟨q.val, by omega⟩ else if q.val - 384 < 64 then 0 else if q.val - 384 - 64 < 32 then H i ⟨q.val - 64, by omega⟩ else 0

/-- The gradient of a rotated row of 32 lanes by the row itself. -/
def unrot (v : Fin 32 → ℝ) (i : Fin 4096) (l : Fin 32) : ℝ :=
  if h : l.val < 16 then v ⟨l.val + 16, by omega⟩ * Real.sin (ang i ⟨l.val, h⟩) + v l * Real.cos (ang i ⟨l.val, h⟩)
  else v l * Real.cos (ang i ⟨l.val - 16, by omega⟩) + -v ⟨l.val - 16, by omega⟩ * Real.sin (ang i ⟨l.val - 16, by omega⟩)

/-- The same for a query's row, of which the last 32 lanes are rotated. -/
def qrot (D : Fin 96 → ℝ) (i : Fin 4096) (l : Fin 96) : ℝ :=
  if h : l.val < 64 then D l else unrot (fun j => D ⟨j.val + 64, by omega⟩) i ⟨l.val - 64, by omega⟩

/-- A row's columns of the queries' latent, and of the keys' and values'. -/
def zq (H : Fin 4096 → Fin 1952 → ℝ) (i : Fin 4096) (j : Fin 256) : ℝ := H i ⟨j.val, by omega⟩
def zk (H : Fin 4096 → Fin 1952 → ℝ) (i : Fin 4096) (j : Fin 128) : ℝ := H i ⟨j.val + 256, by omega⟩

/-- The cotangents of the latents, summed over the heads. -/
def dcq (WQ : Fin 256 → Fin 8 → Fin 96 → ℝ) (DQ : Fin 4096 → Fin 8 → Fin 96 → ℝ) (i : Fin 4096) (j : Fin 256) : ℝ :=
  ∑ k, ∑ l, qrot (DQ i k) i l * WQ j k l
def dck (WK WV : Fin 128 → Fin 8 → Fin 64 → ℝ) (DK : Fin 4096 → Fin 8 → Fin 96 → ℝ) (DV : Fin 4096 → Fin 8 → Fin 64 → ℝ) (i : Fin 4096) (j : Fin 128) : ℝ :=
  (∑ k, ∑ l, DV i k l * WV j k l) + ∑ k, ∑ l : Fin 64, DK i k ⟨l.val, by omega⟩ * WK j k l
def dkr (DK : Fin 4096 → Fin 8 → Fin 96 → ℝ) (i : Fin 4096) (l : Fin 32) : ℝ := ∑ k, DK i k ⟨l.val + 64, by omega⟩

/-! ## The lanes of the rotation -/

theorem sum_first {N n : ℕ} (hn : n ≤ N) (f : Fin N → ℝ) (h : ∀ l : Fin N, n ≤ l.val → f l = 0) : ∑ l, f l = ∑ l : Fin n, f ⟨l.val, by omega⟩ := by
  obtain ⟨k, rfl⟩ := Nat.exists_eq_add_of_le hn
  rw [Fin.sum_univ_add, Finset.sum_eq_zero fun l _ => h (Fin.natAdd n l) (by show n ≤ n + l.val; omega), add_zero]
  rfl

theorem rope_below (v : Fin 128 → ℝ) (i : Fin 4096) (l : Fin 128) (h : l.val < 64) : ropeInv v (ctab i) (stab i) l = v l := by
  unfold ropeInv ctab stab
  rw [if_pos h, if_pos h]; ring

theorem rope_above (v : Fin 128 → ℝ) (i : Fin 4096) (l : Fin 128) (h : 96 ≤ l.val) : ropeInv v (ctab i) (stab i) l = v l := by
  unfold ropeInv ctab stab
  rw [if_neg (by omega : ¬l.val < 64), dif_neg (by omega : ¬l.val - 64 < 16), dif_neg (by omega : ¬l.val - 64 - 16 < 16),
    if_neg (by omega : ¬l.val < 64), dif_neg (by omega : ¬l.val - 64 < 16), dif_neg (by omega : ¬l.val - 64 - 16 < 16)]
  ring

theorem rope_mid (v : Fin 128 → ℝ) (i : Fin 4096) (l : Fin 128) (h1 : 64 ≤ l.val) (h2 : l.val < 96) :
    ropeInv v (ctab i) (stab i) l = unrot (fun j => v ⟨j.val + 64, by omega⟩) i ⟨l.val - 64, by omega⟩ := by
  have e0 : v ⟨l.val - 64 + 64, by omega⟩ = v l := congrArg v (Fin.ext (by show l.val - 64 + 64 = l.val; omega))
  unfold ropeInv ctab stab unrot
  by_cases h : l.val < 80
  · have e : v ⟨(l.val + 16) % 128, Nat.mod_lt _ (by norm_num)⟩ = v ⟨l.val - 64 + 16 + 64, by omega⟩ := congrArg v (Fin.ext (by show (l.val + 16) % 128 = l.val - 64 + 16 + 64; omega))
    rw [if_neg (by omega : ¬l.val < 64), dif_pos (by omega : l.val - 64 < 16), if_neg (by omega : ¬l.val < 64), dif_pos (by omega : l.val - 64 < 16),
      if_pos h, dif_pos (by omega : l.val - 64 < 16), e]
    simp only [e0]
    ring
  · have e : v ⟨(l.val + 112) % 128, Nat.mod_lt _ (by norm_num)⟩ = v ⟨l.val - 64 - 16 + 64, by omega⟩ := congrArg v (Fin.ext (by show (l.val + 112) % 128 = l.val - 64 - 16 + 64; omega))
    rw [if_neg (by omega : ¬l.val < 64), dif_neg (by omega : ¬l.val - 64 < 16), dif_pos (by omega : l.val - 64 - 16 < 16),
      if_neg (by omega : ¬l.val < 64), dif_neg (by omega : ¬l.val - 64 < 16), dif_pos (by omega : l.val - 64 - 16 < 16),
      if_neg h, dif_neg (by omega : ¬l.val - 64 < 16), e]
    simp only [e0]
    ring

theorem rope_lanes (D : Fin 96 → ℝ) (i : Fin 4096) (l : Fin 128) : ropeInv (lanes 96 D) (ctab i) (stab i) l = lanes 96 (qrot D i) l := by
  by_cases h1 : l.val < 64
  · rw [rope_below _ _ _ h1, lanes, lanes, dif_pos (by omega), dif_pos (by omega), qrot, dif_pos h1]
  by_cases h2 : l.val < 96
  · rw [rope_mid _ _ _ (by omega) h2, lanes, dif_pos h2, qrot, dif_neg h1]
    refine congrArg (fun v => unrot v i _) (funext fun j => ?_)
    rw [lanes, dif_pos (by show j.val + 64 < 96; omega)]
  · rw [rope_above _ _ _ (by omega), lanes, lanes, dif_neg h2, dif_neg h2]

/-- The input's gradient, over its own columns. -/
def dhC (H : Fin 4096 → Fin 1952 → ℝ) (GQ : Fin 256 → ℝ) (GK : Fin 128 → ℝ) (WQ : Fin 256 → Fin 8 → Fin 96 → ℝ) (WK WV : Fin 128 → Fin 8 → Fin 64 → ℝ)
    (DQ DK : Fin 4096 → Fin 8 → Fin 96 → ℝ) (DV : Fin 4096 → Fin 8 → Fin 64 → ℝ) (i : Fin 4096) (q : Fin 1952) : ℝ :=
  if h : q.val < 256 then vjp 256 (zq H i) (fun j => dcq WQ DQ i j * GQ j) ⟨q.val, h⟩
  else if h' : q.val < 384 then vjp 128 (zk H i) (fun j => dck WK WV DK DV i j * GK j) ⟨q.val - 256, by omega⟩
  else if h'' : q.val < 416 then unrot (dkr DK i) i ⟨q.val - 384, by omega⟩ else 0

/-- The six results over real numbers. -/
def dhR (H : Fin 4096 → Fin 1952 → ℝ) (GQ : Fin 256 → ℝ) (GK : Fin 128 → ℝ) (WQ : Fin 256 → Fin 8 → Fin 96 → ℝ) (WK WV : Fin 128 → Fin 8 → Fin 64 → ℝ)
    (DQ DK : Fin 4096 → Fin 8 → Fin 96 → ℝ) (DV : Fin 4096 → Fin 8 → Fin 64 → ℝ) (i : Fin 4096) (q : Fin 512) : ℝ :=
  if h : q.val < 256 then vjp 256 (zq H i) (fun j => dcq WQ DQ i j * GQ j) ⟨q.val, h⟩
  else if h' : q.val < 384 then vjp 128 (zk H i) (fun j => dck WK WV DK DV i j * GK j) ⟨q.val - 256, by omega⟩
  else if q.val < 448 then 0
  else if h'' : q.val < 480 then unrot (dkr DK i) i ⟨q.val - 448, by omega⟩
  else 0
def dwqR (H : Fin 4096 → Fin 1952 → ℝ) (GQ : Fin 256 → ℝ) (DQ : Fin 4096 → Fin 8 → Fin 96 → ℝ) (k : Fin 8) (j : Fin 256) (l : Fin 96) : ℝ :=
  ∑ i, qrot (DQ i k) i l * (hat 256 (zq H i) j * GQ j)
def dwkR (H : Fin 4096 → Fin 1952 → ℝ) (GK : Fin 128 → ℝ) (DK : Fin 4096 → Fin 8 → Fin 96 → ℝ) (k : Fin 8) (j : Fin 128) (l : Fin 64) : ℝ :=
  ∑ i, DK i k ⟨l.val, by omega⟩ * (hat 128 (zk H i) j * GK j)
def dwvR (H : Fin 4096 → Fin 1952 → ℝ) (GK : Fin 128 → ℝ) (DV : Fin 4096 → Fin 8 → Fin 64 → ℝ) (k : Fin 8) (j : Fin 128) (l : Fin 64) : ℝ :=
  ∑ i, DV i k l * (hat 128 (zk H i) j * GK j)
def dgqR (H : Fin 4096 → Fin 1952 → ℝ) (WQ : Fin 256 → Fin 8 → Fin 96 → ℝ) (DQ : Fin 4096 → Fin 8 → Fin 96 → ℝ) (j : Fin 256) : ℝ :=
  ∑ i, hat 256 (zq H i) j * dcq WQ DQ i j
def dgkR (H : Fin 4096 → Fin 1952 → ℝ) (WK WV : Fin 128 → Fin 8 → Fin 64 → ℝ) (DK : Fin 4096 → Fin 8 → Fin 96 → ℝ) (DV : Fin 4096 → Fin 8 → Fin 64 → ℝ) (j : Fin 128) : ℝ :=
  ∑ i, hat 128 (zk H i) j * dck WK WV DK DV i j

/-- The six results' first, written with the gaps: what stands in its columns, of the gradient over the input's own. -/
theorem dhR_gaps (H : Fin 4096 → Fin 1952 → ℝ) (GQ : Fin 256 → ℝ) (GK : Fin 128 → ℝ) (WQ : Fin 256 → Fin 8 → Fin 96 → ℝ) (WK WV : Fin 128 → Fin 8 → Fin 64 → ℝ)
    (DQ DK : Fin 4096 → Fin 8 → Fin 96 → ℝ) (DV : Fin 4096 → Fin 8 → Fin 64 → ℝ) (i : Fin 4096) (q : Fin 512) :
    (dhR H GQ GK WQ WK WV DQ DK DV i q : EReal) = if h : q.val < 384 then (dhC H GQ GK WQ WK WV DQ DK DV i ⟨q.val, by omega⟩ : EReal)
      else if h' : q.val - 384 < 64 then 0
      else if h'' : q.val - 384 - 64 < 32 then (dhC H GQ GK WQ WK WV DQ DK DV i ⟨384 + (q.val - 384 - 64), by omega⟩ : EReal) else 0 := by
  by_cases h1 : q.val < 256
  · rw [dif_pos (by omega), dhC, dif_pos h1, dhR, dif_pos h1]
  by_cases h2 : q.val < 384
  · rw [dif_pos h2, dhC, dif_neg h1, dif_pos h2, dhR, dif_neg h1, dif_pos h2]
  by_cases h3 : q.val < 448
  · rw [dif_neg h2, dif_pos (by omega), dhR, dif_neg h1, dif_neg h2, if_pos h3, EReal.coe_zero]
  by_cases h4 : q.val < 480
  · have e1 : ¬384 + (q.val - 384 - 64) < 256 := by omega
    have e2 : ¬384 + (q.val - 384 - 64) < 384 := by omega
    have e3 : 384 + (q.val - 384 - 64) < 416 := by omega
    rw [dif_neg h2, dif_neg (by omega), dif_pos (by omega), dhC, dif_neg e1, dif_neg e2, dif_pos e3, dhR, dif_neg h1, dif_neg h2, if_neg h3, dif_pos h4]
    exact congrArg (fun l => ((unrot (dkr DK i) i l : ℝ) : EReal)) (Fin.ext (by show q.val - 448 = 384 + (q.val - 384 - 64) - 384; omega))
  · rw [dif_neg h2, dif_neg (by omega), dif_neg (by omega), dhR, dif_neg h1, dif_neg h2, if_neg h3, dif_neg h4, EReal.coe_zero]

end Cert.PrepReal

end
-- ==== Proof.PrepBlock.lean ====
/- The latent projections' call over real numbers: what one grid point's payloads compute, when the blocks that they read
   hold real numbers. -/
module

public import proofs.«01_k».proof.Proof.PrepSteps
public import proofs.«01_k».proof.Proof.PrepReal
public import Idealize.ShloMosaic.Lib.KernelVsHost

@[expose] public section

set_option maxRecDepth 16384

noncomputable section

namespace Cert.PrepIdeal.Block

open Cert.PrepIdeal Cert.PrepIdeal.Gen Cert.PrepIdeal.Steps Cert.LnReal Cert.PrepReal Idealize.ShloMosaic Idealize.ShloMosaic.TcCoe Idealize.SL.Sem

/-! ## The two norms -/

section Norms
variable (h : Vec Ideal S512x512 .f32) (H : Fin 512 → Fin 512 → ℝ) (hh : ∀ r q, h (ix2 r q) = (H r q : EReal))

/-- A row's columns of the queries' latent, and of the keys' and values'. -/
def rowQ (H : Fin 512 → Fin 512 → ℝ) (r : Fin 512) (a : Fin 256) : ℝ := H r ⟨a.val, by omega⟩
def rowK (H : Fin 512 → Fin 512 → ℝ) (r : Fin 512) (a : Fin 128) : ℝ := H r ⟨a.val + 256, by omega⟩

include hh in
theorem pay12_real (r : Fin 512) (a : Fin 256) : k0_pay12 h (ix2 r a) = (rowQ H r a : EReal) := by
  show extractStridedSlice S512x256 ![0, 0] (k0_pay7 h) slices_S512x512_o0_0_S512x256 (ix2 r a) = _
  refine Eq.trans (extractStridedSlice_apply ![0, 0] _ _ (ix2 r a) (ix2 r (⟨a.val, by omega⟩ : Fin 512)) fun b => ?_)
    ((congrFun (shapeCast_self (s := S512x512) (α := EReal) h _) _).trans (hh _ _))
  match b with
  | ⟨0, _⟩ => exact (Nat.zero_add _).symm
  | ⟨1, _⟩ => exact (Nat.zero_add _).symm

include hh in
theorem pay15_real (r : Fin 512) (a : Fin 128) : k0_pay15 h (ix2 r a) = (rowK H r a : EReal) := by
  show extractStridedSlice S512x128 ![0, 256] (k0_pay7 h) slices_S512x512_o0_256_S512x128 (ix2 r a) = _
  refine Eq.trans (extractStridedSlice_apply ![0, 256] _ _ (ix2 r a) (ix2 r (⟨a.val + 256, by omega⟩ : Fin 512)) fun b => ?_)
    ((congrFun (shapeCast_self (s := S512x512) (α := EReal) h _) _).trans (hh _ _))
  match b with
  | ⟨0, _⟩ => exact (Nat.zero_add _).symm
  | ⟨1, _⟩ => exact Nat.add_comm _ _

include hh in
theorem pay13_real (r : Fin 512) : k0_pay13 h (ix2 r 0) = (rr 256 (rowQ H r) : EReal) := by
  pointwise [k0_pay13]
  simp only [pay12_real h H hh, c256, PrepReal.ceps, ← EReal.coe_mul, coe_sum, div256, ← EReal.coe_add, zero_add]
  exact rsqrt_pos (ms_pos (N := 256) (by norm_num) (rowQ H r))

include hh in
theorem pay16_real (r : Fin 512) : k0_pay16 h (ix2 r 0) = (rr 128 (rowK H r) : EReal) := by
  pointwise [k0_pay16]
  simp only [pay15_real h H hh, c128, PrepReal.ceps, ← EReal.coe_mul, coe_sum, div128, ← EReal.coe_add, zero_add]
  exact rsqrt_pos (ms_pos (N := 128) (by norm_num) (rowK H r))

include hh in
theorem pay14_real (r : Fin 512) (a : Fin 256) : k0_pay14 h (ix2 r a) = (hat 256 (rowQ H r) a : EReal) := by
  pointwise [k0_pay14]
  simp only [pay12_real h H hh, pay13_real h H hh, ← EReal.coe_mul]
  rfl

include hh in
theorem pay17_real (r : Fin 512) (a : Fin 128) : k0_pay17 h (ix2 r a) = (hat 128 (rowK H r) a : EReal) := by
  pointwise [k0_pay17]
  simp only [pay15_real h H hh, pay16_real h H hh, ← EReal.coe_mul]
  rfl

variable (gq : Vec Ideal S1x256 .f32) (GQ : Fin 256 → ℝ) (hq : ∀ a, gq (ix2 0 a) = (GQ a : EReal))
variable (gk : Vec Ideal S1x128 .f32) (GK : Fin 128 → ℝ) (hk : ∀ a, gk (ix2 0 a) = (GK a : EReal))

include hh hq in
theorem pay19_real (r : Fin 512) (a : Fin 256) : k0_pay19 h gq (ix2 r a) = ((hat 256 (rowQ H r) a * GQ a : ℝ) : EReal) := by
  pointwise [k0_pay19, k0_pay10]
  simp only [pay14_real h H hh, hq, ← EReal.coe_mul]

include hh hk in
theorem pay20_real (r : Fin 512) (a : Fin 128) : k0_pay20 (k0_pay18 h gk) (ix2 r a) = ((hat 128 (rowK H r) a * GK a : ℝ) : EReal) := by
  pointwise [k0_pay20, k0_pay18, k0_pay11]
  simp only [pay17_real h H hh, hk, ← EReal.coe_mul]

variable (y : FVec Ideal S512x256 .f32) (Y : Fin 512 → Fin 256 → ℝ) (hy : ∀ r a, y (ix2 r a) = (Y r a : EReal))
variable (z : FVec Ideal S512x128 .f32) (Z : Fin 512 → Fin 128 → ℝ) (hz' : ∀ r a, z (ix2 r a) = (Z r a : EReal))

include hh hq hy in
/-- The gradient by the queries' latent. -/
theorem pay130_real (r : Fin 512) (a : Fin 256) : k0_pay130 (k0_pay10 gq) (k0_pay13 h) (k0_pay14 h) y (ix2 r a) =
    (grad 256 (rowQ H r) (fun b => Y r b * GQ b) a : EReal) := by
  pointwise [k0_pay130, k0_pay10]
  simp only [pay14_real h H hh, pay13_real h H hh, hq, hy, c256, ← EReal.coe_mul, coe_sum, div256, ← EReal.coe_sub, zero_add]
  rfl

include hh hk hz' in
/-- The gradient by the keys' and values' latent, before its factor. -/
theorem pay132_real (r : Fin 512) (a : Fin 128) : k0_pay132 (k0_pay11 gk) (k0_pay17 h) z (ix2 r a) =
    ((Z r a * GK a - hat 128 (rowK H r) a * ((∑ b, Z r b * GK b * hat 128 (rowK H r) b) / 128) : ℝ) : EReal) := by
  pointwise [k0_pay132, k0_pay11]
  simp only [pay17_real h H hh, hk, hz', c128, ← EReal.coe_mul, coe_sum, div128, ← EReal.coe_sub, zero_add]

variable (accq : Vec Ideal S1x256 .f32) (RQ : Fin 256 → ℝ) (hrq : ∀ a, accq (ix2 0 a) = (RQ a : EReal))
variable (acck : Vec Ideal S1x128 .f32) (RK : Fin 128 → ℝ) (hrk : ∀ a, acck (ix2 0 a) = (RK a : EReal))

include hh hy hrq in
theorem pay129_real (a : Fin 256) : k0_pay129 (k0_pay127 accq) (k0_pay128 (k0_pay14 h) y) (ix2 0 a) =
    ((RQ a + ∑ r, Y r a * hat 256 (rowQ H r) a : ℝ) : EReal) := by
  pointwise [k0_pay129, k0_pay127, k0_pay128]
  simp only [pay14_real h H hh, hy, hrq, ← EReal.coe_mul, coe_sum, ← EReal.coe_add, zero_add]

include hh hz' hrk in
theorem pay131_real (a : Fin 128) : k0_pay131 (k0_pay17 h) z acck (ix2 0 a) =
    ((RK a + ∑ r, Z r a * hat 128 (rowK H r) a : ℝ) : EReal) := by
  pointwise [k0_pay131]
  simp only [pay17_real h H hh, hz', hrk, ← EReal.coe_mul, coe_sum, ← EReal.coe_add, zero_add]

end Norms

/-! ## The rotary embedding's inverse -/

section Rope

theorem below80 : ∀ l : Fin 128, IntOp.cmpi .slt (BitVec.ofNat 32 l.val) 80#32 = if l.val < 80 then 1#1 else 0#1 := by decide
theorem rotated : ∀ l : Fin 128, IntOp.andi (IntOp.cmpi .sge (BitVec.ofNat 32 l.val) 64#32) (IntOp.cmpi .slt (BitVec.ofNat 32 l.val) 96#32) =
    if 64 ≤ l.val ∧ l.val < 96 then 1#1 else 0#1 := by decide

theorem select_if {α : Type} (p : Prop) [Decidable p] (x y : α) : Scalar.select (if p then 1#1 else 0#1) x y = if p then x else y := by
  split <;> rfl

variable (ct st : FVec Ideal S512x128 .f32) (C S : Fin 512 → Fin 128 → ℝ)
variable (hc : ∀ r l, ct (ix2 r l) = (C r l : EReal)) (hs : ∀ r l, st (ix2 r l) = (S r l : EReal))

include hc hs in
theorem pay22_real (x : Vec Ideal S1x512x128 .f32) (X : Fin 512 → Fin 128 → ℝ) (hx : ∀ r l, x (ix3 0 r l) = (X r l : EReal)) (r : Fin 512) (l : Fin 128) :
    k0_pay22 ct st x (ix2 r l) = (ropeInv (X r) (C r) (S r) l : EReal) := by
  pointwise [k0_pay22]
  simp only [hc, hs, hx, below80 l, select_if]
  unfold ropeInv
  have e1 : (⟨(l.val + 128 - 112) % 128, Nat.mod_lt _ (by norm_num)⟩ : Fin 128) = ⟨(l.val + 16) % 128, Nat.mod_lt _ (by norm_num)⟩ := Fin.ext (by show (l.val + 128 - 112) % 128 = (l.val + 16) % 128; omega)
  have e2 : (⟨(l.val + 128 - 16) % 128, Nat.mod_lt _ (by norm_num)⟩ : Fin 128) = ⟨(l.val + 112) % 128, Nat.mod_lt _ (by norm_num)⟩ := Fin.ext (by show (l.val + 128 - 16) % 128 = (l.val + 112) % 128; omega)
  rw [e1, e2]
  split <;> simp only [← EReal.coe_mul, ← EReal.coe_sub]

/-- A row with zeros outside the rotated lanes. -/
def masked (v : Fin 128 → ℝ) (l : Fin 128) : ℝ := if 64 ≤ l.val ∧ l.val < 96 then v l else 0

include hc hs in
theorem pay126_real (x : FVec Ideal S512x128 .f32) (X : Fin 512 → Fin 128 → ℝ) (hx : ∀ r l, x (ix2 r l) = (X r l : EReal)) (r : Fin 512) (l : Fin 128) :
    k0_pay126 ct st x (ix2 r l) = (masked (ropeInv (masked (X r)) (C r) (S r)) l : EReal) := by
  pointwise [k0_pay126]
  simp only [hc, hs, hx, below80 l, rotated, select_if, Ideal.ofBits_zero_f32]
  have hm : ∀ l : Fin 128, (if 64 ≤ l.val ∧ l.val < 96 then (X r l : EReal) else 0) = (masked (X r) l : EReal) := fun l => by
    unfold masked; split <;> rfl
  have r1 := rotated ⟨(l.val + 128 - 112) % 128, Nat.mod_lt _ (by norm_num)⟩
  have r2 := rotated ⟨(l.val + 128 - 16) % 128, Nat.mod_lt _ (by norm_num)⟩
  have m1 := hm ⟨(l.val + 128 - 112) % 128, Nat.mod_lt _ (by norm_num)⟩
  have m2 := hm ⟨(l.val + 128 - 16) % 128, Nat.mod_lt _ (by norm_num)⟩
  dsimp only at r1 r2 m1 m2
  rw [r1, r2, select_if, select_if, m1, m2]
  have e1 : (⟨(l.val + 128 - 112) % 128, Nat.mod_lt _ (by norm_num)⟩ : Fin 128) = ⟨(l.val + 16) % 128, Nat.mod_lt _ (by norm_num)⟩ := Fin.ext (by show (l.val + 128 - 112) % 128 = (l.val + 16) % 128; omega)
  have e2 : (⟨(l.val + 128 - 16) % 128, Nat.mod_lt _ (by norm_num)⟩ : Fin 128) = ⟨(l.val + 112) % 128, Nat.mod_lt _ (by norm_num)⟩ := Fin.ext (by show (l.val + 128 - 16) % 128 = (l.val + 112) % 128; omega)
  rw [e1, e2]
  by_cases hp : 64 ≤ l.val ∧ l.val < 96
  · have hl : X r l = masked (X r) l := (if_pos hp).symm
    have ho : ∀ v : Fin 128 → ℝ, masked v l = v l := fun v => if_pos hp
    rw [if_pos hp, if_pos hp, hl, ho (ropeInv _ _ _)]
    unfold ropeInv
    split <;> simp only [← EReal.coe_mul, ← EReal.coe_sub]
  · have ho : ∀ v : Fin 128 → ℝ, masked v l = 0 := fun v => if_neg hp
    rw [if_neg hp, ho]; rfl

end Rope

/-- The keys' and values' latent cotangent after one more head. -/
theorem pay31_real (acc : FVec Ideal S512x128 .f32) (x x' : Vec Ideal S1x512x128 .f32) (w w' : Vec Ideal S1x128x128 .bf16) (X X' : Fin 512 → Fin 128 → ℝ)
    (W W' : Fin 128 → Fin 128 → ℝ) (hx : ∀ r l, x (ix3 0 r l) = (X r l : EReal)) (hx' : ∀ r l, x' (ix3 0 r l) = (X' r l : EReal))
    (hw : ∀ j l, w (ix3 0 j l) = (W j l : EReal)) (hw' : ∀ j l, w' (ix3 0 j l) = (W' j l : EReal)) (r : Fin 512) (j : Fin 128) (R : ℝ) (h : acc (ix2 r j) = (R : EReal)) :
    k0_pay31 acc (k0_pay27 x) (k0_pay28 w) x' w' (ix2 r j) = ((R + ((∑ l, X r l * W j l) + ∑ l, X' r l * W' j l) : ℝ) : EReal) := by
  pointwise [k0_pay31, k0_pay30, k0_pay28, k0_pay27, k0_pay25]
  simp only [hx, hx', hw, hw', h, ← EReal.coe_mul, coe_sum, ← EReal.coe_add, add_assoc]

/-- The queries' latent cotangent after one more head. -/
theorem cq_step (acc : FVec Ideal S512x256 .f32) (x : FVec Ideal S512x128 .bf16) (w : FVec Ideal S1x256x128 .bf16) (X : Fin 512 → Fin 128 → ℝ)
    (W : Fin 256 → Fin 128 → ℝ) (hx : ∀ r l, x (ix2 r l) = (X r l : EReal)) (hw : ∀ j l, w (ix3 0 j l) = (W j l : EReal))
    (r : Fin 512) (j : Fin 256) (R : ℝ) (h : acc (ix2 r j) = (R : EReal)) :
    addf acc (matmul dot_S512x128_S256x128_S512x256_1_1_0_0_n_n none x (shapeCast S256x128 w shapeCasts_S1x256x128_S256x128) (constant S512x256 .f32 0x00000000#32)) (ix2 r j) =
      ((R + ∑ l, X r l * W j l : ℝ) : EReal) := by
  pointwise
  simp only [hx, hw, h, ← EReal.coe_mul, coe_sum, ← EReal.coe_add]

/-- The rotated keys' cotangent after one more head. -/
theorem kr_step (acc : FVec Ideal S512x128 .f32) (x : Vec Ideal S1x512x128 .f32) (X : Fin 512 → Fin 128 → ℝ)
    (hx : ∀ r l, x (ix3 0 r l) = (X r l : EReal)) (r : Fin 512) (l : Fin 128) (R : ℝ) (h : acc (ix2 r l) = (R : EReal)) :
    addf acc (k0_pay25 x) (ix2 r l) = ((R + X r l : ℝ) : EReal) := by
  pointwise [k0_pay25]
  simp only [hx, h, ← EReal.coe_add]

/-! ## A point -/

section Point

variable (m : (ℓ : Loc nD τ sig) → Buf (Elt Ideal) ℓ) (c : Dev nD) (t : Fin cfg0.N)

/-- The blocks of a point hold real numbers. -/
structure Reads (H : Fin 512 → Fin 512 → ℝ) (GQ : Fin 256 → ℝ) (GK : Fin 128 → ℝ) (WQ : Fin 8 → Fin 256 → Fin 128 → ℝ)
    (WK WV : Fin 8 → Fin 128 → Fin 128 → ℝ) (C S : Fin 512 → Fin 128 → ℝ) (DQ DK DV : Fin 8 → Fin 512 → Fin 128 → ℝ) : Prop where
  h : ∀ r q, iblk m c 0 t (ix2 r q) = (H r q : EReal)
  gq : ∀ a, iblk m c 1 t (ix2 0 a) = (GQ a : EReal)
  gk : ∀ a, iblk m c 2 t (ix2 0 a) = (GK a : EReal)
  wq : ∀ k a l, iblk m c 3 t (ix3 k a l) = (WQ k a l : EReal)
  wk : ∀ k a l, iblk m c 4 t (ix3 k a l) = (WK k a l : EReal)
  wv : ∀ k a l, iblk m c 5 t (ix3 k a l) = (WV k a l : EReal)
  ct : ∀ r l, iblk m c 6 t (ix2 r l) = (C r l : EReal)
  st : ∀ r l, iblk m c 7 t (ix2 r l) = (S r l : EReal)
  dq : ∀ k r l, iblk m c 8 t (ix3 k r l) = (DQ k r l : EReal)
  dk : ∀ k r l, iblk m c 9 t (ix3 k r l) = (DK k r l : EReal)
  dv : ∀ k r l, iblk m c 10 t (ix3 k r l) = (DV k r l : EReal)

variable {m c t}
variable {H : Fin 512 → Fin 512 → ℝ} {GQ : Fin 256 → ℝ} {GK : Fin 128 → ℝ} {WQ : Fin 8 → Fin 256 → Fin 128 → ℝ}
    {WK WV : Fin 8 → Fin 128 → Fin 128 → ℝ} {C S : Fin 512 → Fin 128 → ℝ} {DQ DK DV : Fin 8 → Fin 512 → Fin 128 → ℝ}
variable (a : Reads m c t H GQ GK WQ WK WV C S DQ DK DV)

/-- The cotangents of the three latents at a row of the block, summed over the heads. -/
def cqR (WQ : Fin 8 → Fin 256 → Fin 128 → ℝ) (C S : Fin 512 → Fin 128 → ℝ) (DQ : Fin 8 → Fin 512 → Fin 128 → ℝ) (r : Fin 512) (j : Fin 256) : ℝ :=
  ∑ k, ∑ l, ropeInv (DQ k r) (C r) (S r) l * WQ k j l
def ckR (WK WV : Fin 8 → Fin 128 → Fin 128 → ℝ) (DK DV : Fin 8 → Fin 512 → Fin 128 → ℝ) (r : Fin 512) (j : Fin 128) : ℝ :=
  ∑ k, ((∑ l, DK k r l * WK k j l) + ∑ l, DV k r l * WV k j l)
def krR (DK : Fin 8 → Fin 512 → Fin 128 → ℝ) (r : Fin 512) (l : Fin 128) : ℝ := ∑ k, DK k r l

include a

theorem ct_real (r : Fin 512) (l : Fin 128) : ctB m c t (ix2 r l) = (C r l : EReal) :=
  (congrFun (shapeCast_self (s := S512x128) (α := EReal) (iblk m c 6 t) _) _).trans (a.ct r l)
theorem st_real (r : Fin 512) (l : Fin 128) : stB m c t (ix2 r l) = (S r l : EReal) :=
  (congrFun (shapeCast_self (s := S512x128) (α := EReal) (iblk m c 7 t) _) _).trans (a.st r l)
theorem cqn_real (r : Fin 512) (j : Fin 256) : cqnB m c t (ix2 r j) = ((hat 256 (rowQ H r) j * GQ j : ℝ) : EReal) := pay19_real _ H a.h _ GQ a.gq r j
theorem ckn_real (r : Fin 512) (j : Fin 128) : cknB m c t (ix2 r j) = ((hat 128 (rowK H r) j * GK j : ℝ) : EReal) := pay20_real _ H a.h _ GK a.gk r j

theorem dq_real (k : Fin 8) (r : Fin 512) (l : Fin 128) :
    k0_pay22 (ctB m c t) (stB m c t) (View.ld (iblk m c 8 t) (slabD k)) (ix2 r l) = (ropeInv (DQ k r) (C r) (S r) l : EReal) :=
  pay22_real _ _ C S (ct_real a) (st_real a) _ (DQ k) (fun r l => (ld_slabD (iblk m c 8 t : Vec Ideal S8x512x128 .f32) k r l).trans (a.dq k r l)) r l

theorem dk_at (k : Fin 8) (r : Fin 512) (l : Fin 128) : View.ld (iblk m c 9 t) (slabD k) (ix3 0 r l) = (DK k r l : EReal) :=
  (ld_slabD (iblk m c 9 t : Vec Ideal S8x512x128 .f32) k r l).trans (a.dk k r l)
theorem dv_at (k : Fin 8) (r : Fin 512) (l : Fin 128) : View.ld (iblk m c 10 t) (slabD k) (ix3 0 r l) = (DV k r l : EReal) :=
  (ld_slabD (iblk m c 10 t : Vec Ideal S8x512x128 .f32) k r l).trans (a.dv k r l)
theorem wq_at (k : Fin 8) (r : Fin 256) (l : Fin 128) : View.ld (iblk m c 3 t) (slabQ k) (ix3 0 r l) = (WQ k r l : EReal) :=
  (ld_slabQ (iblk m c 3 t : Vec Ideal S8x256x128 .bf16) k r l).trans (a.wq k r l)
theorem wk_at (k : Fin 8) (r : Fin 128) (l : Fin 128) : View.ld (iblk m c 4 t) (slabK k) (ix3 0 r l) = (WK k r l : EReal) :=
  (ld_slabK (iblk m c 4 t : Vec Ideal S8x128x128 .bf16) k r l).trans (a.wk k r l)
theorem wv_at (k : Fin 8) (r : Fin 128) (l : Fin 128) : View.ld (iblk m c 5 t) (slabK k) (ix3 0 r l) = (WV k r l : EReal) :=
  (ld_slabK (iblk m c 5 t : Vec Ideal S8x128x128 .bf16) k r l).trans (a.wv k r l)

theorem cq_real (r : Fin 512) (j : Fin 256) : cqB m c t (ix2 r j) = (cqR WQ C S DQ r j : EReal) := by
  refine (foldl_real (cqStep m c t) (fun v => v (ix2 r j)) (fun k => ∑ l, ropeInv (DQ k r) (C r) (S r) l * WQ k j l) (fun acc k R h => ?_) heads _ 0 ?_).trans
    (congrArg _ (sum_heads _))
  · exact cq_step acc _ _ _ _ (dq_real a k) (wq_at a k) r j R h
  · exact Ideal.ofBits_zero_f32

theorem ck_real (r : Fin 512) (j : Fin 128) : ckB m c t (ix2 r j) = (ckR WK WV DK DV r j : EReal) := by
  refine (foldl_real (ckStep m c t) (fun v => v (ix2 r j)) (fun k => (∑ l, DK k r l * WK k j l) + ∑ l, DV k r l * WV k j l) (fun acc k R h => ?_) heads _ 0 ?_).trans
    (congrArg _ (sum_heads _))
  · exact pay31_real acc _ _ _ _ _ _ _ _ (dk_at a k) (dv_at a k) (wk_at a k) (wv_at a k) r j R h
  · exact Ideal.ofBits_zero_f32

theorem kr_real (r : Fin 512) (l : Fin 128) : krB m c t (ix2 r l) = (krR DK r l : EReal) := by
  refine (foldl_real (krStep m c t) (fun v => v (ix2 r l)) (fun k => DK k r l) (fun acc k R h => ?_) heads _ 0 ?_).trans
    (congrArg _ (sum_heads _))
  · exact kr_step acc _ _ (dk_at a k) r l R h
  · exact Ideal.ofBits_zero_f32

/-- The input's gradient at a row of the block: the queries' latent, the keys' and values', and the rotated keys. -/
def dhR (H : Fin 512 → Fin 512 → ℝ) (GQ : Fin 256 → ℝ) (GK : Fin 128 → ℝ) (WQ : Fin 8 → Fin 256 → Fin 128 → ℝ)
    (WK WV : Fin 8 → Fin 128 → Fin 128 → ℝ) (C S : Fin 512 → Fin 128 → ℝ) (DQ DK DV : Fin 8 → Fin 512 → Fin 128 → ℝ) (r : Fin 512) (q : Fin 512) : ℝ :=
  if h : q.val < 256 then grad 256 (rowQ H r) (fun b => cqR WQ C S DQ r b * GQ b) ⟨q.val, h⟩
  else if h' : q.val < 384 then grad 128 (rowK H r) (fun b => ckR WK WV DK DV r b * GK b) ⟨q.val - 256, by omega⟩
  else masked (ropeInv (masked (krR DK r)) (C r) (S r)) ⟨q.val - 384, by omega⟩

theorem dh_real (r : Fin 512) (q : Fin 512) : dh m c t (ix2 r q) = (dhR H GQ GK WQ WK WV C S DQ DK DV r q : EReal) := by
  have e1 := pay130_real _ H a.h _ GQ a.gq _ _ (cq_real a) r
  have e2 := pay132_real _ H a.h _ GK a.gk _ _ (ck_real a) r
  have e3 := pay126_real _ _ C S (ct_real a) (st_real a) _ _ (kr_real a) r
  have e4 := pay16_real _ H a.h r
  unfold dh
  generalize k0_pay130 (k0_pay10 (iblk m c 1 t)) (k0_pay13 (iblk m c 0 t)) (k0_pay14 (iblk m c 0 t)) (cqB m c t) = X1 at e1 ⊢
  generalize k0_pay132 (k0_pay11 (iblk m c 2 t)) (k0_pay17 (iblk m c 0 t)) (ckB m c t) = X2 at e2 ⊢
  generalize k0_pay126 (ctB m c t) (stB m c t) (krB m c t) = X3 at e3 ⊢
  generalize k0_pay16 (iblk m c 0 t) = X4 at e4 ⊢
  pointwise [k0_pay1]
  simp only [e1, e2, e3, e4]
  unfold dhR
  by_cases h : q.val < 256
  · rw [dif_pos h, dif_pos h]
  · rw [dif_neg h, dif_neg h]
    by_cases h' : q.val < 384
    · rw [dif_pos (by omega : q.val - 256 < 128), dif_pos h', ← EReal.coe_mul]
      rfl
    · rw [dif_neg (by omega : ¬q.val - 256 < 128), dif_neg h']
      exact congrArg (fun l => ((masked (ropeInv (masked (krR DK r)) (C r) (S r)) l : ℝ) : EReal)) (Fin.ext (by show q.val - 256 - 128 = q.val - 384; omega))

/-- What a point adds to an entry of the three weights' gradients, and of the two gains'. -/
def tQ (H : Fin 512 → Fin 512 → ℝ) (GQ : Fin 256 → ℝ) (C S : Fin 512 → Fin 128 → ℝ) (DQ : Fin 8 → Fin 512 → Fin 128 → ℝ) (k : Fin 8) (j : Fin 256) (l : Fin 128) : ℝ :=
  ∑ r, hat 256 (rowQ H r) j * GQ j * ropeInv (DQ k r) (C r) (S r) l
def tK (H : Fin 512 → Fin 512 → ℝ) (GK : Fin 128 → ℝ) (D : Fin 8 → Fin 512 → Fin 128 → ℝ) (k : Fin 8) (j l : Fin 128) : ℝ :=
  ∑ r, hat 128 (rowK H r) j * GK j * D k r l

theorem dwq_real (k : Fin 8) (acc : Vec Ideal S1x256x128 .f32) (A : ℝ) (j : Fin 256) (l : Fin 128) (hA : acc (ix3 0 j l) = (A : EReal)) :
    dwq m c t k acc (ix3 0 j l) = ((A + tQ H GQ C S DQ k j l : ℝ) : EReal) := by
  have hd := dq_real a k
  have hw := cqn_real a
  unfold dwq k0_pay24
  generalize k0_pay22 (ctB m c t) (stB m c t) (View.ld (iblk m c 8 t) (slabD k)) = X at hd ⊢
  generalize cqnB m c t = Y at hw ⊢
  pointwise
  simp only [hd, hw, hA, ← EReal.coe_mul, coe_sum, ← EReal.coe_add, zero_add]
  rfl

theorem dwk_real (k : Fin 8) (acc : Vec Ideal S1x128x128 .f32) (A : ℝ) (j : Fin 128) (l : Fin 128) (hA : acc (ix3 0 j l) = (A : EReal)) :
    dwk m c t k acc (ix3 0 j l) = ((A + tK H GK DK k j l : ℝ) : EReal) := by
  have hd := dk_at a k
  have hw := ckn_real a
  unfold dwk
  generalize View.ld (iblk m c 9 t) (slabD k) = X at hd ⊢
  generalize cknB m c t = Y at hw ⊢
  pointwise [k0_pay29, k0_pay27, k0_pay25]
  simp only [hd, hw, hA, ← EReal.coe_mul, coe_sum, ← EReal.coe_add, zero_add]
  rfl

theorem dwv_real (k : Fin 8) (acc : Vec Ideal S1x128x128 .f32) (A : ℝ) (j : Fin 128) (l : Fin 128) (hA : acc (ix3 0 j l) = (A : EReal)) :
    dwv m c t k acc (ix3 0 j l) = ((A + tK H GK DV k j l : ℝ) : EReal) := by
  have hd := dv_at a k
  have hw := ckn_real a
  unfold dwv
  generalize View.ld (iblk m c 10 t) (slabD k) = X at hd ⊢
  generalize cknB m c t = Y at hw ⊢
  pointwise [k0_pay32, k0_pay30]
  simp only [hd, hw, hA, ← EReal.coe_mul, coe_sum, ← EReal.coe_add, zero_add]
  rfl

theorem dgq_real (acc : Vec Ideal S1x256 .f32) (A : Fin 256 → ℝ) (hA : ∀ j, acc (ix2 0 j) = (A j : EReal)) (j : Fin 256) :
    dgq m c t acc (ix2 0 j) = ((A j + ∑ r, cqR WQ C S DQ r j * hat 256 (rowQ H r) j : ℝ) : EReal) :=
  pay129_real _ H a.h _ _ (cq_real a) _ A hA j

theorem dgk_real (acc : Vec Ideal S1x128 .f32) (A : Fin 128 → ℝ) (hA : ∀ j, acc (ix2 0 j) = (A j : EReal)) (j : Fin 128) :
    dgk m c t acc (ix2 0 j) = ((A j + ∑ r, ckR WK WV DK DV r j * hat 128 (rowK H r) j : ℝ) : EReal) :=
  pay131_real _ H a.h _ _ (ck_real a) _ A hA j

end Point

end Cert.PrepIdeal.Block

end
-- ==== Proof.PrepInputs.lean ====
/- The latent projections' call: the eleven blocks that a grid point reads, as real numbers, where the arguments hold real
   numbers. The host lines pad the input's columns, the weights' and the cotangents' lanes, and compute the two tables of the
   rotary embedding. -/
module

public import proofs.«01_k».proof.Proof.PrepArrays
public import proofs.«01_k».proof.Proof.PrepBlock

@[expose] public section

set_option maxRecDepth 16384

noncomputable section

namespace Cert.PrepIdeal.Inputs

open Cert.PrepIdeal Cert.PrepIdeal.Gen Cert.PrepIdeal.Steps Cert.PrepIdeal.Arrays Cert.PrepIdeal.Block Cert.LnReal Cert.PrepReal Idealize.ShloMosaic Idealize.ShloMosaic.TcCoe Idealize.SL.Sem

variable (m : (ℓ : Loc nD τ sig) → Buf (Elt Ideal) ℓ)

/-- The row of the whole array at which a tile's row stands. -/
def row (t : Fin cfg0.N) (r : Fin 512) : Fin 4096 := ⟨t.val * 512 + r.val, by have := t.isLt; have hN : cfg0.N = 8 := N_0; omega⟩

/-- The padding value. -/
def zero : FVec Ideal S_ .f32 := sitofp .f32 (constantI S_ 32 0#32)

theorem zero_at (j : S_.Idx) : zero j = 0 := by
  show (((0#32 : BitVec 32).toInt : ℝ) : EReal) = 0
  simp

/-- The angles as the host lines compute them. -/
def angHost : FVec Ideal S4096x16 .f32 :=
  mulf (broadcastInDim S4096x16 ![0, 1] bcast_S4096x1_S4096x16_0_1 (broadcastInDim S4096x1 ![0] bcast_S4096_S4096x1_0 (sitofp .f32 (iotaInDim S4096 32 0))))
    (broadcastInDim S4096x16 ![0, 1] bcast_S1x16_S4096x16_0_1 (broadcastInDim S1x16 ![1] bcast_S16_S1x16_1
      (Host.powf (broadcastInDim S16 ![] bcast_S_S16 (constant S_ .f32 0x461C4000#32))
        (Host.divf (Host.negf (sitofp .f32 (iotaInDim S16 32 0))) (broadcastInDim S16 ![] bcast_S_S16 (constant S_ .f32 0x41800000#32))))))

theorem sitofp_nat (n : ℕ) (h : n < 4096) : (FloatOps.sitofp .f32 (BitVec.ofNat 32 n) : Ideal .f32) = ((n : ℝ) : EReal) := by
  show (((BitVec.ofNat 32 n).toInt : ℝ) : EReal) = _
  have e : (BitVec.ofNat 32 n).toInt = (n : ℤ) := by
    rw [BitVec.toInt_eq_toNat_of_lt (by rw [BitVec.toNat_ofNat]; omega), BitVec.toNat_ofNat, Nat.mod_eq_of_lt (by omega)]
  rw [e]
  simp

theorem angHost_real (i : Fin 4096) (j : Fin 16) : angHost (ix2 i j) = (ang i j : EReal) := by
  unfold angHost
  pointwise
  have e1 : (FloatOps.sitofp .f32 (BitVec.ofNat 32 i.val) : Ideal .f32) = ((i.val : ℝ) : EReal) := sitofp_nat i.val (by omega)
  have e2 : (FloatOps.sitofp .f32 (BitVec.ofNat 32 j.val) : Ideal .f32) = ((j.val : ℝ) : EReal) := sitofp_nat j.val (by omega)
  rw [e1, e2, c10000, c16, ← EReal.coe_neg, div16, Ideal.pow_coe_coe, ← EReal.coe_mul]
  rfl

theorem V_ct (c : Dev nD) : V m c main_v16 = concatenate S4096x128 1 [⟨S4096x64, broadcastInDim S4096x64 ![] bcast_S_S4096x64 (constant (F := Ideal) S_ .f32 0x3F800000#32)⟩,
    ⟨S4096x16, Host.cos angHost⟩, ⟨S4096x16, Host.cos angHost⟩, ⟨S4096x32, broadcastInDim S4096x32 ![] bcast_S_S4096x32 (constant (F := Ideal) S_ .f32 0x3F800000#32)⟩]
    concatenates_S4096x64_S4096x16_S4096x16_S4096x32_S4096x128_d1 := by
  show StableHlo.after (List.flatten [hostOps0, hostOps0_1, hostOps0_2, hostOps0_3, hostOps0_4, hostOps0_5, hostOps0_6, hostOps0_7, hostOps0_8, hostOps0_9, hostOps0_10, hostOps0_11]) _ (Proc.devRef .tc main_v16) = _
  after_results
  rfl

theorem V_st (c : Dev nD) : V m c main_v22 = concatenate S4096x128 1 [⟨S4096x64, mulf (broadcastInDim S4096x64 ![] bcast_S_S4096x64 (constant (F := Ideal) S_ .f32 0x00000000#32))
      (broadcastInDim S4096x64 ![] bcast_S_S4096x64 (constant (F := Ideal) S_ .f32 0x3F800000#32))⟩,
    ⟨S4096x16, Host.negf (Host.sin angHost)⟩, ⟨S4096x16, Host.sin angHost⟩, ⟨S4096x32, mulf (broadcastInDim S4096x32 ![] bcast_S_S4096x32 (constant (F := Ideal) S_ .f32 0x00000000#32))
      (broadcastInDim S4096x32 ![] bcast_S_S4096x32 (constant (F := Ideal) S_ .f32 0x3F800000#32))⟩]
    concatenates_S4096x64_S4096x16_S4096x16_S4096x32_S4096x128_d1 := by
  show StableHlo.after (List.flatten [hostOps0, hostOps0_1, hostOps0_2, hostOps0_3, hostOps0_4, hostOps0_5, hostOps0_6, hostOps0_7, hostOps0_8, hostOps0_9, hostOps0_10, hostOps0_11]) _ (Proc.devRef .tc main_v22) = _
  after_results
  rfl

theorem V_h (c : Dev nD) : V m c main_v39 = transpose S4096x2048 [1, 0] (concatenate S2048x4096 0
    [⟨S384x4096, extractStridedSlice S384x4096 ![0, 0] (transpose S1952x4096 [1, 0] (m ((c : Thread nD τ).loc main_arg0)) transposes_S4096x1952_S1952x4096_1_0) slices_S1952x4096_S384x4096_0_0⟩,
      ⟨S64x4096, broadcastInDim S64x4096 ![] bcast_S_S64x4096 (constant (F := Ideal) S_ .f32 0x00000000#32)⟩,
      ⟨S32x4096, extractStridedSlice S32x4096 ![384, 0] (transpose S1952x4096 [1, 0] (m ((c : Thread nD τ).loc main_arg0)) transposes_S4096x1952_S1952x4096_1_0) slices_S1952x4096_S32x4096_384_0⟩,
      ⟨S32x4096, broadcastInDim S32x4096 ![] bcast_S_S32x4096 (constant (F := Ideal) S_ .f32 0x00000000#32)⟩,
      ⟨S1536x4096, extractStridedSlice S1536x4096 ![416, 0] (transpose S1952x4096 [1, 0] (m ((c : Thread nD τ).loc main_arg0)) transposes_S4096x1952_S1952x4096_1_0) slices_S1952x4096_S1536x4096_416_0⟩]
    concatenates_S384x4096_S64x4096_S32x4096_S32x4096_S1536x4096_S2048x4096_d0) transposes_S2048x4096_S4096x2048_1_0 := by
  show StableHlo.after (List.flatten [hostOps0, hostOps0_1, hostOps0_2, hostOps0_3, hostOps0_4, hostOps0_5, hostOps0_6, hostOps0_7, hostOps0_8, hostOps0_9, hostOps0_10, hostOps0_11]) _ (Proc.devRef .tc main_v39) = _
  after_results
  rfl

theorem V_wq (c : Dev nD) : V m c main_v25 = (truncf .bf16 (pad S8x256x128 ![0, 0, 0] ![0, 0, 32] ![0, 0, 0] (transpose S8x256x96 [1, 0, 2] (m ((c : Thread nD τ).loc main_arg3)) transposes_S256x8x96_S8x256x96_1_0_2) zero pads_S8x256x96_S8x256x128_000_000_0320 h_S_) bitsLt_bf16_f32 : FVec Ideal S8x256x128 .bf16) := by
  show StableHlo.after (List.flatten [hostOps0, hostOps0_1, hostOps0_2, hostOps0_3, hostOps0_4, hostOps0_5, hostOps0_6, hostOps0_7, hostOps0_8, hostOps0_9, hostOps0_10, hostOps0_11]) _ (Proc.devRef .tc main_v25) = _
  simp only [List.flatten_cons, List.flatten_nil, List.cons_append, List.nil_append]
  after_results
  rfl

theorem V_wk (c : Dev nD) : V m c main_v28 = (truncf .bf16 (pad S8x128x128 ![0, 0, 0] ![0, 0, 64] ![0, 0, 0] (transpose S8x128x64 [1, 0, 2] (m ((c : Thread nD τ).loc main_arg4)) transposes_S128x8x64_S8x128x64_1_0_2) zero pads_S8x128x64_S8x128x128_000_000_0640 h_S_) bitsLt_bf16_f32 : FVec Ideal S8x128x128 .bf16) := by
  show StableHlo.after (List.flatten [hostOps0, hostOps0_1, hostOps0_2, hostOps0_3, hostOps0_4, hostOps0_5, hostOps0_6, hostOps0_7, hostOps0_8, hostOps0_9, hostOps0_10, hostOps0_11]) _ (Proc.devRef .tc main_v28) = _
  simp only [List.flatten_cons, List.flatten_nil, List.cons_append, List.nil_append]
  after_results
  rfl

theorem V_wv (c : Dev nD) : V m c main_v31 = (truncf .bf16 (pad S8x128x128 ![0, 0, 0] ![0, 0, 64] ![0, 0, 0] (transpose S8x128x64 [1, 0, 2] (m ((c : Thread nD τ).loc main_arg5)) transposes_S128x8x64_S8x128x64_1_0_2) zero pads_S8x128x64_S8x128x128_000_000_0640 h_S_) bitsLt_bf16_f32 : FVec Ideal S8x128x128 .bf16) := by
  show StableHlo.after (List.flatten [hostOps0, hostOps0_1, hostOps0_2, hostOps0_3, hostOps0_4, hostOps0_5, hostOps0_6, hostOps0_7, hostOps0_8, hostOps0_9, hostOps0_10, hostOps0_11]) _ (Proc.devRef .tc main_v31) = _
  simp only [List.flatten_cons, List.flatten_nil, List.cons_append, List.nil_append]
  after_results
  rfl

theorem V_dq (c : Dev nD) : V m c main_v43 = pad S8x4096x128 ![0, 0, 0] ![0, 0, 32] ![0, 0, 0] (transpose S8x4096x96 [1, 0, 2] (m ((c : Thread nD τ).loc main_arg6)) transposes_S4096x8x96_S8x4096x96_1_0_2) zero pads_S8x4096x96_S8x4096x128_000_000_0320 h_S_ := by
  show StableHlo.after (List.flatten [hostOps0, hostOps0_1, hostOps0_2, hostOps0_3, hostOps0_4, hostOps0_5, hostOps0_6, hostOps0_7, hostOps0_8, hostOps0_9, hostOps0_10, hostOps0_11]) _ (Proc.devRef .tc main_v43) = _
  simp only [List.flatten_cons, List.flatten_nil, List.cons_append, List.nil_append]
  after_results
  rfl

theorem V_dk (c : Dev nD) : V m c main_v45 = pad S8x4096x128 ![0, 0, 0] ![0, 0, 32] ![0, 0, 0] (transpose S8x4096x96 [1, 0, 2] (m ((c : Thread nD τ).loc main_arg7)) transposes_S4096x8x96_S8x4096x96_1_0_2) zero pads_S8x4096x96_S8x4096x128_000_000_0320 h_S_ := by
  show StableHlo.after (List.flatten [hostOps0, hostOps0_1, hostOps0_2, hostOps0_3, hostOps0_4, hostOps0_5, hostOps0_6, hostOps0_7, hostOps0_8, hostOps0_9, hostOps0_10, hostOps0_11]) _ (Proc.devRef .tc main_v45) = _
  simp only [List.flatten_cons, List.flatten_nil, List.cons_append, List.nil_append]
  after_results
  rfl

theorem V_dv (c : Dev nD) : V m c main_v47 = pad S8x4096x128 ![0, 0, 0] ![0, 0, 64] ![0, 0, 0] (transpose S8x4096x64 [1, 0, 2] (m ((c : Thread nD τ).loc main_arg8)) transposes_S4096x8x64_S8x4096x64_1_0_2) zero pads_S8x4096x64_S8x4096x128_000_000_0640 h_S_ := by
  show StableHlo.after (List.flatten [hostOps0, hostOps0_1, hostOps0_2, hostOps0_3, hostOps0_4, hostOps0_5, hostOps0_6, hostOps0_7, hostOps0_8, hostOps0_9, hostOps0_10, hostOps0_11]) _ (Proc.devRef .tc main_v47) = _
  simp only [List.flatten_cons, List.flatten_nil, List.cons_append, List.nil_append]
  after_results
  rfl

variable {m} {c : Dev nD}

theorem in_ct (t : Fin cfg0.N) (r : Fin 512) (l : Fin 128) : iblk m c 6 t (ix2 r l) = (ctab (row t r) l : EReal) := by
  have ht := (tile t).2.1
  have hi : ((cfg0.win 6).blk t).view.emb (ix2 r l) = (ix2 (row t r) l : S4096x128.Idx) := funext fun a => Fin.ext (by
    match a with
    | ⟨0, _⟩ => show win0_6.index t 0 * 512 + 1 * r.val = t.val * 512 + r.val; omega
    | ⟨1, _⟩ => show win0_6.index t 1 * 128 + 1 * l.val = l.val; omega)
  unfold iblk
  rw [View.read_apply]
  show V m c main_v16 _ = _
  rw [hi, V_ct]
  have hA := angHost_real (row t r)
  generalize angHost = A at hA ⊢
  pointwise
  simp only [hA, Ideal.cos_coe]
  unfold ctab
  split
  · rfl
  · split
    · rfl
    · split <;> rfl

theorem in_st (t : Fin cfg0.N) (r : Fin 512) (l : Fin 128) : iblk m c 7 t (ix2 r l) = (stab (row t r) l : EReal) := by
  have ht := (tile t).2.2.1
  have hi : ((cfg0.win 7).blk t).view.emb (ix2 r l) = (ix2 (row t r) l : S4096x128.Idx) := funext fun a => Fin.ext (by
    match a with
    | ⟨0, _⟩ => show win0_7.index t 0 * 512 + 1 * r.val = t.val * 512 + r.val; omega
    | ⟨1, _⟩ => show win0_7.index t 1 * 128 + 1 * l.val = l.val; omega)
  unfold iblk
  rw [View.read_apply]
  show V m c main_v22 _ = _
  rw [hi, V_st]
  have hA := angHost_real (row t r)
  generalize angHost = A at hA ⊢
  pointwise
  simp only [hA, Ideal.sin_coe]
  unfold stab
  split
  · rfl
  · split
    · rfl
    · split <;> rfl

theorem in_h {H : Fin 4096 → Fin 1952 → ℝ} (hH : ∀ i q, m ((c : Thread nD τ).loc main_arg0) (ix2 i q) = (H i q : EReal)) (t : Fin cfg0.N) (r q : Fin 512) :
    iblk m c 0 t (ix2 r q) = (hpad H (row t r) q : EReal) := by
  have ht := (tile t).1
  have hi : ((cfg0.win 0).blk t).view.emb (ix2 r q) = (ix2 (row t r) (⟨q.val, by omega⟩ : Fin 2048) : S4096x2048.Idx) := funext fun a => Fin.ext (by
    match a with
    | ⟨0, _⟩ => show win0_0.index t 0 * 512 + 1 * r.val = t.val * 512 + r.val; omega
    | ⟨1, _⟩ => show win0_0.index t 1 * 512 + 1 * q.val = q.val; omega)
  unfold iblk
  rw [View.read_apply]
  show V m c main_v39 _ = _
  rw [hi, V_h]
  generalize m ((c : Thread nD τ).loc main_arg0) = X at hH ⊢
  pointwise
  simp only [hH]
  unfold hpad
  split
  · rfl
  · split
    · rfl
    · split
      · exact congrArg (fun q => (H (row t r) q : EReal)) (Fin.ext (by show 384 + (q.val - 384 - 64) = q.val - 64; omega))
      · rw [dif_pos (by omega)]; rfl

theorem in_gq {G : Fin 256 → ℝ} (hG : ∀ a, m ((c : Thread nD τ).loc main_arg1) (ix1 a) = (G a : EReal)) (t : Fin cfg0.N) (a : Fin 256) :
    iblk m c 1 t (ix2 0 a) = (G a : EReal) := by
  have hi : ((cfg0.win 1).blk t).view.emb (ix2 0 a) = (ix2 0 a : S1x256.Idx) := funext fun b => Fin.ext (by
    match b with
    | ⟨0, _⟩ => rfl
    | ⟨1, _⟩ => show 0 * 256 + 1 * a.val = a.val; omega)
  have hV : V m c main_v40 = shapeCast _ (m ((c : Thread nD τ).loc main_arg1)) shapeCasts_S256_S1x256 := by
    show StableHlo.after (List.flatten [hostOps0, hostOps0_1, hostOps0_2, hostOps0_3, hostOps0_4, hostOps0_5, hostOps0_6, hostOps0_7, hostOps0_8, hostOps0_9, hostOps0_10, hostOps0_11]) _ (Proc.devRef .tc main_v40) = _
    simp only [List.flatten_cons, List.flatten_nil, List.cons_append, List.nil_append]
    after_results
    rfl
  unfold iblk
  rw [View.read_apply]
  show V m c main_v40 _ = _
  rw [hi, hV]
  generalize m ((c : Thread nD τ).loc main_arg1) = X at hG ⊢
  pointwise
  exact hG a

theorem in_gk {G : Fin 128 → ℝ} (hG : ∀ a, m ((c : Thread nD τ).loc main_arg2) (ix1 a) = (G a : EReal)) (t : Fin cfg0.N) (a : Fin 128) :
    iblk m c 2 t (ix2 0 a) = (G a : EReal) := by
  have hi : ((cfg0.win 2).blk t).view.emb (ix2 0 a) = (ix2 0 a : S1x128.Idx) := funext fun b => Fin.ext (by
    match b with
    | ⟨0, _⟩ => rfl
    | ⟨1, _⟩ => show 0 * 128 + 1 * a.val = a.val; omega)
  have hV : V m c main_v41 = shapeCast _ (m ((c : Thread nD τ).loc main_arg2)) shapeCasts_S128_S1x128 := by
    show StableHlo.after (List.flatten [hostOps0, hostOps0_1, hostOps0_2, hostOps0_3, hostOps0_4, hostOps0_5, hostOps0_6, hostOps0_7, hostOps0_8, hostOps0_9, hostOps0_10, hostOps0_11]) _ (Proc.devRef .tc main_v41) = _
    simp only [List.flatten_cons, List.flatten_nil, List.cons_append, List.nil_append]
    after_results
    rfl
  unfold iblk
  rw [View.read_apply]
  show V m c main_v41 _ = _
  rw [hi, hV]
  generalize m ((c : Thread nD τ).loc main_arg2) = X at hG ⊢
  pointwise
  exact hG a

theorem in_wq {W : Fin 256 → Fin 8 → Fin 96 → ℝ} (hW : ∀ i k l, m ((c : Thread nD τ).loc main_arg3) (ix3 i k l) = (W i k l : EReal)) (t : Fin cfg0.N)
    (k : Fin 8) (r : Fin 256) (l : Fin 128) : iblk m c 3 t (ix3 k r l) = (lanes 96 (W r k) l : EReal) := by
  have hi : ((cfg0.win 3).blk t).view.emb (ix3 k r l) = (ix3 k r l : S8x256x128.Idx) := funext fun a => Fin.ext (by
    match a with
    | ⟨0, _⟩ => show 0 * 8 + 1 * k.val = k.val; omega
    | ⟨1, _⟩ => show 0 * 256 + 1 * r.val = r.val; omega
    | ⟨2, _⟩ => show 0 * 128 + 1 * l.val = l.val; omega)
  unfold iblk
  rw [View.read_apply]
  show V m c main_v25 _ = _
  rw [hi, V_wq]
  generalize m ((c : Thread nD τ).loc main_arg3) = X at hW ⊢
  pointwise
  simp only [hW, zero_at]
  unfold lanes
  split <;> rfl

theorem in_wk {W : Fin 128 → Fin 8 → Fin 64 → ℝ} (hW : ∀ i k l, m ((c : Thread nD τ).loc main_arg4) (ix3 i k l) = (W i k l : EReal)) (t : Fin cfg0.N)
    (k : Fin 8) (r : Fin 128) (l : Fin 128) : iblk m c 4 t (ix3 k r l) = (lanes 64 (W r k) l : EReal) := by
  have hi : ((cfg0.win 4).blk t).view.emb (ix3 k r l) = (ix3 k r l : S8x128x128.Idx) := funext fun a => Fin.ext (by
    match a with
    | ⟨0, _⟩ => show 0 * 8 + 1 * k.val = k.val; omega
    | ⟨1, _⟩ => show 0 * 128 + 1 * r.val = r.val; omega
    | ⟨2, _⟩ => show 0 * 128 + 1 * l.val = l.val; omega)
  unfold iblk
  rw [View.read_apply]
  show V m c main_v28 _ = _
  rw [hi, V_wk]
  generalize m ((c : Thread nD τ).loc main_arg4) = X at hW ⊢
  pointwise
  simp only [hW, zero_at]
  unfold lanes
  split <;> rfl

theorem in_wv {W : Fin 128 → Fin 8 → Fin 64 → ℝ} (hW : ∀ i k l, m ((c : Thread nD τ).loc main_arg5) (ix3 i k l) = (W i k l : EReal)) (t : Fin cfg0.N)
    (k : Fin 8) (r : Fin 128) (l : Fin 128) : iblk m c 5 t (ix3 k r l) = (lanes 64 (W r k) l : EReal) := by
  have hi : ((cfg0.win 5).blk t).view.emb (ix3 k r l) = (ix3 k r l : S8x128x128.Idx) := funext fun a => Fin.ext (by
    match a with
    | ⟨0, _⟩ => show 0 * 8 + 1 * k.val = k.val; omega
    | ⟨1, _⟩ => show 0 * 128 + 1 * r.val = r.val; omega
    | ⟨2, _⟩ => show 0 * 128 + 1 * l.val = l.val; omega)
  unfold iblk
  rw [View.read_apply]
  show V m c main_v31 _ = _
  rw [hi, V_wv]
  generalize m ((c : Thread nD τ).loc main_arg5) = X at hW ⊢
  pointwise
  simp only [hW, zero_at]
  unfold lanes
  split <;> rfl

theorem in_dq {W : Fin 4096 → Fin 8 → Fin 96 → ℝ} (hW : ∀ i k l, m ((c : Thread nD τ).loc main_arg6) (ix3 i k l) = (W i k l : EReal)) (t : Fin cfg0.N)
    (k : Fin 8) (r : Fin 512) (l : Fin 128) : iblk m c 8 t (ix3 k r l) = (lanes 96 (W (row t r) k) l : EReal) := by
  have ht := (slab t).1
  have hi : ((cfg0.win 8).blk t).view.emb (ix3 k r l) = (ix3 k (row t r) l : S8x4096x128.Idx) := funext fun a => Fin.ext (by
    match a with
    | ⟨0, _⟩ => show win0_8.index t 0 * 8 + 1 * k.val = k.val; omega
    | ⟨1, _⟩ => show win0_8.index t 1 * 512 + 1 * r.val = t.val * 512 + r.val; omega
    | ⟨2, _⟩ => show win0_8.index t 2 * 128 + 1 * l.val = l.val; omega)
  unfold iblk
  rw [View.read_apply]
  show V m c main_v43 _ = _
  rw [hi, V_dq]
  generalize m ((c : Thread nD τ).loc main_arg6) = X at hW ⊢
  pointwise
  simp only [hW, zero_at]
  unfold lanes
  split <;> rfl

theorem in_dk {W : Fin 4096 → Fin 8 → Fin 96 → ℝ} (hW : ∀ i k l, m ((c : Thread nD τ).loc main_arg7) (ix3 i k l) = (W i k l : EReal)) (t : Fin cfg0.N)
    (k : Fin 8) (r : Fin 512) (l : Fin 128) : iblk m c 9 t (ix3 k r l) = (lanes 96 (W (row t r) k) l : EReal) := by
  have ht := (slab t).2.1
  have hi : ((cfg0.win 9).blk t).view.emb (ix3 k r l) = (ix3 k (row t r) l : S8x4096x128.Idx) := funext fun a => Fin.ext (by
    match a with
    | ⟨0, _⟩ => show win0_9.index t 0 * 8 + 1 * k.val = k.val; omega
    | ⟨1, _⟩ => show win0_9.index t 1 * 512 + 1 * r.val = t.val * 512 + r.val; omega
    | ⟨2, _⟩ => show win0_9.index t 2 * 128 + 1 * l.val = l.val; omega)
  unfold iblk
  rw [View.read_apply]
  show V m c main_v45 _ = _
  rw [hi, V_dk]
  generalize m ((c : Thread nD τ).loc main_arg7) = X at hW ⊢
  pointwise
  simp only [hW, zero_at]
  unfold lanes
  split <;> rfl

theorem in_dv {W : Fin 4096 → Fin 8 → Fin 64 → ℝ} (hW : ∀ i k l, m ((c : Thread nD τ).loc main_arg8) (ix3 i k l) = (W i k l : EReal)) (t : Fin cfg0.N)
    (k : Fin 8) (r : Fin 512) (l : Fin 128) : iblk m c 10 t (ix3 k r l) = (lanes 64 (W (row t r) k) l : EReal) := by
  have ht := (slab t).2.2
  have hi : ((cfg0.win 10).blk t).view.emb (ix3 k r l) = (ix3 k (row t r) l : S8x4096x128.Idx) := funext fun a => Fin.ext (by
    match a with
    | ⟨0, _⟩ => show win0_10.index t 0 * 8 + 1 * k.val = k.val; omega
    | ⟨1, _⟩ => show win0_10.index t 1 * 512 + 1 * r.val = t.val * 512 + r.val; omega
    | ⟨2, _⟩ => show win0_10.index t 2 * 128 + 1 * l.val = l.val; omega)
  unfold iblk
  rw [View.read_apply]
  show V m c main_v47 _ = _
  rw [hi, V_dv]
  generalize m ((c : Thread nD τ).loc main_arg8) = X at hW ⊢
  pointwise
  simp only [hW, zero_at]
  unfold lanes
  split <;> rfl

end Cert.PrepIdeal.Inputs

end
-- ==== Proof.PrepRef.lean ====
/- The latent projections' reference over real numbers: the stages of the derivative that jax takes, each at an index, when
   the arguments hold real numbers. -/
module

public import proofs.«01_k».proof.Proof.LnReal
public import proofs.«01_k».proof.Proof.PrepReal
public import proofs.«01_k».proof.Proof.Gen.PrepRefIdeal.Read
public import Idealize.ShloMosaic.Lib.KernelVsHost

@[expose] public section

set_option maxRecDepth 16384

noncomputable section

namespace Cert.PrepRefIdeal.Ref

open Cert.PrepRefIdeal Cert.PrepRefIdeal.Gen Cert.PrepRefIdeal.Read Cert.LnReal Cert.PrepReal Idealize.ShloMosaic

/-- The nine arguments' entries are real numbers. -/
structure Args (x0 : FVec Ideal S4096x1952 .f32) (x1 : FVec Ideal S256 .f32) (x2 : FVec Ideal S128 .f32) (x3 : FVec Ideal S256x8x96 .f32)
    (x4 x5 : FVec Ideal S128x8x64 .f32) (x6 x7 : FVec Ideal S4096x8x96 .f32) (x8 : FVec Ideal S4096x8x64 .f32)
    (H : Fin 4096 → Fin 1952 → ℝ) (GQ : Fin 256 → ℝ) (GK : Fin 128 → ℝ) (WQ : Fin 256 → Fin 8 → Fin 96 → ℝ) (WK WV : Fin 128 → Fin 8 → Fin 64 → ℝ)
    (DQ DK : Fin 4096 → Fin 8 → Fin 96 → ℝ) (DV : Fin 4096 → Fin 8 → Fin 64 → ℝ) : Prop where
  h0 : ∀ i q, x0 (ix2 i q) = (H i q : EReal)
  h1 : ∀ j, x1 (ix1 j) = (GQ j : EReal)
  h2 : ∀ j, x2 (ix1 j) = (GK j : EReal)
  h3 : ∀ j k l, x3 (ix3 j k l) = (WQ j k l : EReal)
  h4 : ∀ j k l, x4 (ix3 j k l) = (WK j k l : EReal)
  h5 : ∀ j k l, x5 (ix3 j k l) = (WV j k l : EReal)
  h6 : ∀ i k l, x6 (ix3 i k l) = (DQ i k l : EReal)
  h7 : ∀ i k l, x7 (ix3 i k l) = (DK i k l : EReal)
  h8 : ∀ i k l, x8 (ix3 i k l) = (DV i k l : EReal)

variable {x0 : FVec Ideal S4096x1952 .f32} {x1 : FVec Ideal S256 .f32} {x2 : FVec Ideal S128 .f32} {x3 : FVec Ideal S256x8x96 .f32}
    {x4 x5 : FVec Ideal S128x8x64 .f32} {x6 x7 : FVec Ideal S4096x8x96 .f32} {x8 : FVec Ideal S4096x8x64 .f32}
    {H : Fin 4096 → Fin 1952 → ℝ} {GQ : Fin 256 → ℝ} {GK : Fin 128 → ℝ} {WQ : Fin 256 → Fin 8 → Fin 96 → ℝ} {WK WV : Fin 128 → Fin 8 → Fin 64 → ℝ}
    {DQ DK : Fin 4096 → Fin 8 → Fin 96 → ℝ} {DV : Fin 4096 → Fin 8 → Fin 64 → ℝ}

/-! ## The rotary embedding's angles -/

theorem sitofp_nat (n : ℕ) (h : n < 4096) : (FloatOps.sitofp .f32 (BitVec.ofNat 32 n) : Ideal .f32) = ((n : ℝ) : EReal) := by
  show (((BitVec.ofNat 32 n).toInt : ℝ) : EReal) = _
  have e : (BitVec.ofNat 32 n).toInt = (n : ℤ) := by
    rw [BitVec.toInt_eq_toNat_of_lt (by rw [BitVec.toNat_ofNat]; omega), BitVec.toNat_ofNat, Nat.mod_eq_of_lt (by omega)]
  rw [e]
  simp

theorem angq_real (i : Fin 4096) (j : Fin 16) : val_main_v56 (F := Ideal) (ix2 i j) = (ang i j : EReal) := by
  pointwise [val_main_v56, val_main_v55, val_main_v54, val_main_v53, val_main_v52, val_main_v51, val_main_v50, val_main_v49, val_main_v48, val_main_v47, val_main_v46, val_main_v45, val_main_v3, val_main_cst_9, val_main_cst_10]
  have e1 : (FloatOps.sitofp .f32 (BitVec.ofNat 32 i.val) : Ideal .f32) = ((i.val : ℝ) : EReal) := sitofp_nat i.val (by omega)
  have e2 : (FloatOps.sitofp .f32 (BitVec.ofNat 32 j.val) : Ideal .f32) = ((j.val : ℝ) : EReal) := sitofp_nat j.val (by omega)
  rw [e1, e2, c10000, c16, ← EReal.coe_neg, div16, Ideal.pow_coe_coe, ← EReal.coe_mul]
  rfl

theorem cosq_real (i : Fin 4096) (j : Fin 16) : val_main_v57 (F := Ideal) (ix2 i j) = (Real.cos (ang i j) : EReal) := by
  pointwise [val_main_v57]
  rw [angq_real]; rfl

theorem sinq_real (i : Fin 4096) (j : Fin 16) : val_main_v59 (F := Ideal) (ix2 i j) = (Real.sin (ang i j) : EReal) := by
  pointwise [val_main_v59]
  rw [angq_real]; rfl

theorem angk_real (i : Fin 4096) (j : Fin 16) : val_main_v86 (F := Ideal) (ix2 i j) = (ang i j : EReal) := by
  pointwise [val_main_v86, val_main_v85, val_main_v84, val_main_v83, val_main_v82, val_main_v81, val_main_v80, val_main_v79, val_main_v78, val_main_v77, val_main_v76, val_main_v75, val_main_v3, val_main_cst_11, val_main_cst_12]
  have e1 : (FloatOps.sitofp .f32 (BitVec.ofNat 32 i.val) : Ideal .f32) = ((i.val : ℝ) : EReal) := sitofp_nat i.val (by omega)
  have e2 : (FloatOps.sitofp .f32 (BitVec.ofNat 32 j.val) : Ideal .f32) = ((j.val : ℝ) : EReal) := sitofp_nat j.val (by omega)
  rw [e1, e2, c10000, c16, ← EReal.coe_neg, div16, Ideal.pow_coe_coe, ← EReal.coe_mul]
  rfl

theorem cosk_real (i : Fin 4096) (j : Fin 16) : val_main_v87 (F := Ideal) (ix2 i j) = (Real.cos (ang i j) : EReal) := by
  pointwise [val_main_v87]
  rw [angk_real]; rfl

theorem sink_real (i : Fin 4096) (j : Fin 16) : val_main_v89 (F := Ideal) (ix2 i j) = (Real.sin (ang i j) : EReal) := by
  pointwise [val_main_v89]
  rw [angk_real]; rfl

variable (a : Args x0 x1 x2 x3 x4 x5 x6 x7 x8 H GQ GK WQ WK WV DQ DK DV)
include a

/-! ## The two norms, forward -/

theorem zq_real (i : Fin 4096) (j : Fin 256) : val_main_v0 (F := Ideal) x0 (ix2 i j) = (zq H i j : EReal) := by
  refine Eq.trans (extractStridedSlice_apply (s := S4096x1952) (t := S4096x256) ![0, 0] _ slices_S4096x1952_S4096x256_0_0 (ix2 i j) (ix2 i (⟨j.val, by omega⟩ : Fin 1952)) fun b => ?_) (a.h0 _ _)
  match b with
  | ⟨0, _⟩ => exact (Nat.zero_add _).symm
  | ⟨1, _⟩ => exact (Nat.zero_add _).symm

theorem zk_real (i : Fin 4096) (j : Fin 128) : val_main_v1 (F := Ideal) x0 (ix2 i j) = (zk H i j : EReal) := by
  refine Eq.trans (extractStridedSlice_apply (s := S4096x1952) (t := S4096x128) ![0, 256] _ slices_S4096x1952_S4096x128_0_256 (ix2 i j) (ix2 i (⟨j.val + 256, by omega⟩ : Fin 1952)) fun b => ?_) (a.h0 _ _)
  match b with
  | ⟨0, _⟩ => exact (Nat.zero_add _).symm
  | ⟨1, _⟩ => exact Nat.add_comm _ _

theorem twoq_real (i : Fin 4096) (j : Fin 256) : val_main_v6 (F := Ideal) x0 (ix2 i j) = ((2 * zq H i j : ℝ) : EReal) := by
  pointwise [val_main_v6, val_main_v5, val_main_cst]
  simp only [zq_real a, c2, ← EReal.coe_mul]

theorem msq_real (i : Fin 4096) : val_main_v12 (F := Ideal) x0 (ix2 i 0) = (ms 256 (zq H i) : EReal) := by
  pointwise [val_main_v12, val_main_v11, val_main_v10, val_main_v9, val_main_v8, val_main_v7, val_main_v4, val_main_cst_0, val_main_cst_1, val_main_cst_2]
  simp only [zq_real a, c256, PrepReal.ceps, ← EReal.coe_mul, coe_sum, div256, ← EReal.coe_add, zero_add]
  rfl

theorem rrq_real (i : Fin 4096) : val_main_v13 (F := Ideal) x0 (ix2 i 0) = (rr 256 (zq H i) : EReal) := by
  pointwise [val_main_v13]
  rw [msq_real a]
  exact rsqrt_pos (ms_pos (N := 256) (by norm_num) (zq H i))

theorem halfq_real (i : Fin 4096) : val_main_v16 (F := Ideal) x0 (ix2 i 0) = ((-(1 / 2) * (rr 256 (zq H i) / ms 256 (zq H i)) : ℝ) : EReal) := by
  pointwise [val_main_v16, val_main_v15, val_main_v14, val_main_cst_3]
  simp only [rrq_real a, msq_real a, cmhalf]
  rw [div_real (ms_pos (N := 256) (by norm_num) (zq H i)).ne', ← EReal.coe_mul]

theorem hatq_real (i : Fin 4096) (j : Fin 256) : val_main_v18 (F := Ideal) x0 (ix2 i j) = (hat 256 (zq H i) j : EReal) := by
  pointwise [val_main_v18, val_main_v17]
  simp only [zq_real a, rrq_real a, ← EReal.coe_mul]
  rfl

theorem gq_real (i : Fin 4096) (j : Fin 256) : val_main_v19 (F := Ideal) x1 (ix2 0 j) = (GQ j : EReal) := by
  pointwise [val_main_v19]
  exact a.h1 j

theorem cnq_real (i : Fin 4096) (j : Fin 256) : val_main_v21 (F := Ideal) x0 x1 (ix2 i j) = ((hat 256 (zq H i) j * GQ j : ℝ) : EReal) := by
  pointwise [val_main_v21, val_main_v20]
  simp only [hatq_real a, gq_real a i, ← EReal.coe_mul]

theorem twok_real (i : Fin 4096) (j : Fin 128) : val_main_v24 (F := Ideal) x0 (ix2 i j) = ((2 * zk H i j : ℝ) : EReal) := by
  pointwise [val_main_v24, val_main_v23, val_main_cst_4]
  simp only [zk_real a, c2, ← EReal.coe_mul]

theorem msk_real (i : Fin 4096) : val_main_v30 (F := Ideal) x0 (ix2 i 0) = (ms 128 (zk H i) : EReal) := by
  pointwise [val_main_v30, val_main_v29, val_main_v28, val_main_v27, val_main_v26, val_main_v25, val_main_v22, val_main_cst_5, val_main_cst_6, val_main_cst_7]
  simp only [zk_real a, c128, PrepReal.ceps, ← EReal.coe_mul, coe_sum, div128, ← EReal.coe_add, zero_add]
  rfl

theorem rrk_real (i : Fin 4096) : val_main_v31 (F := Ideal) x0 (ix2 i 0) = (rr 128 (zk H i) : EReal) := by
  pointwise [val_main_v31]
  rw [msk_real a]
  exact rsqrt_pos (ms_pos (N := 128) (by norm_num) (zk H i))

theorem halfk_real (i : Fin 4096) : val_main_v34 (F := Ideal) x0 (ix2 i 0) = ((-(1 / 2) * (rr 128 (zk H i) / ms 128 (zk H i)) : ℝ) : EReal) := by
  pointwise [val_main_v34, val_main_v33, val_main_v32, val_main_cst_8]
  simp only [rrk_real a, msk_real a, cmhalf]
  rw [div_real (ms_pos (N := 128) (by norm_num) (zk H i)).ne', ← EReal.coe_mul]

theorem hatk_real (i : Fin 4096) (j : Fin 128) : val_main_v36 (F := Ideal) x0 (ix2 i j) = (hat 128 (zk H i) j : EReal) := by
  pointwise [val_main_v36, val_main_v35]
  simp only [zk_real a, rrk_real a, ← EReal.coe_mul]
  rfl

theorem gk_real (i : Fin 4096) (j : Fin 128) : val_main_v37 (F := Ideal) x2 (ix2 0 j) = (GK j : EReal) := by
  pointwise [val_main_v37]
  exact a.h2 j

theorem cnk_real (i : Fin 4096) (j : Fin 128) : val_main_v39 (F := Ideal) x0 x2 (ix2 i j) = ((hat 128 (zk H i) j * GK j : ℝ) : EReal) := by
  pointwise [val_main_v39, val_main_v38]
  simp only [hatk_real a, gk_real a i, ← EReal.coe_mul]

/-! ## The rotary embedding's gradient -/

theorem rq_real (i : Fin 4096) (k : Fin 8) (l : Fin 32) : val_main_v108 (F := Ideal) x6 (ix3 i k l) = (DQ i k ⟨l.val + 64, by omega⟩ : EReal) := by
  refine Eq.trans (extractStridedSlice_apply (s := S4096x8x96) (t := S4096x8x32) ![0, 0, 64] _ slices_S4096x8x96_S4096x8x32_0_0_64 (ix3 i k l) (ix3 i k (⟨l.val + 64, by omega⟩ : Fin 96)) fun b => ?_) (a.h6 _ _ _)
  match b with
  | ⟨0, _⟩ => exact (Nat.zero_add _).symm
  | ⟨1, _⟩ => exact (Nat.zero_add _).symm
  | ⟨2, _⟩ => exact Nat.add_comm _ _

theorem lq_real (i : Fin 4096) (k : Fin 8) (j : Fin 16) : val_main_v122 (F := Ideal) x6 (ix3 i k j) = (DQ i k ⟨j.val + 64, by omega⟩ : EReal) := by
  refine Eq.trans (extractStridedSlice_apply (s := S4096x8x32) (t := S4096x8x16) ![0, 0, 0] _ slices_S4096x8x32_S4096x8x16_0_0_0 (ix3 i k j) (ix3 i k (⟨j.val, by omega⟩ : Fin 32)) fun b => ?_) (rq_real a _ _ _)
  match b with
  | ⟨0, _⟩ => exact (Nat.zero_add _).symm
  | ⟨1, _⟩ => exact (Nat.zero_add _).symm
  | ⟨2, _⟩ => exact (Nat.zero_add _).symm

theorem uq_real (i : Fin 4096) (k : Fin 8) (j : Fin 16) : val_main_v123 (F := Ideal) x6 (ix3 i k j) = (DQ i k ⟨j.val + 16 + 64, by omega⟩ : EReal) := by
  refine Eq.trans (extractStridedSlice_apply (s := S4096x8x32) (t := S4096x8x16) ![0, 0, 16] _ slices_S4096x8x32_S4096x8x16_0_0_16 (ix3 i k j) (ix3 i k (⟨j.val + 16, by omega⟩ : Fin 32)) fun b => ?_) (rq_real a _ _ _)
  match b with
  | ⟨0, _⟩ => exact (Nat.zero_add _).symm
  | ⟨1, _⟩ => exact (Nat.zero_add _).symm
  | ⟨2, _⟩ => exact Nat.add_comm _ _

theorem upq_real (i : Fin 4096) (k : Fin 8) (j : Fin 16) : val_main_v131 (F := Ideal) x6 (ix3 i k j) =
    ((DQ i k ⟨j.val + 16 + 64, by omega⟩ * Real.cos (ang i j) + -DQ i k ⟨j.val + 64, by omega⟩ * Real.sin (ang i j) : ℝ) : EReal) := by
  pointwise [val_main_v131, val_main_v130, val_main_v129, val_main_v128, val_main_v125, val_main_v124, val_main_v58, val_main_v60]
  simp only [lq_real a, uq_real a, cosq_real, sinq_real, ← EReal.coe_neg, ← EReal.coe_mul, ← EReal.coe_add]

theorem dnq_real (i : Fin 4096) (k : Fin 8) (j : Fin 16) : val_main_v134 (F := Ideal) x6 (ix3 i k j) =
    ((DQ i k ⟨j.val + 16 + 64, by omega⟩ * Real.sin (ang i j) + DQ i k ⟨j.val + 64, by omega⟩ * Real.cos (ang i j) : ℝ) : EReal) := by
  pointwise [val_main_v134, val_main_v133, val_main_v132, val_main_v127, val_main_v126, val_main_v58, val_main_v60]
  simp only [lq_real a, uq_real a, cosq_real, sinq_real, ← EReal.coe_mul, ← EReal.coe_add]

theorem unrotq_real (i : Fin 4096) (k : Fin 8) (l : Fin 32) : val_main_v137 (F := Ideal) x6 (ix3 i k l) =
    (unrot (fun j => DQ i k ⟨j.val + 64, by omega⟩) i l : EReal) := by
  pointwise [val_main_v137, val_main_v136, val_main_v135, val_main_cst_17, val_main_cst_18]
  simp only [upq_real a, dnq_real a]
  by_cases h : l.val < 16
  · rw [dif_neg (by omega), dif_pos h, zero_add, unrot, dif_pos h]
  · rw [dif_pos (by omega), dif_neg h, add_zero, unrot, dif_neg h]
    simp only [show l.val - 16 + 16 = l.val by omega]

theorem qrot_real (i : Fin 4096) (k : Fin 8) (l : Fin 96) : val_main_v147 (F := Ideal) x6 (ix3 i k l) = (qrot (DQ i k) i l : EReal) := by
  pointwise [val_main_v147, val_main_v146, val_main_v145, val_main_v107, val_main_cst_19, val_main_cst_20]
  simp only [unrotq_real a, a.h6]
  by_cases h : l.val < 64
  · rw [dif_neg (by omega), dif_pos h, zero_add, qrot, dif_pos h]
  · rw [dif_pos (by omega), dif_neg h, add_zero, qrot, dif_neg h]

/-- The rotated keys' cotangent is summed over the heads first. -/
theorem rk_real (i : Fin 4096) (l : Fin 32) : val_main_v106 (F := Ideal) x7 (ix3 i 0 l) = (dkr DK i l : EReal) := by
  have h : ∀ k, val_main_v104 (F := Ideal) x7 (ix3 i k l) = (DK i k ⟨l.val + 64, by omega⟩ : EReal) := fun k => by
    refine Eq.trans (extractStridedSlice_apply (s := S4096x8x96) (t := S4096x8x32) ![0, 0, 64] _ slices_S4096x8x96_S4096x8x32_0_0_64 (ix3 i k l) (ix3 i k (⟨l.val + 64, by omega⟩ : Fin 96)) fun b => ?_) (a.h7 _ _ _)
    match b with
    | ⟨0, _⟩ => exact (Nat.zero_add _).symm
    | ⟨1, _⟩ => exact (Nat.zero_add _).symm
    | ⟨2, _⟩ => exact Nat.add_comm _ _
  pointwise [val_main_v106, val_main_v105, val_main_cst_13]
  simp only [h, coe_sum, zero_add]
  rfl

theorem lk_real (i : Fin 4096) (j : Fin 16) : val_main_v109 (F := Ideal) x7 (ix3 i 0 j) = (dkr DK i ⟨j.val, by omega⟩ : EReal) := by
  refine Eq.trans (extractStridedSlice_apply (s := S4096x1x32) (t := S4096x1x16) ![0, 0, 0] _ slices_S4096x1x32_S4096x1x16_0_0_0 (ix3 i 0 j) (ix3 i 0 (⟨j.val, by omega⟩ : Fin 32)) fun b => ?_) (rk_real a _ _)
  match b with
  | ⟨0, _⟩ => exact (Nat.zero_add _).symm
  | ⟨1, _⟩ => exact (Nat.zero_add _).symm
  | ⟨2, _⟩ => exact (Nat.zero_add _).symm

theorem uk_real (i : Fin 4096) (j : Fin 16) : val_main_v110 (F := Ideal) x7 (ix3 i 0 j) = (dkr DK i ⟨j.val + 16, by omega⟩ : EReal) := by
  refine Eq.trans (extractStridedSlice_apply (s := S4096x1x32) (t := S4096x1x16) ![0, 0, 16] _ slices_S4096x1x32_S4096x1x16_0_0_16 (ix3 i 0 j) (ix3 i 0 (⟨j.val + 16, by omega⟩ : Fin 32)) fun b => ?_) (rk_real a _ _)
  match b with
  | ⟨0, _⟩ => exact (Nat.zero_add _).symm
  | ⟨1, _⟩ => exact (Nat.zero_add _).symm
  | ⟨2, _⟩ => exact Nat.add_comm _ _

theorem upk_real (i : Fin 4096) (j : Fin 16) : val_main_v115 (F := Ideal) x7 (ix3 i 0 j) =
    ((dkr DK i ⟨j.val + 16, by omega⟩ * Real.cos (ang i j) + -dkr DK i ⟨j.val, by omega⟩ * Real.sin (ang i j) : ℝ) : EReal) := by
  pointwise [val_main_v115, val_main_v114, val_main_v113, val_main_v111, val_main_v88, val_main_v90]
  simp only [lk_real a, uk_real a, cosk_real, sink_real, ← EReal.coe_neg, ← EReal.coe_mul, ← EReal.coe_add]

theorem dnk_real (i : Fin 4096) (j : Fin 16) : val_main_v117 (F := Ideal) x7 (ix3 i 0 j) =
    ((dkr DK i ⟨j.val + 16, by omega⟩ * Real.sin (ang i j) + dkr DK i ⟨j.val, by omega⟩ * Real.cos (ang i j) : ℝ) : EReal) := by
  pointwise [val_main_v117, val_main_v116, val_main_v112, val_main_v88, val_main_v90]
  simp only [lk_real a, uk_real a, cosk_real, sink_real, ← EReal.coe_mul, ← EReal.coe_add]

theorem unrotk_real (i : Fin 4096) (l : Fin 32) : val_main_v121 (F := Ideal) x7 (ix2 i l) = (unrot (dkr DK i) i l : EReal) := by
  pointwise [val_main_v121, val_main_v120, val_main_v119, val_main_v118, val_main_cst_14, val_main_cst_15, val_main_cst_16]
  simp only [upk_real a, dnk_real a, Fin.sum_univ_one]
  by_cases h : l.val < 16
  · rw [dif_neg (by omega), dif_pos h, zero_add, unrot, dif_pos h]
  · rw [dif_pos (by omega), dif_neg h, add_zero, unrot, dif_neg h]
    simp only [show l.val - 16 + 16 = l.val by omega]

/-! ## The weights' gradients and the latents' cotangents -/

theorem dcq_real (i : Fin 4096) (j : Fin 256) : val_main_v150 (F := Ideal) x3 x6 (ix2 i j) = (dcq WQ DQ i j : EReal) := by
  pointwise [val_main_v150]
  simp only [qrot_real a, a.h3, ← EReal.coe_mul, coe_sum]
  rfl

theorem dkn_real (i : Fin 4096) (k : Fin 8) (l : Fin 64) : val_main_v103 (F := Ideal) x7 (ix3 i k l) = (DK i k ⟨l.val, by omega⟩ : EReal) := by
  pointwise [val_main_v103]
  exact a.h7 _ _ _

theorem dck_real (i : Fin 4096) (j : Fin 128) : val_main_v144 (F := Ideal) x4 x5 x7 x8 (ix2 i j) = (dck WK WV DK DV i j : EReal) := by
  pointwise [val_main_v144, val_main_v143, val_main_v140]
  simp only [dkn_real a, a.h4, a.h5, a.h8, ← EReal.coe_mul, coe_sum, ← EReal.coe_add]
  rfl

theorem dwq_real (k : Fin 8) (j : Fin 256) (l : Fin 96) : val_main_v149 (F := Ideal) x0 x1 x6 (ix3 j k l) = (dwqR H GQ DQ k j l : EReal) := by
  pointwise [val_main_v149, val_main_v148]
  simp only [qrot_real a, cnq_real a, ← EReal.coe_mul, coe_sum]
  rfl

theorem dwk_real (k : Fin 8) (j : Fin 128) (l : Fin 64) : val_main_v142 (F := Ideal) x0 x2 x7 (ix3 j k l) = (dwkR H GK DK k j l : EReal) := by
  pointwise [val_main_v142, val_main_v141]
  simp only [dkn_real a, cnk_real a, ← EReal.coe_mul, coe_sum]
  rfl

theorem dwv_real (k : Fin 8) (j : Fin 128) (l : Fin 64) : val_main_v139 (F := Ideal) x0 x2 x8 (ix3 j k l) = (dwvR H GK DV k j l : EReal) := by
  pointwise [val_main_v139, val_main_v138]
  simp only [a.h8, cnk_real a, ← EReal.coe_mul, coe_sum]
  rfl

/-! ## The norms' gradients -/

theorem pq_real (i : Fin 4096) (j : Fin 256) : val_main_v173 (F := Ideal) x1 x3 x6 (ix2 i j) = ((dcq WQ DQ i j * GQ j : ℝ) : EReal) := by
  pointwise [val_main_v173, val_main_v172]
  simp only [dcq_real a, gq_real a i, ← EReal.coe_mul]

theorem dgq_real (j : Fin 256) : val_main_v174 (F := Ideal) x0 x3 x6 (ix1 j) = (dgqR H WQ DQ j : EReal) := by
  pointwise [val_main_v174, val_main_v171, val_main_v170, val_main_v169, val_main_cst_26, val_main_cst_27]
  simp only [hatq_real a, dcq_real a, ← EReal.coe_mul, coe_sum, zero_add, Fin.sum_univ_one]
  rfl

theorem dzq_real (i : Fin 4096) (j : Fin 256) : val_main_v186 (F := Ideal) x0 x1 x3 x6 (ix2 i j) =
    (vjp 256 (zq H i) (fun j => dcq WQ DQ i j * GQ j) j : EReal) := by
  pointwise [val_main_v186, val_main_v185, val_main_v184, val_main_v183, val_main_v182, val_main_v181, val_main_v180, val_main_v179, val_main_v178, val_main_v177, val_main_v176, val_main_v175, val_main_cst_28, val_main_cst_29, val_main_cst_30]
  simp only [zq_real a, pq_real a, rrq_real a, halfq_real a, twoq_real a, c256, ← EReal.coe_mul, coe_sum, div256, ← EReal.coe_add, zero_add, Fin.sum_univ_one]
  rfl

theorem pk_real (i : Fin 4096) (j : Fin 128) : val_main_v155 (F := Ideal) x2 x4 x5 x7 x8 (ix2 i j) = ((dck WK WV DK DV i j * GK j : ℝ) : EReal) := by
  pointwise [val_main_v155, val_main_v154]
  simp only [dck_real a, gk_real a i, ← EReal.coe_mul]

theorem dgk_real (j : Fin 128) : val_main_v156 (F := Ideal) x0 x4 x5 x7 x8 (ix1 j) = (dgkR H WK WV DK DV j : EReal) := by
  pointwise [val_main_v156, val_main_v153, val_main_v152, val_main_v151, val_main_cst_21, val_main_cst_22]
  simp only [hatk_real a, dck_real a, ← EReal.coe_mul, coe_sum, zero_add, Fin.sum_univ_one]
  rfl

theorem dzk_real (i : Fin 4096) (j : Fin 128) : val_main_v168 (F := Ideal) x0 x2 x4 x5 x7 x8 (ix2 i j) =
    (vjp 128 (zk H i) (fun j => dck WK WV DK DV i j * GK j) j : EReal) := by
  pointwise [val_main_v168, val_main_v167, val_main_v166, val_main_v165, val_main_v164, val_main_v163, val_main_v162, val_main_v161, val_main_v160, val_main_v159, val_main_v158, val_main_v157, val_main_cst_23, val_main_cst_24, val_main_cst_25]
  simp only [zk_real a, pk_real a, rrk_real a, halfk_real a, twok_real a, c128, ← EReal.coe_mul, coe_sum, div128, ← EReal.coe_add, zero_add, Fin.sum_univ_one]
  rfl

/-- The input's gradient, over all its columns. -/
theorem dh_real (i : Fin 4096) (q : Fin 1952) : val_main_v191 (F := Ideal) x0 x1 x2 x3 x4 x5 x6 x7 x8 (ix2 i q) =
    (dhC H GQ GK WQ WK WV DQ DK DV i q : EReal) := by
  unfold dhC
  pointwise [val_main_v191, val_main_v190, val_main_v189, val_main_v188, val_main_v187, val_main_cst_31, val_main_cst_32, val_main_cst_33]
  simp only [dzq_real a, dzk_real a, unrotk_real a]
  by_cases h : q.val < 256
  · rw [dif_neg (by omega), dif_neg (by omega), dif_pos h, dif_pos h, add_zero, zero_add]
  by_cases h' : q.val < 384
  · rw [dif_neg (by omega), dif_pos (by omega), dif_neg h, dif_neg h, dif_pos h', add_zero, zero_add]
  by_cases h'' : q.val < 416
  · rw [dif_pos (by omega), dif_neg (by omega), dif_neg h, dif_neg h, dif_neg h', dif_pos h'', add_zero, add_zero]
  · rw [dif_neg (by omega), dif_neg (by omega), dif_neg h, dif_neg h, dif_neg h', dif_neg h'', add_zero, add_zero, EReal.coe_zero]

/-- The input's columns in the kernel's order: a gap of 64 columns of zeros before the rotated ones, 32 after. -/
theorem dhb_real (i : Fin 4096) (q : Fin 512) : val_main_v197 (F := Ideal) x0 x1 x2 x3 x4 x5 x6 x7 x8 (ix2 i q) =
    (dhR H GQ GK WQ WK WV DQ DK DV i q : EReal) := by
  have h := dh_real a i
  unfold val_main_v197 val_main_v196 val_main_v194 val_main_v192
  generalize val_main_v191 (F := Ideal) x0 x1 x2 x3 x4 x5 x6 x7 x8 = X at h ⊢
  have h' : ∀ q : Fin 1952, X (ix2 i q) = (dhC H GQ GK WQ WK WV DQ DK DV i q : EReal) := h
  clear h
  pointwise [val_main_v195, val_main_v193, val_main_cst_34, val_main_cst_35]
  simp only [h']
  exact (dhR_gaps H GQ GK WQ WK WV DQ DK DV i q).symm

theorem dwqp_real (k : Fin 8) (j : Fin 256) (l : Fin 96) : val_main_v198 (F := Ideal) x0 x1 x6 (ix3 k j l) = (dwqR H GQ DQ k j l : EReal) := by
  have h := dwq_real a k j l
  unfold val_main_v198
  generalize val_main_v149 (F := Ideal) x0 x1 x6 = X at h ⊢
  pointwise
  exact h

theorem dwkp_real (k : Fin 8) (j : Fin 128) (l : Fin 64) : val_main_v199 (F := Ideal) x0 x2 x7 (ix3 k j l) = (dwkR H GK DK k j l : EReal) := by
  have h := dwk_real a k j l
  unfold val_main_v199
  generalize val_main_v142 (F := Ideal) x0 x2 x7 = X at h ⊢
  pointwise
  exact h

theorem dwvp_real (k : Fin 8) (j : Fin 128) (l : Fin 64) : val_main_v200 (F := Ideal) x0 x2 x8 (ix3 k j l) = (dwvR H GK DV k j l : EReal) := by
  have h := dwv_real a k j l
  unfold val_main_v200
  generalize val_main_v139 (F := Ideal) x0 x2 x8 = X at h ⊢
  pointwise
  exact h

theorem dgqp_real (j : Fin 256) : val_main_v201 (F := Ideal) x0 x3 x6 (ix2 0 j) = (dgqR H WQ DQ j : EReal) := by
  pointwise [val_main_v201]
  exact dgq_real a j

theorem dgkp_real (j : Fin 128) : val_main_v202 (F := Ideal) x0 x4 x5 x7 x8 (ix2 0 j) = (dgkR H WK WV DK DV j : EReal) := by
  pointwise [val_main_v202]
  exact dgk_real a j

end Cert.PrepRefIdeal.Ref

end
-- ==== Proof.PrepValue.lean ====
/- The latent projections' call and its reference, both as the same real numbers. -/
module

public import proofs.«01_k».proof.Proof.Finite
public import proofs.«01_k».proof.Proof.PrepInputs
public import proofs.«01_k».proof.Proof.PrepRef

@[expose] public section

set_option maxRecDepth 16384

noncomputable section

namespace Cert.PrepIdeal.Result

open Cert.PrepIdeal Cert.PrepIdeal.Gen Cert.PrepIdeal.Steps Cert.PrepIdeal.Arrays Cert.PrepIdeal.Inputs
open Cert.LnReal Cert.PrepReal Idealize.ShloMosaic Idealize.ShloMosaic.TcCoe Idealize.SL.Sem
open Cert.PrepRefIdeal.Ref (Args)
open Cert.PrepIdeal.Block (Reads rowQ rowK masked cqR ckR krR tQ tK)

variable (m : (ℓ : Loc nD τ sig) → Buf (Elt Ideal) ℓ) (c : Dev nD)

/-- The arguments hold these real numbers. -/
abbrev Holds (H : Fin 4096 → Fin 1952 → ℝ) (GQ : Fin 256 → ℝ) (GK : Fin 128 → ℝ) (WQ : Fin 256 → Fin 8 → Fin 96 → ℝ) (WK WV : Fin 128 → Fin 8 → Fin 64 → ℝ)
    (DQ DK : Fin 4096 → Fin 8 → Fin 96 → ℝ) (DV : Fin 4096 → Fin 8 → Fin 64 → ℝ) : Prop :=
  Args (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) H GQ GK WQ WK WV DQ DK DV

variable {m c} {H : Fin 4096 → Fin 1952 → ℝ} {GQ : Fin 256 → ℝ} {GK : Fin 128 → ℝ} {WQ : Fin 256 → Fin 8 → Fin 96 → ℝ} {WK WV : Fin 128 → Fin 8 → Fin 64 → ℝ}
    {DQ DK : Fin 4096 → Fin 8 → Fin 96 → ℝ} {DV : Fin 4096 → Fin 8 → Fin 64 → ℝ}
variable (a : Holds m c H GQ GK WQ WK WV DQ DK DV)

/-! ## A block's real numbers -/

/-- The blocks of the input, of a weight and of a cotangent, as a point reads them, and the tables' rows. -/
abbrev hB (H : Fin 4096 → Fin 1952 → ℝ) (t : Fin cfg0.N) (r q : Fin 512) : ℝ := hpad H (row t r) q
abbrev wB {n N : ℕ} (W : Fin N → Fin 8 → Fin n → ℝ) (k : Fin 8) (j : Fin N) (l : Fin 128) : ℝ := lanes n (W j k) l
abbrev dB {n : ℕ} (D : Fin 4096 → Fin 8 → Fin n → ℝ) (t : Fin cfg0.N) (k : Fin 8) (r : Fin 512) (l : Fin 128) : ℝ := lanes n (D (row t r) k) l
abbrev cB (t : Fin cfg0.N) (r : Fin 512) : Fin 128 → ℝ := ctab (row t r)
abbrev sB (t : Fin cfg0.N) (r : Fin 512) : Fin 128 → ℝ := stab (row t r)

include a in
theorem reads (t : Fin cfg0.N) : Reads m c t (hB H t) GQ GK (wB WQ) (wB WK) (wB WV) (cB t) (sB t) (dB DQ t) (dB DK t) (dB DV t) where
  h := in_h a.h0 t
  gq := in_gq a.h1 t
  gk := in_gk a.h2 t
  wq := in_wq a.h3 t
  wk := in_wk a.h4 t
  wv := in_wv a.h5 t
  ct := in_ct t
  st := in_st t
  dq := in_dq a.h6 t
  dk := in_dk a.h7 t
  dv := in_dv a.h8 t

theorem rowQ_eq (t : Fin cfg0.N) (r : Fin 512) : rowQ (hB H t) r = zq H (row t r) := funext fun j => by
  unfold rowQ zq hB hpad
  rw [if_pos (by show j.val < 384; omega)]

theorem rowK_eq (t : Fin cfg0.N) (r : Fin 512) : rowK (hB H t) r = zk H (row t r) := funext fun j => by
  unfold rowK zk hB hpad
  rw [if_pos (by show j.val + 256 < 384; omega)]

theorem cq_eq (t : Fin cfg0.N) (r : Fin 512) (j : Fin 256) : cqR (wB WQ) (cB t) (sB t) (dB DQ t) r j = dcq WQ DQ (row t r) j := by
  unfold cqR dcq
  refine Finset.sum_congr rfl fun k _ => ?_
  simp only [rope_lanes]
  rw [sum_first (by norm_num : 96 ≤ 128) (fun l => lanes 96 (qrot (DQ (row t r) k) (row t r)) l * wB WQ k j l) fun l hl => by
    rw [show wB WQ k j l = 0 from dif_neg (by omega), mul_zero]]
  exact Finset.sum_congr rfl fun l _ => congrArg₂ (· * ·) (dif_pos l.isLt) (dif_pos l.isLt)

theorem ck_eq (t : Fin cfg0.N) (r : Fin 512) (j : Fin 128) : ckR (wB WK) (wB WV) (dB DK t) (dB DV t) r j = dck WK WV DK DV (row t r) j := by
  unfold ckR dck
  rw [← Finset.sum_add_distrib]
  refine Finset.sum_congr rfl fun k _ => ?_
  rw [sum_first (by norm_num : 64 ≤ 128) (fun l => dB DK t k r l * wB WK k j l) fun l hl => by rw [show wB WK k j l = 0 from dif_neg (by omega), mul_zero],
    sum_first (by norm_num : 64 ≤ 128) (fun l => dB DV t k r l * wB WV k j l) fun l hl => by rw [show wB WV k j l = 0 from dif_neg (by omega), mul_zero], add_comm]
  refine congrArg₂ (· + ·) (Finset.sum_congr rfl fun l _ => ?_) (Finset.sum_congr rfl fun l _ => ?_)
  · exact congrArg₂ (· * ·) (dif_pos l.isLt) (dif_pos l.isLt)
  · exact congrArg₂ (· * ·) (dif_pos (by show l.val < 96; omega)) (dif_pos l.isLt)

theorem kr_eq (t : Fin cfg0.N) (r : Fin 512) (l : Fin 128) : masked (ropeInv (masked (krR (dB DK t) r)) (cB t r) (sB t r)) l =
    if 64 ≤ l.val ∧ l.val < 96 then unrot (dkr DK (row t r)) (row t r) ⟨(l.val - 64) % 32, Nat.mod_lt _ (by norm_num)⟩ else 0 := by
  unfold masked
  by_cases h : 64 ≤ l.val ∧ l.val < 96
  · rw [if_pos h, if_pos h, rope_mid _ _ _ h.1 h.2]
    have hv : (fun j : Fin 32 => (fun l : Fin 128 => if 64 ≤ l.val ∧ l.val < 96 then krR (dB DK t) r l else 0) ⟨j.val + 64, by omega⟩) = dkr DK (row t r) :=
      funext fun j => by
        show (if 64 ≤ j.val + 64 ∧ j.val + 64 < 96 then _ else _) = _
        rw [if_pos ⟨by omega, by omega⟩]
        exact Finset.sum_congr rfl fun k _ => dif_pos (by show j.val + 64 < 96; omega)
    exact congrArg₂ (fun v l => unrot v (row t r) l) hv (Fin.ext (by show l.val - 64 = (l.val - 64) % 32; omega))
  · rw [if_neg h, if_neg h]

include a in
theorem dh_block (t : Fin cfg0.N) (r q : Fin 512) : dh m c t (ix2 r q) = (PrepReal.dhR H GQ GK WQ WK WV DQ DK DV (row t r) q : EReal) := by
  refine (Block.dh_real (reads a t) r q).trans (congrArg _ ?_)
  unfold Block.dhR PrepReal.dhR
  simp only [rowQ_eq, rowK_eq, cq_eq, ck_eq, kr_eq, vjp_eq_grad (by norm_num : (0 : ℝ) < 256), vjp_eq_grad (by norm_num : (0 : ℝ) < 128)]
  by_cases h1 : q.val < 256
  · rw [dif_pos h1, dif_pos h1]
  by_cases h2 : q.val < 384
  · rw [dif_neg h1, dif_neg h1, dif_pos h2, dif_pos h2]
  by_cases h3 : q.val < 448
  · rw [dif_neg h1, dif_neg h1, dif_neg h2, dif_neg h2, if_pos h3, if_neg (by omega)]
  by_cases h4 : q.val < 480
  · rw [dif_neg h1, dif_neg h1, dif_neg h2, dif_neg h2, if_neg h3, dif_pos h4, if_pos (by omega)]
    exact congrArg (unrot (dkr DK (row t r)) (row t r)) (Fin.ext (by show (q.val - 384 - 64) % 32 = q.val - 448; omega))
  · rw [dif_neg h1, dif_neg h1, dif_neg h2, dif_neg h2, if_neg h3, dif_neg h4, if_neg (by omega)]

/-! ## The sums over all points -/

theorem point_lt {n : ℕ} (h : n < 8) : n < cfg0.N := by rw [show cfg0.N = 8 from N_0]; exact h

/-- The point over tile `n` of rows. -/
abbrev pt (n : Fin 8) : Fin cfg0.N := ⟨n.val, point_lt n.isLt⟩

theorem first_point (h : 0 < 8) : (⟨0, point_lt h⟩ : Fin cfg0.N).val % 8 = 0 := rfl
theorem later_point {n : ℕ} (h : n + 1 < 8) : ¬(⟨n + 1, point_lt h⟩ : Fin cfg0.N).val % 8 = 0 := by show ¬(n + 1) % 8 = 0; omega

theorem row_point (n : Fin 8) (r : Fin 512) (hl : n.val * 512 + r.val < 4096) : row (pt n) r = ⟨n.val * 512 + r.val, hl⟩ := rfl

include a in
/-- The gradient by the queries' weights after the last point. -/
theorem dwq_total (k : Fin 8) (j : Fin 256) (l : Fin 128) : (outsAt0 m c last.val last.isLt).2.1 (ix3 k j l)
    = ((∑ n : Fin 8, tQ (hB H (pt n)) GQ (cB (pt n)) (sB (pt n)) (dB DQ (pt n)) k j l : ℝ) : EReal) := by
  refine Cert.Finite.running (N := 8) (fun n h (p : Fin 8 × Fin 256 × Fin 128) => (outsAt0 m c n (point_lt h)).2.1 (ix3 p.1 p.2.1 p.2.2))
    (fun n p => tQ (hB H (pt n)) GQ (cB (pt n)) (sB (pt n)) (dB DQ (pt n)) p.1 p.2.1 p.2.2) (fun h p => ?_) (fun n h s hs p => ?_) 7 (by omega) rfl (k, j, l)
  · refine (congrFun (dwq_first m c ⟨0, point_lt h⟩ (first_point h)) (ix3 p.1 p.2.1 p.2.2)).trans ((ld_piecesQ _ _ p.1 p.2.1 p.2.2).trans
      ((Block.dwq_real (reads a ⟨0, point_lt h⟩) p.1 _ 0 p.2.1 p.2.2 ((ld_slabQ _ p.1 p.2.1 p.2.2).trans ?_)).trans ?_))
    · pointwise [k0_pay2]
      rfl
    · rw [zero_add]
  · exact (congrFun (dwq_later m c ⟨n + 1, point_lt h⟩ (later_point h)) (ix3 p.1 p.2.1 p.2.2)).trans ((ld_piecesQ _ _ p.1 p.2.1 p.2.2).trans
      (Block.dwq_real (reads a ⟨n + 1, point_lt h⟩) p.1 _ (s p) p.2.1 p.2.2 ((ld_slabQ _ p.1 p.2.1 p.2.2).trans (hs p))))

include a in
/-- The gradient by the keys' weights after the last point. -/
theorem dwk_total (k : Fin 8) (j : Fin 128) (l : Fin 128) : (outsAt0 m c last.val last.isLt).2.2.1 (ix3 k j l)
    = ((∑ n : Fin 8, tK (hB H (pt n)) GK (dB DK (pt n)) k j l : ℝ) : EReal) := by
  refine Cert.Finite.running (N := 8) (fun n h (p : Fin 8 × Fin 128 × Fin 128) => (outsAt0 m c n (point_lt h)).2.2.1 (ix3 p.1 p.2.1 p.2.2))
    (fun n p => tK (hB H (pt n)) GK (dB DK (pt n)) p.1 p.2.1 p.2.2) (fun h p => ?_) (fun n h s hs p => ?_) 7 (by omega) rfl (k, j, l)
  · refine (congrFun (dwk_first m c ⟨0, point_lt h⟩ (first_point h)) (ix3 p.1 p.2.1 p.2.2)).trans ((ld_piecesK _ _ p.1 p.2.1 p.2.2).trans
      ((Block.dwk_real (reads a ⟨0, point_lt h⟩) p.1 _ 0 p.2.1 p.2.2 ((ld_slabK _ p.1 p.2.1 p.2.2).trans ?_)).trans ?_))
    · pointwise [k0_pay3]
      rfl
    · rw [zero_add]
  · exact (congrFun (dwk_later m c ⟨n + 1, point_lt h⟩ (later_point h)) (ix3 p.1 p.2.1 p.2.2)).trans ((ld_piecesK _ _ p.1 p.2.1 p.2.2).trans
      (Block.dwk_real (reads a ⟨n + 1, point_lt h⟩) p.1 _ (s p) p.2.1 p.2.2 ((ld_slabK _ p.1 p.2.1 p.2.2).trans (hs p))))

include a in
/-- The gradient by the values' weights after the last point. -/
theorem dwv_total (k : Fin 8) (j : Fin 128) (l : Fin 128) : (outsAt0 m c last.val last.isLt).2.2.2.1 (ix3 k j l)
    = ((∑ n : Fin 8, tK (hB H (pt n)) GK (dB DV (pt n)) k j l : ℝ) : EReal) := by
  refine Cert.Finite.running (N := 8) (fun n h (p : Fin 8 × Fin 128 × Fin 128) => (outsAt0 m c n (point_lt h)).2.2.2.1 (ix3 p.1 p.2.1 p.2.2))
    (fun n p => tK (hB H (pt n)) GK (dB DV (pt n)) p.1 p.2.1 p.2.2) (fun h p => ?_) (fun n h s hs p => ?_) 7 (by omega) rfl (k, j, l)
  · refine (congrFun (dwv_first m c ⟨0, point_lt h⟩ (first_point h)) (ix3 p.1 p.2.1 p.2.2)).trans ((ld_piecesK _ _ p.1 p.2.1 p.2.2).trans
      ((Block.dwv_real (reads a ⟨0, point_lt h⟩) p.1 _ 0 p.2.1 p.2.2 ((ld_slabK _ p.1 p.2.1 p.2.2).trans ?_)).trans ?_))
    · pointwise [k0_pay4]
      rfl
    · rw [zero_add]
  · exact (congrFun (dwv_later m c ⟨n + 1, point_lt h⟩ (later_point h)) (ix3 p.1 p.2.1 p.2.2)).trans ((ld_piecesK _ _ p.1 p.2.1 p.2.2).trans
      (Block.dwv_real (reads a ⟨n + 1, point_lt h⟩) p.1 _ (s p) p.2.1 p.2.2 ((ld_slabK _ p.1 p.2.1 p.2.2).trans (hs p))))

include a in
/-- The gradient by the queries' gain after the last point. -/
theorem dgq_total (j : Fin 256) : (outsAt0 m c last.val last.isLt).2.2.2.2.1 (ix2 0 j) = ((∑ n : Fin 8, ∑ r, cqR (wB WQ) (cB (pt n)) (sB (pt n)) (dB DQ (pt n)) r j * hat 256 (rowQ (hB H (pt n)) r) j : ℝ) : EReal) := by
  refine Cert.Finite.running (N := 8) (fun n h j => (outsAt0 m c n (point_lt h)).2.2.2.2.1 (ix2 0 j))
    (fun n j => ∑ r, cqR (wB WQ) (cB (pt n)) (sB (pt n)) (dB DQ (pt n)) r j * hat 256 (rowQ (hB H (pt n)) r) j) (fun h j => ?_) (fun n h s hs j => ?_) 7 (by omega) rfl j
  · refine (congrFun (dgq_first m c ⟨0, point_lt h⟩ (first_point h)) (ix2 0 j)).trans
      ((Block.dgq_real (reads a ⟨0, point_lt h⟩) _ (fun _ => 0) (fun j => ?_) j).trans ?_)
    · pointwise [k0_pay5]
      rfl
    · rw [zero_add]
  · exact (congrFun (dgq_later m c ⟨n + 1, point_lt h⟩ (later_point h)) (ix2 0 j)).trans
      (Block.dgq_real (reads a ⟨n + 1, point_lt h⟩) _ s hs j)

include a in
/-- The gradient by the keys' and values' gain after the last point. -/
theorem dgk_total (j : Fin 128) : (outsAt0 m c last.val last.isLt).2.2.2.2.2 (ix2 0 j) = ((∑ n : Fin 8, ∑ r, ckR (wB WK) (wB WV) (dB DK (pt n)) (dB DV (pt n)) r j * hat 128 (rowK (hB H (pt n)) r) j : ℝ) : EReal) := by
  refine Cert.Finite.running (N := 8) (fun n h j => (outsAt0 m c n (point_lt h)).2.2.2.2.2 (ix2 0 j))
    (fun n j => ∑ r, ckR (wB WK) (wB WV) (dB DK (pt n)) (dB DV (pt n)) r j * hat 128 (rowK (hB H (pt n)) r) j) (fun h j => ?_) (fun n h s hs j => ?_) 7 (by omega) rfl j
  · refine (congrFun (dgk_first m c ⟨0, point_lt h⟩ (first_point h)) (ix2 0 j)).trans
      ((Block.dgk_real (reads a ⟨0, point_lt h⟩) _ (fun _ => 0) (fun j => ?_) j).trans ?_)
    · pointwise [k0_pay6]
      rfl
    · rw [zero_add]
  · exact (congrFun (dgk_later m c ⟨n + 1, point_lt h⟩ (later_point h)) (ix2 0 j)).trans
      (Block.dgk_real (reads a ⟨n + 1, point_lt h⟩) _ s hs j)

theorem dwq_sum (k : Fin 8) (j : Fin 256) (l : Fin 96) : ∑ n : Fin 8, tQ (hB H (pt n)) GQ (cB (pt n)) (sB (pt n)) (dB DQ (pt n)) k j ⟨l.val, by omega⟩ = dwqR H GQ DQ k j l :=
  sum_turns rfl (fun i => qrot (DQ i k) i l * (hat 256 (zq H i) j * GQ j))
    (fun (n : Fin 8) (r : Fin 512) => hat 256 (rowQ (hB H (pt n)) r) j * GQ j * ropeInv (dB DQ (pt n) k r) (cB (pt n) r) (sB (pt n) r) ⟨l.val, by omega⟩)
    fun n r hl => by
      rw [rowQ_eq, rope_lanes, lanes, dif_pos (show (⟨l.val, by omega⟩ : Fin 128).val < 96 from l.isLt), ← row_point n r hl, mul_comm]

theorem dwk_sum (k : Fin 8) (j : Fin 128) (l : Fin 64) : ∑ n : Fin 8, tK (hB H (pt n)) GK (dB DK (pt n)) k j ⟨l.val, by omega⟩ = dwkR H GK DK k j l :=
  sum_turns rfl (fun i => DK i k ⟨l.val, by omega⟩ * (hat 128 (zk H i) j * GK j))
    (fun (n : Fin 8) (r : Fin 512) => hat 128 (rowK (hB H (pt n)) r) j * GK j * dB DK (pt n) k r ⟨l.val, by omega⟩)
    fun n r hl => by
      rw [rowK_eq, show dB DK (pt n) k r ⟨l.val, by omega⟩ = DK (row (pt n) r) k ⟨l.val, by omega⟩ from dif_pos (by show l.val < 96; omega), ← row_point n r hl, mul_comm]

theorem dwv_sum (k : Fin 8) (j : Fin 128) (l : Fin 64) : ∑ n : Fin 8, tK (hB H (pt n)) GK (dB DV (pt n)) k j ⟨l.val, by omega⟩ = dwvR H GK DV k j l :=
  sum_turns rfl (fun i => DV i k l * (hat 128 (zk H i) j * GK j))
    (fun (n : Fin 8) (r : Fin 512) => hat 128 (rowK (hB H (pt n)) r) j * GK j * dB DV (pt n) k r ⟨l.val, by omega⟩)
    fun n r hl => by
      rw [rowK_eq, show dB DV (pt n) k r ⟨l.val, by omega⟩ = DV (row (pt n) r) k l from dif_pos l.isLt, ← row_point n r hl, mul_comm]

theorem dgq_sum (j : Fin 256) : ∑ n : Fin 8, ∑ r, cqR (wB WQ) (cB (pt n)) (sB (pt n)) (dB DQ (pt n)) r j * hat 256 (rowQ (hB H (pt n)) r) j = dgqR H WQ DQ j :=
  sum_turns rfl (fun i => hat 256 (zq H i) j * dcq WQ DQ i j)
    (fun (n : Fin 8) (r : Fin 512) => cqR (wB WQ) (cB (pt n)) (sB (pt n)) (dB DQ (pt n)) r j * hat 256 (rowQ (hB H (pt n)) r) j)
    fun n r hl => by rw [rowQ_eq, cq_eq, ← row_point n r hl, mul_comm]

theorem dgk_sum (j : Fin 128) : ∑ n : Fin 8, ∑ r, ckR (wB WK) (wB WV) (dB DK (pt n)) (dB DV (pt n)) r j * hat 128 (rowK (hB H (pt n)) r) j = dgkR H WK WV DK DV j :=
  sum_turns rfl (fun i => hat 128 (zk H i) j * dck WK WV DK DV i j)
    (fun (n : Fin 8) (r : Fin 512) => ckR (wB WK) (wB WV) (dB DK (pt n)) (dB DV (pt n)) r j * hat 128 (rowK (hB H (pt n)) r) j)
    fun n r hl => by rw [rowK_eq, ck_eq, ← row_point n r hl, mul_comm]

/-! ## The six arrays -/

open Cert.PrepRefIdeal.Read

include a

/-- The arrays that the call returns, the weights' cut to their own lanes, are the reference's. -/
theorem dh_eq : (dats m 0 c).arrAt 11 cfg0.N = val_main_v197 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) := by
  refine funext fun (i : S4096x512.Idx) => ?_
  obtain ⟨k, j, rfl⟩ : ∃ (k : Fin 4096) (j : Fin 512), i = ix2 k j := ⟨i 0, i 1, by ext k; fin_cases k <;> rfl⟩
  have hN : cfg0.N = 8 := N_0
  obtain ⟨t, r, rfl⟩ : ∃ (t : Fin cfg0.N) (r : Fin 512), row t r = k :=
    ⟨⟨k.val / 512, by omega⟩, ⟨k.val % 512, by omega⟩, Fin.ext (by show k.val / 512 * 512 + k.val % 512 = k.val; omega)⟩
  rw [arr_dh m c t r j _ rfl rfl]
  exact (dh_block a t r j).trans (Cert.PrepRefIdeal.Ref.dhb_real a _ _).symm

theorem dwq_eq : (extractStridedSlice S8x256x96 ![0, 0, 0] ((dats m 0 c).arrAt 12 cfg0.N : FVec Ideal S8x256x128 .f32) slices_S8x256x128_S8x256x96_0_0_0 : FVec Ideal S8x256x96 .f32)
    = val_main_v198 (F := Ideal) (m ((c : Thread nD τ).loc main_arg0)) (m ((c : Thread nD τ).loc main_arg1)) (m ((c : Thread nD τ).loc main_arg6)) := by
  refine funext fun (i : S8x256x96.Idx) => ?_
  obtain ⟨k, j, l, rfl⟩ : ∃ (k : Fin 8) (j : Fin 256) (l : Fin 96), i = ix3 k j l := ⟨i 0, i 1, i 2, by ext k; fin_cases k <;> rfl⟩
  refine (extractStridedSlice_apply (s := S8x256x128) (t := S8x256x96) ![0, 0, 0] _ _ (ix3 k j l) (ix3 k j (⟨l.val, by omega⟩ : Fin 128)) fun b => ?_).trans ?_
  · match b with
    | ⟨0, _⟩ => exact (Nat.zero_add _).symm
    | ⟨1, _⟩ => exact (Nat.zero_add _).symm
    | ⟨2, _⟩ => exact (Nat.zero_add _).symm
  · refine (arr_dwq m c _).trans ((dwq_total a k j ⟨l.val, by omega⟩).trans ?_)
    exact (congrArg _ (dwq_sum k j l)).trans (Cert.PrepRefIdeal.Ref.dwqp_real a k j l).symm

theorem dwk_eq : (extractStridedSlice S8x128x64 ![0, 0, 0] ((dats m 0 c).arrAt 13 cfg0.N : FVec Ideal S8x128x128 .f32) slices_S8x128x128_S8x128x64_0_0_0 : FVec Ideal S8x128x64 .f32)
    = val_main_v199 (F := Ideal) (m ((c : Thread nD τ).loc main_arg0)) (m ((c : Thread nD τ).loc main_arg2)) (m ((c : Thread nD τ).loc main_arg7)) := by
  refine funext fun (i : S8x128x64.Idx) => ?_
  obtain ⟨k, j, l, rfl⟩ : ∃ (k : Fin 8) (j : Fin 128) (l : Fin 64), i = ix3 k j l := ⟨i 0, i 1, i 2, by ext k; fin_cases k <;> rfl⟩
  refine (extractStridedSlice_apply (s := S8x128x128) (t := S8x128x64) ![0, 0, 0] _ _ (ix3 k j l) (ix3 k j (⟨l.val, by omega⟩ : Fin 128)) fun b => ?_).trans ?_
  · match b with
    | ⟨0, _⟩ => exact (Nat.zero_add _).symm
    | ⟨1, _⟩ => exact (Nat.zero_add _).symm
    | ⟨2, _⟩ => exact (Nat.zero_add _).symm
  · refine (arr_dwk m c _).trans ((dwk_total a k j ⟨l.val, by omega⟩).trans ?_)
    exact (congrArg _ (dwk_sum k j l)).trans (Cert.PrepRefIdeal.Ref.dwkp_real a k j l).symm

theorem dwv_eq : (extractStridedSlice S8x128x64 ![0, 0, 0] ((dats m 0 c).arrAt 14 cfg0.N : FVec Ideal S8x128x128 .f32) slices_S8x128x128_S8x128x64_0_0_0 : FVec Ideal S8x128x64 .f32)
    = val_main_v200 (F := Ideal) (m ((c : Thread nD τ).loc main_arg0)) (m ((c : Thread nD τ).loc main_arg2)) (m ((c : Thread nD τ).loc main_arg8)) := by
  refine funext fun (i : S8x128x64.Idx) => ?_
  obtain ⟨k, j, l, rfl⟩ : ∃ (k : Fin 8) (j : Fin 128) (l : Fin 64), i = ix3 k j l := ⟨i 0, i 1, i 2, by ext k; fin_cases k <;> rfl⟩
  refine (extractStridedSlice_apply (s := S8x128x128) (t := S8x128x64) ![0, 0, 0] _ _ (ix3 k j l) (ix3 k j (⟨l.val, by omega⟩ : Fin 128)) fun b => ?_).trans ?_
  · match b with
    | ⟨0, _⟩ => exact (Nat.zero_add _).symm
    | ⟨1, _⟩ => exact (Nat.zero_add _).symm
    | ⟨2, _⟩ => exact (Nat.zero_add _).symm
  · refine (arr_dwv m c _).trans ((dwv_total a k j ⟨l.val, by omega⟩).trans ?_)
    exact (congrArg _ (dwv_sum k j l)).trans (Cert.PrepRefIdeal.Ref.dwvp_real a k j l).symm

theorem dgq_eq : (dats m 0 c).arrAt 15 cfg0.N = val_main_v201 (F := Ideal) (m ((c : Thread nD τ).loc main_arg0)) (m ((c : Thread nD τ).loc main_arg3)) (m ((c : Thread nD τ).loc main_arg6)) := by
  refine funext fun (i : S1x256.Idx) => ?_
  obtain ⟨k, j, rfl⟩ : ∃ (k : Fin 1) (j : Fin 256), i = ix2 k j := ⟨i 0, i 1, by ext k; fin_cases k <;> rfl⟩
  obtain rfl : k = 0 := Subsingleton.elim _ _
  refine (arr_dgq m c _).trans ((dgq_total a j).trans ?_)
  exact (congrArg _ (dgq_sum j)).trans (Cert.PrepRefIdeal.Ref.dgqp_real a j).symm

theorem dgk_eq : (dats m 0 c).arrAt 16 cfg0.N = val_main_v202 (F := Ideal) (m ((c : Thread nD τ).loc main_arg0)) (m ((c : Thread nD τ).loc main_arg4)) (m ((c : Thread nD τ).loc main_arg5)) (m ((c : Thread nD τ).loc main_arg7)) (m ((c : Thread nD τ).loc main_arg8)) := by
  refine funext fun (i : S1x128.Idx) => ?_
  obtain ⟨k, j, rfl⟩ : ∃ (k : Fin 1) (j : Fin 128), i = ix2 k j := ⟨i 0, i 1, by ext k; fin_cases k <;> rfl⟩
  obtain rfl : k = 0 := Subsingleton.elim _ _
  refine (arr_dgk m c _).trans ((dgk_total a j).trans ?_)
  exact (congrArg _ (dgk_sum j)).trans (Cert.PrepRefIdeal.Ref.dgkp_real a j).symm

omit a
/-! ## The run -/

/-- A buffer after the host code that follows the call, over what the call leaves in its arrays. -/
theorem after_call (b : Ref sig .tc) : Pipeline.afterTail₀ cfgs (dats m) 0 (V0 m) [hostOps1] c b =
    StableHlo.after hostOps1 (Pipeline.withArrays (cfgs 0).spec c (V0 m c) fun w => (dats m 0 c).arrAt w cfg0.N) (Proc.devRef .tc b) := rfl

theorem tail_dwq : Pipeline.afterTail₀ cfgs (dats m) 0 (V0 m) [hostOps1] c main_v49 =
    extractStridedSlice S8x256x96 ![0, 0, 0] ((dats m 0 c).arrAt 12 cfg0.N : FVec Ideal S8x256x128 .f32) slices_S8x256x128_S8x256x96_0_0_0 := by
  rw [after_call]
  after_results
  exact congrArg (extractStridedSlice S8x256x96 ![0, 0, 0] · slices_S8x256x128_S8x256x96_0_0_0)
    (Pipeline.withArrays_arr (cfgs 0).spec launch0.win.arr_inj c (V0 m c) (fun w => (dats m 0 c).arrAt w cfg0.N) 12)

theorem tail_dwk : Pipeline.afterTail₀ cfgs (dats m) 0 (V0 m) [hostOps1] c main_v50 =
    extractStridedSlice S8x128x64 ![0, 0, 0] ((dats m 0 c).arrAt 13 cfg0.N : FVec Ideal S8x128x128 .f32) slices_S8x128x128_S8x128x64_0_0_0 := by
  rw [after_call]
  after_results
  exact congrArg (extractStridedSlice S8x128x64 ![0, 0, 0] · slices_S8x128x128_S8x128x64_0_0_0)
    (Pipeline.withArrays_arr (cfgs 0).spec launch0.win.arr_inj c (V0 m c) (fun w => (dats m 0 c).arrAt w cfg0.N) 13)

theorem tail_dwv : Pipeline.afterTail₀ cfgs (dats m) 0 (V0 m) [hostOps1] c main_v51 =
    extractStridedSlice S8x128x64 ![0, 0, 0] ((dats m 0 c).arrAt 14 cfg0.N : FVec Ideal S8x128x128 .f32) slices_S8x128x128_S8x128x64_0_0_0 := by
  rw [after_call]
  after_results
  exact congrArg (extractStridedSlice S8x128x64 ![0, 0, 0] · slices_S8x128x128_S8x128x64_0_0_0)
    (Pipeline.withArrays_arr (cfgs 0).spec launch0.win.arr_inj c (V0 m c) (fun w => (dats m 0 c).arrAt w cfg0.N) 14)

/-- After the program the six results hold the call's arrays, three of them cut to their own lanes, and the arguments are
    unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v48_0) = (dats m 0 c).arrAt 11 cfg0.N
      ∧ r.2.mem ((c.tc : Thread nD τ).loc main_v49) = extractStridedSlice S8x256x96 ![0, 0, 0] ((dats m 0 c).arrAt 12 cfg0.N : FVec Ideal S8x256x128 .f32) slices_S8x256x128_S8x256x96_0_0_0
      ∧ r.2.mem ((c.tc : Thread nD τ).loc main_v50) = extractStridedSlice S8x128x64 ![0, 0, 0] ((dats m 0 c).arrAt 13 cfg0.N : FVec Ideal S8x128x128 .f32) slices_S8x128x128_S8x128x64_0_0_0
      ∧ r.2.mem ((c.tc : Thread nD τ).loc main_v51) = extractStridedSlice S8x128x64 ![0, 0, 0] ((dats m 0 c).arrAt 14 cfg0.N : FVec Ideal S8x128x128 .f32) slices_S8x128x128_S8x128x64_0_0_0
      ∧ r.2.mem ((c.tc : Thread nD τ).loc main_v48_4) = (dats m 0 c).arrAt 15 cfg0.N
      ∧ r.2.mem ((c.tc : Thread nD τ).loc main_v48_5) = (dats m 0 c).arrAt 16 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    ⟨(h.2 c).1 11, ((h.2 c).2 main_v49 (Pipeline.mem_restRefs_of main_v49 (by decide) (by decide))).trans tail_dwq,
      ((h.2 c).2 main_v50 (Pipeline.mem_restRefs_of main_v50 (by decide) (by decide))).trans tail_dwk,
      ((h.2 c).2 main_v51 (Pipeline.mem_restRefs_of main_v51 (by decide) (by decide))).trans tail_dwv,
      (h.2 c).1 15, (h.2 c).1 16, h.1 c⟩) (θ_run_and (unchanged m ρ) (run_main m ρ))

end Cert.PrepIdeal.Result

end
-- ==== Proof.PrepClaim.lean ====
/- The claims about the latent projections' call: the reference's frame, that nothing is rewritten, and that the call's six
   results are the reference's. -/
module

public import proofs.«01_k».proof.Defs
public import proofs.«01_k».proof.Proof.PrepValue
public import proofs.«01_k».proof.Proof.Gen.Pre_prep_finite
public import proofs.«01_k».proof.Proof.Gen.PrepRefIdeal.Run
public import Idealize.ShloMosaic.Lib.Quiescent

@[expose] public section

set_option maxRecDepth 16384

noncomputable section

namespace Cert.Proof.Prep

open Idealize.ShloMosaic Idealize.SL.Sem

/-- The reference's frame is what its run says of the arguments and the counters. -/
theorem frame_reference : Cert.quiescent_PrepRefIdeal := fun m ρ _ =>
  (θ_run Cert.PrepRefIdeal.defs _ _).mono (fun r h => ⟨fun c => (h c).2.2.2.2.2.2, sem_eq_zero_of_no_sems (by decide) r.2⟩)
    (Cert.PrepRefIdeal.Value.run m ρ)

/-- No rewriting rule is used. -/
theorem preserves : Cert.preserves_Prep_PrepIdeal := trivial

/-- The precondition says that every argument's entries are real numbers. -/
theorem args (m : (ℓ : Loc Cert.PrepIdeal.nD Cert.PrepIdeal.τ Cert.PrepIdeal.sig) → Buf (Elt Ideal) ℓ) (h : Cert.Pre_PrepIdeal_prep_finite m)
    (c : Dev Cert.PrepIdeal.nD) : Cert.PrepIdeal.Result.Holds m c
      (fun i k => EReal.toReal (m ((c.tc : Thread Cert.PrepIdeal.nD Cert.PrepIdeal.τ).loc Cert.PrepIdeal.main_arg0) (ix2 i k)))
      (fun j => EReal.toReal (m ((c.tc : Thread Cert.PrepIdeal.nD Cert.PrepIdeal.τ).loc Cert.PrepIdeal.main_arg1) (ix1 j)))
      (fun j => EReal.toReal (m ((c.tc : Thread Cert.PrepIdeal.nD Cert.PrepIdeal.τ).loc Cert.PrepIdeal.main_arg2) (ix1 j)))
      (fun i k l => EReal.toReal (m ((c.tc : Thread Cert.PrepIdeal.nD Cert.PrepIdeal.τ).loc Cert.PrepIdeal.main_arg3) (ix3 i k l)))
      (fun i k l => EReal.toReal (m ((c.tc : Thread Cert.PrepIdeal.nD Cert.PrepIdeal.τ).loc Cert.PrepIdeal.main_arg4) (ix3 i k l)))
      (fun i k l => EReal.toReal (m ((c.tc : Thread Cert.PrepIdeal.nD Cert.PrepIdeal.τ).loc Cert.PrepIdeal.main_arg5) (ix3 i k l)))
      (fun i k l => EReal.toReal (m ((c.tc : Thread Cert.PrepIdeal.nD Cert.PrepIdeal.τ).loc Cert.PrepIdeal.main_arg6) (ix3 i k l)))
      (fun i k l => EReal.toReal (m ((c.tc : Thread Cert.PrepIdeal.nD Cert.PrepIdeal.τ).loc Cert.PrepIdeal.main_arg7) (ix3 i k l)))
      (fun i k l => EReal.toReal (m ((c.tc : Thread Cert.PrepIdeal.nD Cert.PrepIdeal.τ).loc Cert.PrepIdeal.main_arg8) (ix3 i k l))) :=
  ⟨fun i k => Cert.Finite.coe_toReal (congrFun (h c).1 (ix2 i k)),
    fun j => Cert.Finite.coe_toReal (congrFun (h c).2.1 (ix1 j)),
    fun j => Cert.Finite.coe_toReal (congrFun (h c).2.2.1 (ix1 j)),
    fun i k l => Cert.Finite.coe_toReal (congrFun (h c).2.2.2.1 (ix3 i k l)),
    fun i k l => Cert.Finite.coe_toReal (congrFun (h c).2.2.2.2.1 (ix3 i k l)),
    fun i k l => Cert.Finite.coe_toReal (congrFun (h c).2.2.2.2.2.1 (ix3 i k l)),
    fun i k l => Cert.Finite.coe_toReal (congrFun (h c).2.2.2.2.2.2.1 (ix3 i k l)),
    fun i k l => Cert.Finite.coe_toReal (congrFun (h c).2.2.2.2.2.2.2.1 (ix3 i k l)),
    fun i k l => Cert.Finite.coe_toReal (congrFun (h c).2.2.2.2.2.2.2.2 (ix3 i k l))⟩

/-- The reference's arguments are the program's. -/
abbrev Same (m : (ℓ : Loc Cert.PrepIdeal.nD Cert.PrepIdeal.τ Cert.PrepIdeal.sig) → Buf (Elt Ideal) ℓ)
    (m' : (ℓ : Loc Cert.PrepRefIdeal.nD Cert.PrepRefIdeal.τ Cert.PrepRefIdeal.sig) → Buf (Elt Ideal) ℓ) (c : Dev Cert.PrepIdeal.nD) : Prop :=
  StableHlo.launchContents m' c (Proc.devRef .tc Cert.PrepRefIdeal.main_arg0) = m ((c.tc : Thread Cert.PrepIdeal.nD Cert.PrepIdeal.τ).loc Cert.PrepIdeal.main_arg0)
    ∧ StableHlo.launchContents m' c (Proc.devRef .tc Cert.PrepRefIdeal.main_arg1) = m ((c.tc : Thread Cert.PrepIdeal.nD Cert.PrepIdeal.τ).loc Cert.PrepIdeal.main_arg1)
    ∧ StableHlo.launchContents m' c (Proc.devRef .tc Cert.PrepRefIdeal.main_arg2) = m ((c.tc : Thread Cert.PrepIdeal.nD Cert.PrepIdeal.τ).loc Cert.PrepIdeal.main_arg2)
    ∧ StableHlo.launchContents m' c (Proc.devRef .tc Cert.PrepRefIdeal.main_arg3) = m ((c.tc : Thread Cert.PrepIdeal.nD Cert.PrepIdeal.τ).loc Cert.PrepIdeal.main_arg3)
    ∧ StableHlo.launchContents m' c (Proc.devRef .tc Cert.PrepRefIdeal.main_arg4) = m ((c.tc : Thread Cert.PrepIdeal.nD Cert.PrepIdeal.τ).loc Cert.PrepIdeal.main_arg4)
    ∧ StableHlo.launchContents m' c (Proc.devRef .tc Cert.PrepRefIdeal.main_arg5) = m ((c.tc : Thread Cert.PrepIdeal.nD Cert.PrepIdeal.τ).loc Cert.PrepIdeal.main_arg5)
    ∧ StableHlo.launchContents m' c (Proc.devRef .tc Cert.PrepRefIdeal.main_arg6) = m ((c.tc : Thread Cert.PrepIdeal.nD Cert.PrepIdeal.τ).loc Cert.PrepIdeal.main_arg6)
    ∧ StableHlo.launchContents m' c (Proc.devRef .tc Cert.PrepRefIdeal.main_arg7) = m ((c.tc : Thread Cert.PrepIdeal.nD Cert.PrepIdeal.τ).loc Cert.PrepIdeal.main_arg7)
    ∧ StableHlo.launchContents m' c (Proc.devRef .tc Cert.PrepRefIdeal.main_arg8) = m ((c.tc : Thread Cert.PrepIdeal.nD Cert.PrepIdeal.τ).loc Cert.PrepIdeal.main_arg8)

variable {m : (ℓ : Loc Cert.PrepIdeal.nD Cert.PrepIdeal.τ Cert.PrepIdeal.sig) → Buf (Elt Ideal) ℓ}
  {m' : (ℓ : Loc Cert.PrepRefIdeal.nD Cert.PrepRefIdeal.τ Cert.PrepRefIdeal.sig) → Buf (Elt Ideal) ℓ} {c : Dev Cert.PrepIdeal.nD}
  {H : Fin 4096 → Fin 1952 → ℝ} {GQ : Fin 256 → ℝ} {GK : Fin 128 → ℝ} {WQ : Fin 256 → Fin 8 → Fin 96 → ℝ} {WK WV : Fin 128 → Fin 8 → Fin 64 → ℝ}
  {DQ DK : Fin 4096 → Fin 8 → Fin 96 → ℝ} {DV : Fin 4096 → Fin 8 → Fin 64 → ℝ}
variable (e : Same m m' c) (A : Cert.PrepIdeal.Result.Holds m c H GQ GK WQ WK WV DQ DK DV)

open Cert.PrepRefIdeal.Read
open Cert.PrepIdeal (S8x256x96 S8x128x64 S8x256x128 S8x128x128)
open Cert.PrepIdeal.Gen (slices_S8x256x128_S8x256x96_0_0_0 slices_S8x128x128_S8x128x64_0_0_0)

include e A

/-! The reference's results on its own arguments are the call's arrays. -/

theorem dh_reference : val_main_v197 (F := Ideal) (StableHlo.launchContents m' c (Proc.devRef .tc Cert.PrepRefIdeal.main_arg0)) (StableHlo.launchContents m' c (Proc.devRef .tc Cert.PrepRefIdeal.main_arg1)) (StableHlo.launchContents m' c (Proc.devRef .tc Cert.PrepRefIdeal.main_arg2)) (StableHlo.launchContents m' c (Proc.devRef .tc Cert.PrepRefIdeal.main_arg3)) (StableHlo.launchContents m' c (Proc.devRef .tc Cert.PrepRefIdeal.main_arg4)) (StableHlo.launchContents m' c (Proc.devRef .tc Cert.PrepRefIdeal.main_arg5)) (StableHlo.launchContents m' c (Proc.devRef .tc Cert.PrepRefIdeal.main_arg6)) (StableHlo.launchContents m' c (Proc.devRef .tc Cert.PrepRefIdeal.main_arg7)) (StableHlo.launchContents m' c (Proc.devRef .tc Cert.PrepRefIdeal.main_arg8)) = (Cert.PrepIdeal.Gen.dats m 0 c).arrAt 11 Cert.PrepIdeal.cfg0.N := by
  obtain ⟨e0, e1, e2, e3, e4, e5, e6, e7, e8⟩ := e
  rw [e0, e1, e2, e3, e4, e5, e6, e7, e8]
  exact (Cert.PrepIdeal.Result.dh_eq A).symm

theorem dwq_reference : val_main_v198 (F := Ideal) (StableHlo.launchContents m' c (Proc.devRef .tc Cert.PrepRefIdeal.main_arg0)) (StableHlo.launchContents m' c (Proc.devRef .tc Cert.PrepRefIdeal.main_arg1)) (StableHlo.launchContents m' c (Proc.devRef .tc Cert.PrepRefIdeal.main_arg6)) = (extractStridedSlice S8x256x96 ![0, 0, 0] ((Cert.PrepIdeal.Gen.dats m 0 c).arrAt 12 Cert.PrepIdeal.cfg0.N : FVec Ideal S8x256x128 .f32) slices_S8x256x128_S8x256x96_0_0_0 : FVec Ideal S8x256x96 .f32) := by
  obtain ⟨e0, e1, _, _, _, _, e6, _, _⟩ := e
  rw [e0, e1, e6]
  exact (Cert.PrepIdeal.Result.dwq_eq A).symm

theorem dwk_reference : val_main_v199 (F := Ideal) (StableHlo.launchContents m' c (Proc.devRef .tc Cert.PrepRefIdeal.main_arg0)) (StableHlo.launchContents m' c (Proc.devRef .tc Cert.PrepRefIdeal.main_arg2)) (StableHlo.launchContents m' c (Proc.devRef .tc Cert.PrepRefIdeal.main_arg7)) = (extractStridedSlice S8x128x64 ![0, 0, 0] ((Cert.PrepIdeal.Gen.dats m 0 c).arrAt 13 Cert.PrepIdeal.cfg0.N : FVec Ideal S8x128x128 .f32) slices_S8x128x128_S8x128x64_0_0_0 : FVec Ideal S8x128x64 .f32) := by
  obtain ⟨e0, _, e2, _, _, _, _, e7, _⟩ := e
  rw [e0, e2, e7]
  exact (Cert.PrepIdeal.Result.dwk_eq A).symm

theorem dwv_reference : val_main_v200 (F := Ideal) (StableHlo.launchContents m' c (Proc.devRef .tc Cert.PrepRefIdeal.main_arg0)) (StableHlo.launchContents m' c (Proc.devRef .tc Cert.PrepRefIdeal.main_arg2)) (StableHlo.launchContents m' c (Proc.devRef .tc Cert.PrepRefIdeal.main_arg8)) = (extractStridedSlice S8x128x64 ![0, 0, 0] ((Cert.PrepIdeal.Gen.dats m 0 c).arrAt 14 Cert.PrepIdeal.cfg0.N : FVec Ideal S8x128x128 .f32) slices_S8x128x128_S8x128x64_0_0_0 : FVec Ideal S8x128x64 .f32) := by
  obtain ⟨e0, _, e2, _, _, _, _, _, e8⟩ := e
  rw [e0, e2, e8]
  exact (Cert.PrepIdeal.Result.dwv_eq A).symm

theorem dgq_reference : val_main_v201 (F := Ideal) (StableHlo.launchContents m' c (Proc.devRef .tc Cert.PrepRefIdeal.main_arg0)) (StableHlo.launchContents m' c (Proc.devRef .tc Cert.PrepRefIdeal.main_arg3)) (StableHlo.launchContents m' c (Proc.devRef .tc Cert.PrepRefIdeal.main_arg6)) = (Cert.PrepIdeal.Gen.dats m 0 c).arrAt 15 Cert.PrepIdeal.cfg0.N := by
  obtain ⟨e0, _, _, e3, _, _, e6, _, _⟩ := e
  rw [e0, e3, e6]
  exact (Cert.PrepIdeal.Result.dgq_eq A).symm

theorem dgk_reference : val_main_v202 (F := Ideal) (StableHlo.launchContents m' c (Proc.devRef .tc Cert.PrepRefIdeal.main_arg0)) (StableHlo.launchContents m' c (Proc.devRef .tc Cert.PrepRefIdeal.main_arg4)) (StableHlo.launchContents m' c (Proc.devRef .tc Cert.PrepRefIdeal.main_arg5)) (StableHlo.launchContents m' c (Proc.devRef .tc Cert.PrepRefIdeal.main_arg7)) (StableHlo.launchContents m' c (Proc.devRef .tc Cert.PrepRefIdeal.main_arg8)) = (Cert.PrepIdeal.Gen.dats m 0 c).arrAt 16 Cert.PrepIdeal.cfg0.N := by
  obtain ⟨e0, _, _, _, e4, e5, _, e7, e8⟩ := e
  rw [e0, e4, e5, e7, e8]
  exact (Cert.PrepIdeal.Result.dgk_eq A).symm

omit e A

theorem algebraic : Cert.algebraic_PrepIdeal_PrepRefIdeal_pre_prep_finite := fun m ρ m' ρ' hpre hargs =>
  ⟨_, _, _, _, _, _, Cert.PrepIdeal.Result.run m ρ,
    (θ_run Cert.PrepRefIdeal.defs _ _).mono (fun r h c => by
      have e : Same m m' c := hargs c
      have A := args m hpre c
      obtain ⟨r0, r1, r2, r3, r4, r5, k⟩ := h c
      exact ⟨r0.trans ((val_main_v197_eq _).trans (dh_reference e A)),
        r1.trans ((val_main_v198_eq _).trans (dwq_reference e A)),
        r2.trans ((val_main_v199_eq _).trans (dwk_reference e A)),
        r3.trans ((val_main_v200_eq _).trans (dwv_reference e A)),
        r4.trans ((val_main_v201_eq _).trans (dgq_reference e A)),
        r5.trans ((val_main_v202_eq _).trans (dgk_reference e A)), k⟩)
    (Cert.PrepRefIdeal.Value.run m' ρ')⟩

end Cert.Proof.Prep

end
-- ==== Proof.AttnIdealLoop.lean ====
/- The outer loop over blocks of keys of the attention's gradient: what one trip writes, as the run of its region finds it,
   the pieces written before a trip, and the loop's invariant. -/
module

public import proofs.«01_k».proof.Proof.Gen.AttnIdeal.Loops

@[expose] public section

set_option maxRecDepth 16384
set_option maxHeartbeats 4000000

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- The buffers that a trip uses: queries, keys, values, row sums, cotangent and the rows' products at fixed contents, the
    three gradients at given ones, and the two sums in scratch memory at any. -/
abbrev Held (c : Dev nD) (arg1 : Memref sig .tc .vmem S1x4096x128 .bf16) (arg2 : Memref sig .tc .vmem S1x4096x128 .bf16) (arg3 : Memref sig .tc .vmem S1x4096x128 .bf16) (arg5 : Memref sig .tc .vmem S1x4096x128 .f32) (arg6 : Memref sig .tc .vmem S1x4096x128 .f32) (arg10 : Memref sig .tc .vmem S4096x1 .f32) (arg7 : Memref sig .tc .vmem S1x4096x128 .f32) (arg8 : Memref sig .tc .vmem S1x4096x128 .f32) (arg9 : Memref sig .tc .vmem S1x4096x128 .f32) (arg11 : Memref sig .tc .vmem S1024x128 .f32) (arg12 : Memref sig .tc .vmem S1024x128 .f32) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X10 : BufTy.Contents (Elt F) arg10.view.ty) (f7 : BufTy.Contents (Elt F) arg7.view.ty) (f8 : BufTy.Contents (Elt F) arg8.view.ty) (f9 : BufTy.Contents (Elt F) arg9.view.ty) : sProp 𝕄G :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg5.view.loc (c : Thread nD τ) ↦[arg5.view.set]{fullShare} X5) ∗ (arg6.view.loc (c : Thread nD τ) ↦[arg6.view.set]{fullShare} X6) ∗ (arg10.view.loc (c : Thread nD τ) ↦[arg10.view.set]{fullShare} X10) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (∃ f, (arg11.view.loc (c : Thread nD τ) ↦[arg11.view.set]{fullShare} f)) ∗ (∃ f, (arg12.view.loc (c : Thread nD τ) ↦[arg12.view.set]{fullShare} f)))

variable (𝒱 : Variants) (c : Dev nD) (bd : Option 𝒱.V) (i : grid0.Coords) (arg1 : Memref sig .tc .vmem S1x4096x128 .bf16) (harg1 : arg1.IsWhole) (arg2 : Memref sig .tc .vmem S1x4096x128 .bf16) (harg2 : arg2.IsWhole) (arg3 : Memref sig .tc .vmem S1x4096x128 .bf16) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x4096x128 .f32) (harg9 : arg9.IsWhole) (arg10 : Memref sig .tc .vmem S4096x1 .f32) (harg10 : arg10.IsWhole) (arg11 : Memref sig .tc .vmem S1024x128 .f32) (harg11 : arg11.IsWhole) (arg12 : Memref sig .tc .vmem S1024x128 .f32) (harg12 : arg12.IsWhole)
  (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X10 : BufTy.Contents (Elt F) arg10.view.ty)

/-- One trip over a block of keys: the pieces it writes into the three gradients. They depend on the gradient of the queries
    as the trip finds it, to which the trip adds, and on nothing else that the trip finds. -/
@[irreducible] def trip_k0_t2 (k : Fin k0_t2_loop.trips) :
    Σ' (L7 : BufTy.Contents (Elt F) arg7.view.ty → List (View.Piece (Elt F) S1x4096x128 .f32)), Σ' (L8 : BufTy.Contents (Elt F) arg7.view.ty → List (View.Piece (Elt F) S1x4096x128 .f32)), { L9 : BufTy.Contents (Elt F) arg7.view.ty → List (View.Piece (Elt F) S1x4096x128 .f32) //
      ∀ (E : Set ℕ) (f7 : BufTy.Contents (Elt F) arg7.view.ty) (f8 : BufTy.Contents (Elt F) arg8.view.ty) (f9 : BufTy.Contents (Elt F) arg9.view.ty), Held (F := F) c arg1 arg2 arg3 arg5 arg6 arg10 arg7 arg8 arg9 arg11 arg12 X1 X2 X3 X5 X6 X10 f7 f8 f9
        ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 harg10 arg11 harg11 arg12 harg12 k PUnit.unit)
            (fun _ => Held (F := F) c arg1 arg2 arg3 arg5 arg6 arg10 arg7 arg8 arg9 arg11 arg12 X1 X2 X3 X5 X6 X10 (arg7.view.writes (Elt F) f7 (L7 f7)) (arg8.view.writes (Elt F) f8 (L8 f7)) (arg9.view.writes (Elt F) f9 (L9 f7))) } := by
  refine ⟨?_, ?_, ?_, fun E f7 f8 f9 => ?run⟩
  case run =>
    unfold k0_t2_body
    iintro ⟨R1, R2, R3, R5, R6, R10, W7, W8, W9, ⟨%f11, S11⟩, ⟨%f12, S12⟩⟩
    sl_exec_parts
    sl_step
    (isplitl [R1]; · iexact R1); (isplitl [R2]; · iexact R2); (isplitl [R3]; · iexact R3); (isplitl [R5]; · iexact R5); (isplitl [R6]; · iexact R6); (isplitl [R10]; · iexact R10)
    (isplitl [W7]; · iexact W7); (isplitl [W8]; · iexact W8); (isplitl [W9]; · iexact W9)
    isplitl [S11]; · iexists _; iexact S11
    iexists _; iexact S12

/-- The pieces of one trip, all three lists together. -/
abbrev pieces_k0_t2 (k : Fin k0_t2_loop.trips) (f7 : BufTy.Contents (Elt F) arg7.view.ty) : List (View.Piece (Elt F) S1x4096x128 .f32) × List (View.Piece (Elt F) S1x4096x128 .f32) × List (View.Piece (Elt F) S1x4096x128 .f32) :=
  ((trip_k0_t2 (F := F) 𝒱 c bd i arg1 harg1 arg2 harg2 arg3 harg3 arg4 harg4 arg5 harg5 arg6 harg6 arg7 harg7 arg8 harg8 arg9 harg9 arg10 harg10 arg11 harg11 arg12 harg12 X1 X2 X3 X5 X6 X10 k).1 f7, (trip_k0_t2 (F := F) 𝒱 c bd i arg1 harg1 arg2 harg2 arg3 harg3 arg4 harg4 arg5 harg5 arg6 harg6 arg7 harg7 arg8 harg8 arg9 harg9 arg10 harg10 arg11 harg11 arg12 harg12 X1 X2 X3 X5 X6 X10 k).2.1 f7, (trip_k0_t2 (F := F) 𝒱 c bd i arg1 harg1 arg2 harg2 arg3 harg3 arg4 harg4 arg5 harg5 arg6 harg6 arg7 harg7 arg8 harg8 arg9 harg9 arg10 harg10 arg11 harg11 arg12 harg12 X1 X2 X3 X5 X6 X10 k).2.2.1 f7)

/-- Trip `k`'s pieces in front of the earlier ones; past the last trip nothing is added. -/
@[irreducible] def step_k0_t2 (G7 : BufTy.Contents (Elt F) arg7.view.ty) (k : ℕ) (prev : List (View.Piece (Elt F) S1x4096x128 .f32) × List (View.Piece (Elt F) S1x4096x128 .f32) × List (View.Piece (Elt F) S1x4096x128 .f32)) : List (View.Piece (Elt F) S1x4096x128 .f32) × List (View.Piece (Elt F) S1x4096x128 .f32) × List (View.Piece (Elt F) S1x4096x128 .f32) :=
  if h : k < k0_t2_loop.trips then
    let new := pieces_k0_t2 (F := F) 𝒱 c bd i arg1 harg1 arg2 harg2 arg3 harg3 arg4 harg4 arg5 harg5 arg6 harg6 arg7 harg7 arg8 harg8 arg9 harg9 arg10 harg10 arg11 harg11 arg12 harg12 X1 X2 X3 X5 X6 X10 ⟨k, h⟩ (arg7.view.writes (Elt F) G7 prev.1)
    (new.1 ++ prev.1, new.2.1 ++ prev.2.1, new.2.2 ++ prev.2.2)
  else prev

/-- The pieces of the trips before `k`, the last first, from the contents `G7` of the gradient of the queries at the start. -/
def pb_k0_t2 (G7 : BufTy.Contents (Elt F) arg7.view.ty) : ℕ → List (View.Piece (Elt F) S1x4096x128 .f32) × List (View.Piece (Elt F) S1x4096x128 .f32) × List (View.Piece (Elt F) S1x4096x128 .f32)
  | 0 => ([], [], [])
  | k + 1 => step_k0_t2 𝒱 c bd i arg1 harg1 arg2 harg2 arg3 harg3 arg4 harg4 arg5 harg5 arg6 harg6 arg7 harg7 arg8 harg8 arg9 harg9 arg10 harg10 arg11 harg11 arg12 harg12 X1 X2 X3 X5 X6 X10 G7 k (pb_k0_t2 G7 k)

theorem pb_k0_t2_succ (G7 : BufTy.Contents (Elt F) arg7.view.ty) (k : Fin k0_t2_loop.trips) :
    pb_k0_t2 (F := F) 𝒱 c bd i arg1 harg1 arg2 harg2 arg3 harg3 arg4 harg4 arg5 harg5 arg6 harg6 arg7 harg7 arg8 harg8 arg9 harg9 arg10 harg10 arg11 harg11 arg12 harg12 X1 X2 X3 X5 X6 X10 G7 (k.val + 1)
      = (let prev := pb_k0_t2 (F := F) 𝒱 c bd i arg1 harg1 arg2 harg2 arg3 harg3 arg4 harg4 arg5 harg5 arg6 harg6 arg7 harg7 arg8 harg8 arg9 harg9 arg10 harg10 arg11 harg11 arg12 harg12 X1 X2 X3 X5 X6 X10 G7 k.val
        let new := pieces_k0_t2 (F := F) 𝒱 c bd i arg1 harg1 arg2 harg2 arg3 harg3 arg4 harg4 arg5 harg5 arg6 harg6 arg7 harg7 arg8 harg8 arg9 harg9 arg10 harg10 arg11 harg11 arg12 harg12 X1 X2 X3 X5 X6 X10 k (arg7.view.writes (Elt F) G7 prev.1)
        (new.1 ++ prev.1, new.2.1 ++ prev.2.1, new.2.2 ++ prev.2.2)) := by
  rw [pb_k0_t2.eq_2]; unfold step_k0_t2; exact dif_pos k.isLt

/-- Before trip `k` the three gradients hold the earlier trips' pieces, written over what they held at the start. -/
abbrev inv_k0_t2 (G7 : BufTy.Contents (Elt F) arg7.view.ty) (G8 : BufTy.Contents (Elt F) arg8.view.ty) (G9 : BufTy.Contents (Elt F) arg9.view.ty) (k : ℕ) (_u : PUnit) : sProp 𝕄G :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg5.view.loc (c : Thread nD τ) ↦[arg5.view.set]{fullShare} X5) ∗ (arg6.view.loc (c : Thread nD τ) ↦[arg6.view.set]{fullShare} X6) ∗ (arg10.view.loc (c : Thread nD τ) ↦[arg10.view.set]{fullShare} X10) ∗ (∃ f, (arg7.view.loc (c : Thread nD τ) ↦[arg7.view.set]{fullShare} f) ∗ ⌜f = arg7.view.writes (Elt F) G7 (pb_k0_t2 (F := F) 𝒱 c bd i arg1 harg1 arg2 harg2 arg3 harg3 arg4 harg4 arg5 harg5 arg6 harg6 arg7 harg7 arg8 harg8 arg9 harg9 arg10 harg10 arg11 harg11 arg12 harg12 X1 X2 X3 X5 X6 X10 G7 k).1⌝) ∗ (∃ f, (arg8.view.loc (c : Thread nD τ) ↦[arg8.view.set]{fullShare} f) ∗ ⌜f = arg8.view.writes (Elt F) G8 (pb_k0_t2 (F := F) 𝒱 c bd i arg1 harg1 arg2 harg2 arg3 harg3 arg4 harg4 arg5 harg5 arg6 harg6 arg7 harg7 arg8 harg8 arg9 harg9 arg10 harg10 arg11 harg11 arg12 harg12 X1 X2 X3 X5 X6 X10 G7 k).2.1⌝) ∗ (∃ f, (arg9.view.loc (c : Thread nD τ) ↦[arg9.view.set]{fullShare} f) ∗ ⌜f = arg9.view.writes (Elt F) G9 (pb_k0_t2 (F := F) 𝒱 c bd i arg1 harg1 arg2 harg2 arg3 harg3 arg4 harg4 arg5 harg5 arg6 harg6 arg7 harg7 arg8 harg8 arg9 harg9 arg10 harg10 arg11 harg11 arg12 harg12 X1 X2 X3 X5 X6 X10 G7 k).2.2⌝) ∗ (∃ f, (arg11.view.loc (c : Thread nD τ) ↦[arg11.view.set]{fullShare} f)) ∗ (∃ f, (arg12.view.loc (c : Thread nD τ) ↦[arg12.view.set]{fullShare} f)))

set_option warn.classDefReducibility false in
/-- The loop by its invariant. -/
@[sl_loop] def loopInv_k0_t2 (E : Set ℕ) (G7 : BufTy.Contents (Elt F) arg7.view.ty) (G8 : BufTy.Contents (Elt F) arg8.view.ty) (G9 : BufTy.Contents (Elt F) arg9.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 where
  inv := inv_k0_t2 (F := F) 𝒱 c bd i arg1 harg1 arg2 harg2 arg3 harg3 arg4 harg4 arg5 harg5 arg6 harg6 arg7 harg7 arg8 harg8 arg9 harg9 arg10 harg10 arg11 harg11 arg12 harg12 X1 X2 X3 X5 X6 X10 G7 G8 G9
  step k acc := by
    iintro ⟨R1, R2, R3, R5, R6, R10, ⟨%f7, W7, %h7⟩, ⟨%f8, W8, %h8⟩, ⟨%f9, W9, %h9⟩, S11, S12⟩
    iapply (wp_wand_r Idealize.ShloMosaic.frame (wpE (defs₀ (F := F)) 𝒱 (c : Thread nD τ) bd) E)
    isplitl [R1 R2 R3 R5 R6 R10 W7 W8 W9 S11 S12]
    · iapply ((trip_k0_t2 (F := F) 𝒱 c bd i arg1 harg1 arg2 harg2 arg3 harg3 arg4 harg4 arg5 harg5 arg6 harg6 arg7 harg7 arg8 harg8 arg9 harg9 arg10 harg10 arg11 harg11 arg12 harg12 X1 X2 X3 X5 X6 X10 k).2.2.2 E f7 f8 f9)
      (isplitl [R1]; · iexact R1); (isplitl [R2]; · iexact R2); (isplitl [R3]; · iexact R3); (isplitl [R5]; · iexact R5); (isplitl [R6]; · iexact R6); (isplitl [R10]; · iexact R10)
      (isplitl [W7]; · iexact W7); (isplitl [W8]; · iexact W8); (isplitl [W9]; · iexact W9)
      isplitl [S11]; · iexact S11
      iexact S12
    · iintro %_ ⟨R1, R2, R3, R5, R6, R10, W7, W8, W9, S11, S12⟩
      (isplitl [R1]; · iexact R1); (isplitl [R2]; · iexact R2); (isplitl [R3]; · iexact R3); (isplitl [R5]; · iexact R5); (isplitl [R6]; · iexact R6); (isplitl [R10]; · iexact R10)
      rw [pb_k0_t2_succ]
      isplitl [W7]
      · iexists _; isplitl [W7]; · iexact W7
        ipureintro; rw [h7, ← View.writes_append]
      isplitl [W8]
      · iexists _; isplitl [W8]; · iexact W8
        ipureintro; rw [h7, h8, ← View.writes_append]
      isplitl [W9]
      · iexists _; isplitl [W9]; · iexact W9
        ipureintro; rw [h7, h9, ← View.writes_append]
      isplitl [S11]; · iexact S11
      iexact S12

end Cert.AttnIdeal.Gen

end
-- ==== Proof.AttnIdealFrame.lean ====
/- The run of the attention's gradient over one head: what its body leaves in the three gradients, and what the whole grid
   leaves of the program's memory. -/
module

public import proofs.«01_k».proof.Proof.AttnIdealLoop
public import proofs.«01_k».proof.Proof.Gen.AttnIdeal.Frame
public import proofs.«01_k».proof.Proof.Gen.AttnIdeal.Points
public import Idealize.ShloMosaic.Lib.Claim

@[expose] public section

set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Run

variable (c : Dev nD) (i : grid0.Coords) (arg1 : Memref sig .tc .vmem S1x4096x128 .bf16) (harg1 : arg1.IsWhole) (arg2 : Memref sig .tc .vmem S1x4096x128 .bf16) (harg2 : arg2.IsWhole) (arg3 : Memref sig .tc .vmem S1x4096x128 .bf16) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x4096x128 .f32) (harg9 : arg9.IsWhole) (arg10 : Memref sig .tc .vmem S4096x1 .f32) (harg10 : arg10.IsWhole) (arg11 : Memref sig .tc .vmem S1024x128 .f32) (harg11 : arg11.IsWhole) (arg12 : Memref sig .tc .vmem S1024x128 .f32) (harg12 : arg12.IsWhole)
  (x0 : Vec F S1x4096x128 .bf16) (x1 : Vec F S1x4096x128 .bf16) (x2 : Vec F S1x4096x128 .bf16) (x3 : Vec F S1x4096x128 .f32) (x4 : Vec F S1x4096x128 .f32) (x5 : Vec F S1x4096x128 .f32)

/-- The pieces that the loop over rows writes into the buffer of the rows' products. -/
abbrev rowPieces : List (View.Piece (Elt F) S4096x1 .f32) :=
  pb_k0_t1 (F := F) Variants.none c none i arg1 harg1 arg2 harg2 arg3 harg3 arg4 harg4 arg5 harg5 arg6 harg6 arg7 harg7 arg8 harg8 arg9 harg9 arg10 harg10 arg11 harg11 arg12 harg12 (harg4.unread x3) (harg6.unread x5) (Scf.trips k0_t1_loop.lb k0_t1_loop.ub k0_t1_loop.st)

/-- They cover it. -/
theorem rowPieces_cover (y : S4096x1.Idx) : ∃ pc ∈ rowPieces (F := F) c i arg1 harg1 arg2 harg2 arg3 harg3 arg4 harg4 arg5 harg5 arg6 harg6 arg7 harg7 arg8 harg8 arg9 harg9 arg10 harg10 arg11 harg11 arg12 harg12 x3 x5, y ∈ pc.1.set :=
  View.cover_of_tiledL (rowPieces (F := F) c i arg1 harg1 arg2 harg2 arg3 harg3 arg4 harg4 arg5 harg5 arg6 harg6 arg7 harg7 arg8 harg8 arg9 harg9 arg10 harg10 arg11 harg11 arg12 harg12 x3 x5) S1024x1.size (by sl_kernel_rfl) y

/-- The buffer of the rows' products after that loop. -/
abbrev rowsAt : BufTy.Contents (Elt F) arg10.view.ty :=
  arg10.view.writes (Elt F) arg10.view.junk (rowPieces (F := F) c i arg1 harg1 arg2 harg2 arg3 harg3 arg4 harg4 arg5 harg5 arg6 harg6 arg7 harg7 arg8 harg8 arg9 harg9 arg10 harg10 arg11 harg11 arg12 harg12 x3 x5)

theorem rowsAt_eq (f : BufTy.Contents (Elt F) arg10.view.ty) :
    arg10.view.writes (Elt F) f (rowPieces (F := F) c i arg1 harg1 arg2 harg2 arg3 harg3 arg4 harg4 arg5 harg5 arg6 harg6 arg7 harg7 arg8 harg8 arg9 harg9 arg10 harg10 arg11 harg11 arg12 harg12 x3 x5) = rowsAt (F := F) c i arg1 harg1 arg2 harg2 arg3 harg3 arg4 harg4 arg5 harg5 arg6 harg6 arg7 harg7 arg8 harg8 arg9 harg9 arg10 harg10 arg11 harg11 arg12 harg12 x3 x5 :=
  (harg10.eq_unread (View.read_writes_of_cover _ _ _ _ _ (rowPieces_cover (F := F) c i arg1 harg1 arg2 harg2 arg3 harg3 arg4 harg4 arg5 harg5 arg6 harg6 arg7 harg7 arg8 harg8 arg9 harg9 arg10 harg10 arg11 harg11 arg12 harg12 x3 x5))).trans (harg10.unread_read _)

/-- The zeros that the gradient of the queries starts from. -/
abbrev zeros : List (View.Piece (Elt F) S1x4096x128 .f32) :=
  [⟨Rect.unit (s := S1x4096x128) ![0, 0, 0] S1x4096x128.size inb_S1x4096x128_S1x4096x128_0_0_0, k0_pay1 (F := F)⟩]

/-- The pieces that the loop over blocks of keys writes into the three gradients, trip by trip. -/
abbrev gradPieces (n : ℕ) : List (View.Piece (Elt F) S1x4096x128 .f32) × List (View.Piece (Elt F) S1x4096x128 .f32) × List (View.Piece (Elt F) S1x4096x128 .f32) :=
  pb_k0_t2 (F := F) Variants.none c none i arg1 harg1 arg2 harg2 arg3 harg3 arg4 harg4 arg5 harg5 arg6 harg6 arg7 harg7 arg8 harg8 arg9 harg9 arg10 harg10 arg11 harg11 arg12 harg12 (harg1.unread x0) (harg2.unread x1) (harg3.unread x2) (harg5.unread x4) (harg6.unread x5)
    (rowsAt (F := F) c i arg1 harg1 arg2 harg2 arg3 harg3 arg4 harg4 arg5 harg5 arg6 harg6 arg7 harg7 arg8 harg8 arg9 harg9 arg10 harg10 arg11 harg11 arg12 harg12 x3 x5) (arg7.view.writes (Elt F) arg7.view.junk (zeros (F := F))) n

/-- Those of all trips. -/
abbrev allPieces : List (View.Piece (Elt F) S1x4096x128 .f32) × List (View.Piece (Elt F) S1x4096x128 .f32) × List (View.Piece (Elt F) S1x4096x128 .f32) :=
  gradPieces (F := F) c i arg1 harg1 arg2 harg2 arg3 harg3 arg4 harg4 arg5 harg5 arg6 harg6 arg7 harg7 arg8 harg8 arg9 harg9 arg10 harg10 arg11 harg11 arg12 harg12 x0 x1 x2 x3 x4 x5 (Scf.trips k0_t2_loop.lb k0_t2_loop.ub k0_t2_loop.st)

set_option maxHeartbeats 1000000 in
/-- The body's run on one head, whatever the staging buffers of the gradients and the scratch memory held. -/
theorem kernelRun (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f ((allPieces (F := F) c i arg1 harg1 arg2 harg2 arg3 harg3 arg4 harg4 arg5 harg5 arg6 harg6 arg7 harg7 arg8 harg8 arg9 harg9 arg10 harg10 arg11 harg11 arg12 harg12 x0 x1 x2 x3 x4 x5).1 ++ zeros))
            ∗ (∃ f, arg8.view.loc (c : Thread nD τ) ↦[arg8.view.set]{fullShare} arg8.view.writes (Elt F) f (allPieces (F := F) c i arg1 harg1 arg2 harg2 arg3 harg3 arg4 harg4 arg5 harg5 arg6 harg6 arg7 harg7 arg8 harg8 arg9 harg9 arg10 harg10 arg11 harg11 arg12 harg12 x0 x1 x2 x3 x4 x5).2.1)
            ∗ (∃ f, arg9.view.loc (c : Thread nD τ) ↦[arg9.view.set]{fullShare} arg9.view.writes (Elt F) f (allPieces (F := F) c i arg1 harg1 arg2 harg2 arg3 harg3 arg4 harg4 arg5 harg5 arg6 harg6 arg7 harg7 arg8 harg8 arg9 harg9 arg10 harg10 arg11 harg11 arg12 harg12 x0 x1 x2 x3 x4 x5).2.2) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc0_mla_attn_bwd (F := F) i arg1 harg1 arg2 harg2 arg3 harg3 arg4 harg4 arg5 harg5 arg6 harg6 arg7 harg7 arg8 harg8 arg9 harg9 arg10 harg10 arg11 harg11 arg12 harg12) K := by
  simp only [cc0_mla_attn_bwd_eq_skeleton]; unfold cc0_mla_attn_bwd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec
  sl_step
  rw [rowsAt_eq]
  iapply Hk
  isplitl [H0]
  · iexists _
    isplitr
    · ipureintro; exact harg1.read_unread _
    iexact H0
  isplitl [H1]
  · iexists _
    isplitr
    · ipureintro; exact harg2.read_unread _
    iexact H1
  isplitl [H2]
  · iexists _
    isplitr
    · ipureintro; exact harg3.read_unread _
    iexact H2
  isplitl [H3]
  · iexists _
    isplitr
    · ipureintro; exact harg4.read_unread _
    iexact H3
  isplitl [H4]
  · iexists _
    isplitr
    · ipureintro; exact harg5.read_unread _
    iexact H4
  isplitl [H5]
  · iexists _
    isplitr
    · ipureintro; exact harg6.read_unread _
    iexact H5
  isplitl [H6]; · iexists _; iexact H6
  isplitl [H7]; · iexists _; iexact H7
  isplitl [H8]; · iexists _; iexact H8
  isplitl [H9]
  · iexists _; iexists _; isplitr
    swap; · iexact H9
    ipureintro; rfl
  isplitl [H10]
  · iexists _; iexists _; isplitr
    swap; · iexact H10
    ipureintro; rfl
  iexists _; iexists _; isplitr
  swap; · iexact H11
  ipureintro; rfl

theorem allPieces_cover8 (y : S1x4096x128.Idx) : ∃ pc ∈ (allPieces (F := F) c i arg1 harg1 arg2 harg2 arg3 harg3 arg4 harg4 arg5 harg5 arg6 harg6 arg7 harg7 arg8 harg8 arg9 harg9 arg10 harg10 arg11 harg11 arg12 harg12 x0 x1 x2 x3 x4 x5).2.1, y ∈ pc.1.set :=
  View.cover_of_tiledL (allPieces (F := F) c i arg1 harg1 arg2 harg2 arg3 harg3 arg4 harg4 arg5 harg5 arg6 harg6 arg7 harg7 arg8 harg8 arg9 harg9 arg10 harg10 arg11 harg11 arg12 harg12 x0 x1 x2 x3 x4 x5).2.1 S1x1024x128.size (by sl_kernel_rfl) y

theorem allPieces_cover9 (y : S1x4096x128.Idx) : ∃ pc ∈ (allPieces (F := F) c i arg1 harg1 arg2 harg2 arg3 harg3 arg4 harg4 arg5 harg5 arg6 harg6 arg7 harg7 arg8 harg8 arg9 harg9 arg10 harg10 arg11 harg11 arg12 harg12 x0 x1 x2 x3 x4 x5).2.2, y ∈ pc.1.set :=
  View.cover_of_tiledL (allPieces (F := F) c i arg1 harg1 arg2 harg2 arg3 harg3 arg4 harg4 arg5 harg5 arg6 harg6 arg7 harg7 arg8 harg8 arg9 harg9 arg10 harg10 arg11 harg11 arg12 harg12 x0 x1 x2 x3 x4 x5).2.2 S1x1024x128.size (by sl_kernel_rfl) y

theorem allPieces_cover7 (y : S1x4096x128.Idx) : ∃ pc ∈ (allPieces (F := F) c i arg1 harg1 arg2 harg2 arg3 harg3 arg4 harg4 arg5 harg5 arg6 harg6 arg7 harg7 arg8 harg8 arg9 harg9 arg10 harg10 arg11 harg11 arg12 harg12 x0 x1 x2 x3 x4 x5).1 ++ zeros, y ∈ pc.1.set := by
  obtain ⟨pc, h, hy⟩ := View.cover_of_tiledL (zeros (F := F)) S1x4096x128.size (by sl_kernel_rfl) y
  exact ⟨pc, List.mem_append_right _ h, hy⟩

end Run

section Grid

variable (m : (ℓ : Loc nD τ sig) → Buf (Elt F) ℓ) (ρ : Dev nD → PrngReg)

/-- The pieces written into the three gradients at head `t`. -/
abbrev piecesAt (c : Dev nD) (t : Fin cfg0.N) : List (View.Piece (Elt F) S1x4096x128 .f32) × List (View.Piece (Elt F) S1x4096x128 .f32) × List (View.Piece (Elt F) S1x4096x128 .f32) :=
  allPieces (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t) (iblk m c 5 t)

/-- A whole buffer of a gradient's block, over which the pieces are read back. -/
abbrev blockView : View sig .tc .vmem S1x4096x128 .f32 := (Memref.whole cc0_stg6_0 : Memref sig .tc .vmem S1x4096x128 .f32).view

/-- The gradient by the queries of head `t`, by the keys, and by the values. -/
def dqAt (c : Dev nD) (t : Fin cfg0.N) : Vec F S1x4096x128 .f32 :=
  blockView.read (Elt F) (blockView.writes (Elt F) blockView.junk ((piecesAt m c t).1 ++ zeros))
def dkAt (c : Dev nD) (t : Fin cfg0.N) : Vec F S1x4096x128 .f32 :=
  blockView.read (Elt F) (blockView.writes (Elt F) blockView.junk (piecesAt m c t).2.1)
def dvAt (c : Dev nD) (t : Fin cfg0.N) : Vec F S1x4096x128 .f32 :=
  blockView.read (Elt F) (blockView.writes (Elt F) blockView.junk (piecesAt m c t).2.2)

/-- What the call finds and leaves: its arrays as the host lines left them, each input's block in place, each gradient's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dqAt m c t
    | ⟨7, _⟩ => dkAt m c t
    | ⟨8, _⟩ => dvAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = dqAt m c t := by dsimp only [dats]
theorem after0_7 (c : Dev nD) (t : Fin cfg0.N) : (dats m 0 c).after 7 t = dkAt m c t := by dsimp only [dats]
theorem after0_8 (c : Dev nD) (t : Fin cfg0.N) : (dats m 0 c).after 8 t = dvAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at head `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- A scratch buffer owned whole at some contents is one that holds some contents. -/
theorem scratch_out (c : Dev nD) (b : Ref sig .tc) :
    iprop(∃ d, owns (c : Thread nD τ) (Memref.whole b) fullShare d) ⊢ (iprop(∃ f : Buf (Elt F) ((c : Thread nD τ).loc b), ((c : Thread nD τ).loc b) ↦{fullShare} f) : sProp 𝕄) := by
  simp only [owns_whole_eq]
  iintro ⟨%d, %f, -, H⟩
  iexists f
  iexact H

set_option maxHeartbeats 1600000 in
/-- The body at any head. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, after0_8]
  unfold Pipeline.ΦA
  rw [scopedRest0_eq]
  iintro ⟨⟨⟨⟨%s0, S0⟩, ⟨%s1, S1⟩, ⟨%s2, S2⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (kernelRun (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t) (iblk m c 5 t) Set.univ _)
  (isplitl [H0]; · iexact H0); (isplitl [H1]; · iexact H1); (isplitl [H2]; · iexact H2); (isplitl [H3]; · iexact H3); (isplitl [H4]; · iexact H4); (isplitl [H5]; · iexact H5)
  (isplitl [H6]; · iexists _; iexact H6); (isplitl [H7]; · iexists _; iexact H7); (isplitl [H8]; · iexists _; iexact H8)
  isplitl [S0]
  · iexists s0; rw [owns_whole_eq]; iexists s0; isplitr
    · ipureintro; rfl
    iexact S0
  isplitl [S1]
  · iexists s1; rw [owns_whole_eq]; iexists s1; isplitr
    · ipureintro; rfl
    iexact S1
  isplitl [S2]
  · iexists s2; rw [owns_whole_eq]; iexists s2; isplitr
    · ipureintro; rfl
    iexact S2
  iintro ⟨H0, H1, H2, H3, H4, H5, ⟨%e6, H6⟩, ⟨%e7, H7⟩, ⟨%e8, H8⟩, S0, S1, S2⟩
  isplitl [S0 S1 S2 Hr]
  · isplitl [S0 S1 S2]
    · isplitl [S0]; · iapply (scratch_out c cc0_scratch0); iexact S0
      isplitl [S1]; · iapply (scratch_out c cc0_scratch1); iexact S1
      iapply (scratch_out c cc0_scratch2); iexact S2
    iexact Hr
  isplitl [Ho]; · iexact Ho
  (isplitl [H0]; · iexact H0); (isplitl [H1]; · iexact H1); (isplitl [H2]; · iexact H2); (isplitl [H3]; · iexact H3); (isplitl [H4]; · iexact H4); (isplitl [H5]; · iexact H5)
  isplitl [H6]
  · unfold owns; iexists _; isplitr
    swap; · iexact H6
    ipureintro; exact View.read_writes_of_cover _ _ _ _ _ (allPieces_cover7 (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t) (iblk m c 5 t))
  isplitl [H7]
  · unfold owns; iexists _; isplitr
    swap; · iexact H7
    ipureintro; exact View.read_writes_of_cover _ _ _ _ _ (allPieces_cover8 (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t) (iblk m c 5 t))
  unfold owns; iexists _; isplitr
  swap; · iexact H8
  ipureintro; exact View.read_writes_of_cover _ _ _ _ _ (allPieces_cover9 (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t) (iblk m c 5 t))

theorem defs₀_row (t : Fin cfg0.N) :
    defs₀ (F := F) .tc cfg0.body (cfg0.bodyArgs t (cfg0.slots t)) = bodyAt0 t := by
  unfold defs₀; rw [Defs.onTc_tc]

/-- The body's obligation at every head. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every execution ends, with each array of the call at what the heads leave, every other buffer as the call found it, and
    every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  θ_run_and (unchanged m ρ) ((θ_run defs _ _).mono (fun _ h => h.2) (run_main_quiescent m ρ))

end Grid

end Cert.AttnIdeal.Gen

end
-- ==== Proof.AttnReal.lean ====
/- The gradient of one head's causal attention over real numbers, as sums over rows and keys that can be cut after any
   number of terms. -/
module

public import Idealize.ShloMosaic.Lib.Pointwise

@[expose] public section

noncomputable section

namespace Cert.AttnReal

open Finset

/-- What one head's gradient is computed from: queries, keys, values and the output's cotangent, and each row's logarithm
    (to base two) of its sum of exponentials and its product of the cotangent with the output. -/
structure Head where
  Q : ℕ → ℕ → ℝ
  K : ℕ → ℕ → ℝ
  V : ℕ → ℕ → ℝ
  G : ℕ → ℕ → ℝ
  L : ℕ → ℝ
  D : ℕ → ℝ

/-- The scale of the scores, and the same for exponentials to base two. -/
def scale : ℝ := 3424635 / 33554432
def scale2 : ℝ := 3424635 / 33554432 * (Real.log 2)⁻¹

variable (H : Head)

/-- A score, a weight before the mask and after it, the weight's gradient and the score's. -/
def sc (i k : ℕ) : ℝ := ∑ l : Fin 128, H.Q i l * H.K k l
def pw (i k : ℕ) : ℝ := Real.rpow 2 (sc H i k * scale2 - H.L i)
def p (i k : ℕ) : ℝ := if k ≤ i then pw H i k else 0
def dp (i k : ℕ) : ℝ := ∑ l : Fin 128, H.G i l * H.V k l
def ds (i k : ℕ) : ℝ := p H i k * (dp H i k - H.D i) * scale

/-- The gradients by values and keys after the first `n` rows, and by queries after the first `n` keys. -/
def dv (n k l : ℕ) : ℝ := ∑ i ∈ range n, p H i k * H.G i l
def dk (n k l : ℕ) : ℝ := ∑ i ∈ range n, ds H i k * H.Q i l
def dq (n i l : ℕ) : ℝ := ∑ k ∈ range n, ds H i k * H.K k l

theorem p_of_lt {i k : ℕ} (h : i < k) : p H i k = 0 := if_neg (by omega)
theorem p_of_le {i k : ℕ} (h : k ≤ i) : p H i k = pw H i k := if_pos h
theorem ds_of_lt {i k : ℕ} (h : i < k) : ds H i k = 0 := by rw [ds, p_of_lt H h, zero_mul, zero_mul]

theorem dv_add (n m k l : ℕ) : dv H (n + m) k l = dv H n k l + ∑ a : Fin m, p H (n + a) k * H.G (n + a) l := by
  rw [dv, sum_range_add, ← dv, sum_range]
theorem dk_add (n m k l : ℕ) : dk H (n + m) k l = dk H n k l + ∑ a : Fin m, ds H (n + a) k * H.Q (n + a) l := by
  rw [dk, sum_range_add, ← dk, sum_range]
theorem dq_add (n m i l : ℕ) : dq H (n + m) i l = dq H n i l + ∑ b : Fin m, ds H i (n + b) * H.K (n + b) l := by
  rw [dq, sum_range_add, ← dq, sum_range]

/-- Rows above a key give nothing to its gradients. -/
theorem dv_add_of_lt {n m k l : ℕ} (h : n + m ≤ k) : dv H (n + m) k l = dv H n k l := by
  rw [dv_add, add_eq_left]
  exact sum_eq_zero fun a _ => by rw [p_of_lt H (by omega), zero_mul]
theorem dk_add_of_lt {n m k l : ℕ} (h : n + m ≤ k) : dk H (n + m) k l = dk H n k l := by
  rw [dk_add, add_eq_left]
  exact sum_eq_zero fun a _ => by rw [ds_of_lt H (by omega), zero_mul]
theorem dv_zero {n k l : ℕ} (h : n ≤ k) : dv H n k l = 0 :=
  sum_eq_zero fun i hi => by rw [p_of_lt H (by have := mem_range.mp hi; omega), zero_mul]
theorem dk_zero {n k l : ℕ} (h : n ≤ k) : dk H n k l = 0 :=
  sum_eq_zero fun i hi => by rw [ds_of_lt H (by have := mem_range.mp hi; omega), zero_mul]

/-- Keys beyond a row give nothing to its gradient. -/
theorem dq_add_of_lt {n m i l : ℕ} (h : i < n) : dq H (n + m) i l = dq H n i l := by
  rw [dq_add, add_eq_left]
  exact sum_eq_zero fun b _ => by rw [ds_of_lt H (by omega), zero_mul]

end Cert.AttnReal

end
-- ==== Proof.AttnPay.lean ====
/- The attention's gradient over real numbers: what the payloads of one block of rows against one block of keys compute,
   when the blocks that they read hold real numbers. -/
module

public import proofs.«01_k».proof.Proof.LnReal
public import proofs.«01_k».proof.Proof.AttnReal
public import proofs.«01_k».proof.Proof.Gen.AttnIdeal.Skeleton
public import Idealize.ShloMosaic.Lib.KernelVsHost

@[expose] public section

set_option maxRecDepth 16384

noncomputable section

namespace Cert.AttnIdeal.Pay

open Cert.AttnIdeal Cert.AttnIdeal.Gen Cert.LnReal Cert.AttnReal Idealize.ShloMosaic

/-- A block of real numbers, of two dimensions or of three with the first of one entry. -/
def Is {n m : ℕ} (v : (⟨2, ![n, m]⟩ : Shape).Idx → EReal) (g : ℕ → ℕ → ℝ) : Prop := ∀ a b, v (ix2 a b) = ((g a b : ℝ) : EReal)
def Is3 {n m : ℕ} (v : (⟨3, ![1, n, m]⟩ : Shape).Idx → EReal) (g : ℕ → ℕ → ℝ) : Prop := ∀ a b, v (ix3 0 a b) = ((g a b : ℝ) : EReal)

/-- The two constants, the mask, and the comparison that the mask comes from. -/
theorem nscale : Named.named (F := Ideal) (φ := .f32) κ "scale_log2" 0x3E16C740#32 = (scale2 : EReal) := by
  rw [IdealRules.named_const.ideal_named_scalar _ _ _ _ rfl]
  exact congrArg _ (by unfold scale2; norm_num)

theorem nmask : Named.named (F := Ideal) (φ := .f32) κ "mask" 0xF149F2CA#32 = (⊥ : EReal) := by
  rw [IdealRules.named_const.ideal_named_scalar _ _ _ _ rfl]

theorem cscale : Ideal.ofBits .f32 0x3DD105EC#32 = (scale : EReal) := by
  unfold scale; simp [Ideal.ofBits, Ideal.ieee, -EReal.coe_mul]; norm_num

theorem mask_at (c : ℕ) (a b : ℕ) (ha : c + a < 2048) (hb : b < 2048) :
    IntOp.cmpi .sge (IntOp.addi (BitVec.ofNat 32 a) (BitVec.ofNat 32 c)) (BitVec.ofNat 32 b) = if b ≤ c + a then 1#1 else 0#1 := by
  have e : IntOp.addi (BitVec.ofNat 32 a) (BitVec.ofNat 32 c) = BitVec.ofNat 32 (c + a) := by
    rw [Nat.add_comm]; exact (BitVec.ofNat_add a c).symm
  rw [e]
  have t : ∀ n : ℕ, n < 2048 → (BitVec.ofNat 32 n).toInt = n := fun n hn => by
    rw [BitVec.toInt_eq_toNat_of_lt (by rw [BitVec.toNat_ofNat]; omega), BitVec.toNat_ofNat, Nat.mod_eq_of_lt (by omega)]
  show BitVec.ofBool ((BitVec.ofNat 32 b).sle (BitVec.ofNat 32 (c + a))) = _
  rw [BitVec.sle_eq_decide, t _ hb, t _ ha]
  by_cases h : b ≤ c + a
  · rw [if_pos h, decide_eq_true (by exact_mod_cast h)]; rfl
  · rw [if_neg h, decide_eq_false (by exact_mod_cast h)]; rfl

theorem exp2_real (x : ℝ) : Ideal.exp2 (x : EReal) = ((Real.rpow 2 x : ℝ) : EReal) := Ideal.exp2_coe x

section Layout

variable {n m : ℕ} {g : ℕ → ℕ → ℝ}

/-- A column spread over a block, and a leading dimension of one entry dropped or added. -/
theorem spread {α : Type} (v : (⟨2, ![n, 1]⟩ : Shape).Idx → α) (h : (⟨2, ![n, 1]⟩ : Shape).Broadcasts ⟨2, ![n, m]⟩) (a : Fin n) (b : Fin m) :
    broadcastTo ⟨2, ![n, m]⟩ v h (ix2 a b) = v (ix2 a 0) := by
  rw [Pointwise.broadcastTo_apply]
  refine congrArg v (funext fun d => ?_)
  unfold Shape.Idx.norm
  match d with
  | ⟨0, _⟩ =>
    refine Fin.ext ?_
    by_cases h1 : n = 1
    · subst h1; have := a.isLt; simp
    · simp [h1]
  | ⟨1, _⟩ => exact Eq.trans (dif_pos rfl) rfl

theorem flat {α : Type} (v : (⟨3, ![1, n, m]⟩ : Shape).Idx → α) (h : (⟨3, ![1, n, m]⟩ : Shape).ShapeCasts ⟨2, ![n, m]⟩) (a : Fin n) (b : Fin m) :
    shapeCast ⟨2, ![n, m]⟩ v h (ix2 a b) = v (ix3 0 a b) :=
  shapeCast_apply v h _ _ (by
    rw [Shape.rowMajor_val_three, Shape.rowMajor_val_two]
    show ((0 : ℕ) * n + a.val) * m + b.val = a.val * m + b.val; rw [Nat.zero_mul, Nat.zero_add])

theorem unflat {α : Type} (v : (⟨2, ![n, m]⟩ : Shape).Idx → α) (h : (⟨2, ![n, m]⟩ : Shape).ShapeCasts ⟨3, ![1, n, m]⟩) (a : Fin n) (b : Fin m) :
    shapeCast ⟨3, ![1, n, m]⟩ v h (ix3 0 a b) = v (ix2 a b) :=
  shapeCast_apply v h _ _ (by
    rw [Shape.rowMajor_val_three, Shape.rowMajor_val_two]
    show a.val * m + b.val = ((0 : ℕ) * n + a.val) * m + b.val; rw [Nat.zero_mul, Nat.zero_add])

theorem Is3.flat {v : (⟨3, ![1, n, m]⟩ : Shape).Idx → EReal} (hv : Is3 v g) (h : (⟨3, ![1, n, m]⟩ : Shape).ShapeCasts ⟨2, ![n, m]⟩) :
    Is (shapeCast ⟨2, ![n, m]⟩ v h) g := fun a b => (Pay.flat v h a b).trans (hv a b)

theorem Is.unflat {v : (⟨2, ![n, m]⟩ : Shape).Idx → EReal} (hv : Is v g) (h : (⟨2, ![n, m]⟩ : Shape).ShapeCasts ⟨3, ![1, n, m]⟩) :
    Is3 (shapeCast ⟨3, ![1, n, m]⟩ v h) g := fun a b => (Pay.unflat v h a b).trans (hv a b)

theorem Is.self {v : (⟨2, ![n, m]⟩ : Shape).Idx → EReal} (hv : Is v g) (h : (⟨2, ![n, m]⟩ : Shape).ShapeCasts ⟨2, ![n, m]⟩) :
    Is (shapeCast ⟨2, ![n, m]⟩ v h) g := by rw [shapeCast_self]; exact hv

theorem Is.slice {N : ℕ} {v : (⟨2, ![N, m]⟩ : Shape).Idx → EReal} (hv : Is v g) (h : (⟨2, ![N, m]⟩ : Shape).Slices ![0, 0] ⟨2, ![n, m]⟩) :
    Is (extractStridedSlice ⟨2, ![n, m]⟩ ![0, 0] v h) g := by
  intro a b
  have ha : a.val < N := lt_of_lt_of_le a.isLt (by have := h.2 0; simpa using this)
  refine Eq.trans (extractStridedSlice_apply ![0, 0] _ _ (ix2 a b) (ix2 ⟨a.val, ha⟩ b) fun d => ?_) (hv ⟨a.val, ha⟩ b)
  match d with
  | ⟨0, _⟩ => exact (Nat.zero_add _).symm
  | ⟨1, _⟩ => exact (Nat.zero_add _).symm

/-- Two blocks added, entry by entry. -/
theorem Is.add {v w : FVec Ideal ⟨2, ![n, m]⟩ .f32} {f : ℕ → ℕ → ℝ} (hv : Is v f) (hw : Is w g) : Is (addf v w) fun a b => f a b + g a b :=
  fun a b => (congrArg₂ (· + ·) (hv a b) (hw a b)).trans (EReal.coe_add _ _).symm

theorem Is.congr {v : (⟨2, ![n, m]⟩ : Shape).Idx → EReal} {f : ℕ → ℕ → ℝ} (hv : Is v f) (h : ∀ (a : Fin n) (b : Fin m), f a b = g a b) : Is v g :=
  fun a b => (hv a b).trans (congrArg _ (h a b))

theorem Is3.congr3 {v : (⟨3, ![1, n, m]⟩ : Shape).Idx → EReal} {f : ℕ → ℕ → ℝ} (hv : Is3 v f) (h : ∀ (a : Fin n) (b : Fin m), f a b = g a b) : Is3 v g :=
  fun a b => (hv a b).trans (congrArg _ (h a b))

end Layout

section Weights

variable {n m : ℕ} (H : Head) (r k0 : ℕ)

/-- The scores scaled for exponentials to base two. -/
theorem scaled {s : FVec Ideal ⟨2, ![n, m]⟩ .f32} (hs : Is s fun a b => sc H (r + a) (k0 + b)) :
    Is (mulf s (broadcast ⟨2, ![n, m]⟩ (Named.named (F := Ideal) (φ := .f32) κ "scale_log2" 0x3E16C740#32))) fun a b => sc H (r + a) (k0 + b) * scale2 :=
  fun a b => (congrArg₂ (· * ·) (hs a b) nscale).trans (EReal.coe_mul _ _).symm

/-- The weights of rows that see every key of the block. -/
theorem weights {s : FVec Ideal ⟨2, ![n, m]⟩ .f32} {lse : Vec Ideal ⟨3, ![1, n, 1]⟩ .f32} (h3 h4) (hs : Is s fun a b => sc H (r + a) (k0 + b) * scale2) (hl : Is3 lse fun a _ => H.L (r + a)) :
    Is (exp2 (subf s (broadcastTo ⟨2, ![n, m]⟩ (shapeCast ⟨2, ![n, 1]⟩ lse h3) h4))) fun a b => pw H (r + a) (k0 + b) := by
  intro a b
  show Ideal.exp2 (s (ix2 a b) - broadcastTo ⟨2, ![n, m]⟩ (shapeCast ⟨2, ![n, 1]⟩ lse h3) h4 (ix2 a b)) = _
  rw [hs a b, spread, flat, hl a 0, ← EReal.coe_sub, exp2_real]
  rfl

/-- The weights of rows in the block of keys itself, those beyond a row masked. -/
theorem masked (c : ℕ) (hn : c + n ≤ 2048) (hm : m ≤ 2048) {s : FVec Ideal ⟨2, ![n, m]⟩ .f32} {lse : Vec Ideal ⟨3, ![1, n, 1]⟩ .f32} (h1 h2 h3 h4)
    (hs : Is s fun a b => sc H (k0 + c + a) (k0 + b) * scale2) (hl : Is3 lse fun a _ => H.L (k0 + c + a)) :
    Is (exp2 (subf (select (cmpi .sge (addi (iota .tc ⟨2, ![n, m]⟩ 32 [0] h1) (broadcast ⟨2, ![n, m]⟩ (BitVec.ofNat 32 c))) (iota .tc ⟨2, ![n, m]⟩ 32 [1] h2)) s
      (broadcast ⟨2, ![n, m]⟩ (Named.named (F := Ideal) (φ := .f32) κ "mask" 0xF149F2CA#32))) (broadcastTo ⟨2, ![n, m]⟩ (shapeCast ⟨2, ![n, 1]⟩ lse h3) h4)))
      fun a b => p H (k0 + c + a) (k0 + b) := by
  intro a b
  have hc := mask_at c a.val b.val (by have := a.isLt; omega) (by have := b.isLt; omega)
  show Ideal.exp2 (Scalar.select (IntOp.cmpi .sge (IntOp.addi (iota .tc ⟨2, ![n, m]⟩ 32 [0] h1 (ix2 a b)) (BitVec.ofNat 32 c)) (iota .tc ⟨2, ![n, m]⟩ 32 [1] h2 (ix2 a b))) (s (ix2 a b)) (Named.named (F := Ideal) (φ := .f32) κ "mask" 0xF149F2CA#32)
    - broadcastTo ⟨2, ![n, m]⟩ (shapeCast ⟨2, ![n, 1]⟩ lse h3) h4 (ix2 a b)) = _
  have i1 : iota .tc ⟨2, ![n, m]⟩ 32 [0] h1 (ix2 a b) = BitVec.ofNat 32 a.val := by pointwise []
  have i2 : iota .tc ⟨2, ![n, m]⟩ 32 [1] h2 (ix2 a b) = BitVec.ofNat 32 b.val := by pointwise []
  rw [i1, i2]
  rw [hc, hs a b, spread, flat, hl a 0, nmask]
  by_cases h : b.val ≤ c + a.val
  · rw [if_pos h]
    show Ideal.exp2 (((sc H (k0 + c + a) (k0 + b) * scale2 : ℝ) : EReal) - ((H.L (k0 + c + a) : ℝ) : EReal)) = _
    rw [← EReal.coe_sub, exp2_real]
    exact congrArg _ (p_of_le H (i := k0 + c + a.val) (k := k0 + b.val) (by omega)).symm
  · rw [if_neg h]
    show Ideal.exp2 ((⊥ : EReal) - ((H.L (k0 + c + a) : ℝ) : EReal)) = _
    rw [EReal.bot_sub, Ideal.exp2_bot]
    exact (congrArg (fun x : ℝ => (x : EReal)) (p_of_lt H (i := k0 + c + a.val) (k := k0 + b.val) (by omega))).symm

/-- The scores' gradients. -/
theorem scoreGrad {w x : FVec Ideal ⟨2, ![n, m]⟩ .f32} {dl : Vec Ideal ⟨2, ![n, 1]⟩ .f32} (h4) (hb)
    (hw : Is w fun a b => p H (r + a) (k0 + b)) (hx : Is x fun a b => dp H (r + a) (k0 + b)) (hd : Is dl fun a _ => H.D (r + a)) :
    Is (truncf .bf16 (mulf (mulf w (subf x (broadcastTo ⟨2, ![n, m]⟩ dl h4))) (broadcast ⟨2, ![n, m]⟩ (Scalar.ofBits (F := Ideal) .f32 0x3DD105EC#32))) hb)
      fun a b => ds H (r + a) (k0 + b) := by
  intro a b
  show (w (ix2 a b) * (x (ix2 a b) - broadcastTo ⟨2, ![n, m]⟩ dl h4 (ix2 a b))) * Ideal.ofBits .f32 0x3DD105EC#32 = _
  rw [hw a b, hx a b, spread, hd a 0, cscale, ← EReal.coe_sub, ← EReal.coe_mul, ← EReal.coe_mul]
  rfl

end Weights

section Products

variable {f g : ℕ → ℕ → ℝ}

theorem rowsKeys_256_256 {x : FVec Ideal S256x128 .bf16} {y : FVec Ideal S256x128 .bf16} (hx : Is x f) (hy : Is y g) :
    Is (matmul (F := Ideal) dot_S256x128_S256x128_S256x256_1_1_0_0_n_n none x y (constant S256x256 .f32 0x00000000#32)) fun a b => ∑ l : Fin 128, f a l * g b l := by
  intro a b
  pointwise []
  simp only [hx _ _, hy _ _, ← EReal.coe_mul, coe_sum, zero_add]

theorem overRows_256_256 {x : FVec Ideal S256x256 .bf16} {y : FVec Ideal S256x128 .bf16} (hx : Is x f) (hy : Is y g) :
    Is (matmul (F := Ideal) dot_S256x256_S256x128_S256x128_0_0_1_1_n_n none x y (constant S256x128 .f32 0x00000000#32)) fun a b => ∑ l : Fin 256, f l a * g l b := by
  intro a b
  pointwise []
  simp only [hx _ _, hy _ _, ← EReal.coe_mul, coe_sum, zero_add]

theorem overKeys_256_256 {x : FVec Ideal S256x256 .bf16} {y : FVec Ideal S256x128 .bf16} (hx : Is x f) (hy : Is y g) :
    Is (matmul (F := Ideal) dot_S256x256_S256x128_S256x128_1_0_0_1_n_n none x y (constant S256x128 .f32 0x00000000#32)) fun a b => ∑ l : Fin 256, f a l * g l b := by
  intro a b
  pointwise []
  simp only [hx _ _, hy _ _, ← EReal.coe_mul, coe_sum, zero_add]

theorem rowsKeys_256_512 {x : FVec Ideal S256x128 .bf16} {y : FVec Ideal S512x128 .bf16} (hx : Is x f) (hy : Is y g) :
    Is (matmul (F := Ideal) dot_S256x128_S512x128_S256x512_1_1_0_0_n_n none x y (constant S256x512 .f32 0x00000000#32)) fun a b => ∑ l : Fin 128, f a l * g b l := by
  intro a b
  pointwise []
  simp only [hx _ _, hy _ _, ← EReal.coe_mul, coe_sum, zero_add]

theorem overRows_256_512 {x : FVec Ideal S256x512 .bf16} {y : FVec Ideal S256x128 .bf16} (hx : Is x f) (hy : Is y g) :
    Is (matmul (F := Ideal) dot_S256x512_S256x128_S512x128_0_0_1_1_n_n none x y (constant S512x128 .f32 0x00000000#32)) fun a b => ∑ l : Fin 256, f l a * g l b := by
  intro a b
  pointwise []
  simp only [hx _ _, hy _ _, ← EReal.coe_mul, coe_sum, zero_add]

theorem overKeys_256_512 {x : FVec Ideal S256x512 .bf16} {y : FVec Ideal S512x128 .bf16} (hx : Is x f) (hy : Is y g) :
    Is (matmul (F := Ideal) dot_S256x512_S512x128_S256x128_1_0_0_1_n_n none x y (constant S256x128 .f32 0x00000000#32)) fun a b => ∑ l : Fin 512, f a l * g l b := by
  intro a b
  pointwise []
  simp only [hx _ _, hy _ _, ← EReal.coe_mul, coe_sum, zero_add]

theorem rowsKeys_256_768 {x : FVec Ideal S256x128 .bf16} {y : FVec Ideal S768x128 .bf16} (hx : Is x f) (hy : Is y g) :
    Is (matmul (F := Ideal) dot_S256x128_S768x128_S256x768_1_1_0_0_n_n none x y (constant S256x768 .f32 0x00000000#32)) fun a b => ∑ l : Fin 128, f a l * g b l := by
  intro a b
  pointwise []
  simp only [hx _ _, hy _ _, ← EReal.coe_mul, coe_sum, zero_add]

theorem overRows_256_768 {x : FVec Ideal S256x768 .bf16} {y : FVec Ideal S256x128 .bf16} (hx : Is x f) (hy : Is y g) :
    Is (matmul (F := Ideal) dot_S256x768_S256x128_S768x128_0_0_1_1_n_n none x y (constant S768x128 .f32 0x00000000#32)) fun a b => ∑ l : Fin 256, f l a * g l b := by
  intro a b
  pointwise []
  simp only [hx _ _, hy _ _, ← EReal.coe_mul, coe_sum, zero_add]

theorem overKeys_256_768 {x : FVec Ideal S256x768 .bf16} {y : FVec Ideal S768x128 .bf16} (hx : Is x f) (hy : Is y g) :
    Is (matmul (F := Ideal) dot_S256x768_S768x128_S256x128_1_0_0_1_n_n none x y (constant S256x128 .f32 0x00000000#32)) fun a b => ∑ l : Fin 768, f a l * g l b := by
  intro a b
  pointwise []
  simp only [hx _ _, hy _ _, ← EReal.coe_mul, coe_sum, zero_add]

theorem rowsKeys_256_1024 {x : FVec Ideal S256x128 .bf16} {y : FVec Ideal S1024x128 .bf16} (hx : Is x f) (hy : Is y g) :
    Is (matmul (F := Ideal) dot_S256x128_S1024x128_S256x1024_1_1_0_0_n_n none x y (constant S256x1024 .f32 0x00000000#32)) fun a b => ∑ l : Fin 128, f a l * g b l := by
  intro a b
  pointwise []
  simp only [hx _ _, hy _ _, ← EReal.coe_mul, coe_sum, zero_add]

theorem overRows_256_1024 {x : FVec Ideal S256x1024 .bf16} {y : FVec Ideal S256x128 .bf16} (hx : Is x f) (hy : Is y g) :
    Is (matmul (F := Ideal) dot_S256x1024_S256x128_S1024x128_0_0_1_1_n_n none x y (constant S1024x128 .f32 0x00000000#32)) fun a b => ∑ l : Fin 256, f l a * g l b := by
  intro a b
  pointwise []
  simp only [hx _ _, hy _ _, ← EReal.coe_mul, coe_sum, zero_add]

theorem overKeys_256_1024 {x : FVec Ideal S256x1024 .bf16} {y : FVec Ideal S1024x128 .bf16} (hx : Is x f) (hy : Is y g) :
    Is (matmul (F := Ideal) dot_S256x1024_S1024x128_S256x128_1_0_0_1_n_n none x y (constant S256x128 .f32 0x00000000#32)) fun a b => ∑ l : Fin 1024, f a l * g l b := by
  intro a b
  pointwise []
  simp only [hx _ _, hy _ _, ← EReal.coe_mul, coe_sum, zero_add]

theorem rowsKeys_512_1024 {x : FVec Ideal S512x128 .bf16} {y : FVec Ideal S1024x128 .bf16} (hx : Is x f) (hy : Is y g) :
    Is (matmul (F := Ideal) dot_S512x128_S1024x128_S512x1024_1_1_0_0_n_n none x y (constant S512x1024 .f32 0x00000000#32)) fun a b => ∑ l : Fin 128, f a l * g b l := by
  intro a b
  pointwise []
  simp only [hx _ _, hy _ _, ← EReal.coe_mul, coe_sum, zero_add]

theorem overRows_512_1024 {x : FVec Ideal S512x1024 .bf16} {y : FVec Ideal S512x128 .bf16} (hx : Is x f) (hy : Is y g) :
    Is (matmul (F := Ideal) dot_S512x1024_S512x128_S1024x128_0_0_1_1_n_n none x y (constant S1024x128 .f32 0x00000000#32)) fun a b => ∑ l : Fin 512, f l a * g l b := by
  intro a b
  pointwise []
  simp only [hx _ _, hy _ _, ← EReal.coe_mul, coe_sum, zero_add]

theorem overKeys_512_1024 {x : FVec Ideal S512x1024 .bf16} {y : FVec Ideal S1024x128 .bf16} (hx : Is x f) (hy : Is y g) :
    Is (matmul (F := Ideal) dot_S512x1024_S1024x128_S512x128_1_0_0_1_n_n none x y (constant S512x128 .f32 0x00000000#32)) fun a b => ∑ l : Fin 1024, f a l * g l b := by
  intro a b
  pointwise []
  simp only [hx _ _, hy _ _, ← EReal.coe_mul, coe_sum, zero_add]

end Products

end Cert.AttnIdeal.Pay

end
-- ==== Proof.AttnReads.lean ====
/- Loads and stores of whole rows, over real numbers: a load of rows reads the rows' numbers, a store of rows leaves its
   payload on those rows and the rest as it was. -/
module

public import proofs.«01_k».proof.Proof.AttnPay
public import Idealize.ShloMosaic.Lib.WritesUnit
public import Idealize.ShloMosaic.Lib.VecWindow

@[expose] public section

set_option maxRecDepth 16384

noncomputable section

namespace Cert.AttnIdeal.Pay

open Idealize.ShloMosaic

variable {sig : RefSig} {κ' : Kind} {sp : Space} {N M n m : ℕ} {g g' : ℕ → ℕ → ℝ} {r : ℕ}

theorem load3_at {e : EltTy} (v : View sig κ' sp ⟨3, ![1, N, M]⟩ e) (f : v.ty.Contents (Elt Ideal)) {off : Fin 3 → ℕ}
    (inb : ∀ a, off a + (![1, n, m] : Fin 3 → ℕ) a ≤ (⟨3, ![1, N, M]⟩ : Shape).size a) (ho : off = ![0, r, 0]) {G : ℕ → ℕ → Elt Ideal e}
    (h : ∀ (a : Fin N) (b : Fin M), v.read (Elt Ideal) f (ix3 0 a b) = G a b) (a : Fin n) (b : Fin m) :
    v.readAt (Elt Ideal) (Rect.unit (s := ⟨3, ![1, N, M]⟩) off ![1, n, m] inb).toLoadRect f (ix3 0 a b) = G (r + a) b := by
  subst ho
  have h1 : r + n ≤ N := inb 1
  have h2 : 0 + m ≤ M := inb 2
  refine Eq.trans (congrArg (v.read (Elt Ideal) f) (funext fun d => Fin.ext ?_)) (h ⟨r + a.val, by omega⟩ ⟨b.val, by omega⟩)
  match d with
  | ⟨0, _⟩ => rfl
  | ⟨1, _⟩ => show r + 1 * a.val = r + a.val; omega
  | ⟨2, _⟩ => show 0 + 1 * b.val = b.val; omega

theorem load2_at {e : EltTy} (v : View sig κ' sp ⟨2, ![N, M]⟩ e) (f : v.ty.Contents (Elt Ideal)) {off : Fin 2 → ℕ}
    (inb : ∀ a, off a + (![n, m] : Fin 2 → ℕ) a ≤ (⟨2, ![N, M]⟩ : Shape).size a) (ho : off = ![r, 0]) {G : ℕ → ℕ → Elt Ideal e}
    (h : ∀ (a : Fin N) (b : Fin M), v.read (Elt Ideal) f (ix2 a b) = G a b) (a : Fin n) (b : Fin m) :
    v.readAt (Elt Ideal) (Rect.unit (s := ⟨2, ![N, M]⟩) off ![n, m] inb).toLoadRect f (ix2 a b) = G (r + a) b := by
  subst ho
  have h1 : r + n ≤ N := inb 0
  have h2 : 0 + m ≤ M := inb 1
  refine Eq.trans (congrArg (v.read (Elt Ideal) f) (funext fun d => Fin.ext ?_)) (h ⟨r + a.val, by omega⟩ ⟨b.val, by omega⟩)
  match d with
  | ⟨0, _⟩ => show r + 1 * a.val = r + a.val; omega
  | ⟨1, _⟩ => show 0 + 1 * b.val = b.val; omega

theorem load3 (v : View sig κ' sp ⟨3, ![1, N, M]⟩ .f32) (f : v.ty.Contents (Elt Ideal)) {off : Fin 3 → ℕ}
    (inb : ∀ a, off a + (![1, n, m] : Fin 3 → ℕ) a ≤ (⟨3, ![1, N, M]⟩ : Shape).size a) (ho : off = ![0, r, 0]) (h : Is3 (v.read (Elt Ideal) f) g) :
    Is3 (v.readAt (Elt Ideal) (Rect.unit (s := ⟨3, ![1, N, M]⟩) off ![1, n, m] inb).toLoadRect f) fun a b => g (r + a) b :=
  fun a b => load3_at (e := .f32) v f inb ho (G := fun a b => ((g a b : ℝ) : EReal)) h a b

theorem load3h (v : View sig κ' sp ⟨3, ![1, N, M]⟩ .bf16) (f : v.ty.Contents (Elt Ideal)) {off : Fin 3 → ℕ}
    (inb : ∀ a, off a + (![1, n, m] : Fin 3 → ℕ) a ≤ (⟨3, ![1, N, M]⟩ : Shape).size a) (ho : off = ![0, r, 0]) (h : Is3 (v.read (Elt Ideal) f) g) :
    Is3 (v.readAt (Elt Ideal) (Rect.unit (s := ⟨3, ![1, N, M]⟩) off ![1, n, m] inb).toLoadRect f) fun a b => g (r + a) b :=
  fun a b => load3_at (e := .bf16) v f inb ho (G := fun a b => ((g a b : ℝ) : EReal)) h a b

theorem load2 (v : View sig κ' sp ⟨2, ![N, M]⟩ .f32) (f : v.ty.Contents (Elt Ideal)) {off : Fin 2 → ℕ}
    (inb : ∀ a, off a + (![n, m] : Fin 2 → ℕ) a ≤ (⟨2, ![N, M]⟩ : Shape).size a) (ho : off = ![r, 0]) (h : Is (v.read (Elt Ideal) f) g) :
    Is (v.readAt (Elt Ideal) (Rect.unit (s := ⟨2, ![N, M]⟩) off ![n, m] inb).toLoadRect f) fun a b => g (r + a) b :=
  fun a b => load2_at (e := .f32) v f inb ho (G := fun a b => ((g a b : ℝ) : EReal)) h a b

theorem store3 (v : View sig κ' sp ⟨3, ![1, N, M]⟩ .f32) (f : v.ty.Contents (Elt Ideal)) (L : List (View.Piece (Elt Ideal) ⟨3, ![1, N, M]⟩ .f32)) {off : Fin 3 → ℕ}
    (inb : ∀ a, off a + (![1, n, M] : Fin 3 → ℕ) a ≤ (⟨3, ![1, N, M]⟩ : Shape).size a) (w : (⟨3, ![1, n, M]⟩ : Shape).Idx → EReal) (ho : off = ![0, r, 0])
    (h : Is3 (v.read (Elt Ideal) (v.writes (Elt Ideal) f L)) g) (hw : Is3 w fun a b => g' (r + a) b) (hg : ∀ i, (i < r ∨ r + n ≤ i) → ∀ b, g' i b = g i b) :
    Is3 (v.read (Elt Ideal) (v.writes (Elt Ideal) f (⟨Rect.unit (s := ⟨3, ![1, N, M]⟩) off ![1, n, M] inb, w⟩ :: L))) g' := by
  intro a b
  by_cases ha : r ≤ a.val ∧ a.val < r + n
  · refine Eq.trans (View.read_writes_cons_unit_of_mem v f inb w L (ix3 0 a b) (ix3 0 ⟨a.val - r, by omega⟩ b) ho fun d => ?_) ((hw ⟨a.val - r, by omega⟩ b).trans ?_)
    · match d with
      | ⟨0, _⟩ => rfl
      | ⟨1, _⟩ => show a.val = r + (a.val - r); omega
      | ⟨2, _⟩ => exact (Nat.zero_add _).symm
    · show ((g' (r + (a.val - r)) b : ℝ) : EReal) = _
      rw [Nat.add_sub_cancel' ha.1]
  · refine Eq.trans (View.read_writes_cons_unit_of_not_mem v f inb w L (ix3 0 a b) ho (1 : Fin 3) ?_) ((h a b).trans (congrArg _ (hg a.val (by omega) b.val).symm))
    show a.val < r ∨ r + n ≤ a.val
    omega

theorem store2 (v : View sig κ' sp ⟨2, ![N, M]⟩ .f32) (f : v.ty.Contents (Elt Ideal)) (L : List (View.Piece (Elt Ideal) ⟨2, ![N, M]⟩ .f32)) {off : Fin 2 → ℕ}
    (inb : ∀ a, off a + (![n, M] : Fin 2 → ℕ) a ≤ (⟨2, ![N, M]⟩ : Shape).size a) (w : (⟨2, ![n, M]⟩ : Shape).Idx → EReal) (ho : off = ![r, 0])
    (h : Is (v.read (Elt Ideal) (v.writes (Elt Ideal) f L)) g) (hw : Is w fun a b => g' (r + a) b) (hg : ∀ i, i < N → (i < r ∨ r + n ≤ i) → ∀ b, g' i b = g i b) :
    Is (v.read (Elt Ideal) (v.writes (Elt Ideal) f (⟨Rect.unit (s := ⟨2, ![N, M]⟩) off ![n, M] inb, w⟩ :: L))) g' := by
  intro a b
  by_cases ha : r ≤ a.val ∧ a.val < r + n
  · refine Eq.trans (View.read_writes_cons_unit_of_mem v f inb w L (ix2 a b) (ix2 ⟨a.val - r, by omega⟩ b) ho fun d => ?_) ((hw ⟨a.val - r, by omega⟩ b).trans ?_)
    · match d with
      | ⟨0, _⟩ => show a.val = r + (a.val - r); omega
      | ⟨1, _⟩ => exact (Nat.zero_add _).symm
    · show ((g' (r + (a.val - r)) b : ℝ) : EReal) = _
      rw [Nat.add_sub_cancel' ha.1]
  · refine Eq.trans (View.read_writes_cons_unit_of_not_mem v f inb w L (ix2 a b) ho (0 : Fin 2) ?_) ((h a b).trans (congrArg _ (hg a.val a.isLt (by omega) b.val).symm))
    show a.val < r ∨ r + n ≤ a.val
    omega

/-- A store of every row needs nothing of what was there. -/
theorem fill3 (v : View sig κ' sp ⟨3, ![1, N, M]⟩ .f32) (f : v.ty.Contents (Elt Ideal)) (L : List (View.Piece (Elt Ideal) ⟨3, ![1, N, M]⟩ .f32)) {off : Fin 3 → ℕ}
    (inb : ∀ a, off a + (![1, N, M] : Fin 3 → ℕ) a ≤ (⟨3, ![1, N, M]⟩ : Shape).size a) (w : (⟨3, ![1, N, M]⟩ : Shape).Idx → EReal) (ho : off = ![0, 0, 0]) (hw : Is3 w g) :
    Is3 (v.read (Elt Ideal) (v.writes (Elt Ideal) f (⟨Rect.unit (s := ⟨3, ![1, N, M]⟩) off ![1, N, M] inb, w⟩ :: L))) g := fun a b =>
  Eq.trans (View.read_writes_cons_unit_of_mem v f inb w L (ix3 0 a b) (ix3 0 a b) ho fun d => by
    match d with
    | ⟨0, _⟩ => rfl
    | ⟨1, _⟩ => exact (Nat.zero_add _).symm
    | ⟨2, _⟩ => exact (Nat.zero_add _).symm) (hw a b)

theorem fill2 (v : View sig κ' sp ⟨2, ![N, M]⟩ .f32) (f : v.ty.Contents (Elt Ideal)) (L : List (View.Piece (Elt Ideal) ⟨2, ![N, M]⟩ .f32)) {off : Fin 2 → ℕ}
    (inb : ∀ a, off a + (![N, M] : Fin 2 → ℕ) a ≤ (⟨2, ![N, M]⟩ : Shape).size a) (w : (⟨2, ![N, M]⟩ : Shape).Idx → EReal) (ho : off = ![0, 0]) (hw : Is w g) :
    Is (v.read (Elt Ideal) (v.writes (Elt Ideal) f (⟨Rect.unit (s := ⟨2, ![N, M]⟩) off ![N, M] inb, w⟩ :: L))) g := fun a b =>
  Eq.trans (View.read_writes_cons_unit_of_mem v f inb w L (ix2 a b) (ix2 a b) ho fun d => by
    match d with
    | ⟨0, _⟩ => exact (Nat.zero_add _).symm
    | ⟨1, _⟩ => exact (Nat.zero_add _).symm) (hw a b)

end Cert.AttnIdeal.Pay

end
-- ==== Proof.AttnTrip3.lean ====
/- One trip of the inner loop over real numbers: 1024 rows below a block of keys, in two halves, add to the keys' and
   values' gradients and take the block's part of their own. -/
module

public import proofs.«01_k».proof.Proof.AttnReads
public import proofs.«01_k».proof.Proof.AttnIdealFrame

@[expose] public section

set_option maxRecDepth 16384

noncomputable section

namespace Cert.AttnIdeal.Gen

open Idealize.ShloMosaic Cert.AttnReal Cert.AttnIdeal.Pay

/-- Where the loads and stores of the two loops lie. -/
theorem off3_eq : ∀ k : Fin k0_t2_loop.trips, k0_off3 k = ![0, 1024 * k.val, 0] := by decide +kernel
theorem off4_eq : ∀ k : Fin k0_t2_loop.trips, ∀ h : Fin 4, k0_off4 k (BitVec.ofNat 32 (256 * h.val)) = ![0, 1024 * k.val + 256 * h.val, 0] := by decide +kernel
theorem off5_eq : ∀ k : Fin k0_t2_loop.trips, ∀ h : Fin 4, k0_off5 k (BitVec.ofNat 32 (256 * h.val)) = ![0, 1024 * k.val + 256 * h.val, 0] := by decide +kernel
theorem off6_eq : ∀ k : Fin k0_t2_loop.trips, ∀ h : Fin 4, k0_off6 k (BitVec.ofNat 32 (256 * h.val)) = ![1024 * k.val + 256 * h.val, 0] := by decide +kernel
theorem off7_eq : ∀ k : Fin k0_t2_loop.trips, ∀ t : Fin (k0_t3_loop k).trips, ∀ h : Fin 2, k0_off7 k t (BitVec.ofNat 32 (512 * h.val)) = ![0, 1024 * (k.val + 1 + t.val) + 512 * h.val, 0] := by decide +kernel
theorem off8_eq : ∀ k : Fin k0_t2_loop.trips, ∀ t : Fin (k0_t3_loop k).trips, ∀ h : Fin 2, k0_off8 k t (BitVec.ofNat 32 (512 * h.val)) = ![0, 1024 * (k.val + 1 + t.val) + 512 * h.val, 0] := by decide +kernel
theorem off9_eq : ∀ k : Fin k0_t2_loop.trips, ∀ t : Fin (k0_t3_loop k).trips, ∀ h : Fin 2, k0_off9 k t (BitVec.ofNat 32 (512 * h.val)) = ![1024 * (k.val + 1 + t.val) + 512 * h.val, 0] := by decide +kernel
theorem trips2 : Scf.trips k0_t2_loop.lb k0_t2_loop.ub k0_t2_loop.st = 4 := by decide +kernel
theorem trips3 : ∀ k : Fin k0_t2_loop.trips, k.val + 1 + Scf.trips (k0_t3_loop k).lb (k0_t3_loop k).ub (k0_t3_loop k).st = 4 := by decide +kernel
theorem trips4 : ∀ k : Fin k0_t2_loop.trips, Scf.trips (k0_t4_loop k).lb (k0_t4_loop k).ub (k0_t4_loop k).st = 0 := by decide +kernel

variable (c : Dev nD) (i : grid0.Coords) (arg1 : Memref sig .tc .vmem S1x4096x128 .bf16) (harg1 : arg1.IsWhole) (arg2 : Memref sig .tc .vmem S1x4096x128 .bf16) (harg2 : arg2.IsWhole) (arg3 : Memref sig .tc .vmem S1x4096x128 .bf16) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x4096x128 .f32) (harg9 : arg9.IsWhole) (arg10 : Memref sig .tc .vmem S4096x1 .f32) (harg10 : arg10.IsWhole) (arg11 : Memref sig .tc .vmem S1024x128 .f32) (harg11 : arg11.IsWhole) (arg12 : Memref sig .tc .vmem S1024x128 .f32) (harg12 : arg12.IsWhole)
variable {H : Head} {X1 : BufTy.Contents (Elt Ideal) arg1.view.ty} {X5 : BufTy.Contents (Elt Ideal) arg5.view.ty} {X6 : BufTy.Contents (Elt Ideal) arg6.view.ty} {X10 : BufTy.Contents (Elt Ideal) arg10.view.ty}

/-- What the rows' buffers hold. -/
structure RowsAre (H : Head) (X1 : BufTy.Contents (Elt Ideal) arg1.view.ty) (X5 : BufTy.Contents (Elt Ideal) arg5.view.ty) (X6 : BufTy.Contents (Elt Ideal) arg6.view.ty) (X10 : BufTy.Contents (Elt Ideal) arg10.view.ty) : Prop where
  q : Is3 (arg1.view.read (Elt Ideal) X1) H.Q
  lse : Is3 (arg5.view.read (Elt Ideal) X5) fun i _ => H.L i
  g : Is3 (arg6.view.read (Elt Ideal) X6) H.G
  dl : Is (arg10.view.read (Elt Ideal) X10) fun i _ => H.D i

variable (R : RowsAre arg1 arg5 arg6 arg10 H X1 X5 X6 X10) (k : Fin k0_t2_loop.trips) (t : Fin (k0_t3_loop k).trips)
variable {kb vb : FVec Ideal S1024x128 .bf16} (hk : Is kb fun b l => H.K (1024 * k.val + b) l) (hv : Is vb fun b l => H.V (1024 * k.val + b) l)

/-- The first row of a trip. -/
abbrev row (k t : ℕ) : ℕ := 1024 * (k + 1 + t)

theorem far {k t a b h : ℕ} (hb : b < 1024) : p H (row k t + h + a) (1024 * k + b) = pw H (row k t + h + a) (1024 * k + b) :=
  p_of_le H (by unfold row; omega)

section Halves

include R hk in
theorem w_first : Is (trip_k0_t3.sl.r_7 (F := Ideal) arg1 arg5 k kb X1 X5 t) fun a b => p H (row k t + 0 + a) (1024 * k + b) :=
  (weights H _ _ _ _ (scaled H _ _ (rowsKeys_512_1024 (Is3.flat (load3h arg1.view X1 _ (off7_eq k t 0) R.q) _) hk)) (load3 arg5.view X5 _ (off8_eq k t 0) R.lse)).congr
    fun a b => (far b.isLt).symm

include R hk in
theorem w_second : Is (trip_k0_t3.sl.v344 (F := Ideal) arg1 arg5 k kb X1 X5 t) fun a b => p H (row k t + 512 + a) (1024 * k + b) :=
  (weights H _ _ _ _ (scaled H _ _ (rowsKeys_512_1024 (Is3.flat (load3h arg1.view X1 _ (off7_eq k t 1) R.q) _) hk)) (load3 arg5.view X5 _ (off8_eq k t 1) R.lse)).congr
    fun a b => (far b.isLt).symm

include R hv in
theorem x_first : Is (trip_k0_t3.sl.r_5 (F := Ideal) arg6 k vb X6 t) fun a b => dp H (row k t + 0 + a) (1024 * k + b) :=
  rowsKeys_512_1024 (Is3.flat (load3 arg6.view X6 _ (off7_eq k t 0) R.g) _) hv

include R hv in
theorem x_second : Is (trip_k0_t3.sl.r_6 (F := Ideal) arg6 k vb X6 t) fun a b => dp H (row k t + 512 + a) (1024 * k + b) :=
  rowsKeys_512_1024 (Is3.flat (load3 arg6.view X6 _ (off7_eq k t 1) R.g) _) hv

include R hk hv in
theorem s_first : Is (trip_k0_t3.sl.v323 (F := Ideal) arg1 arg5 arg6 arg10 k kb vb X1 X5 X6 X10 t) fun a b => ds H (row k t + 0 + a) (1024 * k + b) :=
  scoreGrad H _ _ _ _ (w_first arg1 arg5 arg6 arg10 R k t hk) (x_first arg1 arg5 arg6 arg10 R k t hv) (load2 arg10.view X10 _ (off9_eq k t 0) R.dl)

variable {dl : Vec Ideal S512x1 .f32} (hd : Is dl fun a _ => H.D (row k t + 512 + a))

include R hd hk hv in
theorem s_second : Is (k0_pay78 (F := Ideal) (trip_k0_t3.sl.r_6 arg6 k vb X6 t) (trip_k0_t3.sl.v344 arg1 arg5 k kb X1 X5 t)
    dl) fun a b => ds H (row k t + 512 + a) (1024 * k + b) :=
  scoreGrad H _ _ _ _ (w_second arg1 arg5 arg6 arg10 R k t hk) (x_second arg1 arg5 arg6 arg10 R k t hv) hd

end Halves

/-- The queries' gradient while the rows from the block on down to `m` have taken the block's part. -/
def part (H : Head) (k m i l : ℕ) : ℝ := dq H (if i < m then 1024 * (k + 1) else 1024 * k) i l

theorem part_of_ge {k m i l : ℕ} (h : m ≤ i) : part H k m i l = dq H (1024 * k) i l := by rw [part, if_neg (by omega)]
theorem part_of_lt {k m i l : ℕ} (h : i < m) : part H k m i l = dq H (1024 * k) i l + ∑ b : Fin 1024, ds H i (1024 * k + b) * H.K (1024 * k + b) l := by
  rw [part, if_pos h, Nat.mul_add, Nat.mul_one, dq_add]
theorem part_of_out {k m n i l : ℕ} (hi : i < m ∨ m + n ≤ i) : part H k (m + n) i l = part H k m i l := by
  rcases hi with h | h
  · rw [part, part, if_pos (by omega), if_pos h]
  · rw [part, part, if_neg (by omega), if_neg (by omega)]

theorem load2z {sig : RefSig} {κ' : Kind} {sp : Space} {N M n m : ℕ} {g : ℕ → ℕ → ℝ} (v : View sig κ' sp ⟨2, ![N, M]⟩ .f32) (f : v.ty.Contents (Elt Ideal)) {off : Fin 2 → ℕ}
    (inb : ∀ a, off a + (![n, m] : Fin 2 → ℕ) a ≤ (⟨2, ![N, M]⟩ : Shape).size a) (ho : off = ![0, 0]) (h : Is (v.read (Elt Ideal) f) g) :
    Is (v.readAt (Elt Ideal) (Rect.unit (s := ⟨2, ![N, M]⟩) off ![n, m] inb).toLoadRect f) g :=
  (load2 v f inb ho h).congr fun a b => by rw [Nat.zero_add]

section Step

variable {dl : Vec Ideal S512x1 .f32} (hd : Is dl fun a _ => H.D (row k t + 512 + a))
variable (f7 : BufTy.Contents (Elt Ideal) arg7.view.ty) (f11 : BufTy.Contents (Elt Ideal) arg11.view.ty) (f12 : BufTy.Contents (Elt Ideal) arg12.view.ty)
variable (h7 : Is3 (arg7.view.read (Elt Ideal) f7) (part H k (row k t)))
variable (h11 : Is (arg11.view.read (Elt Ideal) f11) fun b l => dk H (row k t) (1024 * k + b) l)
variable (h12 : Is (arg12.view.read (Elt Ideal) f12) fun b l => dv H (row k t) (1024 * k + b) l)

include R hk h12 in
theorem dv_first : Is (trip_k0_t3.sl.v315 (F := Ideal) arg1 arg5 arg6 arg12 k kb X1 X5 X6 t f12) fun b l => dv H (row k t + 512) (1024 * k + b) l :=
  (Is.self (Is.add (load2z arg12.view f12 _ rfl h12) (overRows_512_1024 (w_first arg1 arg5 arg6 arg10 R k t hk) (Is3.flat (load3 arg6.view X6 _ (off7_eq k t 0) R.g) _))) _).congr
    fun b l => (dv_add H (row k t) 512 _ _).symm

include R hk h12 in
theorem dv_second : Is (k0_pay77 (F := Ideal) (trip_k0_t3.sl.v348 arg1 arg5 arg6 arg12 k kb X1 X5 X6 t f12)) fun b l => dv H (row k t + 512 + 512) (1024 * k + b) l :=
  (Is.self (Is.add (load2z arg12.view _ _ rfl (fill2 arg12.view _ _ _ _ rfl (dv_first arg1 arg5 arg6 arg10 arg12 R k t hk f12 h12)))
    (overRows_512_1024 (w_second arg1 arg5 arg6 arg10 R k t hk) (Is3.flat (load3 arg6.view X6 _ (off7_eq k t 1) R.g) _))) _).congr
    fun b l => (dv_add H (row k t + 512) 512 _ _).symm

include R hk hv h11 in
theorem dk_first : Is (trip_k0_t3.sl.v329 (F := Ideal) arg1 arg5 arg6 arg10 arg11 k kb vb X1 X5 X6 X10 t f11) fun b l => dk H (row k t + 512) (1024 * k + b) l :=
  (Is.self (Is.add (load2z arg11.view f11 _ rfl h11) (overRows_512_1024 (s_first arg1 arg5 arg6 arg10 R k t hk hv) (Is3.flat (load3h arg1.view X1 _ (off7_eq k t 0) R.q) _))) _).congr
    fun b l => (dk_add H (row k t) 512 _ _).symm

include R hd hk hv h11 in
theorem dk_second : Is (k0_pay79 (F := Ideal) (trip_k0_t3.sl.r_1 arg1 k X1 t) (trip_k0_t3.sl.r_6 arg6 k vb X6 t) (trip_k0_t3.sl.v344 arg1 arg5 k kb X1 X5 t)
    dl
    (trip_k0_t3.sl.v360 arg1 arg5 arg6 arg10 arg11 k kb vb X1 X5 X6 X10 t f11)) fun b l => dk H (row k t + 512 + 512) (1024 * k + b) l :=
  (Is.self (Is.add (load2z arg11.view _ _ rfl (fill2 arg11.view _ _ _ _ rfl (dk_first arg1 arg5 arg6 arg10 arg11 R k t hk hv f11 h11)))
    (overRows_512_1024 (s_second arg1 arg5 arg6 arg10 R k t hk hv hd) (Is3.flat (load3h arg1.view X1 _ (off7_eq k t 1) R.q) _))) _).congr
    fun b l => (dk_add H (row k t + 512) 512 _ _).symm

include R hk hv h7 in
theorem dq_first : Is3 (trip_k0_t3.sl.v338 (F := Ideal) arg1 arg5 arg6 arg7 arg10 k kb vb X1 X5 X6 X10 t f7) fun a l => part H k (row k t + 512) (row k t + 0 + a) l :=
  (Is.unflat (Is.add (Is3.flat (load3 arg7.view f7 _ (off7_eq k t 0) h7) _) (overKeys_512_1024 (s_first arg1 arg5 arg6 arg10 R k t hk hv) hk)) _).congr3
    fun a l => by rw [part_of_ge (by show row k t ≤ _; unfold row; omega), part_of_lt (by omega)]; rfl

include R hd hk hv h7 in
theorem dq_second : Is3 (k0_pay80 (F := Ideal) kb (trip_k0_t3.sl.r_6 arg6 k vb X6 t) (trip_k0_t3.sl.v344 arg1 arg5 k kb X1 X5 t)
    dl
    (trip_k0_t3.sl.v367 arg7 k t f7)) fun a l => part H k (row k t + 512 + 512) (row k t + 512 + a) l :=
  (Is.unflat (Is.add (Is3.flat (load3 arg7.view f7 _ (off7_eq k t 1) h7) _) (overKeys_512_1024 (s_second arg1 arg5 arg6 arg10 R k t hk hv hd) hk)) _).congr3
    fun a l => by rw [part_of_ge (by show row k t ≤ _; unfold row; omega), part_of_lt (by omega)]; rfl

end Step

theorem inb9 : ∀ (k : Fin k0_t2_loop.trips) (t : Fin (k0_t3_loop k).trips) (a : Fin 2), k0_off9 k t 512#32 a + (![512, 1] : Fin 2 → ℕ) a ≤ S4096x1.size a := by decide +kernel

section Loop

variable (𝒱 : Variants) (bd : Option 𝒱.V) (arg13 v7 v33 v259 : BitVec 32) (v45 : FVec Ideal S256x128 .bf16) (v83 v228 : FVec Ideal S256x1024 .f32) (v232 : FVec Ideal S1024x128 .f32)

/-- What the three gradients' buffers hold before the rows from `m` on take the key block `k`'s part. -/
def Upto (H : Head) (k : ℕ) (arg7 : Memref sig .tc .vmem S1x4096x128 .f32) (arg11 arg12 : Memref sig .tc .vmem S1024x128 .f32)
    (f7 : BufTy.Contents (Elt Ideal) arg7.view.ty) (f11 : BufTy.Contents (Elt Ideal) arg11.view.ty) (f12 : BufTy.Contents (Elt Ideal) arg12.view.ty) (m : ℕ) : Prop :=
  Is3 (arg7.view.read (Elt Ideal) f7) (part H k m) ∧ Is (arg11.view.read (Elt Ideal) f11) (fun b l => dk H m (1024 * k + b) l) ∧
    Is (arg12.view.read (Elt Ideal) f12) fun b l => dv H m (1024 * k + b) l

include R hk hv in
/-- One trip of the loop below the diagonal takes 1024 rows into the three gradients. -/
theorem trip_upto (f7 : BufTy.Contents (Elt Ideal) arg7.view.ty) (f11 : BufTy.Contents (Elt Ideal) arg11.view.ty) (f12 : BufTy.Contents (Elt Ideal) arg12.view.ty)
    (h : Upto H k arg7 arg11 arg12 f7 f11 f12 (row k t)) :
    Upto H k arg7 arg11 arg12
      (arg7.view.writes (Elt Ideal) f7 (tripL_k0_t3 (F := Ideal) 𝒱 c bd i arg1 harg1 arg2 harg2 arg3 harg3 arg4 harg4 arg5 harg5 arg6 harg6 arg7 harg7 arg8 harg8 arg9 harg9 arg10 harg10 arg11 harg11 arg12 harg12 k arg13 v7 kb vb v33 v45 v83 v228 v232 v259 X1 X5 X6 X10 t f7 f11 f12).1)
      (arg11.view.writes (Elt Ideal) f11 (tripL_k0_t3 (F := Ideal) 𝒱 c bd i arg1 harg1 arg2 harg2 arg3 harg3 arg4 harg4 arg5 harg5 arg6 harg6 arg7 harg7 arg8 harg8 arg9 harg9 arg10 harg10 arg11 harg11 arg12 harg12 k arg13 v7 kb vb v33 v45 v83 v228 v232 v259 X1 X5 X6 X10 t f7 f11 f12).2.1)
      (arg12.view.writes (Elt Ideal) f12 (tripL_k0_t3 (F := Ideal) 𝒱 c bd i arg1 harg1 arg2 harg2 arg3 harg3 arg4 harg4 arg5 harg5 arg6 harg6 arg7 harg7 arg8 harg8 arg9 harg9 arg10 harg10 arg11 harg11 arg12 harg12 k arg13 v7 kb vb v33 v45 v83 v228 v232 v259 X1 X5 X6 X10 t f7 f11 f12).2.2) (row k t + 512 + 512) := by
  obtain ⟨h7, h11, h12⟩ := h
  have hd := load2 arg10.view X10 (off := k0_off9 k t 512#32) (n := 512) (m := 1) (inb9 k t) (off9_eq k t 1) R.dl
  unfold tripL_k0_t3 trip_k0_t3
  refine ⟨?_, ?_, ?_⟩
  · exact store3 arg7.view f7 _ _ _ (off7_eq k t 1) (store3 arg7.view f7 [] _ _ (off7_eq k t 0) h7 (dq_first arg1 arg5 arg6 arg7 arg10 R k t hk hv f7 h7) (fun i hi b => part_of_out hi))
      (dq_second arg1 arg5 arg6 arg7 arg10 R k t hk hv hd f7 h7) (fun i hi b => part_of_out hi)
  · exact fill2 arg11.view f11 _ _ _ rfl (dk_second arg1 arg5 arg6 arg10 arg11 R k t hk hv hd f11 h11)
  · exact fill2 arg12.view f12 _ _ _ rfl (dv_second arg1 arg5 arg6 arg10 arg12 R k t hk f12 h12)

include R hk hv in
/-- After `n` trips of the loop below the diagonal. -/
theorem trips_upto (G7 : BufTy.Contents (Elt Ideal) arg7.view.ty) (G11 : BufTy.Contents (Elt Ideal) arg11.view.ty) (G12 : BufTy.Contents (Elt Ideal) arg12.view.ty)
    (h : Upto H k arg7 arg11 arg12 G7 G11 G12 (1024 * (k.val + 1))) (n : ℕ) (hn : n ≤ (k0_t3_loop k).trips) :
    Upto H k arg7 arg11 arg12
      (arg7.view.writes (Elt Ideal) G7 (pb_k0_t3 (F := Ideal) 𝒱 c bd i arg1 harg1 arg2 harg2 arg3 harg3 arg4 harg4 arg5 harg5 arg6 harg6 arg7 harg7 arg8 harg8 arg9 harg9 arg10 harg10 arg11 harg11 arg12 harg12 k arg13 v7 kb vb v33 v45 v83 v228 v232 v259 X1 X5 X6 X10 G7 G11 G12 n).1)
      (arg11.view.writes (Elt Ideal) G11 (pb_k0_t3 (F := Ideal) 𝒱 c bd i arg1 harg1 arg2 harg2 arg3 harg3 arg4 harg4 arg5 harg5 arg6 harg6 arg7 harg7 arg8 harg8 arg9 harg9 arg10 harg10 arg11 harg11 arg12 harg12 k arg13 v7 kb vb v33 v45 v83 v228 v232 v259 X1 X5 X6 X10 G7 G11 G12 n).2.1)
      (arg12.view.writes (Elt Ideal) G12 (pb_k0_t3 (F := Ideal) 𝒱 c bd i arg1 harg1 arg2 harg2 arg3 harg3 arg4 harg4 arg5 harg5 arg6 harg6 arg7 harg7 arg8 harg8 arg9 harg9 arg10 harg10 arg11 harg11 arg12 harg12 k arg13 v7 kb vb v33 v45 v83 v228 v232 v259 X1 X5 X6 X10 G7 G11 G12 n).2.2) (1024 * (k.val + 1 + n)) := by
  induction n with
  | zero => exact h
  | succ n ih =>
    have e := pb_k0_t3_succ (F := Ideal) 𝒱 c bd i arg1 harg1 arg2 harg2 arg3 harg3 arg4 harg4 arg5 harg5 arg6 harg6 arg7 harg7 arg8 harg8 arg9 harg9 arg10 harg10 arg11 harg11 arg12 harg12 k arg13 v7 kb vb v33 v45 v83 v228 v232 v259 X1 X5 X6 X10 G7 G11 G12 ⟨n, hn⟩
    have s := trip_upto c i arg1 harg1 arg2 harg2 arg3 harg3 arg4 harg4 arg5 harg5 arg6 harg6 arg7 harg7 arg8 harg8 arg9 harg9 arg10 harg10 arg11 harg11 arg12 harg12 R k ⟨n, hn⟩ hk hv 𝒱 bd arg13 v7 v33 v259 v45 v83 v228 v232 _ _ _ (ih (Nat.le_of_succ_le hn))
    have r : row k (⟨n, hn⟩ : Fin (k0_t3_loop k).trips) + 512 + 512 = 1024 * (k.val + 1 + (n + 1)) := by show 1024 * (k.val + 1 + n) + 512 + 512 = _; omega
    rw [← View.writes_append, ← View.writes_append, ← View.writes_append, r] at s
    rw [show (⟨n, hn⟩ : Fin (k0_t3_loop k).trips).val + 1 = n + 1 from rfl] at e
    rw [e]
    exact s

end Loop

end Cert.AttnIdeal.Gen

end
-- ==== Proof.AttnTrip2.lean ====
/- One trip over a block of 1024 keys, at exact arithmetic: the four pieces of 256 rows at the diagonal, the rows below it,
   and the block's gradients. -/
module

public import proofs.«01_k».proof.Proof.AttnTrip3
public import proofs.«01_k».proof.Proof.AttnIdealLoop

@[expose] public section

set_option maxRecDepth 16384

noncomputable section

namespace Cert.AttnIdeal.Gen

open Idealize.ShloMosaic Idealize.ShloMosaic.TcCoe Idealize.ShloMosaic.Tactic
open Idealize.ShloMosaic.Pointwise Cert.AttnReal Cert.AttnIdeal.Pay

/-- The first row of piece `h` of the key block `k` at the diagonal. -/
abbrev top (k h : ℕ) : ℕ := 1024 * k + 256 * h

section Real

variable (H : Head) {k h a l : ℕ}

theorem dv_top (j : ℕ) : dv H (top k (h + 1)) j l = dv H (top k h) j l + ∑ x : Fin 256, p H (top k h + x) j * H.G (top k h + x) l := by
  rw [show top k (h + 1) = top k h + 256 by unfold top; omega, dv_add]
theorem dk_top (j : ℕ) : dk H (top k (h + 1)) j l = dk H (top k h) j l + ∑ x : Fin 256, ds H (top k h + x) j * H.Q (top k h + x) l := by
  rw [show top k (h + 1) = top k h + 256 by unfold top; omega, dk_add]
theorem dv_top_of_ge {j : ℕ} (hj : 256 * (h + 1) ≤ j) : dv H (top k (h + 1)) (1024 * k + j) l = dv H (top k h) (1024 * k + j) l := by
  rw [show top k (h + 1) = top k h + 256 by unfold top; omega]; exact dv_add_of_lt H (by unfold top; omega)
theorem dk_top_of_ge {j : ℕ} (hj : 256 * (h + 1) ≤ j) : dk H (top k (h + 1)) (1024 * k + j) l = dk H (top k h) (1024 * k + j) l := by
  rw [show top k (h + 1) = top k h + 256 by unfold top; omega]; exact dk_add_of_lt H (by unfold top; omega)

/-- A row of the diagonal's piece `h` meets only the block's first `256 * (h + 1)` keys. -/
theorem part_top (h3 : h ≤ 3) (ha : a < 256) : part H k (top k (h + 1)) (top k h + a) l
    = dq H (1024 * k) (top k h + a) l + ∑ b : Fin (256 * (h + 1)), ds H (top k h + a) (1024 * k + b) * H.K (1024 * k + b) l := by
  rw [part, if_pos (by unfold top; omega), show 1024 * (k + 1) = 1024 * k + 256 * (h + 1) + (1024 - 256 * (h + 1)) by omega, dq_add_of_lt H (by unfold top; omega), dq_add]
theorem part_top_out {i : ℕ} (hi : i < top k h ∨ top k h + 256 ≤ i) : part H k (top k (h + 1)) i l = part H k (top k h) i l := by
  rw [show top k (h + 1) = top k h + 256 by unfold top; omega]; exact part_of_out hi
theorem part_first (i : ℕ) : part H k (1024 * k) i l = dq H (1024 * k) i l := by
  rcases Nat.lt_or_ge i (1024 * k) with hi | hi
  · rw [part, if_pos hi, Nat.mul_add, Nat.mul_one, dq_add_of_lt H hi]
  · exact part_of_ge hi

end Real

variable (c : Dev nD) (i : grid0.Coords) (arg1 : Memref sig .tc .vmem S1x4096x128 .bf16) (harg1 : arg1.IsWhole) (arg2 : Memref sig .tc .vmem S1x4096x128 .bf16) (harg2 : arg2.IsWhole) (arg3 : Memref sig .tc .vmem S1x4096x128 .bf16) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x4096x128 .f32) (harg9 : arg9.IsWhole) (arg10 : Memref sig .tc .vmem S4096x1 .f32) (harg10 : arg10.IsWhole) (arg11 : Memref sig .tc .vmem S1024x128 .f32) (harg11 : arg11.IsWhole) (arg12 : Memref sig .tc .vmem S1024x128 .f32) (harg12 : arg12.IsWhole)
variable {H : Head} {X1 : BufTy.Contents (Elt Ideal) arg1.view.ty} {X2 : BufTy.Contents (Elt Ideal) arg2.view.ty} {X3 : BufTy.Contents (Elt Ideal) arg3.view.ty} {X5 : BufTy.Contents (Elt Ideal) arg5.view.ty} {X6 : BufTy.Contents (Elt Ideal) arg6.view.ty} {X10 : BufTy.Contents (Elt Ideal) arg10.view.ty}
variable (R : RowsAre arg1 arg5 arg6 arg10 H X1 X5 X6 X10) (K2 : Is3 (arg2.view.read (Elt Ideal) X2) H.K) (V3 : Is3 (arg3.view.read (Elt Ideal) X3) H.V) (k : Fin k0_t2_loop.trips)

include K2 in
theorem keys_block : Is (trip_k0_t2.sl.v10 (F := Ideal) arg2 X2 k) fun b l => H.K (1024 * k.val + b) l :=
  Is3.flat (load3h arg2.view X2 _ (off3_eq k) K2) _
include V3 in
theorem vals_block : Is (trip_k0_t2.sl.v13 (F := Ideal) arg3 X3 k) fun b l => H.V (1024 * k.val + b) l :=
  Is3.flat (load3h arg3.view X3 _ (off3_eq k) V3) _

include R K2 in
theorem score_0 : Is (trip_k0_t2.sl.r_6 (F := Ideal) arg1 arg2 X1 X2 k) fun a b => sc H (top k 0 + a) (1024 * k + b) * scale2 :=
  scaled H _ _ (rowsKeys_256_256 (Is3.flat (load3h arg1.view X1 _ (off4_eq k 0) R.q) _) (Is.slice (keys_block arg2 K2 k) _))
include R K2 in
theorem weight_0 {lse : Vec Ideal S1x256x1 .f32} (hl : Is3 lse fun a _ => H.L (top k 0 + a)) :
    Is (k0_pay55 (F := Ideal) (trip_k0_t2.sl.r_6 arg1 arg2 X1 X2 k) lse) fun a b => p H (top k 0 + a) (1024 * k + b) :=
  masked H (1024 * k) 0 (by decide) (by decide) _ _ _ _ (score_0 arg1 arg2 arg5 arg6 arg10 R K2 k) hl
include R V3 in
theorem prod_0 : Is (trip_k0_t2.sl.r_10 (F := Ideal) arg3 arg6 X3 X6 k) fun a b => dp H (top k 0 + a) (1024 * k + b) :=
  rowsKeys_256_256 (Is3.flat (load3 arg6.view X6 _ (off4_eq k 0) R.g) _) (Is.slice (vals_block arg3 V3 k) _)
include R K2 V3 in
theorem grad_0 : Is (trip_k0_t2.sl.r_14 (F := Ideal) arg1 arg2 arg3 arg5 arg6 arg10 X1 X2 X3 X5 X6 X10 k) fun a b => ds H (top k 0 + a) (1024 * k + b) :=
  scoreGrad H _ _ _ _ (weight_0 arg1 arg2 arg5 arg6 arg10 R K2 k (load3 arg5.view X5 _ (off5_eq k 0) R.lse)) (prod_0 arg1 arg3 arg5 arg6 arg10 R V3 k) (load2 arg10.view X10 _ (off6_eq k 0) R.dl)

include R K2 in
theorem score_1 : Is (trip_k0_t2.sl.r_7 (F := Ideal) arg1 arg2 X1 X2 k) fun a b => sc H (top k 1 + a) (1024 * k + b) * scale2 :=
  scaled H _ _ (rowsKeys_256_512 (Is3.flat (load3h arg1.view X1 _ (off4_eq k 1) R.q) _) (Is.slice (keys_block arg2 K2 k) _))
include R K2 in
theorem weight_1 {lse : Vec Ideal S1x256x1 .f32} (hl : Is3 lse fun a _ => H.L (top k 1 + a)) :
    Is (k0_pay60 (F := Ideal) (trip_k0_t2.sl.r_7 arg1 arg2 X1 X2 k) lse) fun a b => p H (top k 1 + a) (1024 * k + b) :=
  masked H (1024 * k) 256 (by decide) (by decide) _ _ _ _ (score_1 arg1 arg2 arg5 arg6 arg10 R K2 k) hl
include R V3 in
theorem prod_1 : Is (trip_k0_t2.sl.r_11 (F := Ideal) arg3 arg6 X3 X6 k) fun a b => dp H (top k 1 + a) (1024 * k + b) :=
  rowsKeys_256_512 (Is3.flat (load3 arg6.view X6 _ (off4_eq k 1) R.g) _) (Is.slice (vals_block arg3 V3 k) _)
include R K2 V3 in
theorem grad_1 : Is (trip_k0_t2.sl.r_15 (F := Ideal) arg1 arg2 arg3 arg5 arg6 arg10 X1 X2 X3 X5 X6 X10 k) fun a b => ds H (top k 1 + a) (1024 * k + b) :=
  scoreGrad H _ _ _ _ (weight_1 arg1 arg2 arg5 arg6 arg10 R K2 k (load3 arg5.view X5 _ (off5_eq k 1) R.lse)) (prod_1 arg1 arg3 arg5 arg6 arg10 R V3 k) (load2 arg10.view X10 _ (off6_eq k 1) R.dl)

include R K2 in
theorem score_2 : Is (trip_k0_t2.sl.r_8 (F := Ideal) arg1 arg2 X1 X2 k) fun a b => sc H (top k 2 + a) (1024 * k + b) * scale2 :=
  scaled H _ _ (rowsKeys_256_768 (Is3.flat (load3h arg1.view X1 _ (off4_eq k 2) R.q) _) (Is.slice (keys_block arg2 K2 k) _))
include R K2 in
theorem weight_2 {lse : Vec Ideal S1x256x1 .f32} (hl : Is3 lse fun a _ => H.L (top k 2 + a)) :
    Is (k0_pay65 (F := Ideal) (trip_k0_t2.sl.r_8 arg1 arg2 X1 X2 k) lse) fun a b => p H (top k 2 + a) (1024 * k + b) :=
  masked H (1024 * k) 512 (by decide) (by decide) _ _ _ _ (score_2 arg1 arg2 arg5 arg6 arg10 R K2 k) hl
include R V3 in
theorem prod_2 : Is (trip_k0_t2.sl.r_12 (F := Ideal) arg3 arg6 X3 X6 k) fun a b => dp H (top k 2 + a) (1024 * k + b) :=
  rowsKeys_256_768 (Is3.flat (load3 arg6.view X6 _ (off4_eq k 2) R.g) _) (Is.slice (vals_block arg3 V3 k) _)
include R K2 V3 in
theorem grad_2 : Is (k0_pay68 (F := Ideal) (trip_k0_t2.sl.r_16 arg1 arg2 arg3 arg5 arg6 arg10 X1 X2 X3 X5 X6 X10 k)) fun a b => ds H (top k 2 + a) (1024 * k + b) :=
  scoreGrad H _ _ _ _ (weight_2 arg1 arg2 arg5 arg6 arg10 R K2 k (load3 arg5.view X5 _ (off5_eq k 2) R.lse)) (prod_2 arg1 arg3 arg5 arg6 arg10 R V3 k) (load2 arg10.view X10 _ (off6_eq k 2) R.dl)

include R K2 in
theorem score_3 : Is (trip_k0_t2.sl.r_9 (F := Ideal) arg1 arg2 X1 X2 k) fun a b => sc H (top k 3 + a) (1024 * k + b) * scale2 :=
  scaled H _ _ (rowsKeys_256_1024 (Is3.flat (load3h arg1.view X1 _ (off4_eq k 3) R.q) _) (keys_block arg2 K2 k))
include R K2 in
theorem weight_3 {lse : Vec Ideal S1x256x1 .f32} (hl : Is3 lse fun a _ => H.L (top k 3 + a)) :
    Is (k0_pay71 (F := Ideal) (trip_k0_t2.sl.r_9 arg1 arg2 X1 X2 k) lse) fun a b => p H (top k 3 + a) (1024 * k + b) :=
  masked H (1024 * k) 768 (by decide) (by decide) _ _ _ _ (score_3 arg1 arg2 arg5 arg6 arg10 R K2 k) hl
include R V3 in
theorem prod_3 : Is (trip_k0_t2.sl.r_13 (F := Ideal) arg3 arg6 X3 X6 k) fun a b => dp H (top k 3 + a) (1024 * k + b) :=
  rowsKeys_256_1024 (Is3.flat (load3 arg6.view X6 _ (off4_eq k 3) R.g) _) (vals_block arg3 V3 k)
include R K2 V3 in
theorem grad_3 {dl : Vec Ideal S256x1 .f32} (hd : Is dl fun a _ => H.D (top k 3 + a)) : Is (k0_pay74 (F := Ideal) (trip_k0_t2.sl.r_13 arg3 arg6 X3 X6 k) (trip_k0_t2.sl.r_17 arg1 arg2 arg5 X1 X2 X5 k) dl) fun a b => ds H (top k 3 + a) (1024 * k + b) :=
  scoreGrad H _ _ _ _ (weight_3 arg1 arg2 arg5 arg6 arg10 R K2 k (load3 arg5.view X5 _ (off5_eq k 3) R.lse)) (prod_3 arg1 arg3 arg5 arg6 arg10 R V3 k) hd

theorem zeros_block : Is (trip_k0_t2.sl.v17 (F := Ideal)) fun _ _ => 0 := fun a b => by
  show Ideal.ofBits .f32 0x00000000#32 = _
  exact Ideal.ofBits_zero _
theorem dv_0 : Is (arg12.view.read (Elt Ideal) (arg12.view.writes (Elt Ideal) arg12.view.junk trip_k0_t2.sl.S11_1)) fun b l => dv H (top k 0) (1024 * k + b) l :=
  fill2 arg12.view _ _ _ _ rfl (zeros_block.congr fun b l => (dv_zero H (by unfold top; omega)).symm)
theorem dk_0 : Is (arg11.view.read (Elt Ideal) (arg11.view.writes (Elt Ideal) arg11.view.junk trip_k0_t2.sl.S11_1)) fun b l => dk H (top k 0) (1024 * k + b) l :=
  fill2 arg11.view _ _ _ _ rfl (zeros_block.congr fun b l => (dk_zero H (by unfold top; omega)).symm)

include R K2 in
theorem dv_1 : Is (arg12.view.read (Elt Ideal) (arg12.view.writes (Elt Ideal) arg12.view.junk (trip_k0_t2.sl.S12_2 arg1 arg2 arg5 arg6 arg12 X1 X2 X5 X6 k)))
    fun b l => dv H (top k 1) (1024 * k + b) l :=
  store2 arg12.view _ _ _ _ rfl (dv_0 arg12 k)
    ((Is.self (Is.add (load2z arg12.view _ _ rfl (dv_0 arg12 k)) (overRows_256_256 (weight_0 arg1 arg2 arg5 arg6 arg10 R K2 k (load3 arg5.view X5 _ (off5_eq k 0) R.lse)) (Is3.flat (load3 arg6.view X6 _ (off4_eq k 0) R.g) _))) _).congr
      fun b l => by rw [Nat.zero_add]; exact (dv_top (h := 0) H _).symm)
    fun i _ hi b => dv_top_of_ge (h := 0) H (by omega)
include R K2 V3 in
theorem dk_1 : Is (arg11.view.read (Elt Ideal) (arg11.view.writes (Elt Ideal) arg11.view.junk (trip_k0_t2.sl.S11_2 arg1 arg2 arg3 arg5 arg6 arg10 arg11 X1 X2 X3 X5 X6 X10 k)))
    fun b l => dk H (top k 1) (1024 * k + b) l :=
  store2 arg11.view _ _ _ _ rfl (dk_0 arg11 k)
    ((Is.self (Is.add (load2z arg11.view _ _ rfl (dk_0 arg11 k)) (overRows_256_256 (grad_0 arg1 arg2 arg3 arg5 arg6 arg10 R K2 V3 k) (Is3.flat (load3h arg1.view X1 _ (off4_eq k 0) R.q) _))) _).congr
      fun b l => by rw [Nat.zero_add]; exact (dk_top (h := 0) H _).symm)
    fun i _ hi b => dk_top_of_ge (h := 0) H (by omega)

include R K2 in
theorem dv_2 : Is (arg12.view.read (Elt Ideal) (arg12.view.writes (Elt Ideal) arg12.view.junk (trip_k0_t2.sl.S12_3 arg1 arg2 arg5 arg6 arg12 X1 X2 X5 X6 k)))
    fun b l => dv H (top k 2) (1024 * k + b) l :=
  store2 arg12.view _ _ _ _ rfl (dv_1 arg1 arg2 arg5 arg6 arg10 arg12 R K2 k)
    ((Is.self (Is.add (load2z arg12.view _ _ rfl (dv_1 arg1 arg2 arg5 arg6 arg10 arg12 R K2 k)) (overRows_256_512 (weight_1 arg1 arg2 arg5 arg6 arg10 R K2 k (load3 arg5.view X5 _ (off5_eq k 1) R.lse)) (Is3.flat (load3 arg6.view X6 _ (off4_eq k 1) R.g) _))) _).congr
      fun b l => by rw [Nat.zero_add]; exact (dv_top (h := 1) H _).symm)
    fun i _ hi b => dv_top_of_ge (h := 1) H (by omega)
include R K2 V3 in
theorem dk_2 : Is (arg11.view.read (Elt Ideal) (arg11.view.writes (Elt Ideal) arg11.view.junk (trip_k0_t2.sl.S11_3 arg1 arg2 arg3 arg5 arg6 arg10 arg11 X1 X2 X3 X5 X6 X10 k)))
    fun b l => dk H (top k 2) (1024 * k + b) l :=
  store2 arg11.view _ _ _ _ rfl (dk_1 arg1 arg2 arg3 arg5 arg6 arg10 arg11 R K2 V3 k)
    ((Is.self (Is.add (load2z arg11.view _ _ rfl (dk_1 arg1 arg2 arg3 arg5 arg6 arg10 arg11 R K2 V3 k)) (overRows_256_512 (grad_1 arg1 arg2 arg3 arg5 arg6 arg10 R K2 V3 k) (Is3.flat (load3h arg1.view X1 _ (off4_eq k 1) R.q) _))) _).congr
      fun b l => by rw [Nat.zero_add]; exact (dk_top (h := 1) H _).symm)
    fun i _ hi b => dk_top_of_ge (h := 1) H (by omega)

include R K2 in
set_option maxHeartbeats 2000000 in
theorem dv_3 : Is (arg12.view.read (Elt Ideal) (arg12.view.writes (Elt Ideal) arg12.view.junk (trip_k0_t2.sl.S12_4 arg1 arg2 arg5 arg6 arg12 X1 X2 X5 X6 k)))
    fun b l => dv H (top k 3) (1024 * k + b) l :=
  store2 arg12.view _ _ _ _ rfl (dv_2 arg1 arg2 arg5 arg6 arg10 arg12 R K2 k)
    ((Is.self (Is.add (load2z arg12.view _ _ rfl (dv_2 arg1 arg2 arg5 arg6 arg10 arg12 R K2 k)) (overRows_256_768 (weight_2 arg1 arg2 arg5 arg6 arg10 R K2 k (load3 arg5.view X5 _ (off5_eq k 2) R.lse)) (Is3.flat (load3 arg6.view X6 _ (off4_eq k 2) R.g) _))) _).congr
      fun b l => by rw [Nat.zero_add]; exact (dv_top (h := 2) H _).symm)
    fun i _ hi b => dv_top_of_ge (h := 2) H (by omega)
include R K2 V3 in
theorem dk_3 : Is (arg11.view.read (Elt Ideal) (arg11.view.writes (Elt Ideal) arg11.view.junk (trip_k0_t2.sl.S11_4 arg1 arg2 arg3 arg5 arg6 arg10 arg11 X1 X2 X3 X5 X6 X10 k)))
    fun b l => dk H (top k 3) (1024 * k + b) l :=
  store2 arg11.view _ _ _ _ rfl (dk_2 arg1 arg2 arg3 arg5 arg6 arg10 arg11 R K2 V3 k)
    ((Is.self (Is.add (load2z arg11.view _ _ rfl (dk_2 arg1 arg2 arg3 arg5 arg6 arg10 arg11 R K2 V3 k)) (overRows_256_768 (grad_2 arg1 arg2 arg3 arg5 arg6 arg10 R K2 V3 k) (Is3.flat (load3h arg1.view X1 _ (off4_eq k 2) R.q) _))) _).congr
      fun b l => by rw [Nat.zero_add]; exact (dk_top (h := 2) H _).symm)
    fun i _ hi b => dk_top_of_ge (h := 2) H (by omega)

include R K2 in
set_option maxHeartbeats 2000000 in
theorem dv_4 : Is (arg12.view.read (Elt Ideal) (arg12.view.writes (Elt Ideal) arg12.view.junk (trip_k0_t2.sl.S12_5 arg1 arg2 arg5 arg6 arg12 X1 X2 X5 X6 k)))
    fun b l => dv H (top k 4) (1024 * k + b) l :=
  store2 arg12.view _ _ _ _ rfl (dv_3 arg1 arg2 arg5 arg6 arg10 arg12 R K2 k)
    ((Is.self (Is.add (load2z arg12.view _ _ rfl (dv_3 arg1 arg2 arg5 arg6 arg10 arg12 R K2 k)) (overRows_256_1024 (weight_3 arg1 arg2 arg5 arg6 arg10 R K2 k (load3 arg5.view X5 _ (off5_eq k 3) R.lse)) (Is3.flat (load3 arg6.view X6 _ (off4_eq k 3) R.g) _))) _).congr
      fun b l => by rw [Nat.zero_add]; exact (dv_top (h := 3) H _).symm)
    fun i _ hi b => dv_top_of_ge (h := 3) H (by omega)
include R K2 V3 in
theorem dk_4 : Is (arg11.view.read (Elt Ideal) (arg11.view.writes (Elt Ideal) arg11.view.junk (trip_k0_t2.sl.S11_5 arg1 arg2 arg3 arg5 arg6 arg10 arg11 X1 X2 X3 X5 X6 X10 k)))
    fun b l => dk H (top k 4) (1024 * k + b) l :=
  store2 arg11.view _ _ _ _ rfl (dk_3 arg1 arg2 arg3 arg5 arg6 arg10 arg11 R K2 V3 k)
    ((Is.self (Is.add (load2z arg11.view _ _ rfl (dk_3 arg1 arg2 arg3 arg5 arg6 arg10 arg11 R K2 V3 k)) (overRows_256_1024 (grad_3 arg1 arg2 arg3 arg5 arg6 arg10 R K2 V3 k (load2 arg10.view X10 _ (off6_eq k 3) R.dl)) (Is3.flat (load3h arg1.view X1 _ (off4_eq k 3) R.q) _))) _).congr
      fun b l => by rw [Nat.zero_add]; exact (dk_top (h := 3) H _).symm)
    fun i _ hi b => dk_top_of_ge (h := 3) H (by omega)

section Rows

variable (f7 : BufTy.Contents (Elt Ideal) arg7.view.ty) (h7 : Is3 (arg7.view.read (Elt Ideal) f7) (dq H (1024 * k)))

include h7 in
theorem dq_0 : Is3 (arg7.view.read (Elt Ideal) (arg7.view.writes (Elt Ideal) f7 [])) (part H k (top k 0)) :=
  Is3.congr3 h7 fun a l => (part_first H _).symm
include R K2 V3 h7 in
theorem dq_1 : Is3 (arg7.view.read (Elt Ideal) (arg7.view.writes (Elt Ideal) f7 (trip_k0_t2.sl.W7_1 arg1 arg2 arg3 arg5 arg6 arg7 arg10 X1 X2 X3 X5 X6 X10 k f7))) (part H k (top k 1)) :=
  store3 arg7.view f7 _ _ _ (off4_eq k 0) (dq_0 arg7 k f7 h7)
    ((Is.unflat (Is.add (Is3.flat (load3 arg7.view f7 _ (off4_eq k 0) h7) _) (overKeys_256_256 (grad_0 arg1 arg2 arg3 arg5 arg6 arg10 R K2 V3 k) (Is.slice (keys_block arg2 K2 k) _))) _).congr3
      fun a l => (part_top (h := 0) H (by omega) a.isLt).symm)
    fun i hi b => part_top_out (h := 0) H hi
include R K2 V3 h7 in
theorem dq_2 : Is3 (arg7.view.read (Elt Ideal) (arg7.view.writes (Elt Ideal) f7 (trip_k0_t2.sl.W7_2 arg1 arg2 arg3 arg5 arg6 arg7 arg10 X1 X2 X3 X5 X6 X10 k f7))) (part H k (top k 2)) :=
  store3 arg7.view f7 _ _ _ (off4_eq k 1) (dq_1 arg1 arg2 arg3 arg5 arg6 arg7 arg10 R K2 V3 k f7 h7)
    ((Is.unflat (Is.add (Is3.flat (load3 arg7.view f7 _ (off4_eq k 1) h7) _) (overKeys_256_512 (grad_1 arg1 arg2 arg3 arg5 arg6 arg10 R K2 V3 k) (Is.slice (keys_block arg2 K2 k) _))) _).congr3
      fun a l => (part_top (h := 1) H (by omega) a.isLt).symm)
    fun i hi b => part_top_out (h := 1) H hi
include R K2 V3 h7 in
theorem dq_3 : Is3 (arg7.view.read (Elt Ideal) (arg7.view.writes (Elt Ideal) f7 (trip_k0_t2.sl.W7_3 arg1 arg2 arg3 arg5 arg6 arg7 arg10 X1 X2 X3 X5 X6 X10 k f7))) (part H k (top k 3)) :=
  store3 arg7.view f7 _ _ _ (off4_eq k 2) (dq_2 arg1 arg2 arg3 arg5 arg6 arg7 arg10 R K2 V3 k f7 h7)
    ((Is.unflat (Is.add (Is3.flat (load3 arg7.view f7 _ (off4_eq k 2) h7) _) (overKeys_256_768 (grad_2 arg1 arg2 arg3 arg5 arg6 arg10 R K2 V3 k) (Is.slice (keys_block arg2 K2 k) _))) _).congr3
      fun a l => (part_top (h := 2) H (by omega) a.isLt).symm)
    fun i hi b => part_top_out (h := 2) H hi
include R K2 V3 h7 in
theorem dq_4 (inb : ∀ a, k0_off4 k 768#32 a + (![1, 256, 128] : Fin 3 → ℕ) a ≤ S1x4096x128.size a) {dl : Vec Ideal S256x1 .f32} (hd : Is dl fun a _ => H.D (top k 3 + a)) : Is3 (arg7.view.read (Elt Ideal) (arg7.view.writes (Elt Ideal) f7 (⟨Rect.unit (s := S1x4096x128) (k0_off4 k 768#32) ![1, 256, 128] inb, k0_pay76 (trip_k0_t2.sl.v10 arg2 X2 k) (trip_k0_t2.sl.r_13 arg3 arg6 X3 X6 k) (trip_k0_t2.sl.r_17 arg1 arg2 arg5 X1 X2 X5 k) dl (trip_k0_t2.sl.v251 arg7 k f7)⟩ :: trip_k0_t2.sl.W7_3 arg1 arg2 arg3 arg5 arg6 arg7 arg10 X1 X2 X3 X5 X6 X10 k f7))) (part H k (top k 4)) :=
  store3 arg7.view f7 _ _ _ (off4_eq k 3) (dq_3 arg1 arg2 arg3 arg5 arg6 arg7 arg10 R K2 V3 k f7 h7)
    ((Is.unflat (Is.add (Is3.flat (load3 arg7.view f7 _ (off4_eq k 3) h7) _) (overKeys_256_1024 (grad_3 arg1 arg2 arg3 arg5 arg6 arg10 R K2 V3 k hd) (keys_block arg2 K2 k))) _).congr3
      fun a l => (part_top (h := 3) H (by omega) a.isLt).symm)
    fun i hi b => part_top_out (h := 3) H hi

end Rows

end Cert.AttnIdeal.Gen

end
-- ==== Proof.AttnGrad.lean ====
/- What the attention's gradient leaves for one head, at exact arithmetic: the rows' products, and the loop over the blocks of
   keys, which adds up the gradient of the queries and writes the blocks of the other two. -/
module

public import proofs.«01_k».proof.Proof.AttnTrip2
public import proofs.«01_k».proof.Proof.AttnIdealFrame

@[expose] public section

set_option maxRecDepth 16384

noncomputable section

namespace Cert.AttnIdeal.Gen

open Idealize.ShloMosaic Idealize.ShloMosaic.TcCoe Idealize.ShloMosaic.Tactic
open Idealize.ShloMosaic.Pointwise Cert.AttnReal Cert.AttnIdeal.Pay

section Extend

variable {sig' : RefSig} {κ' : Kind} {sp : Space} {N M n r : ℕ} {g : ℕ → ℕ → ℝ}

/-- The first `r` rows hold `g`. -/
def First3 (v : (⟨3, ![1, N, M]⟩ : Shape).Idx → EReal) (g : ℕ → ℕ → ℝ) (r : ℕ) : Prop := ∀ (a : Fin N) (b : Fin M), a.val < r → v (ix3 0 a b) = (g a b : EReal)
def First2 (v : (⟨2, ![N, M]⟩ : Shape).Idx → EReal) (g : ℕ → ℕ → ℝ) (r : ℕ) : Prop := ∀ (a : Fin N) (b : Fin M), a.val < r → v (ix2 a b) = (g a b : EReal)

theorem extend3 (v : View sig' κ' sp ⟨3, ![1, N, M]⟩ .f32) (f : v.ty.Contents (Elt Ideal)) (L : List (View.Piece (Elt Ideal) ⟨3, ![1, N, M]⟩ .f32)) {off : Fin 3 → ℕ}
    (inb : ∀ a, off a + (![1, n, M] : Fin 3 → ℕ) a ≤ (⟨3, ![1, N, M]⟩ : Shape).size a) (w : (⟨3, ![1, n, M]⟩ : Shape).Idx → EReal) (ho : off = ![0, r, 0])
    (h : First3 (v.read (Elt Ideal) (v.writes (Elt Ideal) f L)) g r) (hw : Is3 w fun a b => g (r + a) b) :
    First3 (v.read (Elt Ideal) (v.writes (Elt Ideal) f (⟨Rect.unit (s := ⟨3, ![1, N, M]⟩) off ![1, n, M] inb, w⟩ :: L))) g (r + n) := by
  intro a b hab
  by_cases ha : r ≤ a.val
  · refine Eq.trans (View.read_writes_cons_unit_of_mem v f inb w L (ix3 0 a b) (ix3 0 ⟨a.val - r, by omega⟩ b) ho fun d => ?_) ((hw ⟨a.val - r, by omega⟩ b).trans ?_)
    · match d with
      | ⟨0, _⟩ => rfl
      | ⟨1, _⟩ => show a.val = r + (a.val - r); omega
      | ⟨2, _⟩ => exact (Nat.zero_add _).symm
    · show ((g (r + (a.val - r)) b : ℝ) : EReal) = _
      rw [Nat.add_sub_cancel' ha]
  · refine Eq.trans (View.read_writes_cons_unit_of_not_mem v f inb w L (ix3 0 a b) ho (1 : Fin 3) ?_) (h a b (by omega))
    show a.val < r ∨ r + n ≤ a.val
    omega

theorem extend2 (v : View sig' κ' sp ⟨2, ![N, M]⟩ .f32) (f : v.ty.Contents (Elt Ideal)) (L : List (View.Piece (Elt Ideal) ⟨2, ![N, M]⟩ .f32)) {off : Fin 2 → ℕ}
    (inb : ∀ a, off a + (![n, M] : Fin 2 → ℕ) a ≤ (⟨2, ![N, M]⟩ : Shape).size a) (w : (⟨2, ![n, M]⟩ : Shape).Idx → EReal) (ho : off = ![r, 0])
    (h : First2 (v.read (Elt Ideal) (v.writes (Elt Ideal) f L)) g r) (hw : Is w fun a b => g (r + a) b) :
    First2 (v.read (Elt Ideal) (v.writes (Elt Ideal) f (⟨Rect.unit (s := ⟨2, ![N, M]⟩) off ![n, M] inb, w⟩ :: L))) g (r + n) := by
  intro a b hab
  by_cases ha : r ≤ a.val
  · refine Eq.trans (View.read_writes_cons_unit_of_mem v f inb w L (ix2 a b) (ix2 ⟨a.val - r, by omega⟩ b) ho fun d => ?_) ((hw ⟨a.val - r, by omega⟩ b).trans ?_)
    · match d with
      | ⟨0, _⟩ => show a.val = r + (a.val - r); omega
      | ⟨1, _⟩ => exact (Nat.zero_add _).symm
    · show ((g (r + (a.val - r)) b : ℝ) : EReal) = _
      rw [Nat.add_sub_cancel' ha]
  · refine Eq.trans (View.read_writes_cons_unit_of_not_mem v f inb w L (ix2 a b) ho (0 : Fin 2) ?_) (h a b (by omega))
    show a.val < r ∨ r + n ≤ a.val
    omega

end Extend

theorem off1_eq : ∀ k : Fin k0_t1_loop.trips, k0_off1 k = ![0, 1024 * k.val, 0] := by decide +kernel
theorem off2_eq : ∀ k : Fin k0_t1_loop.trips, k0_off2 k = ![1024 * k.val, 0] := by decide +kernel

/-- The rows' products of the cotangent with what the attention gave. -/
theorem products {v w : Vec Ideal S1x1024x128 .f32} {f g : ℕ → ℕ → ℝ} (hv : Is3 v f) (hw : Is3 w g) :
    Is (k0_pay2 (F := Ideal) v w) fun a _ => ∑ l : Fin 128, f a l * g a l := by
  intro a b
  pointwise [k0_pay2]
  simp only [hv _ _, hw _ _, ← EReal.coe_mul, Cert.LnReal.coe_sum]

theorem inb6 : ∀ (k : Fin k0_t2_loop.trips) (a : Fin 2), k0_off6 k 768#32 a + (![256, 1] : Fin 2 → ℕ) a ≤ S4096x1.size a := by decide +kernel
theorem inb4 : ∀ (k : Fin k0_t2_loop.trips) (a : Fin 3), k0_off4 k 768#32 a + (![1, 256, 128] : Fin 3 → ℕ) a ≤ S1x4096x128.size a := by decide +kernel

variable (c : Dev nD) (i : grid0.Coords) (arg1 : Memref sig .tc .vmem S1x4096x128 .bf16) (harg1 : arg1.IsWhole) (arg2 : Memref sig .tc .vmem S1x4096x128 .bf16) (harg2 : arg2.IsWhole) (arg3 : Memref sig .tc .vmem S1x4096x128 .bf16) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x4096x128 .f32) (harg9 : arg9.IsWhole) (arg10 : Memref sig .tc .vmem S4096x1 .f32) (harg10 : arg10.IsWhole) (arg11 : Memref sig .tc .vmem S1024x128 .f32) (harg11 : arg11.IsWhole) (arg12 : Memref sig .tc .vmem S1024x128 .f32) (harg12 : arg12.IsWhole)
variable {H : Head} {O : ℕ → ℕ → ℝ} {X1 : BufTy.Contents (Elt Ideal) arg1.view.ty} {X2 : BufTy.Contents (Elt Ideal) arg2.view.ty} {X3 : BufTy.Contents (Elt Ideal) arg3.view.ty} {X4 : BufTy.Contents (Elt Ideal) arg4.view.ty} {X5 : BufTy.Contents (Elt Ideal) arg5.view.ty} {X6 : BufTy.Contents (Elt Ideal) arg6.view.ty} {X10 : BufTy.Contents (Elt Ideal) arg10.view.ty}
variable (𝒱 : Variants) (bd : Option 𝒱.V)

theorem products_upto (h4 : Is3 (arg4.view.read (Elt Ideal) X4) O) (h6 : Is3 (arg6.view.read (Elt Ideal) X6) H.G) (hD : ∀ i, H.D i = ∑ l : Fin 128, H.G i l * O i l)
    (n : ℕ) (hn : n ≤ k0_t1_loop.trips) :
    First2 (arg10.view.read (Elt Ideal) (arg10.view.writes (Elt Ideal) arg10.view.junk (pb_k0_t1 (F := Ideal) 𝒱 c bd i arg1 harg1 arg2 harg2 arg3 harg3 arg4 harg4 arg5 harg5 arg6 harg6 arg7 harg7 arg8 harg8 arg9 harg9 arg10 harg10 arg11 harg11 arg12 harg12 X4 X6 n))) (fun a _ => H.D a) (1024 * n) := by
  induction n with
  | zero => exact fun a b h => absurd h (by omega)
  | succ n ih =>
    have e := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 X4 X6 ⟨n, hn⟩
    rw [show (⟨n, hn⟩ : Fin k0_t1_loop.trips).val + 1 = n + 1 from rfl] at e
    rw [e]
    unfold tripL_k0_t1 trip_k0_t1
    refine extend2 arg10.view _ _ _ _ (off2_eq ⟨n, hn⟩) (ih (Nat.le_of_succ_le hn)) ?_
    exact (products (load3 arg6.view X6 _ (off1_eq ⟨n, hn⟩) h6) (load3 arg4.view X4 _ (off1_eq ⟨n, hn⟩) h4)).congr fun a b => (hD _).symm

variable (R : RowsAre arg1 arg5 arg6 arg10 H X1 X5 X6 X10) (K2 : Is3 (arg2.view.read (Elt Ideal) X2) H.K) (V3 : Is3 (arg3.view.read (Elt Ideal) X3) H.V)

include R K2 V3 in
set_option maxHeartbeats 2000000 in
/-- One trip over a block of keys: the gradient of the queries takes the block's part, and the block of the other two gradients is written. -/
theorem trip_grads (k : Fin k0_t2_loop.trips) (f7 : BufTy.Contents (Elt Ideal) arg7.view.ty) (h7 : Is3 (arg7.view.read (Elt Ideal) f7) (dq H (1024 * k))) :
    Is3 (arg7.view.read (Elt Ideal) (arg7.view.writes (Elt Ideal) f7 ((trip_k0_t2 (F := Ideal) 𝒱 c bd i arg1 harg1 arg2 harg2 arg3 harg3 arg4 harg4 arg5 harg5 arg6 harg6 arg7 harg7 arg8 harg8 arg9 harg9 arg10 harg10 arg11 harg11 arg12 harg12 X1 X2 X3 X5 X6 X10 k).1 f7))) (dq H (1024 * (k + 1))) ∧
    (∃ inb w, (trip_k0_t2 (F := Ideal) 𝒱 c bd i arg1 harg1 arg2 harg2 arg3 harg3 arg4 harg4 arg5 harg5 arg6 harg6 arg7 harg7 arg8 harg8 arg9 harg9 arg10 harg10 arg11 harg11 arg12 harg12 X1 X2 X3 X5 X6 X10 k).2.1 f7 = [⟨Rect.unit (s := S1x4096x128) (k0_off3 k) ![1, 1024, 128] inb, w⟩] ∧ Is3 (n := 1024) (m := 128) w fun b l => dk H 4096 (1024 * k + b) l) ∧
    (∃ inb w, (trip_k0_t2 (F := Ideal) 𝒱 c bd i arg1 harg1 arg2 harg2 arg3 harg3 arg4 harg4 arg5 harg5 arg6 harg6 arg7 harg7 arg8 harg8 arg9 harg9 arg10 harg10 arg11 harg11 arg12 harg12 X1 X2 X3 X5 X6 X10 k).2.2.1 f7 = [⟨Rect.unit (s := S1x4096x128) (k0_off3 k) ![1, 1024, 128] inb, w⟩] ∧ Is3 (n := 1024) (m := 128) w fun b l => dv H 4096 (1024 * k + b) l) := by
  have e4 := trips4 k
  have e3 : 1024 * (k.val + 1 + Scf.trips (k0_t3_loop k).lb (k0_t3_loop k).ub (k0_t3_loop k).st) = 4096 := by rw [trips3]
  have e0 : top k 4 = 1024 * (k.val + 1) := by unfold top; omega
  have D3 := load2 arg10.view X10 (off := k0_off6 k 768#32) (n := 256) (m := 1) (inb6 k) (off6_eq k 3) R.dl
  have A7 := dq_4 arg1 arg2 arg3 arg5 arg6 arg7 arg10 R K2 V3 k f7 h7 (inb4 k) D3
  have A11 := dk_4 arg1 arg2 arg3 arg5 arg6 arg10 arg11 R K2 V3 k
  have A12 := dv_4 arg1 arg2 arg5 arg6 arg10 arg12 R K2 k
  rw [e0] at A7 A11 A12
  have U := trips_upto c i arg1 harg1 arg2 harg2 arg3 harg3 arg4 harg4 arg5 harg5 arg6 harg6 arg7 harg7 arg8 harg8 arg9 harg9 arg10 harg10 arg11 harg11 arg12 harg12 R k (keys_block arg2 K2 k) (vals_block arg3 V3 k) 𝒱 bd (trip_k0_t2.sl.arg13 k) (trip_k0_t2.sl.v6 k) (trip_k0_t2.sl.v32 k) (trip_k0_t2.sl.v259 k)
    (trip_k0_t2.sl.r_1 arg1 X1 k) (trip_k0_t2.sl.r_13 arg3 arg6 X3 X6 k) (trip_k0_t2.sl.r_17 arg1 arg2 arg5 X1 X2 X5 k) (trip_k0_t2.sl.r_18 arg1 arg2 arg5 arg6 arg12 X1 X2 X5 X6 k)
    _ _ _ ⟨A7, A11, A12⟩ (Scf.trips (k0_t3_loop k).lb (k0_t3_loop k).ub (k0_t3_loop k).st) le_rfl
  rw [e3] at U
  obtain ⟨U7, U11, U12⟩ := U
  rw [← View.writes_append] at U7 U11 U12
  unfold trip_k0_t2
  dsimp only
  unfold trip_k0_t2.sl.v265 trip_k0_t2.sl.v270
  rw [e4]
  simp only [pb_k0_t4, List.nil_append]
  refine ⟨U7.congr3 fun a b => ?_, ⟨k0_off3_inb k, _, rfl, ?_⟩, ⟨k0_off3_inb k, _, rfl, ?_⟩⟩
  · rw [part, if_pos a.isLt]
  · exact Is.unflat (load2z arg11.view _ _ rfl U11) _
  · exact Is.unflat (load2z arg12.view _ _ rfl U12) _

include R K2 V3 in
/-- Before trip `n`: the gradient of the queries holds the parts of the first `1024 * n` keys, and those keys' gradients are written. -/
theorem grads_upto {sig' : RefSig} {κ' : Kind} {sp : Space} (v : View sig' κ' sp S1x4096x128 .f32) (f : v.ty.Contents (Elt Ideal)) (G7 : BufTy.Contents (Elt Ideal) arg7.view.ty) (h7 : Is3 (arg7.view.read (Elt Ideal) G7) fun _ _ => 0)
    (n : ℕ) (hn : n ≤ k0_t2_loop.trips) :
    Is3 (arg7.view.read (Elt Ideal) (arg7.view.writes (Elt Ideal) G7 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 X1 X2 X3 X5 X6 X10 G7 n).1)) (dq H (1024 * n)) ∧
    First3 (v.read (Elt Ideal) (v.writes (Elt Ideal) f (pb_k0_t2 (F := Ideal) 𝒱 c bd i arg1 harg1 arg2 harg2 arg3 harg3 arg4 harg4 arg5 harg5 arg6 harg6 arg7 harg7 arg8 harg8 arg9 harg9 arg10 harg10 arg11 harg11 arg12 harg12 X1 X2 X3 X5 X6 X10 G7 n).2.1)) (dk H 4096) (1024 * n) ∧
    First3 (v.read (Elt Ideal) (v.writes (Elt Ideal) f (pb_k0_t2 (F := Ideal) 𝒱 c bd i arg1 harg1 arg2 harg2 arg3 harg3 arg4 harg4 arg5 harg5 arg6 harg6 arg7 harg7 arg8 harg8 arg9 harg9 arg10 harg10 arg11 harg11 arg12 harg12 X1 X2 X3 X5 X6 X10 G7 n).2.2)) (dv H 4096) (1024 * n) := by
  induction n with
  | zero => exact ⟨h7.congr3 fun a b => (Finset.sum_range_zero _).symm, fun a b h => absurd h (by omega), fun a b h => absurd h (by omega)⟩
  | succ n ih =>
    obtain ⟨i7, i8, i9⟩ := ih (Nat.le_of_succ_le hn)
    have e := pb_k0_t2_succ (F := Ideal) 𝒱 c bd i arg1 harg1 arg2 harg2 arg3 harg3 arg4 harg4 arg5 harg5 arg6 harg6 arg7 harg7 arg8 harg8 arg9 harg9 arg10 harg10 arg11 harg11 arg12 harg12 X1 X2 X3 X5 X6 X10 G7 ⟨n, hn⟩
    rw [show (⟨n, hn⟩ : Fin k0_t2_loop.trips).val + 1 = n + 1 from rfl] at e
    rw [e]
    dsimp only [pieces_k0_t2]
    obtain ⟨t7, ⟨inb8, w8, q8, t8⟩, ⟨inb9, w9, q9, t9⟩⟩ := trip_grads c i arg1 harg1 arg2 harg2 arg3 harg3 arg4 harg4 arg5 harg5 arg6 harg6 arg7 harg7 arg8 harg8 arg9 harg9 arg10 harg10 arg11 harg11 arg12 harg12 𝒱 bd R K2 V3 ⟨n, hn⟩ _ i7
    rw [← View.writes_append] at t7
    refine ⟨t7, ?_, ?_⟩
    · rw [q8]; exact extend3 v f _ inb8 w8 (off3_eq ⟨n, hn⟩) i8 t8
    · rw [q9]; exact extend3 v f _ inb9 w9 (off3_eq ⟨n, hn⟩) i9 t9

end Cert.AttnIdeal.Gen

end
-- ==== Proof.AttnHead.lean ====
/- What the call writes into the three gradients of one head, at exact arithmetic. -/
module

public import proofs.«01_k».proof.Proof.AttnGrad

@[expose] public section

set_option maxRecDepth 16384

noncomputable section

namespace Cert.AttnIdeal.Gen

open Idealize.ShloMosaic Idealize.ShloMosaic.TcCoe Idealize.ShloMosaic.Tactic
open Idealize.ShloMosaic.Pointwise Cert.AttnReal Cert.AttnIdeal.Pay

/-- The gradient of the queries starts from zeros. -/
theorem zeros_at : Is3 (k0_pay1 (F := Ideal)) fun _ _ => 0 := fun a b => by
  pointwise [k0_pay1]
  exact EReal.coe_zero.symm

section Body

variable (c : Dev nD) (i : grid0.Coords) (arg1 : Memref sig .tc .vmem S1x4096x128 .bf16) (harg1 : arg1.IsWhole) (arg2 : Memref sig .tc .vmem S1x4096x128 .bf16) (harg2 : arg2.IsWhole) (arg3 : Memref sig .tc .vmem S1x4096x128 .bf16) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x4096x128 .f32) (harg9 : arg9.IsWhole) (arg10 : Memref sig .tc .vmem S4096x1 .f32) (harg10 : arg10.IsWhole) (arg11 : Memref sig .tc .vmem S1024x128 .f32) (harg11 : arg11.IsWhole) (arg12 : Memref sig .tc .vmem S1024x128 .f32) (harg12 : arg12.IsWhole)
variable {H : Head} {O : ℕ → ℕ → ℝ} {x0 x1 x2 : Vec Ideal S1x4096x128 .bf16} {x3 x4 x5 : Vec Ideal S1x4096x128 .f32}
variable (h0 : Is3 x0 H.Q) (h1 : Is3 x1 H.K) (h2 : Is3 x2 H.V) (h3 : Is3 x3 O) (h4 : Is3 x4 fun i _ => H.L i) (h5 : Is3 x5 H.G)
  (hD : ∀ i, H.D i = ∑ l : Fin 128, H.G i l * O i l)

include h0 h1 h2 h3 h4 h5 hD in
theorem body_grads {sig' : RefSig} {κ' : Kind} {sp : Space} (v : View sig' κ' sp S1x4096x128 .f32) (f : v.ty.Contents (Elt Ideal)) :
    Is3 (v.read (Elt Ideal) (v.writes (Elt Ideal) f ((allPieces (F := Ideal) c i arg1 harg1 arg2 harg2 arg3 harg3 arg4 harg4 arg5 harg5 arg6 harg6 arg7 harg7 arg8 harg8 arg9 harg9 arg10 harg10 arg11 harg11 arg12 harg12 x0 x1 x2 x3 x4 x5).1 ++ zeros))) (dq H 4096) ∧
    Is3 (v.read (Elt Ideal) (v.writes (Elt Ideal) f (allPieces (F := Ideal) c i arg1 harg1 arg2 harg2 arg3 harg3 arg4 harg4 arg5 harg5 arg6 harg6 arg7 harg7 arg8 harg8 arg9 harg9 arg10 harg10 arg11 harg11 arg12 harg12 x0 x1 x2 x3 x4 x5).2.1)) (dk H 4096) ∧
    Is3 (v.read (Elt Ideal) (v.writes (Elt Ideal) f (allPieces (F := Ideal) c i arg1 harg1 arg2 harg2 arg3 harg3 arg4 harg4 arg5 harg5 arg6 harg6 arg7 harg7 arg8 harg8 arg9 harg9 arg10 harg10 arg11 harg11 arg12 harg12 x0 x1 x2 x3 x4 x5).2.2)) (dv H 4096) := by
  have r0 := harg1.read_unread x0
  have r1 := harg2.read_unread x1
  have r2 := harg3.read_unread x2
  have r3 := harg4.read_unread x3
  have r4 := harg5.read_unread x4
  have r5 := harg6.read_unread x5
  have hp := products_upto c i arg1 harg1 arg2 harg2 arg3 harg3 arg4 harg4 arg5 harg5 arg6 harg6 arg7 harg7 arg8 harg8 arg9 harg9 arg10 harg10 arg11 harg11 arg12 harg12 Variants.none none (r3.symm ▸ h3) (r5.symm ▸ h5) hD k0_t1_loop.trips le_rfl
  have R : RowsAre arg1 arg5 arg6 arg10 H (harg1.unread x0) (harg5.unread x4) (harg6.unread x5) (rowsAt (F := Ideal) c i arg1 harg1 arg2 harg2 arg3 harg3 arg4 harg4 arg5 harg5 arg6 harg6 arg7 harg7 arg8 harg8 arg9 harg9 arg10 harg10 arg11 harg11 arg12 harg12 x3 x5) :=
    ⟨r0.symm ▸ h0, r4.symm ▸ h4, r5.symm ▸ h5, fun a b => hp a b (lt_of_lt_of_eq a.isLt (by decide +kernel))⟩
  have h7 : Is3 (arg7.view.read (Elt Ideal) (arg7.view.writes (Elt Ideal) arg7.view.junk (zeros (F := Ideal)))) fun _ _ => 0 :=
    fill3 arg7.view _ _ _ _ rfl zeros_at
  obtain ⟨g7, g8, g9⟩ := grads_upto c i arg1 harg1 arg2 harg2 arg3 harg3 arg4 harg4 arg5 harg5 arg6 harg6 arg7 harg7 arg8 harg8 arg9 harg9 arg10 harg10 arg11 harg11 arg12 harg12 Variants.none none R (r1.symm ▸ h1) (r2.symm ▸ h2) v f _ h7 k0_t2_loop.trips le_rfl
  have e : 1024 * k0_t2_loop.trips = 4096 := by decide +kernel
  rw [e] at g7 g8 g9
  refine ⟨?_, fun a b => g8 a b a.isLt, fun a b => g9 a b a.isLt⟩
  rw [← View.writes_append] at g7
  intro a b
  refine Eq.trans (congrFun (View.read_writes_of_cover v f arg7.view arg7.view.junk _ ?_) (ix3 0 a b)) (g7 a b)
  exact allPieces_cover7 (F := Ideal) c i arg1 harg1 arg2 harg2 arg3 harg3 arg4 harg4 arg5 harg5 arg6 harg6 arg7 harg7 arg8 harg8 arg9 harg9 arg10 harg10 arg11 harg11 arg12 harg12 x0 x1 x2 x3 x4 x5

end Body

variable (m : (ℓ : Loc nD τ sig) → Buf (Elt Ideal) ℓ) {H : Head} {O : ℕ → ℕ → ℝ}

/-- Where the six blocks of head `t` are a head's, what is left for it are its gradients. -/
theorem head_grads (c : Dev nD) (t : Fin cfg0.N) (h0 : Is3 (iblk m c 0 t) H.Q) (h1 : Is3 (iblk m c 1 t) H.K) (h2 : Is3 (iblk m c 2 t) H.V)
    (h3 : Is3 (iblk m c 3 t) O) (h4 : Is3 (iblk m c 4 t) fun i _ => H.L i) (h5 : Is3 (iblk m c 5 t) H.G) (hD : ∀ i, H.D i = ∑ l : Fin 128, H.G i l * O i l) :
    Is3 (dqAt m c t) (dq H 4096) ∧ Is3 (dkAt m c t) (dk H 4096) ∧ Is3 (dvAt m c t) (dv H 4096) :=
  body_grads c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) h0 h1 h2 h3 h4 h5 hD blockView blockView.junk

end Cert.AttnIdeal.Gen

end
-- ==== Proof.AttnArrays.lean ====
/- The attention's call: its three result arrays after the run, read head by head, and the blocks of the arrays it reads. -/
module

public import proofs.«01_k».proof.Proof.AttnHead
public import Idealize.ShloMosaic.Lib.Pipeline.Value
public import Idealize.ShloMosaic.Lib.Claim

@[expose] public section

set_option maxRecDepth 16384

noncomputable section

namespace Cert.AttnIdeal.Arrays

open Cert.AttnIdeal Cert.AttnIdeal.Gen Idealize.ShloMosaic Idealize.ShloMosaic.TcCoe Idealize.ShloMosaic.Pointwise Idealize.SL.Sem

variable (m : (ℓ : Loc nD τ sig) → Buf (Elt Ideal) ℓ) (ρ : Dev nD → PrngReg)

/-- Every window's block at head `t` is that head's. -/
theorem head_of (t : Fin cfg0.N) : win0_0.index t = ![t.val, 0, 0] ∧ win0_1.index t = ![t.val, 0, 0] ∧ win0_2.index t = ![t.val, 0, 0] ∧
    win0_3.index t = ![t.val, 0, 0] ∧ win0_4.index t = ![t.val, 0, 0] ∧ win0_5.index t = ![t.val, 0, 0] ∧
    win0_6.index t = ![t.val, 0, 0] ∧ win0_7.index t = ![t.val, 0, 0] ∧ win0_8.index t = ![t.val, 0, 0] :=
  (by decide +kernel : ∀ t : Fin grid0.N, win0_0.index t = ![t.val, 0, 0] ∧ win0_1.index t = ![t.val, 0, 0] ∧ win0_2.index t = ![t.val, 0, 0] ∧
    win0_3.index t = ![t.val, 0, 0] ∧ win0_4.index t = ![t.val, 0, 0] ∧ win0_5.index t = ![t.val, 0, 0] ∧
    win0_6.index t = ![t.val, 0, 0] ∧ win0_7.index t = ![t.val, 0, 0] ∧ win0_8.index t = ![t.val, 0, 0]) t

theorem same {t t' : Fin cfg0.N} (h : (![t.val, 0, 0] : Fin 3 → ℕ) = ![t'.val, 0, 0]) : t = t' := Fin.ext (congrFun h 0)

/-- The gradient by the queries after the run, at head `t`. -/
theorem arr_dq (c : Dev nD) (t : Fin cfg0.N) (a : Fin 4096) (b : Fin 128) (i : S8x4096x128.Idx)
    (h0 : (i 0).val = t.val) (h1 : (i 1).val = a.val) (h2 : (i 2).val = b.val) : (dats m 0 c).arrAt 6 cfg0.N i = dqAt m c t (ix3 0 a b) := by
  have h := congrFun ((dats m 0 c).read_blk_arrAt_eq_flushed 6 (fun t t' _ _ hne => (cfg0.win 6).disjoint_blk fun e => hne (same ((head_of t).2.2.2.2.2.2.1.symm.trans (Eq.trans e (head_of t').2.2.2.2.2.2.1)))) cfg0.N t t.isLt (flush0_6 t)) (ix3 0 a b)
  rw [show (dats m 0 c).flushed 6 t = _ from congrArg ((cfg0.win 6).cut (grid0.coords t)) (after0_6 m c t), View.read_apply] at h
  refine Eq.trans (congrArg _ (funext fun d => Fin.ext ?_)) h
  have e := (head_of t).2.2.2.2.2.2.1
  match d with
  | ⟨0, _⟩ => show (i 0).val = win0_6.index t 0 * 1 + 1 * 0; rw [congrFun e 0]; show _ = t.val * 1 + 1 * 0; omega
  | ⟨1, _⟩ => show (i 1).val = win0_6.index t 1 * 4096 + 1 * a.val; rw [congrFun e 1]; show _ = 0 * 4096 + 1 * a.val; omega
  | ⟨2, _⟩ => show (i 2).val = win0_6.index t 2 * 128 + 1 * b.val; rw [congrFun e 2]; show _ = 0 * 128 + 1 * b.val; omega

/-- The gradient by the keys after the run, at head `t`. -/
theorem arr_dk (c : Dev nD) (t : Fin cfg0.N) (a : Fin 4096) (b : Fin 128) (i : S8x4096x128.Idx)
    (h0 : (i 0).val = t.val) (h1 : (i 1).val = a.val) (h2 : (i 2).val = b.val) : (dats m 0 c).arrAt 7 cfg0.N i = dkAt m c t (ix3 0 a b) := by
  have h := congrFun ((dats m 0 c).read_blk_arrAt_eq_flushed 7 (fun t t' _ _ hne => (cfg0.win 7).disjoint_blk fun e => hne (same ((head_of t).2.2.2.2.2.2.2.1.symm.trans (Eq.trans e (head_of t').2.2.2.2.2.2.2.1)))) cfg0.N t t.isLt (flush0_7 t)) (ix3 0 a b)
  rw [show (dats m 0 c).flushed 7 t = _ from congrArg ((cfg0.win 7).cut (grid0.coords t)) (after0_7 m c t), View.read_apply] at h
  refine Eq.trans (congrArg _ (funext fun d => Fin.ext ?_)) h
  have e := (head_of t).2.2.2.2.2.2.2.1
  match d with
  | ⟨0, _⟩ => show (i 0).val = win0_7.index t 0 * 1 + 1 * 0; rw [congrFun e 0]; show _ = t.val * 1 + 1 * 0; omega
  | ⟨1, _⟩ => show (i 1).val = win0_7.index t 1 * 4096 + 1 * a.val; rw [congrFun e 1]; show _ = 0 * 4096 + 1 * a.val; omega
  | ⟨2, _⟩ => show (i 2).val = win0_7.index t 2 * 128 + 1 * b.val; rw [congrFun e 2]; show _ = 0 * 128 + 1 * b.val; omega

/-- The gradient by the values after the run, at head `t`. -/
theorem arr_dv (c : Dev nD) (t : Fin cfg0.N) (a : Fin 4096) (b : Fin 128) (i : S8x4096x128.Idx)
    (h0 : (i 0).val = t.val) (h1 : (i 1).val = a.val) (h2 : (i 2).val = b.val) : (dats m 0 c).arrAt 8 cfg0.N i = dvAt m c t (ix3 0 a b) := by
  have h := congrFun ((dats m 0 c).read_blk_arrAt_eq_flushed 8 (fun t t' _ _ hne => (cfg0.win 8).disjoint_blk fun e => hne (same ((head_of t).2.2.2.2.2.2.2.2.symm.trans (Eq.trans e (head_of t').2.2.2.2.2.2.2.2)))) cfg0.N t t.isLt (flush0_8 t)) (ix3 0 a b)
  rw [show (dats m 0 c).flushed 8 t = _ from congrArg ((cfg0.win 8).cut (grid0.coords t)) (after0_8 m c t), View.read_apply] at h
  refine Eq.trans (congrArg _ (funext fun d => Fin.ext ?_)) h
  have e := (head_of t).2.2.2.2.2.2.2.2
  match d with
  | ⟨0, _⟩ => show (i 0).val = win0_8.index t 0 * 1 + 1 * 0; rw [congrFun e 0]; show _ = t.val * 1 + 1 * 0; omega
  | ⟨1, _⟩ => show (i 1).val = win0_8.index t 1 * 4096 + 1 * a.val; rw [congrFun e 1]; show _ = 0 * 4096 + 1 * a.val; omega
  | ⟨2, _⟩ => show (i 2).val = win0_8.index t 2 * 128 + 1 * b.val; rw [congrFun e 2]; show _ = 0 * 128 + 1 * b.val; omega

theorem block0 (c : Dev nD) (t : Fin cfg0.N) (h : Fin 8) (ht : t.val = h.val) (a : Fin 4096) (b : Fin 128) :
    iblk m c 0 t (ix3 0 a b) = V m c main_v36 (ix3 h a b) := by
  unfold iblk
  rw [View.read_apply]
  refine congrArg (V m c main_v36) (funext fun d => Fin.ext ?_)
  have e := (head_of t).1
  match d with
  | ⟨0, _⟩ => show win0_0.index t 0 * 1 + 1 * 0 = h.val; rw [congrFun e 0]; show t.val * 1 + 1 * 0 = _; omega
  | ⟨1, _⟩ => show win0_0.index t 1 * 4096 + 1 * a.val = a.val; rw [congrFun e 1]; show 0 * 4096 + 1 * a.val = _; omega
  | ⟨2, _⟩ => show win0_0.index t 2 * 128 + 1 * b.val = b.val; rw [congrFun e 2]; show 0 * 128 + 1 * b.val = _; omega

theorem block1 (c : Dev nD) (t : Fin cfg0.N) (h : Fin 8) (ht : t.val = h.val) (a : Fin 4096) (b : Fin 128) :
    iblk m c 1 t (ix3 0 a b) = V m c main_v39 (ix3 h a b) := by
  unfold iblk
  rw [View.read_apply]
  refine congrArg (V m c main_v39) (funext fun d => Fin.ext ?_)
  have e := (head_of t).2.1
  match d with
  | ⟨0, _⟩ => show win0_1.index t 0 * 1 + 1 * 0 = h.val; rw [congrFun e 0]; show t.val * 1 + 1 * 0 = _; omega
  | ⟨1, _⟩ => show win0_1.index t 1 * 4096 + 1 * a.val = a.val; rw [congrFun e 1]; show 0 * 4096 + 1 * a.val = _; omega
  | ⟨2, _⟩ => show win0_1.index t 2 * 128 + 1 * b.val = b.val; rw [congrFun e 2]; show 0 * 128 + 1 * b.val = _; omega

theorem block2 (c : Dev nD) (t : Fin cfg0.N) (h : Fin 8) (ht : t.val = h.val) (a : Fin 4096) (b : Fin 128) :
    iblk m c 2 t (ix3 0 a b) = V m c main_v44 (ix3 h a b) := by
  unfold iblk
  rw [View.read_apply]
  refine congrArg (V m c main_v44) (funext fun d => Fin.ext ?_)
  have e := (head_of t).2.2.1
  match d with
  | ⟨0, _⟩ => show win0_2.index t 0 * 1 + 1 * 0 = h.val; rw [congrFun e 0]; show t.val * 1 + 1 * 0 = _; omega
  | ⟨1, _⟩ => show win0_2.index t 1 * 4096 + 1 * a.val = a.val; rw [congrFun e 1]; show 0 * 4096 + 1 * a.val = _; omega
  | ⟨2, _⟩ => show win0_2.index t 2 * 128 + 1 * b.val = b.val; rw [congrFun e 2]; show 0 * 128 + 1 * b.val = _; omega

theorem block3 (c : Dev nD) (t : Fin cfg0.N) (h : Fin 8) (ht : t.val = h.val) (a : Fin 4096) (b : Fin 128) :
    iblk m c 3 t (ix3 0 a b) = V m c main_v22 (ix3 h a b) := by
  unfold iblk
  rw [View.read_apply]
  refine congrArg (V m c main_v22) (funext fun d => Fin.ext ?_)
  have e := (head_of t).2.2.2.1
  match d with
  | ⟨0, _⟩ => show win0_3.index t 0 * 1 + 1 * 0 = h.val; rw [congrFun e 0]; show t.val * 1 + 1 * 0 = _; omega
  | ⟨1, _⟩ => show win0_3.index t 1 * 4096 + 1 * a.val = a.val; rw [congrFun e 1]; show 0 * 4096 + 1 * a.val = _; omega
  | ⟨2, _⟩ => show win0_3.index t 2 * 128 + 1 * b.val = b.val; rw [congrFun e 2]; show 0 * 128 + 1 * b.val = _; omega

theorem block4 (c : Dev nD) (t : Fin cfg0.N) (h : Fin 8) (ht : t.val = h.val) (a : Fin 4096) (b : Fin 128) :
    iblk m c 4 t (ix3 0 a b) = V m c main_v29 (ix3 h a b) := by
  unfold iblk
  rw [View.read_apply]
  refine congrArg (V m c main_v29) (funext fun d => Fin.ext ?_)
  have e := (head_of t).2.2.2.2.1
  match d with
  | ⟨0, _⟩ => show win0_4.index t 0 * 1 + 1 * 0 = h.val; rw [congrFun e 0]; show t.val * 1 + 1 * 0 = _; omega
  | ⟨1, _⟩ => show win0_4.index t 1 * 4096 + 1 * a.val = a.val; rw [congrFun e 1]; show 0 * 4096 + 1 * a.val = _; omega
  | ⟨2, _⟩ => show win0_4.index t 2 * 128 + 1 * b.val = b.val; rw [congrFun e 2]; show 0 * 128 + 1 * b.val = _; omega

theorem block5 (c : Dev nD) (t : Fin cfg0.N) (h : Fin 8) (ht : t.val = h.val) (a : Fin 4096) (b : Fin 128) :
    iblk m c 5 t (ix3 0 a b) = V m c main_v47 (ix3 h a b) := by
  unfold iblk
  rw [View.read_apply]
  refine congrArg (V m c main_v47) (funext fun d => Fin.ext ?_)
  have e := (head_of t).2.2.2.2.2.1
  match d with
  | ⟨0, _⟩ => show win0_5.index t 0 * 1 + 1 * 0 = h.val; rw [congrFun e 0]; show t.val * 1 + 1 * 0 = _; omega
  | ⟨1, _⟩ => show win0_5.index t 1 * 4096 + 1 * a.val = a.val; rw [congrFun e 1]; show 0 * 4096 + 1 * a.val = _; omega
  | ⟨2, _⟩ => show win0_5.index t 2 * 128 + 1 * b.val = b.val; rw [congrFun e 2]; show 0 * 128 + 1 * b.val = _; omega

/-- The three arrays and the arguments after the run. -/
theorem run_blocks : θ_run defs (onTc (τ := τ) (main (F := Ideal))) ⟨m, fun _ => 0, ρ⟩ fun r => ∀ c : Dev nD,
      r.2.mem ((c.tc : Thread nD τ).loc main_v48_0) = (dats m 0 c).arrAt 6 cfg0.N
      ∧ r.2.mem ((c.tc : Thread nD τ).loc main_v48_1) = (dats m 0 c).arrAt 7 cfg0.N
      ∧ r.2.mem ((c.tc : Thread nD τ).loc main_v48_2) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h.2 c).1 6, (h.2 c).1 7, (h.2 c).1 8, h.1 c⟩) (θ_run_and (unchanged m ρ) (run_main m ρ))

end Cert.AttnIdeal.Arrays

end
-- ==== Proof.AttnSoft.lean ====
/- Causal attention over the reals: the softmax's weights from the scores, its output, and the three gradients in the form in which
   they are derived, and that a head's block-wise gradients (of padded rows, a base-two logarithm of the weights' sums and the rows'
   products) are these. -/
module

public import proofs.«01_k».proof.Proof.AttnReal

@[expose] public section

noncomputable section

namespace Cert.AttnReal

/-- A sum whose terms vanish past `n`. -/
theorem pad_sum (n N : ℕ) (h : n ≤ N) (f : ℕ → ℝ) (hf : ∀ l, n ≤ l → f l = 0) : (∑ l : Fin N, f l.val) = ∑ l : Fin n, f l.val := by
  rw [Fin.sum_univ_eq_sum_range f N, Fin.sum_univ_eq_sum_range f n]
  refine (Finset.sum_subset (fun x hx => Finset.mem_range.mpr (lt_of_lt_of_le (Finset.mem_range.mp hx) h)) fun x _ hx => hf x ?_).symm
  exact Nat.le_of_not_lt fun h' => hx (Finset.mem_range.mpr h')

variable (q k v : ℕ → ℕ → ℕ → ℝ) (g : ℕ → ℕ → ℝ) (h : ℕ)

/-- The scaled score of query row `i` and key row `j`. -/
def score (i j : ℕ) : ℝ := (∑ e : Fin 96, q i h e * k j h e) * scale

/-- The sum of the exponentials of a row's scores. -/
def norm (i : ℕ) : ℝ := ∑ j : Fin 4096, if j.val ≤ i then Real.exp (score q k h i j) else 0

/-- The softmax's weight. -/
def weight (i j : ℕ) : ℝ := if j ≤ i then Real.exp (score q k h i j) / norm q k h i else 0

/-- The attention's output. -/
def outp (i e : ℕ) : ℝ := ∑ j : Fin 4096, weight q k h i j * v j h e

/-- The gradient by a weight. -/
def gw (i j : ℕ) : ℝ := ∑ e : Fin 64, g i (h * 64 + e) * v j h e

/-- The gradient by a scaled score's dot product. -/
def gs (i j : ℕ) : ℝ := weight q k h i j * (gw v g h i j - ∑ j' : Fin 4096, weight q k h i j' * gw v g h i j') * scale

/-- The gradients by the queries, the keys and the values. -/
def gq (i l : ℕ) : ℝ := ∑ j : Fin 4096, gs q k v g h i j * k j h l
def gk (j l : ℕ) : ℝ := ∑ i : Fin 4096, gs q k v g h i j * q i h l
def gv (j l : ℕ) : ℝ := ∑ i : Fin 4096, weight q k h i j * g i (h * 64 + l)

theorem norm_pos (i : ℕ) : 0 < norm q k h i := by
  unfold norm
  refine lt_of_lt_of_le (Real.exp_pos (score q k h i 0)) ?_
  refine le_trans (le_of_eq ?_) (Finset.single_le_sum (f := fun j : Fin 4096 => if j.val ≤ i then Real.exp (score q k h i j) else 0)
    (fun j _ => ?_) (Finset.mem_univ (0 : Fin 4096)))
  · simp
  · split
    · exact (Real.exp_pos _).le
    · exact le_rfl

/-- A shift of a row's scores cancels. -/
theorem norm_shift (i : ℕ) (M : ℝ) : (∑ j : Fin 4096, if j.val ≤ i then Real.exp (score q k h i j - M) else 0) = Real.exp (-M) * norm q k h i := by
  unfold norm
  rw [Finset.mul_sum]
  refine Finset.sum_congr rfl fun j _ => ?_
  split
  · rw [← Real.exp_add]; ring_nf
  · rw [mul_zero]

theorem weight_shift (i j : ℕ) (M : ℝ) : (if j ≤ i then Real.exp (score q k h i j - M) else 0) / (Real.exp (-M) * norm q k h i) = weight q k h i j := by
  unfold weight
  split
  · rw [sub_eq_neg_add, Real.exp_add, mul_div_mul_left _ _ (Real.exp_pos _).ne']
  · rw [zero_div]

theorem log_shift (i : ℕ) (M : ℝ) : M + Real.log (Real.exp (-M) * norm q k h i) = Real.log (norm q k h i) := by
  rw [Real.log_mul (Real.exp_pos _).ne' (norm_pos q k h i).ne', Real.log_exp]; ring

/-- The output's rows, padded. -/
def padO (i l : ℕ) : ℝ := if l < 64 then outp q k v h i l else 0

/-- The head as the call is given it. -/
def headOf : Head where
  Q i l := if l < 96 then q i h l else 0
  K j l := if l < 96 then k j h l else 0
  V j l := (if l < 64 then v j h l else 0) + (if l = 64 then 1 else 0)
  G i l := if l < 64 then g i (h * 64 + l) else 0
  L i := Real.log (norm q k h i) / Real.log 2
  D i := ∑ l : Fin 128, (if l.val < 64 then g i (h * 64 + l) else 0) * padO q k v h i l

theorem sc_eq (i j : ℕ) : sc (headOf q k v g h) i j * scale = score q k h i j := by
  unfold sc score headOf
  dsimp only
  rw [pad_sum 96 128 (by omega) (fun l => (if l < 96 then q i h l else 0) * (if l < 96 then k j h l else 0)) fun l hl => by rw [if_neg (by omega), zero_mul]]
  exact congrArg (· * scale) (Finset.sum_congr rfl fun l _ => by rw [if_pos l.isLt, if_pos l.isLt])

theorem p_eq (i j : ℕ) : p (headOf q k v g h) i j = weight q k h i j := by
  unfold p weight
  split
  · have hl : Real.log 2 ≠ 0 := (Real.log_pos (by norm_num)).ne'
    unfold pw
    show Real.rpow 2 (sc (headOf q k v g h) i j * scale2 - Real.log (norm q k h i) / Real.log 2) = _
    rw [show sc (headOf q k v g h) i j * scale2 = score q k h i j * (Real.log 2)⁻¹ by rw [← sc_eq q k v g h i j]; unfold scale2 scale; ring]
    rw [Real.rpow_eq_pow, Real.rpow_def_of_pos (by norm_num), show Real.log 2 * (score q k h i j * (Real.log 2)⁻¹ - Real.log (norm q k h i) / Real.log 2) = score q k h i j - Real.log (norm q k h i) by
      field_simp]
    rw [Real.exp_sub, Real.exp_log (norm_pos q k h i)]
  · rfl

theorem dp_eq (i j : ℕ) : dp (headOf q k v g h) i j = gw v g h i j := by
  unfold dp gw headOf
  dsimp only
  rw [pad_sum 64 128 (by omega) (fun l => (if l < 64 then g i (h * 64 + l) else 0) * ((if l < 64 then v j h l else 0) + (if l = 64 then 1 else 0))) fun l hl => by rw [if_neg (by omega), zero_mul]]
  refine Finset.sum_congr rfl fun l _ => ?_
  have := l.isLt
  rw [if_pos l.isLt, if_pos l.isLt, if_neg (by omega), add_zero]

/-- A row's product of cotangent and output is the weighted sum of the weights' gradients. -/
theorem D_eq (i : ℕ) : (headOf q k v g h).D i = ∑ j : Fin 4096, weight q k h i j * gw v g h i j := by
  unfold headOf
  dsimp only
  rw [pad_sum 64 128 (by omega) (fun l => (if l < 64 then g i (h * 64 + l) else 0) * padO q k v h i l) fun l hl => by rw [if_neg (by omega), zero_mul]]
  rw [Finset.sum_congr rfl fun (l : Fin 64) _ => show (if l.val < 64 then g i (h * 64 + l) else 0) * padO q k v h i l = ∑ j : Fin 4096, g i (h * 64 + l) * (weight q k h i j * v j h l) by
    unfold padO outp; rw [if_pos l.isLt, if_pos l.isLt, Finset.mul_sum]]
  rw [Finset.sum_comm]
  refine Finset.sum_congr rfl fun j _ => ?_
  unfold gw
  rw [Finset.mul_sum]
  exact Finset.sum_congr rfl fun l _ => by ring

theorem ds_eq (i j : ℕ) : ds (headOf q k v g h) i j = gs q k v g h i j := by
  unfold ds gs
  rw [p_eq, dp_eq, D_eq]

theorem dq_eq (i l : ℕ) : dq (headOf q k v g h) 4096 i l = if l < 96 then gq q k v g h i l else 0 := by
  unfold dq gq
  rw [← Fin.sum_univ_eq_sum_range (fun j => ds (headOf q k v g h) i j * (headOf q k v g h).K j l) 4096]
  split
  · refine Finset.sum_congr rfl fun j _ => ?_
    show ds (headOf q k v g h) i j * (if l < 96 then k j h l else 0) = _
    rw [ds_eq, if_pos (by assumption)]
  · refine Finset.sum_eq_zero fun j _ => ?_
    show ds (headOf q k v g h) i j * (if l < 96 then k j h l else 0) = _
    rw [if_neg (by assumption), mul_zero]

theorem dk_eq (j l : ℕ) : dk (headOf q k v g h) 4096 j l = if l < 96 then gk q k v g h j l else 0 := by
  unfold dk gk
  rw [← Fin.sum_univ_eq_sum_range (fun i => ds (headOf q k v g h) i j * (headOf q k v g h).Q i l) 4096]
  split
  · refine Finset.sum_congr rfl fun i _ => ?_
    show ds (headOf q k v g h) i j * (if l < 96 then q i h l else 0) = _
    rw [ds_eq, if_pos (by assumption)]
  · refine Finset.sum_eq_zero fun i _ => ?_
    show ds (headOf q k v g h) i j * (if l < 96 then q i h l else 0) = _
    rw [if_neg (by assumption), mul_zero]

theorem dv_eq (j l : ℕ) : dv (headOf q k v g h) 4096 j l = if l < 64 then gv q k g h j l else 0 := by
  unfold dv gv
  rw [← Fin.sum_univ_eq_sum_range (fun i => p (headOf q k v g h) i j * (headOf q k v g h).G i l) 4096]
  split
  · refine Finset.sum_congr rfl fun i _ => ?_
    show p (headOf q k v g h) i j * (if l < 64 then g i (h * 64 + l) else 0) = _
    rw [p_eq, if_pos (by assumption)]
  · refine Finset.sum_eq_zero fun i _ => ?_
    show p (headOf q k v g h) i j * (if l < 64 then g i (h * 64 + l) else 0) = _
    rw [if_neg (by assumption), mul_zero]

end Cert.AttnReal

end
-- ==== Proof.AttnLayout.lean ====
/- Arrays of head, row and lane read at an index, a row's maximum where some entries are real, and quotients and logarithms of reals. -/
module

public import proofs.«01_k».proof.Proof.LnReal
public import Idealize.ShloMosaic.Lib.Pointwise
public import Idealize.ShloMosaic.Lib.KernelVsHost
public import Idealize.ShloMosaic.PureOps.Ideal.Laws

@[expose] public section

noncomputable section

namespace Cert.AttnLayout

open Idealize.ShloMosaic

theorem at3 {α : Type} {n m l : ℕ} (x : (⟨3, ![n, m, l]⟩ : Shape).Idx → α) {i : (⟨3, ![n, m, l]⟩ : Shape).Idx} {a : Fin n} {b : Fin m} {c : Fin l}
    (h0 : (i 0).val = a.val) (h1 : (i 1).val = b.val) (h2 : (i 2).val = c.val) : x i = x (ix3 a b c) :=
  congrArg x (funext fun d => Fin.ext (by match d with | ⟨0, _⟩ => exact h0 | ⟨1, _⟩ => exact h1 | ⟨2, _⟩ => exact h2))

theorem at2 {α : Type} {n m : ℕ} (x : (⟨2, ![n, m]⟩ : Shape).Idx → α) {i : (⟨2, ![n, m]⟩ : Shape).Idx} {a : Fin n} {b : Fin m}
    (h0 : (i 0).val = a.val) (h1 : (i 1).val = b.val) : x i = x (ix2 a b) :=
  congrArg x (funext fun d => Fin.ext (by match d with | ⟨0, _⟩ => exact h0 | ⟨1, _⟩ => exact h1))

/-- Lanes padded by zeros. -/
theorem pad_lanes {A B n N e : ℕ} {u : Shape} (x : (⟨3, ![A, B, n]⟩ : Shape).Idx → EReal) (v : u.Idx → EReal) (hv : ∀ j, v j = 0)
    (h : Shape.Pads ⟨3, ![A, B, n]⟩ ![0, 0, 0] ![0, 0, e] ![0, 0, 0] ⟨3, ![A, B, N]⟩) (hu : 0 < u.numel) (a : Fin A) (b : Fin B) (l : Fin N) :
    pad ⟨3, ![A, B, N]⟩ ![0, 0, 0] ![0, 0, e] ![0, 0, 0] x v h hu (ix3 a b l) = if hl : l.val < n then x (ix3 a b ⟨l.val, hl⟩) else 0 := by
  by_cases hl : l.val < n
  · rw [dif_pos hl]
    refine pad_apply_of_inside _ _ _ _ _ _ _ (ix3 a b l) (ix3 a b (⟨l.val, hl⟩ : Fin n)) fun d => ?_
    match d with
    | ⟨0, _⟩ => show a.val = 0 + a.val * 1; omega
    | ⟨1, _⟩ => show b.val = 0 + b.val * 1; omega
    | ⟨2, _⟩ => show l.val = 0 + l.val * 1; omega
  · rw [dif_neg hl]
    refine (pad_apply_of_not_inside _ _ _ _ _ _ _ (ix3 a b l) 2 fun hin => hl ?_).trans (hv _)
    have h2 : (l.val - 0) / 1 < n := hin.2.2
    omega

/-- Entries that are real in the first lanes, padded. -/
theorem pad_real {A B n N e : ℕ} {u : Shape} (x : (⟨3, ![A, B, n]⟩ : Shape).Idx → EReal) (v : u.Idx → EReal) (hv : ∀ j, v j = 0)
    (h : Shape.Pads ⟨3, ![A, B, n]⟩ ![0, 0, 0] ![0, 0, e] ![0, 0, 0] ⟨3, ![A, B, N]⟩) (hu : 0 < u.numel) (f : ℕ → ℕ → ℕ → ℝ)
    (hx : ∀ a b l, x (ix3 a b l) = (f a.val b.val l.val : EReal)) (a : Fin A) (b : Fin B) (l : Fin N) :
    pad ⟨3, ![A, B, N]⟩ ![0, 0, 0] ![0, 0, e] ![0, 0, 0] x v h hu (ix3 a b l) = ((if l.val < n then f a b l else 0 : ℝ) : EReal) := by
  rw [pad_lanes x v hv h hu a b l]
  split
  · exact hx _ _ _
  · exact EReal.coe_zero.symm

theorem div_real (a : ℝ) {b : ℝ} (hb : b ≠ 0) : Ideal.div (a : EReal) (b : EReal) = ((a / b : ℝ) : EReal) := by
  rw [Ideal.div_coe hb, ← EReal.coe_mul]; congr 1; ring

theorem neg_inf : Ideal.ofBits .f32 0xFF800000#32 = ⊥ := by simp [Ideal.ofBits, Ideal.ieee]

/-- The maximum of a row none of whose entries is `⊤` and one of which is not `⊥` is a real number. -/
theorem fold_max_real {n : ℕ} (f : Fin n → EReal) (ht : ∀ k, f k ≠ ⊤) (k0 : Fin n) (hb : f k0 ≠ ⊥) :
    ∃ M : ℝ, (Finset.univ : Finset (Fin n)).fold max (⊥ : EReal) f = (M : EReal) := by
  have key : ∀ s : Finset (Fin n), s.fold max (⊥ : EReal) f ≠ ⊤ ∧ ∀ k ∈ s, f k ≤ s.fold max (⊥ : EReal) f := fun s => by
    classical
    induction s using Finset.induction_on with
    | empty => exact ⟨by rw [Finset.fold_empty]; exact bot_ne_top, fun k hk => absurd hk (Finset.notMem_empty k)⟩
    | insert a s ha ih =>
      rw [Finset.fold_insert ha]
      refine ⟨fun e => ?_, fun k hk => ?_⟩
      · rcases max_choice (f a) (s.fold max (⊥ : EReal) f) with c | c
        · exact ht a (c.symm.trans e)
        · exact ih.1 (c.symm.trans e)
      · rcases Finset.mem_insert.mp hk with rfl | hk
        · exact le_max_left _ _
        · exact (ih.2 k hk).trans (le_max_right _ _)
  have h1 := (key Finset.univ).1
  have h2 := (key Finset.univ).2 k0 (Finset.mem_univ k0)
  exact ⟨_, (EReal.coe_toReal h1 fun e => hb (le_bot_iff.mp (h2.trans e.le))).symm⟩

/-- A maximum along the last axis, from `−∞`. -/
theorem reduce_max_real {A B C : ℕ} {u : Shape} (x : FVec Ideal ⟨3, ![A, B, C]⟩ .f32)
    (h : Shape.ReducesTo ⟨3, ![A, B, C]⟩ [2] ⟨2, ![A, B]⟩) (h' : Shape.Reduces ⟨3, ![A, B, C]⟩ [2] ⟨2, ![A, B]⟩) (hu : 0 < u.numel) (a : Fin A) (b : Fin B)
    (ht : ∀ c, x (ix3 a b c) ≠ ⊤) (c0 : Fin C) (hb : x (ix3 a b c0) ≠ ⊥) :
    ∃ M : ℝ, Host.reduce (FloatOps.maximumf : Ideal .f32 → Ideal .f32 → Ideal .f32) x (constant (F := Ideal) u .f32 0xFF800000#32) h hu (ix2 a b) = (M : EReal) := by
  obtain ⟨M, hM⟩ := fold_max_real (fun c => x (ix3 a b c)) ht c0 hb
  refine ⟨M, Eq.trans ?_ hM⟩
  rw [hostReduce_maximumf_eq_multiReduction x 0xFF800000#32 h hu h' (by decide) (by rfl)]
  refine (Ideal.multiReduction_maximumf_single x _ h' _ _ (ix2 a b)).trans ?_
  rw [show (FloatOps.ofBits FTy.f32 0xFF800000#32 : Ideal .f32) = (⊥ : EReal) from neg_inf]
  refine congrArg (fun f => Finset.fold max (⊥ : EReal) f Finset.univ) (funext fun k => congrArg x (funext fun d => Fin.ext ?_))
  match d with
  | ⟨0, _⟩ => rfl
  | ⟨1, _⟩ => rfl
  | ⟨2, _⟩ => rfl

end Cert.AttnLayout

end
-- ==== Proof.AttnRef.lean ====
/- The attention's reference over real numbers: the stages of the derivative that jax takes, each at an index, when the arguments
   hold real numbers. -/
module

public import proofs.«01_k».proof.Proof.LnReal
public import proofs.«01_k».proof.Proof.AttnSoft
public import proofs.«01_k».proof.Proof.AttnLayout
public import proofs.«01_k».proof.Proof.Gen.AttnRefIdeal.Read
public import Idealize.ShloMosaic.Lib.KernelVsHost

@[expose] public section

set_option maxRecDepth 16384

noncomputable section

namespace Cert.AttnRefIdeal.Ref

open Cert.AttnRefIdeal Cert.AttnRefIdeal.Gen Cert.AttnRefIdeal.Read Cert.LnReal Cert.AttnReal Cert.AttnLayout Idealize.ShloMosaic

/-- The four arguments' entries are the real numbers `q`, `k`, `v`, `g`. -/
structure Args (x0 x1 : FVec Ideal S4096x8x96 .f32) (x2 : FVec Ideal S4096x8x64 .f32) (x3 : FVec Ideal S4096x512 .f32)
    (q k v : ℕ → ℕ → ℕ → ℝ) (g : ℕ → ℕ → ℝ) : Prop where
  h0 : ∀ i h e, x0 (ix3 i h e) = (q i.val h.val e.val : EReal)
  h1 : ∀ i h e, x1 (ix3 i h e) = (k i.val h.val e.val : EReal)
  h2 : ∀ i h e, x2 (ix3 i h e) = (v i.val h.val e.val : EReal)
  h3 : ∀ i l, x3 (ix2 i l) = (g i.val l.val : EReal)

variable {x0 x1 : FVec Ideal S4096x8x96 .f32} {x2 : FVec Ideal S4096x8x64 .f32} {x3 : FVec Ideal S4096x512 .f32}
variable {q k v : ℕ → ℕ → ℕ → ℝ} {g : ℕ → ℕ → ℝ}
variable (a : Args x0 x1 x2 x3 q k v g) (h : Fin 8) (i j : Fin 4096)

theorem scale_word : Ideal.ofBits .f32 0x3DD105EC#32 = (scale : EReal) := by
  unfold scale; simp [Ideal.ofBits, Ideal.ieee, -EReal.coe_mul]; norm_num

theorem zero_word : Ideal.ofBits .f32 0x00000000#32 = ((0 : ℝ) : EReal) := (Ideal.ofBits_zero _).trans EReal.coe_zero.symm

/-- Whether a key's row is at or before a query's. -/
theorem mask_real : val_main_v10_1 (F := Ideal) (ix3 h i j) = if j.val ≤ i.val then 1#1 else 0#1 := by
  pointwise [val_main_v10_1, val_main_v9, val_main_v8, val_main_v7, val_main_v6, val_main_v5, val_main_v4, val_main_v3]
  have t : ∀ n : Fin 4096, (BitVec.ofNat 32 n.val).toInt = n.val := fun n => by
    rw [BitVec.toInt_eq_toNat_of_lt (by rw [BitVec.toNat_ofNat]; omega), BitVec.toNat_ofNat, Nat.mod_eq_of_lt (by omega)]
  show BitVec.ofBool ((BitVec.ofNat 32 j.val).sle (BitVec.ofNat 32 i.val)) = _
  rw [BitVec.sle_eq_decide, t, t]
  by_cases c : j.val ≤ i.val
  · rw [if_pos c, decide_eq_true (by exact_mod_cast c)]; rfl
  · rw [if_neg c, decide_eq_false (by exact_mod_cast c)]; rfl

theorem row_max (y : FVec Ideal S8x4096x4096 .f32) (h1 : ∀ c : Fin 4096, y (ix3 h i c) ≠ ⊤) (h2 : y (ix3 h i i) ≠ ⊥) :
    ∃ M : ℝ, Host.reduce (FloatOps.maximumf : Ideal .f32 → Ideal .f32 → Ideal .f32) y (constant (F := Ideal) S_ .f32 0xFF800000#32)
      reducesTo_S8x4096x4096_S8x4096_d2 h_S_ (ix2 h i) = (M : EReal) :=
  reduce_max_real (A := 8) (B := 4096) (C := 4096) y reducesTo_S8x4096x4096_S8x4096_d2 (by decide) h_S_ h i h1 i h2

theorem max_of (x0 x1 : FVec Ideal S4096x8x96 .f32) (y : FVec Ideal S8x4096x4096 .f32) (hy : val_main_v10_0 (F := Ideal) x0 x1 = y)
    (H : ∃ M : ℝ, Host.reduce (FloatOps.maximumf : Ideal .f32 → Ideal .f32 → Ideal .f32) y (constant (F := Ideal) S_ .f32 0xFF800000#32)
      reducesTo_S8x4096x4096_S8x4096_d2 h_S_ (ix2 h i) = (M : EReal)) :
    ∃ M : ℝ, val_main_v11 (F := Ideal) x0 x1 (ix2 h i) = (M : EReal) := by
  unfold val_main_v11 val_main_cst_1
  rw [hy]
  exact H

include a in
theorem score_real : val_main_v2 (F := Ideal) x0 x1 (ix3 h i j) = (score q k h i j : EReal) := by
  rw [val_main_v2_apply, val_main_v0_apply]
  show (∑ e : Fin 96, x0 (lidx_main_v0 (ix3 h i j) e) * x1 (ridx_main_v0 (ix3 h i j) e)) * Ideal.ofBits .f32 0x3DD105EC#32 = _
  rw [Finset.sum_congr rfl fun (e : Fin 96) _ => show x0 (lidx_main_v0 (ix3 h i j) e) * x1 (ridx_main_v0 (ix3 h i j) e) = ((q i h e * k j h e : ℝ) : EReal) by
    rw [EReal.coe_mul]; exact congrArg₂ (· * ·) ((at3 x0 rfl rfl rfl).trans (a.h0 i h e)) ((at3 x1 rfl rfl rfl).trans (a.h1 j h e))]
  rw [coe_sum, scale_word, ← EReal.coe_mul]
  rfl

include a in
theorem masked_real : val_main_v10_0 (F := Ideal) x0 x1 (ix3 h i j) = if j.val ≤ i.val then (score q k h i j : EReal) else ⊥ := by
  rw [val_main_v10_0_apply, mask_real, score_real a]
  by_cases c : j.val ≤ i.val
  · rw [if_pos c, if_pos c]; rfl
  · rw [if_neg c, if_neg c]; exact neg_inf

include a in
/-- A row's maximum is real. -/
theorem max_real : ∃ M : ℝ, val_main_v11 (F := Ideal) x0 x1 (ix2 h i) = (M : EReal) := by
  refine max_of h i x0 x1 (val_main_v10_0 (F := Ideal) x0 x1) (Eq.refl _) (row_max h i (val_main_v10_0 (F := Ideal) x0 x1) (fun c => ?_) ?_)
  · rw [masked_real a]
    split
    · exact EReal.coe_ne_top _
    · exact bot_ne_top
  · rw [masked_real a, if_pos le_rfl]
    exact EReal.coe_ne_bot _

/-- The maximum that is subtracted, at a column. -/
theorem shift_real {M : ℝ} (hM : val_main_v11 (F := Ideal) x0 x1 (ix2 h i) = (M : EReal)) : val_main_v29 (F := Ideal) x0 x1 (ix3 h i j) = (M : EReal) := by
  rw [val_main_v29_apply, val_main_v28_apply, val_main_v18_apply, at2 (val_main_v11 (F := Ideal) x0 x1) (i := idx_main_v28 (idx_main_v29 (ix3 h i j))) (a := h) (b := i) rfl rfl, hM]
  show max (Ideal.ofBits .f32 0xFF800000#32) (M : EReal) = M
  rw [neg_inf]
  exact max_eq_right bot_le

include a in
theorem exp_real {M : ℝ} (hM : val_main_v11 (F := Ideal) x0 x1 (ix2 h i) = (M : EReal)) :
    val_main_v31 (F := Ideal) x0 x1 (ix3 h i j) = ((if j.val ≤ i.val then Real.exp (score q k h i j - M) else 0 : ℝ) : EReal) := by
  rw [val_main_v31_apply, val_main_v30_apply, shift_real h i j hM, masked_real a]
  by_cases c : j.val ≤ i.val
  · rw [if_pos c, if_pos c]
    show FloatOps.hostUnary (F := Ideal) .exp ((score q k h i j : EReal) - (M : EReal)) = _
    rw [← EReal.coe_sub]
    rfl
  · rw [if_neg c, if_neg c]
    rfl

theorem sum_real {f : ℕ → ℝ} (he : ∀ j : Fin 4096, val_main_v31 (F := Ideal) x0 x1 (ix3 h i j) = (f j : EReal)) :
    val_main_v33 (F := Ideal) x0 x1 (ix3 h i 0) = ((∑ j : Fin 4096, f j : ℝ) : EReal) := by
  rw [val_main_v33_apply, val_main_v32_apply, val_main_cst_9_apply]
  rw [Finset.sum_congr rfl fun (j : Fin 4096) _ => (at3 (val_main_v31 (F := Ideal) x0 x1) (i := idx_main_v32 (idx_main_v33 (ix3 h i 0)) j) (a := h) (b := i) (c := j) rfl rfl rfl).trans (he j)]
  rw [coe_sum]
  show Ideal.ofBits .f32 0x00000000#32 + ((∑ j : Fin 4096, f j : ℝ) : EReal) = _
  rw [zero_word, ← EReal.coe_add, zero_add]

include a

/-- A row's exponentials and their sum, after a shift by some real. -/
theorem exps_real : ∃ M : ℝ, (∀ j : Fin 4096, val_main_v31 (F := Ideal) x0 x1 (ix3 h i j) = ((if j.val ≤ i.val then Real.exp (score q k h i j - M) else 0 : ℝ) : EReal)) ∧
    val_main_v33 (F := Ideal) x0 x1 (ix3 h i 0) = ((Real.exp (-M) * norm q k h i : ℝ) : EReal) := by
  obtain ⟨M, hM⟩ := max_real a h i
  refine ⟨M, fun j => exp_real a h i j hM, ?_⟩
  rw [sum_real h i (f := fun j => if j ≤ i.val then Real.exp (score q k h i j - M) else 0) fun j => exp_real a h i j hM, norm_shift]

theorem weight_real : val_main_v35 (F := Ideal) x0 x1 (ix3 h i j) = (weight q k h i j : EReal) := by
  obtain ⟨M, he, hl⟩ := exps_real a h i
  rw [val_main_v35_apply, val_main_v34_apply, he]
  refine Eq.trans (congrArg (Ideal.div _) ((at3 (val_main_v33 (F := Ideal) x0 x1) rfl rfl rfl).trans hl)) ?_
  rw [div_real _ (mul_pos (Real.exp_pos _) (norm_pos q k h i)).ne', weight_shift]

/-- The cotangent by head and lane. -/
theorem cot_real (e : Fin 64) : val_main_v43 (F := Ideal) x3 (ix3 h e i) = (g i (h * 64 + e) : EReal) := by
  rw [val_main_v43_apply, val_main_v42_apply]
  exact (at2 x3 (i := idx_main_v42 (idx_main_v43 (ix3 h e i))) (a := i) (b := ⟨h.val * 64 + e.val, by omega⟩)
    (by show ((i.val * 8 + h.val) * 64 + e.val) / 512 = i.val; omega) (by show ((i.val * 8 + h.val) * 64 + e.val) % 512 = h.val * 64 + e.val; omega)).trans (a.h3 _ _)

theorem gw_real : val_main_v44 (F := Ideal) x2 x3 (ix3 h i j) = (gw v g h i j : EReal) := by
  rw [val_main_v44_apply]
  rw [Finset.sum_congr rfl fun (e : Fin 64) _ => show val_main_v43 (F := Ideal) x3 (lidx_main_v44 (ix3 h i j) e) * x2 (ridx_main_v44 (ix3 h i j) e) = ((g i (h * 64 + e) * v j h e : ℝ) : EReal) by
    rw [EReal.coe_mul]; exact congrArg₂ (· * ·) ((at3 (val_main_v43 (F := Ideal) x3) rfl rfl rfl).trans (cot_real a h i e)) ((at3 x2 rfl rfl rfl).trans (a.h2 j h e))]
  rw [coe_sum]
  rfl

theorem gv_real (e : Fin 64) : val_main_v45 (F := Ideal) x0 x1 x3 (ix3 h e j) = (gv q k g h j e : EReal) := by
  rw [val_main_v45_apply]
  rw [Finset.sum_congr rfl fun (i : Fin 4096) _ => show val_main_v43 (F := Ideal) x3 (lidx_main_v45 (ix3 h e j) i) * val_main_v35 (F := Ideal) x0 x1 (ridx_main_v45 (ix3 h e j) i) = ((weight q k h i j * g i (h * 64 + e) : ℝ) : EReal) by
    rw [mul_comm (weight q k h i j), EReal.coe_mul]
    exact congrArg₂ (· * ·) ((at3 (val_main_v43 (F := Ideal) x3) rfl rfl rfl).trans (cot_real a h i e)) ((at3 (val_main_v35 (F := Ideal) x0 x1) rfl rfl rfl).trans (weight_real a h i j))]
  rw [coe_sum]
  rfl

/-- The gradient by a masked score, with the scale. -/
theorem gs_real : val_main_v61 (F := Ideal) x0 x1 x2 x3 (ix3 h i j) = (gs q k v g h i j : EReal) := by
  obtain ⟨M, he, hl⟩ := exps_real a h i
  have hl0 : Real.exp (-M) * norm q k h i ≠ 0 := (mul_pos (Real.exp_pos _) (norm_pos q k h i)).ne'
  have h49 : ∀ j : Fin 4096, val_main_v49 (F := Ideal) x0 x1 x2 x3 (ix3 h i j) = ((weight q k h i j * gw v g h i j / (Real.exp (-M) * norm q k h i) : ℝ) : EReal) := fun j => by
    pointwise [val_main_v49, val_main_v48, val_main_v47, val_main_v38, val_main_v37, val_main_cst_10, val_main_v36]
    rw [gw_real a, he, hl, ← EReal.coe_one, ← EReal.coe_mul, div_real _ (mul_ne_zero hl0 hl0), ← EReal.coe_mul, ← EReal.coe_mul, ← weight_shift q k h i j M]
    congr 1
    field_simp
  have h50 : val_main_v50 (F := Ideal) x0 x1 x2 x3 (ix2 h i) = ((∑ j : Fin 4096, weight q k h i j * gw v g h i j / (Real.exp (-M) * norm q k h i) : ℝ) : EReal) := by
    rw [val_main_v50_apply]
    show Ideal.ofBits .f32 0x00000000#32 + (∑ j : Fin 4096, val_main_v49 (F := Ideal) x0 x1 x2 x3 (idx_main_v50 (ix2 h i) j)) = _
    rw [Finset.sum_congr rfl fun (j : Fin 4096) _ => (at3 (val_main_v49 (F := Ideal) x0 x1 x2 x3) (i := idx_main_v50 (ix2 h i) j) (a := h) (b := i) (c := j) rfl rfl rfl).trans (h49 j)]
    rw [coe_sum, zero_word, ← EReal.coe_add, zero_add]
  have h55 : val_main_v55 (F := Ideal) x0 x1 x2 x3 (ix2 h i) = ((-(∑ j : Fin 4096, weight q k h i j * gw v g h i j / (Real.exp (-M) * norm q k h i)) : ℝ) : EReal) := by
    rw [val_main_v55_apply]
    show Ideal.ofBits .f32 0x00000000#32 + (∑ j : Fin 1, -(val_main_v51 (F := Ideal) x0 x1 x2 x3 (idx_main_v55 (ix2 h i) j))) = _
    rw [Fin.sum_univ_one, val_main_v51_apply]
    rw [(at2 (val_main_v50 (F := Ideal) x0 x1 x2 x3) (i := idx_main_v51 (idx_main_v55 (ix2 h i) 0)) (a := h) (b := i)
      (by show ((h.val * 4096 + i.val) * 1 + 0) / 4096 = _; omega) (by show ((h.val * 4096 + i.val) * 1 + 0) % 4096 = _; omega)).trans h50]
    rw [zero_word, ← EReal.coe_neg, ← EReal.coe_add, zero_add]
  have h59 : val_main_v59 (F := Ideal) x0 x1 x2 x3 (ix3 h i j) = ((weight q k h i j * (gw v g h i j - ∑ j' : Fin 4096, weight q k h i j' * gw v g h i j') : ℝ) : EReal) := by
    rw [val_main_v59_apply, mask_real]
    by_cases c : j.val ≤ i.val
    · rw [if_pos c]
      show val_main_v58 (F := Ideal) x0 x1 x2 x3 (ix3 h i j) = _
      pointwise [val_main_v58, val_main_v57, val_main_v54, val_main_v53, val_main_v56]
      rw [gw_real a, he, hl, h55, div_real _ hl0, ← EReal.coe_add, ← EReal.coe_mul, ← weight_shift q k h i j M, ← Finset.sum_div]
      congr 1
      field_simp
      ring
    · rw [if_neg c]
      rw [show weight q k h i j = 0 from if_neg c, zero_mul]
      exact zero_word
  rw [val_main_v61_apply, h59]
  show _ * Ideal.ofBits .f32 0x3DD105EC#32 = _
  rw [scale_word, ← EReal.coe_mul]
  rfl

theorem gk_real (e : Fin 96) : val_main_v62 (F := Ideal) x0 x1 x2 x3 (ix3 h j e) = (gk q k v g h j e : EReal) := by
  rw [val_main_v62_apply]
  rw [Finset.sum_congr rfl fun (i : Fin 4096) _ => show val_main_v61 (F := Ideal) x0 x1 x2 x3 (lidx_main_v62 (ix3 h j e) i) * x0 (ridx_main_v62 (ix3 h j e) i) = ((gs q k v g h i j * q i h e : ℝ) : EReal) by
    rw [EReal.coe_mul]; exact congrArg₂ (· * ·) ((at3 (val_main_v61 (F := Ideal) x0 x1 x2 x3) rfl rfl rfl).trans (gs_real a h i j)) ((at3 x0 rfl rfl rfl).trans (a.h0 i h e))]
  rw [coe_sum]
  rfl

theorem gq_real (e : Fin 96) : val_main_v64 (F := Ideal) x0 x1 x2 x3 (ix3 h i e) = (gq q k v g h i e : EReal) := by
  rw [val_main_v64_apply]
  rw [Finset.sum_congr rfl fun (j : Fin 4096) _ => show val_main_v61 (F := Ideal) x0 x1 x2 x3 (lidx_main_v64 (ix3 h i e) j) * x1 (ridx_main_v64 (ix3 h i e) j) = ((gs q k v g h i j * k j h e : ℝ) : EReal) by
    rw [EReal.coe_mul]; exact congrArg₂ (· * ·) ((at3 (val_main_v61 (F := Ideal) x0 x1 x2 x3) rfl rfl rfl).trans (gs_real a h i j)) ((at3 x1 rfl rfl rfl).trans (a.h1 j h e))]
  rw [coe_sum]
  rfl

omit a in
/-- The padding value. -/
theorem pad_zero (w : S_.Idx) : (sitofp .f32 (constantI S_ 32 0#32) : FVec Ideal S_ .f32) w = 0 := by
  show (((0#32 : BitVec 32).toInt : ℝ) : EReal) = 0
  simp

/-- The three results. -/
theorem dq_result (l : Fin 128) : val_main_v67 (F := Ideal) x0 x1 x2 x3 (ix3 h i l) = ((if l.val < 96 then gq q k v g h i l else 0 : ℝ) : EReal) :=
  pad_real (val_main_v66 (F := Ideal) x0 x1 x2 x3) _ pad_zero _ _ (fun h i l => gq q k v g h i l) (fun h i e => by
    pointwise [val_main_v66, val_main_v65]
    exact gq_real a h i e) h i l

theorem dk_result (l : Fin 128) : val_main_v69 (F := Ideal) x0 x1 x2 x3 (ix3 h j l) = ((if l.val < 96 then gk q k v g h j l else 0 : ℝ) : EReal) :=
  pad_real (val_main_v68 (F := Ideal) x0 x1 x2 x3) _ pad_zero _ _ (fun h j l => gk q k v g h j l) (fun h j e => by
    pointwise [val_main_v68, val_main_v63]
    exact gk_real a h j e) h j l

theorem dv_result (l : Fin 128) : val_main_v71 (F := Ideal) x0 x1 x3 (ix3 h j l) = ((if l.val < 64 then gv q k g h j l else 0 : ℝ) : EReal) :=
  pad_real (val_main_v70 (F := Ideal) x0 x1 x3) _ pad_zero _ _ (fun h j l => gv q k g h j l) (fun h j e => by
    pointwise [val_main_v70, val_main_v46]
    exact gv_real a h j e) h j l

end Cert.AttnRefIdeal.Ref

end
-- ==== Proof.AttnHost.lean ====
/- The attention's host lines: the six arrays that the call reads, as real numbers, where the arguments hold real numbers. They are
   the forward pass (scores, masked, exponentials, their sums, outputs, logarithms of the sums) and the layout by heads. -/
module

public import proofs.«01_k».proof.Proof.AttnArrays
public import proofs.«01_k».proof.Proof.AttnRef

@[expose] public section

set_option maxRecDepth 16384

noncomputable section

namespace Cert.AttnIdeal.Host

open Cert.AttnIdeal Cert.AttnIdeal.Gen Cert.LnReal Cert.AttnReal Cert.AttnLayout Idealize.ShloMosaic Idealize.ShloMosaic.TcCoe Idealize.SL.Sem

/-- The padding value. -/
def zero : FVec Ideal S_ .f32 := sitofp .f32 (constantI S_ 32 0#32)

theorem zero_at (j : S_.Idx) : zero j = 0 := by
  show (((0#32 : BitVec 32).toInt : ℝ) : EReal) = 0
  simp

/-- The masked scores. -/
def sHost (x0 x1 : FVec Ideal S4096x8x96 .f32) : FVec Ideal S8x4096x4096 .f32 :=
  select (broadcastInDim S8x4096x4096 ![0, 1, 2] bcast_S1x4096x4096_S8x4096x4096_0_1_2 (broadcastInDim S1x4096x4096 ![1, 2] bcast_S4096x4096_S1x4096x4096_1_2
      (cmpi .sge (broadcastInDim S4096x4096 ![0, 1] bcast_S4096x1_S4096x4096_0_1 (broadcastInDim S4096x1 ![0] bcast_S4096_S4096x1_0 (iotaInDim S4096 32 0)))
        (broadcastInDim S4096x4096 ![0, 1] bcast_S1x4096_S4096x4096_0_1 (broadcastInDim S1x4096 ![1] bcast_S4096_S1x4096_1 (iotaInDim S4096 32 0))))))
    (mulf (Host.dotGeneral dot_S4096x8x96_S4096x8x96_S8x4096x4096_2_2_0_0_1_1 none x0 x1) (broadcastInDim S8x4096x4096 ![] bcast_S_S8x4096x4096 (constant S_ .f32 0x3DD105EC#32)))
    (broadcastInDim S8x4096x4096 ![] bcast_S_S8x4096x4096 (constant S_ .f32 0xFF800000#32))

/-- The rows' maxima. -/
def mHost (s : FVec Ideal S8x4096x4096 .f32) : FVec Ideal S8x4096x1 .f32 :=
  broadcastInDim S8x4096x1 ![0, 1] bcast_S8x4096_S8x4096x1_0_1
    (Host.reduce (FloatOps.maximumf : Ideal .f32 → Ideal .f32 → Ideal .f32) s (constant S_ .f32 0xFF800000#32) reducesTo_S8x4096x4096_S8x4096_d2 h_S_)

/-- The exponentials. -/
def eHost (s : FVec Ideal S8x4096x4096 .f32) (u : FVec Ideal S8x4096x1 .f32) : FVec Ideal S8x4096x4096 .f32 :=
  Host.exp (subf s (broadcastInDim S8x4096x4096 ![0, 1, 2] bcast_S8x4096x1_S8x4096x4096_0_1_2 u))

/-- Their sums. -/
def lHost (e : FVec Ideal S8x4096x4096 .f32) : FVec Ideal S8x4096x1 .f32 :=
  broadcastInDim S8x4096x1 ![0, 1] bcast_S8x4096_S8x4096x1_0_1 (Host.reduceAdd e (constant S_ .f32 0x00000000#32) reducesTo_S8x4096x4096_S8x4096_d2 h_S_)

/-- The outputs. -/
def oHost (e : FVec Ideal S8x4096x4096 .f32) (l : FVec Ideal S8x4096x1 .f32) (x2 : FVec Ideal S4096x8x64 .f32) : FVec Ideal S8x4096x64 .f32 :=
  Host.dotGeneral dot_S8x4096x4096_S4096x8x64_S8x4096x64_2_0_1_2_0_1 none (Host.divf e (broadcastInDim S8x4096x4096 ![0, 1, 2] bcast_S8x4096x1_S8x4096x4096_0_1_2 l)) x2

/-- The logarithms of the sums to base two, in every lane. -/
def lseHost (u l : FVec Ideal S8x4096x1 .f32) : FVec Ideal S8x4096x128 .f32 :=
  broadcastInDim S8x4096x128 ![0, 1, 2] bcast_S8x4096x1_S8x4096x128_0_1_2
    (Host.divf (addf u (Host.log l)) (broadcastInDim S8x4096x1 ![] bcast_S_S8x4096x1 (Host.log (constant S_ .f32 0x40000000#32))))

/-- The queries or keys, by head, in 128 lanes. -/
def qHost (x : FVec Ideal S4096x8x96 .f32) : FVec Ideal S8x4096x128 .f32 :=
  pad S8x4096x128 ![0, 0, 0] ![0, 0, 32] ![0, 0, 0] (transpose S8x4096x96 [1, 0, 2] x transposes_S4096x8x96_S8x4096x96_1_0_2) zero pads_S8x4096x96_S8x4096x128_000_000_0320 h_S_

/-- The values, by head, in 128 lanes, with a one in lane 64. -/
def vHost (x : FVec Ideal S4096x8x64 .f32) : FVec Ideal S8x4096x128 .f32 :=
  addf (pad S8x4096x128 ![0, 0, 0] ![0, 0, 64] ![0, 0, 0] (transpose S8x4096x64 [1, 0, 2] x transposes_S4096x8x64_S8x4096x64_1_0_2) zero pads_S8x4096x64_S8x4096x128_000_000_0640 h_S_)
    (broadcastInDim S8x4096x128 ![0, 1, 2] bcast_S1x1x128_S8x4096x128_0_1_2
      (uitofp .f32 (cmpi .eq (iotaInDim S1x1x128 32 2) (broadcastInDim S1x1x128 ![] bcast_S_S1x1x128 (constantI S_ 32 64#32)))))

/-- The cotangents, by head, in 128 lanes. -/
def gHost (x : FVec Ideal S4096x512 .f32) : FVec Ideal S8x4096x128 .f32 :=
  pad S8x4096x128 ![0, 0, 0] ![0, 0, 64] ![0, 0, 0] (transpose S8x4096x64 [1, 0, 2] (shapeCast S4096x8x64 x shapeCasts_S4096x512_S4096x8x64) transposes_S4096x8x64_S8x4096x64_1_0_2)
    zero pads_S8x4096x64_S8x4096x128_000_000_0640 h_S_

section launch

variable (m : (ℓ : Loc nD τ sig) → Buf (Elt Ideal) ℓ) (c : Dev nD)

theorem V_q : V m c main_v36 = truncf .bf16 (qHost (m ((c : Thread nD τ).loc main_arg0))) bitsLt_bf16_f32 := by
  show StableHlo.after (List.flatten [hostOps0, hostOps0_1, hostOps0_2, hostOps0_3, hostOps0_4, hostOps0_5, hostOps0_6, hostOps0_7, hostOps0_8, hostOps0_9, hostOps0_10, hostOps0_11]) _ (Proc.devRef .tc main_v36) = _
  simp only [List.flatten_cons, List.flatten_nil, List.cons_append, List.nil_append]
  after_results
  rfl

theorem V_k : V m c main_v39 = truncf .bf16 (qHost (m ((c : Thread nD τ).loc main_arg1))) bitsLt_bf16_f32 := by
  show StableHlo.after (List.flatten [hostOps0, hostOps0_1, hostOps0_2, hostOps0_3, hostOps0_4, hostOps0_5, hostOps0_6, hostOps0_7, hostOps0_8, hostOps0_9, hostOps0_10, hostOps0_11]) _ (Proc.devRef .tc main_v39) = _
  simp only [List.flatten_cons, List.flatten_nil, List.cons_append, List.nil_append]
  after_results
  rfl

theorem V_v : V m c main_v44 = truncf .bf16 (vHost (m ((c : Thread nD τ).loc main_arg2))) bitsLt_bf16_f32 := by
  show StableHlo.after (List.flatten [hostOps0, hostOps0_1, hostOps0_2, hostOps0_3, hostOps0_4, hostOps0_5, hostOps0_6, hostOps0_7, hostOps0_8, hostOps0_9, hostOps0_10, hostOps0_11]) _ (Proc.devRef .tc main_v44) = _
  simp only [List.flatten_cons, List.flatten_nil, List.cons_append, List.nil_append]
  after_results
  rfl

theorem V_g : V m c main_v47 = gHost (m ((c : Thread nD τ).loc main_arg3)) := by
  show StableHlo.after (List.flatten [hostOps0, hostOps0_1, hostOps0_2, hostOps0_3, hostOps0_4, hostOps0_5, hostOps0_6, hostOps0_7, hostOps0_8, hostOps0_9, hostOps0_10, hostOps0_11]) _ (Proc.devRef .tc main_v47) = _
  simp only [List.flatten_cons, List.flatten_nil, List.cons_append, List.nil_append]
  after_results
  rfl

theorem V_o : V m c main_v22 = pad S8x4096x128 ![0, 0, 0] ![0, 0, 64] ![0, 0, 0]
    (oHost (eHost (sHost (m ((c : Thread nD τ).loc main_arg0)) (m ((c : Thread nD τ).loc main_arg1))) (mHost (sHost (m ((c : Thread nD τ).loc main_arg0)) (m ((c : Thread nD τ).loc main_arg1)))))
      (lHost (eHost (sHost (m ((c : Thread nD τ).loc main_arg0)) (m ((c : Thread nD τ).loc main_arg1))) (mHost (sHost (m ((c : Thread nD τ).loc main_arg0)) (m ((c : Thread nD τ).loc main_arg1))))))
      (m ((c : Thread nD τ).loc main_arg2))) zero pads_S8x4096x64_S8x4096x128_000_000_0640 h_S_ := by
  show StableHlo.after (List.flatten [hostOps0, hostOps0_1, hostOps0_2, hostOps0_3, hostOps0_4, hostOps0_5, hostOps0_6, hostOps0_7, hostOps0_8, hostOps0_9, hostOps0_10, hostOps0_11]) _ (Proc.devRef .tc main_v22) = _
  simp only [List.flatten_cons, List.flatten_nil, List.cons_append, List.nil_append]
  after_results
  rfl

theorem V_l : V m c main_v29 = lseHost (mHost (sHost (m ((c : Thread nD τ).loc main_arg0)) (m ((c : Thread nD τ).loc main_arg1))))
      (lHost (eHost (sHost (m ((c : Thread nD τ).loc main_arg0)) (m ((c : Thread nD τ).loc main_arg1))) (mHost (sHost (m ((c : Thread nD τ).loc main_arg0)) (m ((c : Thread nD τ).loc main_arg1)))))) := by
  show StableHlo.after (List.flatten [hostOps0, hostOps0_1, hostOps0_2, hostOps0_3, hostOps0_4, hostOps0_5, hostOps0_6, hostOps0_7, hostOps0_8, hostOps0_9, hostOps0_10, hostOps0_11]) _ (Proc.devRef .tc main_v29) = _
  simp only [List.flatten_cons, List.flatten_nil, List.cons_append, List.nil_append]
  after_results
  rfl

end launch

/-! The stages, each at an index. -/

theorem sHost_eq (x0 x1 : FVec Ideal S4096x8x96 .f32) : sHost x0 x1 = Cert.AttnRefIdeal.Read.val_main_v10_0 (F := Ideal) x0 x1 := rfl

theorem mHost_at (s : FVec Ideal S8x4096x4096 .f32) (h : Fin 8) (i : Fin 4096) : mHost s (ix3 h i 0) =
    Host.reduce (FloatOps.maximumf : Ideal .f32 → Ideal .f32 → Ideal .f32) s (constant (F := Ideal) S_ .f32 0xFF800000#32) reducesTo_S8x4096x4096_S8x4096_d2 h_S_ (ix2 h i) := by
  unfold mHost
  generalize Host.reduce (FloatOps.maximumf : Ideal .f32 → Ideal .f32 → Ideal .f32) s (constant (F := Ideal) S_ .f32 0xFF800000#32) reducesTo_S8x4096x4096_S8x4096_d2 h_S_ = y
  pointwise

theorem eHost_at (s : FVec Ideal S8x4096x4096 .f32) (u : FVec Ideal S8x4096x1 .f32) (h : Fin 8) (i j : Fin 4096) :
    eHost s u (ix3 h i j) = FloatOps.hostUnary .exp (FloatOps.subf (s (ix3 h i j)) (u (ix3 h i 0))) := by
  unfold eHost
  pointwise

theorem lHost_at (e : FVec Ideal S8x4096x4096 .f32) (h : Fin 8) (i : Fin 4096) {f : ℕ → ℝ} (he : ∀ j : Fin 4096, e (ix3 h i j) = (f j : EReal)) :
    lHost e (ix3 h i 0) = ((∑ j : Fin 4096, f j : ℝ) : EReal) := by
  unfold lHost
  pointwise
  rw [Finset.sum_congr rfl fun (j : Fin 4096) _ => he j, coe_sum]

theorem oHost_at (e : FVec Ideal S8x4096x4096 .f32) (l : FVec Ideal S8x4096x1 .f32) (x2 : FVec Ideal S4096x8x64 .f32) (h : Fin 8) (i : Fin 4096) (b : Fin 64) :
    oHost e l x2 (ix3 h i b) = ∑ j : Fin 4096, Ideal.div (e (ix3 h i j)) (l (ix3 h i 0)) * x2 (ix3 j h b) := by
  unfold oHost
  pointwise

theorem lseHost_at (u l : FVec Ideal S8x4096x1 .f32) (h : Fin 8) (i : Fin 4096) (b : Fin 128) :
    lseHost u l (ix3 h i b) = Ideal.div (u (ix3 h i 0) + Ideal.log (l (ix3 h i 0))) (Ideal.log (Ideal.ofBits .f32 0x40000000#32)) := by
  unfold lseHost
  pointwise

theorem two_word : Ideal.ofBits .f32 0x40000000#32 = ((2 : ℝ) : EReal) := by simp [Ideal.ofBits, Ideal.ieee, -EReal.coe_mul]; norm_num

theorem log_real {r : ℝ} (hr : 0 < r) : Ideal.log (r : EReal) = (Real.log r : EReal) := by rw [Ideal.log_coe, if_neg hr.not_ge]

section reals

variable {x0 x1 : FVec Ideal S4096x8x96 .f32} {x2 : FVec Ideal S4096x8x64 .f32} {x3 : FVec Ideal S4096x512 .f32}
variable {q k v : ℕ → ℕ → ℕ → ℝ} {g : ℕ → ℕ → ℝ}

theorem qHost_real {x : FVec Ideal S4096x8x96 .f32} (hx : ∀ i h e, x (ix3 i h e) = (q i.val h.val e.val : EReal)) (h : Fin 8) (i : Fin 4096) (l : Fin 128) :
    qHost x (ix3 h i l) = ((if l.val < 96 then q i h l else 0 : ℝ) : EReal) := by
  refine pad_real _ zero zero_at _ _ (fun a b e => q b a e) (fun a b e => ?_) h i l
  rw [← hx b a e]
  pointwise

theorem gHost_real (hx : ∀ i l, x3 (ix2 i l) = (g i.val l.val : EReal)) (h : Fin 8) (i : Fin 4096) (l : Fin 128) :
    gHost x3 (ix3 h i l) = ((if l.val < 64 then g i (h * 64 + l) else 0 : ℝ) : EReal) := by
  refine pad_real _ zero zero_at _ _ (fun a b e => g b (a * 64 + e)) (fun a b e => ?_) h i l
  rw [← hx b ⟨a.val * 64 + e.val, by omega⟩]
  pointwise

theorem lane_one (l : Fin 128) : (FloatOps.uitofp .f32 (IntOp.cmpi .eq (BitVec.ofNat 32 l.val) 64#32) : Ideal .f32) = ((if l.val = 64 then 1 else 0 : ℝ) : EReal) := by
  show (((BitVec.ofBool (BitVec.ofNat 32 l.val == 64#32)).toNat : ℝ) : EReal) = _
  by_cases c : l.val = 64
  · rw [if_pos c, c]; simp
  · have e : (BitVec.ofNat 32 l.val == 64#32) = false := by
      rw [beq_eq_false_iff_ne]
      intro e
      have := congrArg BitVec.toNat e
      rw [BitVec.toNat_ofNat, Nat.mod_eq_of_lt (by omega)] at this
      exact c this
    rw [if_neg c, e]; simp

theorem vHost_real (hx : ∀ i h e, x2 (ix3 i h e) = (v i.val h.val e.val : EReal)) (h : Fin 8) (i : Fin 4096) (l : Fin 128) :
    vHost x2 (ix3 h i l) = (((if l.val < 64 then v i h l else 0) + (if l.val = 64 then 1 else 0) : ℝ) : EReal) := by
  have hp := pad_real (N := 128) (e := 64) (transpose S8x4096x64 [1, 0, 2] x2 transposes_S4096x8x64_S8x4096x64_1_0_2) zero zero_at pads_S8x4096x64_S8x4096x128_000_000_0640 h_S_
    (fun a b e => v b a e) (fun a b e => by rw [← hx b a e]; pointwise) h i l
  have ho : broadcastInDim S8x4096x128 ![0, 1, 2] bcast_S1x1x128_S8x4096x128_0_1_2
      (uitofp (F := Ideal) .f32 (cmpi .eq (iotaInDim S1x1x128 32 2) (broadcastInDim S1x1x128 ![] bcast_S_S1x1x128 (constantI S_ 32 64#32)))) (ix3 h i l) = ((if l.val = 64 then 1 else 0 : ℝ) : EReal) := by
    pointwise
    exact lane_one l
  rw [EReal.coe_add]
  exact congrArg₂ (· + ·) hp ho

variable (a : Cert.AttnRefIdeal.Ref.Args x0 x1 x2 x3 q k v g) (h : Fin 8) (i : Fin 4096)
include a

/-- A row's maximum, exponentials and their sum. -/
theorem rows_real : ∃ M : ℝ, mHost (sHost x0 x1) (ix3 h i 0) = (M : EReal) ∧
    (∀ j : Fin 4096, eHost (sHost x0 x1) (mHost (sHost x0 x1)) (ix3 h i j) = ((if j.val ≤ i.val then Real.exp (score q k h i j - M) else 0 : ℝ) : EReal)) ∧
    lHost (eHost (sHost x0 x1) (mHost (sHost x0 x1))) (ix3 h i 0) = ((Real.exp (-M) * norm q k h i : ℝ) : EReal) := by
  have hs : ∀ j : Fin 4096, sHost x0 x1 (ix3 h i j) = if j.val ≤ i.val then (score q k h i j : EReal) else ⊥ := fun j => by
    rw [sHost_eq]; exact Cert.AttnRefIdeal.Ref.masked_real a h i j
  generalize sHost x0 x1 = s at hs ⊢
  obtain ⟨M, hM⟩ := Cert.AttnRefIdeal.Ref.row_max h i s (fun c => by
    rw [hs]
    split
    · exact EReal.coe_ne_top _
    · exact bot_ne_top) (by rw [hs, if_pos le_rfl]; exact EReal.coe_ne_bot _)
  have hm : mHost s (ix3 h i 0) = (M : EReal) := (mHost_at s h i).trans hM
  have he : ∀ j : Fin 4096, eHost s (mHost s) (ix3 h i j) = ((if j.val ≤ i.val then Real.exp (score q k h i j - M) else 0 : ℝ) : EReal) := fun j => by
    rw [eHost_at, hm, hs]
    by_cases c : j.val ≤ i.val
    · rw [if_pos c, if_pos c]
      show FloatOps.hostUnary (F := Ideal) .exp ((score q k h i j : EReal) - (M : EReal)) = _
      rw [← EReal.coe_sub]
      rfl
    · rw [if_neg c, if_neg c]
      rfl
  refine ⟨M, hm, he, ?_⟩
  rw [lHost_at _ h i (f := fun j => if j ≤ i.val then Real.exp (score q k h i j - M) else 0) he, norm_shift]

theorem lse_real (b : Fin 128) : lseHost (mHost (sHost x0 x1)) (lHost (eHost (sHost x0 x1) (mHost (sHost x0 x1)))) (ix3 h i b) = ((Real.log (norm q k h i) / Real.log 2 : ℝ) : EReal) := by
  obtain ⟨M, hm, _, hl⟩ := rows_real a h i
  rw [lseHost_at, hm, hl, two_word, log_real (mul_pos (Real.exp_pos _) (norm_pos q k h i)), log_real (by norm_num), ← EReal.coe_add,
    div_real _ (Real.log_pos (by norm_num)).ne', log_shift]

theorem out_real (b : Fin 64) : oHost (eHost (sHost x0 x1) (mHost (sHost x0 x1))) (lHost (eHost (sHost x0 x1) (mHost (sHost x0 x1)))) x2 (ix3 h i b) = (outp q k v h i b : EReal) := by
  obtain ⟨M, _, he, hl⟩ := rows_real a h i
  rw [oHost_at, hl]
  rw [Finset.sum_congr rfl fun (j : Fin 4096) _ => show _ = ((weight q k h i j * v j h b : ℝ) : EReal) by
    rw [he, div_real _ (mul_pos (Real.exp_pos _) (norm_pos q k h i)).ne', weight_shift, EReal.coe_mul, a.h2 j h b]]
  rw [coe_sum]
  rfl

end reals

end Cert.AttnIdeal.Host

end
-- ==== Proof.AttnValue.lean ====
/- The attention's value: at arguments that hold real numbers, the three arrays that the call leaves are the reference's. -/
module

public import proofs.«01_k».proof.Proof.AttnHost

@[expose] public section

set_option maxRecDepth 16384

noncomputable section

namespace Cert.AttnIdeal.Result

open Cert.AttnIdeal Cert.AttnIdeal.Gen Cert.AttnIdeal.Pay Cert.AttnIdeal.Host Cert.AttnReal Cert.AttnLayout Idealize.ShloMosaic Idealize.ShloMosaic.TcCoe Idealize.SL.Sem

variable {m : (ℓ : Loc nD τ sig) → Buf (Elt Ideal) ℓ} {c : Dev nD} {q k v : ℕ → ℕ → ℕ → ℝ} {g : ℕ → ℕ → ℝ}

/-- The kernel's four arguments hold the real numbers `q`, `k`, `v`, `g`. -/
abbrev Holds (m : (ℓ : Loc nD τ sig) → Buf (Elt Ideal) ℓ) (c : Dev nD) (q k v : ℕ → ℕ → ℕ → ℝ) (g : ℕ → ℕ → ℝ) : Prop :=
  Cert.AttnRefIdeal.Ref.Args (m ((c : Thread nD τ).loc main_arg0)) (m ((c : Thread nD τ).loc main_arg1)) (m ((c : Thread nD τ).loc main_arg2)) (m ((c : Thread nD τ).loc main_arg3)) q k v g

variable (A : Holds m c q k v g)
include A

/-- The three blocks of a head. -/
theorem head (t : Fin cfg0.N) (h : Fin 8) (ht : t.val = h.val) :
    Is3 (dqAt m c t) (dq (headOf q k v g h) 4096) ∧ Is3 (dkAt m c t) (dk (headOf q k v g h) 4096) ∧ Is3 (dvAt m c t) (dv (headOf q k v g h) 4096) := by
  refine head_grads m (H := headOf q k v g h) (O := padO q k v h) c t (fun a b => ?_) (fun a b => ?_) (fun a b => ?_) (fun a b => ?_) (fun a b => ?_) (fun a b => ?_) (fun _ => rfl)
  · rw [Arrays.block0 m c t h ht, V_q]; exact qHost_real A.h0 h a b
  · rw [Arrays.block1 m c t h ht, V_k]; exact qHost_real A.h1 h a b
  · rw [Arrays.block2 m c t h ht, V_v]; exact vHost_real A.h2 h a b
  · rw [Arrays.block3 m c t h ht, V_o]; exact pad_real _ zero zero_at _ _ (fun h i e => outp q k v h i e) (fun h i e => out_real A h i e) h a b
  · rw [Arrays.block4 m c t h ht, V_l]; exact lse_real A h a b
  · rw [Arrays.block5 m c t h ht, V_g]; exact gHost_real A.h3 h a b

omit A in
/-- An index of a result array, by head, row and lane. -/
theorem by_head {P : S8x4096x128.Idx → Prop} (H : ∀ (t : Fin cfg0.N) (h : Fin 8), t.val = h.val → ∀ (i : Fin 4096) (l : Fin 128), P (ix3 h i l)) (x : S8x4096x128.Idx) : P x :=
  (funext fun d => by match d with | ⟨0, _⟩ => rfl | ⟨1, _⟩ => rfl | ⟨2, _⟩ => rfl : x = ix3 (n0 := 8) (n1 := 4096) (n2 := 128) (x 0) (x 1) (x 2)) ▸
    H ⟨(x 0).val, by have h : (x 0).val < 8 := (x 0).isLt; have hN : cfg0.N = 8 := N_0; omega⟩ (x 0) rfl (x 1) (x 2)

/-- The gradient by the queries. -/
theorem dq_eq : (dats m 0 c).arrAt 6 cfg0.N = Cert.AttnRefIdeal.Read.val_main_v67 (F := Ideal) (m ((c : Thread nD τ).loc main_arg0)) (m ((c : Thread nD τ).loc main_arg1)) (m ((c : Thread nD τ).loc main_arg2)) (m ((c : Thread nD τ).loc main_arg3)) :=
  funext <| by_head fun t h ht i l =>
    (Arrays.arr_dq m c t i l (ix3 h i l) ht.symm rfl rfl).trans <| ((head A t h ht).1 i l).trans <|
      (congrArg (Real.toEReal) (AttnReal.dq_eq q k v g h.val i.val l.val)).trans (Cert.AttnRefIdeal.Ref.dq_result A h i l).symm

/-- The gradient by the keys. -/
theorem dk_eq : (dats m 0 c).arrAt 7 cfg0.N = Cert.AttnRefIdeal.Read.val_main_v69 (F := Ideal) (m ((c : Thread nD τ).loc main_arg0)) (m ((c : Thread nD τ).loc main_arg1)) (m ((c : Thread nD τ).loc main_arg2)) (m ((c : Thread nD τ).loc main_arg3)) :=
  funext <| by_head fun t h ht i l =>
    (Arrays.arr_dk m c t i l (ix3 h i l) ht.symm rfl rfl).trans <| ((head A t h ht).2.1 i l).trans <|
      (congrArg (Real.toEReal) (AttnReal.dk_eq q k v g h.val i.val l.val)).trans (Cert.AttnRefIdeal.Ref.dk_result A h i l).symm

/-- The gradient by the values. -/
theorem dv_eq : (dats m 0 c).arrAt 8 cfg0.N = Cert.AttnRefIdeal.Read.val_main_v71 (F := Ideal) (m ((c : Thread nD τ).loc main_arg0)) (m ((c : Thread nD τ).loc main_arg1)) (m ((c : Thread nD τ).loc main_arg3)) :=
  funext <| by_head fun t h ht i l =>
    (Arrays.arr_dv m c t i l (ix3 h i l) ht.symm rfl rfl).trans <| ((head A t h ht).2.2 i l).trans <|
      (congrArg (Real.toEReal) (AttnReal.dv_eq q k v g h.val i.val l.val)).trans (Cert.AttnRefIdeal.Ref.dv_result A h i l).symm

end Cert.AttnIdeal.Result

end
-- ==== Proof.AttnClaim.lean ====
/- The claims about the attention's call: the reference's frame, the named constants, and that the call's three results are the
   reference's. -/
module

public import proofs.«01_k».proof.Defs
public import proofs.«01_k».proof.Proof.AttnValue
public import proofs.«01_k».proof.Proof.Finite
public import proofs.«01_k».proof.Proof.Gen.Pre_attn_finite
public import proofs.«01_k».proof.Proof.Gen.AttnRefIdeal.Run
public import Idealize.ShloMosaic.Lib.Quiescent

@[expose] public section

set_option maxRecDepth 16384

noncomputable section

namespace Cert.Proof.Attn

open Idealize.ShloMosaic Idealize.SL.Sem

/-- The reference's frame is what its run says of the arguments and the counters. -/
theorem frame_reference : Cert.quiescent_AttnRefIdeal := fun m ρ _ =>
  (θ_run Cert.AttnRefIdeal.defs _ _).mono (fun r h => ⟨fun c => (h c).2.2.2, sem_eq_zero_of_no_sems (by decide) r.2⟩)
    (Cert.AttnRefIdeal.Value.run m ρ)

/-- Each named constant is rewritten where it stands. -/
theorem preserves : Cert.preserves_Attn_AttnIdeal :=
  ⟨IdealRules.named_const.statement Cert.AttnIdeal.κ "scale_log2" .f32 0x3E16C740#32 _ rfl,
    IdealRules.named_const.statement Cert.AttnIdeal.κ "mask" .f32 0xF149F2CA#32 _ rfl⟩

theorem ofNat_val {n : ℕ} [NeZero n] (i : Fin n) : Fin.ofNat n i.val = i := Fin.ext (Nat.mod_eq_of_lt i.isLt)

/-- The precondition says that every argument's entries are real numbers. -/
theorem args (m : (ℓ : Loc Cert.AttnIdeal.nD Cert.AttnIdeal.τ Cert.AttnIdeal.sig) → Buf (Elt Ideal) ℓ) (h : Cert.Pre_AttnIdeal_attn_finite m)
    (c : Dev Cert.AttnIdeal.nD) : Cert.AttnIdeal.Result.Holds m c
      (fun i h e => EReal.toReal (m ((c.tc : Thread Cert.AttnIdeal.nD Cert.AttnIdeal.τ).loc Cert.AttnIdeal.main_arg0) (ix3 (Fin.ofNat 4096 i) (Fin.ofNat 8 h) (Fin.ofNat 96 e))))
      (fun i h e => EReal.toReal (m ((c.tc : Thread Cert.AttnIdeal.nD Cert.AttnIdeal.τ).loc Cert.AttnIdeal.main_arg1) (ix3 (Fin.ofNat 4096 i) (Fin.ofNat 8 h) (Fin.ofNat 96 e))))
      (fun i h e => EReal.toReal (m ((c.tc : Thread Cert.AttnIdeal.nD Cert.AttnIdeal.τ).loc Cert.AttnIdeal.main_arg2) (ix3 (Fin.ofNat 4096 i) (Fin.ofNat 8 h) (Fin.ofNat 64 e))))
      (fun i l => EReal.toReal (m ((c.tc : Thread Cert.AttnIdeal.nD Cert.AttnIdeal.τ).loc Cert.AttnIdeal.main_arg3) (ix2 (Fin.ofNat 4096 i) (Fin.ofNat 512 l)))) :=
  ⟨fun i h' e => by rw [ofNat_val, ofNat_val, ofNat_val]; exact Cert.Finite.coe_toReal (congrFun (h c).1 (ix3 i h' e)),
    fun i h' e => by rw [ofNat_val, ofNat_val, ofNat_val]; exact Cert.Finite.coe_toReal (congrFun (h c).2.1 (ix3 i h' e)),
    fun i h' e => by rw [ofNat_val, ofNat_val, ofNat_val]; exact Cert.Finite.coe_toReal (congrFun (h c).2.2.1 (ix3 i h' e)),
    fun i l => by rw [ofNat_val, ofNat_val]; exact Cert.Finite.coe_toReal (congrFun (h c).2.2.2 (ix2 i l))⟩

theorem algebraic : Cert.algebraic_AttnIdeal_AttnRefIdeal_pre_attn_finite := fun m ρ m' ρ' hpre hargs =>
  ⟨fun c => (Cert.AttnIdeal.Gen.dats m 0 c).arrAt 6 Cert.AttnIdeal.cfg0.N,
    fun c => (Cert.AttnIdeal.Gen.dats m 0 c).arrAt 7 Cert.AttnIdeal.cfg0.N,
    fun c => (Cert.AttnIdeal.Gen.dats m 0 c).arrAt 8 Cert.AttnIdeal.cfg0.N,
    Cert.AttnIdeal.Arrays.run_blocks m ρ,
    (θ_run Cert.AttnRefIdeal.defs _ _).mono (fun r h c => by
      obtain ⟨a0, a1, a2, a3⟩ := hargs c
      have A := args m hpre c
      obtain ⟨r0, r1, r2, k⟩ := h c
      refine ⟨r0.trans ?_, r1.trans ?_, r2.trans ?_, k⟩
      · rw [Cert.AttnRefIdeal.Read.val_main_v67_eq, a0, a1, a2, a3]; exact (Cert.AttnIdeal.Result.dq_eq A).symm
      · rw [Cert.AttnRefIdeal.Read.val_main_v69_eq, a0, a1, a2, a3]; exact (Cert.AttnIdeal.Result.dk_eq A).symm
      · rw [Cert.AttnRefIdeal.Read.val_main_v71_eq, a0, a1, a3]; exact (Cert.AttnIdeal.Result.dv_eq A).symm)
    (Cert.AttnRefIdeal.Value.run m' ρ')⟩

end Cert.Proof.Attn

end
-- ==== Proof.UpSpec.lean ====
/- The forward pass's convolution and gate over the extended reals: the product, the convolution's output and the gated
   activation at an index. The gelu's two forms agree on every extended real, so that nothing need be finite. -/
module

public import proofs.«01_k».proof.Proof.ConvReal

@[expose] public section

noncomputable section

namespace Cert.UpSpec

open Cert.ConvReal Idealize.ShloMosaic

/-- A column of rows moved down by `s` rows, zeros above. -/
def down (s : ℕ) (f : Fin 4096 → EReal) (r : Fin 4096) : EReal := if s ≤ r.val then f ⟨r.val - s, by omega⟩ else 0

theorem down_zero (f : Fin 4096 → EReal) (r : Fin 4096) : down 0 f r = f r := if_pos (Nat.zero_le _)

variable (x : (⟨2, ![4096, 1024]⟩ : Shape).Idx → EReal) (w : (⟨2, ![1024, 5632]⟩ : Shape).Idx → EReal)
variable (cw : (⟨2, ![3, 5632]⟩ : Shape).Idx → EReal) (cb : (⟨1, ![5632]⟩ : Shape).Idx → EReal)

/-- The product of the rows by the weights. -/
def prod (r : Fin 4096) (k : Fin 5632) : EReal := ∑ d : Fin 1024, x (ix2 r d) * w (ix2 d k)

/-- The convolution's output: the offset and three taps. -/
def conv (r : Fin 4096) (k : Fin 5632) : EReal :=
  cb (ix1 k) + cw (ix2 0 k) * down 2 (fun r => prod x w r k) r + cw (ix2 1 k) * down 1 (fun r => prod x w r k) r + cw (ix2 2 k) * prod x w r k

/-- The gelu with its inner product gathered, and as `jax.nn.gelu` writes it. -/
def gelu (g : EReal) : EReal := g * (((1 / 2 : ℝ) : EReal) + ((1 / 2 : ℝ) : EReal) * Ideal.tanh (g * ((cR : EReal) + ((cR * aR : ℝ) : EReal) * (g * g))))
def geluJax (g : EReal) : EReal := g * (((1 / 2 : ℝ) : EReal) * (1 + Ideal.tanh ((cR : EReal) * (g + (aR : EReal) * (g * g * g)))))

theorem cR_pos : 0 < cR := by unfold cR; norm_num
theorem aR_pos : 0 < aR := by unfold aR; norm_num

theorem gelu_eq (g : EReal) : geluJax g = gelu g := by
  have hc := cR_pos
  have ha := aR_pos
  have hca : 0 < cR * aR := mul_pos hc ha
  unfold gelu geluJax
  induction g with
  | bot =>
    have e1 : (cR : EReal) * (⊥ + (aR : EReal) * (⊥ * ⊥ * ⊥)) = ⊥ := by
      rw [EReal.bot_add, EReal.coe_mul_bot_of_pos hc]
    have e2 : (⊥ : EReal) * ((cR : EReal) + ((cR * aR : ℝ) : EReal) * (⊥ * ⊥)) = ⊥ := by
      rw [EReal.bot_mul_bot, EReal.coe_mul_top_of_pos hca, EReal.coe_add_top, EReal.bot_mul_top]
    rw [e1, e2]
    show (⊥ : EReal) * (((1 / 2 : ℝ) : EReal) * (1 + -1)) = ⊥ * (((1 / 2 : ℝ) : EReal) + ((1 / 2 : ℝ) : EReal) * -1)
    rw [← EReal.coe_one, ← EReal.coe_neg, ← EReal.coe_add, ← EReal.coe_mul, ← EReal.coe_mul, ← EReal.coe_add]
    norm_num
  | top =>
    have e1 : (cR : EReal) * (⊤ + (aR : EReal) * (⊤ * ⊤ * ⊤)) = ⊤ := by
      rw [EReal.top_mul_top, EReal.top_mul_top, EReal.coe_mul_top_of_pos ha, EReal.top_add_top, EReal.coe_mul_top_of_pos hc]
    have e2 : (⊤ : EReal) * ((cR : EReal) + ((cR * aR : ℝ) : EReal) * (⊤ * ⊤)) = ⊤ := by
      rw [EReal.top_mul_top, EReal.coe_mul_top_of_pos hca, EReal.coe_add_top, EReal.top_mul_top]
    rw [e1, e2]
    show (⊤ : EReal) * (((1 / 2 : ℝ) : EReal) * (1 + 1)) = ⊤ * (((1 / 2 : ℝ) : EReal) + ((1 / 2 : ℝ) : EReal) * 1)
    rw [← EReal.coe_one, ← EReal.coe_add, ← EReal.coe_mul, ← EReal.coe_mul, ← EReal.coe_add]
    norm_num
  | coe g =>
    simp only [← EReal.coe_one, ← EReal.coe_mul, ← EReal.coe_add, Ideal.tanh_coe]
    refine congrArg _ (congrArg _ ?_)
    rw [show g * (cR + cR * aR * (g * g)) = cR * (g + aR * (g * g * g)) by ring]
    ring

/-- The gated activation: the gelu of the second half of the columns times the first half. -/
def act (r : Fin 4096) (k : Fin 2816) : EReal :=
  gelu (conv x w cw cb r ⟨k.val + 2816, by omega⟩) * conv x w cw cb r ⟨k.val, by omega⟩

end Cert.UpSpec

end
-- ==== Proof.UpValue.lean ====
/- The forward pass's convolution and gate call: the blocks that a grid point reads, what it computes of them, and the
   three result arrays at an index. -/
module

public import proofs.«01_k».proof.Proof.UpSpec
public import proofs.«01_k».proof.Proof.Gen.UpIdeal.Value
public import Idealize.ShloMosaic.Lib.Tactic
public import Idealize.ShloMosaic.Lib.KernelVsHost
public import Idealize.ShloMosaic.Lib.Pipeline.ValueKit.Tiles
public import Idealize.ShloMosaic.Lib.Pipeline.ReadBack

@[expose] public section

set_option maxRecDepth 16384

noncomputable section

namespace Cert.UpIdeal.Result

open Cert.UpIdeal Cert.UpIdeal.Gen Cert.UpIdeal.Value Cert.ConvReal Cert.UpSpec Idealize.ShloMosaic Idealize.ShloMosaic.TcCoe Idealize.SL.Sem

/-- The windows over tiles of rows, the rows that precede a tile, and the blocks of columns. -/
theorem rowsAt (t : Fin cfg0.N) : win0_0.index t 0 = t.val / 11 ∧ win0_0.index t 1 = 0 ∧ win0_1.index t 0 = t.val / 11 * 64 - 1 ∧ win0_1.index t 1 = 0 :=
  (by decide +kernel : ∀ t : Fin grid0.N, win0_0.index t 0 = t.val / 11 ∧ win0_0.index t 1 = 0 ∧ win0_1.index t 0 = t.val / 11 * 64 - 1 ∧ win0_1.index t 1 = 0) t

theorem colsAt (t : Fin cfg0.N) : win0_2.index t 0 = t.val % 11 ∧ win0_2.index t 1 = 0 ∧ win0_3.index t 0 = 0 ∧ win0_3.index t 1 = t.val % 11 ∧ win0_4.index t 0 = 0 ∧ win0_4.index t 1 = t.val % 11 :=
  (by decide +kernel : ∀ t : Fin grid0.N, win0_2.index t 0 = t.val % 11 ∧ win0_2.index t 1 = 0 ∧ win0_3.index t 0 = 0 ∧ win0_3.index t 1 = t.val % 11 ∧ win0_4.index t 0 = 0 ∧ win0_4.index t 1 = t.val % 11) t

theorem outsAt (t : Fin cfg0.N) : win0_5.index t 0 = t.val / 11 ∧ win0_5.index t 1 = t.val % 11 ∧ win0_6.index t 0 = t.val / 11 ∧ win0_6.index t 1 = t.val % 11 ∧ win0_7.index t 0 = t.val / 11 ∧ win0_7.index t 1 = t.val % 11 :=
  (by decide +kernel : ∀ t : Fin grid0.N, win0_5.index t 0 = t.val / 11 ∧ win0_5.index t 1 = t.val % 11 ∧ win0_6.index t 0 = t.val / 11 ∧ win0_6.index t 1 = t.val % 11 ∧ win0_7.index t 0 = t.val / 11 ∧ win0_7.index t 1 = t.val % 11) t

/-- The first grid coordinate is the tile of rows. -/
theorem coord (t : Fin cfg0.N) : (grid0.coords t 0).val = t.val / 11 :=
  (by decide +kernel : ∀ t : Fin grid0.N, (grid0.coords t 0).val = t.val / 11) t

theorem point_lt (t : Fin cfg0.N) : t.val / 11 < 4 := by have := t.isLt; have hN : cfg0.N = 44 := N_0; omega

/-- The row and the column of the whole array at which a tile's entry stands. -/
def row (t : Fin cfg0.N) (r : Fin 1024) : Fin 4096 := ⟨t.val / 11 * 1024 + r.val, by have := point_lt t; omega⟩
def col (t : Fin cfg0.N) (q : Fin 512) : Fin 5632 := ⟨t.val % 11 * 512 + q.val, by omega⟩

/-- The rows that precede a tile; before the first tile the array's first rows stand in for them. -/
def hrow (t : Fin cfg0.N) (r : Fin 16) : Fin 4096 := ⟨(t.val / 11 * 64 - 1) * 16 + r.val, by have := point_lt t; omega⟩

variable (m : (ℓ : Loc nD τ sig) → Buf (Elt Ideal) ℓ) (c : Dev nD)

/-- The four arguments. -/
abbrev X : FVec Ideal S4096x1024 .f32 := m ((c : Thread nD τ).loc main_arg0)
abbrev W : FVec Ideal S1024x5632 .f32 := m ((c : Thread nD τ).loc main_arg1)
abbrev CW : FVec Ideal S3x5632 .f32 := m ((c : Thread nD τ).loc main_arg2)
abbrev CB : FVec Ideal S5632 .f32 := m ((c : Thread nD τ).loc main_arg3)

theorem V_x : V m c main_v0 = truncf .bf16 (X m c) bitsLt_bf16_f32 := by
  show StableHlo.after (List.flatten [hostOps0]) _ (Proc.devRef .tc main_v0) = _
  simp only [List.flatten_cons, List.flatten_nil, List.append_nil]
  after_results

theorem V_w : V m c main_v5 = truncf .bf16 (shapeCast S5632x1024 (transpose S11x2x256x1024 [1, 0, 2, 3]
    (shapeCast S2x11x256x1024 (transpose S5632x1024 [1, 0] (W m c) transposes_S1024x5632_S5632x1024_1_0) shapeCasts_S5632x1024_S2x11x256x1024)
    transposes_S2x11x256x1024_S11x2x256x1024_1_0_2_3) shapeCasts_S11x2x256x1024_S5632x1024 : FVec Ideal S5632x1024 .f32) bitsLt_bf16_f32 := by
  show StableHlo.after (List.flatten [hostOps0]) _ (Proc.devRef .tc main_v5) = _
  after_results
  rfl

theorem V_cw : V m c main_v8 = shapeCast _ (transpose S3x11x2x256 [0, 2, 1, 3]
    (shapeCast _ (CW m c) shapeCasts_S3x5632_S3x2x11x256) transposes_S3x2x11x256_S3x11x2x256_0_2_1_3) shapeCasts_S3x11x2x256_S3x5632 := by
  show StableHlo.after (List.flatten [hostOps0]) _ (Proc.devRef .tc main_v8) = _
  after_results
  rfl

theorem V_cb : V m c main_v12 = shapeCast _ (transpose S1x11x2x256 [0, 2, 1, 3]
    (shapeCast _ (shapeCast S1x5632 (CB m c) shapeCasts_S5632_S1x5632) shapeCasts_S1x5632_S1x2x11x256)
    transposes_S1x2x11x256_S1x11x2x256_0_2_1_3) shapeCasts_S1x11x2x256_S1x5632 := by
  show StableHlo.after (List.flatten [hostOps0]) _ (Proc.devRef .tc main_v12) = _
  after_results
  rfl

/-- The tile of rows. -/
theorem in_x (t : Fin cfg0.N) (r : Fin 1024) (d : Fin 1024) : iblk m c 0 t (ix2 r d) = X m c (ix2 (row t r) d) := by
  have ht := rowsAt t
  have hi : ((cfg0.win 0).blk t).view.emb (ix2 r d) = (ix2 (row t r) d : S4096x1024.Idx) := funext fun a => Fin.ext (by
    match a with
    | ⟨0, _⟩ => show win0_0.index t 0 * 1024 + 1 * r.val = t.val / 11 * 1024 + r.val; omega
    | ⟨1, _⟩ => show win0_0.index t 1 * 1024 + 1 * d.val = d.val; omega)
  unfold iblk
  rw [View.read_apply]
  show V m c main_v0 _ = _
  rw [hi, V_x]
  rfl

/-- The rows that precede the tile. -/
theorem in_h (t : Fin cfg0.N) (r : Fin 16) (d : Fin 1024) : iblk m c 1 t (ix2 r d) = X m c (ix2 (hrow t r) d) := by
  have ht := rowsAt t
  have hi : ((cfg0.win 1).blk t).view.emb (ix2 r d) = (ix2 (hrow t r) d : S4096x1024.Idx) := funext fun a => Fin.ext (by
    match a with
    | ⟨0, _⟩ => show win0_1.index t 0 * 16 + 1 * r.val = (t.val / 11 * 64 - 1) * 16 + r.val; rw [ht.2.2.1]; omega
    | ⟨1, _⟩ => show win0_1.index t 1 * 1024 + 1 * d.val = d.val; omega)
  unfold iblk
  rw [View.read_apply]
  show V m c main_v0 _ = _
  rw [hi, V_x]
  rfl

/-- The block of the product's weights. -/
theorem in_w (t : Fin cfg0.N) (q : Fin 512) (d : Fin 1024) : iblk m c 2 t (ix2 q d) = W m c (ix2 d (mixed (col t q))) := by
  have ht := colsAt t
  have hi : ((cfg0.win 2).blk t).view.emb (ix2 q d) = (ix2 (col t q) d : S5632x1024.Idx) := funext fun a => Fin.ext (by
    match a with
    | ⟨0, _⟩ => show win0_2.index t 0 * 512 + 1 * q.val = t.val % 11 * 512 + q.val; omega
    | ⟨1, _⟩ => show win0_2.index t 1 * 1024 + 1 * d.val = d.val; omega)
  unfold iblk
  rw [View.read_apply]
  show V m c main_v5 _ = _
  rw [hi, V_w]
  generalize W m c = Y
  pointwise
  rfl

/-- The block of the filter. -/
theorem in_cw (t : Fin cfg0.N) (k : Fin 3) (q : Fin 512) : iblk m c 3 t (ix2 k q) = CW m c (ix2 k (mixed (col t q))) := by
  have ht := colsAt t
  have hi : ((cfg0.win 3).blk t).view.emb (ix2 k q) = (ix2 k (col t q) : S3x5632.Idx) := funext fun a => Fin.ext (by
    match a with
    | ⟨0, _⟩ => show win0_3.index t 0 * 3 + 1 * k.val = k.val; omega
    | ⟨1, _⟩ => show win0_3.index t 1 * 512 + 1 * q.val = t.val % 11 * 512 + q.val; omega)
  unfold iblk
  rw [View.read_apply]
  show V m c main_v8 _ = _
  rw [hi, V_cw]
  generalize CW m c = Y
  pointwise
  rfl

/-- The block of the offset. -/
theorem in_cb (t : Fin cfg0.N) (q : Fin 512) : iblk m c 4 t (ix2 0 q) = CB m c (ix1 (mixed (col t q))) := by
  have ht := colsAt t
  have hi : ((cfg0.win 4).blk t).view.emb (ix2 0 q) = (ix2 0 (col t q) : S1x5632.Idx) := funext fun a => Fin.ext (by
    match a with
    | ⟨0, _⟩ => show win0_4.index t 0 * 1 + 1 * 0 = 0; omega
    | ⟨1, _⟩ => show win0_4.index t 1 * 512 + 1 * q.val = t.val % 11 * 512 + q.val; omega)
  unfold iblk
  rw [View.read_apply]
  show V m c main_v12 _ = _
  rw [hi, V_cb]
  generalize CB m c = Y
  pointwise
  rfl

/-- The product's rows in a tile, under the sixteen rows before it. -/
abbrev eB (t : Fin cfg0.N) : FVec Ideal S1040x512 .f32 := k0_pay2 (grid0.coords t) (iblk m c 1 t) (iblk m c 0 t) (iblk m c 2 t)

/-- The operand's rows: zeros before the array's first row. -/
theorem rows_eq (t : Fin cfg0.N) (r : Fin 1040) (d : Fin 1024) :
    concatenate S1040x1024 0 [⟨S16x1024, Scalar.select (Scalar.cmpi .eq (BitVec.ofNat 32 (grid0.coords t 0).val) 0#32)
        (broadcast S16x1024 (Scalar.ofBits (F := Ideal) .bf16 0x0000#16)) (iblk m c 1 t : FVec Ideal S16x1024 .bf16)⟩,
      ⟨S1024x1024, (iblk m c 0 t : FVec Ideal S1024x1024 .bf16)⟩] concatenates_S16x1024_S1024x1024_S1040x1024_d0 (ix2 r d) =
      if h : 16 ≤ t.val / 11 * 1024 + r.val then X m c (ix2 (⟨t.val / 11 * 1024 + r.val - 16, by have := point_lt t; omega⟩ : Fin 4096) d) else 0 := by
  rw [coord t]
  have h4 := point_lt t
  by_cases h : r.val < 16
  · refine Eq.trans (concatenate_pair_apply_left (s₁ := S16x1024) (s₂ := S1024x1024) 0 _ _ _ (ix2 r d) rfl (ix2 (⟨r.val, h⟩ : Fin 16) d) fun b => ?_) ?_
    · match b with
      | ⟨0, _⟩ => rfl
      | ⟨1, _⟩ => rfl
    · by_cases h0 : t.val / 11 = 0
      · rw [dif_neg (by omega), h0]
        show Ideal.ofBits .bf16 0x0000#16 = _
        simp [Ideal.ofBits, Ideal.ieee]
      · have hs : Scalar.cmpi .eq (BitVec.ofNat 32 (t.val / 11)) 0#32 = 0#1 := by
          have : ∀ n : Fin 4, n.val ≠ 0 → Scalar.cmpi .eq (BitVec.ofNat 32 n.val) 0#32 = 0#1 := by decide
          exact this ⟨t.val / 11, h4⟩ h0
        rw [hs, dif_pos (by omega)]
        refine (in_h m c t ⟨r.val, h⟩ d).trans (congrArg (fun n => X m c (ix2 n d)) (Fin.ext ?_))
        show (t.val / 11 * 64 - 1) * 16 + r.val = t.val / 11 * 1024 + r.val - 16
        omega
  · rw [dif_pos (by omega)]
    refine Eq.trans (concatenate_pair_apply_right (s₁ := S16x1024) (s₂ := S1024x1024) 0 _ _ _ (ix2 r d) rfl rfl (ix2 (⟨r.val - 16, by omega⟩ : Fin 1024) d) (fun b hb => ?_) ?_) ?_
    · match b with
      | ⟨0, _⟩ => exact absurd rfl hb
      | ⟨1, _⟩ => rfl
    · show r.val - 16 + 16 = r.val; omega
    · refine (in_x m c t ⟨r.val - 16, by omega⟩ d).trans (congrArg (fun n => X m c (ix2 n d)) (Fin.ext ?_))
      show t.val / 11 * 1024 + (r.val - 16) = t.val / 11 * 1024 + r.val - 16
      omega

theorem product (x : FVec Ideal S1040x1024 .bf16) (y : FVec Ideal S512x1024 .bf16) (r : Fin 1040) (q : Fin 512) :
    matmul (F := Ideal) dot_S1040x1024_S512x1024_S1040x512_1_1_0_0_n_n none x y (constant S1040x512 .f32 0x00000000#32) (ix2 r q) =
      ∑ d : Fin 1024, x (ix2 r d) * y (ix2 q d) := by
  pointwise []

/-- The product's rows, those `s` above a tile's row. -/
theorem e_eq (t : Fin cfg0.N) (r : Fin 1024) (s : ℕ) (hs : s ≤ 16) (q : Fin 512) :
    eB m c t (ix2 (⟨r.val + 16 - s, by omega⟩ : Fin 1040) q) = down s (fun n => prod (X m c) (W m c) n (mixed (col t q))) (row t r) := by
  refine (product _ _ _ _).trans ?_
  rw [shapeCast_self, shapeCast_self, shapeCast_self]
  refine (Finset.sum_congr rfl fun d _ => congrArg₂ (· * ·) (rows_eq m c t _ d) (in_w m c t q d)).trans ?_
  unfold down
  by_cases h : s ≤ (row t r).val
  · have h' : s ≤ t.val / 11 * 1024 + r.val := h
    rw [if_pos h]
    unfold prod
    refine Finset.sum_congr rfl fun d _ => ?_
    rw [dif_pos (by show 16 ≤ t.val / 11 * 1024 + (r.val + 16 - s); omega)]
    refine congrArg (fun n => X m c (ix2 n d) * _) (Fin.ext ?_)
    show t.val / 11 * 1024 + (r.val + 16 - s) - 16 = t.val / 11 * 1024 + r.val - s
    omega
  · have h' : ¬s ≤ t.val / 11 * 1024 + r.val := h
    rw [if_neg h]
    refine Finset.sum_eq_zero fun d _ => ?_
    rw [dif_neg (by show ¬16 ≤ t.val / 11 * 1024 + (r.val + 16 - s); omega), zero_mul]

/-- The rows below the sixteen of a block. -/
theorem lower (x : FVec Ideal S1040x512 .f32) (r : Fin 1024) (q : Fin 512) :
    extractStridedSlice S1024x512 ![16, 0] x slices_S1040x512_o16_0_S1024x512 (ix2 r q) = x (ix2 (⟨r.val + 16, by omega⟩ : Fin 1040) q) := by
  refine extractStridedSlice_apply ![16, 0] _ _ (ix2 r q) (ix2 (⟨r.val + 16, by omega⟩ : Fin 1040) q) fun a => ?_
  match a with
  | ⟨0, _⟩ => exact Nat.add_comm _ _
  | ⟨1, _⟩ => exact (Nat.zero_add _).symm

/-- A block turned down by two rows, or by one. -/
theorem turn2 (x : FVec Ideal S1040x512 .f32) (r : Fin 1024) (q : Fin 512) :
    dynamicRotate 0 2#32 none x rotates_S1040x512_d0 (ix2 (⟨r.val + 16, by omega⟩ : Fin 1040) q) = x (ix2 (⟨r.val + 16 - 2, by omega⟩ : Fin 1040) q) := by
  refine dynamicRotate_apply 0 2#32 _ _ _ (ix2 (⟨r.val + 16 - 2, by omega⟩ : Fin 1040) q) fun b => ?_
  match b with
  | ⟨0, _⟩ => show r.val + 16 - 2 = (r.val + 16 + 1040 - 2 % 1040) % 1040; omega
  | ⟨1, _⟩ => rfl

theorem turn1 (x : FVec Ideal S1040x512 .f32) (r : Fin 1024) (q : Fin 512) :
    dynamicRotate 0 1#32 none x rotates_S1040x512_d0 (ix2 (⟨r.val + 16, by omega⟩ : Fin 1040) q) = x (ix2 (⟨r.val + 16 - 1, by omega⟩ : Fin 1040) q) := by
  refine dynamicRotate_apply 0 1#32 _ _ _ (ix2 (⟨r.val + 16 - 1, by omega⟩ : Fin 1040) q) fun b => ?_
  match b with
  | ⟨0, _⟩ => show r.val + 16 - 1 = (r.val + 16 + 1040 - 1 % 1040) % 1040; omega
  | ⟨1, _⟩ => rfl

/-- A row of the filter, or the offset, spread over a block's rows. -/
theorem spread (x : FVec Ideal S1x512 .f32) (r : Fin 1040) (q : Fin 512) :
    broadcastTo S1040x512 (shapeCast S1x512 x shapeCasts_S1x512_S1x512) broadcasts_S1x512_S1040x512 (ix2 r q) = x (ix2 0 q) := by
  pointwise

/-- The filter's three taps on a block. -/
theorem tapped (E : FVec Ideal S1040x512 .f32) (x0 x1 x2 x3 : FVec Ideal S1x512 .f32) (r : Fin 1024) (q : Fin 512) :
    extractStridedSlice S1024x512 ![16, 0] (addf (addf
        (addf (broadcastTo S1040x512 (shapeCast S1x512 x0 shapeCasts_S1x512_S1x512) broadcasts_S1x512_S1040x512)
          (mulf (broadcastTo S1040x512 (shapeCast S1x512 x1 shapeCasts_S1x512_S1x512) broadcasts_S1x512_S1040x512) (dynamicRotate 0 2#32 none E rotates_S1040x512_d0)))
        (mulf (broadcastTo S1040x512 (shapeCast S1x512 x2 shapeCasts_S1x512_S1x512) broadcasts_S1x512_S1040x512) (dynamicRotate 0 1#32 none E rotates_S1040x512_d0)))
        (mulf (broadcastTo S1040x512 (shapeCast S1x512 x3 shapeCasts_S1x512_S1x512) broadcasts_S1x512_S1040x512) E)) slices_S1040x512_o16_0_S1024x512 (ix2 r q) =
      x0 (ix2 0 q) + x1 (ix2 0 q) * E (ix2 (⟨r.val + 16 - 2, by omega⟩ : Fin 1040) q) +
        x2 (ix2 0 q) * E (ix2 (⟨r.val + 16 - 1, by omega⟩ : Fin 1040) q) + x3 (ix2 0 q) * E (ix2 (⟨r.val + 16, by omega⟩ : Fin 1040) q) := by
  refine (lower _ r q).trans ?_
  rw [← turn2 E r q, ← turn1 E r q, ← spread x0 ⟨r.val + 16, by omega⟩ q, ← spread x1 ⟨r.val + 16, by omega⟩ q,
    ← spread x2 ⟨r.val + 16, by omega⟩ q, ← spread x3 ⟨r.val + 16, by omega⟩ q]
  rfl

theorem pay4_eq (t : Fin cfg0.N) (x0 x1 x2 x3 : Vec Ideal S1x512 .f32) (r : Fin 1024) (q : Fin 512) :
    k0_pay4 (grid0.coords t) (iblk m c 1 t) (iblk m c 0 t) (iblk m c 2 t) x0 x1 x2 x3 (ix2 r q) =
      x0 (ix2 0 q) + x1 (ix2 0 q) * eB m c t (ix2 (⟨r.val + 16 - 2, by omega⟩ : Fin 1040) q) +
        x2 (ix2 0 q) * eB m c t (ix2 (⟨r.val + 16 - 1, by omega⟩ : Fin 1040) q) + x3 (ix2 0 q) * eB m c t (ix2 (⟨r.val + 16, by omega⟩ : Fin 1040) q) := by
  unfold k0_pay4
  exact tapped (eB m c t) x0 x1 x2 x3 r q

theorem hz : (![0, 0] : Fin 2 → Nat) = fun _ => 0 := funext fun a => by fin_cases a <;> rfl

/-- What a point leaves of the product. -/
theorem u_block (t : Fin cfg0.N) (r : Fin 1024) (q : Fin 512) :
    out0_5 (grid0.coords t) (iblk m c 0 t) (iblk m c 1 t) (iblk m c 2 t) (iblk m c 3 t) (iblk m c 4 t) (ix2 r q) =
      prod (X m c) (W m c) (row t r) (mixed (col t q)) := by
  unfold out0_5
  rw [View.canon_unit_zero (S := S1024x512) hz, View.ld_unit_zero (S := S16x1024) hz, View.ld_unit_zero (S := S1024x1024) hz, View.ld_unit_zero (S := S512x1024) hz]
  exact (lower _ r q).trans ((e_eq m c t r 0 (by omega) q).trans (down_zero _ _))

/-- The three rows of the filter's block. -/
theorem taps (t : Fin cfg0.N) (q : Fin 512) : View.ld (iblk m c 3 t) r0_5 (ix2 0 q) = CW m c (ix2 0 (mixed (col t q))) ∧
    View.ld (iblk m c 3 t) r0_6 (ix2 0 q) = CW m c (ix2 1 (mixed (col t q))) ∧ View.ld (iblk m c 3 t) r0_7 (ix2 0 q) = CW m c (ix2 2 (mixed (col t q))) := by
  refine ⟨Eq.trans ?_ (in_cw m c t 0 q), Eq.trans ?_ (in_cw m c t 1 q), Eq.trans ?_ (in_cw m c t 2 q)⟩ <;> exact View.ld_unit_apply_of _ _ _ _ _ _ fun a => by
    match a with
    | ⟨0, _⟩ => rfl
    | ⟨1, _⟩ => exact (Nat.zero_add _).symm

/-- The convolution's output in a block. -/
theorem y_pay (t : Fin cfg0.N) (r : Fin 1024) (q : Fin 512) :
    k0_pay5 (grid0.coords t) (iblk m c 0 t) (iblk m c 1 t) (iblk m c 2 t) (iblk m c 3 t) (iblk m c 4 t) (ix2 r q) =
      conv (X m c) (W m c) (CW m c) (CB m c) (row t r) (mixed (col t q)) := by
  unfold k0_pay5
  rw [View.ld_unit_zero (S := S16x1024) hz, View.ld_unit_zero (S := S1024x1024) hz, View.ld_unit_zero (S := S512x1024) hz, View.ld_unit_zero (S := S1x512) hz]
  have tp := taps m c t q
  rw [pay4_eq, tp.1, tp.2.1, tp.2.2, in_cb, e_eq m c t r 2 (by omega) q, e_eq m c t r 1 (by omega) q]
  unfold UpSpec.conv
  exact congrArg (_ + _ * ·) ((e_eq m c t r 0 (by omega) q).trans (down_zero _ _))

theorem nca : Named.named (F := Ideal) (φ := .f32) κ "gelu_ca" 0x3D122279#32 = ((cR * aR : ℝ) : EReal) := by
  rw [IdealRules.named_const.ideal_named_scalar _ _ _ _ rfl]
  exact congrArg _ (by unfold cR aR; norm_num)

/-- The gated activation of a block whose columns are the gate's two halves. -/
theorem pay1_eq (y : FVec Ideal S1024x512 .f32) (r : Fin 1024) (q : Fin 256) :
    k0_pay1 y (ix2 r q) = gelu (y (ix2 r (⟨q.val + 256, by omega⟩ : Fin 512))) * y (ix2 r (⟨q.val, by omega⟩ : Fin 512)) := by
  have h1 : extractStridedSlice S1024x256 ![0, 256] y slices_S1024x512_o0_256_S1024x256 (ix2 r q) = y (ix2 r (⟨q.val + 256, by omega⟩ : Fin 512)) := by
    refine extractStridedSlice_apply (s := S1024x512) ![0, 256] _ _ (ix2 r q) _ fun a => ?_
    match a with
    | ⟨0, _⟩ => exact (Nat.zero_add _).symm
    | ⟨1, _⟩ => exact Nat.add_comm _ _
  have h0 : extractStridedSlice S1024x256 ![0, 0] y slices_S1024x512_o0_0_S1024x256 (ix2 r q) = y (ix2 r (⟨q.val, by omega⟩ : Fin 512)) := by
    refine extractStridedSlice_apply (s := S1024x512) ![0, 0] _ _ (ix2 r q) _ fun a => ?_
    match a with
    | ⟨0, _⟩ => exact (Nat.zero_add _).symm
    | ⟨1, _⟩ => exact (Nat.zero_add _).symm
  unfold gelu
  rw [← h1, ← h0, ← nca, ← ccR, ← chalf]
  rfl

/-- The product's array after the run. -/
theorem arr_u (t : Fin cfg0.N) (r : Fin 1024) (q : Fin 512) :
    (dats m 0 c).arrAt 5 cfg0.N (ix2 (row t r) (col t q)) = prod (X m c) (W m c) (row t r) (mixed (col t q)) := by
  have h := congrFun (blocks5 m c t (flush0_5 t)) (ix2 r q)
  rw [flushed5, View.read_apply] at h
  refine Eq.trans (congrArg _ (funext fun a => Fin.ext ?_)) (h.trans (u_block m c t r q))
  have ht := outsAt t
  match a with
  | ⟨0, _⟩ => show t.val / 11 * 1024 + r.val = win0_5.index t 0 * 1024 + 1 * r.val; omega
  | ⟨1, _⟩ => show t.val % 11 * 512 + q.val = win0_5.index t 1 * 512 + 1 * q.val; omega

/-- The convolution's output after the run. -/
theorem arr_y (t : Fin cfg0.N) (r : Fin 1024) (q : Fin 512) :
    (dats m 0 c).arrAt 6 cfg0.N (ix2 (row t r) (col t q)) = conv (X m c) (W m c) (CW m c) (CB m c) (row t r) (mixed (col t q)) := by
  have h := congrFun (blocks6 m c t (flush0_6 t)) (ix2 r q)
  rw [flushed6, View.read_apply] at h
  unfold out0_6 at h
  rw [View.canon_unit_zero (S := S1024x512) hz] at h
  refine Eq.trans (congrArg _ (funext fun a => Fin.ext ?_)) (h.trans (y_pay m c t r q))
  have ht := outsAt t
  match a with
  | ⟨0, _⟩ => show t.val / 11 * 1024 + r.val = win0_6.index t 0 * 1024 + 1 * r.val; omega
  | ⟨1, _⟩ => show t.val % 11 * 512 + q.val = win0_6.index t 1 * 512 + 1 * q.val; omega

/-- The activation's column at which a tile's entry stands. -/
def acol (t : Fin cfg0.N) (q : Fin 256) : Fin 2816 := ⟨t.val % 11 * 256 + q.val, by omega⟩

/-- The gated activation after the run. -/
theorem arr_a (t : Fin cfg0.N) (r : Fin 1024) (q : Fin 256) :
    (dats m 0 c).arrAt 7 cfg0.N (ix2 (row t r) (acol t q)) = act (X m c) (W m c) (CW m c) (CB m c) (row t r) (acol t q) := by
  have h := congrFun (blocks7 m c t (flush0_7 t)) (ix2 r q)
  rw [flushed7, View.read_apply] at h
  unfold out0_7 at h
  rw [View.canon_unit_zero (S := S1024x256) hz] at h
  refine Eq.trans (congrArg _ (funext fun a => Fin.ext ?_)) (h.trans ((pay1_eq _ r q).trans ?_))
  · have ht := outsAt t
    match a with
    | ⟨0, _⟩ => show t.val / 11 * 1024 + r.val = win0_7.index t 0 * 1024 + 1 * r.val; omega
    | ⟨1, _⟩ => show t.val % 11 * 256 + q.val = win0_7.index t 1 * 256 + 1 * q.val; omega
  · rw [y_pay, y_pay]
    unfold act
    refine congrArg₂ (fun j k => gelu (conv _ _ _ _ (row t r) j) * conv _ _ _ _ (row t r) k) (Fin.ext ?_) (Fin.ext ?_)
    · show (t.val % 11 * 512 + (q.val + 256)) / 256 % 2 * 2816 + (t.val % 11 * 512 + (q.val + 256)) / 512 * 256 + (t.val % 11 * 512 + (q.val + 256)) % 256 = t.val % 11 * 256 + q.val + 2816
      omega
    · show (t.val % 11 * 512 + q.val) / 256 % 2 * 2816 + (t.val % 11 * 512 + q.val) / 512 * 256 + (t.val % 11 * 512 + q.val) % 256 = t.val % 11 * 256 + q.val
      omega

/-- Every index of an array is a tile's. -/
theorem tile_of (r : Fin 4096) (k : Fin 5632) : ∃ (t : Fin cfg0.N) (r' : Fin 1024) (q : Fin 512), row t r' = r ∧ col t q = k :=
  ⟨⟨r.val / 1024 * 11 + k.val / 512, by rw [show cfg0.N = 44 from N_0]; omega⟩, ⟨r.val % 1024, by omega⟩, ⟨k.val % 512, by omega⟩,
    Fin.ext (by show (r.val / 1024 * 11 + k.val / 512) / 11 * 1024 + r.val % 1024 = r.val; omega),
    Fin.ext (by show (r.val / 1024 * 11 + k.val / 512) % 11 * 512 + k.val % 512 = k.val; omega)⟩

theorem atile_of (r : Fin 4096) (k : Fin 2816) : ∃ (t : Fin cfg0.N) (r' : Fin 1024) (q : Fin 256), row t r' = r ∧ acol t q = k :=
  ⟨⟨r.val / 1024 * 11 + k.val / 256, by rw [show cfg0.N = 44 from N_0]; omega⟩, ⟨r.val % 1024, by omega⟩, ⟨k.val % 256, by omega⟩,
    Fin.ext (by show (r.val / 1024 * 11 + k.val / 256) / 11 * 1024 + r.val % 1024 = r.val; omega),
    Fin.ext (by show (r.val / 1024 * 11 + k.val / 256) % 11 * 256 + k.val % 256 = k.val; omega)⟩

/-- The three results at an index. -/
theorem u_at (r : Fin 4096) (k : Fin 5632) : (dats m 0 c).arrAt 5 cfg0.N (ix2 r k) = prod (X m c) (W m c) r (mixed k) := by
  obtain ⟨t, r', q, rfl, rfl⟩ := tile_of r k
  exact arr_u m c t r' q

theorem y_at (r : Fin 4096) (k : Fin 5632) : (dats m 0 c).arrAt 6 cfg0.N (ix2 r k) = conv (X m c) (W m c) (CW m c) (CB m c) r (mixed k) := by
  obtain ⟨t, r', q, rfl, rfl⟩ := tile_of r k
  exact arr_y m c t r' q

theorem a_at (r : Fin 4096) (k : Fin 2816) : (dats m 0 c).arrAt 7 cfg0.N (ix2 r k) = act (X m c) (W m c) (CW m c) (CB m c) r k := by
  obtain ⟨t, r', q, rfl, rfl⟩ := atile_of r k
  exact arr_a m c t r' q

end Cert.UpIdeal.Result

end
-- ==== Proof.UpRef.lean ====
/- The forward pass's convolution and gate, the reference: its three results at an index. -/
module

public import proofs.«01_k».proof.Proof.UpSpec
public import proofs.«01_k».proof.Proof.Gen.UpRefIdeal.Read

@[expose] public section

set_option maxRecDepth 16384

noncomputable section

namespace Cert.UpRefIdeal.Ref

open Cert.UpRefIdeal Cert.UpRefIdeal.Gen Cert.UpRefIdeal.Read Cert.ConvReal Cert.UpSpec Idealize.ShloMosaic

variable (x0 : FVec Ideal S4096x1024 .f32) (x1 : FVec Ideal S1024x5632 .f32) (x2 : FVec Ideal S3x5632 .f32) (x3 : FVec Ideal S5632 .f32)

theorem u_eq (r : Fin 4096) (k : Fin 5632) : val_main_v0 (F := Ideal) x0 x1 (ix2 r k) = prod x0 x1 r k := by
  rw [val_main_v0_apply]
  refine Finset.sum_congr rfl fun d _ => congrArg₂ (fun i j => x0 i * x1 j) (funext fun a => ?_) (funext fun a => ?_)
  · match a with
    | ⟨0, _⟩ => rfl
    | ⟨1, _⟩ => rfl
  · match a with
    | ⟨0, _⟩ => rfl
    | ⟨1, _⟩ => rfl

/-- The product moved down by two rows, and by one. -/
theorem u2_eq (r : Fin 4096) (k : Fin 5632) : val_main_v2 (F := Ideal) x0 x1 (ix2 r k) = down 2 (fun r => prod x0 x1 r k) r := by
  have hz : ∀ j, val_main_call0_v0 (F := Ideal) j = 0 := fun j => by show (((0#32 : BitVec 32).toInt : ℝ) : EReal) = 0; simp
  rw [val_main_v2_apply, show idx_main_v2 (ix2 r k) = ix2 (⟨r.val, by omega⟩ : Fin 4098) k from funext fun a => Fin.ext (by
    match a with
    | ⟨0, _⟩ => first | rfl | exact Nat.zero_add _
    | ⟨1, _⟩ => first | rfl | exact Nat.zero_add _)]
  refine (pad_rows (val_main_v0 (F := Ideal) x0 x1) (val_main_call0_v0 (F := Ideal)) hz pads_S4096x5632_S4098x5632_200_000 h_S_ _ k).trans ?_
  unfold down
  by_cases h : 2 ≤ r.val
  · rw [dif_pos ⟨h, by show r.val - 2 < 4096; omega⟩, if_pos h]; exact u_eq x0 x1 _ k
  · rw [dif_neg fun hh => h hh.1, if_neg h]

theorem u1_eq (r : Fin 4096) (k : Fin 5632) : val_main_v12 (F := Ideal) x0 x1 (ix2 r k) = down 1 (fun r => prod x0 x1 r k) r := by
  have hz : ∀ j, val_main_call1_v0 (F := Ideal) j = 0 := fun j => by show (((0#32 : BitVec 32).toInt : ℝ) : EReal) = 0; simp
  rw [val_main_v12_apply, show idx_main_v12 (ix2 r k) = ix2 (⟨r.val, by omega⟩ : Fin 4097) k from funext fun a => Fin.ext (by
    match a with
    | ⟨0, _⟩ => first | rfl | exact Nat.zero_add _
    | ⟨1, _⟩ => first | rfl | exact Nat.zero_add _)]
  refine (pad_rows (val_main_v0 (F := Ideal) x0 x1) (val_main_call1_v0 (F := Ideal)) hz pads_S4096x5632_S4097x5632_100_000 h_S_ _ k).trans ?_
  unfold down
  by_cases h : 1 ≤ r.val
  · rw [dif_pos ⟨h, by show r.val - 1 < 4096; omega⟩, if_pos h]; exact u_eq x0 x1 _ k
  · rw [dif_neg fun hh => h hh.1, if_neg h]

/-- The offset and the three rows of the filter, spread over the rows. -/
theorem b_eq (r : Fin 4096) (k : Fin 5632) : val_main_v9 (F := Ideal) x3 (ix2 r k) = x3 (ix1 k) := by
  pointwise [val_main_v9, val_main_v8]

theorem w0_eq (r : Fin 4096) (k : Fin 5632) : val_main_v6 (F := Ideal) x2 (ix2 r k) = x2 (ix2 0 k) := by
  pointwise [val_main_v6, val_main_v5, val_main_v4, val_main_v3]

theorem w1_eq (r : Fin 4096) (k : Fin 5632) : val_main_v16 (F := Ideal) x2 (ix2 r k) = x2 (ix2 1 k) := by
  pointwise [val_main_v16, val_main_v15, val_main_v14, val_main_v13]

theorem w2_eq (r : Fin 4096) (k : Fin 5632) : val_main_v22 (F := Ideal) x2 (ix2 r k) = x2 (ix2 2 k) := by
  pointwise [val_main_v22, val_main_v21, val_main_v20, val_main_v19]

theorem y_eq (r : Fin 4096) (k : Fin 5632) : val_main_v24 (F := Ideal) x0 x1 x2 x3 (ix2 r k) = conv x0 x1 x2 x3 r k := by
  rw [val_main_v24_apply, val_main_v18_apply, val_main_v10_apply, val_main_v7_apply, val_main_v17_apply, val_main_v23_apply,
    b_eq, w0_eq, w1_eq, w2_eq, u2_eq, u1_eq, u_eq]
  rfl

theorem act_eq (r : Fin 4096) (k : Fin 2816) : val_main_v47 (F := Ideal) x0 x1 x2 x3 (ix2 r k) = act x0 x1 x2 x3 r k := by
  have e : val_main_v47 (F := Ideal) x0 x1 x2 x3 (ix2 r k) =
      geluJax (val_main_v26 (F := Ideal) x0 x1 x2 x3 (ix2 r k)) * val_main_v25 (F := Ideal) x0 x1 x2 x3 (ix2 r k) := by
    unfold geluJax
    rw [← ccR, ← caR, ← chalf, ← EReal.coe_one, ← cone]
    rfl
  have eg : val_main_v26 (F := Ideal) x0 x1 x2 x3 (ix2 r k) = conv x0 x1 x2 x3 r ⟨k.val + 2816, by omega⟩ := by
    rw [val_main_v26_apply]
    refine Eq.trans (congrArg _ (funext fun a => Fin.ext ?_)) (y_eq x0 x1 x2 x3 r ⟨k.val + 2816, by omega⟩)
    match a with
    | ⟨0, _⟩ => first | rfl | exact Nat.zero_add _
    | ⟨1, _⟩ => first | rfl | exact Nat.add_comm _ _
  have ev : val_main_v25 (F := Ideal) x0 x1 x2 x3 (ix2 r k) = conv x0 x1 x2 x3 r ⟨k.val, by omega⟩ := by
    rw [val_main_v25_apply]
    refine Eq.trans (congrArg _ (funext fun a => Fin.ext ?_)) (y_eq x0 x1 x2 x3 r ⟨k.val, by omega⟩)
    match a with
    | ⟨0, _⟩ => first | rfl | exact Nat.zero_add _
    | ⟨1, _⟩ => first | rfl | exact Nat.zero_add _
  rw [e, gelu_eq, eg, ev]
  rfl

/-- The two results whose columns stand in turns of 256. -/
theorem u_turns (r : Fin 4096) (k : Fin 5632) : val_main_v29 (F := Ideal) x0 x1 (ix2 r k) = prod x0 x1 r (mixed k) := by
  refine Eq.trans ?_ (u_eq x0 x1 r (mixed k))
  unfold val_main_v29 val_main_v28 val_main_v27
  generalize val_main_v0 (F := Ideal) x0 x1 = Y
  pointwise
  rfl

theorem y_turns (r : Fin 4096) (k : Fin 5632) : val_main_v32 (F := Ideal) x0 x1 x2 x3 (ix2 r k) = conv x0 x1 x2 x3 r (mixed k) := by
  refine Eq.trans ?_ (y_eq x0 x1 x2 x3 r (mixed k))
  unfold val_main_v32 val_main_v31 val_main_v30
  generalize val_main_v24 (F := Ideal) x0 x1 x2 x3 = Y
  pointwise
  rfl

end Cert.UpRefIdeal.Ref

end
-- ==== Proof.UpClaim.lean ====
/- The claims about the forward pass's convolution and gate call: the reference's frame, the named constant, and that the
   call's three results are the reference's, of all arguments. -/
module

public import proofs.«01_k».proof.Defs
public import proofs.«01_k».proof.Proof.UpValue
public import proofs.«01_k».proof.Proof.UpRef
public import proofs.«01_k».proof.Proof.Gen.UpRefIdeal.Run
public import Idealize.ShloMosaic.Lib.Quiescent

@[expose] public section

set_option maxRecDepth 16384

noncomputable section

namespace Cert.Proof.Up

open Idealize.ShloMosaic Idealize.SL.Sem

/-- Two arrays that agree at each row and column are equal. -/
theorem same {n k : ℕ} {x y : (⟨2, ![n, k]⟩ : Shape).Idx → EReal} (h : ∀ (i : Fin n) (j : Fin k), x (ix2 i j) = y (ix2 i j)) : x = y :=
  funext fun i => by rw [eq_ix2 i]; exact h _ _

/-- The reference's frame is what its run says of the arguments and the counters. -/
theorem frame_reference : Cert.quiescent_UpRefIdeal := fun m ρ _ =>
  (θ_run Cert.UpRefIdeal.defs _ _).mono (fun r h => ⟨fun c => (h c).2.2.2, sem_eq_zero_of_no_sems (by decide) r.2⟩)
    (Cert.UpRefIdeal.Value.run m ρ)

/-- The named constant is rewritten where it stands. -/
theorem preserves : Cert.preserves_Up_UpIdeal :=
  IdealRules.named_const.statement Cert.UpIdeal.κ "gelu_ca" .f32 0x3D122279#32 _ rfl

/-- The product, the convolution's output and the gated activation, from the same arguments. -/
theorem algebraic : Cert.algebraic_UpIdeal_UpRefIdeal := fun m ρ m' ρ' _ hargs =>
  ⟨fun c => (Cert.UpIdeal.Gen.dats m 0 c).arrAt 5 Cert.UpIdeal.cfg0.N,
    fun c => (Cert.UpIdeal.Gen.dats m 0 c).arrAt 6 Cert.UpIdeal.cfg0.N,
    fun c => (Cert.UpIdeal.Gen.dats m 0 c).arrAt 7 Cert.UpIdeal.cfg0.N,
    Cert.UpIdeal.Value.run_blocks m ρ,
    (θ_run Cert.UpRefIdeal.defs _ _).mono (fun r h c => by
      obtain ⟨a0, a1, a2, a3⟩ := hargs c
      obtain ⟨r0, r1, r2, k⟩ := h c
      refine ⟨r0.trans ?_, r1.trans ?_, r2.trans ?_, k⟩
      · rw [Cert.UpRefIdeal.Read.val_main_v29_eq, a0, a1]
        exact same fun r k => (Cert.UpRefIdeal.Ref.u_turns _ _ r k).trans (Cert.UpIdeal.Result.u_at m c r k).symm
      · rw [Cert.UpRefIdeal.Read.val_main_v32_eq, a0, a1, a2, a3]
        exact same fun r k => (Cert.UpRefIdeal.Ref.y_turns _ _ _ _ r k).trans (Cert.UpIdeal.Result.y_at m c r k).symm
      · rw [Cert.UpRefIdeal.Read.val_main_v47_eq, a0, a1, a2, a3]
        exact same fun r k => (Cert.UpRefIdeal.Ref.act_eq _ _ _ _ r k).trans (Cert.UpIdeal.Result.a_at m c r k).symm)
    (Cert.UpRefIdeal.Value.run m' ρ')⟩

end Cert.Proof.Up

end
-- ==== Proof.AttnFRow.lean ====
/- One row of the causal attention's forward pass while its keys are taken block by block: the running maximum and the weighted
   sums, and what a further block of keys makes of them. -/
module

public import proofs.«01_k».proof.Proof.AttnReads
public import proofs.«01_k».proof.Proof.AttnLayout
public import proofs.«01_k».proof.Proof.Gen.AttnFIdeal.Skeleton

@[expose] public section

set_option maxRecDepth 16384

noncomputable section

namespace Cert.AttnF

open Cert.AttnReal Cert.LnReal Cert.AttnIdeal.Pay Idealize.ShloMosaic

variable (H : Head)

/-- A key's exponential for a row, less the shift `M`, and the values' sums with these factors over the first `n` keys. -/
def ex (M : ℝ) (i k : ℕ) : ℝ := if k ≤ i then Real.rpow 2 (sc H i k * scale2 - M) else 0
def ac (M : ℝ) (n i l : ℕ) : ℝ := ∑ k ∈ Finset.range n, ex H M i k * H.V k l

theorem ac_add (M : ℝ) (n K i l : ℕ) : ac H M (n + K) i l = ac H M n i l + ∑ b : Fin K, ex H M i (n + b) * H.V (n + b) l := by
  rw [ac, Finset.sum_range_add, ← ac, Finset.sum_range]

theorem ac_more (M : ℝ) {n i l : ℕ} (K : ℕ) (h : i < n) : ac H M (n + K) i l = ac H M n i l := by
  rw [ac_add, add_eq_left]
  exact Finset.sum_eq_zero fun b _ => by rw [ex, if_neg (by omega), zero_mul]

theorem ac_shift (M M' : ℝ) (n i l : ℕ) : Real.rpow 2 (M - M') * ac H M n i l = ac H M' n i l := by
  unfold ac
  rw [Finset.mul_sum]
  refine Finset.sum_congr rfl fun k _ => ?_
  rw [← mul_assoc]
  refine congrArg (· * _) ?_
  unfold ex
  split
  · refine (Real.rpow_add (by norm_num) _ _).symm.trans (congrArg (Real.rpow 2) (by ring))
  · rw [mul_zero]

/-- A row's state after its first `n` keys: before any, a maximum of −∞ and sums of zero; then some real shift and the sums less it. -/
def RowIs (i n : ℕ) (m : EReal) (A : Fin 128 → EReal) : Prop :=
  (m = ⊥ ∧ n = 0 ∧ ∀ l, A l = 0) ∨ ∃ M : ℝ, m = (M : EReal) ∧ ∀ l : Fin 128, A l = ((ac H M n i l : ℝ) : EReal)

theorem RowIs.more {H : Head} {i n : ℕ} {m : EReal} {A : Fin 128 → EReal} (h : RowIs H i n m A) (K : ℕ) (hn : i < n) : RowIs H i (n + K) m A := by
  rcases h with ⟨_, h0, _⟩ | ⟨M, hm, hA⟩
  · omega
  · exact .inr ⟨M, hm, fun l => (hA l).trans (by rw [ac_more H M K hn])⟩

/-- The maximum after a further block of keys, of which the row sees the first. -/
theorem row_max {i n K : ℕ} {m : EReal} {A : Fin 128 → EReal} {s : Fin K → EReal} (h : RowIs H i n m A) (hn : n ≤ i) (hK : 0 < K)
    (hs : ∀ k, s k = if n + k.val ≤ i then ((sc H i (n + k) * scale2 : ℝ) : EReal) else ⊥) :
    ∃ M : ℝ, max m ((Finset.univ : Finset (Fin K)).fold max (⊥ : EReal) s) = (M : EReal) := by
  obtain ⟨M, hM⟩ := Cert.AttnLayout.fold_max_real s (fun c => by
    rw [hs]; split
    · exact EReal.coe_ne_top _
    · exact bot_ne_top) ⟨0, hK⟩ (by rw [hs, if_pos (show n + 0 ≤ i from hn)]; exact EReal.coe_ne_bot _)
  rcases h with ⟨hm, _, _⟩ | ⟨M0, hm, _⟩
  · exact ⟨M, by rw [hm, hM]; exact max_eq_right bot_le⟩
  · exact ⟨max M0 M, by rw [hm, hM]; exact (EReal.coe_strictMono.monotone.map_max).symm⟩

theorem row_step {i n K : ℕ} {m : EReal} {A A' : Fin 128 → EReal} {M' : ℝ} (h : RowIs H i n m A)
    (hA : ∀ l : Fin 128, A' l = Ideal.exp2 (m - (M' : EReal)) * A l + ((∑ b : Fin K, ex H M' i (n + b) * H.V (n + b) l : ℝ) : EReal)) :
    RowIs H i (n + K) (M' : EReal) A' := by
  refine .inr ⟨M', rfl, fun l => ?_⟩
  rw [hA, ac_add, EReal.coe_add]
  refine congrArg (· + _) ?_
  rcases h with ⟨hm, h0, hz⟩ | ⟨M, hm, hs⟩
  · rw [hz, mul_zero, h0]
    exact (congrArg (fun x : ℝ => (x : EReal)) (Finset.sum_range_zero _)).symm
  · rw [hm, hs, ← EReal.coe_sub, exp2_real, ← EReal.coe_mul, ac_shift]

section Blocks

variable {R K r n : ℕ}

/-- The maximum of the old one and the block's scores. -/
theorem newMax_at (s : FVec Ideal ⟨2, ![R, K]⟩ .f32) (m : FVec Ideal ⟨2, ![R, 1]⟩ .f32) (h : Shape.Reduces ⟨2, ![R, K]⟩ [1] ⟨1, ![R]⟩) (h1 h2)
    (hc : (⟨1, ![R]⟩ : Shape).ShapeCasts ⟨2, ![R, 1]⟩) (a : Fin R) :
    maximumf m (shapeCast ⟨2, ![R, 1]⟩ (multiReduction .maximumf [1] ⟨1, ![R]⟩ s 0xFF800000#32 h h1 h2) hc) (ix2 a 0)
      = max (m (ix2 a 0)) ((Finset.univ : Finset (Fin K)).fold max (⊥ : EReal) fun k => s (ix2 a k)) := by
  show max (m (ix2 a 0)) (shapeCast ⟨2, ![R, 1]⟩ (multiReduction .maximumf [1] ⟨1, ![R]⟩ s 0xFF800000#32 h h1 h2) hc (ix2 a 0)) = _
  refine congrArg (max _) ?_
  rw [shapeCast_apply _ hc (ix2 a 0) (ix1 a) (by
    rw [Shape.rowMajor_val_one, Shape.rowMajor_val_two]; show a.val = a.val * 1 + 0; omega)]
  refine (Ideal.multiReduction_maximumf_single s _ h _ _ (ix1 a)).trans ?_
  rw [show (FloatOps.ofBits FTy.f32 0xFF800000#32 : Ideal .f32) = (⊥ : EReal) from Cert.AttnLayout.neg_inf]
  refine congrArg (fun f => Finset.fold max (⊥ : EReal) f Finset.univ) (funext fun k => congrArg s (funext fun d => Fin.ext ?_))
  match d with
  | ⟨0, _⟩ => rfl
  | ⟨1, _⟩ => rfl

/-- A block of keys taken by a block of rows, whose keys before it are the first `n`. -/
theorem block_step {s : FVec Ideal ⟨2, ![R, K]⟩ .f32} {m M2 : FVec Ideal ⟨2, ![R, 1]⟩ .f32} {A : FVec Ideal ⟨2, ![R, 128]⟩ .f32}
    {mm : FVec Ideal ⟨2, ![R, K]⟩ .bf16 → FVec Ideal ⟨2, ![R, 128]⟩ .f32} (h1 h2 hb)
    (hs : ∀ (a : Fin R) (k : Fin K), s (ix2 a k) = if n + k.val ≤ r + a.val then ((sc H (r + a) (n + k) * scale2 : ℝ) : EReal) else ⊥)
    (hm : ∀ a : Fin R, RowIs H (r + a) n (m (ix2 a 0)) fun l => A (ix2 a l)) (hn : n ≤ r) (hK : 0 < K)
    (hM : ∀ a : Fin R, M2 (ix2 a 0) = max (m (ix2 a 0)) ((Finset.univ : Finset (Fin K)).fold max (⊥ : EReal) fun k => s (ix2 a k)))
    (hmm : ∀ (p : FVec Ideal ⟨2, ![R, K]⟩ .bf16) (f : ℕ → ℕ → ℝ), Is p f → Is (mm p) fun a l => ∑ b : Fin K, f a b * H.V (n + b) l) (a : Fin R) :
    RowIs H (r + a) (n + K) (M2 (ix2 a 0)) fun l =>
      addf (mulf (broadcastTo ⟨2, ![R, 128]⟩ (exp2 (subf m M2)) h1) A) (mm (truncf .bf16 (exp2 (subf s (broadcastTo ⟨2, ![R, K]⟩ M2 h2))) hb)) (ix2 a l) := by
  have hR : ∀ a : Fin R, ∃ M : ℝ, M2 (ix2 a 0) = (M : EReal) := fun a => by
    obtain ⟨M, e⟩ := row_max H (hm a) (by omega) hK (hs a)
    exact ⟨M, (hM a).trans e⟩
  choose M0 hM0 using hR
  have hM1 : ∃ M1 : ℕ → ℝ, ∀ a : Fin R, M2 (ix2 a 0) = (M1 a : EReal) :=
    ⟨fun x => if h : x < R then M0 ⟨x, h⟩ else 0, fun a => (hM0 a).trans (congrArg _ (by beta_reduce; rw [dif_pos a.isLt]))⟩
  obtain ⟨M1, hM1⟩ := hM1
  have hp : Is (truncf (F := Ideal) .bf16 (exp2 (subf s (broadcastTo ⟨2, ![R, K]⟩ M2 h2))) hb) fun a b => ex H (M1 a) (r + a) (n + b) := fun a b => by
    show Ideal.exp2 (s (ix2 a b) - broadcastTo ⟨2, ![R, K]⟩ M2 h2 (ix2 a b)) = _
    rw [spread, hM1, hs]
    beta_reduce
    unfold ex
    split
    · rw [← EReal.coe_sub, exp2_real]
    · rw [EReal.bot_sub, Ideal.exp2_bot]; exact EReal.coe_zero.symm
  rw [hM1 a]
  refine row_step H (hm a) fun l => ?_
  show broadcastTo ⟨2, ![R, 128]⟩ (exp2 (subf m M2)) h1 (ix2 a l) * A (ix2 a l) + mm _ (ix2 a l) = _
  rw [hmm _ _ hp a l, spread]
  show Ideal.exp2 (m (ix2 a 0) - M2 (ix2 a 0)) * _ + _ = _
  rw [hM1 a]

end Blocks

end Cert.AttnF

namespace Cert.AttnFIdeal.Pay

open Cert.AttnFIdeal Cert.AttnFIdeal.Gen Cert.AttnReal Cert.LnReal Cert.AttnF Cert.AttnIdeal.Pay Idealize.ShloMosaic

theorem nscale : Named.named (F := Ideal) (φ := .f32) Cert.AttnFIdeal.κ "scale_log2" 0x3E16C740#32 = (scale2 : EReal) := by
  rw [IdealRules.named_const.ideal_named_scalar _ _ _ _ rfl]
  exact congrArg _ (by unfold scale2; norm_num)

theorem nmask : Named.named (F := Ideal) (φ := .f32) Cert.AttnFIdeal.κ "mask" 0xF149F2CA#32 = (⊥ : EReal) := by
  rw [IdealRules.named_const.ideal_named_scalar _ _ _ _ rfl]

theorem nlog : Named.named (F := Ideal) (φ := .f32) Cert.AttnFIdeal.κ "log2_e" 0x3FB8AA3B#32 = (((Real.log 2)⁻¹ : ℝ) : EReal) := by
  rw [IdealRules.named_const.ideal_named_scalar _ _ _ _ rfl]

section Products

variable {f g : ℕ → ℕ → ℝ}

theorem rowsKeys {x y : FVec Ideal S1024x128 .bf16} (hx : Is x f) (hy : Is y g) :
    Is (matmul (F := Ideal) dot_S1024x128_S1024x128_S1024x1024_1_1_0_0_n_n none x y (constant S1024x1024 .f32 0x00000000#32)) fun a b => ∑ l : Fin 128, f a l * g b l := by
  intro a b
  pointwise []
  simp only [hx _ _, hy _ _, ← EReal.coe_mul, coe_sum, zero_add]

theorem overKeys_1024 {x : FVec Ideal S1024x1024 .bf16} {y : FVec Ideal S1024x128 .bf16} (hx : Is x f) (hy : Is y g) :
    Is (matmul (F := Ideal) dot_S1024x1024_S1024x128_S1024x128_1_0_0_1_n_n none x y (constant S1024x128 .f32 0x00000000#32)) fun a b => ∑ l : Fin 1024, f a l * g l b := by
  intro a b
  pointwise []
  simp only [hx _ _, hy _ _, ← EReal.coe_mul, coe_sum, zero_add]

theorem overKeys_512 {x : FVec Ideal S512x512 .bf16} {y : FVec Ideal S512x128 .bf16} (hx : Is x f) (hy : Is y g) :
    Is (matmul (F := Ideal) dot_S512x512_S512x128_S512x128_1_0_0_1_n_n none x y (constant S512x128 .f32 0x00000000#32)) fun a b => ∑ l : Fin 512, f a l * g l b := by
  intro a b
  pointwise []
  simp only [hx _ _, hy _ _, ← EReal.coe_mul, coe_sum, zero_add]

end Products

variable {H : Head} {r n : ℕ}

/-- The scaled scores of a block of keys. -/
theorem scores {q : FVec Ideal S1024x128 .bf16} {k : Vec Ideal S1x1024x128 .bf16} (hq : Is q fun a l => H.Q (r + a) l) (hk : Is3 k fun b l => H.K (n + b) l) :
    Is (k0_pay4 (F := Ideal) q k) fun a b => sc H (r + a) (n + b) * scale2 := fun a b =>
  (congrArg₂ (· * ·) (rowsKeys hq (Is3.flat hk _) a b) nscale).trans (EReal.coe_mul _ _).symm

/-- What one trip of the loop makes of the rows' state. -/
theorem trip_step {s : Vec Ideal S1024x1024 .f32} {v : Vec Ideal S1x1024x128 .bf16} {m : Vec Ideal S1024x1 .f32} {A : Vec Ideal S1024x128 .f32}
    (hs : Is s fun a b => sc H (r + a) (n + b) * scale2) (hv : Is3 v fun b l => H.V (n + b) l) (hn : n + 1024 ≤ r)
    (hm : ∀ a : Fin 1024, RowIs H (r + a) n (m (ix2 a 0)) fun l => A (ix2 a l)) (a : Fin 1024) :
    RowIs H (r + a) (n + 1024) (k0_pay7 (F := Ideal) s m (ix2 a 0)) fun l => k0_pay6 (F := Ideal) s v m A (ix2 a l) := by
  have e7 : k0_pay7 (F := Ideal) s m = k0_pay5 s m := shapeCast_self _ _
  rw [e7]
  unfold k0_pay6
  simp only [shapeCast_self]
  exact block_step H (mm := fun p => matmul (F := Ideal) dot_S1024x1024_S1024x128_S1024x128_1_0_0_1_n_n none p _ (constant S1024x128 .f32 0x00000000#32)) _ _ _
    (fun a k => (hs a k).trans (if_pos (by omega)).symm) hm (by omega) (by decide) (fun a => newMax_at s m _ _ _ _ a) (fun p f hp => overKeys_1024 hp (Is3.flat hv _)) a

/-- The masked scores, and what the two halves of the diagonal make of their rows' state. -/
theorem masked_at (c K : ℕ) (hK : K ≤ 2048) {s : FVec Ideal ⟨2, ![512, K]⟩ .f32} (h1 h2) (hc : c ≤ 512)
    (hs : Is s fun a b => sc H (n + c + a) (n + b) * scale2) (a : Fin 512) (b : Fin K) :
    select (cmpi .sge (addi (iota .tc ⟨2, ![512, K]⟩ 32 [0] h1) (broadcast ⟨2, ![512, K]⟩ (BitVec.ofNat 32 c))) (iota .tc ⟨2, ![512, K]⟩ 32 [1] h2)) s
      (broadcast ⟨2, ![512, K]⟩ (Named.named (F := Ideal) (φ := .f32) Cert.AttnFIdeal.κ "mask" 0xF149F2CA#32)) (ix2 a b)
      = if n + b.val ≤ n + c + a.val then ((sc H (n + c + a) (n + b) * scale2 : ℝ) : EReal) else ⊥ := by
  have hc' := mask_at c a.val b.val (by have := a.isLt; omega) (by have := b.isLt; omega)
  show Scalar.select (IntOp.cmpi .sge (IntOp.addi (iota .tc ⟨2, ![512, K]⟩ 32 [0] h1 (ix2 a b)) (BitVec.ofNat 32 c)) (iota .tc ⟨2, ![512, K]⟩ 32 [1] h2 (ix2 a b))) (s (ix2 a b)) (Named.named (F := Ideal) (φ := .f32) Cert.AttnFIdeal.κ "mask" 0xF149F2CA#32) = _
  have i1 : iota .tc ⟨2, ![512, K]⟩ 32 [0] h1 (ix2 a b) = BitVec.ofNat 32 a.val := by pointwise []
  have i2 : iota .tc ⟨2, ![512, K]⟩ 32 [1] h2 (ix2 a b) = BitVec.ofNat 32 b.val := by pointwise []
  rw [i1, i2, hc', hs a b, nmask]
  by_cases h : b.val ≤ c + a.val
  · rw [if_pos h, if_pos (by omega)]; rfl
  · rw [if_neg h, if_neg (by omega)]; rfl

theorem upper_step {s : Vec Ideal S512x512 .f32} {v : Vec Ideal S1x512x128 .bf16} {m : Vec Ideal S512x1 .f32} {A : Vec Ideal S512x128 .f32}
    (hs : Is s fun a b => sc H (n + 0 + a) (n + b) * scale2) (hv : Is3 v fun b l => H.V (n + b) l)
    (hm : ∀ a : Fin 512, RowIs H (n + 0 + a) n (m (ix2 a 0)) fun l => A (ix2 a l)) (a : Fin 512) :
    RowIs H (n + 0 + a) (n + 512) (k0_pay22 (F := Ideal) k0_pay18 s m (ix2 a 0)) fun l => k0_pay21 (F := Ideal) k0_pay18 s v m A (ix2 a l) := by
  have e7 : k0_pay22 (F := Ideal) k0_pay18 s m = k0_pay20 k0_pay18 s m := shapeCast_self _ _
  rw [e7]
  unfold k0_pay21
  simp only [shapeCast_self]
  exact block_step H (mm := fun p => matmul (F := Ideal) dot_S512x512_S512x128_S512x128_1_0_0_1_n_n none p _ (constant S512x128 .f32 0x00000000#32)) _ _ _
    (fun a k => masked_at 0 512 (by decide) _ _ (by decide) hs a k) hm (by omega) (by decide) (fun a => newMax_at _ m _ _ _ _ a) (fun p f hp => overKeys_512 hp (Is3.flat hv _)) a

theorem lower_step {s : Vec Ideal S512x1024 .f32} {v : Vec Ideal S1x1024x128 .bf16} {m : Vec Ideal S512x1 .f32} {A : Vec Ideal S512x128 .f32}
    (hs : Is s fun a b => sc H (n + 512 + a) (n + b) * scale2) (hv : Is3 v fun b l => H.V (n + b) l)
    (hm : ∀ a : Fin 512, RowIs H (n + 512 + a) n (m (ix2 a 0)) fun l => A (ix2 a l)) (a : Fin 512) :
    RowIs H (n + 512 + a) (n + 1024) (k0_pay27 (F := Ideal) s k0_pay23 m (ix2 a 0)) fun l => k0_pay26 (F := Ideal) s k0_pay23 v m A (ix2 a l) := by
  have e7 : k0_pay27 (F := Ideal) s k0_pay23 m = k0_pay25 s k0_pay23 m := shapeCast_self _ _
  rw [e7]
  unfold k0_pay26
  simp only [shapeCast_self]
  exact block_step H (mm := fun p => matmul (F := Ideal) dot_S512x1024_S1024x128_S512x128_1_0_0_1_n_n none p _ (constant S512x128 .f32 0x00000000#32)) _ _ _
    (fun a k => masked_at 512 1024 (by decide) _ _ (by decide) hs a k) hm (by omega) (by decide) (fun a => newMax_at _ m _ _ _ _ a)
    (fun p f hp => overKeys_512_1024 hp (Is3.flat hv _)) a

/-- The row's results from its state: the sums over the sum of the exponentials, and the logarithm of that sum to base two. -/
theorem out_at {A : Vec Ideal S1024x128 .f32} {M : ℝ} {i : ℕ} {N : ℕ} (a : Fin 1024) (hA : ∀ l : Fin 128, A (ix2 a l) = ((ac H M N i l : ℝ) : EReal)) (h0 : ac H M N i 64 ≠ 0) (l : Fin 128) :
    k0_pay29 (F := Ideal) A (ix2 a l) = ((if l.val < 64 then ac H M N i l / ac H M N i 64 else 0 : ℝ) : EReal) := by
  have e : ∀ b : Fin 1, k0_pay28 (F := Ideal) A (ix2 a b) = ((ac H M N i 64 : ℝ) : EReal) := fun b => by
    refine Eq.trans (extractStridedSlice_apply (s := S1024x128) ![0, 64] A slices_S1024x128_o0_64_S1024x1 (ix2 a b) (ix2 a ⟨64, by decide⟩) fun d => ?_) (hA ⟨64, by decide⟩)
    match d with
    | ⟨0, _⟩ => exact (Nat.zero_add _).symm
    | ⟨1, _⟩ => show 64 = 64 + b.val; omega
  have hi : iota .tc S1024x128 32 [1] iota_S1024x128_d1_w32 (ix2 a l) = BitVec.ofNat 32 l.val := by pointwise []
  have hl : IntOp.cmpi .slt (BitVec.ofNat 32 l.val) 64#32 = if l.val < 64 then 1#1 else 0#1 := by
    exact (by decide +kernel : ∀ l : Fin 128, IntOp.cmpi .slt (BitVec.ofNat 32 l.val) 64#32 = if l.val < 64 then 1#1 else 0#1) l
  show Scalar.select (IntOp.cmpi .slt (iota .tc S1024x128 32 [1] iota_S1024x128_d1_w32 (ix2 a l)) 64#32)
    (A (ix2 a l) * broadcastTo S1024x128 (divf (broadcast S1024x1 (Scalar.ofBits (F := Ideal) .f32 0x3F800000#32)) (k0_pay28 (F := Ideal) A)) broadcasts_S1024x1_S1024x128 (ix2 a l))
    (Scalar.ofBits (F := Ideal) .f32 0x00000000#32) = _
  rw [hi, hl]
  by_cases h : l.val < 64
  · rw [if_pos h, if_pos h]
    refine Eq.trans (b := A (ix2 a l) * Ideal.div (Scalar.ofBits (F := Ideal) .f32 0x3F800000#32) (k0_pay28 (F := Ideal) A (ix2 a 0))) (congrArg (A (ix2 a l) * ·) (spread _ _ a l)) ?_
    rw [hA, e, show (Scalar.ofBits (F := Ideal) .f32 0x3F800000#32) = ((1 : ℝ) : EReal) from by
      show Ideal.ofBits .f32 0x3F800000#32 = _
      simp [Ideal.ofBits, Ideal.ieee, -EReal.coe_mul]; norm_num, Cert.AttnLayout.div_real _ h0, ← EReal.coe_mul]
    exact congrArg _ (by ring)
  · rw [if_neg h, if_neg h]
    exact (show _ = Ideal.ofBits FTy.f32 0#32 from rfl).trans ((Ideal.ofBits_zero _).trans EReal.coe_zero.symm)

theorem lse_at {A : Vec Ideal S1024x128 .f32} {m : Vec Ideal S1024x1 .f32} {M : ℝ} {i : ℕ} {N : ℕ} (a : Fin 1024) (hm : m (ix2 a 0) = (M : EReal))
    (hA : ∀ l : Fin 128, A (ix2 a l) = ((ac H M N i l : ℝ) : EReal)) (h0 : 0 < ac H M N i 64) (l : Fin 128) :
    k0_pay3 (F := Ideal) (k0_pay28 (F := Ideal) A) m (ix3 0 a l) = ((M + Real.log (ac H M N i 64) * (Real.log 2)⁻¹ : ℝ) : EReal) := by
  have e : k0_pay28 (F := Ideal) A (ix2 a 0) = ((ac H M N i 64 : ℝ) : EReal) := by
    refine Eq.trans (extractStridedSlice_apply (s := S1024x128) ![0, 64] A slices_S1024x128_o0_64_S1024x1 (ix2 a 0) (ix2 a ⟨64, by decide⟩) fun d => ?_) (hA ⟨64, by decide⟩)
    match d with
    | ⟨0, _⟩ => exact (Nat.zero_add _).symm
    | ⟨1, _⟩ => rfl
  unfold k0_pay3
  refine (unflat _ _ a l).trans ((spread _ _ a l).trans ?_)
  rw [shapeCast_self]
  show m (ix2 a 0) + Ideal.log (k0_pay28 (F := Ideal) A (ix2 a 0)) * Named.named (F := Ideal) (φ := .f32) Cert.AttnFIdeal.κ "log2_e" 0x3FB8AA3B#32 = _
  rw [hm, e, nlog, Ideal.log_coe, if_neg h0.not_ge, ← EReal.coe_mul, ← EReal.coe_add]

end Cert.AttnFIdeal.Pay

end
-- ==== Proof.AttnFTrip.lean ====
/- The attention's forward call: what its loop over the earlier blocks of keys leaves in the rows' running maximum and sums, and
   in the buffer of scores. -/
module

public import proofs.«01_k».proof.Proof.AttnFRow
public import proofs.«01_k».proof.Proof.Gen.AttnFIdeal.Loops

@[expose] public section

set_option maxRecDepth 16384

noncomputable section

namespace Cert.AttnFIdeal.Gen

open Idealize.ShloMosaic Idealize.ShloMosaic.TcCoe Idealize.ShloMosaic.Tactic
open Idealize.ShloMosaic.Pointwise Cert.AttnReal Cert.AttnF Cert.AttnIdeal.Pay Cert.AttnFIdeal.Pay

section Rows

variable {sig' : RefSig} {κ' : Kind} {sp : Space} {N M n r r0 : ℕ} {H : Head}

/-- Every row's state, of rows from the `r`-th on, row `a` having taken `cnt a` keys. -/
def Rows (H : Head) (r : ℕ) (cnt : ℕ → ℕ) {n : ℕ} (m : (⟨2, ![n, 1]⟩ : Shape).Idx → EReal) (A : (⟨2, ![n, 128]⟩ : Shape).Idx → EReal) : Prop :=
  ∀ a : Fin n, RowIs H (r + a) (cnt a) (m (ix2 a 0)) fun l => A (ix2 a l)

/-- A load of rows reads them. -/
theorem load2_row {e : EltTy} (v : View sig' κ' sp ⟨2, ![N, M]⟩ e) (f : v.ty.Contents (Elt Ideal)) {off : Fin 2 → ℕ}
    (inb : ∀ a, off a + (![n, M] : Fin 2 → ℕ) a ≤ (⟨2, ![N, M]⟩ : Shape).size a) (ho : off = ![r, 0]) (a : Fin n) (b : Fin M) (ha : r + a.val < N) :
    v.readAt (Elt Ideal) (Rect.unit (s := ⟨2, ![N, M]⟩) off ![n, M] inb).toLoadRect f (ix2 a b) = v.read (Elt Ideal) f (ix2 ⟨r + a.val, ha⟩ b) := by
  subst ho
  refine congrArg (v.read (Elt Ideal) f) (funext fun d => Fin.ext ?_)
  match d with
  | ⟨0, _⟩ => show r + 1 * a.val = r + a.val; omega
  | ⟨1, _⟩ => show 0 + 1 * b.val = b.val; omega

/-- A store of rows, read back on them and beside them. -/
theorem store2_on {e : EltTy} (v : View sig' κ' sp ⟨2, ![N, M]⟩ e) (f : v.ty.Contents (Elt Ideal)) (L : List (View.Piece (Elt Ideal) ⟨2, ![N, M]⟩ e)) {off : Fin 2 → ℕ}
    (inb : ∀ a, off a + (![n, M] : Fin 2 → ℕ) a ≤ (⟨2, ![N, M]⟩ : Shape).size a) (w : (⟨2, ![n, M]⟩ : Shape).Idx → Elt Ideal e) (ho : off = ![r, 0]) (i : Fin N) (a : Fin n) (b : Fin M)
    (ha : i.val = r + a.val) :
    v.read (Elt Ideal) (v.writes (Elt Ideal) f (⟨Rect.unit (s := ⟨2, ![N, M]⟩) off ![n, M] inb, w⟩ :: L)) (ix2 i b) = w (ix2 a b) :=
  View.read_writes_cons_unit_of_mem v f inb w L (ix2 i b) (ix2 a b) ho fun d => by
    match d with
    | ⟨0, _⟩ => exact ha
    | ⟨1, _⟩ => exact (Nat.zero_add _).symm

theorem store2_off {e : EltTy} (v : View sig' κ' sp ⟨2, ![N, M]⟩ e) (f : v.ty.Contents (Elt Ideal)) (L : List (View.Piece (Elt Ideal) ⟨2, ![N, M]⟩ e)) {off : Fin 2 → ℕ}
    (inb : ∀ a, off a + (![n, M] : Fin 2 → ℕ) a ≤ (⟨2, ![N, M]⟩ : Shape).size a) (w : (⟨2, ![n, M]⟩ : Shape).Idx → Elt Ideal e) (ho : off = ![r, 0]) (i : Fin N) (b : Fin M)
    (ha : i.val < r ∨ r + n ≤ i.val) :
    v.read (Elt Ideal) (v.writes (Elt Ideal) f (⟨Rect.unit (s := ⟨2, ![N, M]⟩) off ![n, M] inb, w⟩ :: L)) (ix2 i b) = v.read (Elt Ideal) (v.writes (Elt Ideal) f L) (ix2 i b) :=
  View.read_writes_cons_unit_of_not_mem v f inb w L (ix2 i b) ho (0 : Fin 2) ha

variable (v : View sig' κ' sp ⟨2, ![N, 1]⟩ .f32) (f : v.ty.Contents (Elt Ideal)) (w : View sig' κ' sp ⟨2, ![N, 128]⟩ .f32) (g : w.ty.Contents (Elt Ideal))
  {off off' : Fin 2 → ℕ} {cnt cnt' : ℕ → ℕ}

theorem load_rows (inb : ∀ a, off a + (![n, 1] : Fin 2 → ℕ) a ≤ (⟨2, ![N, 1]⟩ : Shape).size a) (inb' : ∀ a, off' a + (![n, 128] : Fin 2 → ℕ) a ≤ (⟨2, ![N, 128]⟩ : Shape).size a)
    (ho : off = ![r0, 0]) (ho' : off' = ![r0, 0]) (h : Rows H r cnt (v.read (Elt Ideal) f) (w.read (Elt Ideal) g)) :
    Rows H (r + r0) (fun a => cnt (r0 + a)) (n := n) (v.readAt (Elt Ideal) (Rect.unit (s := ⟨2, ![N, 1]⟩) off ![n, 1] inb).toLoadRect f)
      (w.readAt (Elt Ideal) (Rect.unit (s := ⟨2, ![N, 128]⟩) off' ![n, 128] inb').toLoadRect g) := fun a => by
  have hl : r0 + a.val < N := by
    have h1 : r0 + n ≤ N := by subst ho; exact inb 0
    omega
  rw [load2_row v f inb ho a 0 hl]
  rw [show (fun l => w.readAt (Elt Ideal) (Rect.unit (s := ⟨2, ![N, 128]⟩) off' ![n, 128] inb').toLoadRect g (ix2 a l)) = fun l => w.read (Elt Ideal) g (ix2 ⟨r0 + a.val, hl⟩ l) from
    funext fun l => load2_row w g inb' ho' a l hl, Nat.add_assoc]
  exact h ⟨r0 + a.val, hl⟩

/-- A store of some rows' new state keeps the others'. -/
theorem store_rows (L : List (View.Piece (Elt Ideal) ⟨2, ![N, 1]⟩ .f32)) (L' : List (View.Piece (Elt Ideal) ⟨2, ![N, 128]⟩ .f32))
    (inb : ∀ a, off a + (![n, 1] : Fin 2 → ℕ) a ≤ (⟨2, ![N, 1]⟩ : Shape).size a) (inb' : ∀ a, off' a + (![n, 128] : Fin 2 → ℕ) a ≤ (⟨2, ![N, 128]⟩ : Shape).size a)
    (m : (⟨2, ![n, 1]⟩ : Shape).Idx → EReal) (A : (⟨2, ![n, 128]⟩ : Shape).Idx → EReal) (ho : off = ![r0, 0]) (ho' : off' = ![r0, 0])
    (h : ∀ i : Fin N, i.val < r0 ∨ r0 + n ≤ i.val → RowIs H (r + i) (cnt' i) (v.read (Elt Ideal) (v.writes (Elt Ideal) f L) (ix2 i 0)) fun l => w.read (Elt Ideal) (w.writes (Elt Ideal) g L') (ix2 i l))
    (hw : Rows H (r + r0) (fun a => cnt' (r0 + a)) m A) :
    Rows H r cnt' (v.read (Elt Ideal) (v.writes (Elt Ideal) f (⟨Rect.unit (s := ⟨2, ![N, 1]⟩) off ![n, 1] inb, m⟩ :: L)))
      (w.read (Elt Ideal) (w.writes (Elt Ideal) g (⟨Rect.unit (s := ⟨2, ![N, 128]⟩) off' ![n, 128] inb', A⟩ :: L'))) := fun i => by
  by_cases ha : i.val < r0 ∨ r0 + n ≤ i.val
  · rw [store2_off v f L inb m ho i 0 ha]
    rw [show (fun l => w.read (Elt Ideal) (w.writes (Elt Ideal) g (⟨Rect.unit (s := ⟨2, ![N, 128]⟩) off' ![n, 128] inb', A⟩ :: L')) (ix2 i l)) = _ from
      funext fun l => store2_off w g L' inb' A ho' i l ha]
    exact h i ha
  · have e : i.val = r0 + (⟨i.val - r0, by omega⟩ : Fin n).val := by show i.val = r0 + (i.val - r0); omega
    rw [store2_on v f L inb m ho i ⟨i.val - r0, by omega⟩ 0 e]
    rw [show (fun l => w.read (Elt Ideal) (w.writes (Elt Ideal) g (⟨Rect.unit (s := ⟨2, ![N, 128]⟩) off' ![n, 128] inb', A⟩ :: L')) (ix2 i l)) = _ from
      funext fun l => store2_on w g L' inb' A ho' i ⟨i.val - r0, by omega⟩ l e]
    have q := hw ⟨i.val - r0, by omega⟩
    rw [Nat.add_assoc] at q
    simpa only [← e] using q

end Rows

theorem trips1 : ∀ i : grid0.Coords, (k0_t1_loop i).trips = (i 1).val := by decide +kernel
theorem trips2 : ∀ i : grid0.Coords, (k0_t2_loop i).trips = 0 := by decide +kernel
theorem off1_eq : ∀ (i : grid0.Coords) (k : Fin (k0_t1_loop i).trips), k0_off1 i k = ![0, 1024 * (k.val + 1), 0] := by decide +kernel
theorem off2_eq : ∀ (i : grid0.Coords) (k : Fin (k0_t1_loop i).trips), k0_off2 i k = ![0, 1024 * k.val, 0] := by decide +kernel
theorem off5_eq : ∀ i : grid0.Coords, k0_off5 i = ![0, 1024 * (i 1).val, 0] := by decide +kernel
theorem off6_eq : ∀ i : grid0.Coords, k0_off6 i = ![0, 1024 * (i 1).val, 0] := by decide +kernel

variable (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x1024x128 .f32) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x128 .f32) (harg9 : arg9.IsWhole) (arg10 : Memref sig .tc .vmem S1024x1024 .f32) (harg10 : arg10.IsWhole)
variable {H : Head} {v0 : Vec Ideal S1x1024x128 .bf16} {X3 : BufTy.Contents (Elt Ideal) arg3.view.ty} {X4 : BufTy.Contents (Elt Ideal) arg4.view.ty}
variable (𝒱 : Variants) (bd : Option 𝒱.V)

/-- Before trip `n`: the rows have taken the first `1024 * n` keys, and the scores against the next block lie ready. -/
theorem trips_upto (hq : Is3 v0 fun a l => H.Q (1024 * (i 1).val + a) l) (K3 : Is3 (arg3.view.read (Elt Ideal) X3) H.K) (V4 : Is3 (arg4.view.read (Elt Ideal) X4) H.V)
    (G8 : BufTy.Contents (Elt Ideal) arg8.view.ty) (G9 : BufTy.Contents (Elt Ideal) arg9.view.ty) (G10 : BufTy.Contents (Elt Ideal) arg10.view.ty)
    (h0 : Rows H (1024 * (i 1).val) (fun _ => 0) (arg8.view.read (Elt Ideal) G8) (arg9.view.read (Elt Ideal) G9))
    (s0 : Is (arg10.view.read (Elt Ideal) G10) fun a b => sc H (1024 * (i 1).val + a) b * scale2) (n : ℕ) (hn : n ≤ (k0_t1_loop i).trips) :
    Rows H (1024 * (i 1).val) (fun _ => 1024 * n) (arg8.view.read (Elt Ideal) (arg8.view.writes (Elt Ideal) G8 (pb_k0_t1 (F := Ideal) 𝒱 c bd i arg2 harg2 arg3 harg3 arg4 harg4 arg5 harg5 arg6 harg6 arg7 harg7 arg8 harg8 arg9 harg9 arg10 harg10 v0 X3 X4 G8 G9 G10 n).1))
      (arg9.view.read (Elt Ideal) (arg9.view.writes (Elt Ideal) G9 (pb_k0_t1 (F := Ideal) 𝒱 c bd i arg2 harg2 arg3 harg3 arg4 harg4 arg5 harg5 arg6 harg6 arg7 harg7 arg8 harg8 arg9 harg9 arg10 harg10 v0 X3 X4 G8 G9 G10 n).2.1)) ∧
    Is (arg10.view.read (Elt Ideal) (arg10.view.writes (Elt Ideal) G10 (pb_k0_t1 (F := Ideal) 𝒱 c bd i arg2 harg2 arg3 harg3 arg4 harg4 arg5 harg5 arg6 harg6 arg7 harg7 arg8 harg8 arg9 harg9 arg10 harg10 v0 X3 X4 G8 G9 G10 n).2.2)) fun a b => sc H (1024 * (i 1).val + a) (1024 * n + b) * scale2 := by
  induction n with
  | zero => exact ⟨h0, s0.congr fun a b => by rw [Nat.mul_zero, Nat.zero_add]⟩
  | succ n ih =>
    obtain ⟨iA, i10⟩ := ih (Nat.le_of_succ_le hn)
    have e := pb_k0_t1_succ (F := Ideal) 𝒱 c bd i arg2 harg2 arg3 harg3 arg4 harg4 arg5 harg5 arg6 harg6 arg7 harg7 arg8 harg8 arg9 harg9 arg10 harg10 v0 X3 X4 G8 G9 G10 ⟨n, hn⟩
    rw [show (⟨n, hn⟩ : Fin (k0_t1_loop i).trips).val + 1 = n + 1 from rfl] at e
    rw [e]
    have hlt := trips1 i
    unfold tripL_k0_t1 trip_k0_t1
    refine ⟨store_rows arg8.view _ arg9.view _ _ _ _ _ _ _ rfl rfl (fun a h => absurd h (by omega)) ?_, fill2 arg10.view _ _ _ _ rfl ?_⟩
    · exact fun a => trip_step ((load2 arg10.view _ _ rfl i10).congr fun a b => by simp only [Nat.zero_add, Nat.add_zero]) (load3h arg4.view X4 _ (off2_eq i ⟨n, hn⟩) V4) (by omega)
        (fun a => load_rows arg8.view _ arg9.view _ _ _ rfl rfl iA a) a
    · exact Is.self (scores (Is3.flat hq _) (load3h arg3.view X3 _ (off1_eq i ⟨n, hn⟩) K3)) _

end Cert.AttnFIdeal.Gen

end
-- ==== Proof.AttnFOut.lean ====
/- The attention's forward call: what one point of its grid, a head's block of rows, leaves in its three results. -/
module

public import proofs.«01_k».proof.Proof.AttnFTrip
public import proofs.«01_k».proof.Proof.Gen.AttnFIdeal.Frame.RunA

@[expose] public section

set_option maxRecDepth 16384

noncomputable section

namespace Cert.AttnFIdeal.Gen

open Idealize.ShloMosaic Idealize.ShloMosaic.TcCoe Idealize.ShloMosaic.Tactic
open Idealize.ShloMosaic.Pointwise Cert.AttnReal Cert.AttnF Cert.AttnIdeal.Pay Cert.AttnFIdeal.Pay

variable (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x1024x128 .f32) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x128 .f32) (harg9 : arg9.IsWhole) (arg10 : Memref sig .tc .vmem S1024x1024 .f32) (harg10 : arg10.IsWhole)
variable {H : Head} {x0 : Vec Ideal S1x1024x128 .bf16} {x1 x2 : Vec Ideal S1x4096x128 .bf16}
variable (hq : Is3 x0 fun a l => H.Q (1024 * (i 1).val + a) l) (hk : Is3 x1 H.K) (hv : Is3 x2 H.V)

include hq hk hv

/-- After the loop: the rows have taken every key before their block, and the block's own scores lie ready. -/
theorem state_loop : Rows H (1024 * (i 1).val) (fun _ => 1024 * (i 1).val)
      (arg8.view.read (Elt Ideal) (arg8.view.writes (Elt Ideal) arg8.view.junk ((pb_k0_t1 (F := Ideal) Variants.none c none i arg2 harg2 arg3 harg3 arg4 harg4 arg5 harg5 arg6 harg6 arg7 harg7 arg8 harg8 arg9 harg9 arg10 harg10 (View.readAt (Elt Ideal) arg2.view (Rect.unit (s := S1x1024x128) ![0, 0, 0] S1x1024x128.size inb_S1x1024x128_S1x1024x128_0_0_0).toLoadRect (harg2.unread x0)) (harg3.unread x1) (harg4.unread x2) (arg8.view.writes (Elt Ideal) arg8.view.junk kernelRun0_A.sl.HS0_1) (arg9.view.writes (Elt Ideal) arg9.view.junk kernelRun0_A.sl.HS1_1) (arg10.view.writes (Elt Ideal) arg10.view.junk (kernelRun0_A.sl.HS2_1 c arg2 harg2 arg3 harg3 x0 x1)) (Scf.trips (k0_t1_loop i).lb (k0_t1_loop i).ub (k0_t1_loop i).st)).1 ++ kernelRun0_A.sl.HS0_1 (F := Ideal))))
      (arg9.view.read (Elt Ideal) (arg9.view.writes (Elt Ideal) arg9.view.junk ((pb_k0_t1 (F := Ideal) Variants.none c none i arg2 harg2 arg3 harg3 arg4 harg4 arg5 harg5 arg6 harg6 arg7 harg7 arg8 harg8 arg9 harg9 arg10 harg10 (View.readAt (Elt Ideal) arg2.view (Rect.unit (s := S1x1024x128) ![0, 0, 0] S1x1024x128.size inb_S1x1024x128_S1x1024x128_0_0_0).toLoadRect (harg2.unread x0)) (harg3.unread x1) (harg4.unread x2) (arg8.view.writes (Elt Ideal) arg8.view.junk kernelRun0_A.sl.HS0_1) (arg9.view.writes (Elt Ideal) arg9.view.junk kernelRun0_A.sl.HS1_1) (arg10.view.writes (Elt Ideal) arg10.view.junk (kernelRun0_A.sl.HS2_1 c arg2 harg2 arg3 harg3 x0 x1)) (Scf.trips (k0_t1_loop i).lb (k0_t1_loop i).ub (k0_t1_loop i).st)).2.1 ++ kernelRun0_A.sl.HS1_1 (F := Ideal)))) ∧
    Is (arg10.view.read (Elt Ideal) (arg10.view.writes (Elt Ideal) arg10.view.junk ((pb_k0_t1 (F := Ideal) Variants.none c none i arg2 harg2 arg3 harg3 arg4 harg4 arg5 harg5 arg6 harg6 arg7 harg7 arg8 harg8 arg9 harg9 arg10 harg10 (View.readAt (Elt Ideal) arg2.view (Rect.unit (s := S1x1024x128) ![0, 0, 0] S1x1024x128.size inb_S1x1024x128_S1x1024x128_0_0_0).toLoadRect (harg2.unread x0)) (harg3.unread x1) (harg4.unread x2) (arg8.view.writes (Elt Ideal) arg8.view.junk kernelRun0_A.sl.HS0_1) (arg9.view.writes (Elt Ideal) arg9.view.junk kernelRun0_A.sl.HS1_1) (arg10.view.writes (Elt Ideal) arg10.view.junk (kernelRun0_A.sl.HS2_1 c arg2 harg2 arg3 harg3 x0 x1)) (Scf.trips (k0_t1_loop i).lb (k0_t1_loop i).ub (k0_t1_loop i).st)).2.2 ++ kernelRun0_A.sl.HS2_1 (F := Ideal) c arg2 harg2 arg3 harg3 x0 x1)))
      fun a b => sc H (1024 * (i 1).val + a) (1024 * (i 1).val + b) * scale2 := by
  have q0 : Is3 (View.readAt (Elt Ideal) arg2.view (Rect.unit (s := S1x1024x128) ![0, 0, 0] S1x1024x128.size inb_S1x1024x128_S1x1024x128_0_0_0).toLoadRect (harg2.unread x0)) fun a l => H.Q (1024 * (i 1).val + a) l :=
    (load3h arg2.view (harg2.unread x0) (n := 1024) (m := 128) inb_S1x1024x128_S1x1024x128_0_0_0 rfl (by rw [harg2.read_unread]; exact hq)).congr3 fun a b => by simp only [Nat.zero_add]
  have U := trips_upto c i arg2 harg2 arg3 harg3 arg4 harg4 arg5 harg5 arg6 harg6 arg7 harg7 arg8 harg8 arg9 harg9 arg10 harg10 Variants.none none q0 (X3 := harg3.unread x1) (X4 := harg4.unread x2) (by rw [harg3.read_unread]; exact hk) (by rw [harg4.read_unread]; exact hv)
    (arg8.view.writes (Elt Ideal) arg8.view.junk (kernelRun0_A.sl.HS0_1 (F := Ideal))) (arg9.view.writes (Elt Ideal) arg9.view.junk (kernelRun0_A.sl.HS1_1 (F := Ideal)))
    (arg10.view.writes (Elt Ideal) arg10.view.junk (kernelRun0_A.sl.HS2_1 (F := Ideal) c arg2 harg2 arg3 harg3 x0 x1))
    (store_rows arg8.view _ arg9.view _ _ _ _ _ _ _ rfl rfl (fun a h => absurd h (by omega)) fun a => .inl ⟨?_, rfl, fun l => ?_⟩)
    (fill2 arg10.view _ _ _ _ rfl (Is.self (scores (n := 0) (Is3.flat q0 _) ((load3h arg3.view (harg3.unread x1) (n := 1024) (m := 128) (r := 0) inb_S1x4096x128_S1x1024x128_0_0_0 rfl (by rw [harg3.read_unread]; exact hk)))) _ |>.congr fun a b => by simp only [Nat.zero_add]))
    _ le_rfl
  · rw [← View.writes_append, ← View.writes_append, ← View.writes_append, trips1] at U
    have e1 : Scf.trips (k0_t1_loop i).lb (k0_t1_loop i).ub (k0_t1_loop i).st = (i 1).val := trips1 i
    rw [e1]
    exact U
  · unfold k0_pay13
    simp only [shapeCast_self]
    exact Cert.AttnFIdeal.Pay.nmask
  · unfold k0_pay14
    simp only [shapeCast_self]
    exact Ideal.ofBits_zero .f32

/-- After the diagonal's first half: the upper rows have taken all they see. -/
theorem state_upper : Rows H (1024 * (i 1).val) (fun a => if a < 512 then 1024 * (i 1).val + 1024 else 1024 * (i 1).val)
      (arg8.view.read (Elt Ideal) (arg8.view.writes (Elt Ideal) arg8.view.junk (kernelRun0_A.sl.HS0_1_1 (F := Ideal) c i arg2 harg2 arg3 harg3 arg4 harg4 arg5 harg5 arg6 harg6 arg7 harg7 arg8 harg8 arg9 harg9 arg10 harg10 x0 x1 x2)))
      (arg9.view.read (Elt Ideal) (arg9.view.writes (Elt Ideal) arg9.view.junk (kernelRun0_A.sl.HS1_1_1 (F := Ideal) c i arg2 harg2 arg3 harg3 arg4 harg4 arg5 harg5 arg6 harg6 arg7 harg7 arg8 harg8 arg9 harg9 arg10 harg10 x0 x1 x2))) := by
  obtain ⟨U, U10⟩ := state_loop c i arg2 harg2 arg3 harg3 arg4 harg4 arg5 harg5 arg6 harg6 arg7 harg7 arg8 harg8 arg9 harg9 arg10 harg10 hq hk hv
  have e2 : Scf.trips (k0_t2_loop i).lb (k0_t2_loop i).ub (k0_t2_loop i).st = 0 := trips2 i
  unfold kernelRun0_A.sl.HS0_1_1 kernelRun0_A.sl.HS1_1_1 kernelRun0_A.sl.v28 kernelRun0_A.sl.v38 kernelRun0_A.sl.v47
  rw [e2]
  simp only [pb_k0_t2, List.nil_append]
  refine store_rows arg8.view _ arg9.view _ _ _ _ _ _ _ rfl rfl (fun a h => ?_) fun a => ?_
  · rw [if_neg (by omega)]; exact U a
  · have h := (upper_step ((load2 arg10.view _ (n := 512) (m := 512) (r := 0) inb_S1024x1024_S512x512_0_0 rfl U10).congr fun a b => by simp only [Nat.zero_add, Nat.add_zero])
      (load3h arg4.view (harg4.unread x2) (n := 512) (m := 128) (k0_off5_inb i) (off5_eq i) (by rw [harg4.read_unread]; exact hv)) (load_rows arg8.view _ arg9.view _ (n := 512) inb_S1024x1_S512x1_0_0 inb_S1024x128_S512x128_0_0 rfl rfl U) a).more 512 (by omega)
    simp only [Nat.zero_add, if_pos a.isLt]
    exact h

/-- After both halves every row has taken all keys up to its block's last. -/
theorem state_end : Rows H (1024 * (i 1).val) (fun _ => 1024 * (i 1).val + 1024) (kernelRun0_A.sl.v111 (F := Ideal) c i arg2 harg2 arg3 harg3 arg4 harg4 arg5 harg5 arg6 harg6 arg7 harg7 arg8 harg8 arg9 harg9 arg10 harg10 x0 x1 x2) (kernelRun0_A.sl.v93 (F := Ideal) c i arg2 harg2 arg3 harg3 arg4 harg4 arg5 harg5 arg6 harg6 arg7 harg7 arg8 harg8 arg9 harg9 arg10 harg10 x0 x1 x2) := by
  have S := state_upper c i arg2 harg2 arg3 harg3 arg4 harg4 arg5 harg5 arg6 harg6 arg7 harg7 arg8 harg8 arg9 harg9 arg10 harg10 hq hk hv
  obtain ⟨_, U10⟩ := state_loop c i arg2 harg2 arg3 harg3 arg4 harg4 arg5 harg5 arg6 harg6 arg7 harg7 arg8 harg8 arg9 harg9 arg10 harg10 hq hk hv
  have e2 : Scf.trips (k0_t2_loop i).lb (k0_t2_loop i).ub (k0_t2_loop i).st = 0 := trips2 i
  have T : Rows H (1024 * (i 1).val) (fun _ => 1024 * (i 1).val + 1024)
      (arg8.view.read (Elt Ideal) (arg8.view.writes (Elt Ideal) arg8.view.junk (kernelRun0_A.sl.HS0_2 (F := Ideal) c i arg2 harg2 arg3 harg3 arg4 harg4 arg5 harg5 arg6 harg6 arg7 harg7 arg8 harg8 arg9 harg9 arg10 harg10 x0 x1 x2)))
      (arg9.view.read (Elt Ideal) (arg9.view.writes (Elt Ideal) arg9.view.junk (kernelRun0_A.sl.HS1_2 (F := Ideal) c i arg2 harg2 arg3 harg3 arg4 harg4 arg5 harg5 arg6 harg6 arg7 harg7 arg8 harg8 arg9 harg9 arg10 harg10 x0 x1 x2))) := by
    unfold kernelRun0_A.sl.HS0_2 kernelRun0_A.sl.HS1_2 kernelRun0_A.sl.v62 kernelRun0_A.sl.v72 kernelRun0_A.sl.v81
    rw [e2]
    simp only [pb_k0_t2, List.nil_append]
    refine store_rows (r0 := 512) arg8.view _ arg9.view _ _ _ _ _ _ _ rfl rfl (fun a h => ?_) fun a => ?_
    · have q := S a
      beta_reduce at q
      rw [if_pos (by have := a.isLt; omega)] at q
      exact q
    · refine lower_step ((load2 arg10.view _ (n := 512) (m := 1024) (r := 512) inb_S1024x1024_S512x1024_512_0 rfl U10).congr fun a b => by rw [Nat.add_assoc])
        (load3h arg4.view (harg4.unread x2) (n := 1024) (m := 128) (k0_off6_inb i) (off6_eq i) (by rw [harg4.read_unread]; exact hv)) (fun a => ?_) a
      have q := load_rows arg8.view _ arg9.view _ (n := 512) inb_S1024x1_S512x1_512_0 inb_S1024x128_S512x128_512_0 rfl rfl S a
      beta_reduce at q
      rw [if_neg (by omega)] at q
      exact q
  unfold kernelRun0_A.sl.v111 kernelRun0_A.sl.v93
  intro a
  have q := load_rows arg8.view _ arg9.view _ (n := 1024) (r0 := 0) inb_S1024x1_S1024x1_0_0 inb_S1024x128_S1024x128_0_0 rfl rfl T a
  exact q

end Cert.AttnFIdeal.Gen

end
-- ==== Proof.AttnFVal.lean ====
/- The attention's forward call: a point of its grid, a head's block of rows, leaves the softmax's outputs and the logarithms of
   its sums in its three results. -/
module

public import proofs.«01_k».proof.Proof.AttnFOut
public import proofs.«01_k».proof.Proof.AttnSoft
public import proofs.«01_k».proof.Proof.Gen.AttnFIdeal.Frame

@[expose] public section

set_option maxRecDepth 16384

noncomputable section

namespace Cert.AttnF

open Cert.AttnReal

variable (q k v : ℕ → ℕ → ℕ → ℝ) (g : ℕ → ℕ → ℝ) (h : ℕ) (M : ℝ) (i : ℕ)

/-- An exponential to base two of a head's padded rows is the exponential of the score, less the shift. -/
theorem ex_soft (j : ℕ) : ex (headOf q k v g h) M i j = if j ≤ i then Real.exp (score q k h i j - M * Real.log 2) else 0 := by
  have hl : Real.log 2 ≠ 0 := (Real.log_pos (by norm_num)).ne'
  unfold ex
  refine if_congr Iff.rfl ?_ rfl
  rw [show sc (headOf q k v g h) i j * scale2 = score q k h i j * (Real.log 2)⁻¹ by rw [← sc_eq q k v g h i j]; unfold scale2 scale; ring]
  rw [Real.rpow_eq_pow, Real.rpow_def_of_pos (by norm_num)]
  exact congrArg Real.exp (by field_simp)

/-- The lane of ones holds the shifted sum of the exponentials. -/
theorem ac_norm : ac (headOf q k v g h) M 4096 i 64 = Real.exp (-(M * Real.log 2)) * norm q k h i := by
  rw [← norm_shift, ac, ← Fin.sum_univ_eq_sum_range (fun j => ex (headOf q k v g h) M i j * (headOf q k v g h).V j 64) 4096]
  refine Finset.sum_congr rfl fun j _ => ?_
  rw [ex_soft]
  rw [show (headOf q k v g h).V j 64 = 1 by
    show (if (64 : ℕ) < 64 then v j h 64 else 0) + (if (64 : ℕ) = 64 then (1 : ℝ) else 0) = 1
    rw [if_neg (by omega), if_pos rfl, zero_add], mul_one]

theorem ac_pos : 0 < ac (headOf q k v g h) M 4096 i 64 := by
  rw [ac_norm]; exact mul_pos (Real.exp_pos _) (norm_pos q k h i)

/-- The quotient by that sum is the attention's output. -/
theorem ac_outp {l : ℕ} (hl : l < 64) : ac (headOf q k v g h) M 4096 i l / ac (headOf q k v g h) M 4096 i 64 = outp q k v h i l := by
  rw [ac_norm, ac, ← Fin.sum_univ_eq_sum_range (fun j => ex (headOf q k v g h) M i j * (headOf q k v g h).V j l) 4096, Finset.sum_div, outp]
  refine Finset.sum_congr rfl fun j _ => ?_
  rw [ex_soft, ← weight_shift q k h i j (M * Real.log 2), show (headOf q k v g h).V j l = v j h l by
    show (if l < 64 then v j h l else 0) + (if l = 64 then (1 : ℝ) else 0) = _
    rw [if_pos hl, if_neg (by omega), add_zero]]
  ring

theorem ac_log : M + Real.log (ac (headOf q k v g h) M 4096 i 64) * (Real.log 2)⁻¹ = Real.log (norm q k h i) / Real.log 2 := by
  have hl : Real.log 2 ≠ 0 := (Real.log_pos (by norm_num)).ne'
  rw [ac_norm, ← log_shift q k h i (M * Real.log 2)]
  field_simp

end Cert.AttnF

namespace Cert.AttnFIdeal.Gen

open Idealize.ShloMosaic Idealize.ShloMosaic.TcCoe Idealize.ShloMosaic.Tactic
open Idealize.ShloMosaic.Pointwise Cert.AttnReal Cert.AttnF Cert.AttnIdeal.Pay Cert.AttnFIdeal.Pay

section Body

variable (c : Dev nD) (i : grid0.Coords) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x1024x128 .f32) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x128 .f32) (harg9 : arg9.IsWhole) (arg10 : Memref sig .tc .vmem S1024x1024 .f32) (harg10 : arg10.IsWhole)
variable {q k v : ℕ → ℕ → ℕ → ℝ} {g : ℕ → ℕ → ℝ} {h : ℕ} {x0 : Vec Ideal S1x1024x128 .bf16} {x1 x2 : Vec Ideal S1x4096x128 .bf16}
variable (hq : Is3 x0 fun a l => (headOf q k v g h).Q (1024 * (i 1).val + a) l) (hk : Is3 x1 (headOf q k v g h).K) (hv : Is3 x2 (headOf q k v g h).V)

/-- A store of a whole block is what the block holds. -/
theorem whole3 {sig' : RefSig} {κ' : Kind} {sp : Space} {N M : ℕ} {e : EltTy} (v : View sig' κ' sp ⟨3, ![1, N, M]⟩ e) (f : v.ty.Contents (Elt Ideal))
    (L : List (View.Piece (Elt Ideal) ⟨3, ![1, N, M]⟩ e)) (inb : ∀ a, (![0, 0, 0] : Fin 3 → ℕ) a + (![1, N, M] : Fin 3 → ℕ) a ≤ (⟨3, ![1, N, M]⟩ : Shape).size a)
    (w : (⟨3, ![1, N, M]⟩ : Shape).Idx → Elt Ideal e) (a : Fin N) (b : Fin M) :
    v.read (Elt Ideal) (v.writes (Elt Ideal) f (⟨Rect.unit (s := ⟨3, ![1, N, M]⟩) ![0, 0, 0] ![1, N, M] inb, w⟩ :: L)) (ix3 0 a b) = w (ix3 0 a b) :=
  View.read_writes_cons_unit_of_mem v f inb w L (ix3 0 a b) (ix3 0 a b) rfl fun d => by
    match d with
    | ⟨0, _⟩ => rfl
    | ⟨1, _⟩ => exact (Nat.zero_add _).symm
    | ⟨2, _⟩ => exact (Nat.zero_add _).symm

include hq hk hv

/-- A row's state at the end, over all the keys. -/
theorem row_end (a : Fin 1024) : ∃ M : ℝ, kernelRun0_A.sl.v111 (F := Ideal) c i arg2 harg2 arg3 harg3 arg4 harg4 arg5 harg5 arg6 harg6 arg7 harg7 arg8 harg8 arg9 harg9 arg10 harg10 x0 x1 x2 (ix2 a 0) = (M : EReal) ∧
    ∀ l : Fin 128, kernelRun0_A.sl.v93 (F := Ideal) c i arg2 harg2 arg3 harg3 arg4 harg4 arg5 harg5 arg6 harg6 arg7 harg7 arg8 harg8 arg9 harg9 arg10 harg10 x0 x1 x2 (ix2 a l) = ((ac (headOf q k v g h) M 4096 (1024 * (i 1).val + a.val) l : ℝ) : EReal) := by
  have r := state_end c i arg2 harg2 arg3 harg3 arg4 harg4 arg5 harg5 arg6 harg6 arg7 harg7 arg8 harg8 arg9 harg9 arg10 harg10 hq hk hv a
  beta_reduce at r
  replace r := r.more (4096 - (1024 * (i 1).val + 1024)) (by have := a.isLt; omega)
  have hi : (i 1).val < 4 := (i 1).isLt
  rw [Nat.add_sub_cancel' (by omega)] at r
  rcases r with ⟨_, h0, _⟩ | r
  · omega
  · exact r

theorem point_o : Is3 (out0_A_3 (F := Ideal) c i arg2 harg2 arg3 harg3 arg4 harg4 arg5 harg5 arg6 harg6 arg7 harg7 arg8 harg8 arg9 harg9 arg10 harg10 x0 x1 x2) fun a l => padO q k v h (1024 * (i 1).val + a) l := fun a l => by
  obtain ⟨M, hm, hA⟩ := row_end c i arg2 harg2 arg3 harg3 arg4 harg4 arg5 harg5 arg6 harg6 arg7 harg7 arg8 harg8 arg9 harg9 arg10 harg10 hq hk hv a
  unfold out0_A_3 kernelRun0_A
  dsimp only
  refine (whole3 VO0_3 _ _ _ _ a l).trans ?_
  unfold k0_pay1 kernelRun0_A.sl.r_1
  refine (unflat _ _ a l).trans ((out_at a hA (ac_pos ..).ne' l).trans (congrArg _ ?_))
  unfold padO
  by_cases hl : l.val < 64
  · rw [if_pos hl, if_pos hl, ac_outp q k v g h M _ hl]
  · rw [if_neg hl, if_neg hl]

theorem point_ob : Is3 (out0_A_4 (F := Ideal) c i arg2 harg2 arg3 harg3 arg4 harg4 arg5 harg5 arg6 harg6 arg7 harg7 arg8 harg8 arg9 harg9 arg10 harg10 x0 x1 x2) fun a l => padO q k v h (1024 * (i 1).val + a) l := fun a l => by
  refine Eq.trans ?_ (point_o c i arg2 harg2 arg3 harg3 arg4 harg4 arg5 harg5 arg6 harg6 arg7 harg7 arg8 harg8 arg9 harg9 arg10 harg10 hq hk hv a l)
  unfold out0_A_4 out0_A_3 kernelRun0_A
  dsimp only
  refine (whole3 VO0_4 _ _ _ _ a l).trans (Eq.trans ?_ (whole3 VO0_3 _ _ _ _ a l).symm)
  unfold k0_pay2 k0_pay1
  exact (unflat _ _ a l).trans (unflat _ _ a l).symm

theorem point_lse : Is3 (out0_A_5 (F := Ideal) c i arg2 harg2 arg3 harg3 arg4 harg4 arg5 harg5 arg6 harg6 arg7 harg7 arg8 harg8 arg9 harg9 arg10 harg10 x0 x1 x2) fun a _ => Real.log (norm q k h (1024 * (i 1).val + a)) / Real.log 2 := fun a l => by
  obtain ⟨M, hm, hA⟩ := row_end c i arg2 harg2 arg3 harg3 arg4 harg4 arg5 harg5 arg6 harg6 arg7 harg7 arg8 harg8 arg9 harg9 arg10 harg10 hq hk hv a
  unfold out0_A_5 kernelRun0_A
  dsimp only
  refine (whole3 VO0_5 _ _ _ _ a l).trans ?_
  unfold kernelRun0_A.sl.r
  exact (lse_at a hm hA (ac_pos ..) l).trans (congrArg _ (ac_log ..))

end Body

/-- Where the three blocks of point `t` are a head's, what is left at it are the head's results. -/
theorem point_all (m : (ℓ : Loc nD τ sig) → Buf (Elt Ideal) ℓ) (c : Dev nD) (t : Fin cfg0.N) {q k v : ℕ → ℕ → ℕ → ℝ} {g : ℕ → ℕ → ℝ} {h : ℕ}
    (hq : Is3 (iblk m c 0 t) fun a l => (headOf q k v g h).Q (1024 * (grid0.coords t 1).val + a) l) (hk : Is3 (iblk m c 1 t) (headOf q k v g h).K)
    (hv : Is3 (iblk m c 2 t) (headOf q k v g h).V) :
    Is3 (outsAt0 m c t).1 (fun a l => padO q k v h (1024 * (grid0.coords t 1).val + a) l) ∧ Is3 (outsAt0 m c t).2.1 (fun a l => padO q k v h (1024 * (grid0.coords t 1).val + a) l) ∧
    Is3 (outsAt0 m c t).2.2 (fun a _ => Real.log (norm q k h (1024 * (grid0.coords t 1).val + a)) / Real.log 2) := by
  have po := point_o c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (x0 := iblk m c 0 t) (x1 := iblk m c 1 t) (x2 := iblk m c 2 t) hq hk hv
  have pb := point_ob c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (x0 := iblk m c 0 t) (x1 := iblk m c 1 t) (x2 := iblk m c 2 t) hq hk hv
  have pl := point_lse c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (x0 := iblk m c 0 t) (x1 := iblk m c 1 t) (x2 := iblk m c 2 t) hq hk hv
  simp only [outsAt0]
  refine ⟨?_, ?_, ?_⟩
  · with_reducible exact po
  · with_reducible exact pb
  · with_reducible exact pl

end Cert.AttnFIdeal.Gen

end
-- ==== Proof.AttnFRef.lean ====
/- The attention's forward reference over real numbers: its three results, each at an index, when the arguments hold real numbers. -/
module

public import proofs.«01_k».proof.Proof.AttnHost
public import proofs.«01_k».proof.Proof.Gen.AttnFRefIdeal.Read

@[expose] public section

set_option maxRecDepth 16384

noncomputable section

namespace Cert.AttnFRefIdeal.Ref

open Cert.AttnFRefIdeal Cert.AttnFRefIdeal.Gen Cert.AttnFRefIdeal.Read Cert.LnReal Cert.AttnReal Cert.AttnLayout Idealize.ShloMosaic
open Cert.AttnIdeal.Host (sHost mHost eHost lHost lseHost lse_real zero zero_at)

variable {x0 x1 : FVec Ideal S4096x8x96 .f32} {x2 : FVec Ideal S4096x8x64 .f32} {x3 : FVec Ideal ⟨2, ![4096, 512]⟩ .f32}
variable {q k v : ℕ → ℕ → ℕ → ℝ} {g : ℕ → ℕ → ℝ}

/-- The softmax's weights are those that the derivative's reference takes. -/
theorem weights_eq (x0 x1 : FVec Ideal S4096x8x96 .f32) : val_main_v21 (F := Ideal) x0 x1 = Cert.AttnRefIdeal.Read.val_main_v35 (F := Ideal) x0 x1 := rfl

/-- The logarithms of the sums are the ones that the backward call's host lines compute. -/
theorem lse_eq (x0 x1 : FVec Ideal S4096x8x96 .f32) : val_main_v38 (F := Ideal) x0 x1 =
    lseHost (mHost (sHost x0 x1)) (lHost (eHost (sHost x0 x1) (mHost (sHost x0 x1)))) := rfl

variable (a : Cert.AttnRefIdeal.Ref.Args x0 x1 x2 x3 q k v g) (h : Fin 8) (i : Fin 4096) (l : Fin 128)
include a

theorem out_result : val_main_v23 (F := Ideal) x0 x1 x2 (ix3 h i l) = (padO q k v h i l : EReal) := by
  refine pad_real _ (val_main_call1_v0 (F := Ideal)) zero_at _ _ (fun h i e => outp q k v h i e) (fun h i e => ?_) h i l
  rw [val_main_v22_apply, weights_eq, Finset.sum_congr rfl fun (j : Fin 4096) _ => show _ = ((weight q k h i j * v j h e : ℝ) : EReal) by
    rw [EReal.coe_mul]
    exact congrArg₂ (· * ·) ((at3 (Cert.AttnRefIdeal.Read.val_main_v35 (F := Ideal) x0 x1) rfl rfl rfl).trans (Cert.AttnRefIdeal.Ref.weight_real a h i j)) ((at3 x2 rfl rfl rfl).trans (a.h2 j h e)), coe_sum]
  rfl

theorem lse_result : val_main_v38 (F := Ideal) x0 x1 (ix3 h i l) = ((Real.log (norm q k h i) / Real.log 2 : ℝ) : EReal) := by
  rw [lse_eq]
  exact lse_real a h i l

end Cert.AttnFRefIdeal.Ref

end
-- ==== Proof.AttnFArrays.lean ====
/- The attention's forward call: its three result arrays after the run, read block by block, the blocks of the arrays it reads, and
   that the results are the reference's where the arguments hold real numbers. -/
module

public import proofs.«01_k».proof.Proof.AttnFVal
public import proofs.«01_k».proof.Proof.AttnFRef
public import proofs.«01_k».proof.Proof.Gen.AttnFIdeal.Value

@[expose] public section

set_option maxRecDepth 16384

noncomputable section

namespace Cert.AttnFIdeal.Result

open Cert.AttnFIdeal Cert.AttnFIdeal.Gen Cert.AttnIdeal.Pay Cert.AttnReal Cert.AttnLayout Idealize.ShloMosaic Idealize.ShloMosaic.TcCoe Idealize.SL.Sem
open Cert.AttnIdeal.Host (qHost vHost qHost_real vHost_real)

variable (m : (ℓ : Loc nD τ sig) → Buf (Elt Ideal) ℓ) (c : Dev nD)

/-- A point is a head and a block of rows: the windows' blocks there. -/
theorem at_point (t : Fin cfg0.N) : win0_0.index t = ![t.val / 4, t.val % 4, 0] ∧ win0_1.index t = ![t.val / 4, 0, 0] ∧ win0_2.index t = ![t.val / 4, 0, 0] ∧
    win0_3.index t = ![t.val / 4, t.val % 4, 0] ∧ win0_4.index t = ![t.val / 4, t.val % 4, 0] ∧ win0_5.index t = ![t.val / 4, t.val % 4, 0] ∧
    (grid0.coords t 1).val = t.val % 4 :=
  (by decide +kernel : ∀ t : Fin grid0.N, win0_0.index t = ![t.val / 4, t.val % 4, 0] ∧ win0_1.index t = ![t.val / 4, 0, 0] ∧ win0_2.index t = ![t.val / 4, 0, 0] ∧
    win0_3.index t = ![t.val / 4, t.val % 4, 0] ∧ win0_4.index t = ![t.val / 4, t.val % 4, 0] ∧ win0_5.index t = ![t.val / 4, t.val % 4, 0] ∧
    (grid0.coords t 1).val = t.val % 4) t

/-- Where a block of rows lies in a result array. -/
theorem place {w : Fin 3 → ℕ} {t : ℕ} (e : w = ![t / 4, t % 4, 0]) (a : Fin 1024) (b : Fin 128) (i : S8x4096x128.Idx)
    (h0 : (i 0).val = t / 4) (h1 : (i 1).val = 1024 * (t % 4) + a.val) (h2 : (i 2).val = b.val) :
    (i 0).val = w 0 * 1 + 1 * 0 ∧ (i 1).val = w 1 * 1024 + 1 * a.val ∧ (i 2).val = w 2 * 128 + 1 * b.val := by
  subst e
  refine ⟨?_, ?_, ?_⟩
  · show _ = t / 4 * 1 + 1 * 0; omega
  · show _ = t % 4 * 1024 + 1 * a.val; omega
  · show _ = 0 * 128 + 1 * b.val; omega

/-- The outputs after the run, at point `t`. -/
theorem arr_o (t : Fin cfg0.N) (a : Fin 1024) (b : Fin 128) (i : S8x4096x128.Idx)
    (h0 : (i 0).val = t.val / 4) (h1 : (i 1).val = 1024 * (t.val % 4) + a.val) (h2 : (i 2).val = b.val) : (dats m 0 c).arrAt 3 cfg0.N i = (outsAt0 m c t).1 (ix3 0 a b) := by
  have h := congrFun ((Cert.AttnFIdeal.Value.blocks3 m c t (flush0_3 t)).trans (Cert.AttnFIdeal.Value.flushed3 m c t)) (ix3 0 a b)
  rw [View.read_apply] at h
  obtain ⟨p0, p1, p2⟩ := place (at_point t).2.2.2.1 a b i h0 h1 h2
  exact Eq.trans (congrArg _ (funext fun d => Fin.ext (by match d with | ⟨0, _⟩ => exact p0 | ⟨1, _⟩ => exact p1 | ⟨2, _⟩ => exact p2))) h

/-- The outputs in half precision after the run, at point `t`. -/
theorem arr_ob (t : Fin cfg0.N) (a : Fin 1024) (b : Fin 128) (i : S8x4096x128.Idx)
    (h0 : (i 0).val = t.val / 4) (h1 : (i 1).val = 1024 * (t.val % 4) + a.val) (h2 : (i 2).val = b.val) : (dats m 0 c).arrAt 4 cfg0.N i = (outsAt0 m c t).2.1 (ix3 0 a b) := by
  have h := congrFun ((Cert.AttnFIdeal.Value.blocks4 m c t (flush0_4 t)).trans (Cert.AttnFIdeal.Value.flushed4 m c t)) (ix3 0 a b)
  rw [View.read_apply] at h
  obtain ⟨p0, p1, p2⟩ := place (at_point t).2.2.2.2.1 a b i h0 h1 h2
  exact Eq.trans (congrArg _ (funext fun d => Fin.ext (by match d with | ⟨0, _⟩ => exact p0 | ⟨1, _⟩ => exact p1 | ⟨2, _⟩ => exact p2))) h

/-- The logarithms of the sums after the run, at point `t`. -/
theorem arr_lse (t : Fin cfg0.N) (a : Fin 1024) (b : Fin 128) (i : S8x4096x128.Idx)
    (h0 : (i 0).val = t.val / 4) (h1 : (i 1).val = 1024 * (t.val % 4) + a.val) (h2 : (i 2).val = b.val) : (dats m 0 c).arrAt 5 cfg0.N i = (outsAt0 m c t).2.2 (ix3 0 a b) := by
  have h := congrFun ((Cert.AttnFIdeal.Value.blocks5 m c t (flush0_5 t)).trans (Cert.AttnFIdeal.Value.flushed5 m c t)) (ix3 0 a b)
  rw [View.read_apply] at h
  obtain ⟨p0, p1, p2⟩ := place (at_point t).2.2.2.2.2.1 a b i h0 h1 h2
  exact Eq.trans (congrArg _ (funext fun d => Fin.ext (by match d with | ⟨0, _⟩ => exact p0 | ⟨1, _⟩ => exact p1 | ⟨2, _⟩ => exact p2))) h

theorem block0 (t : Fin cfg0.N) (h : Fin 8) (ht : t.val / 4 = h.val) (a : Fin 1024) (b : Fin 128) (i : Fin 4096) (hi : i.val = 1024 * (t.val % 4) + a.val) :
    iblk m c 0 t (ix3 0 a b) = V m c main_v6 (ix3 h i b) := by
  unfold iblk
  rw [View.read_apply]
  obtain ⟨p0, p1, p2⟩ := place (at_point t).1 a b (ix3 h i b) ht.symm hi rfl
  exact congrArg (V m c main_v6) (funext fun d => Fin.ext (by match d with | ⟨0, _⟩ => exact p0.symm | ⟨1, _⟩ => exact p1.symm | ⟨2, _⟩ => exact p2.symm))

theorem block1 (t : Fin cfg0.N) (h : Fin 8) (ht : t.val / 4 = h.val) (a : Fin 4096) (b : Fin 128) :
    iblk m c 1 t (ix3 0 a b) = V m c main_v9 (ix3 h a b) := by
  unfold iblk
  rw [View.read_apply]
  refine congrArg (V m c main_v9) (funext fun d => Fin.ext ?_)
  have e := (at_point t).2.1
  match d with
  | ⟨0, _⟩ => show win0_1.index t 0 * 1 + 1 * 0 = h.val; rw [congrFun e 0]; show t.val / 4 * 1 + 1 * 0 = _; omega
  | ⟨1, _⟩ => show win0_1.index t 1 * 4096 + 1 * a.val = a.val; rw [congrFun e 1]; show 0 * 4096 + 1 * a.val = _; omega
  | ⟨2, _⟩ => show win0_1.index t 2 * 128 + 1 * b.val = b.val; rw [congrFun e 2]; show 0 * 128 + 1 * b.val = _; omega

theorem block2 (t : Fin cfg0.N) (h : Fin 8) (ht : t.val / 4 = h.val) (a : Fin 4096) (b : Fin 128) :
    iblk m c 2 t (ix3 0 a b) = V m c main_v14 (ix3 h a b) := by
  unfold iblk
  rw [View.read_apply]
  refine congrArg (V m c main_v14) (funext fun d => Fin.ext ?_)
  have e := (at_point t).2.2.1
  match d with
  | ⟨0, _⟩ => show win0_2.index t 0 * 1 + 1 * 0 = h.val; rw [congrFun e 0]; show t.val / 4 * 1 + 1 * 0 = _; omega
  | ⟨1, _⟩ => show win0_2.index t 1 * 4096 + 1 * a.val = a.val; rw [congrFun e 1]; show 0 * 4096 + 1 * a.val = _; omega
  | ⟨2, _⟩ => show win0_2.index t 2 * 128 + 1 * b.val = b.val; rw [congrFun e 2]; show 0 * 128 + 1 * b.val = _; omega

/-! The arrays that the call reads. -/

theorem V_q : V m c main_v6 = truncf (F := Ideal) .bf16 (qHost (m ((c : Thread nD τ).loc main_arg0))) bitsLt_bf16_f32 := by
  show StableHlo.after (List.flatten [hostOps0, hostOps0_1, hostOps0_2, hostOps0_3, hostOps0_4, hostOps0_5, hostOps0_6]) _ (Proc.devRef .tc main_v6) = _
  simp only [List.flatten_cons, List.flatten_nil, List.cons_append, List.nil_append]
  after_results
  rfl

theorem V_k : V m c main_v9 = truncf (F := Ideal) .bf16 (qHost (m ((c : Thread nD τ).loc main_arg1))) bitsLt_bf16_f32 := by
  show StableHlo.after (List.flatten [hostOps0, hostOps0_1, hostOps0_2, hostOps0_3, hostOps0_4, hostOps0_5, hostOps0_6]) _ (Proc.devRef .tc main_v9) = _
  simp only [List.flatten_cons, List.flatten_nil, List.cons_append, List.nil_append]
  after_results
  rfl

theorem V_v : V m c main_v14 = truncf (F := Ideal) .bf16 (vHost (m ((c : Thread nD τ).loc main_arg2))) bitsLt_bf16_f32 := by
  show StableHlo.after (List.flatten [hostOps0, hostOps0_1, hostOps0_2, hostOps0_3, hostOps0_4, hostOps0_5, hostOps0_6]) _ (Proc.devRef .tc main_v14) = _
  simp only [List.flatten_cons, List.flatten_nil, List.cons_append, List.nil_append]
  after_results
  rfl

variable {m c} {q k v : ℕ → ℕ → ℕ → ℝ} {g : ℕ → ℕ → ℝ} {x3 : FVec Ideal ⟨2, ![4096, 512]⟩ .f32}

/-- The kernel's three arguments hold the real numbers `q`, `k`, `v`. -/
abbrev Holds (m : (ℓ : Loc nD τ sig) → Buf (Elt Ideal) ℓ) (c : Dev nD) (x3 : FVec Ideal ⟨2, ![4096, 512]⟩ .f32) (q k v : ℕ → ℕ → ℕ → ℝ) (g : ℕ → ℕ → ℝ) : Prop :=
  Cert.AttnRefIdeal.Ref.Args (m ((c : Thread nD τ).loc main_arg0)) (m ((c : Thread nD τ).loc main_arg1)) (m ((c : Thread nD τ).loc main_arg2)) x3 q k v g

variable (A : Holds m c x3 q k v g)
include A

/-- The three arrays' blocks that a point reads. -/
theorem rows_q (t : Fin cfg0.N) (h : Fin 8) (ht : t.val / 4 = h.val) :
    Is3 (iblk m c 0 t) fun a l => (headOf q k v g h).Q (1024 * (grid0.coords t 1).val + a) l := fun a b => by
  have e := (at_point t).2.2.2.2.2.2
  rw [e, block0 m c t h ht a b ⟨1024 * (t.val % 4) + a.val, by have := a.isLt; omega⟩ rfl, V_q]
  exact qHost_real A.h0 h _ b

theorem rows_k (t : Fin cfg0.N) (h : Fin 8) (ht : t.val / 4 = h.val) : Is3 (iblk m c 1 t) (headOf q k v g h).K := fun a b => by
  rw [block1 m c t h ht, V_k]; exact qHost_real A.h1 h a b

theorem rows_v (t : Fin cfg0.N) (h : Fin 8) (ht : t.val / 4 = h.val) : Is3 (iblk m c 2 t) (headOf q k v g h).V := fun a b => by
  rw [block2 m c t h ht, V_v]; exact vHost_real A.h2 h a b

/-- The three blocks of a point. -/
theorem point (t : Fin cfg0.N) (h : Fin 8) (ht : t.val / 4 = h.val) :
    Is3 (outsAt0 m c t).1 (fun a l => padO q k v h (1024 * (t.val % 4) + a) l) ∧ Is3 (outsAt0 m c t).2.1 (fun a l => padO q k v h (1024 * (t.val % 4) + a) l) ∧
    Is3 (outsAt0 m c t).2.2 (fun a _ => Real.log (norm q k h (1024 * (t.val % 4) + a)) / Real.log 2) := by
  have r := point_all m c t (rows_q A t h ht) (rows_k A t h ht) (rows_v A t h ht)
  rw [(at_point t).2.2.2.2.2.2] at r
  exact r

omit A in
/-- An index of a result array, by point, row of its block and lane. -/
theorem by_point {P : S8x4096x128.Idx → Prop} (H : ∀ (t : Fin cfg0.N) (h : Fin 8), t.val / 4 = h.val → ∀ (a : Fin 1024) (i : Fin 4096), i.val = 1024 * (t.val % 4) + a.val →
    ∀ l : Fin 128, P (ix3 h i l)) (x : S8x4096x128.Idx) : P x := by
  have h0 : (x 0).val < 8 := (x 0).isLt
  have h1 : (x 1).val < 4096 := (x 1).isLt
  have hN : cfg0.N = 32 := N_0
  exact (funext fun d => by match d with | ⟨0, _⟩ => rfl | ⟨1, _⟩ => rfl | ⟨2, _⟩ => rfl : x = ix3 (n0 := 8) (n1 := 4096) (n2 := 128) (x 0) (x 1) (x 2)) ▸
    H ⟨4 * (x 0).val + (x 1).val / 1024, by omega⟩ (x 0) (by show (4 * (x 0).val + (x 1).val / 1024) / 4 = _; omega) ⟨(x 1).val % 1024, by omega⟩ (x 1)
      (by show (x 1).val = 1024 * ((4 * (x 0).val + (x 1).val / 1024) % 4) + (x 1).val % 1024; omega) (x 2)

/-- The outputs. -/
theorem o_eq : (dats m 0 c).arrAt 3 cfg0.N = Cert.AttnFRefIdeal.Read.val_main_v23 (F := Ideal) (m ((c : Thread nD τ).loc main_arg0)) (m ((c : Thread nD τ).loc main_arg1)) (m ((c : Thread nD τ).loc main_arg2)) :=
  funext <| by_point fun t h ht a i hi l =>
    (arr_o m c t a l (ix3 h i l) ht.symm hi rfl).trans <| ((point A t h ht).1 a l).trans <| by
      beta_reduce; rw [← hi]; exact (Cert.AttnFRefIdeal.Ref.out_result A h i l).symm

/-- The outputs in half precision: over the reals the same. -/
theorem ob_eq : (dats m 0 c).arrAt 4 cfg0.N = Cert.AttnFRefIdeal.Read.val_main_v37 (F := Ideal) (m ((c : Thread nD τ).loc main_arg0)) (m ((c : Thread nD τ).loc main_arg1)) (m ((c : Thread nD τ).loc main_arg2)) :=
  funext <| by_point fun t h ht a i hi l =>
    (arr_ob m c t a l (ix3 h i l) ht.symm hi rfl).trans <| ((point A t h ht).2.1 a l).trans <| by
      beta_reduce; rw [← hi]; exact (Cert.AttnFRefIdeal.Ref.out_result A h i l).symm

/-- The logarithms of the sums. -/
theorem lse_eq : (dats m 0 c).arrAt 5 cfg0.N = Cert.AttnFRefIdeal.Read.val_main_v38 (F := Ideal) (m ((c : Thread nD τ).loc main_arg0)) (m ((c : Thread nD τ).loc main_arg1)) :=
  funext <| by_point fun t h ht a i hi l =>
    (arr_lse m c t a l (ix3 h i l) ht.symm hi rfl).trans <| ((point A t h ht).2.2 a l).trans <| by
      beta_reduce; rw [← hi]; exact (Cert.AttnFRefIdeal.Ref.lse_result A h i l).symm

end Cert.AttnFIdeal.Result

end
-- ==== Proof.AttnFClaim.lean ====
/- The claims about the attention's forward call: the reference's frame, the named constants, and that the call's three results are
   the reference's. -/
module

public import proofs.«01_k».proof.Defs
public import proofs.«01_k».proof.Proof.AttnFArrays
public import proofs.«01_k».proof.Proof.Finite
public import proofs.«01_k».proof.Proof.Gen.Pre_attnf_finite
public import proofs.«01_k».proof.Proof.Gen.AttnFRefIdeal.Run
public import Idealize.ShloMosaic.Lib.Quiescent

@[expose] public section

set_option maxRecDepth 16384

noncomputable section

namespace Cert.Proof.AttnF

open Idealize.ShloMosaic Idealize.SL.Sem

/-- The reference's frame is what its run says of the arguments and the counters. -/
theorem frame_reference : Cert.quiescent_AttnFRefIdeal := fun m ρ _ =>
  (θ_run Cert.AttnFRefIdeal.defs _ _).mono (fun r h => ⟨fun c => (h c).2.2.2, sem_eq_zero_of_no_sems (by decide) r.2⟩)
    (Cert.AttnFRefIdeal.Value.run m ρ)

/-- Each named constant is rewritten where it stands. -/
theorem preserves : Cert.preserves_AttnF_AttnFIdeal :=
  ⟨IdealRules.named_const.statement Cert.AttnFIdeal.κ "mask" .f32 0xF149F2CA#32 _ rfl,
    IdealRules.named_const.statement Cert.AttnFIdeal.κ "scale_log2" .f32 0x3E16C740#32 _ rfl,
    IdealRules.named_const.statement Cert.AttnFIdeal.κ "log2_e" .f32 0x3FB8AA3B#32 _ rfl⟩

theorem ofNat_val {n : ℕ} [NeZero n] (i : Fin n) : Fin.ofNat n i.val = i := Fin.ext (Nat.mod_eq_of_lt i.isLt)

/-- The precondition says that every argument's entries are real numbers. -/
theorem args (m : (ℓ : Loc Cert.AttnFIdeal.nD Cert.AttnFIdeal.τ Cert.AttnFIdeal.sig) → Buf (Elt Ideal) ℓ) (h : Cert.Pre_AttnFIdeal_attnf_finite m)
    (c : Dev Cert.AttnFIdeal.nD) : Cert.AttnFIdeal.Result.Holds m c (fun _ => 0)
      (fun i h e => EReal.toReal (m ((c.tc : Thread Cert.AttnFIdeal.nD Cert.AttnFIdeal.τ).loc Cert.AttnFIdeal.main_arg0) (ix3 (Fin.ofNat 4096 i) (Fin.ofNat 8 h) (Fin.ofNat 96 e))))
      (fun i h e => EReal.toReal (m ((c.tc : Thread Cert.AttnFIdeal.nD Cert.AttnFIdeal.τ).loc Cert.AttnFIdeal.main_arg1) (ix3 (Fin.ofNat 4096 i) (Fin.ofNat 8 h) (Fin.ofNat 96 e))))
      (fun i h e => EReal.toReal (m ((c.tc : Thread Cert.AttnFIdeal.nD Cert.AttnFIdeal.τ).loc Cert.AttnFIdeal.main_arg2) (ix3 (Fin.ofNat 4096 i) (Fin.ofNat 8 h) (Fin.ofNat 64 e))))
      (fun _ _ => 0) :=
  ⟨fun i h' e => by rw [ofNat_val, ofNat_val, ofNat_val]; exact Cert.Finite.coe_toReal (congrFun (h c).1 (ix3 i h' e)),
    fun i h' e => by rw [ofNat_val, ofNat_val, ofNat_val]; exact Cert.Finite.coe_toReal (congrFun (h c).2.1 (ix3 i h' e)),
    fun i h' e => by rw [ofNat_val, ofNat_val, ofNat_val]; exact Cert.Finite.coe_toReal (congrFun (h c).2.2 (ix3 i h' e)),
    fun _ _ => EReal.coe_zero.symm⟩

theorem algebraic : Cert.algebraic_AttnFIdeal_AttnFRefIdeal_pre_attnf_finite := fun m ρ m' ρ' hpre hargs =>
  ⟨fun c => (Cert.AttnFIdeal.Gen.dats m 0 c).arrAt 3 Cert.AttnFIdeal.cfg0.N,
    fun c => (Cert.AttnFIdeal.Gen.dats m 0 c).arrAt 4 Cert.AttnFIdeal.cfg0.N,
    fun c => (Cert.AttnFIdeal.Gen.dats m 0 c).arrAt 5 Cert.AttnFIdeal.cfg0.N,
    Cert.AttnFIdeal.Value.run_blocks m ρ,
    (θ_run Cert.AttnFRefIdeal.defs _ _).mono (fun r h c => by
      obtain ⟨a0, a1, a2⟩ := hargs c
      have A := args m hpre c
      obtain ⟨r0, r1, r2, k⟩ := h c
      refine ⟨r0.trans ?_, r1.trans ?_, r2.trans ?_, k⟩
      · rw [Cert.AttnFRefIdeal.Read.val_main_v23_eq, a0, a1, a2]; exact (Cert.AttnFIdeal.Result.o_eq A).symm
      · rw [Cert.AttnFRefIdeal.Read.val_main_v37_eq, a0, a1, a2]; exact (Cert.AttnFIdeal.Result.ob_eq A).symm
      · rw [Cert.AttnFRefIdeal.Read.val_main_v38_eq, a0, a1]; exact (Cert.AttnFIdeal.Result.lse_eq A).symm)
    (Cert.AttnFRefIdeal.Value.run m' ρ')⟩

end Cert.Proof.AttnF

end
-- ==== Proof.MixSpec.lean ====
/- The forward pass's output projection with the first layer norm: what the call computes, stated of extended reals, and the
   sums by head that make up the projection. -/
module

public import proofs.«01_k».proof.Proof.AttnLayout

@[expose] public section

set_option maxRecDepth 16384

noncomputable section

namespace Cert.MixSpec

open Idealize.ShloMosaic

/-- A row's mean, the row less its mean, and the layer norm of a row with a factor and an offset. -/
def mean (f : Fin 1024 → EReal) : EReal := Ideal.div (∑ k, f k) (Ideal.ofBits .f32 0x44800000#32)

def centred (f : Fin 1024 → EReal) (j : Fin 1024) : EReal := f j - mean f

def normed (f g b : Fin 1024 → EReal) (j : Fin 1024) : EReal :=
  centred f j * Ideal.rsqrt (mean (fun k => centred f k * centred f k) + Ideal.ofBits .f32 0x3727C5AC#32) * g j + b j

variable (o d : (⟨2, ![4096, 512]⟩ : Shape).Idx → EReal) (w : (⟨2, ![1024, 1024]⟩ : Shape).Idx → EReal) (x : (⟨2, ![4096, 1024]⟩ : Shape).Idx → EReal)

/-- The two attentions' outputs side by side. -/
def joint (n : Fin 4096) (k : Fin 1024) : EReal := if h : k.val < 512 then o (ix2 n ⟨k.val, h⟩) else d (ix2 n ⟨k.val - 512, by omega⟩)

/-- The norm's input: the scaled residual and the projection. -/
def z (n : Fin 4096) (j : Fin 1024) : EReal := Ideal.ofBits .f32 0x3F9837F0#32 * x (ix2 n j) + ∑ k : Fin 1024, joint o d n k * w (ix2 k j)

/-- One head's part of the projection, and the second attention's. -/
def head (h : Fin 8) (n : Fin 4096) (j : Fin 1024) : EReal :=
  ∑ l : Fin 64, o (ix2 n (⟨64 * h.val + l.val, by omega⟩ : Fin 512)) * w (ix2 (⟨64 * h.val + l.val, by omega⟩ : Fin 1024) j)

def second (n : Fin 4096) (j : Fin 1024) : EReal := ∑ l : Fin 512, d (ix2 n l) * w (ix2 (⟨512 + l.val, by omega⟩ : Fin 1024) j)

/-- The projection is the second attention's part and the heads' parts. -/
theorem parts (n : Fin 4096) (j : Fin 1024) : (∑ k : Fin 1024, joint o d n k * w (ix2 k j)) =
    second d w n j + head o w 0 n j + head o w 1 n j + head o w 2 n j + head o w 3 n j + head o w 4 n j + head o w 5 n j + head o w 6 n j + head o w 7 n j := by
  have h8 : (∑ k : Fin 512, joint o d n (Fin.castAdd 512 k) * w (ix2 (Fin.castAdd 512 k) j)) = ∑ h : Fin 8, head o w h n j := by
    unfold head
    rw [← Fintype.sum_prod_type']
    refine (Fintype.sum_equiv (finProdFinEquiv (m := 8) (n := 64)) _ _ fun p => ?_).symm
    have e : ((finProdFinEquiv (m := 8) (n := 64) p : Fin 512)).val = 64 * p.1.val + p.2.val := by
      show p.2.val + 64 * p.1.val = _; omega
    unfold joint
    rw [dif_pos (show (Fin.castAdd 512 (finProdFinEquiv (m := 8) (n := 64) p : Fin 512)).val < 512 from (finProdFinEquiv (m := 8) (n := 64) p : Fin 512).isLt)]
    exact congrArg₂ (fun a b => o (ix2 n a) * w (ix2 b j)) (Fin.ext e.symm) (Fin.ext e.symm)
  have hs : (∑ k : Fin 512, joint o d n (Fin.natAdd 512 k) * w (ix2 (Fin.natAdd 512 k) j)) = second d w n j := by
    unfold second joint
    refine Finset.sum_congr rfl fun l _ => ?_
    rw [dif_neg (show ¬(Fin.natAdd 512 l).val < 512 by show ¬512 + l.val < 512; omega)]
    exact congrArg (fun a => d (ix2 n a) * _) (Fin.ext (by show 512 + l.val - 512 = l.val; omega))
  refine (Fin.sum_univ_add (a := 512) (b := 512) fun k => joint o d n k * w (ix2 k j)).trans ?_
  rw [h8, hs, Fin.sum_univ_eight]
  abel

/-- A sum over a head's lanes, those after the head's width padded by zeros. -/
theorem lanes (f g : Fin 64 → EReal) : (∑ l : Fin 128, (if h : l.val < 64 then f ⟨l.val, h⟩ else 0) * (if h : l.val < 64 then g ⟨l.val, h⟩ else 0)) = ∑ l : Fin 64, f l * g l := by
  refine (Fin.sum_univ_add (a := 64) (b := 64) fun l : Fin 128 => (if h : l.val < 64 then f ⟨l.val, h⟩ else 0) * (if h : l.val < 64 then g ⟨l.val, h⟩ else 0)).trans ?_
  refine Eq.trans (congrArg₂ (· + ·) (Finset.sum_congr rfl fun l _ => ?_) (Finset.sum_eq_zero fun l _ => ?_)) (add_zero _)
  · rw [dif_pos (show (Fin.castAdd 64 l).val < 64 from l.isLt), dif_pos (show (Fin.castAdd 64 l).val < 64 from l.isLt)]
    rfl
  · rw [dif_neg (show ¬(Fin.natAdd 64 l).val < 64 by show ¬64 + l.val < 64; omega), zero_mul]

/-- Rows of a matrix in a stack padded by zeros. -/
theorem pad_mid {A B N K e : ℕ} {u : Shape} (x : (⟨3, ![A, B, K]⟩ : Shape).Idx → EReal) (v : u.Idx → EReal) (hv : ∀ j, v j = 0)
    (h : Shape.Pads ⟨3, ![A, B, K]⟩ ![0, 0, 0] ![0, e, 0] ![0, 0, 0] ⟨3, ![A, N, K]⟩) (hu : 0 < u.numel) (a : Fin A) (b : Fin N) (l : Fin K) :
    pad ⟨3, ![A, N, K]⟩ ![0, 0, 0] ![0, e, 0] ![0, 0, 0] x v h hu (ix3 a b l) = if hb : b.val < B then x (ix3 a ⟨b.val, hb⟩ l) else 0 := by
  by_cases hl : b.val < B
  · rw [dif_pos hl]
    refine pad_apply_of_inside _ _ _ _ _ _ _ (ix3 a b l) (ix3 a (⟨b.val, hl⟩ : Fin B) l) fun d => ?_
    match d with
    | ⟨0, _⟩ => show a.val = 0 + a.val * 1; omega
    | ⟨1, _⟩ => show b.val = 0 + b.val * 1; omega
    | ⟨2, _⟩ => show l.val = 0 + l.val * 1; omega
  · rw [dif_neg hl]
    refine (pad_apply_of_not_inside _ _ _ _ _ _ _ (ix3 a b l) 1 fun hin => hl ?_).trans (hv _)
    have h2 : (b.val - 0) / 1 < B := hin.2.2
    omega

end Cert.MixSpec

end
-- ==== Proof.MixValue.lean ====
/- The forward pass's output projection with the first layer norm: the blocks that a grid point reads, what it computes of
   them, and the three result arrays at an index. -/
module

public import proofs.«01_k».proof.Proof.MixSpec
public import proofs.«01_k».proof.Proof.Gen.MixIdeal.Value
public import Idealize.ShloMosaic.Lib.Tactic
public import Idealize.ShloMosaic.Lib.KernelVsHost
public import Idealize.ShloMosaic.Lib.Pipeline.ValueKit.Tiles
public import Idealize.ShloMosaic.Lib.Pipeline.ReadBack

@[expose] public section

set_option maxRecDepth 16384

noncomputable section

namespace Cert.MixIdeal.Result

open Cert.MixIdeal Cert.MixIdeal.Gen Cert.MixIdeal.Value Cert.MixSpec Cert.AttnLayout Idealize.ShloMosaic Idealize.ShloMosaic.TcCoe Idealize.SL.Sem

/-- The windows over the heads' rows, the second attention's rows and the residual's rows. -/
theorem rowsAt (t : Fin cfg0.N) : win0_0.index t 0 = 0 ∧ win0_0.index t 1 = t.val ∧ win0_0.index t 2 = 0 ∧ win0_1.index t 0 = t.val ∧ win0_1.index t 1 = 0 ∧
    win0_4.index t 0 = t.val ∧ win0_4.index t 1 = 0 :=
  (by decide +kernel : ∀ t : Fin grid0.N, win0_0.index t 0 = 0 ∧ win0_0.index t 1 = t.val ∧ win0_0.index t 2 = 0 ∧ win0_1.index t 0 = t.val ∧ win0_1.index t 1 = 0 ∧
    win0_4.index t 0 = t.val ∧ win0_4.index t 1 = 0) t

/-- The windows that hold a whole array. -/
theorem wholeAt (t : Fin cfg0.N) (a : Fin 2) : win0_2.index t a = 0 ∧ win0_3.index t a = 0 ∧ win0_5.index t a = 0 ∧ win0_6.index t a = 0 :=
  (by decide +kernel : ∀ (t : Fin grid0.N) (a : Fin 2), win0_2.index t a = 0 ∧ win0_3.index t a = 0 ∧ win0_5.index t a = 0 ∧ win0_6.index t a = 0) t a

theorem outsAt (t : Fin cfg0.N) : win0_7.index t 0 = t.val ∧ win0_7.index t 1 = 0 ∧ win0_8.index t 0 = t.val ∧ win0_8.index t 1 = 0 ∧ win0_9.index t 0 = t.val ∧ win0_9.index t 1 = 0 :=
  (by decide +kernel : ∀ t : Fin grid0.N, win0_7.index t 0 = t.val ∧ win0_7.index t 1 = 0 ∧ win0_8.index t 0 = t.val ∧ win0_8.index t 1 = 0 ∧ win0_9.index t 0 = t.val ∧ win0_9.index t 1 = 0) t

/-- The row of the whole array at which a tile's row stands. -/
def row (t : Fin cfg0.N) (r : Fin 512) : Fin 4096 := ⟨t.val * 512 + r.val, by have := t.isLt; have hN : cfg0.N = 8 := N_0; omega⟩

variable (m : (ℓ : Loc nD τ sig) → Buf (Elt Ideal) ℓ) (c : Dev nD)

/-- The six arguments. -/
abbrev O : FVec Ideal S4096x512 .f32 := m ((c : Thread nD τ).loc main_arg0)
abbrev D : FVec Ideal S4096x512 .f32 := m ((c : Thread nD τ).loc main_arg1)
abbrev W : FVec Ideal S1024x1024 .f32 := m ((c : Thread nD τ).loc main_arg2)
abbrev X : FVec Ideal S4096x1024 .f32 := m ((c : Thread nD τ).loc main_arg3)
abbrev G : FVec Ideal S1024 .f32 := m ((c : Thread nD τ).loc main_arg4)
abbrev B : FVec Ideal S1024 .f32 := m ((c : Thread nD τ).loc main_arg5)

/-- The value that pads. -/
abbrev zero : FVec Ideal S_ .f32 := sitofp .f32 (constantI S_ 32 0#32)

theorem zero_at (j : S_.Idx) : zero j = 0 := by show (((0#32 : BitVec 32).toInt : ℝ) : EReal) = 0; simp

/-- The heads' outputs by head, in 128 lanes; and the rows of the projection's weights likewise. -/
def oHost (x : FVec Ideal S4096x512 .f32) : FVec Ideal S8x4096x128 .f32 :=
  pad S8x4096x128 ![0, 0, 0] ![0, 0, 64] ![0, 0, 0] (transpose S8x4096x64 [1, 0, 2] (shapeCast S4096x8x64 x shapeCasts_S4096x512_S4096x8x64) transposes_S4096x8x64_S8x4096x64_1_0_2)
    zero pads_S8x4096x64_S8x4096x128_000_000_0640 h_S_

def wHost (x : FVec Ideal S1024x1024 .f32) : FVec Ideal S8x128x1024 .f32 :=
  pad S8x128x1024 ![0, 0, 0] ![0, 64, 0] ![0, 0, 0] (shapeCast S8x64x1024 (extractStridedSlice S512x1024 ![0, 0] x slices_S1024x1024_S512x1024_0_0) shapeCasts_S512x1024_S8x64x1024)
    zero pads_S8x64x1024_S8x128x1024_000_0640_000 h_S_

/-! The operands as the host lines leave them. -/

theorem V_o : V m c main_v3 = truncf .bf16 (oHost (O m c)) bitsLt_bf16_f32 := by
  show StableHlo.after (List.flatten [hostOps0, hostOps0_1, hostOps0_2, hostOps0_3, hostOps0_4]) _ (Proc.devRef .tc main_v3) = _
  simp only [List.flatten_cons, List.flatten_nil, List.cons_append, List.nil_append]
  after_results
  rfl

theorem V_d : V m c main_v4 = truncf .bf16 (D m c) bitsLt_bf16_f32 := by
  show StableHlo.after (List.flatten [hostOps0, hostOps0_1, hostOps0_2, hostOps0_3, hostOps0_4]) _ (Proc.devRef .tc main_v4) = _
  simp only [List.flatten_cons, List.flatten_nil, List.cons_append, List.nil_append]
  after_results

theorem V_w : V m c main_v9 = truncf .bf16 (shapeCast S1024x1024 (wHost (W m c)) shapeCasts_S8x128x1024_S1024x1024 : FVec Ideal S1024x1024 .f32) bitsLt_bf16_f32 := by
  show StableHlo.after (List.flatten [hostOps0, hostOps0_1, hostOps0_2, hostOps0_3, hostOps0_4]) _ (Proc.devRef .tc main_v9) = _
  simp only [List.flatten_cons, List.flatten_nil, List.cons_append, List.nil_append]
  after_results
  rfl

theorem V_v : V m c main_v11 = truncf .bf16 (extractStridedSlice S512x1024 ![512, 0] (W m c) slices_S1024x1024_S512x1024_512_0 : FVec Ideal S512x1024 .f32) bitsLt_bf16_f32 := by
  show StableHlo.after (List.flatten [hostOps0, hostOps0_1, hostOps0_2, hostOps0_3, hostOps0_4]) _ (Proc.devRef .tc main_v11) = _
  simp only [List.flatten_cons, List.flatten_nil, List.cons_append, List.nil_append]
  after_results

theorem V_x : V m c main_arg3 = X m c := by
  show StableHlo.after (List.flatten [hostOps0, hostOps0_1, hostOps0_2, hostOps0_3, hostOps0_4]) _ (Proc.devRef .tc main_arg3) = _
  simp only [List.flatten_cons, List.flatten_nil, List.cons_append, List.nil_append]
  after_results

theorem V_g : V m c main_v12 = shapeCast S1x1024 (G m c) shapeCasts_S1024_S1x1024 := by
  show StableHlo.after (List.flatten [hostOps0, hostOps0_1, hostOps0_2, hostOps0_3, hostOps0_4]) _ (Proc.devRef .tc main_v12) = _
  simp only [List.flatten_cons, List.flatten_nil, List.cons_append, List.nil_append]
  after_results
  rfl

theorem V_b : V m c main_v13 = shapeCast S1x1024 (B m c) shapeCasts_S1024_S1x1024 := by
  show StableHlo.after (List.flatten [hostOps0, hostOps0_1, hostOps0_2, hostOps0_3, hostOps0_4]) _ (Proc.devRef .tc main_v13) = _
  simp only [List.flatten_cons, List.flatten_nil, List.cons_append, List.nil_append]
  after_results
  rfl

theorem oHost_at (x : FVec Ideal S4096x512 .f32) (h : Fin 8) (n : Fin 4096) (l : Fin 128) :
    oHost x (ix3 h n l) = if hl : l.val < 64 then x (ix2 n (⟨64 * h.val + l.val, by omega⟩ : Fin 512)) else 0 := by
  refine (pad_lanes _ zero zero_at pads_S8x4096x64_S8x4096x128_000_000_0640 h_S_ h n l).trans ?_
  by_cases hl : l.val < 64
  · rw [dif_pos hl, dif_pos hl]
    have e : ∀ l : Fin 64, transpose S8x4096x64 [1, 0, 2] (shapeCast S4096x8x64 x shapeCasts_S4096x512_S4096x8x64) transposes_S4096x8x64_S8x4096x64_1_0_2 (ix3 h n l) =
        x (ix2 n (⟨64 * h.val + l.val, by omega⟩ : Fin 512)) := fun l => by
      pointwise
      exact at2 _ rfl (show h.val * 64 + l.val = 64 * h.val + l.val by omega)
    exact e ⟨l.val, hl⟩
  · rw [dif_neg hl, dif_neg hl]

theorem wHost_at (x : FVec Ideal S1024x1024 .f32) (h : Fin 8) (l : Fin 128) (j : Fin 1024) :
    wHost x (ix3 h l j) = if hl : l.val < 64 then x (ix2 (⟨64 * h.val + l.val, by omega⟩ : Fin 1024) j) else 0 := by
  refine (pad_mid _ zero zero_at pads_S8x64x1024_S8x128x1024_000_0640_000 h_S_ h l j).trans ?_
  by_cases hl : l.val < 64
  · rw [dif_pos hl, dif_pos hl]
    have e : ∀ l : Fin 64, shapeCast S8x64x1024 (extractStridedSlice S512x1024 ![0, 0] x slices_S1024x1024_S512x1024_0_0) shapeCasts_S512x1024_S8x64x1024 (ix3 h l j) =
        x (ix2 (⟨64 * h.val + l.val, by omega⟩ : Fin 1024) j) := fun l => by
      pointwise
      exact at2 _ (show h.val * 64 + l.val = 64 * h.val + l.val by omega) rfl
    exact e ⟨l.val, hl⟩
  · rw [dif_neg hl, dif_neg hl]

/-- The heads' rows in a tile. -/
theorem in_o (t : Fin cfg0.N) (h : Fin 8) (r : Fin 512) (l : Fin 128) : iblk m c 0 t (ix3 h r l) =
    if hl : l.val < 64 then O m c (ix2 (row t r) (⟨64 * h.val + l.val, by omega⟩ : Fin 512)) else 0 := by
  have ht := rowsAt t
  have hi : ((cfg0.win 0).blk t).view.emb (ix3 h r l) = (ix3 h (row t r) l : S8x4096x128.Idx) := funext fun a => Fin.ext (by
    match a with
    | ⟨0, _⟩ => show win0_0.index t 0 * 8 + 1 * h.val = h.val; omega
    | ⟨1, _⟩ => show win0_0.index t 1 * 512 + 1 * r.val = t.val * 512 + r.val; omega
    | ⟨2, _⟩ => show win0_0.index t 2 * 128 + 1 * l.val = l.val; omega)
  unfold iblk
  rw [View.read_apply]
  show V m c main_v3 _ = _
  rw [hi, V_o]
  exact oHost_at _ h _ l

/-- The second attention's rows in a tile, and the residual's. -/
theorem in_d (t : Fin cfg0.N) (r : Fin 512) (k : Fin 512) : iblk m c 1 t (ix2 r k) = D m c (ix2 (row t r) k) := by
  have ht := rowsAt t
  have hi : ((cfg0.win 1).blk t).view.emb (ix2 r k) = (ix2 (row t r) k : S4096x512.Idx) := funext fun a => Fin.ext (by
    match a with
    | ⟨0, _⟩ => show win0_1.index t 0 * 512 + 1 * r.val = t.val * 512 + r.val; omega
    | ⟨1, _⟩ => show win0_1.index t 1 * 512 + 1 * k.val = k.val; omega)
  unfold iblk
  rw [View.read_apply]
  show V m c main_v4 _ = _
  rw [hi, V_d]
  rfl

theorem in_x (t : Fin cfg0.N) (r : Fin 512) (k : Fin 1024) : iblk m c 4 t (ix2 r k) = X m c (ix2 (row t r) k) := by
  have ht := rowsAt t
  have hi : ((cfg0.win 4).blk t).view.emb (ix2 r k) = (ix2 (row t r) k : S4096x1024.Idx) := funext fun a => Fin.ext (by
    match a with
    | ⟨0, _⟩ => show win0_4.index t 0 * 512 + 1 * r.val = t.val * 512 + r.val; omega
    | ⟨1, _⟩ => show win0_4.index t 1 * 1024 + 1 * k.val = k.val; omega)
  unfold iblk
  rw [View.read_apply]
  show V m c main_arg3 _ = _
  rw [hi, V_x]

/-- The projection's rows that a head's lanes meet. -/
theorem in_w (t : Fin cfg0.N) (h : Fin 8) (l : Fin 128) (j : Fin 1024) : iblk m c 2 t (ix2 (⟨128 * h.val + l.val, by omega⟩ : Fin 1024) j) =
    if hl : l.val < 64 then W m c (ix2 (⟨64 * h.val + l.val, by omega⟩ : Fin 1024) j) else 0 := by
  have hi : ((cfg0.win 2).blk t).view.emb (ix2 (⟨128 * h.val + l.val, by omega⟩ : Fin 1024) j) = (ix2 (⟨128 * h.val + l.val, by omega⟩ : Fin 1024) j : S1024x1024.Idx) := funext fun a => Fin.ext (by
    match a with
    | ⟨0, _⟩ => show win0_2.index t 0 * 1024 + 1 * (128 * h.val + l.val) = 128 * h.val + l.val; rw [(wholeAt t 0).1]; omega
    | ⟨1, _⟩ => show win0_2.index t 1 * 1024 + 1 * j.val = j.val; rw [(wholeAt t 1).1]; omega)
  unfold iblk
  rw [View.read_apply]
  show V m c main_v9 _ = _
  rw [hi, V_w]
  refine Eq.trans ?_ (wHost_at _ h l j)
  generalize wHost (W m c) = Y
  pointwise

/-- The projection's rows that the second attention meets. -/
theorem in_v (t : Fin cfg0.N) (k : Fin 512) (j : Fin 1024) : iblk m c 3 t (ix2 k j) = W m c (ix2 (⟨512 + k.val, by omega⟩ : Fin 1024) j) := by
  have hi : ((cfg0.win 3).blk t).view.emb (ix2 k j) = (ix2 k j : S512x1024.Idx) := funext fun a => Fin.ext (by
    match a with
    | ⟨0, _⟩ => show win0_3.index t 0 * 512 + 1 * k.val = k.val; rw [(wholeAt t 0).2.1]; omega
    | ⟨1, _⟩ => show win0_3.index t 1 * 1024 + 1 * j.val = j.val; rw [(wholeAt t 1).2.1]; omega)
  unfold iblk
  rw [View.read_apply]
  show V m c main_v11 _ = _
  rw [hi, V_v]
  show extractStridedSlice S512x1024 ![512, 0] (W m c) slices_S1024x1024_S512x1024_512_0 (ix2 k j) = _
  refine extractStridedSlice_apply (s := S1024x1024) ![512, 0] _ _ (ix2 k j) _ fun a => ?_
  match a with
  | ⟨0, _⟩ => rfl
  | ⟨1, _⟩ => exact (Nat.zero_add _).symm

/-- The norm's factor and offset. -/
theorem in_g (t : Fin cfg0.N) (j : Fin 1024) : iblk m c 5 t (ix2 0 j) = G m c (ix1 j) := by
  have hi : ((cfg0.win 5).blk t).view.emb (ix2 0 j) = (ix2 0 j : S1x1024.Idx) := funext fun a => Fin.ext (by
    match a with
    | ⟨0, _⟩ => show win0_5.index t 0 * 1 + 1 * 0 = 0; rw [(wholeAt t 0).2.2.1]
    | ⟨1, _⟩ => show win0_5.index t 1 * 1024 + 1 * j.val = j.val; rw [(wholeAt t 1).2.2.1]; omega)
  unfold iblk
  rw [View.read_apply]
  show V m c main_v12 _ = _
  rw [hi, V_g]
  generalize G m c = Y
  pointwise

theorem in_b (t : Fin cfg0.N) (j : Fin 1024) : iblk m c 6 t (ix2 0 j) = B m c (ix1 j) := by
  have hi : ((cfg0.win 6).blk t).view.emb (ix2 0 j) = (ix2 0 j : S1x1024.Idx) := funext fun a => Fin.ext (by
    match a with
    | ⟨0, _⟩ => show win0_6.index t 0 * 1 + 1 * 0 = 0; rw [(wholeAt t 0).2.2.2]
    | ⟨1, _⟩ => show win0_6.index t 1 * 1024 + 1 * j.val = j.val; rw [(wholeAt t 1).2.2.2]; omega)
  unfold iblk
  rw [View.read_apply]
  show V m c main_v13 _ = _
  rw [hi, V_b]
  generalize B m c = Y
  pointwise

/-- One head's part of the projection, from its block of rows and its block of weights. -/
def hsum (x : FVec Ideal S1x512x128 .bf16) (y : FVec Ideal S128x1024 .bf16) (r : Fin 512) (j : Fin 1024) : EReal := ∑ l : Fin 128, x (ix3 0 r l) * y (ix2 l j)

theorem head_product (x : FVec Ideal S1x512x128 .bf16) (y : FVec Ideal S128x1024 .bf16) (r : Fin 512) (j : Fin 1024) :
    matmul (F := Ideal) (φ₁ := .bf16) (φ₂ := .bf16) dot_S512x128_S128x1024_S512x1024_1_0_0_1_n_n none (shapeCast S512x128 x shapeCasts_S1x512x128_S512x128) (shapeCast S128x1024 y shapeCasts_S128x1024_S128x1024)
      (constant S512x1024 .f32 0x00000000#32) (ix2 r j) = hsum x y r j := by
  pointwise [hsum]

theorem second_product (x : FVec Ideal S512x512 .bf16) (y : FVec Ideal S512x1024 .bf16) (r : Fin 512) (j : Fin 1024) :
    matmul (F := Ideal) (φ₁ := .bf16) (φ₂ := .bf16) dot_S512x512_S512x1024_S512x1024_1_0_0_1_n_n none (shapeCast S512x512 x shapeCasts_S512x512_S512x512) (shapeCast S512x1024 y shapeCasts_S512x1024_S512x1024)
      (constant S512x1024 .f32 0x00000000#32) (ix2 r j) = ∑ k : Fin 512, x (ix2 r k) * y (ix2 k j) := by
  pointwise []

theorem pay3_eq (v0 : FVec Ideal S512x512 .bf16) (v2 : FVec Ideal S512x1024 .bf16) (a0 a1 a2 a3 : FVec Ideal S1x512x128 .bf16) (b0 b1 b2 b3 : FVec Ideal S128x1024 .bf16)
    (r : Fin 512) (j : Fin 1024) : k0_pay3 (F := Ideal) v0 v2 a0 b0 a1 b1 a2 b2 a3 b3 (ix2 r j) =
      (∑ k : Fin 512, v0 (ix2 r k) * v2 (ix2 k j)) + hsum a0 b0 r j + hsum a1 b1 r j + hsum a2 b2 r j + hsum a3 b3 r j := by
  rw [← second_product v0 v2 r j, ← head_product a0 b0 r j, ← head_product a1 b1 r j, ← head_product a2 b2 r j, ← head_product a3 b3 r j]
  rfl

theorem pay4_eq (s : FVec Ideal S512x1024 .f32) (a0 a1 a2 a3 : FVec Ideal S1x512x128 .bf16) (b0 b1 b2 b3 : FVec Ideal S128x1024 .bf16) (x : FVec Ideal S512x1024 .f32)
    (r : Fin 512) (j : Fin 1024) : k0_pay4 (F := Ideal) s a0 b0 a1 b1 a2 b2 a3 b3 x (ix2 r j) =
      Ideal.ofBits .f32 0x3F9837F0#32 * x (ix2 r j) + (s (ix2 r j) + hsum a0 b0 r j + hsum a1 b1 r j + hsum a2 b2 r j + hsum a3 b3 r j) := by
  rw [← head_product a0 b0 r j, ← head_product a1 b1 r j, ← head_product a2 b2 r j, ← head_product a3 b3 r j]
  rfl

/-- A head's block of rows, and its block of weights, as they are read. -/
theorem ld_rows (h : Fin 8) (inb) (x : Vec Ideal S8x512x128 .bf16) (r : Fin 512) (l : Fin 128) :
    View.ld x (Rect.unit (s := S8x512x128) ![h.val, 0, 0] S1x512x128.size inb) (ix3 0 r l) = x (ix3 h r l) :=
  View.ld_unit_apply_of _ _ _ _ _ _ fun a => by
    match a with
    | ⟨0, _⟩ => rfl
    | ⟨1, _⟩ => exact (Nat.zero_add _).symm
    | ⟨2, _⟩ => exact (Nat.zero_add _).symm

theorem ld_weights (h : Fin 8) (inb) (x : Vec Ideal S1024x1024 .bf16) (l : Fin 128) (j : Fin 1024) :
    View.ld x (Rect.unit (s := S1024x1024) ![128 * h.val, 0] S128x1024.size inb) (ix2 l j) = x (ix2 (⟨128 * h.val + l.val, by omega⟩ : Fin 1024) j) :=
  View.ld_unit_apply_of _ _ _ _ _ _ fun a => by
    match a with
    | ⟨0, _⟩ => rfl
    | ⟨1, _⟩ => exact (Nat.zero_add _).symm

/-- One head's part in a tile. -/
theorem head_eq (t : Fin cfg0.N) (h : Fin 8) (i1) (i2) (r : Fin 512) (j : Fin 1024) :
    hsum (View.ld (iblk m c 0 t) (Rect.unit (s := S8x512x128) ![h.val, 0, 0] S1x512x128.size i1))
      (View.ld (iblk m c 2 t) (Rect.unit (s := S1024x1024) ![128 * h.val, 0] S128x1024.size i2)) r j = head (O m c) (W m c) h (row t r) j := by
  unfold hsum head
  refine Eq.trans (Finset.sum_congr rfl fun l _ => congrArg₂ (· * ·) ((ld_rows h i1 _ r l).trans (in_o m c t h r l)) ((ld_weights h i2 _ l j).trans (in_w m c t h l j))) ?_
  exact lanes (fun l => O m c (ix2 (row t r) (⟨64 * h.val + l.val, by omega⟩ : Fin 512))) fun l => W m c (ix2 (⟨64 * h.val + l.val, by omega⟩ : Fin 1024) j)

theorem hz : (![0, 0] : Fin 2 → Nat) = fun _ => 0 := funext fun a => by fin_cases a <;> rfl

/-- The norm's input in a tile. -/
theorem z_block (t : Fin cfg0.N) (r : Fin 512) (j : Fin 1024) :
    k0_pay7 (F := Ideal) (iblk m c 0 t) (iblk m c 1 t) (iblk m c 2 t) (iblk m c 3 t) (iblk m c 4 t) (iblk m c 5 t) (iblk m c 6 t) (ix2 r j) =
      z (O m c) (D m c) (W m c) (X m c) (row t r) j := by
  unfold k0_pay7
  rw [pay4_eq]
  unfold k0_pay6
  rw [pay3_eq, View.ld_unit_zero (S := S512x512) hz, View.ld_unit_zero (S := S512x1024) hz, View.ld_unit_zero (S := S512x1024) hz, in_x]
  unfold z
  rw [parts]
  refine congrArg (HAdd.hAdd (α := EReal) _) ?_
  refine congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) ?_
    (head_eq m c t 0 _ _ r j)) (head_eq m c t 1 _ _ r j)) (head_eq m c t 2 _ _ r j)) (head_eq m c t 3 _ _ r j)) (head_eq m c t 4 _ _ r j)) (head_eq m c t 5 _ _ r j)) (head_eq m c t 6 _ _ r j))
    (head_eq m c t 7 _ _ r j)
  unfold second
  exact Finset.sum_congr rfl fun k _ => congrArg₂ (· * ·) (in_d m c t r k) (in_v m c t k j)

/-- A block's row means. -/
theorem mean_block (x : FVec Ideal S512x1024 .f32) (r : Fin 512) :
    divf (shapeCast S512x1 (multiReduction .add [1] S512 x 0x00000000#32 reduces_S512x1024_S512 (.inl rfl) rfl) shapeCasts_S512_S512x1)
      (broadcast S512x1 (Scalar.ofBits (F := Ideal) .f32 0x44800000#32)) (ix2 r 0) = mean fun k => x (ix2 r k) := by
  pointwise [mean]

theorem column (x : FVec Ideal S512x1 .f32) (r : Fin 512) (j : Fin 1024) : broadcastTo S512x1024 x broadcasts_S512x1_S512x1024 (ix2 r j) = x (ix2 r 0) := by
  pointwise

theorem line (x : FVec Ideal S1x1024 .f32) (r : Fin 512) (j : Fin 1024) :
    broadcastTo S512x1024 (shapeCast S1x1024 x shapeCasts_S1x1024_S1x1024) broadcasts_S1x1024_S512x1024 (ix2 r j) = x (ix2 0 j) := by
  pointwise

/-- A block's layer norm. -/
theorem pay1_eq (x : FVec Ideal S512x1024 .f32) (u : FVec Ideal S512x1 .f32) (g b : FVec Ideal S1x1024 .f32) (r : Fin 512) (j : Fin 1024) (hu : u (ix2 r 0) = mean fun k => x (ix2 r k)) :
    k0_pay1 (F := Ideal) x u g b (ix2 r j) = normed (fun k => x (ix2 r k)) (fun k => g (ix2 0 k)) (fun k => b (ix2 0 k)) j := by
  have hc : ∀ k, subf x (broadcastTo S512x1024 u broadcasts_S512x1_S512x1024) (ix2 r k) = centred (fun k => x (ix2 r k)) k := fun k => by
    show x (ix2 r k) - _ = x (ix2 r k) - _
    rw [column, hu]
  have hm := mean_block (mulf (subf x (broadcastTo S512x1024 u broadcasts_S512x1_S512x1024)) (subf x (broadcastTo S512x1024 u broadcasts_S512x1_S512x1024))) r
  have hq : (fun k => mulf (subf x (broadcastTo S512x1024 u broadcasts_S512x1_S512x1024)) (subf x (broadcastTo S512x1024 u broadcasts_S512x1_S512x1024)) (ix2 r k)) =
      fun k => centred (fun k => x (ix2 r k)) k * centred (fun k => x (ix2 r k)) k := funext fun k => congrArg₂ (· * ·) (hc k) (hc k)
  rw [hq] at hm
  unfold normed
  beta_reduce
  rw [← hm, ← hc j, ← line g r j, ← line b r j]
  refine congrArg (fun a : EReal => subf x (broadcastTo S512x1024 u broadcasts_S512x1_S512x1024) (ix2 r j) * a *
    broadcastTo S512x1024 (shapeCast S1x1024 g shapeCasts_S1x1024_S1x1024) broadcasts_S1x1024_S512x1024 (ix2 r j) +
    broadcastTo S512x1024 (shapeCast S1x1024 b shapeCasts_S1x1024_S1x1024) broadcasts_S1x1024_S512x1024 (ix2 r j)) ?_
  exact column _ r j

theorem u_block (t : Fin cfg0.N) (r : Fin 512) :
    k0_pay8 (F := Ideal) (iblk m c 0 t) (iblk m c 1 t) (iblk m c 2 t) (iblk m c 3 t) (iblk m c 4 t) (iblk m c 5 t) (iblk m c 6 t) (ix2 r 0) =
      mean fun k => k0_pay7 (F := Ideal) (iblk m c 0 t) (iblk m c 1 t) (iblk m c 2 t) (iblk m c 3 t) (iblk m c 4 t) (iblk m c 5 t) (iblk m c 6 t) (ix2 r k) :=
  mean_block (k0_pay7 (F := Ideal) (iblk m c 0 t) (iblk m c 1 t) (iblk m c 2 t) (iblk m c 3 t) (iblk m c 4 t) (iblk m c 5 t) (iblk m c 6 t)) r

/-- The norm's output in a tile. -/
theorem y_block (t : Fin cfg0.N) (r : Fin 512) (j : Fin 1024) :
    k0_pay1 (F := Ideal) (k0_pay7 (iblk m c 0 t) (iblk m c 1 t) (iblk m c 2 t) (iblk m c 3 t) (iblk m c 4 t) (iblk m c 5 t) (iblk m c 6 t))
      (k0_pay8 (iblk m c 0 t) (iblk m c 1 t) (iblk m c 2 t) (iblk m c 3 t) (iblk m c 4 t) (iblk m c 5 t) (iblk m c 6 t)) (View.ld (iblk m c 5 t) r0_18) (View.ld (iblk m c 6 t) r0_18) (ix2 r j) =
      normed (z (O m c) (D m c) (W m c) (X m c) (row t r)) (fun k => G m c (ix1 k)) (fun k => B m c (ix1 k)) j := by
  rw [View.ld_unit_zero (S := S1x1024) hz, View.ld_unit_zero (S := S1x1024) hz]
  refine (pay1_eq _ _ _ _ r j (u_block m c t r)).trans ?_
  rw [funext fun k => z_block m c t r k, funext fun k => in_g m c t k, funext fun k => in_b m c t k]

/-- The three arrays after the run. -/
theorem arr_z (t : Fin cfg0.N) (r : Fin 512) (j : Fin 1024) : (dats m 0 c).arrAt 7 cfg0.N (ix2 (row t r) j) = z (O m c) (D m c) (W m c) (X m c) (row t r) j := by
  have h := congrFun (blocks7 m c t (flush0_7 t)) (ix2 r j)
  rw [flushed7, View.read_apply] at h
  unfold out0_7 at h
  rw [View.canon_unit_zero (S := S512x1024) hz] at h
  refine Eq.trans (congrArg _ (funext fun a => Fin.ext ?_)) (h.trans (z_block m c t r j))
  have ht := outsAt t
  match a with
  | ⟨0, _⟩ => show t.val * 512 + r.val = win0_7.index t 0 * 512 + 1 * r.val; omega
  | ⟨1, _⟩ => show j.val = win0_7.index t 1 * 1024 + 1 * j.val; omega

theorem arr_y (t : Fin cfg0.N) (r : Fin 512) (j : Fin 1024) : (dats m 0 c).arrAt 8 cfg0.N (ix2 (row t r) j) = normed (z (O m c) (D m c) (W m c) (X m c) (row t r)) (fun k => G m c (ix1 k)) (fun k => B m c (ix1 k)) j := by
  have h := congrFun (blocks8 m c t (flush0_8 t)) (ix2 r j)
  rw [flushed8, View.read_apply] at h
  unfold out0_8 at h
  rw [View.canon_unit_zero (S := S512x1024) hz] at h
  refine Eq.trans (congrArg _ (funext fun a => Fin.ext ?_)) (h.trans (y_block m c t r j))
  have ht := outsAt t
  match a with
  | ⟨0, _⟩ => show t.val * 512 + r.val = win0_8.index t 0 * 512 + 1 * r.val; omega
  | ⟨1, _⟩ => show j.val = win0_8.index t 1 * 1024 + 1 * j.val; omega

theorem arr_yb (t : Fin cfg0.N) (r : Fin 512) (j : Fin 1024) : (dats m 0 c).arrAt 9 cfg0.N (ix2 (row t r) j) = normed (z (O m c) (D m c) (W m c) (X m c) (row t r)) (fun k => G m c (ix1 k)) (fun k => B m c (ix1 k)) j := by
  have h := congrFun (blocks9 m c t (flush0_9 t)) (ix2 r j)
  rw [flushed9, View.read_apply] at h
  unfold out0_9 at h
  rw [View.canon_unit_zero (S := S512x1024) hz] at h
  refine Eq.trans (congrArg _ (funext fun a => Fin.ext ?_)) (h.trans (y_block m c t r j))
  have ht := outsAt t
  match a with
  | ⟨0, _⟩ => show t.val * 512 + r.val = win0_9.index t 0 * 512 + 1 * r.val; omega
  | ⟨1, _⟩ => show j.val = win0_9.index t 1 * 1024 + 1 * j.val; omega

/-- Every row of an array is a tile's. -/
theorem tile_of (n : Fin 4096) : ∃ (t : Fin cfg0.N) (r : Fin 512), row t r = n :=
  ⟨⟨n.val / 512, by rw [show cfg0.N = 8 from N_0]; omega⟩, ⟨n.val % 512, by omega⟩, Fin.ext (by show n.val / 512 * 512 + n.val % 512 = n.val; omega)⟩

/-- The three results at an index. -/
theorem z_at (n : Fin 4096) (j : Fin 1024) : (dats m 0 c).arrAt 7 cfg0.N (ix2 n j) = z (O m c) (D m c) (W m c) (X m c) n j := by
  obtain ⟨t, r, rfl⟩ := tile_of n
  exact arr_z m c t r j

theorem y_at (n : Fin 4096) (j : Fin 1024) : (dats m 0 c).arrAt 8 cfg0.N (ix2 n j) =
    normed (z (O m c) (D m c) (W m c) (X m c) n) (fun k => G m c (ix1 k)) (fun k => B m c (ix1 k)) j := by
  obtain ⟨t, r, rfl⟩ := tile_of n
  exact arr_y m c t r j

theorem yb_at (n : Fin 4096) (j : Fin 1024) : (dats m 0 c).arrAt 9 cfg0.N (ix2 n j) =
    normed (z (O m c) (D m c) (W m c) (X m c) n) (fun k => G m c (ix1 k)) (fun k => B m c (ix1 k)) j := by
  obtain ⟨t, r, rfl⟩ := tile_of n
  exact arr_yb m c t r j

end Cert.MixIdeal.Result

end
-- ==== Proof.MixRef.lean ====
/- The forward pass's output projection with the first layer norm, the reference: its three results at an index. -/
module

public import proofs.«01_k».proof.Proof.MixSpec
public import proofs.«01_k».proof.Proof.Gen.MixRefIdeal.Read

@[expose] public section

set_option maxRecDepth 16384

noncomputable section

namespace Cert.MixRefIdeal.Ref

open Cert.MixRefIdeal Cert.MixRefIdeal.Gen Cert.MixRefIdeal.Read Cert.MixSpec Cert.AttnLayout Idealize.ShloMosaic

variable (x0 x1 : FVec Ideal S4096x512 .f32) (x2 : FVec Ideal S1024x1024 .f32) (x3 : FVec Ideal S4096x1024 .f32) (x4 x5 : FVec Ideal S1024 .f32)

theorem joint_eq (n : Fin 4096) (k : Fin 1024) : val_main_v2 (F := Ideal) x0 x1 (ix2 n k) = joint x0 x1 n k := by
  unfold val_main_v2 joint
  by_cases h : k.val < 512
  · rw [dif_pos h]
    refine concatenate_pair_apply_left (s₁ := S4096x512) (s₂ := S4096x512) 1 _ _ _ (ix2 n k) rfl (ix2 n (⟨k.val, h⟩ : Fin 512)) fun b => ?_
    match b with
    | ⟨0, _⟩ => rfl
    | ⟨1, _⟩ => rfl
  · rw [dif_neg h]
    refine concatenate_pair_apply_right (s₁ := S4096x512) (s₂ := S4096x512) 1 _ _ _ (ix2 n k) rfl rfl (ix2 n (⟨k.val - 512, by omega⟩ : Fin 512)) (fun b hb => ?_) ?_
    · match b with
      | ⟨0, _⟩ => rfl
      | ⟨1, _⟩ => exact absurd rfl hb
    · show k.val - 512 + 512 = k.val; omega

/-- The norm's input. -/
theorem z_eq (n : Fin 4096) (j : Fin 1024) : val_main_v4 (F := Ideal) x0 x1 x2 x3 (ix2 n j) = z x0 x1 x2 x3 n j := by
  rw [val_main_v4_apply, val_main_v1_apply, val_main_v0_apply, val_main_cst_apply, val_main_v3_apply]
  unfold z
  refine congrArg₂ (· + ·) rfl (Finset.sum_congr rfl fun k _ => congrArg₂ (· * ·) ?_ ?_)
  · exact (at2 _ rfl rfl).trans (joint_eq x0 x1 n k)
  · exact at2 _ rfl rfl

theorem zero_first (y : EReal) : FloatOps.ofBits (F := Ideal) .f32 0x00000000#32 + y = y := by
  show Ideal.ofBits .f32 0x00000000#32 + y = y
  simp [Ideal.ofBits, Ideal.ieee]

theorem mean_eq (n : Fin 4096) : val_main_v8 (F := Ideal) x0 x1 x2 x3 (ix2 n 0) = mean (z x0 x1 x2 x3 n) := by
  rw [val_main_v8_apply, val_main_v6_apply, val_main_v5_apply, val_main_cst_0_apply, zero_first, val_main_v7_apply, val_main_cst_1_apply]
  unfold mean
  exact congrArg (Ideal.div · _) (Finset.sum_congr rfl fun k _ => (at2 _ rfl rfl).trans (z_eq x0 x1 x2 x3 n k))

theorem centred_eq (n : Fin 4096) (j : Fin 1024) : val_main_v10 (F := Ideal) x0 x1 x2 x3 (ix2 n j) = centred (z x0 x1 x2 x3 n) j := by
  rw [val_main_v10_apply, val_main_v9_apply, z_eq]
  exact congrArg (_ - ·) ((at2 _ rfl rfl).trans (mean_eq x0 x1 x2 x3 n))

theorem centred_again (n : Fin 4096) (j : Fin 1024) : val_main_v17 (F := Ideal) x0 x1 x2 x3 (ix2 n j) = centred (z x0 x1 x2 x3 n) j := by
  rw [val_main_v17_apply, val_main_v16_apply, z_eq]
  exact congrArg (_ - ·) ((at2 _ rfl rfl).trans (mean_eq x0 x1 x2 x3 n))

theorem spread_eq (n : Fin 4096) : val_main_v15 (F := Ideal) x0 x1 x2 x3 (ix2 n 0) = mean fun k => centred (z x0 x1 x2 x3 n) k * centred (z x0 x1 x2 x3 n) k := by
  rw [val_main_v15_apply, val_main_v13_apply, val_main_v12_apply, val_main_cst_2_apply, zero_first, val_main_v14_apply, val_main_cst_3_apply]
  unfold mean
  refine congrArg (Ideal.div · _) (Finset.sum_congr rfl fun k _ => (at2 (a := n) (b := k) _ rfl rfl).trans ?_)
  rw [val_main_v11_apply, centred_eq]
  rfl

theorem y_eq (n : Fin 4096) (j : Fin 1024) : val_main_v28 (F := Ideal) x0 x1 x2 x3 x4 x5 (ix2 n j) =
    normed (z x0 x1 x2 x3 n) (fun k => x4 (ix1 k)) (fun k => x5 (ix1 k)) j := by
  have hg : val_main_v24 (F := Ideal) x4 (ix2 n j) = x4 (ix1 j) := by pointwise [val_main_v24, val_main_v23]
  have hb : val_main_v27 (F := Ideal) x5 (ix2 n j) = x5 (ix1 j) := by pointwise [val_main_v27, val_main_v26]
  have hr : val_main_v21 (F := Ideal) x0 x1 x2 x3 (ix2 n j) =
      Ideal.rsqrt ((mean fun k => centred (z x0 x1 x2 x3 n) k * centred (z x0 x1 x2 x3 n) k) + Ideal.ofBits .f32 0x3727C5AC#32) := by
    rw [val_main_v21_apply]
    refine (at2 (b := (0 : Fin 1)) (a := n) _ rfl rfl).trans ?_
    rw [val_main_v20_apply, val_main_v19_apply, spread_eq, val_main_v18_apply, val_main_cst_4_apply]
    rfl
  rw [val_main_v28_apply, val_main_v25_apply, val_main_v22_apply, centred_again, hr, hg, hb]
  rfl

theorem yb_eq (n : Fin 4096) (j : Fin 1024) : val_main_v29 (F := Ideal) x0 x1 x2 x3 x4 x5 (ix2 n j) =
    normed (z x0 x1 x2 x3 n) (fun k => x4 (ix1 k)) (fun k => x5 (ix1 k)) j := y_eq x0 x1 x2 x3 x4 x5 n j

end Cert.MixRefIdeal.Ref

end
-- ==== Proof.MixClaim.lean ====
/- The claims about the forward pass's output projection and first layer norm: the reference's frame, and that the call's
   three results are the reference's, of all arguments. -/
module

public import proofs.«01_k».proof.Defs
public import proofs.«01_k».proof.Proof.MixValue
public import proofs.«01_k».proof.Proof.MixRef
public import proofs.«01_k».proof.Proof.Gen.MixRefIdeal.Run
public import Idealize.ShloMosaic.Lib.Quiescent

@[expose] public section

set_option maxRecDepth 16384

noncomputable section

namespace Cert.Proof.Mix

open Idealize.ShloMosaic Idealize.SL.Sem

/-- Two arrays that agree at each row and column are equal. -/
theorem same {n k : ℕ} {x y : (⟨2, ![n, k]⟩ : Shape).Idx → EReal} (h : ∀ (i : Fin n) (j : Fin k), x (ix2 i j) = y (ix2 i j)) : x = y :=
  funext fun i => by rw [eq_ix2 i]; exact h _ _

/-- The reference's frame is what its run says of the arguments and the counters. -/
theorem frame_reference : Cert.quiescent_MixRefIdeal := fun m ρ _ =>
  (θ_run Cert.MixRefIdeal.defs _ _).mono (fun r h => ⟨fun c => (h c).2.2.2, sem_eq_zero_of_no_sems (by decide) r.2⟩)
    (Cert.MixRefIdeal.Value.run m ρ)

/-- The norm's input, its output and the output in half precision, from the same arguments. -/
theorem algebraic : Cert.algebraic_MixIdeal_MixRefIdeal := fun m ρ m' ρ' _ hargs =>
  ⟨fun c => (Cert.MixIdeal.Gen.dats m 0 c).arrAt 7 Cert.MixIdeal.cfg0.N,
    fun c => (Cert.MixIdeal.Gen.dats m 0 c).arrAt 8 Cert.MixIdeal.cfg0.N,
    fun c => (Cert.MixIdeal.Gen.dats m 0 c).arrAt 9 Cert.MixIdeal.cfg0.N,
    Cert.MixIdeal.Value.run_blocks m ρ,
    (θ_run Cert.MixRefIdeal.defs _ _).mono (fun r h c => by
      obtain ⟨a0, a1, a2, a3, a4, a5⟩ := hargs c
      obtain ⟨r0, r1, r2, k⟩ := h c
      refine ⟨r0.trans ?_, r1.trans ?_, r2.trans ?_, k⟩
      · rw [Cert.MixRefIdeal.Read.val_main_v4_eq, a0, a1, a2, a3]
        exact same fun n j => (Cert.MixRefIdeal.Ref.z_eq _ _ _ _ n j).trans (Cert.MixIdeal.Result.z_at m c n j).symm
      · rw [Cert.MixRefIdeal.Read.val_main_v28_eq, a0, a1, a2, a3, a4, a5]
        exact same fun n j => (Cert.MixRefIdeal.Ref.y_eq _ _ _ _ _ _ n j).trans (Cert.MixIdeal.Result.y_at m c n j).symm
      · rw [Cert.MixRefIdeal.Read.val_main_v29_eq, a0, a1, a2, a3, a4, a5]
        exact same fun n j => (Cert.MixRefIdeal.Ref.yb_eq _ _ _ _ _ _ n j).trans (Cert.MixIdeal.Result.yb_at m c n j).symm)
    (Cert.MixRefIdeal.Value.run m' ρ')⟩

end Cert.Proof.Mix

end
-- ==== Proof.PrepFSpec.lean ====
/- The forward pass's latent projections: what the call computes, stated of extended reals, and the rotary embedding as the
   call forms it from its two tables. -/
module

public import proofs.«01_k».proof.Proof.PrepReal
public import proofs.«01_k».proof.Proof.AttnLayout

@[expose] public section

set_option maxRecDepth 16384

noncomputable section

namespace Cert.PrepFSpec

open Cert.PrepReal Idealize.ShloMosaic

/-- A row divided by the root of its mean square, with a factor. -/
def normed {n : ℕ} (N : EReal) (f g : Fin n → EReal) (j : Fin n) : EReal :=
  f j * Ideal.rsqrt (Ideal.div (∑ k, f k * f k) N + Ideal.ofBits .f32 0x358637BD#32) * g j

/-- A row of 32 lanes rotated by its position's angles. -/
def rot (v : Fin 32 → EReal) (n : Fin 4096) (l : Fin 32) : EReal :=
  if h : l.val < 16 then v l * (Real.cos (ang n ⟨l.val, h⟩) : EReal) - v ⟨l.val + 16, by omega⟩ * (Real.sin (ang n ⟨l.val, h⟩) : EReal)
  else v ⟨l.val - 16, by omega⟩ * (Real.sin (ang n ⟨l.val - 16, by omega⟩) : EReal) + v l * (Real.cos (ang n ⟨l.val - 16, by omega⟩) : EReal)

variable (h : (⟨2, ![4096, 1952]⟩ : Shape).Idx → EReal) (gq : (⟨1, ![256]⟩ : Shape).Idx → EReal) (gk : (⟨1, ![128]⟩ : Shape).Idx → EReal)
variable (wq : (⟨3, ![256, 8, 96]⟩ : Shape).Idx → EReal) (w : (⟨3, ![128, 8, 64]⟩ : Shape).Idx → EReal)

/-- The queries' latent after its norm, and the keys' and values'. -/
def cq (n : Fin 4096) : Fin 256 → EReal :=
  normed (Ideal.ofBits .f32 0x43800000#32) (fun j => h (ix2 n (⟨j.val, by omega⟩ : Fin 1952))) fun j => gq (ix1 j)
def ck (n : Fin 4096) : Fin 128 → EReal :=
  normed (Ideal.ofBits .f32 0x43000000#32) (fun j => h (ix2 n (⟨256 + j.val, by omega⟩ : Fin 1952))) fun j => gk (ix1 j)

/-- A head's products with the two latents. -/
def up96 (n : Fin 4096) (k : Fin 8) (l : Fin 96) : EReal := ∑ j, cq h gq n j * wq (ix3 j k l)
def up64 (n : Fin 4096) (k : Fin 8) (l : Fin 64) : EReal := ∑ j, ck h gk n j * w (ix3 j k l)

/-- The three results in 128 lanes: 64 products and 32 rotated lanes, and for the values a one after the products. -/
def query (k : Fin 8) (n : Fin 4096) (l : Fin 128) : EReal :=
  if h1 : l.val < 64 then up96 h gq wq n k ⟨l.val, by omega⟩
  else if h2 : l.val < 96 then rot (fun a => up96 h gq wq n k ⟨64 + a.val, by omega⟩) n ⟨l.val - 64, by omega⟩ else 0
def key (k : Fin 8) (n : Fin 4096) (l : Fin 128) : EReal :=
  if h1 : l.val < 64 then up64 h gk w n k ⟨l.val, h1⟩
  else if h2 : l.val < 96 then rot (fun a => h (ix2 n (⟨384 + a.val, by omega⟩ : Fin 1952))) n ⟨l.val - 64, by omega⟩ else 0
def value (k : Fin 8) (n : Fin 4096) (l : Fin 128) : EReal :=
  if h1 : l.val < 64 then up64 h gk w n k ⟨l.val, h1⟩ else if l.val = 64 then 1 else 0

/-- An angle, as both programs' host lines form it. -/
theorem angle (i : Fin 4096) (j : Fin 16) :
    (FloatOps.sitofp .f32 (BitVec.ofNat 32 i.val) : Ideal .f32) * Ideal.pow (Ideal.ofBits .f32 0x461C4000#32)
      (Ideal.div (-(FloatOps.sitofp .f32 (BitVec.ofNat 32 j.val) : Ideal .f32)) (Ideal.ofBits .f32 0x41800000#32)) = (ang i j : EReal) := by
  have e : ∀ n : ℕ, n < 4096 → (FloatOps.sitofp .f32 (BitVec.ofNat 32 n) : Ideal .f32) = ((n : ℝ) : EReal) := fun n hn => by
    show (((BitVec.ofNat 32 n).toInt : ℝ) : EReal) = _
    rw [show (BitVec.ofNat 32 n).toInt = (n : ℤ) by rw [BitVec.toInt_eq_toNat_of_lt (by rw [BitVec.toNat_ofNat]; omega), BitVec.toNat_ofNat, Nat.mod_eq_of_lt (by omega)]]
    simp
  rw [e i.val (by omega), e j.val (by omega), c10000, c16, ← EReal.coe_neg, div16, Ideal.pow_coe_coe, ← EReal.coe_mul]
  rfl

/-- The call's rotation of 128 lanes by the two tables. -/
def turn (v C S : Fin 128 → EReal) (l : Fin 128) : EReal :=
  v l * C l + (if l.val < 80 then v ⟨(l.val + 16) % 128, Nat.mod_lt _ (by norm_num)⟩ else v ⟨(l.val + 112) % 128, Nat.mod_lt _ (by norm_num)⟩) * S l

theorem turn_out (v : Fin 128 → EReal) (n : Fin 4096) (l : Fin 128) (hl : l.val < 64 ∨ 96 ≤ l.val) :
    turn v (fun l => (ctab n l : EReal)) (fun l => (stab n l : EReal)) l = v l := by
  have hc : ctab n l = 1 := by
    unfold ctab
    split
    · rfl
    · rw [dif_neg (by omega), dif_neg (by omega)]
  have hs : stab n l = 0 := by
    unfold stab
    split
    · rfl
    · rw [dif_neg (by omega), dif_neg (by omega)]
  unfold turn
  beta_reduce
  rw [hc, hs, EReal.coe_one, EReal.coe_zero, mul_one, mul_zero, add_zero]

theorem turn_mid (v : Fin 128 → EReal) (n : Fin 4096) (l : Fin 128) (h1 : 64 ≤ l.val) (h2 : l.val < 96) :
    turn v (fun l => (ctab n l : EReal)) (fun l => (stab n l : EReal)) l = rot (fun a => v ⟨64 + a.val, by omega⟩) n ⟨l.val - 64, by omega⟩ := by
  have e0 : v ⟨64 + (l.val - 64), by omega⟩ = v l := congrArg v (Fin.ext (by show 64 + (l.val - 64) = l.val; omega))
  unfold turn ctab stab rot
  dsimp only
  rw [if_neg (by omega : ¬l.val < 64), if_neg (by omega : ¬l.val < 64)]
  by_cases h : l.val < 80
  · have e : v ⟨(l.val + 16) % 128, Nat.mod_lt _ (by norm_num)⟩ = v ⟨64 + (l.val - 64 + 16), by omega⟩ := congrArg v (Fin.ext (by show (l.val + 16) % 128 = 64 + (l.val - 64 + 16); omega))
    rw [dif_pos (by omega : l.val - 64 < 16), dif_pos (by omega : l.val - 64 < 16), dif_pos (by omega : l.val - 64 < 16), if_pos h, e]
    simp only [e0]
    rw [EReal.coe_neg, mul_neg, sub_eq_add_neg]
  · have e : v ⟨(l.val + 112) % 128, Nat.mod_lt _ (by norm_num)⟩ = v ⟨64 + (l.val - 64 - 16), by omega⟩ := congrArg v (Fin.ext (by show (l.val + 112) % 128 = 64 + (l.val - 64 - 16); omega))
    rw [dif_neg (by omega : ¬l.val - 64 < 16), dif_pos (by omega : l.val - 64 - 16 < 16), dif_neg (by omega : ¬l.val - 64 < 16), dif_pos (by omega : l.val - 64 - 16 < 16),
      dif_neg (by omega : ¬l.val - 64 < 16), if_neg h, e]
    simp only [e0]
    exact add_comm _ _

end Cert.PrepFSpec

end
-- ==== Proof.PrepFBlock.lean ====
/- The forward pass's latent projections: what one grid point's body leaves in its three result blocks, at an index, from
   the blocks that it reads. -/
module

public import proofs.«01_k».proof.Proof.PrepFSpec
public import proofs.«01_k».proof.Proof.Gen.PrepFIdeal.Frame
public import Idealize.ShloMosaic.Lib.Tactic
public import Idealize.ShloMosaic.Lib.KernelVsHost
public import Idealize.ShloMosaic.Lib.Pipeline.ValueKit.Tiles
public import Idealize.ShloMosaic.Lib.Pipeline.ReadBack

@[expose] public section

set_option maxRecDepth 16384

noncomputable section

namespace Cert.PrepFIdeal.Block

open Cert.PrepFIdeal Cert.PrepFIdeal.Gen Cert.PrepFSpec Cert.AttnLayout Idealize.ShloMosaic

/-! ## The payloads -/

theorem latent_q (h : Vec Ideal S512x512 .f32) (g : Vec Ideal S1x256 .f32) (r : Fin 512) (j : Fin 256) : k0_pay5 h g (ix2 r j) =
    normed (Ideal.ofBits .f32 0x43800000#32) (fun a => h (ix2 r (⟨a.val, by omega⟩ : Fin 512))) (fun a => g (ix2 0 a)) j := by
  pointwise [k0_pay5, k0_pay2, normed]

theorem latent_k (h : Vec Ideal S512x512 .f32) (g : Vec Ideal S1x128 .f32) (r : Fin 512) (j : Fin 128) : k0_pay6 h g (ix2 r j) =
    normed (Ideal.ofBits .f32 0x43000000#32) (fun a => h (ix2 r (⟨256 + a.val, by omega⟩ : Fin 512))) (fun a => g (ix2 0 a)) j := by
  pointwise [k0_pay6, k0_pay2, normed]

theorem below80 : ∀ l : Fin 128, IntOp.cmpi .slt (BitVec.ofNat 32 l.val) 80#32 = if l.val < 80 then 1#1 else 0#1 := by decide

theorem select_if {α : Type} (p : Prop) [Decidable p] (x y : α) : Scalar.select (if p then 1#1 else 0#1) x y = if p then x else y := by
  split <;> rfl

theorem up16 (l : ℕ) : (l + 128 - 112) % 128 = (l + 16) % 128 := by omega
theorem down16 (l : ℕ) : (l + 128 - 16) % 128 = (l + 112) % 128 := by omega

/-- The shared key's rotation. -/
theorem shared (h : Vec Ideal S512x512 .f32) (C S : Vec Ideal S512x128 .f32) (r : Fin 512) (l : Fin 128) :
    k0_pay10 (k0_pay4 S) (k0_pay7 h) (k0_pay8 h C) (iota .tc S512x128 32 [1] iota_S512x128_d1_w32) k0_pay9 (ix2 r l) =
      turn (fun a => h (ix2 r (⟨384 + a.val, by omega⟩ : Fin 512))) (fun a => C (ix2 r a)) (fun a => S (ix2 r a)) l := by
  pointwise [k0_pay10, k0_pay4, k0_pay7, k0_pay8, k0_pay2, k0_pay3, k0_pay9]
  simp only [below80 l, select_if, up16, down16]
  unfold turn
  rfl

/-- A head's queries, keys and values from their latents. -/
theorem head_q (C S : FVec Ideal S512x128 .f32) (q : FVec Ideal S512x256 .bf16) (w : Vec Ideal S1x256x128 .bf16) (r : Fin 512) (l : Fin 128) :
    k0_pay12 C S q w (ix3 0 r l) = turn (fun a => ∑ j : Fin 256, q (ix2 r j) * w (ix3 0 j a)) (fun a => C (ix2 r a)) (fun a => S (ix2 r a)) l := by
  pointwise [k0_pay12]
  simp only [below80 l, select_if, up16, down16]
  unfold turn
  rfl

theorem head_k (q : FVec Ideal S512x128 .bf16) (s : FVec Ideal S512x128 .f32) (w : Vec Ideal S1x128x128 .bf16) (r : Fin 512) (l : Fin 128) :
    k0_pay16 q s w (ix3 0 r l) = (∑ j : Fin 128, q (ix2 r j) * w (ix3 0 j l)) + s (ix2 r l) := by
  pointwise [k0_pay16]

theorem head_v (q : FVec Ideal S512x128 .bf16) (s : FVec Ideal S1x128 .f32) (w : Vec Ideal S1x128x128 .bf16) (r : Fin 512) (l : Fin 128) :
    k0_pay14 q s w (ix3 0 r l) = (∑ j : Fin 128, q (ix2 r j) * w (ix3 0 j l)) + s (ix2 0 l) := by
  pointwise [k0_pay14]

/-- The lane of ones. -/
theorem lane64 : ∀ l : Fin 128, IntOp.cmpi .eq (BitVec.ofNat 32 l.val) 64#32 = if l.val = 64 then 1#1 else 0#1 := by decide

theorem ones (l : Fin 128) : k0_pay11 (F := Ideal) (ix2 0 l) = if l.val = 64 then 1 else 0 := by
  pointwise [k0_pay11]
  simp only [lane64 l]
  split
  · show (((BitVec.setWidth 32 1#1).toInt : ℝ) : EReal) = 1; simp
  · show (((BitVec.setWidth 32 0#1).toInt : ℝ) : EReal) = 0; simp

/-! ## The eight stores -/

/-- The block at a head is that head's store. -/
theorem stores (P : Fin 8 → Vec Ideal S1x512x128 .bf16) (k : Fin 8) (r : Fin 512) (l : Fin 128) :
    View.canon (Val := Elt Ideal) (s := S8x512x128) (e := .bf16) [⟨r0_26, P 7⟩, ⟨r0_23, P 6⟩, ⟨r0_20, P 5⟩, ⟨r0_17, P 4⟩, ⟨r0_14, P 3⟩, ⟨r0_11, P 2⟩, ⟨r0_8, P 1⟩, ⟨r0_5, P 0⟩] (ix3 k r l) = P k (ix3 0 r l) := by
  have pick : ∀ j : Fin 8, View.TileAt (Val := Elt Ideal) (e := .bf16) (S := S8x512x128) (ix3 k r l) ![j.val, 0, 0] S1x512x128.size (P j) (P k (ix3 0 r l)) := fun j x hx => by
    have h0 : k.val = j.val + (x 0).val := hx 0
    have h1 : r.val = 0 + (x 1).val := hx 1
    have h2 : l.val = 0 + (x 2).val := hx 2
    have hx0 : (x 0).val < 1 := (x 0).isLt
    have hj : j = k := Fin.ext (by omega)
    subst hj
    exact congrArg (P j) (funext fun a => Fin.ext (by
      match a with
      | ⟨0, _⟩ => show (x 0).val = 0; omega
      | ⟨1, _⟩ => show (x 1).val = r.val; omega
      | ⟨2, _⟩ => show (x 2).val = l.val; omega))
  refine View.canon_eq_of_allAt _ _ _ (cover0_8 _ _ _ _ _ _ _ _ _) ?_
  refine View.allAt_cons_unit _ _ _ _ _ (pick 7) ?_
  refine View.allAt_cons_unit _ _ _ _ _ (pick 6) ?_
  refine View.allAt_cons_unit _ _ _ _ _ (pick 5) ?_
  refine View.allAt_cons_unit _ _ _ _ _ (pick 4) ?_
  refine View.allAt_cons_unit _ _ _ _ _ (pick 3) ?_
  refine View.allAt_cons_unit _ _ _ _ _ (pick 2) ?_
  refine View.allAt_cons_unit _ _ _ _ _ (pick 1) ?_
  exact View.allAt_cons_unit _ _ _ _ _ (pick 0) (View.allAt_nil _ _)

/-- A head's block of weights, as it is read. -/
theorem inb_q (k : Fin 8) (a : Fin 3) : (![k.val, 0, 0] : Fin 3 → ℕ) a + S1x256x128.size a ≤ S8x256x128.size a := by
  match a with
  | ⟨0, _⟩ => show k.val + 1 ≤ 8; omega
  | ⟨1, _⟩ => exact Nat.le_of_eq (Nat.zero_add _)
  | ⟨2, _⟩ => exact Nat.le_of_eq (Nat.zero_add _)
theorem inb_k (k : Fin 8) (a : Fin 3) : (![k.val, 0, 0] : Fin 3 → ℕ) a + S1x128x128.size a ≤ S8x128x128.size a := by
  match a with
  | ⟨0, _⟩ => show k.val + 1 ≤ 8; omega
  | ⟨1, _⟩ => exact Nat.le_of_eq (Nat.zero_add _)
  | ⟨2, _⟩ => exact Nat.le_of_eq (Nat.zero_add _)

theorem ld_q (k : Fin 8) (x : Vec Ideal S8x256x128 .bf16) (j : Fin 256) (l : Fin 128) :
    View.ld x (Rect.unit (s := S8x256x128) ![k.val, 0, 0] S1x256x128.size (inb_q k)) (ix3 0 j l) = x (ix3 k j l) :=
  View.ld_unit_apply_of _ _ _ _ _ _ fun a => by
    match a with
    | ⟨0, _⟩ => rfl
    | ⟨1, _⟩ => exact (Nat.zero_add _).symm
    | ⟨2, _⟩ => exact (Nat.zero_add _).symm
theorem ld_k (k : Fin 8) (x : Vec Ideal S8x128x128 .bf16) (j : Fin 128) (l : Fin 128) :
    View.ld x (Rect.unit (s := S8x128x128) ![k.val, 0, 0] S1x128x128.size (inb_k k)) (ix3 0 j l) = x (ix3 k j l) :=
  View.ld_unit_apply_of _ _ _ _ _ _ fun a => by
    match a with
    | ⟨0, _⟩ => rfl
    | ⟨1, _⟩ => exact (Nat.zero_add _).symm
    | ⟨2, _⟩ => exact (Nat.zero_add _).symm

theorem hz : (![0, 0] : Fin 2 → Nat) = fun _ => 0 := funext fun a => by fin_cases a <;> rfl

variable (x0 : Vec Ideal S512x512 .f32) (x1 : Vec Ideal S1x256 .f32) (x2 : Vec Ideal S1x128 .f32) (x3 : Vec Ideal S8x256x128 .bf16) (x4 x5 : Vec Ideal S8x128x128 .bf16) (x6 x7 : Vec Ideal S512x128 .f32)

theorem out_q (k : Fin 8) (r : Fin 512) (l : Fin 128) : out0_8 x0 x1 x2 x3 x4 x5 x6 x7 (ix3 k r l) =
    turn (fun a => ∑ j : Fin 256, normed (Ideal.ofBits .f32 0x43800000#32) (fun a => x0 (ix2 r (⟨a.val, by omega⟩ : Fin 512))) (fun a => x1 (ix2 0 a)) j * x3 (ix3 k j a))
      (fun a => x6 (ix2 r a)) (fun a => x7 (ix2 r a)) l := by
  refine (stores (fun k => k0_pay12 (k0_pay36 x0 x1 x2 x3 x4 x5 x6 x7) (k0_pay37 x0 x1 x2 x3 x4 x5 x6 x7) (k0_pay38 x0 x1 x2 x3 x4 x5 x6 x7)
    (View.ld x3 (Rect.unit (s := S8x256x128) ![k.val, 0, 0] S1x256x128.size (inb_q k)))) k r l).trans ?_
  rw [head_q]
  unfold k0_pay36 k0_pay37 k0_pay38 k0_pay3 k0_pay4
  rw [View.ld_unit_zero (S := S512x128) hz, View.ld_unit_zero (S := S512x128) hz, View.ld_unit_zero (S := S512x512) hz, View.ld_unit_zero (S := S1x256) hz]
  simp only [latent_q, shapeCast_self]
  exact congrFun (congrArg (fun v => turn v _ _) (funext fun a => Finset.sum_congr rfl fun j _ => congrArg _ (ld_q k x3 j a))) l

theorem out_k (k : Fin 8) (r : Fin 512) (l : Fin 128) : out0_9 x0 x1 x2 x3 x4 x5 x6 x7 (ix3 k r l) =
    (∑ j : Fin 128, normed (Ideal.ofBits .f32 0x43000000#32) (fun a => x0 (ix2 r (⟨256 + a.val, by omega⟩ : Fin 512))) (fun a => x2 (ix2 0 a)) j * x4 (ix3 k j l)) +
      turn (fun a => x0 (ix2 r (⟨384 + a.val, by omega⟩ : Fin 512))) (fun a => x6 (ix2 r a)) (fun a => x7 (ix2 r a)) l := by
  refine (stores (fun k => k0_pay16 (k0_pay39 x0 x1 x2 x3 x4 x5 x6 x7) (k0_pay43 x0 x1 x2 x3 x4 x5 x6 x7)
    (View.ld x4 (Rect.unit (s := S8x128x128) ![k.val, 0, 0] S1x128x128.size (inb_k k)))) k r l).trans ?_
  rw [head_k]
  unfold k0_pay43 k0_pay42 k0_pay41 k0_pay40 k0_pay39 k0_pay37 k0_pay35
  rw [View.ld_unit_zero (S := S512x128) hz, View.ld_unit_zero (S := S512x128) hz, View.ld_unit_zero (S := S512x512) hz, View.ld_unit_zero (S := S1x128) hz, shared]
  simp only [latent_k]
  exact congrArg (· + _) (Finset.sum_congr rfl fun j _ => congrArg _ (ld_k k x4 j l))

theorem out_v (k : Fin 8) (r : Fin 512) (l : Fin 128) : out0_10 x0 x1 x2 x3 x4 x5 x6 x7 (ix3 k r l) =
    (∑ j : Fin 128, normed (Ideal.ofBits .f32 0x43000000#32) (fun a => x0 (ix2 r (⟨256 + a.val, by omega⟩ : Fin 512))) (fun a => x2 (ix2 0 a)) j * x5 (ix3 k j l)) +
      if l.val = 64 then 1 else 0 := by
  refine (stores (fun k => k0_pay14 (k0_pay39 x0 x1 x2 x3 x4 x5 x6 x7) (k0_pay44 x0 x1 x2 x3 x4 x5 x6 x7)
    (View.ld x5 (Rect.unit (s := S8x128x128) ![k.val, 0, 0] S1x128x128.size (inb_k k)))) k r l).trans ?_
  rw [head_v]
  unfold k0_pay44 k0_pay39
  rw [View.ld_unit_zero (S := S512x512) hz, View.ld_unit_zero (S := S1x128) hz, ones]
  simp only [latent_k]
  exact congrArg (· + _) (Finset.sum_congr rfl fun j _ => congrArg _ (ld_k k x5 j l))

end Cert.PrepFIdeal.Block

end
-- ==== Proof.PrepFValue.lean ====
/- The forward pass's latent projections: the blocks that a grid point reads, and the three result arrays at an index. -/
module

public import proofs.«01_k».proof.Proof.PrepFBlock
public import proofs.«01_k».proof.Proof.Gen.PrepFIdeal.Value

@[expose] public section

set_option maxRecDepth 16384

noncomputable section

namespace Cert.PrepFIdeal.Result

open Cert.PrepFIdeal Cert.PrepFIdeal.Gen Cert.PrepFIdeal.Value Cert.PrepFIdeal.Block Cert.PrepFSpec Cert.AttnLayout Idealize.ShloMosaic Idealize.ShloMosaic.TcCoe Idealize.SL.Sem
open Cert.PrepReal (ang ctab stab)

/-- The windows over the rows, and those that hold a whole array. -/
theorem rowsAt (t : Fin cfg0.N) : win0_0.index t 0 = t.val ∧ win0_0.index t 1 = 0 ∧ win0_6.index t 0 = t.val ∧ win0_6.index t 1 = 0 ∧ win0_7.index t 0 = t.val ∧ win0_7.index t 1 = 0 :=
  (by decide +kernel : ∀ t : Fin grid0.N, win0_0.index t 0 = t.val ∧ win0_0.index t 1 = 0 ∧ win0_6.index t 0 = t.val ∧ win0_6.index t 1 = 0 ∧ win0_7.index t 0 = t.val ∧ win0_7.index t 1 = 0) t

theorem outsAt (t : Fin cfg0.N) : (win0_8.index t 0 = 0 ∧ win0_8.index t 1 = t.val ∧ win0_8.index t 2 = 0) ∧ (win0_9.index t 0 = 0 ∧ win0_9.index t 1 = t.val ∧ win0_9.index t 2 = 0) ∧
    (win0_10.index t 0 = 0 ∧ win0_10.index t 1 = t.val ∧ win0_10.index t 2 = 0) :=
  (by decide +kernel : ∀ t : Fin grid0.N, (win0_8.index t 0 = 0 ∧ win0_8.index t 1 = t.val ∧ win0_8.index t 2 = 0) ∧ (win0_9.index t 0 = 0 ∧ win0_9.index t 1 = t.val ∧ win0_9.index t 2 = 0) ∧
    (win0_10.index t 0 = 0 ∧ win0_10.index t 1 = t.val ∧ win0_10.index t 2 = 0)) t

/-- The row of the whole array at which a tile's row stands. -/
def row (t : Fin cfg0.N) (r : Fin 512) : Fin 4096 := ⟨t.val * 512 + r.val, by have := t.isLt; have hN : cfg0.N = 8 := N_0; omega⟩

variable (m : (ℓ : Loc nD τ sig) → Buf (Elt Ideal) ℓ)

/-- The six arguments. -/
abbrev H (c : Dev nD) : FVec Ideal S4096x1952 .f32 := m ((c : Thread nD τ).loc main_arg0)
abbrev GQ (c : Dev nD) : FVec Ideal S256 .f32 := m ((c : Thread nD τ).loc main_arg1)
abbrev GK (c : Dev nD) : FVec Ideal S128 .f32 := m ((c : Thread nD τ).loc main_arg2)
abbrev WQ (c : Dev nD) : FVec Ideal S256x8x96 .f32 := m ((c : Thread nD τ).loc main_arg3)
abbrev WK (c : Dev nD) : FVec Ideal S128x8x64 .f32 := m ((c : Thread nD τ).loc main_arg4)
abbrev WV (c : Dev nD) : FVec Ideal S128x8x64 .f32 := m ((c : Thread nD τ).loc main_arg5)

/-- The padding value. -/
def zero : FVec Ideal S_ .f32 := sitofp .f32 (constantI S_ 32 0#32)

theorem zero_at (j : S_.Idx) : zero j = 0 := by
  show (((0#32 : BitVec 32).toInt : ℝ) : EReal) = 0
  simp

/-- The angles as the host lines compute them. -/
def angHost : FVec Ideal S4096x16 .f32 :=
  mulf (broadcastInDim S4096x16 ![0, 1] bcast_S4096x1_S4096x16_0_1 (broadcastInDim S4096x1 ![0] bcast_S4096_S4096x1_0 (sitofp .f32 (iotaInDim S4096 32 0))))
    (broadcastInDim S4096x16 ![0, 1] bcast_S1x16_S4096x16_0_1 (broadcastInDim S1x16 ![1] bcast_S16_S1x16_1
      (Host.powf (broadcastInDim S16 ![] bcast_S_S16 (constant S_ .f32 0x461C4000#32))
        (Host.divf (Host.negf (sitofp .f32 (iotaInDim S16 32 0))) (broadcastInDim S16 ![] bcast_S_S16 (constant S_ .f32 0x41800000#32))))))

theorem angHost_eq (i : Fin 4096) (j : Fin 16) : angHost (ix2 i j) = (ang i j : EReal) := by
  refine Eq.trans ?_ (angle i j)
  unfold angHost
  pointwise

theorem V_ct (c : Dev nD) : V m c main_v16 = concatenate S4096x128 1 [⟨S4096x64, broadcastInDim S4096x64 ![] bcast_S_S4096x64 (constant (F := Ideal) S_ .f32 0x3F800000#32)⟩,
    ⟨S4096x16, Host.cos angHost⟩, ⟨S4096x16, Host.cos angHost⟩, ⟨S4096x32, broadcastInDim S4096x32 ![] bcast_S_S4096x32 (constant (F := Ideal) S_ .f32 0x3F800000#32)⟩]
    concatenates_S4096x64_S4096x16_S4096x16_S4096x32_S4096x128_d1 := by
  show StableHlo.after (List.flatten [hostOps0, hostOps0_1, hostOps0_2, hostOps0_3, hostOps0_4, hostOps0_5, hostOps0_6]) _ (Proc.devRef .tc main_v16) = _
  after_results
  rfl

theorem V_st (c : Dev nD) : V m c main_v22 = concatenate S4096x128 1 [⟨S4096x64, mulf (broadcastInDim S4096x64 ![] bcast_S_S4096x64 (constant (F := Ideal) S_ .f32 0x00000000#32))
      (broadcastInDim S4096x64 ![] bcast_S_S4096x64 (constant (F := Ideal) S_ .f32 0x3F800000#32))⟩,
    ⟨S4096x16, Host.negf (Host.sin angHost)⟩, ⟨S4096x16, Host.sin angHost⟩, ⟨S4096x32, mulf (broadcastInDim S4096x32 ![] bcast_S_S4096x32 (constant (F := Ideal) S_ .f32 0x00000000#32))
      (broadcastInDim S4096x32 ![] bcast_S_S4096x32 (constant (F := Ideal) S_ .f32 0x3F800000#32))⟩]
    concatenates_S4096x64_S4096x16_S4096x16_S4096x32_S4096x128_d1 := by
  show StableHlo.after (List.flatten [hostOps0, hostOps0_1, hostOps0_2, hostOps0_3, hostOps0_4, hostOps0_5, hostOps0_6]) _ (Proc.devRef .tc main_v22) = _
  after_results
  rfl

theorem V_h (c : Dev nD) : V m c main_v39 = transpose S4096x2048 [1, 0] (concatenate S2048x4096 0
    [⟨S384x4096, extractStridedSlice S384x4096 ![0, 0] (transpose S1952x4096 [1, 0] (m ((c : Thread nD τ).loc main_arg0)) transposes_S4096x1952_S1952x4096_1_0) slices_S1952x4096_S384x4096_0_0⟩,
      ⟨S64x4096, broadcastInDim S64x4096 ![] bcast_S_S64x4096 (constant (F := Ideal) S_ .f32 0x00000000#32)⟩,
      ⟨S32x4096, extractStridedSlice S32x4096 ![384, 0] (transpose S1952x4096 [1, 0] (m ((c : Thread nD τ).loc main_arg0)) transposes_S4096x1952_S1952x4096_1_0) slices_S1952x4096_S32x4096_384_0⟩,
      ⟨S32x4096, broadcastInDim S32x4096 ![] bcast_S_S32x4096 (constant (F := Ideal) S_ .f32 0x00000000#32)⟩,
      ⟨S1536x4096, extractStridedSlice S1536x4096 ![416, 0] (transpose S1952x4096 [1, 0] (m ((c : Thread nD τ).loc main_arg0)) transposes_S4096x1952_S1952x4096_1_0) slices_S1952x4096_S1536x4096_416_0⟩]
    concatenates_S384x4096_S64x4096_S32x4096_S32x4096_S1536x4096_S2048x4096_d0) transposes_S2048x4096_S4096x2048_1_0 := by
  show StableHlo.after (List.flatten [hostOps0, hostOps0_1, hostOps0_2, hostOps0_3, hostOps0_4, hostOps0_5, hostOps0_6]) _ (Proc.devRef .tc main_v39) = _
  after_results
  rfl

theorem V_wq (c : Dev nD) : V m c main_v25 = (truncf .bf16 (pad S8x256x128 ![0, 0, 0] ![0, 0, 32] ![0, 0, 0] (transpose S8x256x96 [1, 0, 2] (m ((c : Thread nD τ).loc main_arg3)) transposes_S256x8x96_S8x256x96_1_0_2) zero pads_S8x256x96_S8x256x128_000_000_0320 h_S_) bitsLt_bf16_f32 : FVec Ideal S8x256x128 .bf16) := by
  show StableHlo.after (List.flatten [hostOps0, hostOps0_1, hostOps0_2, hostOps0_3, hostOps0_4, hostOps0_5, hostOps0_6]) _ (Proc.devRef .tc main_v25) = _
  simp only [List.flatten_cons, List.flatten_nil, List.cons_append, List.nil_append]
  after_results
  rfl

theorem V_wk (c : Dev nD) : V m c main_v28 = (truncf .bf16 (pad S8x128x128 ![0, 0, 0] ![0, 0, 64] ![0, 0, 0] (transpose S8x128x64 [1, 0, 2] (m ((c : Thread nD τ).loc main_arg4)) transposes_S128x8x64_S8x128x64_1_0_2) zero pads_S8x128x64_S8x128x128_000_000_0640 h_S_) bitsLt_bf16_f32 : FVec Ideal S8x128x128 .bf16) := by
  show StableHlo.after (List.flatten [hostOps0, hostOps0_1, hostOps0_2, hostOps0_3, hostOps0_4, hostOps0_5, hostOps0_6]) _ (Proc.devRef .tc main_v28) = _
  simp only [List.flatten_cons, List.flatten_nil, List.cons_append, List.nil_append]
  after_results
  rfl

theorem V_wv (c : Dev nD) : V m c main_v31 = (truncf .bf16 (pad S8x128x128 ![0, 0, 0] ![0, 0, 64] ![0, 0, 0] (transpose S8x128x64 [1, 0, 2] (m ((c : Thread nD τ).loc main_arg5)) transposes_S128x8x64_S8x128x64_1_0_2) zero pads_S8x128x64_S8x128x128_000_000_0640 h_S_) bitsLt_bf16_f32 : FVec Ideal S8x128x128 .bf16) := by
  show StableHlo.after (List.flatten [hostOps0, hostOps0_1, hostOps0_2, hostOps0_3, hostOps0_4, hostOps0_5, hostOps0_6]) _ (Proc.devRef .tc main_v31) = _
  simp only [List.flatten_cons, List.flatten_nil, List.cons_append, List.nil_append]
  after_results
  rfl

variable {m} {c : Dev nD}

theorem in_ct (t : Fin cfg0.N) (r : Fin 512) (l : Fin 128) : iblk m c 6 t (ix2 r l) = (ctab (row t r) l : EReal) := by
  have ht := rowsAt t
  have hi : ((cfg0.win 6).blk t).view.emb (ix2 r l) = (ix2 (row t r) l : S4096x128.Idx) := funext fun a => Fin.ext (by
    match a with
    | ⟨0, _⟩ => show win0_6.index t 0 * 512 + 1 * r.val = t.val * 512 + r.val; omega
    | ⟨1, _⟩ => show win0_6.index t 1 * 128 + 1 * l.val = l.val; omega)
  unfold iblk
  rw [View.read_apply]
  show V m c main_v16 _ = _
  rw [hi, V_ct]
  have hA := angHost_eq (row t r)
  generalize angHost = A at hA ⊢
  pointwise
  simp only [hA, Ideal.cos_coe]
  unfold ctab
  split
  · rfl
  · split
    · rfl
    · split <;> rfl

theorem in_st (t : Fin cfg0.N) (r : Fin 512) (l : Fin 128) : iblk m c 7 t (ix2 r l) = (stab (row t r) l : EReal) := by
  have ht := rowsAt t
  have hi : ((cfg0.win 7).blk t).view.emb (ix2 r l) = (ix2 (row t r) l : S4096x128.Idx) := funext fun a => Fin.ext (by
    match a with
    | ⟨0, _⟩ => show win0_7.index t 0 * 512 + 1 * r.val = t.val * 512 + r.val; omega
    | ⟨1, _⟩ => show win0_7.index t 1 * 128 + 1 * l.val = l.val; omega)
  unfold iblk
  rw [View.read_apply]
  show V m c main_v22 _ = _
  rw [hi, V_st]
  have hA := angHost_eq (row t r)
  generalize angHost = A at hA ⊢
  pointwise
  simp only [hA, Ideal.sin_coe]
  unfold stab
  split
  · rfl
  · split
    · rfl
    · split <;> rfl

theorem in_h (t : Fin cfg0.N) (r q : Fin 512) : iblk m c 0 t (ix2 r q) =
    if h : q.val < 384 then H m c (ix2 (row t r) (⟨q.val, by omega⟩ : Fin 1952))
    else if h2 : 448 ≤ q.val ∧ q.val < 480 then H m c (ix2 (row t r) (⟨q.val - 64, by omega⟩ : Fin 1952)) else 0 := by
  have ht := rowsAt t
  have hi : ((cfg0.win 0).blk t).view.emb (ix2 r q) = (ix2 (row t r) (⟨q.val, by omega⟩ : Fin 2048) : S4096x2048.Idx) := funext fun a => Fin.ext (by
    match a with
    | ⟨0, _⟩ => show win0_0.index t 0 * 512 + 1 * r.val = t.val * 512 + r.val; omega
    | ⟨1, _⟩ => show win0_0.index t 1 * 512 + 1 * q.val = q.val; omega)
  unfold iblk
  rw [View.read_apply]
  show V m c main_v39 _ = _
  rw [hi, V_h]
  unfold H
  generalize m ((c : Thread nD τ).loc main_arg0) = X
  pointwise
  split
  · rfl
  · split
    · rw [dif_neg (show ¬(448 ≤ q.val ∧ q.val < 480) by omega)]
    · split
      · rw [dif_pos (show 448 ≤ q.val ∧ q.val < 480 by omega)]
        exact at2 _ rfl (show 384 + (q.val - 384 - 64) = q.val - 64 by omega)
      · rw [dif_pos (show q.val - 384 - 64 - 32 < 32 by omega), dif_neg (show ¬(448 ≤ q.val ∧ q.val < 480) by omega)]

theorem in_gq (t : Fin cfg0.N) (a : Fin 256) : iblk m c 1 t (ix2 0 a) = GQ m c (ix1 a) := by
  have hi : ((cfg0.win 1).blk t).view.emb (ix2 0 a) = (ix2 0 a : S1x256.Idx) := funext fun b => Fin.ext (by
    match b with
    | ⟨0, _⟩ => rfl
    | ⟨1, _⟩ => show 0 * 256 + 1 * a.val = a.val; omega)
  have hV : V m c main_v40 = shapeCast _ (GQ m c) shapeCasts_S256_S1x256 := by
    show StableHlo.after (List.flatten [hostOps0, hostOps0_1, hostOps0_2, hostOps0_3, hostOps0_4, hostOps0_5, hostOps0_6]) _ (Proc.devRef .tc main_v40) = _
    simp only [List.flatten_cons, List.flatten_nil, List.cons_append, List.nil_append]
    after_results
    rfl
  unfold iblk
  rw [View.read_apply]
  show V m c main_v40 _ = _
  rw [hi, hV]
  generalize GQ m c = X
  pointwise

theorem in_gk (t : Fin cfg0.N) (a : Fin 128) : iblk m c 2 t (ix2 0 a) = GK m c (ix1 a) := by
  have hi : ((cfg0.win 2).blk t).view.emb (ix2 0 a) = (ix2 0 a : S1x128.Idx) := funext fun b => Fin.ext (by
    match b with
    | ⟨0, _⟩ => rfl
    | ⟨1, _⟩ => show 0 * 128 + 1 * a.val = a.val; omega)
  have hV : V m c main_v41 = shapeCast _ (GK m c) shapeCasts_S128_S1x128 := by
    show StableHlo.after (List.flatten [hostOps0, hostOps0_1, hostOps0_2, hostOps0_3, hostOps0_4, hostOps0_5, hostOps0_6]) _ (Proc.devRef .tc main_v41) = _
    simp only [List.flatten_cons, List.flatten_nil, List.cons_append, List.nil_append]
    after_results
    rfl
  unfold iblk
  rw [View.read_apply]
  show V m c main_v41 _ = _
  rw [hi, hV]
  generalize GK m c = X
  pointwise

theorem in_wq (t : Fin cfg0.N) (k : Fin 8) (j : Fin 256) (l : Fin 128) : iblk m c 3 t (ix3 k j l) = if h : l.val < 96 then WQ m c (ix3 j k (⟨l.val, h⟩ : Fin 96)) else 0 := by
  have hi : ((cfg0.win 3).blk t).view.emb (ix3 k j l) = (ix3 k j l : S8x256x128.Idx) := funext fun a => Fin.ext (by
    match a with
    | ⟨0, _⟩ => show 0 * 8 + 1 * k.val = k.val; omega
    | ⟨1, _⟩ => show 0 * 256 + 1 * j.val = j.val; omega
    | ⟨2, _⟩ => show 0 * 128 + 1 * l.val = l.val; omega)
  unfold iblk
  rw [View.read_apply]
  show V m c main_v25 _ = _
  rw [hi, V_wq]
  unfold WQ
  generalize m ((c : Thread nD τ).loc main_arg3) = X
  pointwise
  simp only [zero_at]

theorem in_wk (t : Fin cfg0.N) (k : Fin 8) (j : Fin 128) (l : Fin 128) : iblk m c 4 t (ix3 k j l) = if h : l.val < 64 then WK m c (ix3 j k (⟨l.val, h⟩ : Fin 64)) else 0 := by
  have hi : ((cfg0.win 4).blk t).view.emb (ix3 k j l) = (ix3 k j l : S8x128x128.Idx) := funext fun a => Fin.ext (by
    match a with
    | ⟨0, _⟩ => show 0 * 8 + 1 * k.val = k.val; omega
    | ⟨1, _⟩ => show 0 * 128 + 1 * j.val = j.val; omega
    | ⟨2, _⟩ => show 0 * 128 + 1 * l.val = l.val; omega)
  unfold iblk
  rw [View.read_apply]
  show V m c main_v28 _ = _
  rw [hi, V_wk]
  unfold WK
  generalize m ((c : Thread nD τ).loc main_arg4) = X
  pointwise
  simp only [zero_at]

theorem in_wv (t : Fin cfg0.N) (k : Fin 8) (j : Fin 128) (l : Fin 128) : iblk m c 5 t (ix3 k j l) = if h : l.val < 64 then WV m c (ix3 j k (⟨l.val, h⟩ : Fin 64)) else 0 := by
  have hi : ((cfg0.win 5).blk t).view.emb (ix3 k j l) = (ix3 k j l : S8x128x128.Idx) := funext fun a => Fin.ext (by
    match a with
    | ⟨0, _⟩ => show 0 * 8 + 1 * k.val = k.val; omega
    | ⟨1, _⟩ => show 0 * 128 + 1 * j.val = j.val; omega
    | ⟨2, _⟩ => show 0 * 128 + 1 * l.val = l.val; omega)
  unfold iblk
  rw [View.read_apply]
  show V m c main_v31 _ = _
  rw [hi, V_wv]
  unfold WV
  generalize m ((c : Thread nD τ).loc main_arg5) = X
  pointwise
  simp only [zero_at]

/-! ## The three results in a tile -/

/-- The two latents of a row. -/
theorem row_q (t : Fin cfg0.N) (r : Fin 512) (j : Fin 256) : normed (Ideal.ofBits .f32 0x43800000#32) (fun a : Fin 256 => iblk m c 0 t (ix2 r (⟨a.val, by omega⟩ : Fin 512)))
    (fun a => iblk m c 1 t (ix2 0 a)) j = cq (H m c) (GQ m c) (row t r) j := by
  unfold cq
  refine congrFun (congrArg₂ (normed _) (funext fun a => ?_) (funext fun a => in_gq t a)) j
  rw [in_h, dif_pos (show a.val < 384 by omega)]

theorem row_k (t : Fin cfg0.N) (r : Fin 512) (j : Fin 128) : normed (Ideal.ofBits .f32 0x43000000#32) (fun a : Fin 128 => iblk m c 0 t (ix2 r (⟨256 + a.val, by omega⟩ : Fin 512)))
    (fun a => iblk m c 2 t (ix2 0 a)) j = ck (H m c) (GK m c) (row t r) j := by
  unfold ck
  refine congrFun (congrArg₂ (normed _) (funext fun a => ?_) (funext fun a => in_gk t a)) j
  rw [in_h, dif_pos (show 256 + a.val < 384 by omega)]

/-- The shared key's lanes before its rotation. -/
def kr (n : Fin 4096) (l : Fin 128) : EReal := if h : 64 ≤ l.val ∧ l.val < 96 then H m c (ix2 n (⟨384 + (l.val - 64), by omega⟩ : Fin 1952)) else 0

theorem row_kr (t : Fin cfg0.N) (r : Fin 512) (l : Fin 128) : iblk m c 0 t (ix2 r (⟨384 + l.val, by omega⟩ : Fin 512)) = kr (m := m) (c := c) (row t r) l := by
  rw [in_h, dif_neg (show ¬384 + l.val < 384 by omega)]
  unfold kr
  by_cases h : 64 ≤ l.val ∧ l.val < 96
  · rw [dif_pos h, dif_pos (show 448 ≤ 384 + l.val ∧ 384 + l.val < 480 by omega)]
    exact at2 _ rfl (show 384 + l.val - 64 = 384 + (l.val - 64) by omega)
  · rw [dif_neg h, dif_neg (show ¬(448 ≤ 384 + l.val ∧ 384 + l.val < 480) by omega)]

/-- Sums of products with weights that are padded by zeros. -/
theorem lanes {n L : ℕ} (f : Fin n → EReal) (w : Fin n → Fin L → EReal) (l : Fin 128) :
    (∑ j, f j * if h : l.val < L then w j ⟨l.val, h⟩ else 0) = if h : l.val < L then ∑ j, f j * w j ⟨l.val, h⟩ else 0 := by
  split
  · rfl
  · simp

theorem sum_q (t : Fin cfg0.N) (k : Fin 8) (r : Fin 512) (l : Fin 128) : (∑ j : Fin 256, normed (Ideal.ofBits .f32 0x43800000#32) (fun a : Fin 256 => iblk m c 0 t (ix2 r (⟨a.val, by omega⟩ : Fin 512)))
    (fun a => iblk m c 1 t (ix2 0 a)) j * iblk m c 3 t (ix3 k j l)) = if h : l.val < 96 then up96 (H m c) (GQ m c) (WQ m c) (row t r) k ⟨l.val, h⟩ else 0 :=
  (Finset.sum_congr rfl fun j _ => congrArg₂ (fun a b : EReal => a * b) (row_q t r j) (in_wq t k j l)).trans (lanes (cq (H m c) (GQ m c) (row t r)) (fun j l => WQ m c (ix3 j k l)) l)

theorem sum_k (t : Fin cfg0.N) (k : Fin 8) (r : Fin 512) (l : Fin 128) : (∑ j : Fin 128, normed (Ideal.ofBits .f32 0x43000000#32) (fun a : Fin 128 => iblk m c 0 t (ix2 r (⟨256 + a.val, by omega⟩ : Fin 512)))
    (fun a => iblk m c 2 t (ix2 0 a)) j * iblk m c 4 t (ix3 k j l)) = if h : l.val < 64 then up64 (H m c) (GK m c) (WK m c) (row t r) k ⟨l.val, h⟩ else 0 :=
  (Finset.sum_congr rfl fun j _ => congrArg₂ (fun a b : EReal => a * b) (row_k t r j) (in_wk t k j l)).trans (lanes (ck (H m c) (GK m c) (row t r)) (fun j l => WK m c (ix3 j k l)) l)

theorem sum_v (t : Fin cfg0.N) (k : Fin 8) (r : Fin 512) (l : Fin 128) : (∑ j : Fin 128, normed (Ideal.ofBits .f32 0x43000000#32) (fun a : Fin 128 => iblk m c 0 t (ix2 r (⟨256 + a.val, by omega⟩ : Fin 512)))
    (fun a => iblk m c 2 t (ix2 0 a)) j * iblk m c 5 t (ix3 k j l)) = if h : l.val < 64 then up64 (H m c) (GK m c) (WV m c) (row t r) k ⟨l.val, h⟩ else 0 :=
  (Finset.sum_congr rfl fun j _ => congrArg₂ (fun a b : EReal => a * b) (row_k t r j) (in_wv t k j l)).trans (lanes (ck (H m c) (GK m c) (row t r)) (fun j l => WV m c (ix3 j k l)) l)

theorem block_q (t : Fin cfg0.N) (k : Fin 8) (r : Fin 512) (l : Fin 128) :
    out0_8 (iblk m c 0 t) (iblk m c 1 t) (iblk m c 2 t) (iblk m c 3 t) (iblk m c 4 t) (iblk m c 5 t) (iblk m c 6 t) (iblk m c 7 t) (ix3 k r l) = query (H m c) (GQ m c) (WQ m c) k (row t r) l := by
  rw [out_q, funext fun a => sum_q t k r a, funext fun a => in_ct (m := m) (c := c) t r a, funext fun a => in_st (m := m) (c := c) t r a]
  unfold query
  by_cases h1 : l.val < 64
  · rw [turn_out _ _ _ (.inl h1), dif_pos h1, dif_pos (by omega)]
  · rw [dif_neg h1]
    by_cases h2 : l.val < 96
    · rw [turn_mid _ _ _ (by omega) h2, dif_pos h2]
      refine congrArg (fun v => rot v (row t r) _) (funext fun a => ?_)
      exact dif_pos (show 64 + a.val < 96 by omega)
    · rw [turn_out _ _ _ (.inr (by omega)), dif_neg h2, dif_neg h2]

theorem block_k (t : Fin cfg0.N) (k : Fin 8) (r : Fin 512) (l : Fin 128) :
    out0_9 (iblk m c 0 t) (iblk m c 1 t) (iblk m c 2 t) (iblk m c 3 t) (iblk m c 4 t) (iblk m c 5 t) (iblk m c 6 t) (iblk m c 7 t) (ix3 k r l) = key (H m c) (GK m c) (WK m c) k (row t r) l := by
  rw [out_k, sum_k, funext fun a => row_kr (m := m) (c := c) t r a, funext fun a => in_ct (m := m) (c := c) t r a, funext fun a => in_st (m := m) (c := c) t r a]
  unfold key
  by_cases h1 : l.val < 64
  · rw [turn_out _ _ _ (.inl h1), dif_pos h1, dif_pos h1]
    unfold kr
    rw [dif_neg (by omega), add_zero]
  · rw [dif_neg h1, dif_neg h1, zero_add]
    by_cases h2 : l.val < 96
    · rw [turn_mid _ _ _ (by omega) h2, dif_pos h2]
      refine congrArg (fun v => rot v (row t r) _) (funext fun a => ?_)
      unfold kr
      rw [dif_pos (show 64 ≤ 64 + a.val ∧ 64 + a.val < 96 by omega)]
      exact at2 _ rfl (show 384 + (64 + a.val - 64) = 384 + a.val by omega)
    · rw [turn_out _ _ _ (.inr (by omega)), dif_neg h2]
      unfold kr
      rw [dif_neg (by omega)]

theorem block_v (t : Fin cfg0.N) (k : Fin 8) (r : Fin 512) (l : Fin 128) :
    out0_10 (iblk m c 0 t) (iblk m c 1 t) (iblk m c 2 t) (iblk m c 3 t) (iblk m c 4 t) (iblk m c 5 t) (iblk m c 6 t) (iblk m c 7 t) (ix3 k r l) = value (H m c) (GK m c) (WV m c) k (row t r) l := by
  rw [out_v, sum_v]
  unfold value
  by_cases h1 : l.val < 64
  · rw [dif_pos h1, dif_pos h1, if_neg (by omega), add_zero]
  · rw [dif_neg h1, dif_neg h1, zero_add]

/-! ## The three arrays after the run -/

theorem arr_q (t : Fin cfg0.N) (k : Fin 8) (r : Fin 512) (l : Fin 128) : (dats m 0 c).arrAt 8 cfg0.N (ix3 k (row t r) l) = query (H m c) (GQ m c) (WQ m c) k (row t r) l := by
  have h := congrFun (blocks8 m c t (flush0_8 t)) (ix3 k r l)
  rw [flushed8, View.read_apply] at h
  refine Eq.trans (congrArg _ (funext fun a => Fin.ext ?_)) (h.trans (block_q t k r l))
  have ht := (outsAt t).1
  match a with
  | ⟨0, _⟩ => show k.val = win0_8.index t 0 * 8 + 1 * k.val; omega
  | ⟨1, _⟩ => show t.val * 512 + r.val = win0_8.index t 1 * 512 + 1 * r.val; omega
  | ⟨2, _⟩ => show l.val = win0_8.index t 2 * 128 + 1 * l.val; omega

theorem arr_k (t : Fin cfg0.N) (k : Fin 8) (r : Fin 512) (l : Fin 128) : (dats m 0 c).arrAt 9 cfg0.N (ix3 k (row t r) l) = key (H m c) (GK m c) (WK m c) k (row t r) l := by
  have h := congrFun (blocks9 m c t (flush0_9 t)) (ix3 k r l)
  rw [flushed9, View.read_apply] at h
  refine Eq.trans (congrArg _ (funext fun a => Fin.ext ?_)) (h.trans (block_k t k r l))
  have ht := (outsAt t).2.1
  match a with
  | ⟨0, _⟩ => show k.val = win0_9.index t 0 * 8 + 1 * k.val; omega
  | ⟨1, _⟩ => show t.val * 512 + r.val = win0_9.index t 1 * 512 + 1 * r.val; omega
  | ⟨2, _⟩ => show l.val = win0_9.index t 2 * 128 + 1 * l.val; omega

theorem arr_v (t : Fin cfg0.N) (k : Fin 8) (r : Fin 512) (l : Fin 128) : (dats m 0 c).arrAt 10 cfg0.N (ix3 k (row t r) l) = value (H m c) (GK m c) (WV m c) k (row t r) l := by
  have h := congrFun (blocks10 m c t (flush0_10 t)) (ix3 k r l)
  rw [flushed10, View.read_apply] at h
  refine Eq.trans (congrArg _ (funext fun a => Fin.ext ?_)) (h.trans (block_v t k r l))
  have ht := (outsAt t).2.2
  match a with
  | ⟨0, _⟩ => show k.val = win0_10.index t 0 * 8 + 1 * k.val; omega
  | ⟨1, _⟩ => show t.val * 512 + r.val = win0_10.index t 1 * 512 + 1 * r.val; omega
  | ⟨2, _⟩ => show l.val = win0_10.index t 2 * 128 + 1 * l.val; omega

/-- Every row of an array is a tile's. -/
theorem tile_of (n : Fin 4096) : ∃ (t : Fin cfg0.N) (r : Fin 512), row t r = n :=
  ⟨⟨n.val / 512, by rw [show cfg0.N = 8 from N_0]; omega⟩, ⟨n.val % 512, by omega⟩, Fin.ext (by show n.val / 512 * 512 + n.val % 512 = n.val; omega)⟩

/-- The three results at an index. -/
theorem q_at (k : Fin 8) (n : Fin 4096) (l : Fin 128) : (dats m 0 c).arrAt 8 cfg0.N (ix3 k n l) = query (H m c) (GQ m c) (WQ m c) k n l := by
  obtain ⟨t, r, rfl⟩ := tile_of n
  exact arr_q t k r l

theorem k_at (k : Fin 8) (n : Fin 4096) (l : Fin 128) : (dats m 0 c).arrAt 9 cfg0.N (ix3 k n l) = key (H m c) (GK m c) (WK m c) k n l := by
  obtain ⟨t, r, rfl⟩ := tile_of n
  exact arr_k t k r l

theorem v_at (k : Fin 8) (n : Fin 4096) (l : Fin 128) : (dats m 0 c).arrAt 10 cfg0.N (ix3 k n l) = value (H m c) (GK m c) (WV m c) k n l := by
  obtain ⟨t, r, rfl⟩ := tile_of n
  exact arr_v t k r l

end Cert.PrepFIdeal.Result

end
-- ==== Proof.PrepFRef.lean ====
/- The forward pass's latent projections, the reference: its three results at an index. -/
module

public import proofs.«01_k».proof.Proof.PrepFSpec
public import proofs.«01_k».proof.Proof.Gen.PrepFRefIdeal.Read
public import Idealize.ShloMosaic.Lib.KernelVsHost

@[expose] public section

set_option maxRecDepth 16384

noncomputable section

namespace Cert.PrepFRefIdeal.Ref

open Cert.PrepFRefIdeal Cert.PrepFRefIdeal.Gen Cert.PrepFRefIdeal.Read Cert.PrepFSpec Cert.AttnLayout Idealize.ShloMosaic
open Cert.PrepReal (ang)

variable (x0 : FVec Ideal S4096x1952 .f32) (x1 : FVec Ideal S256 .f32) (x2 : FVec Ideal S128 .f32) (x3 : FVec Ideal S256x8x96 .f32)
  (x4 x5 : FVec Ideal S128x8x64 .f32)

theorem zero_first (y : EReal) : FloatOps.ofBits (F := Ideal) .f32 0x00000000#32 + y = y := by
  show Ideal.ofBits .f32 0x00000000#32 + y = y
  simp [Ideal.ofBits, Ideal.ieee]

/-! ## The latents -/

theorem cq_eq (n : Fin 4096) (j : Fin 256) : val_main_v16 (F := Ideal) x0 x1 (ix2 n j) = cq x0 x1 n j := by
  have h0 : ∀ k : Fin 256, val_main_v0 (F := Ideal) x0 (ix2 n k) = x0 (ix2 n (⟨k.val, by omega⟩ : Fin 1952)) := fun k => by
    rw [val_main_v0_apply]; exact at2 _ rfl rfl
  have hs : val_main_v5 (F := Ideal) x0 (ix1 n) = ∑ k : Fin 256, x0 (ix2 n (⟨k.val, by omega⟩ : Fin 1952)) * x0 (ix2 n (⟨k.val, by omega⟩ : Fin 1952)) := by
    rw [val_main_v5_apply, val_main_cst_apply, zero_first]
    refine Finset.sum_congr rfl fun k _ => (at2 (a := n) (b := k) _ rfl rfl).trans ?_
    rw [val_main_v4_apply, h0]; rfl
  have hg : val_main_v15 (F := Ideal) x1 (ix2 n j) = x1 (ix1 j) := by pointwise [val_main_v15, val_main_v14]
  have hr : val_main_v12 (F := Ideal) x0 (ix2 n j) = Ideal.rsqrt (Ideal.div (val_main_v5 (F := Ideal) x0 (ix1 n)) (Ideal.ofBits .f32 0x43800000#32) + Ideal.ofBits .f32 0x358637BD#32) := by
    pointwise [val_main_v12, val_main_v11, val_main_v10, val_main_v9, val_main_cst_1, val_main_v8, val_main_v7, val_main_cst_0, val_main_v6]
  rw [val_main_v16_apply, val_main_v13_apply, h0, hg, hr, hs]
  rfl

theorem ck_eq (n : Fin 4096) (j : Fin 128) : val_main_v29 (F := Ideal) x0 x2 (ix2 n j) = ck x0 x2 n j := by
  have h0 : ∀ k : Fin 128, val_main_v1 (F := Ideal) x0 (ix2 n k) = x0 (ix2 n (⟨256 + k.val, by omega⟩ : Fin 1952)) := fun k => by
    rw [val_main_v1_apply]; exact at2 _ rfl rfl
  have hs : val_main_v18 (F := Ideal) x0 (ix1 n) = ∑ k : Fin 128, x0 (ix2 n (⟨256 + k.val, by omega⟩ : Fin 1952)) * x0 (ix2 n (⟨256 + k.val, by omega⟩ : Fin 1952)) := by
    rw [val_main_v18_apply, val_main_cst_2_apply, zero_first]
    refine Finset.sum_congr rfl fun k _ => (at2 (a := n) (b := k) _ rfl rfl).trans ?_
    rw [val_main_v17_apply, h0]; rfl
  have hg : val_main_v28 (F := Ideal) x2 (ix2 n j) = x2 (ix1 j) := by pointwise [val_main_v28, val_main_v27]
  have hr : val_main_v25 (F := Ideal) x0 (ix2 n j) = Ideal.rsqrt (Ideal.div (val_main_v18 (F := Ideal) x0 (ix1 n)) (Ideal.ofBits .f32 0x43000000#32) + Ideal.ofBits .f32 0x358637BD#32) := by
    pointwise [val_main_v25, val_main_v24, val_main_v23, val_main_v22, val_main_cst_4, val_main_v21, val_main_v20, val_main_cst_3, val_main_v19]
  rw [val_main_v29_apply, val_main_v26_apply, h0, hg, hr, hs]
  rfl

theorem up96_eq (n : Fin 4096) (k : Fin 8) (l : Fin 96) : val_main_v30 (F := Ideal) x0 x1 x3 (ix3 n k l) = up96 x0 x1 x3 n k l := by
  rw [val_main_v30_apply]
  exact Finset.sum_congr rfl fun j _ => congrArg₂ (fun a b : EReal => a * b) ((at2 (a := n) (b := j) _ rfl rfl).trans (cq_eq x0 x1 n j)) (at3 _ rfl rfl rfl)

theorem upk_eq (n : Fin 4096) (k : Fin 8) (l : Fin 64) : val_main_v33 (F := Ideal) x0 x2 x4 (ix3 n k l) = up64 x0 x2 x4 n k l := by
  rw [val_main_v33_apply]
  exact Finset.sum_congr rfl fun j _ => congrArg₂ (fun a b : EReal => a * b) ((at2 (a := n) (b := j) _ rfl rfl).trans (ck_eq x0 x2 n j)) (at3 _ rfl rfl rfl)

theorem upv_eq (n : Fin 4096) (k : Fin 8) (l : Fin 64) : val_main_v34 (F := Ideal) x0 x2 x5 (ix3 n k l) = up64 x0 x2 x5 n k l := by
  rw [val_main_v34_apply]
  exact Finset.sum_congr rfl fun j _ => congrArg₂ (fun a b : EReal => a * b) ((at2 (a := n) (b := j) _ rfl rfl).trans (ck_eq x0 x2 n j)) (at3 _ rfl rfl rfl)

/-! ## The rotations -/

theorem angq (i : Fin 4096) (j : Fin 16) : val_main_v46 (F := Ideal) (ix2 i j) = (ang i j : EReal) := by
  refine Eq.trans ?_ (angle i j)
  pointwise [val_main_v46, val_main_v45, val_main_v44, val_main_v43, val_main_v42, val_main_v41, val_main_v40, val_main_v39, val_main_cst_6, val_main_v38, val_main_v37, val_main_cst_5, val_main_v36, val_main_v35, val_main_v3]

theorem angk (i : Fin 4096) (j : Fin 16) : val_main_v76 (F := Ideal) (ix2 i j) = (ang i j : EReal) := by
  refine Eq.trans ?_ (angle i j)
  pointwise [val_main_v76, val_main_v75, val_main_v74, val_main_v73, val_main_v72, val_main_v71, val_main_v70, val_main_v69, val_main_cst_8, val_main_v68, val_main_v67, val_main_cst_7, val_main_v66, val_main_v65, val_main_v3]

/-- The queries' rotated lanes, and the shared key's. -/
theorem ropeq (n : Fin 4096) (k : Fin 8) (l : Fin 32) : val_main_v63 (F := Ideal) x0 x1 x3 (ix3 n k l) = rot (fun a => up96 x0 x1 x3 n k ⟨64 + a.val, by omega⟩) n l := by
  have hU := up96_eq x0 x1 x3 n k
  have hA := angq n
  pointwise [val_main_v63, val_main_v57, val_main_v62, val_main_v54, val_main_v56, val_main_v59, val_main_v61, val_main_v51, val_main_v52, val_main_v53, val_main_v55, val_main_v58, val_main_v60, val_main_v48, val_main_v50, val_main_v47, val_main_v49, val_main_v32]
  simp only [hU, hA, Ideal.cos_coe, Ideal.sin_coe]
  unfold rot
  have e1 : ∀ i : ℕ, 64 + (16 + i) = 64 + (i + 16) := fun i => by omega
  have e2 : ∀ i : ℕ, ¬i < 16 → 64 + (16 + (i - 16)) = 64 + i := fun i h => by omega
  split
  · simp only [e1]
  · next h => simp only [e2 _ h]

theorem ropek (n : Fin 4096) (l : Fin 32) : val_main_v89 (F := Ideal) x0 (ix3 n 0 l) = rot (fun a => x0 (ix2 n (⟨384 + a.val, by omega⟩ : Fin 1952))) n l := by
  have hA := angk n
  pointwise [val_main_v89, val_main_v85, val_main_v88, val_main_v83, val_main_v84, val_main_v86, val_main_v87, val_main_v81, val_main_v82, val_main_v78, val_main_v80, val_main_v77, val_main_v79, val_main_v64, val_main_v2]
  simp only [hA, Ideal.cos_coe, Ideal.sin_coe]
  unfold rot
  have e1 : ∀ i : ℕ, 384 + (16 + i) = 384 + (i + 16) := fun i => by omega
  have e2 : ∀ i : ℕ, ¬i < 16 → 384 + (16 + (i - 16)) = 384 + i := fun i h => by omega
  split
  · simp only [e1]
  · next h => simp only [e2 _ h]

/-! ## The three results -/

theorem query_eq (k : Fin 8) (n : Fin 4096) (l : Fin 128) : val_main_v101 (F := Ideal) x0 x1 x3 (ix3 k n l) = query x0 x1 x3 k n l := by
  have hU := up96_eq x0 x1 x3 n k
  have hR := ropeq x0 x1 x3 n k
  pointwise [val_main_v101, val_main_v100, val_main_v97, val_main_v90, val_main_v96, val_main_cst_11, val_main_v31]
  simp only [hU, hR]
  unfold query
  by_cases h1 : l.val < 64
  · rw [dif_pos (by omega : l.val < 96), dif_pos h1, dif_pos h1]
  · by_cases h2 : l.val < 96
    · rw [dif_pos h2, dif_neg h1, dif_neg h1, dif_pos h2]
    · rw [dif_neg h2, dif_neg h1, dif_neg h2]

theorem key_eq (k : Fin 8) (n : Fin 4096) (l : Fin 128) : val_main_v103 (F := Ideal) x0 x2 x4 (ix3 k n l) = key x0 x2 x4 k n l := by
  have hU := upk_eq x0 x2 x4 n k
  have hR := ropek x0 n
  pointwise [val_main_v103, val_main_v102, val_main_v99, val_main_v92, val_main_v98, val_main_cst_12, val_main_v91]
  simp only [hU, hR]
  unfold key
  by_cases h1 : l.val < 64
  · rw [dif_pos (by omega : l.val < 96), dif_pos h1, dif_pos h1]
  · by_cases h2 : l.val < 96
    · rw [dif_pos h2, dif_neg h1, dif_neg h1, dif_pos h2]
    · rw [dif_neg h2, dif_neg h1, dif_neg h2]

theorem value_eq (k : Fin 8) (n : Fin 4096) (l : Fin 128) : val_main_v105 (F := Ideal) x0 x2 x5 (ix3 k n l) = value x0 x2 x5 k n l := by
  have hU := upv_eq x0 x2 x5 n k
  pointwise [val_main_v105, val_main_v104, val_main_v95, val_main_v93, val_main_v94, val_main_cst_9, val_main_cst_10]
  simp only [hU]
  unfold value
  by_cases h1 : l.val < 64
  · rw [dif_pos h1, dif_pos h1]
  · rw [dif_neg h1, dif_neg h1]
    by_cases h2 : l.val = 64
    · rw [dif_pos (by omega), if_pos h2]
    · rw [dif_neg (by omega), if_neg h2]

end Cert.PrepFRefIdeal.Ref

end
-- ==== Proof.PrepFClaim.lean ====
/- The claims about the forward pass's latent projections: the reference's frame, and that the call's three results are the
   reference's, of all arguments. -/
module

public import proofs.«01_k».proof.Defs
public import proofs.«01_k».proof.Proof.PrepFValue
public import proofs.«01_k».proof.Proof.PrepFRef
public import proofs.«01_k».proof.Proof.Gen.PrepFRefIdeal.Run
public import Idealize.ShloMosaic.Lib.Quiescent

@[expose] public section

set_option maxRecDepth 16384

noncomputable section

namespace Cert.Proof.PrepF

open Idealize.ShloMosaic Idealize.SL.Sem

/-- Two arrays that agree at each head, row and lane are equal. -/
theorem same {n k l : ℕ} {x y : (⟨3, ![n, k, l]⟩ : Shape).Idx → EReal} (h : ∀ (i : Fin n) (j : Fin k) (a : Fin l), x (ix3 i j a) = y (ix3 i j a)) : x = y :=
  funext fun i => by rw [eq_ix3 i]; exact h _ _ _

/-- The reference's frame is what its run says of the arguments and the counters. -/
theorem frame_reference : Cert.quiescent_PrepFRefIdeal := fun m ρ _ =>
  (θ_run Cert.PrepFRefIdeal.defs _ _).mono (fun r h => ⟨fun c => (h c).2.2.2, sem_eq_zero_of_no_sems (by decide) r.2⟩)
    (Cert.PrepFRefIdeal.Value.run m ρ)

/-- The queries, keys and values by heads, from the same arguments. -/
theorem algebraic : Cert.algebraic_PrepFIdeal_PrepFRefIdeal := fun m ρ m' ρ' _ hargs =>
  ⟨fun c => (Cert.PrepFIdeal.Gen.dats m 0 c).arrAt 8 Cert.PrepFIdeal.cfg0.N,
    fun c => (Cert.PrepFIdeal.Gen.dats m 0 c).arrAt 9 Cert.PrepFIdeal.cfg0.N,
    fun c => (Cert.PrepFIdeal.Gen.dats m 0 c).arrAt 10 Cert.PrepFIdeal.cfg0.N,
    Cert.PrepFIdeal.Value.run_blocks m ρ,
    (θ_run Cert.PrepFRefIdeal.defs _ _).mono (fun r h c => by
      obtain ⟨a0, a1, a2, a3, a4, a5⟩ := hargs c
      obtain ⟨r0, r1, r2, k⟩ := h c
      refine ⟨r0.trans ?_, r1.trans ?_, r2.trans ?_, k⟩
      · rw [Cert.PrepFRefIdeal.Read.val_main_v101_eq, a0, a1, a3]
        exact same fun k n l => (Cert.PrepFRefIdeal.Ref.query_eq _ _ _ k n l).trans (Cert.PrepFIdeal.Result.q_at (m := m) (c := c) k n l).symm
      · rw [Cert.PrepFRefIdeal.Read.val_main_v103_eq, a0, a2, a4]
        exact same fun k n l => (Cert.PrepFRefIdeal.Ref.key_eq _ _ _ k n l).trans (Cert.PrepFIdeal.Result.k_at (m := m) (c := c) k n l).symm
      · rw [Cert.PrepFRefIdeal.Read.val_main_v105_eq, a0, a2, a5]
        exact same fun k n l => (Cert.PrepFRefIdeal.Ref.value_eq _ _ _ k n l).trans (Cert.PrepFIdeal.Result.v_at (m := m) (c := c) k n l).symm)
    (Cert.PrepFRefIdeal.Value.run m' ρ')⟩

end Cert.Proof.PrepF

end
-- ==== Proof.lean ====
/- The proof of the claims: the facts that the programs' texts state, then each call's frames, then each call's values. -/
module

public import proofs.«01_k».proof.Defs
public import proofs.«01_k».proof.Proof.Gen.Ln1
public import proofs.«01_k».proof.Proof.Gen.Ln1.Skeleton
public import proofs.«01_k».proof.Proof.Gen.Ln1.Launch
public import proofs.«01_k».proof.Proof.Gen.Ln1.Points
public import proofs.«01_k».proof.Proof.Gen.Ln1.Frame
public import proofs.«01_k».proof.Proof.Gen.Ln1Ideal
public import proofs.«01_k».proof.Proof.Gen.Ln1Ideal.Skeleton
public import proofs.«01_k».proof.Proof.Gen.Ln1Ideal.Launch
public import proofs.«01_k».proof.Proof.Gen.Ln1Ideal.Points
public import proofs.«01_k».proof.Proof.Gen.Ln1Ideal.Frame
public import proofs.«01_k».proof.Proof.Gen.Ln1Ideal.Value
public import proofs.«01_k».proof.Proof.Gen.Ln1RefIdeal
public import proofs.«01_k».proof.Proof.Gen.Ln1RefIdeal.Run
public import proofs.«01_k».proof.Proof.Gen.Ln1RefIdeal.Read
public import proofs.«01_k».proof.Proof.Gen.Pre_ln1_finite
public import proofs.«01_k».proof.Proof.Ln1Claim
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.Gen.Pre_loss_finite
public import proofs.«01_k».proof.Proof.LossClaim
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvIdeal.Value
public import proofs.«01_k».proof.Proof.Gen.ConvRefIdeal
public import proofs.«01_k».proof.Proof.Gen.ConvRefIdeal.Run
public import proofs.«01_k».proof.Proof.Gen.ConvRefIdeal.Read
public import proofs.«01_k».proof.Proof.Gen.Pre_conv_finite
public import proofs.«01_k».proof.Proof.ConvClaim
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepRefIdeal
public import proofs.«01_k».proof.Proof.Gen.PrepRefIdeal.Run
public import proofs.«01_k».proof.Proof.Gen.PrepRefIdeal.Read
public import proofs.«01_k».proof.Proof.Gen.Pre_prep_finite
public import proofs.«01_k».proof.Proof.PrepClaim
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Pre_attn_finite
public import proofs.«01_k».proof.Proof.AttnFrame
public import proofs.«01_k».proof.Proof.AttnIdealFrame
public import proofs.«01_k».proof.Proof.AttnClaim
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.UpRefIdeal.Read
public import proofs.«01_k».proof.Proof.UpClaim
public import proofs.«01_k».proof.Proof.Gen.AttnF
public import proofs.«01_k».proof.Proof.Gen.AttnF.Skeleton
public import proofs.«01_k».proof.Proof.Gen.AttnF.Loops
public import proofs.«01_k».proof.Proof.Gen.AttnF.Launch
public import proofs.«01_k».proof.Proof.Gen.AttnF.Points
public import proofs.«01_k».proof.Proof.Gen.AttnF.Frame
public import proofs.«01_k».proof.Proof.Gen.AttnFIdeal
public import proofs.«01_k».proof.Proof.Gen.AttnFIdeal.Skeleton
public import proofs.«01_k».proof.Proof.Gen.AttnFIdeal.Loops
public import proofs.«01_k».proof.Proof.Gen.AttnFIdeal.Launch
public import proofs.«01_k».proof.Proof.Gen.AttnFIdeal.Points
public import proofs.«01_k».proof.Proof.Gen.AttnFIdeal.Frame
public import proofs.«01_k».proof.Proof.Gen.AttnFIdeal.Value
public import proofs.«01_k».proof.Proof.Gen.AttnFRefIdeal
public import proofs.«01_k».proof.Proof.Gen.AttnFRefIdeal.Run
public import proofs.«01_k».proof.Proof.Gen.AttnFRefIdeal.Read
public import proofs.«01_k».proof.Proof.Gen.Pre_attnf_finite
public import proofs.«01_k».proof.Proof.AttnFClaim
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Gen.MixRefIdeal.Read
public import proofs.«01_k».proof.Proof.MixClaim
public import proofs.«01_k».proof.Proof.Gen.PrepF
public import proofs.«01_k».proof.Proof.Gen.PrepF.Skeleton
public import proofs.«01_k».proof.Proof.Gen.PrepF.Launch
public import proofs.«01_k».proof.Proof.Gen.PrepF.Points
public import proofs.«01_k».proof.Proof.Gen.PrepF.Frame
public import proofs.«01_k».proof.Proof.Gen.PrepFIdeal
public import proofs.«01_k».proof.Proof.Gen.PrepFIdeal.Skeleton
public import proofs.«01_k».proof.Proof.Gen.PrepFIdeal.Launch
public import proofs.«01_k».proof.Proof.Gen.PrepFIdeal.Points
public import proofs.«01_k».proof.Proof.Gen.PrepFIdeal.Frame
public import proofs.«01_k».proof.Proof.Gen.PrepFIdeal.Value
public import proofs.«01_k».proof.Proof.Gen.PrepFRefIdeal
public import proofs.«01_k».proof.Proof.Gen.PrepFRefIdeal.Run
public import proofs.«01_k».proof.Proof.Gen.PrepFRefIdeal.Read
public import proofs.«01_k».proof.Proof.PrepFClaim
public import Idealize.ShloMosaic.Adequacy
public import Idealize.ShloMosaic.Init

@[expose] public section

noncomputable section

namespace Cert.Proof

open Idealize.ShloMosaic Idealize.SL.Sem

theorem claim : Cert.Claim := ⟨
  Cert.Ln1.Gen.facts, Cert.Ln1Ideal.Gen.facts, Cert.Ln1RefIdeal.Gen.facts,
  Cert.Loss.Gen.facts, Cert.LossIdeal.Gen.facts, Cert.LossRefIdeal.Gen.facts,
  Cert.Conv.Gen.facts, Cert.ConvIdeal.Gen.facts, Cert.ConvRefIdeal.Gen.facts,
  Cert.Prep.Gen.facts, Cert.PrepIdeal.Gen.facts, Cert.PrepRefIdeal.Gen.facts,
  Cert.Attn.Gen.facts, Cert.AttnIdeal.Gen.facts, Cert.AttnRefIdeal.Gen.facts,
  Cert.Up.Gen.facts, Cert.UpIdeal.Gen.facts, Cert.UpRefIdeal.Gen.facts,
  Cert.AttnF.Gen.facts, Cert.AttnFIdeal.Gen.facts, Cert.AttnFRefIdeal.Gen.facts,
  Cert.Mix.Gen.facts, Cert.MixIdeal.Gen.facts, Cert.MixRefIdeal.Gen.facts,
  Cert.PrepF.Gen.facts, Cert.PrepFIdeal.Gen.facts, Cert.PrepFRefIdeal.Gen.facts,
  Cert.Pre_ln1_finite.Gen.facts, Cert.Pre_loss_finite.Gen.facts, Cert.Pre_conv_finite.Gen.facts, Cert.Pre_prep_finite.Gen.facts, Cert.Pre_attn_finite.Gen.facts, Cert.Pre_attnf_finite.Gen.facts,
  fun m ρ _ => Cert.Ln1.Gen.frame m ρ, fun m ρ _ => Cert.Ln1Ideal.Gen.frame m ρ, fun m ρ _ => Cert.Ln1Ideal.Gen.frame m ρ,
  Ln1.frame_reference, fun m ρ _ => Ln1.frame_reference m ρ trivial,
  fun m ρ _ => Cert.Loss.Gen.frame m ρ, fun m ρ _ => Cert.LossIdeal.Gen.frame m ρ, fun m ρ _ => Cert.LossIdeal.Gen.frame m ρ,
  Loss.frame_reference, fun m ρ _ => Loss.frame_reference m ρ trivial,
  fun m ρ _ => Cert.Conv.Gen.frame m ρ, fun m ρ _ => Cert.ConvIdeal.Gen.frame m ρ, fun m ρ _ => Cert.ConvIdeal.Gen.frame m ρ,
  Conv.frame_reference, fun m ρ _ => Conv.frame_reference m ρ trivial,
  fun m ρ _ => Cert.Prep.Gen.frame m ρ, fun m ρ _ => Cert.PrepIdeal.Gen.frame m ρ, fun m ρ _ => Cert.PrepIdeal.Gen.frame m ρ,
  Prep.frame_reference, fun m ρ _ => Prep.frame_reference m ρ trivial,
  fun m ρ _ => Cert.Attn.Gen.frame m ρ, fun m ρ _ => Cert.AttnIdeal.Gen.frame m ρ, fun m ρ _ => Cert.AttnIdeal.Gen.frame m ρ,
  Attn.frame_reference, fun m ρ _ => Attn.frame_reference m ρ trivial,
  fun m ρ _ => Cert.Up.Gen.frame m ρ, fun m ρ _ => Cert.UpIdeal.Gen.frame m ρ, Up.frame_reference,
  fun m ρ _ => Cert.AttnF.Gen.frame m ρ, fun m ρ _ => Cert.AttnFIdeal.Gen.frame m ρ, fun m ρ _ => Cert.AttnFIdeal.Gen.frame m ρ,
  AttnF.frame_reference, fun m ρ _ => AttnF.frame_reference m ρ trivial,
  fun m ρ _ => Cert.Mix.Gen.frame m ρ, fun m ρ _ => Cert.MixIdeal.Gen.frame m ρ, Mix.frame_reference,
  fun m ρ _ => Cert.PrepF.Gen.frame m ρ, fun m ρ _ => Cert.PrepFIdeal.Gen.frame m ρ, PrepF.frame_reference,
  trivial, Ln1.algebraic,
  trivial, Loss.algebraic,
  Conv.preserves, Conv.algebraic,
  trivial, Prep.algebraic,
  Attn.preserves, Attn.algebraic,
  Up.preserves, Up.algebraic,
  AttnF.preserves, AttnF.algebraic,
  trivial, Mix.algebraic,
  trivial, PrepF.algebraic⟩

end Cert.Proof

end
